-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v202) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)) (v2 : (c : Dev Cert.Kernel2Ideal.nD) → Buf (Elt Ideal) ((c.tc : Thread Cert.Kernel2Ideal.nD Cert.Kernel2Ideal.τ).loc Cert.Kernel2Ideal.main_v14_2)) (v3 : (c : Dev Cert.Kernel2Ideal.nD) → Buf (Elt Ideal) ((c.tc : Thread Cert.Kernel2Ideal.nD Cert.Kernel2Ideal.τ).loc Cert.Kernel2Ideal.main_v14_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_v14_2) = v2 c
          ∧ r.2.mem ((c.tc : Thread Cert.Kernel2Ideal.nD Cert.Kernel2Ideal.τ).loc Cert.Kernel2Ideal.main_v14_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_v41) = v1 c
          ∧ r.2.mem ((c.tc : Thread Cert.Reference2Ideal.nD Cert.Reference2Ideal.τ).loc Cert.Reference2Ideal.main_v44) = v2 c
          ∧ r.2.mem ((c.tc : Thread Cert.Reference2Ideal.nD Cert.Reference2Ideal.τ).loc Cert.Reference2Ideal.main_v47) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v28_0)) (v1 : (c : Dev Cert.Kernel3Ideal.nD) → Buf (Elt Ideal) ((c.tc : Thread Cert.Kernel3Ideal.nD Cert.Kernel3Ideal.τ).loc Cert.Kernel3Ideal.main_v28_1)) (v2 : (c : Dev Cert.Kernel3Ideal.nD) → Buf (Elt Ideal) ((c.tc : Thread Cert.Kernel3Ideal.nD Cert.Kernel3Ideal.τ).loc Cert.Kernel3Ideal.main_v28_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v28_0) = v0 c
          ∧ r.2.mem ((c.tc : Thread Cert.Kernel3Ideal.nD Cert.Kernel3Ideal.τ).loc Cert.Kernel3Ideal.main_v28_1) = v1 c
          ∧ r.2.mem ((c.tc : Thread Cert.Kernel3Ideal.nD Cert.Kernel3Ideal.τ).loc Cert.Kernel3Ideal.main_v28_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_v36) = v1 c
          ∧ r.2.mem ((c.tc : Thread Cert.Reference3Ideal.nD Cert.Reference3Ideal.τ).loc Cert.Reference3Ideal.main_v37) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_v35) = v1 c
          ∧ r.2.mem ((c.tc : Thread Cert.Reference4Ideal.nD Cert.Reference4Ideal.τ).loc Cert.Reference4Ideal.main_v31) = v2 c
          ∧ r.2.mem ((c.tc : Thread Cert.Reference4Ideal.nD Cert.Reference4Ideal.τ).loc Cert.Reference4Ideal.main_v42) = v3 c
          ∧ r.2.mem ((c.tc : Thread Cert.Reference4Ideal.nD Cert.Reference4Ideal.τ).loc Cert.Reference4Ideal.main_v45) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_v38) = v1 c
          ∧ r.2.mem ((c.tc : Thread Cert.Reference6Ideal.nD Cert.Reference6Ideal.τ).loc Cert.Reference6Ideal.main_v19) = v2 c
          ∧ r.2.mem ((c.tc : Thread Cert.Reference6Ideal.nD Cert.Reference6Ideal.τ).loc Cert.Reference6Ideal.main_v25) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_v30) = v1 c
          ∧ r.2.mem ((c.tc : Thread Cert.Reference7Ideal.nD Cert.Reference7Ideal.τ).loc Cert.Reference7Ideal.main_v11) = v2 c
          ∧ r.2.mem ((c.tc : Thread Cert.Reference7Ideal.nD Cert.Reference7Ideal.τ).loc Cert.Reference7Ideal.main_v17) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_v30) = v1 c
          ∧ r.2.mem ((c.tc : Thread Cert.Reference8Ideal.nD Cert.Reference8Ideal.τ).loc Cert.Reference8Ideal.main_v11) = v2 c
          ∧ r.2.mem ((c.tc : Thread Cert.Reference8Ideal.nD Cert.Reference8Ideal.τ).loc Cert.Reference8Ideal.main_v17) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_v30) = v1 c
          ∧ r.2.mem ((c.tc : Thread Cert.Reference9Ideal.nD Cert.Reference9Ideal.τ).loc Cert.Reference9Ideal.main_v11) = v2 c
          ∧ r.2.mem ((c.tc : Thread Cert.Reference9Ideal.nD Cert.Reference9Ideal.τ).loc Cert.Reference9Ideal.main_v17) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_v24) = v1 c
          ∧ r.2.mem ((c.tc : Thread Cert.Reference10Ideal.nD Cert.Reference10Ideal.τ).loc Cert.Reference10Ideal.main_v5) = v2 c
          ∧ r.2.mem ((c.tc : Thread Cert.Reference10Ideal.nD Cert.Reference10Ideal.τ).loc Cert.Reference10Ideal.main_v11) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_v24) = v1 c
          ∧ r.2.mem ((c.tc : Thread Cert.Reference11Ideal.nD Cert.Reference11Ideal.τ).loc Cert.Reference11Ideal.main_v5) = v2 c
          ∧ r.2.mem ((c.tc : Thread Cert.Reference11Ideal.nD Cert.Reference11Ideal.τ).loc Cert.Reference11Ideal.main_v11) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v14) = v0 c
          ∧ r.2.mem ((c.tc : Thread Cert.Reference12Ideal.nD Cert.Reference12Ideal.τ).loc Cert.Reference12Ideal.main_v15) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S3x16x16x16x1024 : Shape := ⟨5, ![3, 16, 16, 16, 1024]⟩
abbrev S16x16x16x1024 : Shape := ⟨4, ![16, 16, 16, 1024]⟩
abbrev S16x16x16x16 : Shape := ⟨4, ![16, 16, 16, 16]⟩
abbrev S_ : Shape := ⟨0, ![]⟩

class Facts : Prop where
  bitsLt_bf16_f32 : FTy.bits .bf16 < FTy.bits .f32
  bcast_S_S3x16x16x16x1024 : S_.BroadcastsInDim S3x16x16x16x1024 (![] : Fin 0 → Fin S3x16x16x16x1024.rank)
  reducesTo_S3x16x16x16x1024_S_d0_1_2_3_4 : S3x16x16x16x1024.ReducesTo [0, 1, 2, 3, 4] S_
  h_S_ : 0 < S_.numel
  bcast_S_S16x16x16x1024 : S_.BroadcastsInDim S16x16x16x1024 (![] : Fin 0 → Fin S16x16x16x1024.rank)
  reducesTo_S16x16x16x1024_S_d0_1_2_3 : S16x16x16x1024.ReducesTo [0, 1, 2, 3] S_
  bcast_S_S16x16x16x16 : S_.BroadcastsInDim S16x16x16x16 (![] : Fin 0 → Fin S16x16x16x16.rank)
  reducesTo_S16x16x16x16_S_d0_1_2_3 : S16x16x16x16.ReducesTo [0, 1, 2, 3] S_

variable [Facts]

def fn_part1 {F : FTy → Type} [FloatOps F] (main_arg4 : FVec F S16x16x16x16 .f32) (main_arg5 : FVec F S16x16x16x1024 .f32) (main_v14 : IVec S_ 1) (main_v15 : FVec F S16x16x16x1024 .f32) (main_v16 : FVec F S16x16x16x1024 .f32) : IVec S_ 1 :=
  let main_v17 : IVec S16x16x16x1024 1 := cmpf .olt main_v15 main_v16
  let main_c_5 : IVec S_ 1 := constantI S_ 1 1#1
  let main_v18 : IVec S_ 1 := (fun x v => Host.reduce IntOp.andi x v reducesTo_S16x16x16x1024_S_d0_1_2_3 h_S_) main_v17 main_c_5
  let main_v19 : IVec S_ 1 := andi main_v14 main_v18
  let main_v20 : FVec F S16x16x16x16 .f32 := Host.absf main_arg4
  let main_cst_6 : FVec F S_ .f32 := constant S_ .f32 0x7F800000#32
  let main_v21 : FVec F S16x16x16x16 .f32 := broadcastInDim S16x16x16x16 ![] bcast_S_S16x16x16x16 main_cst_6
  let main_v22 : IVec S16x16x16x16 1 := cmpf .olt main_v20 main_v21
  let main_c_7 : IVec S_ 1 := constantI S_ 1 1#1
  let main_v23 : IVec S_ 1 := (fun x v => Host.reduce IntOp.andi x v reducesTo_S16x16x16x16_S_d0_1_2_3 h_S_) main_v22 main_c_7
  let main_v24 : IVec S_ 1 := andi main_v19 main_v23
  let main_v25 : FVec F S16x16x16x1024 .f32 := Host.absf main_arg5
  let main_cst_8 : FVec F S_ .f32 := constant S_ .f32 0x7F800000#32
  let main_v26 : FVec F S16x16x16x1024 .f32 := broadcastInDim S16x16x16x1024 ![] bcast_S_S16x16x16x1024 main_cst_8
  let main_v27 : IVec S16x16x16x1024 1 := cmpf .olt main_v25 main_v26
  let main_c_9 : IVec S_ 1 := constantI S_ 1 1#1
  let main_v28 : IVec S_ 1 := (fun x v => Host.reduce IntOp.andi x v reducesTo_S16x16x16x1024_S_d0_1_2_3 h_S_) main_v27 main_c_9
  let main_v29 : IVec S_ 1 := andi main_v24 main_v28
  main_v29

def fn {F : FTy → Type} [FloatOps F] (main_arg0 : FVec F S3x16x16x16x1024 .bf16) (main_arg1 : FVec F S16x16x16x1024 .f32) (main_arg2 : FVec F S16x16x16x16 .f32) (main_arg3 : FVec F S16x16x16x1024 .f32) (main_arg4 : FVec F S16x16x16x16 .f32) (main_arg5 : FVec F S16x16x16x1024 .f32) : IVec S_ 1 :=
  let main_v0 : FVec F S3x16x16x16x1024 .f32 := (extf .f32 · bitsLt_bf16_f32) main_arg0
  let main_v1 : FVec F S3x16x16x16x1024 .f32 := Host.absf main_v0
  let main_cst : FVec F S_ .f32 := constant S_ .f32 0x7F800000#32
  let main_v2 : FVec F S3x16x16x16x1024 .f32 := broadcastInDim S3x16x16x16x1024 ![] bcast_S_S3x16x16x16x1024 main_cst
  let main_v3 : IVec S3x16x16x16x1024 1 := cmpf .olt main_v1 main_v2
  let main_c : IVec S_ 1 := constantI S_ 1 1#1
  let main_v4 : IVec S_ 1 := (fun x v => Host.reduce IntOp.andi x v reducesTo_S3x16x16x16x1024_S_d0_1_2_3_4 h_S_) main_v3 main_c
  let main_v5 : FVec F S16x16x16x1024 .f32 := Host.absf main_arg1
  let main_cst_0 : FVec F S_ .f32 := constant S_ .f32 0x7F800000#32
  let main_v6 : FVec F S16x16x16x1024 .f32 := broadcastInDim S16x16x16x1024 ![] bcast_S_S16x16x16x1024 main_cst_0
  let main_v7 : IVec S16x16x16x1024 1 := cmpf .olt main_v5 main_v6
  let main_c_1 : IVec S_ 1 := constantI S_ 1 1#1
  let main_v8 : IVec S_ 1 := (fun x v => Host.reduce IntOp.andi x v reducesTo_S16x16x16x1024_S_d0_1_2_3 h_S_) main_v7 main_c_1
  let main_v9 : IVec S_ 1 := andi main_v4 main_v8
  let main_v10 : FVec F S16x16x16x16 .f32 := Host.absf main_arg2
  let main_cst_2 : FVec F S_ .f32 := constant S_ .f32 0x7F800000#32
  let main_v11 : FVec F S16x16x16x16 .f32 := broadcastInDim S16x16x16x16 ![] bcast_S_S16x16x16x16 main_cst_2
  let main_v12 : IVec S16x16x16x16 1 := cmpf .olt main_v10 main_v11
  let main_c_3 : IVec S_ 1 := constantI S_ 1 1#1
  let main_v13 : IVec S_ 1 := (fun x v => Host.reduce IntOp.andi x v reducesTo_S16x16x16x16_S_d0_1_2_3 h_S_) main_v12 main_c_3
  let main_v14 : IVec S_ 1 := andi main_v9 main_v13
  let main_v15 : FVec F S16x16x16x1024 .f32 := Host.absf main_arg3
  let main_cst_4 : FVec F S_ .f32 := constant S_ .f32 0x7F800000#32
  let main_v16 : FVec F S16x16x16x1024 .f32 := broadcastInDim S16x16x16x1024 ![] bcast_S_S16x16x16x1024 main_cst_4
  fn_part1 (F := F) main_arg4 main_arg5 main_v14 main_v15 main_v16
-- ==== Pre_finite2.lean ====
abbrev S4096x1024 : Shape := ⟨2, ![4096, 1024]⟩
abbrev S4x704x1024 : Shape := ⟨3, ![4, 704, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S4x704x1024 : S_.BroadcastsInDim S4x704x1024 (![] : Fin 0 → Fin S4x704x1024.rank)
  reducesTo_S4x704x1024_S_d0_1_2 : S4x704x1024.ReducesTo [0, 1, 2] S_

variable [Facts]

def fn_part1 {F : FTy → Type} [FloatOps F] (main_arg3 : FVec F S4x704x1024 .bf16) (main_v14 : IVec S_ 1) (main_v16 : FVec F S4x704x1024 .f32) (main_cst_4 : FVec F S_ .f32) : IVec S_ 1 :=
  let main_v17 : FVec F S4x704x1024 .f32 := broadcastInDim S4x704x1024 ![] bcast_S_S4x704x1024 main_cst_4
  let main_v18 : IVec S4x704x1024 1 := cmpf .olt main_v16 main_v17
  let main_c_5 : IVec S_ 1 := constantI S_ 1 1#1
  let main_v19 : IVec S_ 1 := (fun x v => Host.reduce IntOp.andi x v reducesTo_S4x704x1024_S_d0_1_2 h_S_) main_v18 main_c_5
  let main_v20 : IVec S_ 1 := andi main_v14 main_v19
  let main_v21 : FVec F S4x704x1024 .f32 := (extf .f32 · bitsLt_bf16_f32) main_arg3
  let main_v22 : FVec F S4x704x1024 .f32 := Host.absf main_v21
  let main_cst_6 : FVec F S_ .f32 := constant S_ .f32 0x7F800000#32
  let main_v23 : FVec F S4x704x1024 .f32 := broadcastInDim S4x704x1024 ![] bcast_S_S4x704x1024 main_cst_6
  let main_v24 : IVec S4x704x1024 1 := cmpf .olt main_v22 main_v23
  let main_c_7 : IVec S_ 1 := constantI S_ 1 1#1
  let main_v25 : IVec S_ 1 := (fun x v => Host.reduce IntOp.andi x v reducesTo_S4x704x1024_S_d0_1_2 h_S_) main_v24 main_c_7
  let main_v26 : IVec S_ 1 := andi main_v20 main_v25
  main_v26

def fn {F : FTy → Type} [FloatOps F] (main_arg0 : FVec F S4096x1024 .f32) (main_arg1 : FVec F S4x704x1024 .bf16) (main_arg2 : FVec F S4x704x1024 .bf16) (main_arg3 : FVec F S4x704x1024 .bf16) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg4
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4x704x1024 .f32 := (extf .f32 · bitsLt_bf16_f32) main_arg1
  let main_v10 : FVec F S4x704x1024 .f32 := Host.absf main_v9
  let main_cst_2 : FVec F S_ .f32 := constant S_ .f32 0x7F800000#32
  let main_v11 : FVec F S4x704x1024 .f32 := broadcastInDim S4x704x1024 ![] bcast_S_S4x704x1024 main_cst_2
  let main_v12 : IVec S4x704x1024 1 := cmpf .olt main_v10 main_v11
  let main_c_3 : IVec S_ 1 := constantI S_ 1 1#1
  let main_v13 : IVec S_ 1 := (fun x v => Host.reduce IntOp.andi x v reducesTo_S4x704x1024_S_d0_1_2 h_S_) main_v12 main_c_3
  let main_v14 : IVec S_ 1 := andi main_v8 main_v13
  let main_v15 : FVec F S4x704x1024 .f32 := (extf .f32 · bitsLt_bf16_f32) main_arg2
  let main_v16 : FVec F S4x704x1024 .f32 := Host.absf main_v15
  let main_cst_4 : FVec F S_ .f32 := constant S_ .f32 0x7F800000#32
  fn_part1 (F := F) main_arg3 main_v14 main_v16 main_cst_4
-- ==== Kernel.lean ====
abbrev S3x16x16x16x1024 : Shape := ⟨5, ![3, 16, 16, 16, 1024]⟩
abbrev S16x16x16x1024 : Shape := ⟨4, ![16, 16, 16, 1024]⟩
abbrev S16x16x16x16 : Shape := ⟨4, ![16, 16, 16, 16]⟩
abbrev S8x2x1x256 : Shape := ⟨4, ![8, 2, 1, 256]⟩
abbrev S1x16x16x16x1024 : Shape := ⟨5, ![1, 16, 16, 16, 1024]⟩
abbrev S16x16x16x16x64 : Shape := ⟨5, ![16, 16, 16, 16, 64]⟩
abbrev S16x16x256x64 : Shape := ⟨4, ![16, 16, 256, 64]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S_ : Shape := ⟨0, ![]⟩
abbrev S1 : Shape := ⟨1, ![1]⟩
abbrev S16 : Shape := ⟨1, ![16]⟩
abbrev S16x1x1 : Shape := ⟨3, ![16, 1, 1]⟩
abbrev S1x256x256 : Shape := ⟨3, ![1, 256, 256]⟩
abbrev S16x256x256 : Shape := ⟨3, ![16, 256, 256]⟩
abbrev S16x16x256x256 : Shape := ⟨4, ![16, 16, 256, 256]⟩
abbrev S1x16x256x256 : Shape := ⟨4, ![1, 16, 256, 256]⟩
abbrev S16x16x256 : Shape := ⟨3, ![16, 16, 256]⟩
abbrev S16x16x256x1 : Shape := ⟨4, ![16, 16, 256, 1]⟩
abbrev S16x16x16x16x1 : Shape := ⟨5, ![16, 16, 16, 16, 1]⟩
abbrev S1x16x1x16x128 : Shape := ⟨5, ![1, 16, 1, 16, 128]⟩
abbrev S16x1x16x128 : Shape := ⟨4, ![16, 1, 16, 128]⟩
abbrev S1x2x1x256 : Shape := ⟨4, ![1, 2, 1, 256]⟩
abbrev S3x16x1x16x128 : Shape := ⟨5, ![3, 16, 1, 16, 128]⟩
abbrev S2x384x128 : Shape := ⟨3, ![2, 384, 128]⟩
abbrev S384x128 : Shape := ⟨2, ![384, 128]⟩
abbrev S4x2x128x256 : Shape := ⟨4, ![4, 2, 128, 256]⟩
abbrev S128x256 : Shape := ⟨2, ![128, 256]⟩
abbrev S1x1x1x256 : Shape := ⟨4, ![1, 1, 1, 256]⟩
abbrev S1x1x128x256 : Shape := ⟨4, ![1, 1, 128, 256]⟩
abbrev S16x16x128 : Shape := ⟨3, ![16, 16, 128]⟩
abbrev S256x128 : Shape := ⟨2, ![256, 128]⟩
abbrev S64x128 : Shape := ⟨2, ![64, 128]⟩
abbrev S1x64x128 : Shape := ⟨3, ![1, 64, 128]⟩
abbrev S1x256x128 : Shape := ⟨3, ![1, 256, 128]⟩
abbrev S128x128 : Shape := ⟨2, ![128, 128]⟩
abbrev S1x8x1x16x128 : Shape := ⟨5, ![1, 8, 1, 16, 128]⟩
abbrev S8x16x128 : Shape := ⟨3, ![8, 16, 128]⟩
abbrev S8x1x16x128 : Shape := ⟨4, ![8, 1, 16, 128]⟩
abbrev S128 : Shape := ⟨1, ![128]⟩
abbrev S128x1 : Shape := ⟨2, ![128, 1]⟩
abbrev S128x512 : Shape := ⟨2, ![128, 512]⟩
abbrev S512x128 : Shape := ⟨2, ![512, 128]⟩

abbrev nBuf : Space → Nat
  | .hbm => 155
  | .vmem => 21
  | .smem => 0
  | _ => 0

abbrev hbmTy0_0 (i : Nat) : BufTy := match i % 128 with
  | 0 => ⟨S3x16x16x16x1024, .bf16⟩
  | 1 => ⟨S16x16x16x1024, .f32⟩
  | 2 => ⟨S16x16x16x16, .f32⟩
  | 3 => ⟨S16x16x16x1024, .f32⟩
  | 4 => ⟨S16x16x16x16, .f32⟩
  | 5 => ⟨S16x16x16x1024, .f32⟩
  | 6 => ⟨S8x2x1x256, .f32⟩
  | 7 => ⟨S1x16x16x16x1024, .bf16⟩
  | 8 => ⟨S16x16x16x1024, .bf16⟩
  | 9 => ⟨S16x16x16x1024, .f32⟩
  | 10 => ⟨S16x16x16x16x64, .f32⟩
  | 11 => ⟨S16x16x16x16x64, .f32⟩
  | 12 => ⟨S16x16x256x64, .f32⟩
  | 13 => ⟨S1x16x16x16x1024, .bf16⟩
  | 14 => ⟨S16x16x16x1024, .bf16⟩
  | 15 => ⟨S16x16x16x1024, .f32⟩
  | 16 => ⟨S16x16x16x16x64, .f32⟩
  | 17 => ⟨S16x16x16x16x64, .f32⟩
  | 18 => ⟨S16x16x256x64, .f32⟩
  | 19 => ⟨S1x16x16x16x1024, .bf16⟩
  | 20 => ⟨S16x16x16x1024, .bf16⟩
  | 21 => ⟨S16x16x16x1024, .f32⟩
  | 22 => ⟨S16x16x16x16x64, .f32⟩
  | 23 => ⟨S16x16x16x16x64, .f32⟩
  | 24 => ⟨S16x16x256x64, .f32⟩
  | 25 => ⟨S256, .i32⟩
  | 26 => ⟨S1x256, .i32⟩
  | 27 => ⟨S256, .i32⟩
  | 28 => ⟨S256x1, .i32⟩
  | 29 => ⟨S256x256, .i32⟩
  | 30 => ⟨S256x256, .i32⟩
  | 31 => ⟨S256x256, .i32⟩
  | 32 => ⟨S256x256, .i32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S1, .f32⟩
  | 50 => ⟨S1, .f32⟩
  | 51 => ⟨S1, .f32⟩
  | 52 => ⟨S1, .f32⟩
  | 53 => ⟨S1, .f32⟩
  | 54 => ⟨S1, .f32⟩
  | 55 => ⟨S1, .f32⟩
  | 56 => ⟨S1, .f32⟩
  | 57 => ⟨S1, .f32⟩
  | 58 => ⟨S1, .f32⟩
  | 59 => ⟨S1, .f32⟩
  | 60 => ⟨S1, .f32⟩
  | 61 => ⟨S1, .f32⟩
  | 62 => ⟨S1, .f32⟩
  | 63 => ⟨S1, .f32⟩
  | 64 => ⟨S1, .f32⟩
  | 65 => ⟨S16, .f32⟩
  | 66 => ⟨S16x1x1, .f32⟩
  | 67 => ⟨S16x1x1, .f32⟩
  | 68 => ⟨S_, .i32⟩
  | 69 => ⟨S256x256, .i32⟩
  | 70 => ⟨S256x256, .i32⟩
  | 71 => ⟨S256x256, .f32⟩
  | 72 => ⟨S1x256x256, .f32⟩
  | 73 => ⟨S16x256x256, .f32⟩
  | 74 => ⟨S16x256x256, .f32⟩
  | 75 => ⟨S16x256x256, .f32⟩
  | 76 => ⟨S16x16x256x256, .f32⟩
  | 77 => ⟨S_, .f32⟩
  | 78 => ⟨S16x16x256x256, .f32⟩
  | 79 => ⟨S16x16x256x256, .f32⟩
  | 80 => ⟨S1x16x256x256, .f32⟩
  | 81 => ⟨S16x16x256x256, .f32⟩
  | 82 => ⟨S16x16x256x256, .f32⟩
  | 83 => ⟨S_, .i32⟩
  | 84 => ⟨S256x256, .i32⟩
  | 85 => ⟨S256x256, .i1⟩
  | 86 => ⟨S_, .f32⟩
  | 87 => ⟨S_, .f32⟩
  | 88 => ⟨S16x16x256x256, .i1⟩
  | 89 => ⟨S16x16x256x256, .f32⟩
  | 90 => ⟨S16x16x256x256, .f32⟩
  | 91 => ⟨S_, .f32⟩
  | 92 => ⟨S16x16x256, .f32⟩
  | 93 => ⟨S16x16x256x1, .f32⟩
  | 94 => ⟨S16x16x256x256, .f32⟩
  | 95 => ⟨S16x16x256x256, .f32⟩
  | 96 => ⟨S16x16x256x256, .f32⟩
  | 97 => ⟨S_, .f32⟩
  | 98 => ⟨S16x16x256, .f32⟩
  | 99 => ⟨S16x16x256, .f32⟩
  | 100 => ⟨S16x16x256, .f32⟩
  | 101 => ⟨S16x16x256x1, .f32⟩
  | 102 => ⟨S16x16x256x256, .f32⟩
  | 103 => ⟨S16x16x256x256, .f32⟩
  | 104 => ⟨S16x16x256x256, .f32⟩
  | 105 => ⟨S16x16x256x64, .f32⟩
  | 106 => ⟨S16x16x16x16x1, .f32⟩
  | 107 => ⟨S16x16x16x16x1, .f32⟩
  | 108 => ⟨S16x16x256x1, .f32⟩
  | 109 => ⟨S16x16x256, .f32⟩
  | 110 => ⟨S16x16x16x16x1, .f32⟩
  | 111 => ⟨S16x16x16x16x1, .f32⟩
  | 112 => ⟨S16x16x256x1, .f32⟩
  | 113 => ⟨S16x16x256, .f32⟩
  | 114 => ⟨S16x16x256, .f32⟩
  | 115 => ⟨S16x16x256, .f32⟩
  | 116 => ⟨S16x16x256, .f32⟩
  | 117 => ⟨S16x16x256, .f32⟩
  | 118 => ⟨S16x16x256, .f32⟩
  | 119 => ⟨S16x16x256, .f32⟩
  | 120 => ⟨S16x16x256, .f32⟩
  | 121 => ⟨S16x16x256, .f32⟩
  | 122 => ⟨S16x16x256, .f32⟩
  | 123 => ⟨S16x16x256, .f32⟩
  | 124 => ⟨S16x16x256, .f32⟩
  | 125 => ⟨S16x16x256x1, .f32⟩
  | 126 => ⟨S16x16x16x16x64, .f32⟩
  | 127 => ⟨S16x16x16x16x64, .f32⟩
  | _ => ⟨S3x16x16x16x1024, .bf16⟩

abbrev hbmTy0_1 (i : Nat) : BufTy := match i % 128 with
  | 0 => ⟨S16x16x256x64, .f32⟩
  | 1 => ⟨S16x16x256x64, .f32⟩
  | 2 => ⟨S16x16x256x64, .f32⟩
  | 3 => ⟨S16x16x256, .f32⟩
  | 4 => ⟨S16x16x256x1, .f32⟩
  | 5 => ⟨S16x16x16x16x64, .f32⟩
  | 6 => ⟨S16x16x16x16x64, .f32⟩
  | 7 => ⟨S16x16x256x64, .f32⟩
  | 8 => ⟨S16x16x256x64, .f32⟩
  | 9 => ⟨S16x16x256x64, .f32⟩
  | 10 => ⟨S16x16x256x64, .f32⟩
  | 11 => ⟨S16x16x256, .f32⟩
  | 12 => ⟨S16x16x256x1, .f32⟩
  | 13 => ⟨S16x16x256x64, .f32⟩
  | 14 => ⟨S16x16x256x64, .f32⟩
  | 15 => ⟨S16x16x256x64, .f32⟩
  | 16 => ⟨S16x16x256, .f32⟩
  | 17 => ⟨S16x16x256, .f32⟩
  | 18 => ⟨S16x16x256x1, .f32⟩
  | 19 => ⟨S16x16x256x64, .f32⟩
  | 20 => ⟨S16x16x16x16x64, .f32⟩
  | 21 => ⟨S16x16x16x16x64, .f32⟩
  | 22 => ⟨S16x16x16x1024, .f32⟩
  | 23 => ⟨S16x16x16x16x64, .f32⟩
  | 24 => ⟨S16x16x16x16x64, .f32⟩
  | 25 => ⟨S16x16x16x1024, .f32⟩
  | 26 => ⟨S3x16x16x16x1024, .bf16⟩
  | _ => ⟨S3x16x16x16x1024, .bf16⟩

abbrev hbmTy (i : Nat) : BufTy := match i / 128 with
  | 0 => hbmTy0_0 i
  | 1 => hbmTy0_1 i
  | _ => ⟨S3x16x16x16x1024, .bf16⟩

abbrev bufTy : (tb : Table) → Fin (tcTables nBuf tb) → BufTy
  | .hbm, ⟨i, _⟩ => hbmTy i
  | .local _ .vmem, ⟨0, _⟩ => ⟨S1x16x1x16x128, .bf16⟩
  | .local _ .vmem, ⟨1, _⟩ => ⟨S1x16x1x16x128, .bf16⟩
  | .local _ .vmem, ⟨2, _⟩ => ⟨S1x16x1x16x128, .bf16⟩
  | .local _ .vmem, ⟨3, _⟩ => ⟨S1x16x1x16x128, .bf16⟩
  | .local _ .vmem, ⟨4, _⟩ => ⟨S1x16x1x16x128, .bf16⟩
  | .local _ .vmem, ⟨5, _⟩ => ⟨S1x16x1x16x128, .bf16⟩
  | .local _ .vmem, ⟨6, _⟩ => ⟨S16x1x16x128, .f32⟩
  | .local _ .vmem, ⟨7, _⟩ => ⟨S16x1x16x128, .f32⟩
  | .local _ .vmem, ⟨8, _⟩ => ⟨S16x1x16x128, .f32⟩
  | .local _ .vmem, ⟨9, _⟩ => ⟨S16x1x16x128, .f32⟩
  | .local _ .vmem, ⟨10, _⟩ => ⟨S16x1x16x128, .f32⟩
  | .local _ .vmem, ⟨11, _⟩ => ⟨S16x1x16x128, .f32⟩
  | .local _ .vmem, ⟨12, _⟩ => ⟨S1x2x1x256, .f32⟩
  | .local _ .vmem, ⟨13, _⟩ => ⟨S1x2x1x256, .f32⟩
  | .local _ .vmem, ⟨14, _⟩ => ⟨S3x16x1x16x128, .bf16⟩
  | .local _ .vmem, ⟨15, _⟩ => ⟨S3x16x1x16x128, .bf16⟩
  | .local _ .vmem, ⟨16, _⟩ => ⟨S2x384x128, .bf16⟩
  | .local _ .vmem, ⟨17, _⟩ => ⟨S2x384x128, .bf16⟩
  | .local _ .vmem, ⟨18, _⟩ => ⟨S384x128, .f32⟩
  | .local _ .vmem, ⟨19, _⟩ => ⟨S384x128, .f32⟩
  | .local _ .vmem, ⟨20, _⟩ => ⟨S4x2x128x256, .f32⟩
  | _, _ => ⟨S3x16x16x16x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_0 : Ref sig .tc := ⟨.hbm, 33, rfl⟩
abbrev main_cst_1 : Ref sig .tc := ⟨.hbm, 34, rfl⟩
abbrev main_cst_2 : Ref sig .tc := ⟨.hbm, 35, rfl⟩
abbrev main_cst_3 : Ref sig .tc := ⟨.hbm, 36, rfl⟩
abbrev main_cst_4 : Ref sig .tc := ⟨.hbm, 37, rfl⟩
abbrev main_cst_5 : Ref sig .tc := ⟨.hbm, 38, rfl⟩
abbrev main_cst_6 : Ref sig .tc := ⟨.hbm, 39, rfl⟩
abbrev main_cst_7 : Ref sig .tc := ⟨.hbm, 40, rfl⟩
abbrev main_cst_8 : Ref sig .tc := ⟨.hbm, 41, rfl⟩
abbrev main_cst_9 : Ref sig .tc := ⟨.hbm, 42, rfl⟩
abbrev main_cst_10 : Ref sig .tc := ⟨.hbm, 43, rfl⟩
abbrev main_cst_11 : Ref sig .tc := ⟨.hbm, 44, rfl⟩
abbrev main_cst_12 : Ref sig .tc := ⟨.hbm, 45, rfl⟩
abbrev main_cst_13 : Ref sig .tc := ⟨.hbm, 46, rfl⟩
abbrev main_cst_14 : Ref sig .tc := ⟨.hbm, 47, rfl⟩
abbrev main_cst_15 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_16 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_17 : Ref sig .tc := ⟨.hbm, 83, rfl⟩
abbrev main_v58 : Ref sig .tc := ⟨.hbm, 84, rfl⟩
abbrev main_v59 : Ref sig .tc := ⟨.hbm, 85, rfl⟩
abbrev main_cst_18 : Ref sig .tc := ⟨.hbm, 86, rfl⟩
abbrev main_call0_v0 : Ref sig .tc := ⟨.hbm, 87, rfl⟩
abbrev main_call0_v1 : Ref sig .tc := ⟨.hbm, 88, rfl⟩
abbrev main_call0_v2 : Ref sig .tc := ⟨.hbm, 89, rfl⟩
abbrev main_v60 : Ref sig .tc := ⟨.hbm, 90, rfl⟩
abbrev main_cst_19 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_20 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 16], ![false, false]⟩

def k0_mult1 : BitVec 32 :=
  let c0_i32_60 : BitVec 32 := 0#32
  let c128_i32 : BitVec 32 := 128#32
  let v86 : BitVec 32 := Scalar.muli c0_i32_60 c128_i32
  v86
def k0_off1 (c0_i32_60 : BitVec 32) : Fin 5 → Nat :=
  let c0_65 : Index := 0#32
  let c8_i32 : BitVec 32 := 8#32
  let v88 : BitVec 32 := Scalar.muli c0_i32_60 c8_i32
  let v89 : Index := Scalar.indexCast v88
  let c0_66 : Index := 0#32
  let c0_67 : Index := 0#32
  let c0_68 : Index := 0#32
  ![0, v89.toNat, 0, 0, 0]
def k0_off2 (c0_i32_60 : BitVec 32) : Fin 4 → Nat :=
  let c8_i32_70 : BitVec 32 := 8#32
  let v95 : BitVec 32 := Scalar.muli c0_i32_60 c8_i32_70
  let v96 : Index := Scalar.indexCast v95
  let c0_71 : Index := 0#32
  let c0_72 : Index := 0#32
  let c0_73 : Index := 0#32
  ![v96.toNat, 0, 0, 0]
def k0_off3 (c0_i32_60 : BitVec 32) : Fin 3 → Nat :=
  let c0_82 : Index := 0#32
  let c128_i32 : BitVec 32 := 128#32
  let v86 : BitVec 32 := Scalar.muli c0_i32_60 c128_i32
  let v87 : BitVec 32 := v86
  let v112 : Index := Scalar.indexCast v87
  let c0_83 : Index := 0#32
  ![0, v112.toNat, 0]
def k0_off4 (c0_i32_60 : BitVec 32) : Fin 4 → Nat :=
  let c0_i32_61 : BitVec 32 := 0#32
  let v81 : BitVec 1 := Scalar.cmpi .eq c0_i32_60 c0_i32_61
  let c1_i32 : BitVec 32 := 1#32
  let c0_i32_62 : BitVec 32 := 0#32
  let v82 : BitVec 32 := Scalar.select v81 c1_i32 c0_i32_62
  let c1_i32_63 : BitVec 32 := 1#32
  let v83 : BitVec 1 := Scalar.cmpi .eq c0_i32_60 c1_i32_63
  let c2_i32 : BitVec 32 := 2#32
  let c0_i32_64 : BitVec 32 := 0#32
  let v84 : BitVec 32 := Scalar.select v83 c2_i32 c0_i32_64
  let v85 : BitVec 32 := Scalar.addi v82 v84
  let v116 : Index := Scalar.indexCast v85
  let c0_85 : Index := 0#32
  let c0_86 : Index := 0#32
  let c0_87 : Index := 0#32
  ![v116.toNat, 0, 0, 0]
def k0_off5 (c0_i32_60 : BitVec 32) : Fin 3 → Nat :=
  let c1_98 : Index := 1#32
  let c128_i32 : BitVec 32 := 128#32
  let v86 : BitVec 32 := Scalar.muli c0_i32_60 c128_i32
  let v87 : BitVec 32 := v86
  let v144 : Index := Scalar.indexCast v87
  let c0_99 : Index := 0#32
  ![1, v144.toNat, 0]
def k0_off6 (c0_i32_60 : BitVec 32) : Fin 4 → Nat :=
  let c0_i32_61 : BitVec 32 := 0#32
  let v81 : BitVec 1 := Scalar.cmpi .eq c0_i32_60 c0_i32_61
  let c1_i32 : BitVec 32 := 1#32
  let c0_i32_62 : BitVec 32 := 0#32
  let v82 : BitVec 32 := Scalar.select v81 c1_i32 c0_i32_62
  let c1_i32_63 : BitVec 32 := 1#32
  let v83 : BitVec 1 := Scalar.cmpi .eq c0_i32_60 c1_i32_63
  let c2_i32 : BitVec 32 := 2#32
  let c0_i32_64 : BitVec 32 := 0#32
  let v84 : BitVec 32 := Scalar.select v83 c2_i32 c0_i32_64
  let v85 : BitVec 32 := Scalar.addi v82 v84
  let v148 : Index := Scalar.indexCast v85
  let c1_101 : Index := 1#32
  let c0_102 : Index := 0#32
  let c0_103 : Index := 0#32
  ![v148.toNat, 1, 0, 0]
def k0_off7 (c0_i32_60 : BitVec 32) : Fin 2 → Nat :=
  let c128_i32 : BitVec 32 := 128#32
  let v86 : BitVec 32 := Scalar.muli c0_i32_60 c128_i32
  let v87 : BitVec 32 := v86
  let v185 : Index := Scalar.indexCast v87
  let c0_119 : Index := 0#32
  ![v185.toNat, 0]
def k0_off8 (c0_i32_60 : BitVec 32) : Fin 5 → Nat :=
  let c0_124 : Index := 0#32
  let c8_i32_123 : BitVec 32 := 8#32
  let v202 : BitVec 32 := Scalar.muli c0_i32_60 c8_i32_123
  let v204 : Index := Scalar.indexCast v202
  let c0_125 : Index := 0#32
  let c0_126 : Index := 0#32
  let c0_127 : Index := 0#32
  ![0, v204.toNat, 0, 0, 0]
def k0_mult2 : BitVec 32 :=
  let c1_i32_128 : BitVec 32 := 1#32
  let c128_i32_135 : BitVec 32 := 128#32
  let v213 : BitVec 32 := Scalar.muli c1_i32_128 c128_i32_135
  v213
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat, arg0.toNat]

def cc0_transform_1 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, arg1.toNat, c0_i32_0.toNat, arg0.toNat]

def cc0_transform_2 (i : grid0.Coords) : Fin 5 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, arg1.toNat, c0_i32_0.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat, arg0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat, arg0.toNat]

abbrev stage0_0 : Fin 2 → Memref sig .tc .vmem S1x16x1x16x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1x16x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1x16x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x1x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S3x16x1x16x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S3x16x16x16x1024 : Shape := ⟨5, ![3, 16, 16, 16, 1024]⟩
abbrev S16x16x16x1024 : Shape := ⟨4, ![16, 16, 16, 1024]⟩
abbrev S16x16x16x16 : Shape := ⟨4, ![16, 16, 16, 16]⟩
abbrev S1x16x16x16x1024 : Shape := ⟨5, ![1, 16, 16, 16, 1024]⟩
abbrev S16x16x16x16x64 : Shape := ⟨5, ![16, 16, 16, 16, 64]⟩
abbrev S16x16x256x64 : Shape := ⟨4, ![16, 16, 256, 64]⟩
abbrev S16x16x16x16x1 : Shape := ⟨5, ![16, 16, 16, 16, 1]⟩
abbrev S16x16x256x1 : Shape := ⟨4, ![16, 16, 256, 1]⟩
abbrev S16x16x256 : Shape := ⟨3, ![16, 16, 256]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S_ : Shape := ⟨0, ![]⟩
abbrev S1 : Shape := ⟨1, ![1]⟩
abbrev S16 : Shape := ⟨1, ![16]⟩
abbrev S16x1x1 : Shape := ⟨3, ![16, 1, 1]⟩
abbrev S1x256x256 : Shape := ⟨3, ![1, 256, 256]⟩
abbrev S16x256x256 : Shape := ⟨3, ![16, 256, 256]⟩
abbrev S16x16x256x256 : Shape := ⟨4, ![16, 16, 256, 256]⟩
abbrev S1x16x256x256 : Shape := ⟨4, ![1, 16, 256, 256]⟩
abbrev S1x16x16x256 : Shape := ⟨4, ![1, 16, 16, 256]⟩
abbrev S3x16x16x256 : Shape := ⟨4, ![3, 16, 16, 256]⟩
abbrev S3x16x16x256x1 : Shape := ⟨5, ![3, 16, 16, 256, 1]⟩
abbrev S1x16x16x256x64 : Shape := ⟨5, ![1, 16, 16, 256, 64]⟩
abbrev S3x16x16x256x64 : Shape := ⟨5, ![3, 16, 16, 256, 64]⟩
abbrev S16x16x64x256 : Shape := ⟨4, ![16, 16, 64, 256]⟩

abbrev nBuf : Space → Nat
  | .hbm => 261
  | .vmem => 0
  | .smem => 0
  | _ => 0

abbrev hbmTy0_0 (i : Nat) : BufTy := match i % 128 with
  | 0 => ⟨S3x16x16x16x1024, .bf16⟩
  | 1 => ⟨S16x16x16x1024, .f32⟩
  | 2 => ⟨S16x16x16x16, .f32⟩
  | 3 => ⟨S16x16x16x1024, .f32⟩
  | 4 => ⟨S16x16x16x16, .f32⟩
  | 5 => ⟨S16x16x16x1024, .f32⟩
  | 6 => ⟨S1x16x16x16x1024, .bf16⟩
  | 7 => ⟨S16x16x16x1024, .bf16⟩
  | 8 => ⟨S16x16x16x1024, .f32⟩
  | 9 => ⟨S16x16x16x16x64, .f32⟩
  | 10 => ⟨S16x16x16x16x64, .f32⟩
  | 11 => ⟨S16x16x256x64, .f32⟩
  | 12 => ⟨S1x16x16x16x1024, .bf16⟩
  | 13 => ⟨S16x16x16x1024, .bf16⟩
  | 14 => ⟨S16x16x16x1024, .f32⟩
  | 15 => ⟨S16x16x16x16x64, .f32⟩
  | 16 => ⟨S16x16x16x16x64, .f32⟩
  | 17 => ⟨S16x16x256x64, .f32⟩
  | 18 => ⟨S1x16x16x16x1024, .bf16⟩
  | 19 => ⟨S16x16x16x1024, .bf16⟩
  | 20 => ⟨S16x16x16x1024, .f32⟩
  | 21 => ⟨S16x16x16x16x64, .f32⟩
  | 22 => ⟨S16x16x16x16x64, .f32⟩
  | 23 => ⟨S16x16x256x64, .f32⟩
  | 24 => ⟨S16x16x16x16x64, .f32⟩
  | 25 => ⟨S16x16x16x16x64, .f32⟩
  | 26 => ⟨S16x16x256x64, .f32⟩
  | 27 => ⟨S16x16x16x16x64, .f32⟩
  | 28 => ⟨S16x16x16x16x64, .f32⟩
  | 29 => ⟨S16x16x256x64, .f32⟩
  | 30 => ⟨S16x16x16x16x64, .f32⟩
  | 31 => ⟨S16x16x16x16x64, .f32⟩
  | 32 => ⟨S16x16x256x64, .f32⟩
  | 33 => ⟨S16x16x16x16x1, .f32⟩
  | 34 => ⟨S16x16x16x16x1, .f32⟩
  | 35 => ⟨S16x16x256x1, .f32⟩
  | 36 => ⟨S16x16x256, .f32⟩
  | 37 => ⟨S16x16x16x16x1, .f32⟩
  | 38 => ⟨S16x16x16x16x1, .f32⟩
  | 39 => ⟨S16x16x256x1, .f32⟩
  | 40 => ⟨S16x16x256, .f32⟩
  | 41 => ⟨S256, .i32⟩
  | 42 => ⟨S1x256, .i32⟩
  | 43 => ⟨S256, .i32⟩
  | 44 => ⟨S256x1, .i32⟩
  | 45 => ⟨S256x256, .i32⟩
  | 46 => ⟨S256x256, .i32⟩
  | 47 => ⟨S256x256, .i32⟩
  | 48 => ⟨S256x256, .i32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S1, .f32⟩
  | 66 => ⟨S1, .f32⟩
  | 67 => ⟨S1, .f32⟩
  | 68 => ⟨S1, .f32⟩
  | 69 => ⟨S1, .f32⟩
  | 70 => ⟨S1, .f32⟩
  | 71 => ⟨S1, .f32⟩
  | 72 => ⟨S1, .f32⟩
  | 73 => ⟨S1, .f32⟩
  | 74 => ⟨S1, .f32⟩
  | 75 => ⟨S1, .f32⟩
  | 76 => ⟨S1, .f32⟩
  | 77 => ⟨S1, .f32⟩
  | 78 => ⟨S1, .f32⟩
  | 79 => ⟨S1, .f32⟩
  | 80 => ⟨S1, .f32⟩
  | 81 => ⟨S16, .f32⟩
  | 82 => ⟨S16x1x1, .f32⟩
  | 83 => ⟨S16x1x1, .f32⟩
  | 84 => ⟨S_, .i32⟩
  | 85 => ⟨S256x256, .i32⟩
  | 86 => ⟨S256x256, .i32⟩
  | 87 => ⟨S256x256, .f32⟩
  | 88 => ⟨S1x256x256, .f32⟩
  | 89 => ⟨S16x256x256, .f32⟩
  | 90 => ⟨S16x256x256, .f32⟩
  | 91 => ⟨S16x256x256, .f32⟩
  | 92 => ⟨S16x16x256x256, .f32⟩
  | 93 => ⟨S_, .f32⟩
  | 94 => ⟨S16x16x256x256, .f32⟩
  | 95 => ⟨S16x16x256x256, .f32⟩
  | 96 => ⟨S1x16x256x256, .f32⟩
  | 97 => ⟨S16x16x256x256, .f32⟩
  | 98 => ⟨S16x16x256x256, .f32⟩
  | 99 => ⟨S_, .i32⟩
  | 100 => ⟨S256x256, .i32⟩
  | 101 => ⟨S256x256, .i1⟩
  | 102 => ⟨S_, .f32⟩
  | 103 => ⟨S_, .f32⟩
  | 104 => ⟨S16x16x256x256, .i1⟩
  | 105 => ⟨S16x16x256x256, .f32⟩
  | 106 => ⟨S16x16x256x256, .f32⟩
  | 107 => ⟨S_, .f32⟩
  | 108 => ⟨S16x16x256x256, .f32⟩
  | 109 => ⟨S_, .f32⟩
  | 110 => ⟨S16x16x256, .f32⟩
  | 111 => ⟨S16x16x256x1, .f32⟩
  | 112 => ⟨S16x16x256x256, .f32⟩
  | 113 => ⟨S16x16x256x256, .i1⟩
  | 114 => ⟨S16x16x256x256, .f32⟩
  | 115 => ⟨S_, .f32⟩
  | 116 => ⟨S16x16x256, .f32⟩
  | 117 => ⟨S16x16x256x1, .f32⟩
  | 118 => ⟨S16x16x256x256, .f32⟩
  | 119 => ⟨S16x16x256x256, .f32⟩
  | 120 => ⟨S16x16x256x256, .f32⟩
  | 121 => ⟨S_, .f32⟩
  | 122 => ⟨S16x16x256, .f32⟩
  | 123 => ⟨S16x16x256, .f32⟩
  | 124 => ⟨S16x16x256, .f32⟩
  | 125 => ⟨S16x16x256x1, .f32⟩
  | 126 => ⟨S16x16x256x256, .f32⟩
  | 127 => ⟨S16x16x256x256, .f32⟩
  | _ => ⟨S3x16x16x16x1024, .bf16⟩

abbrev hbmTy0_1 (i : Nat) : BufTy := match i % 128 with
  | 0 => ⟨S16x16x256x256, .f32⟩
  | 1 => ⟨S16x16x256x64, .f32⟩
  | 2 => ⟨S1x16x16x256, .f32⟩
  | 3 => ⟨S1x16x16x256, .f32⟩
  | 4 => ⟨S1x16x16x256, .f32⟩
  | 5 => ⟨S3x16x16x256, .f32⟩
  | 6 => ⟨S_, .f32⟩
  | 7 => ⟨S16x16x256, .f32⟩
  | 8 => ⟨S_, .f32⟩
  | 9 => ⟨S16x16x256, .f32⟩
  | 10 => ⟨S_, .f32⟩
  | 11 => ⟨S16x16x256, .f32⟩
  | 12 => ⟨S1x16x16x256, .f32⟩
  | 13 => ⟨S3x16x16x256, .f32⟩
  | 14 => ⟨S3x16x16x256, .i1⟩
  | 15 => ⟨S3x16x16x256, .f32⟩
  | 16 => ⟨S_, .f32⟩
  | 17 => ⟨S16x16x256, .f32⟩
  | 18 => ⟨S_, .f32⟩
  | 19 => ⟨S16x16x256, .f32⟩
  | 20 => ⟨S16x16x256, .f32⟩
  | 21 => ⟨S_, .f32⟩
  | 22 => ⟨S16x16x256, .f32⟩
  | 23 => ⟨S16x16x256, .i1⟩
  | 24 => ⟨S_, .f32⟩
  | 25 => ⟨S16x16x256, .f32⟩
  | 26 => ⟨S16x16x256, .i1⟩
  | 27 => ⟨S_, .f32⟩
  | 28 => ⟨S16x16x256, .f32⟩
  | 29 => ⟨S_, .f32⟩
  | 30 => ⟨S16x16x256, .f32⟩
  | 31 => ⟨S_, .f32⟩
  | 32 => ⟨S16x16x256, .f32⟩
  | 33 => ⟨S16x16x256, .f32⟩
  | 34 => ⟨S16x16x256, .f32⟩
  | 35 => ⟨S1x16x16x256, .f32⟩
  | 36 => ⟨S3x16x16x256, .f32⟩
  | 37 => ⟨S3x16x16x256, .f32⟩
  | 38 => ⟨S3x16x16x256, .f32⟩
  | 39 => ⟨S_, .f32⟩
  | 40 => ⟨S16x16x256, .f32⟩
  | 41 => ⟨S1x16x16x256, .f32⟩
  | 42 => ⟨S3x16x16x256, .f32⟩
  | 43 => ⟨S3x16x16x256, .f32⟩
  | 44 => ⟨S1x16x16x256, .f32⟩
  | 45 => ⟨S_, .f32⟩
  | 46 => ⟨S1x16x16x256, .f32⟩
  | 47 => ⟨S1x16x16x256, .f32⟩
  | 48 => ⟨S3x16x16x256x1, .f32⟩
  | 49 => ⟨S1x16x16x256x64, .f32⟩
  | 50 => ⟨S1x16x16x256x64, .f32⟩
  | 51 => ⟨S1x16x16x256x64, .f32⟩
  | 52 => ⟨S3x16x16x256x64, .f32⟩
  | 53 => ⟨S_, .f32⟩
  | 54 => ⟨S16x16x256x64, .f32⟩
  | 55 => ⟨S_, .f32⟩
  | 56 => ⟨S16x16x256x64, .f32⟩
  | 57 => ⟨S3x16x16x256x64, .f32⟩
  | 58 => ⟨S3x16x16x256x64, .f32⟩
  | 59 => ⟨S_, .f32⟩
  | 60 => ⟨S16x16x256x64, .f32⟩
  | 61 => ⟨S3x16x16x256x64, .f32⟩
  | 62 => ⟨S3x16x16x256x64, .f32⟩
  | 63 => ⟨S3x16x16x256x64, .f32⟩
  | 64 => ⟨S3x16x16x256x64, .f32⟩
  | 65 => ⟨S_, .f32⟩
  | 66 => ⟨S3x16x16x256, .f32⟩
  | 67 => ⟨S3x16x16x256x1, .f32⟩
  | 68 => ⟨S1x16x16x256x64, .f32⟩
  | 69 => ⟨S16x16x256x64, .f32⟩
  | 70 => ⟨S1x16x16x256x64, .f32⟩
  | 71 => ⟨S16x16x256x64, .f32⟩
  | 72 => ⟨S1x16x16x256x64, .f32⟩
  | 73 => ⟨S16x16x256x64, .f32⟩
  | 74 => ⟨S_, .f32⟩
  | 75 => ⟨S3x16x16x256, .f32⟩
  | 76 => ⟨S3x16x16x256, .f32⟩
  | 77 => ⟨S3x16x16x256, .f32⟩
  | 78 => ⟨S3x16x16x256, .f32⟩
  | 79 => ⟨S_, .f32⟩
  | 80 => ⟨S16x16x256, .f32⟩
  | 81 => ⟨S1x16x16x256, .f32⟩
  | 82 => ⟨S1x16x16x256, .f32⟩
  | 83 => ⟨S3x16x16x256, .f32⟩
  | 84 => ⟨S3x16x16x256, .f32⟩
  | 85 => ⟨S_, .f32⟩
  | 86 => ⟨S16x16x256, .f32⟩
  | 87 => ⟨S3x16x16x256, .f32⟩
  | 88 => ⟨S3x16x16x256, .f32⟩
  | 89 => ⟨S3x16x16x256, .f32⟩
  | 90 => ⟨S1x16x16x256, .f32⟩
  | 91 => ⟨S16x16x256, .f32⟩
  | 92 => ⟨S1x16x16x256, .f32⟩
  | 93 => ⟨S16x16x256, .f32⟩
  | 94 => ⟨S1x16x16x256, .f32⟩
  | 95 => ⟨S16x16x256, .f32⟩
  | 96 => ⟨S16x16x64x256, .f32⟩
  | 97 => ⟨S16x16x256x64, .f32⟩
  | 98 => ⟨S16x16x256x256, .f32⟩
  | 99 => ⟨S16x16x256x256, .f32⟩
  | 100 => ⟨S16x16x256x256, .f32⟩
  | 101 => ⟨S_, .f32⟩
  | 102 => ⟨S16x16x256, .f32⟩
  | 103 => ⟨S16x16x256x1, .f32⟩
  | 104 => ⟨S_, .f32⟩
  | 105 => ⟨S16x16x256, .f32⟩
  | 106 => ⟨S16x16x256, .f32⟩
  | 107 => ⟨S16x16x256, .f32⟩
  | 108 => ⟨S16x16x256x256, .f32⟩
  | 109 => ⟨S16x16x256x256, .f32⟩
  | 110 => ⟨S16x16x256x256, .f32⟩
  | 111 => ⟨S_, .f32⟩
  | 112 => ⟨S16x16x256x256, .f32⟩
  | 113 => ⟨S16x16x256x256, .f32⟩
  | 114 => ⟨S_, .f32⟩
  | 115 => ⟨S16x16x256x256, .f32⟩
  | 116 => ⟨S16x16x256x256, .f32⟩
  | 117 => ⟨S16x16x256x64, .f32⟩
  | 118 => ⟨S16x16x256x64, .f32⟩
  | 119 => ⟨S16x16x16x16x64, .f32⟩
  | 120 => ⟨S16x16x16x16x64, .f32⟩
  | 121 => ⟨S16x16x16x1024, .f32⟩
  | 122 => ⟨S16x16x16x16x64, .f32⟩
  | 123 => ⟨S16x16x16x16x64, .f32⟩
  | 124 => ⟨S16x16x16x1024, .f32⟩
  | 125 => ⟨S16x16x16x16x64, .f32⟩
  | 126 => ⟨S16x16x16x16x64, .f32⟩
  | 127 => ⟨S16x16x16x1024, .f32⟩
  | _ => ⟨S3x16x16x16x1024, .bf16⟩

abbrev hbmTy0_2 (i : Nat) : BufTy := match i % 128 with
  | 0 => ⟨S1x16x16x16x1024, .f32⟩
  | 1 => ⟨S1x16x16x16x1024, .f32⟩
  | 2 => ⟨S1x16x16x16x1024, .f32⟩
  | 3 => ⟨S3x16x16x16x1024, .f32⟩
  | 4 => ⟨S3x16x16x16x1024, .bf16⟩
  | _ => ⟨S3x16x16x16x1024, .bf16⟩

abbrev hbmTy (i : Nat) : BufTy := match i / 128 with
  | 0 => hbmTy0_0 i
  | 1 => hbmTy0_1 i
  | 2 => hbmTy0_2 i
  | _ => ⟨S3x16x16x16x1024, .bf16⟩

abbrev bufTy : (tb : Table) → Fin (tcTables nBuf tb) → BufTy
  | .hbm, ⟨i, _⟩ => hbmTy i
  | _, _ => ⟨S3x16x16x16x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_cst : Ref sig .tc := ⟨.hbm, 49, rfl⟩
abbrev main_cst_0 : Ref sig .tc := ⟨.hbm, 50, rfl⟩
abbrev main_cst_1 : Ref sig .tc := ⟨.hbm, 51, rfl⟩
abbrev main_cst_2 : Ref sig .tc := ⟨.hbm, 52, rfl⟩
abbrev main_cst_3 : Ref sig .tc := ⟨.hbm, 53, rfl⟩
abbrev main_cst_4 : Ref sig .tc := ⟨.hbm, 54, rfl⟩
abbrev main_cst_5 : Ref sig .tc := ⟨.hbm, 55, rfl⟩
abbrev main_cst_6 : Ref sig .tc := ⟨.hbm, 56, rfl⟩
abbrev main_cst_7 : Ref sig .tc := ⟨.hbm, 57, rfl⟩
abbrev main_cst_8 : Ref sig .tc := ⟨.hbm, 58, rfl⟩
abbrev main_cst_9 : Ref sig .tc := ⟨.hbm, 59, rfl⟩
abbrev main_cst_10 : Ref sig .tc := ⟨.hbm, 60, rfl⟩
abbrev main_cst_11 : Ref sig .tc := ⟨.hbm, 61, rfl⟩
abbrev main_cst_12 : Ref sig .tc := ⟨.hbm, 62, rfl⟩
abbrev main_cst_13 : Ref sig .tc := ⟨.hbm, 63, rfl⟩
abbrev main_cst_14 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_15 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_c_16 : Ref sig .tc := ⟨.hbm, 99, rfl⟩
abbrev main_v75 : Ref sig .tc := ⟨.hbm, 100, rfl⟩
abbrev main_v76 : Ref sig .tc := ⟨.hbm, 101, rfl⟩
abbrev main_cst_17 : Ref sig .tc := ⟨.hbm, 102, rfl⟩
abbrev main_call0_v0 : Ref sig .tc := ⟨.hbm, 103, rfl⟩
abbrev main_v77_1 : Ref sig .tc := ⟨.hbm, 104, rfl⟩
abbrev main_call0_v2 : Ref sig .tc := ⟨.hbm, 105, rfl⟩
abbrev main_v77_0 : Ref sig .tc := ⟨.hbm, 106, rfl⟩
abbrev main_call0_cst : Ref sig .tc := ⟨.hbm, 107, rfl⟩
abbrev main_v77_2 : Ref sig .tc := ⟨.hbm, 108, rfl⟩
abbrev main_cst_18 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_19 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_20 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_21 : Ref sig .tc := ⟨.hbm, 134, rfl⟩
abbrev main_v100 : Ref sig .tc := ⟨.hbm, 135, rfl⟩
abbrev main_cst_22 : Ref sig .tc := ⟨.hbm, 136, rfl⟩
abbrev main_v101 : Ref sig .tc := ⟨.hbm, 137, rfl⟩
abbrev main_cst_23 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_24 : Ref sig .tc := ⟨.hbm, 144, rfl⟩
abbrev main_v107 : Ref sig .tc := ⟨.hbm, 145, rfl⟩
abbrev main_cst_25 : Ref sig .tc := ⟨.hbm, 146, rfl⟩
abbrev main_v108 : Ref sig .tc := ⟨.hbm, 147, rfl⟩
abbrev main_v109 : Ref sig .tc := ⟨.hbm, 148, rfl⟩
abbrev main_cst_26 : Ref sig .tc := ⟨.hbm, 149, rfl⟩
abbrev main_v110 : Ref sig .tc := ⟨.hbm, 150, rfl⟩
abbrev main_v111 : Ref sig .tc := ⟨.hbm, 151, rfl⟩
abbrev main_cst_27 : Ref sig .tc := ⟨.hbm, 152, rfl⟩
abbrev main_v112 : Ref sig .tc := ⟨.hbm, 153, rfl⟩
abbrev main_v113 : Ref sig .tc := ⟨.hbm, 154, rfl⟩
abbrev main_cst_28 : Ref sig .tc := ⟨.hbm, 155, rfl⟩
abbrev main_v114 : Ref sig .tc := ⟨.hbm, 156, rfl⟩
abbrev main_cst_29 : Ref sig .tc := ⟨.hbm, 157, rfl⟩
abbrev main_v115 : Ref sig .tc := ⟨.hbm, 158, rfl⟩
abbrev main_cst_30 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_cst_31 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_cst_32 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_cst_33 : Ref sig .tc := ⟨.hbm, 181, rfl⟩
abbrev main_v135 : Ref sig .tc := ⟨.hbm, 182, rfl⟩
abbrev main_cst_34 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_cst_35 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_cst_36 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_cst_37 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_cst_38 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_cst_39 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_cst_40 : Ref sig .tc := ⟨.hbm, 229, rfl⟩
abbrev main_v176 : Ref sig .tc := ⟨.hbm, 230, rfl⟩
abbrev main_v177 : Ref sig .tc := ⟨.hbm, 231, rfl⟩
abbrev main_cst_41 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_call1_cst : Ref sig .tc := ⟨.hbm, 239, rfl⟩
abbrev main_call1_v0 : Ref sig .tc := ⟨.hbm, 240, rfl⟩
abbrev main_v184 : Ref sig .tc := ⟨.hbm, 241, rfl⟩
abbrev main_cst_42 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩

abbrev nD : Nat := 1
abbrev τ : Topo := Topo.v7x

variable {F : FTy → Type} [FloatOps F]
-- ==== Kernel2.lean ====
abbrev S4096x1024 : Shape := ⟨2, ![4096, 1024]⟩
abbrev S4x704x1024 : Shape := ⟨3, ![4, 704, 1024]⟩
abbrev S2816x1024 : Shape := ⟨2, ![2816, 1024]⟩
abbrev S1024x2816 : Shape := ⟨2, ![1024, 2816]⟩
abbrev S4096x2816 : Shape := ⟨2, ![4096, 2816]⟩
abbrev S4096x4x704 : Shape := ⟨3, ![4096, 4, 704]⟩
abbrev S4x4096x704 : Shape := ⟨3, ![4, 4096, 704]⟩
abbrev S1024x1024 : Shape := ⟨2, ![1024, 1024]⟩
abbrev S1x1024x704 : Shape := ⟨3, ![1, 1024, 704]⟩
abbrev S1x704x1024 : Shape := ⟨3, ![1, 704, 1024]⟩
abbrev S1x256x1024 : Shape := ⟨3, ![1, 256, 1024]⟩
abbrev S256x1024 : Shape := ⟨2, ![256, 1024]⟩
abbrev S1024x256 : Shape := ⟨2, ![1024, 256]⟩
abbrev S1x1024x256 : Shape := ⟨3, ![1, 1024, 256]⟩
abbrev S1024x512 : Shape := ⟨2, ![1024, 512]⟩
abbrev S512x1024 : Shape := ⟨2, ![512, 1024]⟩
abbrev S1x192x1024 : Shape := ⟨3, ![1, 192, 1024]⟩
abbrev S192x1024 : Shape := ⟨2, ![192, 1024]⟩
abbrev S1024x192 : Shape := ⟨2, ![1024, 192]⟩
abbrev S1x1024x192 : Shape := ⟨3, ![1, 1024, 192]⟩
abbrev S1024x384 : Shape := ⟨2, ![1024, 384]⟩
abbrev S384x1024 : Shape := ⟨2, ![384, 1024]⟩

abbrev nBuf : Space → Nat
  | .hbm => 23
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4x704x1024, .bf16⟩
  | .hbm, ⟨2, _⟩ => ⟨S4x704x1024, .bf16⟩
  | .hbm, ⟨3, _⟩ => ⟨S4x704x1024, .bf16⟩
  | .hbm, ⟨4, _⟩ => ⟨S4096x1024, .f32⟩
  | .hbm, ⟨5, _⟩ => ⟨S4x704x1024, .f32⟩
  | .hbm, ⟨6, _⟩ => ⟨S2816x1024, .f32⟩
  | .hbm, ⟨7, _⟩ => ⟨S1024x2816, .f32⟩
  | .hbm, ⟨8, _⟩ => ⟨S4096x2816, .f32⟩
  | .hbm, ⟨9, _⟩ => ⟨S4x704x1024, .f32⟩
  | .hbm, ⟨10, _⟩ => ⟨S2816x1024, .f32⟩
  | .hbm, ⟨11, _⟩ => ⟨S1024x2816, .f32⟩
  | .hbm, ⟨12, _⟩ => ⟨S4096x2816, .f32⟩
  | .hbm, ⟨13, _⟩ => ⟨S4096x4x704, .f32⟩
  | .hbm, ⟨14, _⟩ => ⟨S4x4096x704, .f32⟩
  | .hbm, ⟨15, _⟩ => ⟨S4x4096x704, .bf16⟩
  | .hbm, ⟨16, _⟩ => ⟨S4096x4x704, .f32⟩
  | .hbm, ⟨17, _⟩ => ⟨S4x4096x704, .f32⟩
  | .hbm, ⟨18, _⟩ => ⟨S4x4096x704, .bf16⟩
  | .hbm, ⟨19, _⟩ => ⟨S4096x1024, .f32⟩
  | .hbm, ⟨20, _⟩ => ⟨S4x4096x704, .bf16⟩
  | .hbm, ⟨21, _⟩ => ⟨S4x4096x704, .bf16⟩
  | .hbm, ⟨22, _⟩ => ⟨S4x4096x704, .bf16⟩
  | .local _ .vmem, ⟨0, _⟩ => ⟨S1024x1024, .f32⟩
  | .local _ .vmem, ⟨1, _⟩ => ⟨S1024x1024, .f32⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1x704x1024, .bf16⟩
  | .local _ .vmem, ⟨10, _⟩ => ⟨S1x704x1024, .bf16⟩
  | .local _ .vmem, ⟨11, _⟩ => ⟨S1x704x1024, .bf16⟩
  | .local _ .vmem, ⟨12, _⟩ => ⟨S1024x1024, .f32⟩
  | .local _ .vmem, ⟨13, _⟩ => ⟨S1024x1024, .f32⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1x1024x704, .bf16⟩
  | .local _ .vmem, ⟨20, _⟩ => ⟨S1024x1024, .f32⟩
  | .local _ .vmem, ⟨21, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev main_v14_2 : Ref sig .tc := ⟨.hbm, 21, rfl⟩
abbrev main_v14_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v131 : BitVec 1 := Scalar.cmpi .eq arg1 c3_i32
  let v132 : BitVec 32 := Scalar.extui v131
  let c0_i32_87 : BitVec 32 := 0#32
  let v133 : BitVec 1 := Scalar.cmpi .ne v132 c0_i32_87
  v133

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S4096x1024 : Shape := ⟨2, ![4096, 1024]⟩
abbrev S4x704x1024 : Shape := ⟨3, ![4, 704, 1024]⟩
abbrev S2816x1024 : Shape := ⟨2, ![2816, 1024]⟩
abbrev S1024x2816 : Shape := ⟨2, ![1024, 2816]⟩
abbrev S_ : Shape := ⟨0, ![]⟩
abbrev S4096x2816 : Shape := ⟨2, ![4096, 2816]⟩
abbrev S4096x4x704 : Shape := ⟨3, ![4096, 4, 704]⟩
abbrev S4x4096x704 : Shape := ⟨3, ![4, 4096, 704]⟩

abbrev nBuf : Space → Nat
  | .hbm => 81
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x704x1024, .bf16⟩
  | .hbm, ⟨2, _⟩ => ⟨S4x704x1024, .bf16⟩
  | .hbm, ⟨3, _⟩ => ⟨S4x704x1024, .bf16⟩
  | .hbm, ⟨4, _⟩ => ⟨S4096x1024, .f32⟩
  | .hbm, ⟨5, _⟩ => ⟨S4x704x1024, .f32⟩
  | .hbm, ⟨6, _⟩ => ⟨S2816x1024, .f32⟩
  | .hbm, ⟨7, _⟩ => ⟨S1024x2816, .f32⟩
  | .hbm, ⟨8, _⟩ => ⟨S4x704x1024, .f32⟩
  | .hbm, ⟨9, _⟩ => ⟨S2816x1024, .f32⟩
  | .hbm, ⟨10, _⟩ => ⟨S1024x2816, .f32⟩
  | .hbm, ⟨11, _⟩ => ⟨S4x704x1024, .f32⟩
  | .hbm, ⟨12, _⟩ => ⟨S2816x1024, .f32⟩
  | .hbm, ⟨13, _⟩ => ⟨S_, .f32⟩
  | .hbm, ⟨14, _⟩ => ⟨S4096x2816, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x2816, .f32⟩
  | .hbm, ⟨61, _⟩ => ⟨S4096x2816, .f32⟩
  | .hbm, ⟨62, _⟩ => ⟨S4096x2816, .f32⟩
  | .hbm, ⟨63, _⟩ => ⟨S4096x2816, .f32⟩
  | .hbm, ⟨64, _⟩ => ⟨S_, .f32⟩
  | .hbm, ⟨65, _⟩ => ⟨S4096x2816, .f32⟩
  | .hbm, ⟨66, _⟩ => ⟨S4096x2816, .f32⟩
  | .hbm, ⟨67, _⟩ => ⟨S_, .f32⟩
  | .hbm, ⟨68, _⟩ => ⟨S4096x2816, .f32⟩
  | .hbm, ⟨69, _⟩ => ⟨S4096x2816, .f32⟩
  | .hbm, ⟨70, _⟩ => ⟨S4096x2816, .f32⟩
  | .hbm, ⟨71, _⟩ => ⟨S4096x2816, .f32⟩
  | .hbm, ⟨72, _⟩ => ⟨S4096x4x704, .f32⟩
  | .hbm, ⟨73, _⟩ => ⟨S4x4096x704, .f32⟩
  | .hbm, ⟨74, _⟩ => ⟨S4x4096x704, .bf16⟩
  | .hbm, ⟨75, _⟩ => ⟨S4096x4x704, .f32⟩
  | .hbm, ⟨76, _⟩ => ⟨S4x4096x704, .f32⟩
  | .hbm, ⟨77, _⟩ => ⟨S4x4096x704, .bf16⟩
  | .hbm, ⟨78, _⟩ => ⟨S4096x4x704, .f32⟩
  | .hbm, ⟨79, _⟩ => ⟨S4x4096x704, .f32⟩
  | .hbm, ⟨80, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_v15_2 : Ref sig .tc := ⟨.hbm, 29, rfl⟩
abbrev main_call0_cst_1 : Ref sig .tc := ⟨.hbm, 30, rfl⟩
abbrev main_call0_v6 : Ref sig .tc := ⟨.hbm, 31, rfl⟩
abbrev main_call0_v7 : Ref sig .tc := ⟨.hbm, 32, rfl⟩
abbrev main_v15_1 : Ref sig .tc := ⟨.hbm, 33, rfl⟩
abbrev main_v15_0 : Ref sig .tc := ⟨.hbm, 34, rfl⟩
abbrev main_v16 : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_3 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_call2_v0 : Ref sig .tc := ⟨.hbm, 62, rfl⟩
abbrev main_call2_v1 : Ref sig .tc := ⟨.hbm, 63, rfl⟩
abbrev main_call2_cst : Ref sig .tc := ⟨.hbm, 64, rfl⟩
abbrev main_call2_v2 : Ref sig .tc := ⟨.hbm, 65, rfl⟩
abbrev main_call2_v3 : Ref sig .tc := ⟨.hbm, 66, rfl⟩
abbrev main_call2_cst_0 : Ref sig .tc := ⟨.hbm, 67, rfl⟩
abbrev main_call2_v4 : Ref sig .tc := ⟨.hbm, 68, rfl⟩
abbrev main_call2_v5 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩

abbrev nD : Nat := 1
abbrev τ : Topo := Topo.v7x

variable {F : FTy → Type} [FloatOps F]
-- ==== Kernel3.lean ====
abbrev S4096x1024 : Shape := ⟨2, ![4096, 1024]⟩
abbrev S4x704x1024 : Shape := ⟨3, ![4, 704, 1024]⟩
abbrev S2816x1024 : Shape := ⟨2, ![2816, 1024]⟩
abbrev S1024x2816 : Shape := ⟨2, ![1024, 2816]⟩
abbrev S4096x2816 : Shape := ⟨2, ![4096, 2816]⟩
abbrev S_ : Shape := ⟨0, ![]⟩
abbrev S4096x4x704 : Shape := ⟨3, ![4096, 4, 704]⟩
abbrev S4x4096x704 : Shape := ⟨3, ![4, 4096, 704]⟩
abbrev S1x1024x704 : Shape := ⟨3, ![1, 1024, 704]⟩
abbrev S1024x1024 : Shape := ⟨2, ![1024, 1024]⟩
abbrev S1x704x1024 : Shape := ⟨3, ![1, 704, 1024]⟩
abbrev S704x1024 : Shape := ⟨2, ![704, 1024]⟩
abbrev S1024x704 : Shape := ⟨2, ![1024, 704]⟩

abbrev nBuf : Space → Nat
  | .hbm => 52
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4x704x1024, .bf16⟩
  | .hbm, ⟨2, _⟩ => ⟨S4x704x1024, .bf16⟩
  | .hbm, ⟨3, _⟩ => ⟨S4x704x1024, .bf16⟩
  | .hbm, ⟨4, _⟩ => ⟨S4096x1024, .f32⟩
  | .hbm, ⟨5, _⟩ => ⟨S4x704x1024, .f32⟩
  | .hbm, ⟨6, _⟩ => ⟨S2816x1024, .f32⟩
  | .hbm, ⟨7, _⟩ => ⟨S1024x2816, .f32⟩
  | .hbm, ⟨8, _⟩ => ⟨S4096x2816, .f32⟩
  | .hbm, ⟨9, _⟩ => ⟨S4x704x1024, .f32⟩
  | .hbm, ⟨10, _⟩ => ⟨S2816x1024, .f32⟩
  | .hbm, ⟨11, _⟩ => ⟨S1024x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S_, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4x704x1024, .f32⟩
  | .hbm, ⟨31, _⟩ => ⟨S2816x1024, .f32⟩
  | .hbm, ⟨32, _⟩ => ⟨S1024x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x4x704, .f32⟩
  | .hbm, ⟨41, _⟩ => ⟨S4x4096x704, .f32⟩
  | .hbm, ⟨42, _⟩ => ⟨S4x4096x704, .bf16⟩
  | .hbm, ⟨43, _⟩ => ⟨S4096x4x704, .f32⟩
  | .hbm, ⟨44, _⟩ => ⟨S4x4096x704, .f32⟩
  | .hbm, ⟨45, _⟩ => ⟨S4x4096x704, .bf16⟩
  | .hbm, ⟨46, _⟩ => ⟨S4096x4x704, .f32⟩
  | .hbm, ⟨47, _⟩ => ⟨S4x4096x704, .f32⟩
  | .hbm, ⟨48, _⟩ => ⟨S4x4096x704, .bf16⟩
  | .hbm, ⟨49, _⟩ => ⟨S4x704x1024, .bf16⟩
  | .hbm, ⟨50, _⟩ => ⟨S4x704x1024, .bf16⟩
  | .hbm, ⟨51, _⟩ => ⟨S4x704x1024, .bf16⟩
  | .local _ .vmem, ⟨0, _⟩ => ⟨S1x1024x704, .bf16⟩
  | .local _ .vmem, ⟨1, _⟩ => ⟨S1x1024x704, .bf16⟩
  | .local _ .vmem, ⟨2, _⟩ => ⟨S1024x1024, .f32⟩
  | .local _ .vmem, ⟨3, _⟩ => ⟨S1024x1024, .f32⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1024x1024, .f32⟩
  | .local _ .vmem, ⟨9, _⟩ => ⟨S1024x1024, .f32⟩
  | .local _ .vmem, ⟨10, _⟩ => ⟨S1x704x1024, .bf16⟩
  | .local _ .vmem, ⟨11, _⟩ => ⟨S1x704x1024, .bf16⟩
  | .local _ .vmem, ⟨12, _⟩ => ⟨S1x704x1024, .bf16⟩
  | .local _ .vmem, ⟨13, _⟩ => ⟨S1x704x1024, .bf16⟩
  | .local _ .vmem, ⟨14, _⟩ => ⟨S1x704x1024, .bf16⟩
  | .local _ .vmem, ⟨15, _⟩ => ⟨S1x704x1024, .bf16⟩
  | .local _ .vmem, ⟨16, _⟩ => ⟨S704x1024, .f32⟩
  | .local _ .vmem, ⟨17, _⟩ => ⟨S704x1024, .f32⟩
  | .local _ .vmem, ⟨18, _⟩ => ⟨S704x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_v8_2 : Ref sig .tc := ⟨.hbm, 20, rfl⟩
abbrev main_call0_cst_1 : Ref sig .tc := ⟨.hbm, 21, rfl⟩
abbrev main_call0_v6 : Ref sig .tc := ⟨.hbm, 22, rfl⟩
abbrev main_call0_v7 : Ref sig .tc := ⟨.hbm, 23, rfl⟩
abbrev main_v8_1 : Ref sig .tc := ⟨.hbm, 24, rfl⟩
abbrev main_v8_0 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28_0 : Ref sig .tc := ⟨.hbm, 49, rfl⟩
abbrev main_v28_1 : Ref sig .tc := ⟨.hbm, 50, rfl⟩
abbrev main_v28_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_7 : BitVec 32 := 0#32
  let v13 : BitVec 1 := Scalar.cmpi .ne v12 c0_i32_7
  v13

def k0_cond6 (i : grid0.Coords) : BitVec 1 :=
  let arg1 : BitVec 32 := BitVec.ofNat 32 (i 1).val
  let c3_i32_18 : BitVec 32 := 3#32
  let v25 : BitVec 1 := Scalar.cmpi .eq arg1 c3_i32_18
  let v26 : BitVec 32 := Scalar.extui v25
  let c0_i32_19 : BitVec 32 := 0#32
  let v27 : BitVec 1 := Scalar.cmpi .ne v26 c0_i32_19
  v27

def k0_cond9 (i : grid0.Coords) : BitVec 1 :=
  let arg1 : BitVec 32 := BitVec.ofNat 32 (i 1).val
  let c3_i32_30 : BitVec 32 := 3#32
  let v39 : BitVec 1 := Scalar.cmpi .eq arg1 c3_i32_30
  let v40 : BitVec 32 := Scalar.extui v39
  let c0_i32_31 : BitVec 32 := 0#32
  let v41 : BitVec 1 := Scalar.cmpi .ne v40 c0_i32_31
  v41

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference3Ideal.lean ====
abbrev S4096x1024 : Shape := ⟨2, ![4096, 1024]⟩
abbrev S4x704x1024 : Shape := ⟨3, ![4, 704, 1024]⟩
abbrev S2816x1024 : Shape := ⟨2, ![2816, 1024]⟩
abbrev S1024x2816 : Shape := ⟨2, ![1024, 2816]⟩
abbrev S_ : Shape := ⟨0, ![]⟩
abbrev S4096x2816 : Shape := ⟨2, ![4096, 2816]⟩

abbrev nBuf : Space → Nat
  | .hbm => 61
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x704x1024, .bf16⟩
  | .hbm, ⟨2, _⟩ => ⟨S4x704x1024, .bf16⟩
  | .hbm, ⟨3, _⟩ => ⟨S4x704x1024, .bf16⟩
  | .hbm, ⟨4, _⟩ => ⟨S4096x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S1024x2816, .f32⟩
  | .hbm, ⟨12, _⟩ => ⟨S2816x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S_, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S1024x2816, .f32⟩
  | .hbm, ⟨41, _⟩ => ⟨S2816x1024, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S2816x1024, .f32⟩
  | .hbm, ⟨46, _⟩ => ⟨S1024x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S2816x1024, .f32⟩
  | .hbm, ⟨52, _⟩ => ⟨S1024x2816, .f32⟩
  | .hbm, ⟨53, _⟩ => ⟨S4x704x1024, .f32⟩
  | .hbm, ⟨54, _⟩ => ⟨S2816x1024, .f32⟩
  | .hbm, ⟨55, _⟩ => ⟨S4x704x1024, .f32⟩
  | .hbm, ⟨56, _⟩ => ⟨S2816x1024, .f32⟩
  | .hbm, ⟨57, _⟩ => ⟨S4x704x1024, .f32⟩
  | .hbm, ⟨58, _⟩ => ⟨S4x704x1024, .bf16⟩
  | .hbm, ⟨59, _⟩ => ⟨S4x704x1024, .bf16⟩
  | .hbm, ⟨60, _⟩ => ⟨S4x704x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_v11_2 : Ref sig .tc := ⟨.hbm, 24, rfl⟩
abbrev main_call0_cst_1 : Ref sig .tc := ⟨.hbm, 25, rfl⟩
abbrev main_call0_v6 : Ref sig .tc := ⟨.hbm, 26, rfl⟩
abbrev main_call0_v7 : Ref sig .tc := ⟨.hbm, 27, rfl⟩
abbrev main_v11_1 : Ref sig .tc := ⟨.hbm, 28, rfl⟩
abbrev main_v11_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩

abbrev nD : Nat := 1
abbrev τ : Topo := Topo.v7x

variable {F : FTy → Type} [FloatOps F]
-- ==== Kernel4.lean ====
abbrev S4096x1024 : Shape := ⟨2, ![4096, 1024]⟩
abbrev S4x704x1024 : Shape := ⟨3, ![4, 704, 1024]⟩
abbrev S1x1024 : Shape := ⟨2, ![1, 1024]⟩
abbrev S4096x1 : Shape := ⟨2, ![4096, 1]⟩
abbrev S4x4096x704 : Shape := ⟨3, ![4, 4096, 704]⟩
abbrev S1024x1024 : Shape := ⟨2, ![1024, 1024]⟩
abbrev S1x704x1024 : Shape := ⟨3, ![1, 704, 1024]⟩
abbrev S1024x1 : Shape := ⟨2, ![1024, 1]⟩
abbrev S1x1024x704 : Shape := ⟨3, ![1, 1024, 704]⟩
abbrev S1x256x1024 : Shape := ⟨3, ![1, 256, 1024]⟩
abbrev S256x1024 : Shape := ⟨2, ![256, 1024]⟩
abbrev S1024x256 : Shape := ⟨2, ![1024, 256]⟩
abbrev S1x1024x256 : Shape := ⟨3, ![1, 1024, 256]⟩
abbrev S1x192x1024 : Shape := ⟨3, ![1, 192, 1024]⟩
abbrev S192x1024 : Shape := ⟨2, ![192, 1024]⟩
abbrev S1024x192 : Shape := ⟨2, ![1024, 192]⟩
abbrev S1x1024x192 : Shape := ⟨3, ![1, 1024, 192]⟩
abbrev S1024 : Shape := ⟨1, ![1024]⟩

abbrev nBuf : Space → Nat
  | .hbm => 11
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4x704x1024, .bf16⟩
  | .hbm, ⟨2, _⟩ => ⟨S4x704x1024, .bf16⟩
  | .hbm, ⟨3, _⟩ => ⟨S4x704x1024, .bf16⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1, .f32⟩
  | .hbm, ⟨9, _⟩ => ⟨S4x4096x704, .bf16⟩
  | .hbm, ⟨10, _⟩ => ⟨S4x4096x704, .bf16⟩
  | .local _ .vmem, ⟨0, _⟩ => ⟨S1024x1024, .f32⟩
  | .local _ .vmem, ⟨1, _⟩ => ⟨S1024x1024, .f32⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1, .f32⟩
  | .local _ .vmem, ⟨15, _⟩ => ⟨S1024x1, .f32⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1x1024x704, .bf16⟩
  | .local _ .vmem, ⟨20, _⟩ => ⟨S1024x1024, .f32⟩
  | .local _ .vmem, ⟨21, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v74 : BitVec 1 := Scalar.cmpi .eq arg1 c3_i32
  let v75 : BitVec 32 := Scalar.extui v74
  let c0_i32_57 : BitVec 32 := 0#32
  let v76 : BitVec 1 := Scalar.cmpi .ne v75 c0_i32_57
  v76

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference4Ideal.lean ====
abbrev S4096x1024 : Shape := ⟨2, ![4096, 1024]⟩
abbrev S4x704x1024 : Shape := ⟨3, ![4, 704, 1024]⟩
abbrev S1x1024 : Shape := ⟨2, ![1, 1024]⟩
abbrev S2816x1024 : Shape := ⟨2, ![2816, 1024]⟩
abbrev S1024x2816 : Shape := ⟨2, ![1024, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S4096x4x704 : Shape := ⟨3, ![4096, 4, 704]⟩
abbrev S4x4096x704 : Shape := ⟨3, ![4, 4096, 704]⟩

abbrev nBuf : Space → Nat
  | .hbm => 67
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x704x1024, .bf16⟩
  | .hbm, ⟨2, _⟩ => ⟨S4x704x1024, .bf16⟩
  | .hbm, ⟨3, _⟩ => ⟨S4x704x1024, .bf16⟩
  | .hbm, ⟨4, _⟩ => ⟨S1x1024, .f32⟩
  | .hbm, ⟨5, _⟩ => ⟨S1x1024, .f32⟩
  | .hbm, ⟨6, _⟩ => ⟨S4x704x1024, .f32⟩
  | .hbm, ⟨7, _⟩ => ⟨S2816x1024, .f32⟩
  | .hbm, ⟨8, _⟩ => ⟨S1024x2816, .f32⟩
  | .hbm, ⟨9, _⟩ => ⟨S4096x2816, .f32⟩
  | .hbm, ⟨10, _⟩ => ⟨S4x704x1024, .f32⟩
  | .hbm, ⟨11, _⟩ => ⟨S2816x1024, .f32⟩
  | .hbm, ⟨12, _⟩ => ⟨S1024x2816, .f32⟩
  | .hbm, ⟨13, _⟩ => ⟨S4096x2816, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S_, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4x704x1024, .f32⟩
  | .hbm, ⟨28, _⟩ => ⟨S2816x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x4x704, .f32⟩
  | .hbm, ⟨62, _⟩ => ⟨S4x4096x704, .f32⟩
  | .hbm, ⟨63, _⟩ => ⟨S4x4096x704, .bf16⟩
  | .hbm, ⟨64, _⟩ => ⟨S4096x4x704, .f32⟩
  | .hbm, ⟨65, _⟩ => ⟨S4x4096x704, .f32⟩
  | .hbm, ⟨66, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩

abbrev nD : Nat := 1
abbrev τ : Topo := Topo.v7x

variable {F : FTy → Type} [FloatOps F]
-- ==== Kernel5.lean ====
abbrev S4096x1024 : Shape := ⟨2, ![4096, 1024]⟩
abbrev S3x4096x1024 : Shape := ⟨3, ![3, 4096, 1024]⟩
abbrev S1024x3072 : Shape := ⟨2, ![1024, 3072]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S3x4096x1024, .bf16⟩
  | .hbm, ⟨2, _⟩ => ⟨S1024x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S4096x1024 : Shape := ⟨2, ![4096, 1024]⟩
abbrev S3x4096x1024 : Shape := ⟨3, ![3, 4096, 1024]⟩
abbrev S_ : Shape := ⟨0, ![]⟩
abbrev S1024x3072 : Shape := ⟨2, ![1024, 3072]⟩
abbrev S4096x3072 : Shape := ⟨2, ![4096, 3072]⟩
abbrev S4096x3x1024 : Shape := ⟨3, ![4096, 3, 1024]⟩
abbrev S3072x1024 : Shape := ⟨2, ![3072, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S3x4096x1024, .bf16⟩
  | .hbm, ⟨2, _⟩ => ⟨S_, .f32⟩
  | .hbm, ⟨3, _⟩ => ⟨S1024x3072, .f32⟩
  | .hbm, ⟨4, _⟩ => ⟨S4096x1024, .f32⟩
  | .hbm, ⟨5, _⟩ => ⟨S4096x3072, .f32⟩
  | .hbm, ⟨6, _⟩ => ⟨S4096x3x1024, .f32⟩
  | .hbm, ⟨7, _⟩ => ⟨S3x4096x1024, .f32⟩
  | .hbm, ⟨8, _⟩ => ⟨S3x4096x1024, .f32⟩
  | .hbm, ⟨9, _⟩ => ⟨S4096x3x1024, .f32⟩
  | .hbm, ⟨10, _⟩ => ⟨S4096x3072, .f32⟩
  | .hbm, ⟨11, _⟩ => ⟨S3072x1024, .f32⟩
  | .hbm, ⟨12, _⟩ => ⟨S1024x3072, .f32⟩
  | .hbm, ⟨13, _⟩ => ⟨S1024x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel6.lean ====
abbrev S1 : Shape := ⟨1, ![1]⟩
abbrev S2x2x352x1024 : Shape := ⟨4, ![2, 2, 352, 1024]⟩
abbrev S352x1024 : Shape := ⟨2, ![352, 1024]⟩
abbrev S1x1x352x1024 : Shape := ⟨4, ![1, 1, 352, 1024]⟩

abbrev nBuf : Space → Nat
  | .hbm => 11
  | .vmem => 22
  | .smem => 1
  | _ => 0

abbrev bufTy : (tb : Table) → Fin (tcTables nBuf tb) → BufTy
  | .hbm, ⟨0, _⟩ => ⟨S2x2x352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S2x2x352x1024, .f32⟩
  | .hbm, ⟨6, _⟩ => ⟨S2x2x352x1024, .f32⟩
  | .hbm, ⟨7, _⟩ => ⟨S2x2x352x1024, .f32⟩
  | .hbm, ⟨8, _⟩ => ⟨S2x2x352x1024, .f32⟩
  | .hbm, ⟨9, _⟩ => ⟨S2x2x352x1024, .f32⟩
  | .hbm, ⟨10, _⟩ => ⟨S2x2x352x1024, .f32⟩
  | .local _ .vmem, ⟨0, _⟩ => ⟨S1x1x352x1024, .f32⟩
  | .local _ .vmem, ⟨1, _⟩ => ⟨S1x1x352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S1x1x352x1024, .f32⟩
  | .local _ .vmem, ⟨11, _⟩ => ⟨S1x1x352x1024, .f32⟩
  | .local _ .vmem, ⟨12, _⟩ => ⟨S1x1x352x1024, .f32⟩
  | .local _ .vmem, ⟨13, _⟩ => ⟨S1x1x352x1024, .f32⟩
  | .local _ .vmem, ⟨14, _⟩ => ⟨S1x1x352x1024, .f32⟩
  | .local _ .vmem, ⟨15, _⟩ => ⟨S1x1x352x1024, .f32⟩
  | .local _ .vmem, ⟨16, _⟩ => ⟨S1x1x352x1024, .f32⟩
  | .local _ .vmem, ⟨17, _⟩ => ⟨S1x1x352x1024, .f32⟩
  | .local _ .vmem, ⟨18, _⟩ => ⟨S1x1x352x1024, .f32⟩
  | .local _ .vmem, ⟨19, _⟩ => ⟨S1x1x352x1024, .f32⟩
  | .local _ .vmem, ⟨20, _⟩ => ⟨S1x1x352x1024, .f32⟩
  | .local _ .vmem, ⟨21, _⟩ => ⟨S1x1x352x1024, .f32⟩
  | .local _ .smem, ⟨0, _⟩ => ⟨S1, .i32⟩
  | _, _ => ⟨S2x2x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 2, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg2 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg2 c0_i32_0
  let c0_i32_1 : BitVec 32 := 0#32
  let c0_i32_2 : BitVec 32 := 0#32
  ![v1.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c0_i32 : BitVec 32 := 0#32
  let v1 : BitVec 32 := Scalar.select v0 arg2 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c0_i32 : BitVec 32 := 0#32
  let v1 : BitVec 32 := Scalar.select v0 arg2 c0_i32
  let c0_i32_0 : BitVec 32 := 0#32
  let c0_i32_1 : BitVec 32 := 0#32
  ![v1.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x352x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x352x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== Reference6Ideal.lean ====
abbrev S1 : Shape := ⟨1, ![1]⟩
abbrev S2x2x352x1024 : Shape := ⟨4, ![2, 2, 352, 1024]⟩
abbrev S352x1024 : Shape := ⟨2, ![352, 1024]⟩
abbrev S2 : Shape := ⟨1, ![2]⟩
abbrev S2x1x1 : Shape := ⟨3, ![2, 1, 1]⟩
abbrev S_ : Shape := ⟨0, ![]⟩
abbrev S2x352x1024 : Shape := ⟨3, ![2, 352, 1024]⟩
abbrev S1x2x352x1024 : Shape := ⟨4, ![1, 2, 352, 1024]⟩

abbrev nBuf : Space → Nat
  | .hbm => 62
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x2x352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S2x2x352x1024, .f32⟩
  | .hbm, ⟨7, _⟩ => ⟨S2x2x352x1024, .f32⟩
  | .hbm, ⟨8, _⟩ => ⟨S2, .i32⟩
  | .hbm, ⟨9, _⟩ => ⟨S2x1x1, .i32⟩
  | .hbm, ⟨10, _⟩ => ⟨S_, .i32⟩
  | .hbm, ⟨11, _⟩ => ⟨S2x1x1, .i32⟩
  | .hbm, ⟨12, _⟩ => ⟨S2x1x1, .i1⟩
  | .hbm, ⟨13, _⟩ => ⟨S2x352x1024, .i1⟩
  | .hbm, ⟨14, _⟩ => ⟨S2x352x1024, .f32⟩
  | .hbm, ⟨15, _⟩ => ⟨S2x352x1024, .f32⟩
  | .hbm, ⟨16, _⟩ => ⟨S2x352x1024, .f32⟩
  | .hbm, ⟨17, _⟩ => ⟨S2, .i32⟩
  | .hbm, ⟨18, _⟩ => ⟨S2x1x1, .i32⟩
  | .hbm, ⟨19, _⟩ => ⟨S_, .i32⟩
  | .hbm, ⟨20, _⟩ => ⟨S2x1x1, .i32⟩
  | .hbm, ⟨21, _⟩ => ⟨S2x1x1, .i1⟩
  | .hbm, ⟨22, _⟩ => ⟨S2x352x1024, .i1⟩
  | .hbm, ⟨23, _⟩ => ⟨S2x352x1024, .f32⟩
  | .hbm, ⟨24, _⟩ => ⟨S2x352x1024, .f32⟩
  | .hbm, ⟨25, _⟩ => ⟨S2x352x1024, .f32⟩
  | .hbm, ⟨26, _⟩ => ⟨S1x2x352x1024, .f32⟩
  | .hbm, ⟨27, _⟩ => ⟨S1x2x352x1024, .f32⟩
  | .hbm, ⟨28, _⟩ => ⟨S2x2x352x1024, .f32⟩
  | .hbm, ⟨29, _⟩ => ⟨S_, .f32⟩
  | .hbm, ⟨30, _⟩ => ⟨S2x2x352x1024, .f32⟩
  | .hbm, ⟨31, _⟩ => ⟨S2x2x352x1024, .f32⟩
  | .hbm, ⟨32, _⟩ => ⟨S_, .f32⟩
  | .hbm, ⟨33, _⟩ => ⟨S2x2x352x1024, .f32⟩
  | .hbm, ⟨34, _⟩ => ⟨S2x2x352x1024, .f32⟩
  | .hbm, ⟨35, _⟩ => ⟨S2x2x352x1024, .f32⟩
  | .hbm, ⟨36, _⟩ => ⟨S_, .f32⟩
  | .hbm, ⟨37, _⟩ => ⟨S2x2x352x1024, .f32⟩
  | .hbm, ⟨38, _⟩ => ⟨S2x2x352x1024, .f32⟩
  | .hbm, ⟨39, _⟩ => ⟨S2x2x352x1024, .f32⟩
  | .hbm, ⟨40, _⟩ => ⟨S_, .f32⟩
  | .hbm, ⟨41, _⟩ => ⟨S2x2x352x1024, .f32⟩
  | .hbm, ⟨42, _⟩ => ⟨S2x2x352x1024, .f32⟩
  | .hbm, ⟨43, _⟩ => ⟨S2x2x352x1024, .f32⟩
  | .hbm, ⟨44, _⟩ => ⟨S_, .f32⟩
  | .hbm, ⟨45, _⟩ => ⟨S2x2x352x1024, .f32⟩
  | .hbm, ⟨46, _⟩ => ⟨S2x2x352x1024, .f32⟩
  | .hbm, ⟨47, _⟩ => ⟨S_, .f32⟩
  | .hbm, ⟨48, _⟩ => ⟨S2x2x352x1024, .f32⟩
  | .hbm, ⟨49, _⟩ => ⟨S2x2x352x1024, .f32⟩
  | .hbm, ⟨50, _⟩ => ⟨S2x2x352x1024, .f32⟩
  | .hbm, ⟨51, _⟩ => ⟨S_, .f32⟩
  | .hbm, ⟨52, _⟩ => ⟨S2x2x352x1024, .f32⟩
  | .hbm, ⟨53, _⟩ => ⟨S2x2x352x1024, .f32⟩
  | .hbm, ⟨54, _⟩ => ⟨S2x2x352x1024, .f32⟩
  | .hbm, ⟨55, _⟩ => ⟨S_, .f32⟩
  | .hbm, ⟨56, _⟩ => ⟨S2x2x352x1024, .f32⟩
  | .hbm, ⟨57, _⟩ => ⟨S2x2x352x1024, .f32⟩
  | .hbm, ⟨58, _⟩ => ⟨S2x2x352x1024, .f32⟩
  | .hbm, ⟨59, _⟩ => ⟨S_, .f32⟩
  | .hbm, ⟨60, _⟩ => ⟨S2x2x352x1024, .f32⟩
  | .hbm, ⟨61, _⟩ => ⟨S2x2x352x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩

abbrev nD : Nat := 1
abbrev τ : Topo := Topo.v7x

variable {F : FTy → Type} [FloatOps F]
-- ==== Kernel7.lean ====
abbrev S1 : Shape := ⟨1, ![1]⟩
abbrev S1x2x128x1024 : Shape := ⟨4, ![1, 2, 128, 1024]⟩
abbrev S128x1024 : Shape := ⟨2, ![128, 1024]⟩
abbrev S1x1x128x1024 : Shape := ⟨4, ![1, 1, 128, 1024]⟩

abbrev nBuf : Space → Nat
  | .hbm => 9
  | .vmem => 16
  | .smem => 1
  | _ => 0

abbrev bufTy : (tb : Table) → Fin (tcTables nBuf tb) → BufTy
  | .hbm, ⟨0, _⟩ => ⟨S1x2x128x1024, .f32⟩
  | .hbm, ⟨1, _⟩ => ⟨S128x1024, .f32⟩
  | .hbm, ⟨2, _⟩ => ⟨S128x1024, .f32⟩
  | .hbm, ⟨3, _⟩ => ⟨S1x2x128x1024, .f32⟩
  | .hbm, ⟨4, _⟩ => ⟨S1x2x128x1024, .f32⟩
  | .hbm, ⟨5, _⟩ => ⟨S1x2x128x1024, .f32⟩
  | .hbm, ⟨6, _⟩ => ⟨S1x2x128x1024, .f32⟩
  | .hbm, ⟨7, _⟩ => ⟨S1x2x128x1024, .f32⟩
  | .hbm, ⟨8, _⟩ => ⟨S1x2x128x1024, .f32⟩
  | .local _ .vmem, ⟨0, _⟩ => ⟨S1x1x128x1024, .f32⟩
  | .local _ .vmem, ⟨1, _⟩ => ⟨S1x1x128x1024, .f32⟩
  | .local _ .vmem, ⟨2, _⟩ => ⟨S128x1024, .f32⟩
  | .local _ .vmem, ⟨3, _⟩ => ⟨S128x1024, .f32⟩
  | .local _ .vmem, ⟨4, _⟩ => ⟨S1x1x128x1024, .f32⟩
  | .local _ .vmem, ⟨5, _⟩ => ⟨S1x1x128x1024, .f32⟩
  | .local _ .vmem, ⟨6, _⟩ => ⟨S1x1x128x1024, .f32⟩
  | .local _ .vmem, ⟨7, _⟩ => ⟨S1x1x128x1024, .f32⟩
  | .local _ .vmem, ⟨8, _⟩ => ⟨S1x1x128x1024, .f32⟩
  | .local _ .vmem, ⟨9, _⟩ => ⟨S1x1x128x1024, .f32⟩
  | .local _ .vmem, ⟨10, _⟩ => ⟨S1x1x128x1024, .f32⟩
  | .local _ .vmem, ⟨11, _⟩ => ⟨S1x1x128x1024, .f32⟩
  | .local _ .vmem, ⟨12, _⟩ => ⟨S1x1x128x1024, .f32⟩
  | .local _ .vmem, ⟨13, _⟩ => ⟨S1x1x128x1024, .f32⟩
  | .local _ .vmem, ⟨14, _⟩ => ⟨S1x1x128x1024, .f32⟩
  | .local _ .vmem, ⟨15, _⟩ => ⟨S1x1x128x1024, .f32⟩
  | .local _ .smem, ⟨0, _⟩ => ⟨S1, .i32⟩
  | _, _ => ⟨S1x2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![1, 2, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg2 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg2 c0_i32_0
  let c0_i32_1 : BitVec 32 := 0#32
  let c0_i32_2 : BitVec 32 := 0#32
  ![v1.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, true]

abbrev stage0_3 : Fin 2 → Memref sig .tc .vmem S1x1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference7Ideal.lean ====
abbrev S1 : Shape := ⟨1, ![1]⟩
abbrev S1x2x128x1024 : Shape := ⟨4, ![1, 2, 128, 1024]⟩
abbrev S128x1024 : Shape := ⟨2, ![128, 1024]⟩
abbrev S2 : Shape := ⟨1, ![2]⟩
abbrev S2x1x1 : Shape := ⟨3, ![2, 1, 1]⟩
abbrev S_ : Shape := ⟨0, ![]⟩
abbrev S2x128x1024 : Shape := ⟨3, ![2, 128, 1024]⟩

abbrev nBuf : Space → Nat
  | .hbm => 49
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x2x128x1024, .f32⟩
  | .hbm, ⟨2, _⟩ => ⟨S128x1024, .f32⟩
  | .hbm, ⟨3, _⟩ => ⟨S128x1024, .f32⟩
  | .hbm, ⟨4, _⟩ => ⟨S1x2x128x1024, .f32⟩
  | .hbm, ⟨5, _⟩ => ⟨S1x2x128x1024, .f32⟩
  | .hbm, ⟨6, _⟩ => ⟨S2, .i32⟩
  | .hbm, ⟨7, _⟩ => ⟨S2x1x1, .i32⟩
  | .hbm, ⟨8, _⟩ => ⟨S_, .i32⟩
  | .hbm, ⟨9, _⟩ => ⟨S2x1x1, .i32⟩
  | .hbm, ⟨10, _⟩ => ⟨S2x1x1, .i1⟩
  | .hbm, ⟨11, _⟩ => ⟨S2x128x1024, .i1⟩
  | .hbm, ⟨12, _⟩ => ⟨S2x128x1024, .f32⟩
  | .hbm, ⟨13, _⟩ => ⟨S2x128x1024, .f32⟩
  | .hbm, ⟨14, _⟩ => ⟨S2x128x1024, .f32⟩
  | .hbm, ⟨15, _⟩ => ⟨S1x2x128x1024, .f32⟩
  | .hbm, ⟨16, _⟩ => ⟨S_, .f32⟩
  | .hbm, ⟨17, _⟩ => ⟨S1x2x128x1024, .f32⟩
  | .hbm, ⟨18, _⟩ => ⟨S1x2x128x1024, .f32⟩
  | .hbm, ⟨19, _⟩ => ⟨S_, .f32⟩
  | .hbm, ⟨20, _⟩ => ⟨S1x2x128x1024, .f32⟩
  | .hbm, ⟨21, _⟩ => ⟨S1x2x128x1024, .f32⟩
  | .hbm, ⟨22, _⟩ => ⟨S1x2x128x1024, .f32⟩
  | .hbm, ⟨23, _⟩ => ⟨S_, .f32⟩
  | .hbm, ⟨24, _⟩ => ⟨S1x2x128x1024, .f32⟩
  | .hbm, ⟨25, _⟩ => ⟨S1x2x128x1024, .f32⟩
  | .hbm, ⟨26, _⟩ => ⟨S1x2x128x1024, .f32⟩
  | .hbm, ⟨27, _⟩ => ⟨S_, .f32⟩
  | .hbm, ⟨28, _⟩ => ⟨S1x2x128x1024, .f32⟩
  | .hbm, ⟨29, _⟩ => ⟨S1x2x128x1024, .f32⟩
  | .hbm, ⟨30, _⟩ => ⟨S1x2x128x1024, .f32⟩
  | .hbm, ⟨31, _⟩ => ⟨S_, .f32⟩
  | .hbm, ⟨32, _⟩ => ⟨S1x2x128x1024, .f32⟩
  | .hbm, ⟨33, _⟩ => ⟨S1x2x128x1024, .f32⟩
  | .hbm, ⟨34, _⟩ => ⟨S_, .f32⟩
  | .hbm, ⟨35, _⟩ => ⟨S1x2x128x1024, .f32⟩
  | .hbm, ⟨36, _⟩ => ⟨S1x2x128x1024, .f32⟩
  | .hbm, ⟨37, _⟩ => ⟨S1x2x128x1024, .f32⟩
  | .hbm, ⟨38, _⟩ => ⟨S_, .f32⟩
  | .hbm, ⟨39, _⟩ => ⟨S1x2x128x1024, .f32⟩
  | .hbm, ⟨40, _⟩ => ⟨S1x2x128x1024, .f32⟩
  | .hbm, ⟨41, _⟩ => ⟨S1x2x128x1024, .f32⟩
  | .hbm, ⟨42, _⟩ => ⟨S_, .f32⟩
  | .hbm, ⟨43, _⟩ => ⟨S1x2x128x1024, .f32⟩
  | .hbm, ⟨44, _⟩ => ⟨S1x2x128x1024, .f32⟩
  | .hbm, ⟨45, _⟩ => ⟨S1x2x128x1024, .f32⟩
  | .hbm, ⟨46, _⟩ => ⟨S_, .f32⟩
  | .hbm, ⟨47, _⟩ => ⟨S1x2x128x1024, .f32⟩
  | .hbm, ⟨48, _⟩ => ⟨S1x2x128x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== Kernel8.lean ====
abbrev S1 : Shape := ⟨1, ![1]⟩
abbrev S1x2x512x2304 : Shape := ⟨4, ![1, 2, 512, 2304]⟩
abbrev S512x2304 : Shape := ⟨2, ![512, 2304]⟩
abbrev S1x1x128x2304 : Shape := ⟨4, ![1, 1, 128, 2304]⟩
abbrev S128x2304 : Shape := ⟨2, ![128, 2304]⟩

abbrev nBuf : Space → Nat
  | .hbm => 9
  | .vmem => 18
  | .smem => 1
  | _ => 0

abbrev bufTy : (tb : Table) → Fin (tcTables nBuf tb) → BufTy
  | .hbm, ⟨0, _⟩ => ⟨S1x2x512x2304, .f32⟩
  | .hbm, ⟨1, _⟩ => ⟨S512x2304, .f32⟩
  | .hbm, ⟨2, _⟩ => ⟨S512x2304, .f32⟩
  | .hbm, ⟨3, _⟩ => ⟨S1x2x512x2304, .f32⟩
  | .hbm, ⟨4, _⟩ => ⟨S1x2x512x2304, .f32⟩
  | .hbm, ⟨5, _⟩ => ⟨S1x2x512x2304, .f32⟩
  | .hbm, ⟨6, _⟩ => ⟨S1x2x512x2304, .f32⟩
  | .hbm, ⟨7, _⟩ => ⟨S1x2x512x2304, .f32⟩
  | .hbm, ⟨8, _⟩ => ⟨S1x2x512x2304, .f32⟩
  | .local _ .vmem, ⟨0, _⟩ => ⟨S1x1x128x2304, .f32⟩
  | .local _ .vmem, ⟨1, _⟩ => ⟨S1x1x128x2304, .f32⟩
  | .local _ .vmem, ⟨2, _⟩ => ⟨S128x2304, .f32⟩
  | .local _ .vmem, ⟨3, _⟩ => ⟨S128x2304, .f32⟩
  | .local _ .vmem, ⟨4, _⟩ => ⟨S128x2304, .f32⟩
  | .local _ .vmem, ⟨5, _⟩ => ⟨S128x2304, .f32⟩
  | .local _ .vmem, ⟨6, _⟩ => ⟨S1x1x128x2304, .f32⟩
  | .local _ .vmem, ⟨7, _⟩ => ⟨S1x1x128x2304, .f32⟩
  | .local _ .vmem, ⟨8, _⟩ => ⟨S1x1x128x2304, .f32⟩
  | .local _ .vmem, ⟨9, _⟩ => ⟨S1x1x128x2304, .f32⟩
  | .local _ .vmem, ⟨10, _⟩ => ⟨S1x1x128x2304, .f32⟩
  | .local _ .vmem, ⟨11, _⟩ => ⟨S1x1x128x2304, .f32⟩
  | .local _ .vmem, ⟨12, _⟩ => ⟨S1x1x128x2304, .f32⟩
  | .local _ .vmem, ⟨13, _⟩ => ⟨S1x1x128x2304, .f32⟩
  | .local _ .vmem, ⟨14, _⟩ => ⟨S1x1x128x2304, .f32⟩
  | .local _ .vmem, ⟨15, _⟩ => ⟨S1x1x128x2304, .f32⟩
  | .local _ .vmem, ⟨16, _⟩ => ⟨S1x1x128x2304, .f32⟩
  | .local _ .vmem, ⟨17, _⟩ => ⟨S1x1x128x2304, .f32⟩
  | .local _ .smem, ⟨0, _⟩ => ⟨S1, .i32⟩
  | _, _ => ⟨S1x2x512x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![1, 2, 4], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg2 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg2 c0_i32_0
  let c0_i32_1 : BitVec 32 := 0#32
  let c0_i32_2 : BitVec 32 := 0#32
  ![v1.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x128x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S128x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x128x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x128x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x128x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x128x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x128x2304 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x128x2304 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference8Ideal.lean ====
abbrev S1 : Shape := ⟨1, ![1]⟩
abbrev S1x2x512x2304 : Shape := ⟨4, ![1, 2, 512, 2304]⟩
abbrev S512x2304 : Shape := ⟨2, ![512, 2304]⟩
abbrev S2 : Shape := ⟨1, ![2]⟩
abbrev S2x1x1 : Shape := ⟨3, ![2, 1, 1]⟩
abbrev S_ : Shape := ⟨0, ![]⟩
abbrev S2x512x2304 : Shape := ⟨3, ![2, 512, 2304]⟩

abbrev nBuf : Space → Nat
  | .hbm => 49
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x2x512x2304, .f32⟩
  | .hbm, ⟨2, _⟩ => ⟨S512x2304, .f32⟩
  | .hbm, ⟨3, _⟩ => ⟨S512x2304, .f32⟩
  | .hbm, ⟨4, _⟩ => ⟨S1x2x512x2304, .f32⟩
  | .hbm, ⟨5, _⟩ => ⟨S1x2x512x2304, .f32⟩
  | .hbm, ⟨6, _⟩ => ⟨S2, .i32⟩
  | .hbm, ⟨7, _⟩ => ⟨S2x1x1, .i32⟩
  | .hbm, ⟨8, _⟩ => ⟨S_, .i32⟩
  | .hbm, ⟨9, _⟩ => ⟨S2x1x1, .i32⟩
  | .hbm, ⟨10, _⟩ => ⟨S2x1x1, .i1⟩
  | .hbm, ⟨11, _⟩ => ⟨S2x512x2304, .i1⟩
  | .hbm, ⟨12, _⟩ => ⟨S2x512x2304, .f32⟩
  | .hbm, ⟨13, _⟩ => ⟨S2x512x2304, .f32⟩
  | .hbm, ⟨14, _⟩ => ⟨S2x512x2304, .f32⟩
  | .hbm, ⟨15, _⟩ => ⟨S1x2x512x2304, .f32⟩
  | .hbm, ⟨16, _⟩ => ⟨S_, .f32⟩
  | .hbm, ⟨17, _⟩ => ⟨S1x2x512x2304, .f32⟩
  | .hbm, ⟨18, _⟩ => ⟨S1x2x512x2304, .f32⟩
  | .hbm, ⟨19, _⟩ => ⟨S_, .f32⟩
  | .hbm, ⟨20, _⟩ => ⟨S1x2x512x2304, .f32⟩
  | .hbm, ⟨21, _⟩ => ⟨S1x2x512x2304, .f32⟩
  | .hbm, ⟨22, _⟩ => ⟨S1x2x512x2304, .f32⟩
  | .hbm, ⟨23, _⟩ => ⟨S_, .f32⟩
  | .hbm, ⟨24, _⟩ => ⟨S1x2x512x2304, .f32⟩
  | .hbm, ⟨25, _⟩ => ⟨S1x2x512x2304, .f32⟩
  | .hbm, ⟨26, _⟩ => ⟨S1x2x512x2304, .f32⟩
  | .hbm, ⟨27, _⟩ => ⟨S_, .f32⟩
  | .hbm, ⟨28, _⟩ => ⟨S1x2x512x2304, .f32⟩
  | .hbm, ⟨29, _⟩ => ⟨S1x2x512x2304, .f32⟩
  | .hbm, ⟨30, _⟩ => ⟨S1x2x512x2304, .f32⟩
  | .hbm, ⟨31, _⟩ => ⟨S_, .f32⟩
  | .hbm, ⟨32, _⟩ => ⟨S1x2x512x2304, .f32⟩
  | .hbm, ⟨33, _⟩ => ⟨S1x2x512x2304, .f32⟩
  | .hbm, ⟨34, _⟩ => ⟨S_, .f32⟩
  | .hbm, ⟨35, _⟩ => ⟨S1x2x512x2304, .f32⟩
  | .hbm, ⟨36, _⟩ => ⟨S1x2x512x2304, .f32⟩
  | .hbm, ⟨37, _⟩ => ⟨S1x2x512x2304, .f32⟩
  | .hbm, ⟨38, _⟩ => ⟨S_, .f32⟩
  | .hbm, ⟨39, _⟩ => ⟨S1x2x512x2304, .f32⟩
  | .hbm, ⟨40, _⟩ => ⟨S1x2x512x2304, .f32⟩
  | .hbm, ⟨41, _⟩ => ⟨S1x2x512x2304, .f32⟩
  | .hbm, ⟨42, _⟩ => ⟨S_, .f32⟩
  | .hbm, ⟨43, _⟩ => ⟨S1x2x512x2304, .f32⟩
  | .hbm, ⟨44, _⟩ => ⟨S1x2x512x2304, .f32⟩
  | .hbm, ⟨45, _⟩ => ⟨S1x2x512x2304, .f32⟩
  | .hbm, ⟨46, _⟩ => ⟨S_, .f32⟩
  | .hbm, ⟨47, _⟩ => ⟨S1x2x512x2304, .f32⟩
  | .hbm, ⟨48, _⟩ => ⟨S1x2x512x2304, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== Kernel9.lean ====
abbrev S1 : Shape := ⟨1, ![1]⟩
abbrev S1x2x128x256 : Shape := ⟨4, ![1, 2, 128, 256]⟩
abbrev S128x256 : Shape := ⟨2, ![128, 256]⟩
abbrev S1x1x128x256 : Shape := ⟨4, ![1, 1, 128, 256]⟩

abbrev nBuf : Space → Nat
  | .hbm => 9
  | .vmem => 16
  | .smem => 1
  | _ => 0

abbrev bufTy : (tb : Table) → Fin (tcTables nBuf tb) → BufTy
  | .hbm, ⟨0, _⟩ => ⟨S1x2x128x256, .f32⟩
  | .hbm, ⟨1, _⟩ => ⟨S128x256, .f32⟩
  | .hbm, ⟨2, _⟩ => ⟨S128x256, .f32⟩
  | .hbm, ⟨3, _⟩ => ⟨S1x2x128x256, .f32⟩
  | .hbm, ⟨4, _⟩ => ⟨S1x2x128x256, .f32⟩
  | .hbm, ⟨5, _⟩ => ⟨S1x2x128x256, .f32⟩
  | .hbm, ⟨6, _⟩ => ⟨S1x2x128x256, .f32⟩
  | .hbm, ⟨7, _⟩ => ⟨S1x2x128x256, .f32⟩
  | .hbm, ⟨8, _⟩ => ⟨S1x2x128x256, .f32⟩
  | .local _ .vmem, ⟨0, _⟩ => ⟨S1x1x128x256, .f32⟩
  | .local _ .vmem, ⟨1, _⟩ => ⟨S1x1x128x256, .f32⟩
  | .local _ .vmem, ⟨2, _⟩ => ⟨S128x256, .f32⟩
  | .local _ .vmem, ⟨3, _⟩ => ⟨S128x256, .f32⟩
  | .local _ .vmem, ⟨4, _⟩ => ⟨S1x1x128x256, .f32⟩
  | .local _ .vmem, ⟨5, _⟩ => ⟨S1x1x128x256, .f32⟩
  | .local _ .vmem, ⟨6, _⟩ => ⟨S1x1x128x256, .f32⟩
  | .local _ .vmem, ⟨7, _⟩ => ⟨S1x1x128x256, .f32⟩
  | .local _ .vmem, ⟨8, _⟩ => ⟨S1x1x128x256, .f32⟩
  | .local _ .vmem, ⟨9, _⟩ => ⟨S1x1x128x256, .f32⟩
  | .local _ .vmem, ⟨10, _⟩ => ⟨S1x1x128x256, .f32⟩
  | .local _ .vmem, ⟨11, _⟩ => ⟨S1x1x128x256, .f32⟩
  | .local _ .vmem, ⟨12, _⟩ => ⟨S1x1x128x256, .f32⟩
  | .local _ .vmem, ⟨13, _⟩ => ⟨S1x1x128x256, .f32⟩
  | .local _ .vmem, ⟨14, _⟩ => ⟨S1x1x128x256, .f32⟩
  | .local _ .vmem, ⟨15, _⟩ => ⟨S1x1x128x256, .f32⟩
  | .local _ .smem, ⟨0, _⟩ => ⟨S1, .i32⟩
  | _, _ => ⟨S1x2x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![1, 2, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg2 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg2 c0_i32_0
  let c0_i32_1 : BitVec 32 := 0#32
  let c0_i32_2 : BitVec 32 := 0#32
  ![v1.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, true]

abbrev stage0_3 : Fin 2 → Memref sig .tc .vmem S1x1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference9Ideal.lean ====
abbrev S1 : Shape := ⟨1, ![1]⟩
abbrev S1x2x128x256 : Shape := ⟨4, ![1, 2, 128, 256]⟩
abbrev S128x256 : Shape := ⟨2, ![128, 256]⟩
abbrev S2 : Shape := ⟨1, ![2]⟩
abbrev S2x1x1 : Shape := ⟨3, ![2, 1, 1]⟩
abbrev S_ : Shape := ⟨0, ![]⟩
abbrev S2x128x256 : Shape := ⟨3, ![2, 128, 256]⟩

abbrev nBuf : Space → Nat
  | .hbm => 49
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x2x128x256, .f32⟩
  | .hbm, ⟨2, _⟩ => ⟨S128x256, .f32⟩
  | .hbm, ⟨3, _⟩ => ⟨S128x256, .f32⟩
  | .hbm, ⟨4, _⟩ => ⟨S1x2x128x256, .f32⟩
  | .hbm, ⟨5, _⟩ => ⟨S1x2x128x256, .f32⟩
  | .hbm, ⟨6, _⟩ => ⟨S2, .i32⟩
  | .hbm, ⟨7, _⟩ => ⟨S2x1x1, .i32⟩
  | .hbm, ⟨8, _⟩ => ⟨S_, .i32⟩
  | .hbm, ⟨9, _⟩ => ⟨S2x1x1, .i32⟩
  | .hbm, ⟨10, _⟩ => ⟨S2x1x1, .i1⟩
  | .hbm, ⟨11, _⟩ => ⟨S2x128x256, .i1⟩
  | .hbm, ⟨12, _⟩ => ⟨S2x128x256, .f32⟩
  | .hbm, ⟨13, _⟩ => ⟨S2x128x256, .f32⟩
  | .hbm, ⟨14, _⟩ => ⟨S2x128x256, .f32⟩
  | .hbm, ⟨15, _⟩ => ⟨S1x2x128x256, .f32⟩
  | .hbm, ⟨16, _⟩ => ⟨S_, .f32⟩
  | .hbm, ⟨17, _⟩ => ⟨S1x2x128x256, .f32⟩
  | .hbm, ⟨18, _⟩ => ⟨S1x2x128x256, .f32⟩
  | .hbm, ⟨19, _⟩ => ⟨S_, .f32⟩
  | .hbm, ⟨20, _⟩ => ⟨S1x2x128x256, .f32⟩
  | .hbm, ⟨21, _⟩ => ⟨S1x2x128x256, .f32⟩
  | .hbm, ⟨22, _⟩ => ⟨S1x2x128x256, .f32⟩
  | .hbm, ⟨23, _⟩ => ⟨S_, .f32⟩
  | .hbm, ⟨24, _⟩ => ⟨S1x2x128x256, .f32⟩
  | .hbm, ⟨25, _⟩ => ⟨S1x2x128x256, .f32⟩
  | .hbm, ⟨26, _⟩ => ⟨S1x2x128x256, .f32⟩
  | .hbm, ⟨27, _⟩ => ⟨S_, .f32⟩
  | .hbm, ⟨28, _⟩ => ⟨S1x2x128x256, .f32⟩
  | .hbm, ⟨29, _⟩ => ⟨S1x2x128x256, .f32⟩
  | .hbm, ⟨30, _⟩ => ⟨S1x2x128x256, .f32⟩
  | .hbm, ⟨31, _⟩ => ⟨S_, .f32⟩
  | .hbm, ⟨32, _⟩ => ⟨S1x2x128x256, .f32⟩
  | .hbm, ⟨33, _⟩ => ⟨S1x2x128x256, .f32⟩
  | .hbm, ⟨34, _⟩ => ⟨S_, .f32⟩
  | .hbm, ⟨35, _⟩ => ⟨S1x2x128x256, .f32⟩
  | .hbm, ⟨36, _⟩ => ⟨S1x2x128x256, .f32⟩
  | .hbm, ⟨37, _⟩ => ⟨S1x2x128x256, .f32⟩
  | .hbm, ⟨38, _⟩ => ⟨S_, .f32⟩
  | .hbm, ⟨39, _⟩ => ⟨S1x2x128x256, .f32⟩
  | .hbm, ⟨40, _⟩ => ⟨S1x2x128x256, .f32⟩
  | .hbm, ⟨41, _⟩ => ⟨S1x2x128x256, .f32⟩
  | .hbm, ⟨42, _⟩ => ⟨S_, .f32⟩
  | .hbm, ⟨43, _⟩ => ⟨S1x2x128x256, .f32⟩
  | .hbm, ⟨44, _⟩ => ⟨S1x2x128x256, .f32⟩
  | .hbm, ⟨45, _⟩ => ⟨S1x2x128x256, .f32⟩
  | .hbm, ⟨46, _⟩ => ⟨S_, .f32⟩
  | .hbm, ⟨47, _⟩ => ⟨S1x2x128x256, .f32⟩
  | .hbm, ⟨48, _⟩ => ⟨S1x2x128x256, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== Kernel10.lean ====
abbrev S1 : Shape := ⟨1, ![1]⟩
abbrev S1x1x6x256 : Shape := ⟨4, ![1, 1, 6, 256]⟩
abbrev S6x256 : Shape := ⟨2, ![6, 256]⟩

abbrev nBuf : Space → Nat
  | .hbm => 8
  | .vmem => 9
  | .smem => 1
  | _ => 0

abbrev bufTy : (tb : Table) → Fin (tcTables nBuf tb) → BufTy
  | .hbm, ⟨0, _⟩ => ⟨S1x1x6x256, .f32⟩
  | .hbm, ⟨1, _⟩ => ⟨S6x256, .f32⟩
  | .hbm, ⟨2, _⟩ => ⟨S1x1x6x256, .f32⟩
  | .hbm, ⟨3, _⟩ => ⟨S1x1x6x256, .f32⟩
  | .hbm, ⟨4, _⟩ => ⟨S1x1x6x256, .f32⟩
  | .hbm, ⟨5, _⟩ => ⟨S1x1x6x256, .f32⟩
  | .hbm, ⟨6, _⟩ => ⟨S1x1x6x256, .f32⟩
  | .hbm, ⟨7, _⟩ => ⟨S1x1x6x256, .f32⟩
  | .local _ .vmem, ⟨0, _⟩ => ⟨S1x1x6x256, .f32⟩
  | .local _ .vmem, ⟨1, _⟩ => ⟨S6x256, .f32⟩
  | .local _ .vmem, ⟨2, _⟩ => ⟨S6x256, .f32⟩
  | .local _ .vmem, ⟨3, _⟩ => ⟨S1x1x6x256, .f32⟩
  | .local _ .vmem, ⟨4, _⟩ => ⟨S1x1x6x256, .f32⟩
  | .local _ .vmem, ⟨5, _⟩ => ⟨S1x1x6x256, .f32⟩
  | .local _ .vmem, ⟨6, _⟩ => ⟨S1x1x6x256, .f32⟩
  | .local _ .vmem, ⟨7, _⟩ => ⟨S1x1x6x256, .f32⟩
  | .local _ .vmem, ⟨8, _⟩ => ⟨S1x1x6x256, .f32⟩
  | .local _ .smem, ⟨0, _⟩ => ⟨S1, .i32⟩
  | _, _ => ⟨S1x1x6x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨3, ![1, 1, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg2 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg2 c0_i32_0
  let c0_i32_1 : BitVec 32 := 0#32
  let c0_i32_2 : BitVec 32 := 0#32
  ![v1.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 1 → Memref sig .tc .vmem S1x1x6x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, true]

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, true]

abbrev stage0_3 : Fin 1 → Memref sig .tc .vmem S1x1x6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, true]

abbrev stage0_4 : Fin 1 → Memref sig .tc .vmem S1x1x6x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, true]

abbrev stage0_5 : Fin 1 → Memref sig .tc .vmem S1x1x6x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, true]

abbrev stage0_6 : Fin 1 → Memref sig .tc .vmem S1x1x6x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, true]

abbrev stage0_7 : Fin 1 → Memref sig .tc .vmem S1x1x6x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true, true]

abbrev stage0_8 : Fin 1 → Memref sig .tc .vmem S1x1x6x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true, true]
-- ==== Reference10Ideal.lean ====
abbrev S1 : Shape := ⟨1, ![1]⟩
abbrev S1x1x6x256 : Shape := ⟨4, ![1, 1, 6, 256]⟩
abbrev S6x256 : Shape := ⟨2, ![6, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x6x256, .f32⟩
  | .hbm, ⟨2, _⟩ => ⟨S6x256, .f32⟩
  | .hbm, ⟨3, _⟩ => ⟨S1x1x6x256, .f32⟩
  | .hbm, ⟨4, _⟩ => ⟨S1x1x6x256, .f32⟩
  | .hbm, ⟨5, _⟩ => ⟨S1x1x6x256, .f32⟩
  | .hbm, ⟨6, _⟩ => ⟨S_, .f32⟩
  | .hbm, ⟨7, _⟩ => ⟨S1x1x6x256, .f32⟩
  | .hbm, ⟨8, _⟩ => ⟨S1x1x6x256, .f32⟩
  | .hbm, ⟨9, _⟩ => ⟨S_, .f32⟩
  | .hbm, ⟨10, _⟩ => ⟨S1x1x6x256, .f32⟩
  | .hbm, ⟨11, _⟩ => ⟨S1x1x6x256, .f32⟩
  | .hbm, ⟨12, _⟩ => ⟨S1x1x6x256, .f32⟩
  | .hbm, ⟨13, _⟩ => ⟨S_, .f32⟩
  | .hbm, ⟨14, _⟩ => ⟨S1x1x6x256, .f32⟩
  | .hbm, ⟨15, _⟩ => ⟨S1x1x6x256, .f32⟩
  | .hbm, ⟨16, _⟩ => ⟨S1x1x6x256, .f32⟩
  | .hbm, ⟨17, _⟩ => ⟨S_, .f32⟩
  | .hbm, ⟨18, _⟩ => ⟨S1x1x6x256, .f32⟩
  | .hbm, ⟨19, _⟩ => ⟨S1x1x6x256, .f32⟩
  | .hbm, ⟨20, _⟩ => ⟨S1x1x6x256, .f32⟩
  | .hbm, ⟨21, _⟩ => ⟨S_, .f32⟩
  | .hbm, ⟨22, _⟩ => ⟨S1x1x6x256, .f32⟩
  | .hbm, ⟨23, _⟩ => ⟨S1x1x6x256, .f32⟩
  | .hbm, ⟨24, _⟩ => ⟨S_, .f32⟩
  | .hbm, ⟨25, _⟩ => ⟨S1x1x6x256, .f32⟩
  | .hbm, ⟨26, _⟩ => ⟨S1x1x6x256, .f32⟩
  | .hbm, ⟨27, _⟩ => ⟨S1x1x6x256, .f32⟩
  | .hbm, ⟨28, _⟩ => ⟨S_, .f32⟩
  | .hbm, ⟨29, _⟩ => ⟨S1x1x6x256, .f32⟩
  | .hbm, ⟨30, _⟩ => ⟨S1x1x6x256, .f32⟩
  | .hbm, ⟨31, _⟩ => ⟨S1x1x6x256, .f32⟩
  | .hbm, ⟨32, _⟩ => ⟨S_, .f32⟩
  | .hbm, ⟨33, _⟩ => ⟨S1x1x6x256, .f32⟩
  | .hbm, ⟨34, _⟩ => ⟨S1x1x6x256, .f32⟩
  | .hbm, ⟨35, _⟩ => ⟨S1x1x6x256, .f32⟩
  | .hbm, ⟨36, _⟩ => ⟨S_, .f32⟩
  | .hbm, ⟨37, _⟩ => ⟨S1x1x6x256, .f32⟩
  | .hbm, ⟨38, _⟩ => ⟨S1x1x6x256, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel11.lean ====
abbrev S1 : Shape := ⟨1, ![1]⟩
abbrev S1x1x1x1024 : Shape := ⟨4, ![1, 1, 1, 1024]⟩
abbrev S1x1024 : Shape := ⟨2, ![1, 1024]⟩

abbrev nBuf : Space → Nat
  | .hbm => 8
  | .vmem => 9
  | .smem => 1
  | _ => 0

abbrev bufTy : (tb : Table) → Fin (tcTables nBuf tb) → BufTy
  | .hbm, ⟨0, _⟩ => ⟨S1x1x1x1024, .f32⟩
  | .hbm, ⟨1, _⟩ => ⟨S1x1024, .f32⟩
  | .hbm, ⟨2, _⟩ => ⟨S1x1x1x1024, .f32⟩
  | .hbm, ⟨3, _⟩ => ⟨S1x1x1x1024, .f32⟩
  | .hbm, ⟨4, _⟩ => ⟨S1x1x1x1024, .f32⟩
  | .hbm, ⟨5, _⟩ => ⟨S1x1x1x1024, .f32⟩
  | .hbm, ⟨6, _⟩ => ⟨S1x1x1x1024, .f32⟩
  | .hbm, ⟨7, _⟩ => ⟨S1x1x1x1024, .f32⟩
  | .local _ .vmem, ⟨0, _⟩ => ⟨S1x1x1x1024, .f32⟩
  | .local _ .vmem, ⟨1, _⟩ => ⟨S1x1024, .f32⟩
  | .local _ .vmem, ⟨2, _⟩ => ⟨S1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .smem, ⟨0, _⟩ => ⟨S1, .i32⟩
  | _, _ => ⟨S1x1x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨3, ![1, 1, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg2 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg2 c0_i32_0
  let c0_i32_1 : BitVec 32 := 0#32
  let c0_i32_2 : BitVec 32 := 0#32
  ![v1.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 1 → Memref sig .tc .vmem S1x1x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, true]

abbrev stage0_3 : Fin 1 → Memref sig .tc .vmem S1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, true]

abbrev stage0_4 : Fin 1 → Memref sig .tc .vmem S1x1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, true]

abbrev stage0_5 : Fin 1 → Memref sig .tc .vmem S1x1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, true]

abbrev stage0_6 : Fin 1 → Memref sig .tc .vmem S1x1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, true]

abbrev stage0_7 : Fin 1 → Memref sig .tc .vmem S1x1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true, true]

abbrev stage0_8 : Fin 1 → Memref sig .tc .vmem S1x1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true, true]
-- ==== Reference11Ideal.lean ====
abbrev S1 : Shape := ⟨1, ![1]⟩
abbrev S1x1x1x1024 : Shape := ⟨4, ![1, 1, 1, 1024]⟩
abbrev S1x1024 : Shape := ⟨2, ![1, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1x1024, .f32⟩
  | .hbm, ⟨2, _⟩ => ⟨S1x1024, .f32⟩
  | .hbm, ⟨3, _⟩ => ⟨S1x1x1x1024, .f32⟩
  | .hbm, ⟨4, _⟩ => ⟨S1x1x1x1024, .f32⟩
  | .hbm, ⟨5, _⟩ => ⟨S1x1x1x1024, .f32⟩
  | .hbm, ⟨6, _⟩ => ⟨S_, .f32⟩
  | .hbm, ⟨7, _⟩ => ⟨S1x1x1x1024, .f32⟩
  | .hbm, ⟨8, _⟩ => ⟨S1x1x1x1024, .f32⟩
  | .hbm, ⟨9, _⟩ => ⟨S_, .f32⟩
  | .hbm, ⟨10, _⟩ => ⟨S1x1x1x1024, .f32⟩
  | .hbm, ⟨11, _⟩ => ⟨S1x1x1x1024, .f32⟩
  | .hbm, ⟨12, _⟩ => ⟨S1x1x1x1024, .f32⟩
  | .hbm, ⟨13, _⟩ => ⟨S_, .f32⟩
  | .hbm, ⟨14, _⟩ => ⟨S1x1x1x1024, .f32⟩
  | .hbm, ⟨15, _⟩ => ⟨S1x1x1x1024, .f32⟩
  | .hbm, ⟨16, _⟩ => ⟨S1x1x1x1024, .f32⟩
  | .hbm, ⟨17, _⟩ => ⟨S_, .f32⟩
  | .hbm, ⟨18, _⟩ => ⟨S1x1x1x1024, .f32⟩
  | .hbm, ⟨19, _⟩ => ⟨S1x1x1x1024, .f32⟩
  | .hbm, ⟨20, _⟩ => ⟨S1x1x1x1024, .f32⟩
  | .hbm, ⟨21, _⟩ => ⟨S_, .f32⟩
  | .hbm, ⟨22, _⟩ => ⟨S1x1x1x1024, .f32⟩
  | .hbm, ⟨23, _⟩ => ⟨S1x1x1x1024, .f32⟩
  | .hbm, ⟨24, _⟩ => ⟨S_, .f32⟩
  | .hbm, ⟨25, _⟩ => ⟨S1x1x1x1024, .f32⟩
  | .hbm, ⟨26, _⟩ => ⟨S1x1x1x1024, .f32⟩
  | .hbm, ⟨27, _⟩ => ⟨S1x1x1x1024, .f32⟩
  | .hbm, ⟨28, _⟩ => ⟨S_, .f32⟩
  | .hbm, ⟨29, _⟩ => ⟨S1x1x1x1024, .f32⟩
  | .hbm, ⟨30, _⟩ => ⟨S1x1x1x1024, .f32⟩
  | .hbm, ⟨31, _⟩ => ⟨S1x1x1x1024, .f32⟩
  | .hbm, ⟨32, _⟩ => ⟨S_, .f32⟩
  | .hbm, ⟨33, _⟩ => ⟨S1x1x1x1024, .f32⟩
  | .hbm, ⟨34, _⟩ => ⟨S1x1x1x1024, .f32⟩
  | .hbm, ⟨35, _⟩ => ⟨S1x1x1x1024, .f32⟩
  | .hbm, ⟨36, _⟩ => ⟨S_, .f32⟩
  | .hbm, ⟨37, _⟩ => ⟨S1x1x1x1024, .f32⟩
  | .hbm, ⟨38, _⟩ => ⟨S1x1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel12.lean ====
abbrev S4096x1024 : Shape := ⟨2, ![4096, 1024]⟩
abbrev S1x1 : Shape := ⟨2, ![1, 1]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_9 : BitVec 32 := 0#32
  let v17 : BitVec 1 := Scalar.cmpi .ne v16 c0_i32_9
  v17

def k0_cond2 (i : grid0.Coords) : BitVec 1 :=
  let arg0 : BitVec 32 := BitVec.ofNat 32 (i 0).val
  let c0_i32_10 : BitVec 32 := 0#32
  let v18 : BitVec 1 := Scalar.cmpi .sgt arg0 c0_i32_10
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference12Ideal.lean ====
abbrev S4096x1024 : Shape := ⟨2, ![4096, 1024]⟩
abbrev S_ : Shape := ⟨0, ![]⟩
abbrev S4096 : Shape := ⟨1, ![4096]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S1x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Proof.Attn.Math.lean ====
/-
  The real-number side of the gradient of a dilated attention with a band of sixty-four positions on each side and a
  linear distance penalty, combined with two other groups' outputs by the softmax of the three log-sums: the formulas of
  one head of one residue class, and the equation between the derivative as automatic differentiation writes it (through
  the log-sum, the weights and the output) and the short form P · (dP − D).
-/
module

public import Mathlib.Analysis.SpecialFunctions.Log.Basic
public import Mathlib.Data.EReal.Operations
public import Mathlib.Algebra.BigOperators.Fin

@[expose] public section

noncomputable section

namespace Attn

/-- What one head of one residue class reads: queries, keys, values, the other two groups' outputs and log-sums, the
cotangent of the combined output, and the penalty per step of distance. -/
structure Head where
  q : Fin 256 → Fin 64 → ℝ
  k : Fin 256 → Fin 64 → ℝ
  v : Fin 256 → Fin 64 → ℝ
  o1 : Fin 256 → Fin 64 → ℝ
  o2 : Fin 256 → Fin 64 → ℝ
  ct : Fin 256 → Fin 64 → ℝ
  l1 : Fin 256 → ℝ
  l2 : Fin 256 → ℝ
  s : ℝ

/-- The distance of two positions. -/
def dist (i j : Fin 256) : ℤ := |(j.val : ℤ) - (i.val : ℤ)|

/-- A key is in a query's band when it is at most sixty-four positions away. -/
def near (i j : Fin 256) : Prop := dist i j ≤ 64

instance (i j : Fin 256) : Decidable (near i j) := inferInstanceAs (Decidable (_ ≤ _))

theorem near_self (i : Fin 256) : near i i := by simp [near, dist]

namespace Head
variable (H : Head)

/-- The score of a query and a key: the scaled product less the penalty. -/
def S (i j : Fin 256) : ℝ := (∑ e, H.q i e * H.k j e) * (1 / 8) - H.s * (dist i j : ℝ)

/-- The sum of the exponentials of a query's scores in its band. -/
def sumExp (i : Fin 256) : ℝ := ∑ j, if near i j then Real.exp (H.S i j) else 0

/-- The log-sum of a query. -/
def lse (i : Fin 256) : ℝ := Real.log (H.sumExp i)

/-- The attention probability of a key. -/
def p (i j : Fin 256) : ℝ := if near i j then Real.exp (H.S i j - H.lse i) else 0

/-- This group's output. -/
def o (i : Fin 256) (e : Fin 64) : ℝ := ∑ j, H.p i j * H.v j e

/-- The log-sum over all three groups. -/
def LT (i : Fin 256) : ℝ := Real.log (Real.exp (H.l1 i) + Real.exp (H.l2 i) + Real.exp (H.lse i))

def w1 (i : Fin 256) : ℝ := Real.exp (H.l1 i - H.LT i)
def w2 (i : Fin 256) : ℝ := Real.exp (H.l2 i - H.LT i)
def w3 (i : Fin 256) : ℝ := Real.exp (H.lse i - H.LT i)

/-- The combined output. -/
def ao (i : Fin 256) (e : Fin 64) : ℝ := H.w1 i * H.o1 i e + H.w2 i * H.o2 i e + H.w3 i * H.o i e

/-- The probability of a key among the keys of all three groups. -/
def P (i j : Fin 256) : ℝ := if near i j then Real.exp (H.S i j - H.LT i) else 0

/-- The product of the cotangent with the combined output. -/
def D (i : Fin 256) : ℝ := ∑ e, H.ct i e * H.ao i e

/-- The product of the cotangent with a value. -/
def dp (i j : Fin 256) : ℝ := ∑ e, H.ct i e * H.v j e

/-- The gradient of a scaled product. -/
def ds (i j : Fin 256) : ℝ := H.P i j * (H.dp i j - H.D i) * (1 / 8)

def dq (i : Fin 256) (e : Fin 64) : ℝ := ∑ j, H.ds i j * H.k j e
def dk (j : Fin 256) (e : Fin 64) : ℝ := ∑ i, H.ds i j * H.q i e
def dv (j : Fin 256) (e : Fin 64) : ℝ := ∑ i, H.P i j * H.ct i e

theorem sumExp_pos (i : Fin 256) : 0 < H.sumExp i := by
  unfold sumExp
  refine Finset.sum_pos' (fun j _ => by split_ifs <;> positivity) ⟨i, Finset.mem_univ _, ?_⟩
  rw [if_pos (near_self i)]; positivity

/-- Subtracting any number before the exponential and adding it back after the logarithm changes nothing. -/
theorem sumExp_shift (i : Fin 256) (t : ℝ) :
    (∑ j, if near i j then Real.exp (H.S i j - t) else 0) = H.sumExp i * Real.exp (-t) := by
  unfold sumExp
  rw [Finset.sum_mul]
  refine Finset.sum_congr rfl fun j _ => ?_
  split_ifs
  · rw [← Real.exp_add]; rfl
  · rw [zero_mul]

theorem lse_shift (i : Fin 256) (t : ℝ) :
    t + Real.log (∑ j, if near i j then Real.exp (H.S i j - t) else 0) = H.lse i := by
  rw [H.sumExp_shift, Real.log_mul (H.sumExp_pos i).ne' (Real.exp_pos _).ne', Real.log_exp]
  unfold lse; ring

/-- A shifted exponential over the shifted sum is the probability. -/
theorem exp_div_sum (i j : Fin 256) (t : ℝ) :
    (if near i j then Real.exp (H.S i j - t) else 0) / (H.sumExp i * Real.exp (-t)) = H.p i j := by
  unfold p
  split_ifs
  · rw [lse, Real.exp_sub, Real.exp_sub, Real.exp_log (H.sumExp_pos i), Real.exp_neg]
    have := (H.sumExp_pos i).ne'
    have := (Real.exp_pos t).ne'
    field_simp
  · simp

theorem tot_pos (i : Fin 256) : 0 < Real.exp (H.l1 i) + Real.exp (H.l2 i) + Real.exp (H.lse i) := by positivity

theorem exp_LT (i : Fin 256) : Real.exp (H.LT i) = Real.exp (H.l1 i) + Real.exp (H.l2 i) + Real.exp (H.lse i) :=
  Real.exp_log (H.tot_pos i)

/-- The total of the three shifted exponentials. -/
theorem tot_shift (i : Fin 256) (m : ℝ) :
    Real.exp (H.l1 i - m) + Real.exp (H.l2 i - m) + Real.exp (H.lse i - m) = Real.exp (H.LT i - m) := by
  rw [Real.exp_sub (H.LT i), exp_LT]
  simp only [Real.exp_sub]; ring

/-- A shifted exponential over the shifted total is the weight. -/
theorem weight_shift (x L m : ℝ) : Real.exp (x - m) / Real.exp (L - m) = Real.exp (x - L) := by
  rw [← Real.exp_sub]; congr 1; ring

theorem P_eq (i j : Fin 256) : H.P i j = H.w3 i * H.p i j := by
  unfold P w3 p
  split_ifs
  · rw [← Real.exp_add]; congr 1; ring
  · simp

/-- The three groups' log-sums, weights and outputs, by number. -/
def l (n : Fin 3) (i : Fin 256) : ℝ := match n with | 0 => H.l1 i | 1 => H.l2 i | 2 => H.lse i
def w (n : Fin 3) (i : Fin 256) : ℝ := Real.exp (H.l n i - H.LT i)
def on (n : Fin 3) (i : Fin 256) (e : Fin 64) : ℝ := match n with | 0 => H.o1 i e | 1 => H.o2 i e | 2 => H.o i e
def g (n : Fin 3) (i : Fin 256) : ℝ := ∑ e, H.ct i e * H.on n i e

theorem sum_exp_l (i : Fin 256) (m : ℝ) : ∑ n, Real.exp (H.l n i - m) = Real.exp (H.LT i - m) := by
  rw [Fin.sum_univ_three]; exact H.tot_shift i m

/-- The three products of the cotangent with the three outputs. -/
def g1 (i : Fin 256) : ℝ := ∑ e, H.ct i e * H.o1 i e
def g2 (i : Fin 256) : ℝ := ∑ e, H.ct i e * H.o2 i e
def g3 (i : Fin 256) : ℝ := ∑ e, H.ct i e * H.o i e

theorem D_eq (i : Fin 256) : H.D i = H.w1 i * H.g1 i + H.w2 i * H.g2 i + H.w3 i * H.g3 i := by
  unfold D ao g1 g2 g3
  simp only [Finset.mul_sum, ← Finset.sum_add_distrib]
  exact Finset.sum_congr rfl fun e _ => by ring

/-- The weight's gradient of a score, before the log-sum's part. -/
def a (i j : Fin 256) : ℝ := (∑ e, H.w3 i * H.ct i e * H.v j e) * H.p i j

theorem a_eq (i j : Fin 256) : H.a i j = H.w3 i * H.dp i j * H.p i j := by
  unfold a dp
  simp only [Finset.mul_sum, mul_assoc]

theorem sum_a (i : Fin 256) : ∑ j, H.a i j = H.w3 i * H.g3 i := by
  simp only [a_eq]
  unfold dp g3 o
  simp only [Finset.mul_sum, Finset.sum_mul]
  rw [Finset.sum_comm]
  exact Finset.sum_congr rfl fun e _ => Finset.sum_congr rfl fun j _ => by ring

/-- The log-sum's gradient as automatic differentiation of the softmax writes it, at any shift m. -/
theorem dlse_eq (i : Fin 256) (m : ℝ) :
    (H.g3 i / Real.exp (H.LT i - m) + -(H.g1 i * (1 / (Real.exp (H.LT i - m) * Real.exp (H.LT i - m))) * Real.exp (H.l1 i - m)
        + H.g2 i * (1 / (Real.exp (H.LT i - m) * Real.exp (H.LT i - m))) * Real.exp (H.l2 i - m)
        + H.g3 i * (1 / (Real.exp (H.LT i - m) * Real.exp (H.LT i - m))) * Real.exp (H.lse i - m))) * Real.exp (H.lse i - m)
      = H.w3 i * (H.g3 i - H.D i) := by
  rw [D_eq, w1, w2, w3, ← weight_shift (H.l1 i) (H.LT i) m, ← weight_shift (H.l2 i) (H.LT i) m,
    ← weight_shift (H.lse i) (H.LT i) m]
  have h := (Real.exp_pos (H.LT i - m)).ne'
  generalize Real.exp (H.LT i - m) = Z at *
  generalize Real.exp (H.l1 i - m) = E1
  generalize Real.exp (H.l2 i - m) = E2
  generalize Real.exp (H.lse i - m) = E3
  field_simp
  ring

/-- The same by number. -/
theorem dlse_eq' (i : Fin 256) (m : ℝ) :
    (H.g 2 i / Real.exp (H.LT i - m) + -∑ n, H.g n i * (1 / (Real.exp (H.LT i - m) * Real.exp (H.LT i - m))) * Real.exp (H.l n i - m))
        * Real.exp (H.l 2 i - m) = H.w3 i * (H.g3 i - H.D i) := by
  rw [Fin.sum_univ_three]; exact H.dlse_eq i m

/-- The gradient of a score as automatic differentiation writes it is the short form. -/
theorem ds_eq (i j : Fin 256) (t : ℝ) :
    (H.a i j + (H.w3 i * (H.g3 i - H.D i) + -∑ j', H.a i j') / (H.sumExp i * Real.exp (-t))
        * (if near i j then Real.exp (H.S i j - t) else 0)) * (1 / 8) = H.ds i j := by
  rw [div_mul_eq_mul_div, mul_div_assoc, exp_div_sum, sum_a, a_eq, ds, P_eq]; ring

/-- Outside the band the gradient of a score is zero. -/
theorem ds_far {i j : Fin 256} (h : ¬ near i j) : H.ds i j = 0 := by simp [ds, P, h]

end Head
end Attn
-- ==== Proof.Attn.RefIdx.lean ====
/-
  The reference's operations over the extended reals, read at an index as real numbers: at finite arguments every stage of
  the derivative is the real formula of one head of one residue class (Proof/Attn/Math.lean).
-/
module

public import proofs.«01_k».proof.Proof.Attn.Math
public import proofs.«01_k».proof.Proof.Gen.ReferenceIdeal.Read
public import Idealize.ShloMosaic.Lib.IdealHost

@[expose] public section

set_option maxRecDepth 16384

noncomputable section

namespace Attn

open Idealize.ShloMosaic Idealize.ShloMosaic.ValueIdx
open Cert.ReferenceIdeal Cert.ReferenceIdeal.Gen Cert.ReferenceIdeal.Read

/-- A finite sum of reals is the same sum of extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_mul' (a b : ℝ) : (a : EReal) * (b : EReal) = ((a * b : ℝ) : EReal) := (EReal.coe_mul a b).symm
theorem coe_add' (a b : ℝ) : (a : EReal) + (b : EReal) = ((a + b : ℝ) : EReal) := (EReal.coe_add a b).symm
theorem coe_sub' (a b : ℝ) : (a : EReal) - (b : EReal) = ((a - b : ℝ) : EReal) := (EReal.coe_sub a b).symm
theorem coe_neg' (a : ℝ) : -(a : EReal) = ((-a : ℝ) : EReal) := (EReal.coe_neg a).symm
theorem coe_div' (a : ℝ) {b : ℝ} (h : b ≠ 0) : Ideal.div (a : EReal) (b : EReal) = ((a / b : ℝ) : EReal) := by
  rw [Ideal.div_coe h, coe_mul']; congr 1; ring

/-- A row of the call's own order is a class of positions and a place in it. -/
def rowHi (p : Fin 256) : Fin 16 := ⟨p.val / 16, by omega⟩
def rowLo (p : Fin 256) : Fin 16 := ⟨p.val % 16, by omega⟩
/-- The lane of a head's coordinate. -/
def lane (h : Fin 16) (e : Fin 64) : Fin 1024 := ⟨h.val * 64 + e.val, by omega⟩

/-- The penalties per position, as float words. -/
def slopeBits : Fin 16 → BitVec 32 := ![0x3CB504F3#32, 0x3CA14518#32, 0x3C8FACD6#32, 0x3C800000#32, 0x3C6411F0#32,
  0x3C4B2FF5#32, 0x3C3504F3#32, 0x3C214518#32, 0x3C0FACD6#32, 0x3C000000#32, 0x3BE411F0#32, 0x3BCB2FF5#32, 0x3BB504F3#32,
  0x3BA14518#32, 0x3B8FACD6#32, 0x3B800000#32]
def slope (h : Fin 16) : ℝ := (Ideal.ofBits .f32 (slopeBits h)).toReal

theorem slope_coe (h : Fin 16) : Ideal.ofBits .f32 (slopeBits h) = (slope h : EReal) := by
  unfold slope
  fin_cases h <;> simp [slopeBits, Ideal.ofBits, Ideal.ieee, -EReal.coe_mul, -EReal.coe_neg]

/-- The six arrays, finite. -/
structure Args where
  a0 : S3x16x16x16x1024.Idx → ℝ
  a1 : S16x16x16x1024.Idx → ℝ
  a2 : S16x16x16x16.Idx → ℝ
  a3 : S16x16x16x1024.Idx → ℝ
  a4 : S16x16x16x16.Idx → ℝ
  a5 : S16x16x16x1024.Idx → ℝ

/-- One head of one residue class, from the six arrays. -/
def hd (A : Args) (r h : Fin 16) : Head where
  q p e := A.a0 (ix5 (0 : Fin 3) (rowHi p) r (rowLo p) (lane h e))
  k p e := A.a0 (ix5 (1 : Fin 3) (rowHi p) r (rowLo p) (lane h e))
  v p e := A.a0 (ix5 (2 : Fin 3) (rowHi p) r (rowLo p) (lane h e))
  o1 p e := A.a1 (ix4 (rowHi p) r (rowLo p) (lane h e))
  o2 p e := A.a3 (ix4 (rowHi p) r (rowLo p) (lane h e))
  ct p e := A.a5 (ix4 (rowHi p) r (rowLo p) (lane h e))
  l1 p := A.a2 (ix4 (rowHi p) r (rowLo p) h)
  l2 p := A.a4 (ix4 (rowHi p) r (rowLo p) h)
  s := 16 * slope h

theorem word_dist (i j : Fin 256) :
    IntOp.absi (IntOp.subi (BitVec.ofNat 32 j.val) (BitVec.ofNat 32 i.val)) = BitVec.ofNat 32 (((j.val : ℤ) - (i.val : ℤ)).natAbs) := by
  revert i j; decide +kernel

theorem dist_natAbs (i j : Fin 256) : dist i j = ((((j.val : ℤ) - (i.val : ℤ)).natAbs : ℕ) : ℤ) := by
  unfold dist; exact Int.abs_eq_natAbs _

theorem natAbs_lt (i j : Fin 256) : ((j.val : ℤ) - (i.val : ℤ)).natAbs < 256 := by omega

theorem word_mul (n : Fin 256) : (IntOp.muli 16#32 (BitVec.ofNat 32 n.val)).toInt = 16 * (n.val : ℤ) := by
  revert n; decide +kernel
theorem word_le (n : Fin 256) : IntOp.cmpi .sle (BitVec.ofNat 32 n.val) 64#32 = if n.val ≤ 64 then 1#1 else 0#1 := by
  revert n; decide +kernel

variable (A : Args)

/-- The arguments as extended reals. -/
abbrev x0 : (⟨S3x16x16x16x1024, .bf16⟩ : BufTy).Contents (Elt Ideal) := fun i => ((A.a0 i : ℝ) : EReal)
abbrev x1 : (⟨S16x16x16x1024, .f32⟩ : BufTy).Contents (Elt Ideal) := fun i => ((A.a1 i : ℝ) : EReal)
abbrev x2 : (⟨S16x16x16x16, .f32⟩ : BufTy).Contents (Elt Ideal) := fun i => ((A.a2 i : ℝ) : EReal)
abbrev x3 : (⟨S16x16x16x1024, .f32⟩ : BufTy).Contents (Elt Ideal) := fun i => ((A.a3 i : ℝ) : EReal)
abbrev x4 : (⟨S16x16x16x16, .f32⟩ : BufTy).Contents (Elt Ideal) := fun i => ((A.a4 i : ℝ) : EReal)
abbrev x5 : (⟨S16x16x16x1024, .f32⟩ : BufTy).Contents (Elt Ideal) := fun i => ((A.a5 i : ℝ) : EReal)

theorem v5_eq (i : S16x16x256x64.Idx) : val_main_v5 (F := Ideal) (x0 A) i = (((hd A (i 0) (i 1)).q (i 2) (i 3) : ℝ) : EReal) := by
  have key : ∀ (r h : Fin 16) (p : Fin 256) (e : Fin 64), idx_main_v0 (idx_main_v1 (idx_main_v3 (idx_main_v4 (idx_main_v5 (ix4 r h p e)))))
      = ix5 (0 : Fin 3) (rowHi p) r (rowLo p) (lane h e) := by
    intro r h p e
    have hr := r.isLt
    have hh := h.isLt
    have hp := p.isLt
    have he := e.isLt
    have e1 : idx_main_v5 (ix4 r h p e) = ix5 r h (rowHi p) (rowLo p) e := by
      funext z
      refine Fin.ext ?_
      match z with
      | ⟨0, _⟩ => show (((r.val * 16 + h.val) * 256 + p.val) * 64 + e.val) / 262144 = r.val; omega
      | ⟨1, _⟩ => show (((r.val * 16 + h.val) * 256 + p.val) * 64 + e.val) / 16384 % 16 = h.val; omega
      | ⟨2, _⟩ => show (((r.val * 16 + h.val) * 256 + p.val) * 64 + e.val) / 1024 % 16 = p.val / 16; omega
      | ⟨3, _⟩ => show (((r.val * 16 + h.val) * 256 + p.val) * 64 + e.val) / 64 % 16 = p.val % 16; omega
      | ⟨4, _⟩ => show (((r.val * 16 + h.val) * 256 + p.val) * 64 + e.val) % 64 = e.val; omega
    have e2 : idx_main_v4 (ix5 r h (rowHi p) (rowLo p) e) = ix5 (rowHi p) r (rowLo p) h e := by
      funext z
      refine Fin.ext ?_
      match z with
      | ⟨0, _⟩ => rfl
      | ⟨1, _⟩ => rfl
      | ⟨2, _⟩ => rfl
      | ⟨3, _⟩ => rfl
      | ⟨4, _⟩ => rfl
    have e3 : ∀ a b c : Fin 16, idx_main_v3 (ix5 a b c h e) = ix4 a b c (lane h e) := by
      intro a b c
      have ha := a.isLt
      have hb := b.isLt
      have hc := c.isLt
      funext z
      refine Fin.ext ?_
      match z with
      | ⟨0, _⟩ => show ((((a.val * 16 + b.val) * 16 + c.val) * 16 + h.val) * 64 + e.val) / 262144 = a.val; omega
      | ⟨1, _⟩ => show ((((a.val * 16 + b.val) * 16 + c.val) * 16 + h.val) * 64 + e.val) / 16384 % 16 = b.val; omega
      | ⟨2, _⟩ => show ((((a.val * 16 + b.val) * 16 + c.val) * 16 + h.val) * 64 + e.val) / 1024 % 16 = c.val; omega
      | ⟨3, _⟩ => show ((((a.val * 16 + b.val) * 16 + c.val) * 16 + h.val) * 64 + e.val) % 1024 = h.val * 64 + e.val; omega
    have e4 : ∀ (a b c : Fin 16) (l : Fin 1024), idx_main_v1 (ix4 a b c l) = ix5 0 a b c l := by
      intro a b c l
      have ha := a.isLt
      have hb := b.isLt
      have hc := c.isLt
      have hl := l.isLt
      funext z
      refine Fin.ext ?_
      match z with
      | ⟨0, _⟩ => rfl
      | ⟨1, _⟩ => show (((a.val * 16 + b.val) * 16 + c.val) * 1024 + l.val) / 262144 % 16 = a.val; omega
      | ⟨2, _⟩ => show (((a.val * 16 + b.val) * 16 + c.val) * 1024 + l.val) / 16384 % 16 = b.val; omega
      | ⟨3, _⟩ => show (((a.val * 16 + b.val) * 16 + c.val) * 1024 + l.val) / 1024 % 16 = c.val; omega
      | ⟨4, _⟩ => show (((a.val * 16 + b.val) * 16 + c.val) * 1024 + l.val) % 1024 = l.val; omega
    have e5 : ∀ (a b c : Fin 16) (l : Fin 1024), idx_main_v0 (ix5 0 a b c l) = ix5 (0 : Fin 3) a b c l := by
      intro a b c l
      funext z
      refine Fin.ext ?_
      match z with
      | ⟨0, _⟩ => rfl
      | ⟨1, _⟩ => rfl
      | ⟨2, _⟩ => rfl
      | ⟨3, _⟩ => rfl
      | ⟨4, _⟩ => rfl
    rw [e1, e2, e3, e4, e5]
  have hi : i = ix4 (i 0 : Fin 16) (i 1 : Fin 16) (i 2 : Fin 256) (i 3 : Fin 64) := eq_ix4 i
  rw [val_main_v5_apply, val_main_v4_apply, val_main_v3_apply, val_main_v2_apply, val_main_v1_apply, val_main_v0_apply, Ideal.extf_def]
  exact congrArg (fun z => ((A.a0 z : ℝ) : EReal))
    ((congrArg (fun z => idx_main_v0 (idx_main_v1 (idx_main_v3 (idx_main_v4 (idx_main_v5 z))))) hi).trans (key _ _ _ _))

theorem v11_eq (i : S16x16x256x64.Idx) : val_main_v11 (F := Ideal) (x0 A) i = (((hd A (i 0) (i 1)).k (i 2) (i 3) : ℝ) : EReal) := by
  have key : ∀ (r h : Fin 16) (p : Fin 256) (e : Fin 64), idx_main_v6 (idx_main_v7 (idx_main_v9 (idx_main_v10 (idx_main_v11 (ix4 r h p e)))))
      = ix5 (1 : Fin 3) (rowHi p) r (rowLo p) (lane h e) := by
    intro r h p e
    have hr := r.isLt
    have hh := h.isLt
    have hp := p.isLt
    have he := e.isLt
    have e1 : idx_main_v11 (ix4 r h p e) = ix5 r h (rowHi p) (rowLo p) e := by
      funext z
      refine Fin.ext ?_
      match z with
      | ⟨0, _⟩ => show (((r.val * 16 + h.val) * 256 + p.val) * 64 + e.val) / 262144 = r.val; omega
      | ⟨1, _⟩ => show (((r.val * 16 + h.val) * 256 + p.val) * 64 + e.val) / 16384 % 16 = h.val; omega
      | ⟨2, _⟩ => show (((r.val * 16 + h.val) * 256 + p.val) * 64 + e.val) / 1024 % 16 = p.val / 16; omega
      | ⟨3, _⟩ => show (((r.val * 16 + h.val) * 256 + p.val) * 64 + e.val) / 64 % 16 = p.val % 16; omega
      | ⟨4, _⟩ => show (((r.val * 16 + h.val) * 256 + p.val) * 64 + e.val) % 64 = e.val; omega
    have e2 : idx_main_v10 (ix5 r h (rowHi p) (rowLo p) e) = ix5 (rowHi p) r (rowLo p) h e := by
      funext z
      refine Fin.ext ?_
      match z with
      | ⟨0, _⟩ => rfl
      | ⟨1, _⟩ => rfl
      | ⟨2, _⟩ => rfl
      | ⟨3, _⟩ => rfl
      | ⟨4, _⟩ => rfl
    have e3 : ∀ a b c : Fin 16, idx_main_v9 (ix5 a b c h e) = ix4 a b c (lane h e) := by
      intro a b c
      have ha := a.isLt
      have hb := b.isLt
      have hc := c.isLt
      funext z
      refine Fin.ext ?_
      match z with
      | ⟨0, _⟩ => show ((((a.val * 16 + b.val) * 16 + c.val) * 16 + h.val) * 64 + e.val) / 262144 = a.val; omega
      | ⟨1, _⟩ => show ((((a.val * 16 + b.val) * 16 + c.val) * 16 + h.val) * 64 + e.val) / 16384 % 16 = b.val; omega
      | ⟨2, _⟩ => show ((((a.val * 16 + b.val) * 16 + c.val) * 16 + h.val) * 64 + e.val) / 1024 % 16 = c.val; omega
      | ⟨3, _⟩ => show ((((a.val * 16 + b.val) * 16 + c.val) * 16 + h.val) * 64 + e.val) % 1024 = h.val * 64 + e.val; omega
    have e4 : ∀ (a b c : Fin 16) (l : Fin 1024), idx_main_v7 (ix4 a b c l) = ix5 0 a b c l := by
      intro a b c l
      have ha := a.isLt
      have hb := b.isLt
      have hc := c.isLt
      have hl := l.isLt
      funext z
      refine Fin.ext ?_
      match z with
      | ⟨0, _⟩ => rfl
      | ⟨1, _⟩ => show (((a.val * 16 + b.val) * 16 + c.val) * 1024 + l.val) / 262144 % 16 = a.val; omega
      | ⟨2, _⟩ => show (((a.val * 16 + b.val) * 16 + c.val) * 1024 + l.val) / 16384 % 16 = b.val; omega
      | ⟨3, _⟩ => show (((a.val * 16 + b.val) * 16 + c.val) * 1024 + l.val) / 1024 % 16 = c.val; omega
      | ⟨4, _⟩ => show (((a.val * 16 + b.val) * 16 + c.val) * 1024 + l.val) % 1024 = l.val; omega
    have e5 : ∀ (a b c : Fin 16) (l : Fin 1024), idx_main_v6 (ix5 0 a b c l) = ix5 (1 : Fin 3) a b c l := by
      intro a b c l
      funext z
      refine Fin.ext ?_
      match z with
      | ⟨0, _⟩ => rfl
      | ⟨1, _⟩ => rfl
      | ⟨2, _⟩ => rfl
      | ⟨3, _⟩ => rfl
      | ⟨4, _⟩ => rfl
    rw [e1, e2, e3, e4, e5]
  have hi : i = ix4 (i 0 : Fin 16) (i 1 : Fin 16) (i 2 : Fin 256) (i 3 : Fin 64) := eq_ix4 i
  rw [val_main_v11_apply, val_main_v10_apply, val_main_v9_apply, val_main_v8_apply, val_main_v7_apply, val_main_v6_apply, Ideal.extf_def]
  exact congrArg (fun z => ((A.a0 z : ℝ) : EReal))
    ((congrArg (fun z => idx_main_v6 (idx_main_v7 (idx_main_v9 (idx_main_v10 (idx_main_v11 z))))) hi).trans (key _ _ _ _))

theorem v17_eq (i : S16x16x256x64.Idx) : val_main_v17 (F := Ideal) (x0 A) i = (((hd A (i 0) (i 1)).v (i 2) (i 3) : ℝ) : EReal) := by
  have key : ∀ (r h : Fin 16) (p : Fin 256) (e : Fin 64), idx_main_v12 (idx_main_v13 (idx_main_v15 (idx_main_v16 (idx_main_v17 (ix4 r h p e)))))
      = ix5 (2 : Fin 3) (rowHi p) r (rowLo p) (lane h e) := by
    intro r h p e
    have hr := r.isLt
    have hh := h.isLt
    have hp := p.isLt
    have he := e.isLt
    have e1 : idx_main_v17 (ix4 r h p e) = ix5 r h (rowHi p) (rowLo p) e := by
      funext z
      refine Fin.ext ?_
      match z with
      | ⟨0, _⟩ => show (((r.val * 16 + h.val) * 256 + p.val) * 64 + e.val) / 262144 = r.val; omega
      | ⟨1, _⟩ => show (((r.val * 16 + h.val) * 256 + p.val) * 64 + e.val) / 16384 % 16 = h.val; omega
      | ⟨2, _⟩ => show (((r.val * 16 + h.val) * 256 + p.val) * 64 + e.val) / 1024 % 16 = p.val / 16; omega
      | ⟨3, _⟩ => show (((r.val * 16 + h.val) * 256 + p.val) * 64 + e.val) / 64 % 16 = p.val % 16; omega
      | ⟨4, _⟩ => show (((r.val * 16 + h.val) * 256 + p.val) * 64 + e.val) % 64 = e.val; omega
    have e2 : idx_main_v16 (ix5 r h (rowHi p) (rowLo p) e) = ix5 (rowHi p) r (rowLo p) h e := by
      funext z
      refine Fin.ext ?_
      match z with
      | ⟨0, _⟩ => rfl
      | ⟨1, _⟩ => rfl
      | ⟨2, _⟩ => rfl
      | ⟨3, _⟩ => rfl
      | ⟨4, _⟩ => rfl
    have e3 : ∀ a b c : Fin 16, idx_main_v15 (ix5 a b c h e) = ix4 a b c (lane h e) := by
      intro a b c
      have ha := a.isLt
      have hb := b.isLt
      have hc := c.isLt
      funext z
      refine Fin.ext ?_
      match z with
      | ⟨0, _⟩ => show ((((a.val * 16 + b.val) * 16 + c.val) * 16 + h.val) * 64 + e.val) / 262144 = a.val; omega
      | ⟨1, _⟩ => show ((((a.val * 16 + b.val) * 16 + c.val) * 16 + h.val) * 64 + e.val) / 16384 % 16 = b.val; omega
      | ⟨2, _⟩ => show ((((a.val * 16 + b.val) * 16 + c.val) * 16 + h.val) * 64 + e.val) / 1024 % 16 = c.val; omega
      | ⟨3, _⟩ => show ((((a.val * 16 + b.val) * 16 + c.val) * 16 + h.val) * 64 + e.val) % 1024 = h.val * 64 + e.val; omega
    have e4 : ∀ (a b c : Fin 16) (l : Fin 1024), idx_main_v13 (ix4 a b c l) = ix5 0 a b c l := by
      intro a b c l
      have ha := a.isLt
      have hb := b.isLt
      have hc := c.isLt
      have hl := l.isLt
      funext z
      refine Fin.ext ?_
      match z with
      | ⟨0, _⟩ => rfl
      | ⟨1, _⟩ => show (((a.val * 16 + b.val) * 16 + c.val) * 1024 + l.val) / 262144 % 16 = a.val; omega
      | ⟨2, _⟩ => show (((a.val * 16 + b.val) * 16 + c.val) * 1024 + l.val) / 16384 % 16 = b.val; omega
      | ⟨3, _⟩ => show (((a.val * 16 + b.val) * 16 + c.val) * 1024 + l.val) / 1024 % 16 = c.val; omega
      | ⟨4, _⟩ => show (((a.val * 16 + b.val) * 16 + c.val) * 1024 + l.val) % 1024 = l.val; omega
    have e5 : ∀ (a b c : Fin 16) (l : Fin 1024), idx_main_v12 (ix5 0 a b c l) = ix5 (2 : Fin 3) a b c l := by
      intro a b c l
      funext z
      refine Fin.ext ?_
      match z with
      | ⟨0, _⟩ => rfl
      | ⟨1, _⟩ => rfl
      | ⟨2, _⟩ => rfl
      | ⟨3, _⟩ => rfl
      | ⟨4, _⟩ => rfl
    rw [e1, e2, e3, e4, e5]
  have hi : i = ix4 (i 0 : Fin 16) (i 1 : Fin 16) (i 2 : Fin 256) (i 3 : Fin 64) := eq_ix4 i
  rw [val_main_v17_apply, val_main_v16_apply, val_main_v15_apply, val_main_v14_apply, val_main_v13_apply, val_main_v12_apply, Ideal.extf_def]
  exact congrArg (fun z => ((A.a0 z : ℝ) : EReal))
    ((congrArg (fun z => idx_main_v12 (idx_main_v13 (idx_main_v15 (idx_main_v16 (idx_main_v17 z))))) hi).trans (key _ _ _ _))

theorem v20_eq (i : S16x16x256x64.Idx) : val_main_v20 (F := Ideal) (x1 A) i = (((hd A (i 0) (i 1)).o1 (i 2) (i 3) : ℝ) : EReal) := by
  have key : ∀ (r h : Fin 16) (p : Fin 256) (e : Fin 64), idx_main_v18 (idx_main_v19 (idx_main_v20 (ix4 r h p e)))
      = ix4 (rowHi p) r (rowLo p) (lane h e) := by
    intro r h p e
    have hr := r.isLt
    have hh := h.isLt
    have hp := p.isLt
    have he := e.isLt
    have e1 : idx_main_v20 (ix4 r h p e) = ix5 r h (rowHi p) (rowLo p) e := by
      funext z
      refine Fin.ext ?_
      match z with
      | ⟨0, _⟩ => show (((r.val * 16 + h.val) * 256 + p.val) * 64 + e.val) / 262144 = r.val; omega
      | ⟨1, _⟩ => show (((r.val * 16 + h.val) * 256 + p.val) * 64 + e.val) / 16384 % 16 = h.val; omega
      | ⟨2, _⟩ => show (((r.val * 16 + h.val) * 256 + p.val) * 64 + e.val) / 1024 % 16 = p.val / 16; omega
      | ⟨3, _⟩ => show (((r.val * 16 + h.val) * 256 + p.val) * 64 + e.val) / 64 % 16 = p.val % 16; omega
      | ⟨4, _⟩ => show (((r.val * 16 + h.val) * 256 + p.val) * 64 + e.val) % 64 = e.val; omega
    have e2 : idx_main_v19 (ix5 r h (rowHi p) (rowLo p) e) = ix5 (rowHi p) r (rowLo p) h e := by
      funext z
      refine Fin.ext ?_
      match z with
      | ⟨0, _⟩ => rfl
      | ⟨1, _⟩ => rfl
      | ⟨2, _⟩ => rfl
      | ⟨3, _⟩ => rfl
      | ⟨4, _⟩ => rfl
    have e3 : ∀ a b c : Fin 16, idx_main_v18 (ix5 a b c h e) = ix4 a b c (lane h e) := by
      intro a b c
      have ha := a.isLt
      have hb := b.isLt
      have hc := c.isLt
      funext z
      refine Fin.ext ?_
      match z with
      | ⟨0, _⟩ => show ((((a.val * 16 + b.val) * 16 + c.val) * 16 + h.val) * 64 + e.val) / 262144 = a.val; omega
      | ⟨1, _⟩ => show ((((a.val * 16 + b.val) * 16 + c.val) * 16 + h.val) * 64 + e.val) / 16384 % 16 = b.val; omega
      | ⟨2, _⟩ => show ((((a.val * 16 + b.val) * 16 + c.val) * 16 + h.val) * 64 + e.val) / 1024 % 16 = c.val; omega
      | ⟨3, _⟩ => show ((((a.val * 16 + b.val) * 16 + c.val) * 16 + h.val) * 64 + e.val) % 1024 = h.val * 64 + e.val; omega
    rw [e1, e2, e3]
  have hi : i = ix4 (i 0 : Fin 16) (i 1 : Fin 16) (i 2 : Fin 256) (i 3 : Fin 64) := eq_ix4 i
  rw [val_main_v20_apply, val_main_v19_apply, val_main_v18_apply]
  exact congrArg (fun z => ((A.a1 z : ℝ) : EReal))
    ((congrArg (fun z => idx_main_v18 (idx_main_v19 (idx_main_v20 z))) hi).trans (key _ _ _ _))

theorem v23_eq (i : S16x16x256x64.Idx) : val_main_v23 (F := Ideal) (x3 A) i = (((hd A (i 0) (i 1)).o2 (i 2) (i 3) : ℝ) : EReal) := by
  have key : ∀ (r h : Fin 16) (p : Fin 256) (e : Fin 64), idx_main_v21 (idx_main_v22 (idx_main_v23 (ix4 r h p e)))
      = ix4 (rowHi p) r (rowLo p) (lane h e) := by
    intro r h p e
    have hr := r.isLt
    have hh := h.isLt
    have hp := p.isLt
    have he := e.isLt
    have e1 : idx_main_v23 (ix4 r h p e) = ix5 r h (rowHi p) (rowLo p) e := by
      funext z
      refine Fin.ext ?_
      match z with
      | ⟨0, _⟩ => show (((r.val * 16 + h.val) * 256 + p.val) * 64 + e.val) / 262144 = r.val; omega
      | ⟨1, _⟩ => show (((r.val * 16 + h.val) * 256 + p.val) * 64 + e.val) / 16384 % 16 = h.val; omega
      | ⟨2, _⟩ => show (((r.val * 16 + h.val) * 256 + p.val) * 64 + e.val) / 1024 % 16 = p.val / 16; omega
      | ⟨3, _⟩ => show (((r.val * 16 + h.val) * 256 + p.val) * 64 + e.val) / 64 % 16 = p.val % 16; omega
      | ⟨4, _⟩ => show (((r.val * 16 + h.val) * 256 + p.val) * 64 + e.val) % 64 = e.val; omega
    have e2 : idx_main_v22 (ix5 r h (rowHi p) (rowLo p) e) = ix5 (rowHi p) r (rowLo p) h e := by
      funext z
      refine Fin.ext ?_
      match z with
      | ⟨0, _⟩ => rfl
      | ⟨1, _⟩ => rfl
      | ⟨2, _⟩ => rfl
      | ⟨3, _⟩ => rfl
      | ⟨4, _⟩ => rfl
    have e3 : ∀ a b c : Fin 16, idx_main_v21 (ix5 a b c h e) = ix4 a b c (lane h e) := by
      intro a b c
      have ha := a.isLt
      have hb := b.isLt
      have hc := c.isLt
      funext z
      refine Fin.ext ?_
      match z with
      | ⟨0, _⟩ => show ((((a.val * 16 + b.val) * 16 + c.val) * 16 + h.val) * 64 + e.val) / 262144 = a.val; omega
      | ⟨1, _⟩ => show ((((a.val * 16 + b.val) * 16 + c.val) * 16 + h.val) * 64 + e.val) / 16384 % 16 = b.val; omega
      | ⟨2, _⟩ => show ((((a.val * 16 + b.val) * 16 + c.val) * 16 + h.val) * 64 + e.val) / 1024 % 16 = c.val; omega
      | ⟨3, _⟩ => show ((((a.val * 16 + b.val) * 16 + c.val) * 16 + h.val) * 64 + e.val) % 1024 = h.val * 64 + e.val; omega
    rw [e1, e2, e3]
  have hi : i = ix4 (i 0 : Fin 16) (i 1 : Fin 16) (i 2 : Fin 256) (i 3 : Fin 64) := eq_ix4 i
  rw [val_main_v23_apply, val_main_v22_apply, val_main_v21_apply]
  exact congrArg (fun z => ((A.a3 z : ℝ) : EReal))
    ((congrArg (fun z => idx_main_v21 (idx_main_v22 (idx_main_v23 z))) hi).trans (key _ _ _ _))

theorem v26_eq (i : S16x16x256x64.Idx) : val_main_v26 (F := Ideal) (x5 A) i = (((hd A (i 0) (i 1)).ct (i 2) (i 3) : ℝ) : EReal) := by
  have key : ∀ (r h : Fin 16) (p : Fin 256) (e : Fin 64), idx_main_v24 (idx_main_v25 (idx_main_v26 (ix4 r h p e)))
      = ix4 (rowHi p) r (rowLo p) (lane h e) := by
    intro r h p e
    have hr := r.isLt
    have hh := h.isLt
    have hp := p.isLt
    have he := e.isLt
    have e1 : idx_main_v26 (ix4 r h p e) = ix5 r h (rowHi p) (rowLo p) e := by
      funext z
      refine Fin.ext ?_
      match z with
      | ⟨0, _⟩ => show (((r.val * 16 + h.val) * 256 + p.val) * 64 + e.val) / 262144 = r.val; omega
      | ⟨1, _⟩ => show (((r.val * 16 + h.val) * 256 + p.val) * 64 + e.val) / 16384 % 16 = h.val; omega
      | ⟨2, _⟩ => show (((r.val * 16 + h.val) * 256 + p.val) * 64 + e.val) / 1024 % 16 = p.val / 16; omega
      | ⟨3, _⟩ => show (((r.val * 16 + h.val) * 256 + p.val) * 64 + e.val) / 64 % 16 = p.val % 16; omega
      | ⟨4, _⟩ => show (((r.val * 16 + h.val) * 256 + p.val) * 64 + e.val) % 64 = e.val; omega
    have e2 : idx_main_v25 (ix5 r h (rowHi p) (rowLo p) e) = ix5 (rowHi p) r (rowLo p) h e := by
      funext z
      refine Fin.ext ?_
      match z with
      | ⟨0, _⟩ => rfl
      | ⟨1, _⟩ => rfl
      | ⟨2, _⟩ => rfl
      | ⟨3, _⟩ => rfl
      | ⟨4, _⟩ => rfl
    have e3 : ∀ a b c : Fin 16, idx_main_v24 (ix5 a b c h e) = ix4 a b c (lane h e) := by
      intro a b c
      have ha := a.isLt
      have hb := b.isLt
      have hc := c.isLt
      funext z
      refine Fin.ext ?_
      match z with
      | ⟨0, _⟩ => show ((((a.val * 16 + b.val) * 16 + c.val) * 16 + h.val) * 64 + e.val) / 262144 = a.val; omega
      | ⟨1, _⟩ => show ((((a.val * 16 + b.val) * 16 + c.val) * 16 + h.val) * 64 + e.val) / 16384 % 16 = b.val; omega
      | ⟨2, _⟩ => show ((((a.val * 16 + b.val) * 16 + c.val) * 16 + h.val) * 64 + e.val) / 1024 % 16 = c.val; omega
      | ⟨3, _⟩ => show ((((a.val * 16 + b.val) * 16 + c.val) * 16 + h.val) * 64 + e.val) % 1024 = h.val * 64 + e.val; omega
    rw [e1, e2, e3]
  have hi : i = ix4 (i 0 : Fin 16) (i 1 : Fin 16) (i 2 : Fin 256) (i 3 : Fin 64) := eq_ix4 i
  rw [val_main_v26_apply, val_main_v25_apply, val_main_v24_apply]
  exact congrArg (fun z => ((A.a5 z : ℝ) : EReal))
    ((congrArg (fun z => idx_main_v24 (idx_main_v25 (idx_main_v26 z))) hi).trans (key _ _ _ _))

theorem v30_eq (i : S16x16x256.Idx) : val_main_v30 (F := Ideal) (x2 A) i = (((hd A (i 0) (i 1)).l1 (i 2) : ℝ) : EReal) := by
  have key : ∀ (r h : Fin 16) (p : Fin 256), idx_main_v27 (idx_main_v28 (idx_main_v29 (idx_main_v30 (ix3 r h p)))) = ix4 (rowHi p) r (rowLo p) h := by
    intro r h p
    have hr := r.isLt
    have hh := h.isLt
    have hp := p.isLt
    have e1 : idx_main_v30 (ix3 r h p) = ix4 r h p 0 := by
      funext a
      refine Fin.ext ?_
      match a with
      | ⟨0, _⟩ => show ((r.val * 16 + h.val) * 256 + p.val) / 4096 = r.val; omega
      | ⟨1, _⟩ => show ((r.val * 16 + h.val) * 256 + p.val) / 256 % 16 = h.val; omega
      | ⟨2, _⟩ => show ((r.val * 16 + h.val) * 256 + p.val) / 1 % 256 = p.val; omega
      | ⟨3, _⟩ => rfl
    have e2 : idx_main_v29 (ix4 r h p 0) = ix5 r h (rowHi p) (rowLo p) 0 := by
      funext a
      refine Fin.ext ?_
      match a with
      | ⟨0, _⟩ => show (((r.val * 16 + h.val) * 256 + p.val) * 1 + 0) / 4096 = r.val; omega
      | ⟨1, _⟩ => show (((r.val * 16 + h.val) * 256 + p.val) * 1 + 0) / 256 % 16 = h.val; omega
      | ⟨2, _⟩ => show (((r.val * 16 + h.val) * 256 + p.val) * 1 + 0) / 16 % 16 = p.val / 16; omega
      | ⟨3, _⟩ => show (((r.val * 16 + h.val) * 256 + p.val) * 1 + 0) / 1 % 16 = p.val % 16; omega
      | ⟨4, _⟩ => rfl
    have e3 : idx_main_v28 (ix5 r h (rowHi p) (rowLo p) 0) = ix5 (rowHi p) r (rowLo p) h 0 := by
      funext a
      refine Fin.ext ?_
      match a with
      | ⟨0, _⟩ => rfl
      | ⟨1, _⟩ => rfl
      | ⟨2, _⟩ => rfl
      | ⟨3, _⟩ => rfl
      | ⟨4, _⟩ => rfl
    have e4 : ∀ a b c d : Fin 16, idx_main_v27 (ix5 a b c d 0) = ix4 a b c d := by
      intro a b c d
      have ha := a.isLt
      have hb := b.isLt
      have hc := c.isLt
      have hd := d.isLt
      funext z
      refine Fin.ext ?_
      match z with
      | ⟨0, _⟩ => show ((((a.val * 16 + b.val) * 16 + c.val) * 16 + d.val) * 1 + 0) / 4096 = a.val; omega
      | ⟨1, _⟩ => show ((((a.val * 16 + b.val) * 16 + c.val) * 16 + d.val) * 1 + 0) / 256 % 16 = b.val; omega
      | ⟨2, _⟩ => show ((((a.val * 16 + b.val) * 16 + c.val) * 16 + d.val) * 1 + 0) / 16 % 16 = c.val; omega
      | ⟨3, _⟩ => show ((((a.val * 16 + b.val) * 16 + c.val) * 16 + d.val) * 1 + 0) % 16 = d.val; omega
    rw [e1, e2, e3, e4]
  have hi : i = ix3 (i 0 : Fin 16) (i 1 : Fin 16) (i 2 : Fin 256) := eq_ix3 i
  rw [val_main_v30_apply, val_main_v29_apply, val_main_v28_apply, val_main_v27_apply]
  exact congrArg (fun z => ((A.a2 z : ℝ) : EReal)) ((congrArg (fun z => idx_main_v27 (idx_main_v28 (idx_main_v29 (idx_main_v30 z)))) hi).trans (key _ _ _))

theorem v34_eq (i : S16x16x256.Idx) : val_main_v34 (F := Ideal) (x4 A) i = (((hd A (i 0) (i 1)).l2 (i 2) : ℝ) : EReal) := by
  have key : ∀ (r h : Fin 16) (p : Fin 256), idx_main_v31 (idx_main_v32 (idx_main_v33 (idx_main_v34 (ix3 r h p)))) = ix4 (rowHi p) r (rowLo p) h := by
    intro r h p
    have hr := r.isLt
    have hh := h.isLt
    have hp := p.isLt
    have e1 : idx_main_v34 (ix3 r h p) = ix4 r h p 0 := by
      funext a
      refine Fin.ext ?_
      match a with
      | ⟨0, _⟩ => show ((r.val * 16 + h.val) * 256 + p.val) / 4096 = r.val; omega
      | ⟨1, _⟩ => show ((r.val * 16 + h.val) * 256 + p.val) / 256 % 16 = h.val; omega
      | ⟨2, _⟩ => show ((r.val * 16 + h.val) * 256 + p.val) / 1 % 256 = p.val; omega
      | ⟨3, _⟩ => rfl
    have e2 : idx_main_v33 (ix4 r h p 0) = ix5 r h (rowHi p) (rowLo p) 0 := by
      funext a
      refine Fin.ext ?_
      match a with
      | ⟨0, _⟩ => show (((r.val * 16 + h.val) * 256 + p.val) * 1 + 0) / 4096 = r.val; omega
      | ⟨1, _⟩ => show (((r.val * 16 + h.val) * 256 + p.val) * 1 + 0) / 256 % 16 = h.val; omega
      | ⟨2, _⟩ => show (((r.val * 16 + h.val) * 256 + p.val) * 1 + 0) / 16 % 16 = p.val / 16; omega
      | ⟨3, _⟩ => show (((r.val * 16 + h.val) * 256 + p.val) * 1 + 0) / 1 % 16 = p.val % 16; omega
      | ⟨4, _⟩ => rfl
    have e3 : idx_main_v32 (ix5 r h (rowHi p) (rowLo p) 0) = ix5 (rowHi p) r (rowLo p) h 0 := by
      funext a
      refine Fin.ext ?_
      match a with
      | ⟨0, _⟩ => rfl
      | ⟨1, _⟩ => rfl
      | ⟨2, _⟩ => rfl
      | ⟨3, _⟩ => rfl
      | ⟨4, _⟩ => rfl
    have e4 : ∀ a b c d : Fin 16, idx_main_v31 (ix5 a b c d 0) = ix4 a b c d := by
      intro a b c d
      have ha := a.isLt
      have hb := b.isLt
      have hc := c.isLt
      have hd := d.isLt
      funext z
      refine Fin.ext ?_
      match z with
      | ⟨0, _⟩ => show ((((a.val * 16 + b.val) * 16 + c.val) * 16 + d.val) * 1 + 0) / 4096 = a.val; omega
      | ⟨1, _⟩ => show ((((a.val * 16 + b.val) * 16 + c.val) * 16 + d.val) * 1 + 0) / 256 % 16 = b.val; omega
      | ⟨2, _⟩ => show ((((a.val * 16 + b.val) * 16 + c.val) * 16 + d.val) * 1 + 0) / 16 % 16 = c.val; omega
      | ⟨3, _⟩ => show ((((a.val * 16 + b.val) * 16 + c.val) * 16 + d.val) * 1 + 0) % 16 = d.val; omega
    rw [e1, e2, e3, e4]
  have hi : i = ix3 (i 0 : Fin 16) (i 1 : Fin 16) (i 2 : Fin 256) := eq_ix3 i
  rw [val_main_v34_apply, val_main_v33_apply, val_main_v32_apply, val_main_v31_apply]
  exact congrArg (fun z => ((A.a4 z : ℝ) : EReal)) ((congrArg (fun z => idx_main_v31 (idx_main_v32 (idx_main_v33 (idx_main_v34 z)))) hi).trans (key _ _ _))

end Attn
-- ==== Proof.Attn.RefValue.lean ====
/-
  The reference's bias, scores and the largest score of each query, read at an index as real numbers.
-/
module

public import proofs.«01_k».proof.Proof.Attn.RefIdx

@[expose] public section

set_option maxRecDepth 16384
set_option backward.isDefEq.respectTransparency false

noncomputable section

namespace Attn

open Idealize.ShloMosaic Idealize.ShloMosaic.ValueIdx
open Cert.ReferenceIdeal Cert.ReferenceIdeal.Gen Cert.ReferenceIdeal.Read

variable (A : Args)

theorem v42_eq (i : S256x256.Idx) :
    val_main_v42 (F := Ideal) i = BitVec.ofNat 32 ((((i 1 : Fin 256).val : ℤ) - ((i 0 : Fin 256).val : ℤ)).natAbs) := by
  rw [val_main_v42_apply, val_main_v41_apply, val_main_v39_apply, val_main_v36_apply, val_main_v35_apply, val_main_v40_apply,
    val_main_v38_apply, val_main_v37_apply]
  exact word_dist (i 0) (i 1)

theorem v64_eq (i : S256x256.Idx) : val_main_v64 (F := Ideal) i = (((16 * (dist (i 0) (i 1) : ℝ)) : ℝ) : EReal) := by
  rw [val_main_v64_apply, val_main_v63_apply, val_main_v62_apply, val_main_c_apply, v42_eq]
  have := word_mul ⟨_, natAbs_lt (i 0) (i 1)⟩
  rw [dist_natAbs]
  refine congrArg (fun z : ℝ => (z : EReal)) ?_
  refine (congrArg (fun z : ℤ => (z : ℝ)) this).trans ?_
  push_cast; rfl

theorem v59_eq (i : S16.Idx) : val_main_v59 (F := Ideal) i = ((slope (i 0) : ℝ) : EReal) := by
  rw [← slope_coe]
  unfold val_main_v59
  refine (concatenate_ofFn_unit_apply (t := S16) (s₁ := S1) 0 (N := 16) (fun n : Fin 16 => constant (F := Ideal) S1 .f32 (slopeBits n))
    _ rfl rfl i (i 0) rfl (ix1 (0 : Fin 1)) (fun b hb => absurd (Subsingleton.elim _ _) hb)).trans rfl

theorem v68_eq (i : S16x256x256.Idx) :
    val_main_v68 (F := Ideal) i = ((-slope (i 0) * (16 * (dist (i 1) (i 2) : ℝ)) : ℝ) : EReal) := by
  rw [val_main_v68_apply, val_main_v66_apply, val_main_v61_apply, val_main_v60_apply, v59_eq, val_main_v67_apply,
    val_main_v65_apply, v64_eq, Ideal.mulf_def, Ideal.hostNegf_def, Ideal.negf_def, coe_neg', coe_mul']
  rfl

theorem ofBits_eighth : Ideal.ofBits .f32 0x3E000000#32 = ((1 / 8 : ℝ) : EReal) := by
  simp [Ideal.ofBits, Ideal.ieee, -EReal.coe_mul]; norm_num

theorem ofBits_neg_inf : Ideal.ofBits .f32 0xFF800000#32 = ⊥ := by
  simp [Ideal.ofBits, Ideal.ieee]

theorem v74_eq (i : S16x16x256x256.Idx) :
    val_main_v74 (F := Ideal) (x0 A) i = (((hd A (i 0) (i 1)).S (i 2) (i 3) : ℝ) : EReal) := by
  rw [val_main_v74_apply, val_main_v71_apply, val_main_v69_apply, val_main_v70_apply, val_main_cst_15_apply,
    val_main_v73_apply, val_main_v72_apply, v68_eq, Ideal.ofBits_def, ofBits_eighth, Ideal.addf_def, Ideal.mulf_def]
  simp only [v5_eq, v11_eq, coe_mul', ← coe_sum, coe_add']
  refine congrArg (fun z : ℝ => (z : EReal)) ?_
  show _ = (∑ e, (hd A (i 0) (i 1)).q (i 2) e * (hd A (i 0) (i 1)).k (i 3) e) * (1 / 8) - 16 * slope (i 1) * (dist (i 2) (i 3) : ℝ)
  rw [sub_eq_add_neg]
  refine congrArg₂ (· + ·) rfl ?_
  show -slope (i 1) * (16 * (dist (i 2) (i 3) : ℝ)) = _
  ring

theorem v76_eq (i : S256x256.Idx) : val_main_v76 (F := Ideal) i = if near (i 0) (i 1) then 1#1 else 0#1 := by
  rw [val_main_v76_apply, val_main_v75_apply, val_main_c_16_apply, v42_eq]
  refine (word_le ⟨_, natAbs_lt (i 0) (i 1)⟩).trans ?_
  have : near (i 0) (i 1) ↔ (((i 1 : Fin 256).val : ℤ) - ((i 0 : Fin 256).val : ℤ)).natAbs ≤ 64 := by
    unfold near; rw [dist_natAbs]; omega
  simp only [this]

theorem v77_1_eq (i : S16x16x256x256.Idx) : val_main_v77_1 (F := Ideal) i = if near (i 2) (i 3) then 1#1 else 0#1 := by
  rw [val_main_v77_1_apply, v76_eq]
  rfl

theorem select_near {α : Type} (i j : Fin 256) (x y : α) :
    Scalar.select (if near i j then 1#1 else 0#1) x y = if near i j then x else y := by
  split_ifs <;> rfl

theorem v77_0_eq (i : S16x16x256x256.Idx) : val_main_v77_0 (F := Ideal) (x0 A) i
    = if near (i 2) (i 3) then (((hd A (i 0) (i 1)).S (i 2) (i 3) : ℝ) : EReal) else ⊥ := by
  rw [val_main_v77_0_apply, v77_1_eq, select_near, v74_eq, val_main_call0_v2_apply, val_main_call0_v0_apply,
    val_main_cst_17_apply, Ideal.ofBits_def, ofBits_neg_inf]

/-- A fold of maxima from −∞ over values below +∞, of which one is not −∞, is a real number. -/
theorem fold_max_real {ι : Type} [Fintype ι] (f : ι → EReal) (h1 : ∀ k, f k < ⊤) (k0 : ι) (h2 : ⊥ < f k0) :
    ∃ t : ℝ, (Finset.univ : Finset ι).fold max ⊥ f = (t : EReal) := by
  have hlt : (Finset.univ : Finset ι).fold max ⊥ f < ⊤ := (Finset.fold_max_lt _).2 ⟨bot_lt_top, fun k _ => h1 k⟩
  have hgt : ⊥ < (Finset.univ : Finset ι).fold max ⊥ f := (Finset.lt_fold_max _).2 (Or.inr ⟨k0, Finset.mem_univ _, h2⟩)
  exact ⟨_, (EReal.coe_toReal hlt.ne hgt.ne').symm⟩

theorem v78_real (i : S16x16x256.Idx) : ∃ t : ℝ, val_main_v78 (F := Ideal) (x0 A) i = (t : EReal) := by
  have e := Host.reduce_eq_fold_single (max : EReal → EReal → EReal) (val_main_v77_0 (F := Ideal) (x0 A)) (val_main_cst_18 (F := Ideal))
    reducesTo_S16x16x256x256_S16x16x256_d3 (by decide) h_S_ i
  have e' : val_main_v78 (F := Ideal) (x0 A) i = _ := e
  have hb : (val_main_cst_18 (F := Ideal)) (Shape.Idx.first h_S_) = (⊥ : EReal) := ofBits_neg_inf
  rw [hb] at e'
  rw [e']
  refine fold_max_real _ (fun k => ?_) (i 2) ?_
  · simp only [Function.comp]; rw [v77_0_eq]; split_ifs
    · exact EReal.coe_lt_top _
    · exact bot_lt_top
  · simp only [Function.comp]; rw [v77_0_eq, if_pos]
    · exact EReal.bot_lt_coe _
    · exact near_self (i 2)

/-- The largest score of a query. -/
def top (i : S16x16x256.Idx) : ℝ := (v78_real A i).choose

theorem v78_eq (i : S16x16x256.Idx) : val_main_v78 (F := Ideal) (x0 A) i = ((top A i : ℝ) : EReal) := (v78_real A i).choose_spec

end Attn
-- ==== Proof.Attn.RefFwd.lean ====
/-
  The forward values the derivative keeps, at finite arguments: probabilities, log-sums, outputs and the groups' weights.
-/
module

public import proofs.«01_k».proof.Proof.Attn.RefValue

@[expose] public section

set_option maxRecDepth 16384
set_option backward.isDefEq.respectTransparency false

noncomputable section

namespace Attn

open Idealize.ShloMosaic Idealize.ShloMosaic.ValueIdx
open Cert.ReferenceIdeal Cert.ReferenceIdeal.Gen Cert.ReferenceIdeal.Read

variable (A : Args)

theorem v87_eq (i : S16x16x256x256.Idx) : val_main_v87 (F := Ideal) (x0 A) i
    = ((if near (i 2) (i 3) then Real.exp ((hd A (i 0) (i 1)).S (i 2) (i 3) - top A (ix3 (i 0) (i 1) (i 2))) else 0 : ℝ) : EReal) := by
  rw [val_main_v87_apply, val_main_v86_apply, v77_0_eq, val_main_v85_apply, val_main_v84_apply, v78_eq, Ideal.hostUnary_exp_def, Ideal.subf_def]
  have ht : top A (idx_main_v84 (idx_main_v85 i)) = top A (ix3 (i 0) (i 1) (i 2)) := congrArg (top A) (funext fun a => by
    match a with
    | ⟨0, _⟩ => rfl
    | ⟨1, _⟩ => rfl
    | ⟨2, _⟩ => rfl)
  rw [ht]
  by_cases hn : near (i 2) (i 3)
  · rw [if_pos hn, if_pos hn, coe_sub', Ideal.exp_coe]
  · rw [if_neg hn, if_neg hn, EReal.bot_sub, Ideal.exp_bot, EReal.coe_zero]

theorem v88_eq (i : S16x16x256.Idx) : val_main_v88 (F := Ideal) (x0 A) i
    = (((hd A (i 0) (i 1)).sumExp (i 2) * Real.exp (-top A i) : ℝ) : EReal) := by
  rw [val_main_v88_apply, val_main_cst_20_apply, Ideal.ofBits_def, Ideal.ofBits_zero_f32, zero_add]
  simp only [v87_eq, ← coe_sum]
  rw [← Head.sumExp_shift]
  refine congrArg (fun z : ℝ => (z : EReal)) ?_
  refine Finset.sum_congr rfl fun k _ => ?_
  exact congrArg (fun z => if near (i 2) k then Real.exp ((hd A (i 0) (i 1)).S (i 2) k - top A z) else 0) (eq_ix3 i).symm

theorem v90_eq (i : S16x16x256.Idx) : val_main_v90 (F := Ideal) (x0 A) i = (((hd A (i 0) (i 1)).lse (i 2) : ℝ) : EReal) := by
  rw [val_main_v90_apply, val_main_v89_apply, v88_eq, v78_eq, Ideal.hostUnary_log_def, Ideal.log_coe,
    if_neg (not_le.2 (mul_pos (Head.sumExp_pos _ _) (Real.exp_pos _))), Ideal.addf_def, coe_add', ← Head.sumExp_shift, Head.lse_shift]

theorem v94_eq (i : S16x16x256x256.Idx) : val_main_v94 (F := Ideal) (x0 A) i = (((hd A (i 0) (i 1)).p (i 2) (i 3) : ℝ) : EReal) := by
  rw [val_main_v94_apply, val_main_v93_apply, v77_0_eq, val_main_v92_apply, val_main_v91_apply, v90_eq, Ideal.hostUnary_exp_def, Ideal.subf_def]
  show Ideal.exp ((if near (i 2) (i 3) then (((hd A (i 0) (i 1)).S (i 2) (i 3) : ℝ) : EReal) else ⊥) - (((hd A (i 0) (i 1)).lse (i 2) : ℝ) : EReal)) = (((if near (i 2) (i 3) then Real.exp ((hd A (i 0) (i 1)).S (i 2) (i 3) - (hd A (i 0) (i 1)).lse (i 2)) else 0) : ℝ) : EReal)
  by_cases hn : near (i 2) (i 3)
  · rw [if_pos hn, if_pos hn, coe_sub', Ideal.exp_coe]
  · rw [if_neg hn, if_neg hn, EReal.bot_sub, Ideal.exp_bot, EReal.coe_zero]

theorem v95_eq (i : S16x16x256x64.Idx) : val_main_v95 (F := Ideal) (x0 A) i = (((hd A (i 0) (i 1)).o (i 2) (i 3) : ℝ) : EReal) := by
  rw [val_main_v95_apply]
  simp only [v94_eq, v17_eq, coe_mul', ← coe_sum]
  rfl

/-- The three groups' log-sums, one below the other. -/
def threeL (n : Fin 3) : S1x16x16x256.Idx → EReal := match n with
  | 0 => val_main_v96 (F := Ideal) (x2 A) | 1 => val_main_v97 (F := Ideal) (x4 A) | 2 => val_main_v98 (F := Ideal) (x0 A)

theorem threeL_eq (n : Fin 3) (r h : Fin 16) (p : Fin 256) : threeL A n (ix4 (0 : Fin 1) r h p) = (((hd A r h).l n p : ℝ) : EReal) :=
  match n with
  | 0 => (val_main_v96_apply (F := Ideal) (x2 A) _).trans ((v30_eq A _).trans rfl)
  | 1 => (val_main_v97_apply (F := Ideal) (x4 A) _).trans ((v34_eq A _).trans rfl)
  | 2 => (val_main_v98_apply (F := Ideal) (x0 A) _).trans ((v90_eq A _).trans rfl)

theorem v99_eq (i : S3x16x16x256.Idx) : val_main_v99 (F := Ideal) (x0 A) (x2 A) (x4 A) i
    = (((hd A (i 1) (i 2)).l (i 0) (i 3) : ℝ) : EReal) := by
  unfold val_main_v99
  refine (concatenate_ofFn_unit_apply (t := S3x16x16x256) (s₁ := S1x16x16x256) 0 (N := 3) (threeL A)
    _ rfl rfl i (i 0) rfl (ix4 (0 : Fin 1) (i 1) (i 2) (i 3)) (fun b hb => by
      match b with
      | ⟨0, _⟩ => exact absurd rfl hb
      | ⟨1, _⟩ => rfl
      | ⟨2, _⟩ => rfl
      | ⟨3, _⟩ => rfl)).trans ?_
  exact threeL_eq A (i 0) (i 1) (i 2) (i 3)

theorem v102_real (i : S16x16x256.Idx) : ∃ t : ℝ, val_main_v102 (F := Ideal) (x0 A) (x2 A) (x4 A) i = (t : EReal) := by
  have e := Host.reduce_eq_fold_single (max : EReal → EReal → EReal) (val_main_v99 (F := Ideal) (x0 A) (x2 A) (x4 A)) (val_main_cst_23 (F := Ideal))
    reducesTo_S3x16x16x256_S16x16x256_d0 (by decide) h_S_ i
  have e' : val_main_v102 (F := Ideal) (x0 A) (x2 A) (x4 A) i = _ := e
  have hb : (val_main_cst_23 (F := Ideal)) (Shape.Idx.first h_S_) = (⊥ : EReal) := ofBits_neg_inf
  rw [hb] at e'
  rw [e']
  refine fold_max_real _ (fun k => ?_) (0 : Fin 3) ?_
  · simp only [Function.comp]; rw [v99_eq]; exact EReal.coe_lt_top _
  · simp only [Function.comp]; rw [v99_eq]; exact EReal.bot_lt_coe _

/-- The largest of the three log-sums. -/
def mx (i : S16x16x256.Idx) : ℝ := (v102_real A i).choose
theorem v102_eq (i : S16x16x256.Idx) : val_main_v102 (F := Ideal) (x0 A) (x2 A) (x4 A) i = ((mx A i : ℝ) : EReal) := (v102_real A i).choose_spec

theorem v109_eq (i : S16x16x256.Idx) : val_main_v109 (F := Ideal) (x0 A) (x2 A) (x4 A) i = ((mx A i : ℝ) : EReal) := by
  rw [val_main_v109_apply, val_main_v108_apply, val_main_cst_25_apply, v102_eq, Ideal.ofBits_def, ofBits_neg_inf, Ideal.maximumf_def]
  exact max_eq_right bot_le

theorem v122_eq (i : S3x16x16x256.Idx) : val_main_v122 (F := Ideal) (x0 A) (x2 A) (x4 A) i
    = ((Real.exp ((hd A (i 1) (i 2)).l (i 0) (i 3) - mx A (ix3 (i 1) (i 2) (i 3))) : ℝ) : EReal) := by
  rw [val_main_v122_apply, val_main_v121_apply, v99_eq, val_main_v120_apply, val_main_v119_apply, v109_eq, Ideal.hostUnary_exp_def,
    Ideal.subf_def, coe_sub', Ideal.exp_coe]
  have ht : mx A (idx_main_v119 (idx_main_v120 i)) = mx A (ix3 (i 1) (i 2) (i 3)) := congrArg (mx A) (funext fun a => by
    match a with
    | ⟨0, _⟩ => rfl
    | ⟨1, _⟩ => rfl
    | ⟨2, _⟩ => rfl)
  rw [ht]

theorem v123_eq (i : S16x16x256.Idx) : val_main_v123 (F := Ideal) (x0 A) (x2 A) (x4 A) i
    = ((Real.exp ((hd A (i 0) (i 1)).LT (i 2) - mx A i) : ℝ) : EReal) := by
  rw [val_main_v123_apply, val_main_cst_31_apply, Ideal.ofBits_def, Ideal.ofBits_zero_f32, zero_add]
  simp only [v122_eq, ← coe_sum]
  show _ = ((Real.exp ((hd A (i 0) (i 1)).LT (i 2) - mx A i) : ℝ) : EReal)
  rw [← Head.sum_exp_l (hd A (i 0) (i 1)) (i 2) (mx A i)]
  refine congrArg (fun z : ℝ => (z : EReal)) ?_
  refine Finset.sum_congr rfl fun k _ => ?_
  exact congrArg (fun z => Real.exp ((hd A (i 0) (i 1)).l k (i 2) - mx A z)) (eq_ix3 i).symm

/-- The total, spread over the leading axis of size one. -/
theorem v124_eq (i : S1x16x16x256.Idx) : val_main_v124 (F := Ideal) (x0 A) (x2 A) (x4 A) i
    = ((Real.exp ((hd A (i 1) (i 2)).LT (i 3) - mx A (ix3 (i 1) (i 2) (i 3))) : ℝ) : EReal) := by
  rw [val_main_v124_apply, v123_eq]
  have ht : idx_main_v124 i = ix3 (i 1) (i 2) (i 3) := funext fun a => by
    match a with
    | ⟨0, _⟩ => rfl
    | ⟨1, _⟩ => rfl
    | ⟨2, _⟩ => rfl
  rw [ht]
  rfl

theorem v126_eq (i : S3x16x16x256.Idx) : val_main_v126 (F := Ideal) (x0 A) (x2 A) (x4 A) i
    = (((hd A (i 1) (i 2)).w (i 0) (i 3) : ℝ) : EReal) := by
  rw [val_main_v126_apply, v122_eq, val_main_v125_apply, v124_eq, Ideal.hostDivf_def, coe_div' _ (Real.exp_pos _).ne']
  exact congrArg (fun z : ℝ => (z : EReal)) (Head.weight_shift _ _ _)

/-- The three groups' outputs, one below the other. -/
def threeO (n : Fin 3) : S1x16x16x256x64.Idx → EReal := match n with
  | 0 => val_main_v131 (F := Ideal) (x1 A) | 1 => val_main_v132 (F := Ideal) (x3 A) | 2 => val_main_v133 (F := Ideal) (x0 A)

theorem threeO_eq (n : Fin 3) (r h : Fin 16) (p : Fin 256) (e : Fin 64) :
    threeO A n (ix5 (0 : Fin 1) r h p e) = (((hd A r h).on n p e : ℝ) : EReal) :=
  match n with
  | 0 => (val_main_v131_apply (F := Ideal) (x1 A) _).trans ((v20_eq A _).trans rfl)
  | 1 => (val_main_v132_apply (F := Ideal) (x3 A) _).trans ((v23_eq A _).trans rfl)
  | 2 => (val_main_v133_apply (F := Ideal) (x0 A) _).trans ((v95_eq A _).trans rfl)

theorem v134_eq (i : S3x16x16x256x64.Idx) : val_main_v134 (F := Ideal) (x0 A) (x1 A) (x3 A) i
    = (((hd A (i 1) (i 2)).on (i 0) (i 3) (i 4) : ℝ) : EReal) := by
  unfold val_main_v134
  refine (concatenate_ofFn_unit_apply (t := S3x16x16x256x64) (s₁ := S1x16x16x256x64) 0 (N := 3) (threeO A)
    _ rfl rfl i (i 0) rfl (ix5 (0 : Fin 1) (i 1) (i 2) (i 3) (i 4)) (fun b hb => by
      match b with
      | ⟨0, _⟩ => exact absurd rfl hb
      | ⟨1, _⟩ => rfl
      | ⟨2, _⟩ => rfl
      | ⟨3, _⟩ => rfl
      | ⟨4, _⟩ => rfl)).trans ?_
  exact threeO_eq A (i 0) (i 1) (i 2) (i 3) (i 4)

theorem v140_eq (i : S3x16x16x256x64.Idx) : val_main_v140 (F := Ideal) (x5 A) i
    = (((hd A (i 1) (i 2)).ct (i 3) (i 4) : ℝ) : EReal) := by
  rw [val_main_v140_apply, v26_eq]
  rfl

theorem v142_eq (i : S3x16x16x256x64.Idx) : val_main_v142 (F := Ideal) (x0 A) (x2 A) (x4 A) (x5 A) i
    = (((hd A (i 1) (i 2)).w (i 0) (i 3) * (hd A (i 1) (i 2)).ct (i 3) (i 4) : ℝ) : EReal) := by
  rw [val_main_v142_apply, val_main_v141_apply, val_main_v130_apply, v126_eq, v140_eq, Ideal.mulf_def, coe_mul']
  rfl

theorem v144_eq (i : S3x16x16x256.Idx) : val_main_v144 (F := Ideal) (x0 A) (x1 A) (x3 A) (x5 A) i
    = (((hd A (i 1) (i 2)).g (i 0) (i 3) : ℝ) : EReal) := by
  rw [val_main_v144_apply, val_main_cst_36_apply, Ideal.ofBits_def, Ideal.ofBits_zero_f32, zero_add]
  simp only [val_main_v143_apply, v140_eq, v134_eq, Ideal.mulf_def, coe_mul', ← coe_sum]
  rfl

theorem v152_eq (i : S3x16x16x256.Idx) : val_main_v152 (F := Ideal) (x0 A) (x1 A) (x3 A) (x5 A) i
    = (((hd A (i 1) (i 2)).g (i 0) (i 3) : ℝ) : EReal) := by
  rw [val_main_v152_apply, val_main_cst_37_apply, Ideal.ofBits_def, Ideal.ofBits_zero_f32, zero_add, Fin.sum_univ_one,
    val_main_v145_apply, v144_eq]
  have e : idx_main_v145 (idx_main_v152 i 0) = i := by
    have h0 : (i 0).val < 3 := (i 0).isLt
    have h1 : (i 1).val < 16 := (i 1).isLt
    have h2 : (i 2).val < 16 := (i 2).isLt
    have h3 : (i 3).val < 256 := (i 3).isLt
    refine funext fun a => Fin.ext ?_
    match a with
    | ⟨0, _⟩ => dsimp only [idx_main_v145, idx_main_v152]; first | rfl | (show _ = (i 0).val; omega)
    | ⟨1, _⟩ => dsimp only [idx_main_v145, idx_main_v152]; first | rfl | (show _ = (i 1).val; omega)
    | ⟨2, _⟩ => dsimp only [idx_main_v145, idx_main_v152]; first | rfl | (show _ = (i 2).val; omega)
    | ⟨3, _⟩ => dsimp only [idx_main_v145, idx_main_v152]; first | rfl | (show _ = (i 3).val; omega)
  rw [e]

end Attn
-- ==== Proof.Attn.HostA.lean ====
/-
  The host operations before the kernel call, first stretch: the arrays of queries, keys and values, the scores and the band are the
  reference's.
-/
module

public import proofs.«01_k».proof.Proof.Attn.RefFwd
public import proofs.«01_k».proof.Proof.Gen.KernelIdeal.Frame.Runs
public import Idealize.ShloMosaic.Lib.StableHlo.Run

@[expose] public section

set_option maxRecDepth 16384

noncomputable section

namespace Attn

open Idealize.ShloMosaic Idealize.ShloMosaic.ValueIdx Idealize.ShloMosaic.StableHlo
open Cert.KernelIdeal Cert.KernelIdeal.Gen

/-- The buffers after the first stretch. -/
def hv1 (V0 : Valuation τ sig (Elt Ideal)) : Valuation τ sig (Elt Ideal) := after hostOps0 V0

set_option maxHeartbeats 8000000 in
/-- The values are the reference's. -/
theorem hv1_v17 (V0 : Valuation τ sig (Elt Ideal)) : hv1 V0 (no_index (Proc.devRef .tc main_v17)) = Cert.ReferenceIdeal.Read.val_main_v17 (F := Ideal) (V0 (Proc.devRef .tc main_arg0)) := by
  unfold hv1
  simp only [hostOps0]
  after_results_simp
  try rfl

set_option maxHeartbeats 8000000 in
/-- The scores with their bias are the reference's. -/
theorem hv1_v57 (V0 : Valuation τ sig (Elt Ideal)) : hv1 V0 (no_index (Proc.devRef .tc main_v57)) = Cert.ReferenceIdeal.Read.val_main_v74 (F := Ideal) (V0 (Proc.devRef .tc main_arg0)) := by
  unfold hv1
  simp only [hostOps0]
  after_results_simp
  try rfl

set_option maxHeartbeats 8000000 in
/-- The band is the reference's. -/
theorem hv1_v59 (V0 : Valuation τ sig (Elt Ideal)) : hv1 V0 (no_index (Proc.devRef .tc main_v59)) = Cert.ReferenceIdeal.Read.val_main_v76 (F := Ideal) := by
  unfold hv1
  simp only [hostOps0]
  after_results_simp
  try rfl

set_option maxHeartbeats 8000000 in
/-- The filling of the scores outside the band. -/
theorem hv1_cst_18 (V0 : Valuation τ sig (Elt Ideal)) : hv1 V0 (no_index (Proc.devRef .tc main_cst_18)) = Cert.ReferenceIdeal.Read.val_main_cst_17 (F := Ideal) := by
  unfold hv1
  simp only [hostOps0]
  after_results_simp
  try rfl

set_option maxHeartbeats 8000000 in
/-- The table of slopes. -/
theorem hv1_cst (V0 : Valuation τ sig (Elt Ideal)) : hv1 V0 (no_index (Proc.devRef .tc main_cst)) = fun i => Ideal.ofBits .f32 (lit0 (S8x2x1x256.rowMajor i)) := by
  unfold hv1
  simp only [hostOps0]
  after_results_simp
  try rfl

set_option maxHeartbeats 8000000 in
/-- An argument is kept. -/
theorem hv1_arg1 (V0 : Valuation τ sig (Elt Ideal)) : hv1 V0 (no_index (Proc.devRef .tc main_arg1)) = V0 (Proc.devRef .tc main_arg1) := by
  unfold hv1
  simp only [hostOps0]
  after_results_simp
  try rfl

set_option maxHeartbeats 8000000 in
/-- An argument is kept. -/
theorem hv1_arg2 (V0 : Valuation τ sig (Elt Ideal)) : hv1 V0 (no_index (Proc.devRef .tc main_arg2)) = V0 (Proc.devRef .tc main_arg2) := by
  unfold hv1
  simp only [hostOps0]
  after_results_simp
  try rfl

set_option maxHeartbeats 8000000 in
/-- An argument is kept. -/
theorem hv1_arg3 (V0 : Valuation τ sig (Elt Ideal)) : hv1 V0 (no_index (Proc.devRef .tc main_arg3)) = V0 (Proc.devRef .tc main_arg3) := by
  unfold hv1
  simp only [hostOps0]
  after_results_simp
  try rfl

set_option maxHeartbeats 8000000 in
/-- An argument is kept. -/
theorem hv1_arg4 (V0 : Valuation τ sig (Elt Ideal)) : hv1 V0 (no_index (Proc.devRef .tc main_arg4)) = V0 (Proc.devRef .tc main_arg4) := by
  unfold hv1
  simp only [hostOps0]
  after_results_simp
  try rfl

/-- The buffers after the masking. -/
def hv2 (V0 : Valuation τ sig (Elt Ideal)) : Valuation τ sig (Elt Ideal) := after hostOps0_1 (hv1 V0)

set_option maxHeartbeats 8000000 in
/-- The masked scores are the reference's. -/
theorem hv2_v60 (V0 : Valuation τ sig (Elt Ideal)) : hv2 V0 (no_index (Proc.devRef .tc main_v60))
    = Cert.ReferenceIdeal.Read.val_main_v77_0 (F := Ideal) (V0 (Proc.devRef .tc main_arg0)) := by
  unfold hv2
  simp only [hostOps0_1]
  after_results_simp
  simp only [hv1_v57, hv1_v59, hv1_cst_18]
  rfl

set_option maxHeartbeats 8000000 in
/-- A buffer the masking does not write. -/
theorem hv2_v17 (V0 : Valuation τ sig (Elt Ideal)) : hv2 V0 (no_index (Proc.devRef .tc main_v17)) = Cert.ReferenceIdeal.Read.val_main_v17 (F := Ideal) (V0 (Proc.devRef .tc main_arg0)) := by
  unfold hv2
  simp only [hostOps0_1]
  after_results_simp
  exact hv1_v17 V0

set_option maxHeartbeats 8000000 in
/-- A buffer the masking does not write. -/
theorem hv2_cst (V0 : Valuation τ sig (Elt Ideal)) : hv2 V0 (no_index (Proc.devRef .tc main_cst)) = fun i => Ideal.ofBits .f32 (lit0 (S8x2x1x256.rowMajor i)) := by
  unfold hv2
  simp only [hostOps0_1]
  after_results_simp
  exact hv1_cst V0

set_option maxHeartbeats 8000000 in
/-- A buffer the masking does not write. -/
theorem hv2_arg1 (V0 : Valuation τ sig (Elt Ideal)) : hv2 V0 (no_index (Proc.devRef .tc main_arg1)) = V0 (Proc.devRef .tc main_arg1) := by
  unfold hv2
  simp only [hostOps0_1]
  after_results_simp
  exact hv1_arg1 V0

set_option maxHeartbeats 8000000 in
/-- A buffer the masking does not write. -/
theorem hv2_arg2 (V0 : Valuation τ sig (Elt Ideal)) : hv2 V0 (no_index (Proc.devRef .tc main_arg2)) = V0 (Proc.devRef .tc main_arg2) := by
  unfold hv2
  simp only [hostOps0_1]
  after_results_simp
  exact hv1_arg2 V0

set_option maxHeartbeats 8000000 in
/-- A buffer the masking does not write. -/
theorem hv2_arg3 (V0 : Valuation τ sig (Elt Ideal)) : hv2 V0 (no_index (Proc.devRef .tc main_arg3)) = V0 (Proc.devRef .tc main_arg3) := by
  unfold hv2
  simp only [hostOps0_1]
  after_results_simp
  exact hv1_arg3 V0

set_option maxHeartbeats 8000000 in
/-- A buffer the masking does not write. -/
theorem hv2_arg4 (V0 : Valuation τ sig (Elt Ideal)) : hv2 V0 (no_index (Proc.devRef .tc main_arg4)) = V0 (Proc.devRef .tc main_arg4) := by
  unfold hv2
  simp only [hostOps0_1]
  after_results_simp
  exact hv1_arg4 V0

end Attn
-- ==== Proof.Attn.RefBack.lean ====
/-
  The backward half of the reference's operations at finite arguments: from the weights' gradient to the three gradients.
-/
module

public import proofs.«01_k».proof.Proof.Attn.RefFwd

@[expose] public section

set_option maxRecDepth 16384
set_option backward.isDefEq.respectTransparency false

noncomputable section

namespace Attn

open Idealize.ShloMosaic Idealize.ShloMosaic.ValueIdx
open Cert.ReferenceIdeal Cert.ReferenceIdeal.Gen Cert.ReferenceIdeal.Read

variable (A : Args)

/-- The three sizes of one over the square of the total. -/
theorem v129_eq (i : S1x16x16x256.Idx) : val_main_v129 (F := Ideal) (x0 A) (x2 A) (x4 A) i
    = ((1 / (Real.exp ((hd A (i 1) (i 2)).LT (i 3) - mx A (ix3 (i 1) (i 2) (i 3))) * Real.exp ((hd A (i 1) (i 2)).LT (i 3) - mx A (ix3 (i 1) (i 2) (i 3)))) : ℝ) : EReal) := by
  rw [val_main_v129_apply, val_main_v128_apply, val_main_cst_32_apply, val_main_v127_apply, v124_eq, Ideal.ofBits_def, Ideal.ofBits_one_f32,
    Ideal.hostDivf_def, Ideal.mulf_def, coe_mul', ← EReal.coe_one, coe_div' _ (mul_pos (Real.exp_pos _) (Real.exp_pos _)).ne']

theorem v156_eq (i : S16x16x256.Idx) : val_main_v156 (F := Ideal) (x0 A) (x1 A) (x2 A) (x3 A) (x4 A) (x5 A) i
    = ((∑ n, (hd A (i 0) (i 1)).g n (i 2) * (1 / (Real.exp ((hd A (i 0) (i 1)).LT (i 2) - mx A i) * Real.exp ((hd A (i 0) (i 1)).LT (i 2) - mx A i)))
        * Real.exp ((hd A (i 0) (i 1)).l n (i 2) - mx A i) : ℝ) : EReal) := by
  rw [val_main_v156_apply, val_main_cst_38_apply, Ideal.ofBits_def, Ideal.ofBits_zero_f32, zero_add]
  simp only [val_main_v155_apply, val_main_v154_apply, val_main_v153_apply, v152_eq, v129_eq, v122_eq, Ideal.mulf_def, coe_mul', ← coe_sum]
  refine congrArg (fun z : ℝ => (z : EReal)) ?_
  refine Finset.sum_congr rfl fun n _ => ?_
  have key : ∀ z : S16x16x256.Idx, z = i → (hd A (i 0) (i 1)).g n (i 2) * (1 / (Real.exp ((hd A (i 0) (i 1)).LT (i 2) - mx A z)
      * Real.exp ((hd A (i 0) (i 1)).LT (i 2) - mx A z))) * Real.exp ((hd A (i 0) (i 1)).l n (i 2) - mx A z)
      = (hd A (i 0) (i 1)).g n (i 2) * (1 / (Real.exp ((hd A (i 0) (i 1)).LT (i 2) - mx A i)
      * Real.exp ((hd A (i 0) (i 1)).LT (i 2) - mx A i))) * Real.exp ((hd A (i 0) (i 1)).l n (i 2) - mx A i) := by
    rintro _ rfl; rfl
  exact key _ (eq_ix3 i).symm

theorem v162_eq (i : S3x16x16x256.Idx) : val_main_v162 (F := Ideal) (x0 A) (x1 A) (x2 A) (x3 A) (x4 A) (x5 A) i
    = -val_main_v156 (F := Ideal) (x0 A) (x1 A) (x2 A) (x3 A) (x4 A) (x5 A) (ix3 (i 1) (i 2) (i 3)) := by
  rw [val_main_v162_apply, val_main_v161_apply, val_main_cst_39_apply, Ideal.ofBits_def, Ideal.ofBits_zero_f32, zero_add, Fin.sum_univ_one,
    val_main_v158_apply, val_main_v157_apply, Ideal.hostNegf_def, Ideal.negf_def]
  refine congrArg (fun z => -val_main_v156 (F := Ideal) (x0 A) (x1 A) (x2 A) (x3 A) (x4 A) (x5 A) z) ?_
  have h1 : (i 1).val < 16 := (i 1).isLt
  have h2 : (i 2).val < 16 := (i 2).isLt
  have h3 : (i 3).val < 256 := (i 3).isLt
  refine funext fun a => Fin.ext ?_
  match a with
  | ⟨0, _⟩ => dsimp only [idx_main_v157, idx_main_v161, idx_main_v162]; first | rfl | (show _ = (i 1).val; omega)
  | ⟨1, _⟩ => dsimp only [idx_main_v157, idx_main_v161, idx_main_v162]; first | rfl | (show _ = (i 2).val; omega)
  | ⟨2, _⟩ => dsimp only [idx_main_v157, idx_main_v161, idx_main_v162]; first | rfl | (show _ = (i 3).val; omega)

set_option backward.isDefEq.respectTransparency false in
theorem v170_eq (i : S16x16x256.Idx) : val_main_v170 (F := Ideal) (x0 A) (x1 A) (x2 A) (x3 A) (x4 A) (x5 A) i
    = (((hd A (i 0) (i 1)).w3 (i 2) * ((hd A (i 0) (i 1)).g3 (i 2) - (hd A (i 0) (i 1)).D (i 2)) : ℝ) : EReal) := by
  rw [val_main_v170_apply, val_main_v169_apply]
  have e : idx_main_v169 (idx_main_v170 i) = ix4 (2 : Fin 3) (i 0) (i 1) (i 2) := by
    have h0 : (i 0).val < 16 := (i 0).isLt
    have h1 : (i 1).val < 16 := (i 1).isLt
    have h2 : (i 2).val < 256 := (i 2).isLt
    refine funext fun a => Fin.ext ?_
    match a with
    | ⟨0, _⟩ => dsimp only [idx_main_v169, idx_main_v170]; first | rfl | omega
    | ⟨1, _⟩ => dsimp only [idx_main_v169, idx_main_v170]; first | rfl | (show _ = (i 0).val; omega)
    | ⟨2, _⟩ => dsimp only [idx_main_v169, idx_main_v170]; first | rfl | (show _ = (i 1).val; omega)
    | ⟨3, _⟩ => dsimp only [idx_main_v169, idx_main_v170]; first | rfl | (show _ = (i 2).val; omega)
  rw [e, val_main_v164_apply, val_main_v163_apply, val_main_v160_apply, v152_eq, val_main_v159_apply, v124_eq, v162_eq, v156_eq, v122_eq,
    Ideal.hostDivf_def, Ideal.addf_def, Ideal.mulf_def, coe_div' _ (Real.exp_pos _).ne', coe_neg', coe_add', coe_mul', ← Head.dlse_eq' _ _ (mx A (ix3 (i 0) (i 1) (i 2)))]
  refine congrArg (fun z : ℝ => (z : EReal)) ?_
  rfl

set_option backward.isDefEq.respectTransparency false in
theorem v151_eq (i : S16x16x256x64.Idx) : val_main_v151 (F := Ideal) (x0 A) (x2 A) (x4 A) (x5 A) i
    = (((hd A (i 0) (i 1)).w3 (i 2) * (hd A (i 0) (i 1)).ct (i 2) (i 3) : ℝ) : EReal) := by
  rw [val_main_v151_apply, val_main_v150_apply]
  have e : idx_main_v150 (idx_main_v151 i) = ix5 (2 : Fin 3) (i 0) (i 1) (i 2) (i 3) := by
    have h0 : (i 0).val < 16 := (i 0).isLt
    have h1 : (i 1).val < 16 := (i 1).isLt
    have h2 : (i 2).val < 256 := (i 2).isLt
    have h3 : (i 3).val < 64 := (i 3).isLt
    refine funext fun a => Fin.ext ?_
    match a with
    | ⟨0, _⟩ => dsimp only [idx_main_v150, idx_main_v151]; first | rfl | omega
    | ⟨1, _⟩ => dsimp only [idx_main_v150, idx_main_v151]; first | rfl | (show _ = (i 0).val; omega)
    | ⟨2, _⟩ => dsimp only [idx_main_v150, idx_main_v151]; first | rfl | (show _ = (i 1).val; omega)
    | ⟨3, _⟩ => dsimp only [idx_main_v150, idx_main_v151]; first | rfl | (show _ = (i 2).val; omega)
    | ⟨4, _⟩ => dsimp only [idx_main_v150, idx_main_v151]; first | rfl | (show _ = (i 3).val; omega)
  rw [e, v142_eq]; rfl

theorem v172_eq (i : S16x16x256x64.Idx) : val_main_v172 (F := Ideal) (x0 A) (x2 A) (x4 A) (x5 A) i
    = (((hd A (i 0) (i 1)).dv (i 2) (i 3) : ℝ) : EReal) := by
  rw [val_main_v172_apply, val_main_v171_apply]
  simp only [v151_eq, v94_eq, coe_mul', ← coe_sum]
  refine congrArg (fun z : ℝ => (z : EReal)) ?_
  refine Finset.sum_congr rfl fun k _ => ?_
  show (hd A (i 0) (i 1)).w3 k * (hd A (i 0) (i 1)).ct k (i 3) * (hd A (i 0) (i 1)).p k (i 2)
    = (hd A (i 0) (i 1)).P k (i 2) * (hd A (i 0) (i 1)).ct k (i 3)
  rw [Head.P_eq]
  ring

theorem v174_eq (i : S16x16x256x256.Idx) : val_main_v174 (F := Ideal) (x0 A) (x2 A) (x4 A) (x5 A) i
    = (((hd A (i 0) (i 1)).a (i 2) (i 3) : ℝ) : EReal) := by
  rw [val_main_v174_apply, val_main_v173_apply, v94_eq, Ideal.mulf_def]
  simp only [v151_eq, v17_eq, coe_mul', ← coe_sum]
  rfl

theorem v178_eq (i : S16x16x256.Idx) : val_main_v178 (F := Ideal) (x0 A) (x2 A) (x4 A) (x5 A) i
    = ((-∑ j, (hd A (i 0) (i 1)).a (i 2) j : ℝ) : EReal) := by
  rw [val_main_v178_apply, val_main_cst_41_apply, Ideal.ofBits_def, Ideal.ofBits_zero_f32, zero_add, Fin.sum_univ_one, val_main_v177_apply]
  have e : idx_main_v177 (idx_main_v178 i 0) = i := by
    have h0 : (i 0).val < 16 := (i 0).isLt
    have h1 : (i 1).val < 16 := (i 1).isLt
    have h2 : (i 2).val < 256 := (i 2).isLt
    refine funext fun a => Fin.ext ?_
    match a with
    | ⟨0, _⟩ => dsimp only [idx_main_v177, idx_main_v178]; first | rfl | (show _ = (i 0).val; omega)
    | ⟨1, _⟩ => dsimp only [idx_main_v177, idx_main_v178]; first | rfl | (show _ = (i 1).val; omega)
    | ⟨2, _⟩ => dsimp only [idx_main_v177, idx_main_v178]; first | rfl | (show _ = (i 2).val; omega)
  rw [e, val_main_v176_apply, val_main_cst_40_apply, Ideal.ofBits_def, Ideal.ofBits_zero_f32, zero_add]
  simp only [val_main_v175_apply, v174_eq, Ideal.hostNegf_def, Ideal.negf_def, coe_neg', ← coe_sum]
  rw [Finset.sum_neg_distrib]; rfl

set_option backward.isDefEq.respectTransparency false in
theorem v186_eq (i : S16x16x256x256.Idx) : val_main_v186 (F := Ideal) (x0 A) (x1 A) (x2 A) (x3 A) (x4 A) (x5 A) i
    = (((hd A (i 0) (i 1)).ds (i 2) (i 3) : ℝ) : EReal) := by
  rw [val_main_v186_apply, val_main_v184_apply, v77_1_eq, select_near, val_main_v185_apply, val_main_cst_42_apply, Ideal.ofBits_def,
    ofBits_eighth, Ideal.mulf_def]
  split_ifs with hn
  · rw [val_main_v183_apply, v174_eq, val_main_v182_apply, val_main_v181_apply, val_main_v180_apply, val_main_v179_apply, v170_eq, v178_eq,
      v88_eq, v87_eq, Ideal.hostDivf_def, Ideal.addf_def, Ideal.addf_def, Ideal.mulf_def, coe_add',
      coe_div' _ (mul_pos (Head.sumExp_pos _ _) (Real.exp_pos _)).ne', coe_mul', coe_add', coe_mul', ← Head.ds_eq _ _ _ (top A (ix3 (i 0) (i 1) (i 2)))]
    have ht : idx_main_v181 i = ix3 (i 0) (i 1) (i 2) := funext fun a => by
      match a with
      | ⟨0, _⟩ => rfl
      | ⟨1, _⟩ => rfl
      | ⟨2, _⟩ => rfl
    rw [ht]
    rfl
  · have hz : val_main_call1_v0 (F := Ideal) i = (0 : EReal) := Ideal.ofBits_zero_f32
    rw [hz, zero_mul, Head.ds_far _ hn, EReal.coe_zero]

theorem v187_eq (i : S16x16x256x64.Idx) : val_main_v187 (F := Ideal) (x0 A) (x1 A) (x2 A) (x3 A) (x4 A) (x5 A) i
    = (((hd A (i 0) (i 1)).dk (i 2) (i 3) : ℝ) : EReal) := by
  rw [val_main_v187_apply]
  simp only [v186_eq, v5_eq, coe_mul', ← coe_sum]
  rfl

theorem v188_eq (i : S16x16x256x64.Idx) : val_main_v188 (F := Ideal) (x0 A) (x1 A) (x2 A) (x3 A) (x4 A) (x5 A) i
    = (((hd A (i 0) (i 1)).dq (i 2) (i 3) : ℝ) : EReal) := by
  rw [val_main_v188_apply]
  simp only [v186_eq, v11_eq, coe_mul', ← coe_sum]
  rfl

end Attn
-- ==== Proof.Attn.RefGrad.lean ====
/-
  The reference's result at finite arguments: the three gradients of every head of every residue class, laid out as the
  call lays them out.
-/
module

public import proofs.«01_k».proof.Proof.Attn.RefBack

@[expose] public section

set_option maxRecDepth 16384

noncomputable section

namespace Attn

open Idealize.ShloMosaic Idealize.ShloMosaic.ValueIdx
open Cert.ReferenceIdeal Cert.ReferenceIdeal.Read

variable (A : Args)

/-- The position and the head of an entry of the result. -/
def posOf (c n : Fin 16) : Fin 256 := ⟨c.val * 16 + n.val, by omega⟩
def headOf (x : Fin 1024) : Fin 16 := ⟨x.val / 64, by omega⟩
def laneOf (x : Fin 1024) : Fin 64 := ⟨x.val % 64, by omega⟩

/-- The three gradients, laid out as the call lays them out. -/
def gradAt (w : Fin 3) (c r n : Fin 16) (x : Fin 1024) : ℝ := match w with
  | 0 => (hd A r (headOf x)).dq (posOf c n) (laneOf x)
  | 1 => (hd A r (headOf x)).dk (posOf c n) (laneOf x)
  | 2 => (hd A r (headOf x)).dv (posOf c n) (laneOf x)

def grad (i : S3x16x16x16x1024.Idx) : ℝ := gradAt A (i 0) (i 1) (i 2) (i 3) (i 4)

theorem v191_eq (c r n : Fin 16) (x : Fin 1024) :
    val_main_v191 (F := Ideal) (x0 A) (x1 A) (x2 A) (x3 A) (x4 A) (x5 A) (ix4 c r n x)
    = (((hd A r (headOf x)).dq (posOf c n) (laneOf x) : ℝ) : EReal) := by
  have e1 : idx_main_v191 (ix4 c r n x) = ix5 c r n (headOf x) (laneOf x) := by
    refine funext fun a => Fin.ext ?_
    match a with
    | ⟨0, _⟩ => show (((c.val * 16 + r.val) * 16 + n.val) * 1024 + x.val) / 262144 = c.val; omega
    | ⟨1, _⟩ => show (((c.val * 16 + r.val) * 16 + n.val) * 1024 + x.val) / 16384 % 16 = r.val; omega
    | ⟨2, _⟩ => show (((c.val * 16 + r.val) * 16 + n.val) * 1024 + x.val) / 1024 % 16 = n.val; omega
    | ⟨3, _⟩ => show (((c.val * 16 + r.val) * 16 + n.val) * 1024 + x.val) / 64 % 16 = x.val / 64; omega
    | ⟨4, _⟩ => show (((c.val * 16 + r.val) * 16 + n.val) * 1024 + x.val) % 64 = x.val % 64; omega
  have e2 : idx_main_v190 (ix5 c r n (headOf x) (laneOf x)) = ix5 r (headOf x) c n (laneOf x) := by
    refine funext fun a => Fin.ext ?_
    match a with
    | ⟨0, _⟩ => rfl
    | ⟨1, _⟩ => rfl
    | ⟨2, _⟩ => rfl
    | ⟨3, _⟩ => rfl
    | ⟨4, _⟩ => rfl
  have e3 : idx_main_v189 (ix5 r (headOf x) c n (laneOf x)) = ix4 r (headOf x) (posOf c n) (laneOf x) := by
    have hh := (headOf x).isLt
    have hl := (laneOf x).isLt
    refine funext fun a => Fin.ext ?_
    match a with
    | ⟨0, _⟩ => show ((((r.val * 16 + (headOf x).val) * 16 + c.val) * 16 + n.val) * 64 + (laneOf x).val) / 262144 = r.val; omega
    | ⟨1, _⟩ => show ((((r.val * 16 + (headOf x).val) * 16 + c.val) * 16 + n.val) * 64 + (laneOf x).val) / 16384 % 16 = (headOf x).val; omega
    | ⟨2, _⟩ => show ((((r.val * 16 + (headOf x).val) * 16 + c.val) * 16 + n.val) * 64 + (laneOf x).val) / 64 % 256 = c.val * 16 + n.val; omega
    | ⟨3, _⟩ => show ((((r.val * 16 + (headOf x).val) * 16 + c.val) * 16 + n.val) * 64 + (laneOf x).val) % 64 = (laneOf x).val; omega
  rw [val_main_v191_apply, e1, val_main_v190_apply, e2, val_main_v189_apply, e3]
  exact v188_eq A _

theorem v194_eq (c r n : Fin 16) (x : Fin 1024) :
    val_main_v194 (F := Ideal) (x0 A) (x1 A) (x2 A) (x3 A) (x4 A) (x5 A) (ix4 c r n x)
    = (((hd A r (headOf x)).dk (posOf c n) (laneOf x) : ℝ) : EReal) := by
  have e1 : idx_main_v194 (ix4 c r n x) = ix5 c r n (headOf x) (laneOf x) := by
    refine funext fun a => Fin.ext ?_
    match a with
    | ⟨0, _⟩ => show (((c.val * 16 + r.val) * 16 + n.val) * 1024 + x.val) / 262144 = c.val; omega
    | ⟨1, _⟩ => show (((c.val * 16 + r.val) * 16 + n.val) * 1024 + x.val) / 16384 % 16 = r.val; omega
    | ⟨2, _⟩ => show (((c.val * 16 + r.val) * 16 + n.val) * 1024 + x.val) / 1024 % 16 = n.val; omega
    | ⟨3, _⟩ => show (((c.val * 16 + r.val) * 16 + n.val) * 1024 + x.val) / 64 % 16 = x.val / 64; omega
    | ⟨4, _⟩ => show (((c.val * 16 + r.val) * 16 + n.val) * 1024 + x.val) % 64 = x.val % 64; omega
  have e2 : idx_main_v193 (ix5 c r n (headOf x) (laneOf x)) = ix5 r (headOf x) c n (laneOf x) := by
    refine funext fun a => Fin.ext ?_
    match a with
    | ⟨0, _⟩ => rfl
    | ⟨1, _⟩ => rfl
    | ⟨2, _⟩ => rfl
    | ⟨3, _⟩ => rfl
    | ⟨4, _⟩ => rfl
  have e3 : idx_main_v192 (ix5 r (headOf x) c n (laneOf x)) = ix4 r (headOf x) (posOf c n) (laneOf x) := by
    have hh := (headOf x).isLt
    have hl := (laneOf x).isLt
    refine funext fun a => Fin.ext ?_
    match a with
    | ⟨0, _⟩ => show ((((r.val * 16 + (headOf x).val) * 16 + c.val) * 16 + n.val) * 64 + (laneOf x).val) / 262144 = r.val; omega
    | ⟨1, _⟩ => show ((((r.val * 16 + (headOf x).val) * 16 + c.val) * 16 + n.val) * 64 + (laneOf x).val) / 16384 % 16 = (headOf x).val; omega
    | ⟨2, _⟩ => show ((((r.val * 16 + (headOf x).val) * 16 + c.val) * 16 + n.val) * 64 + (laneOf x).val) / 64 % 256 = c.val * 16 + n.val; omega
    | ⟨3, _⟩ => show ((((r.val * 16 + (headOf x).val) * 16 + c.val) * 16 + n.val) * 64 + (laneOf x).val) % 64 = (laneOf x).val; omega
  rw [val_main_v194_apply, e1, val_main_v193_apply, e2, val_main_v192_apply, e3]
  exact v187_eq A _

theorem v197_eq (c r n : Fin 16) (x : Fin 1024) :
    val_main_v197 (F := Ideal) (x0 A) (x2 A) (x4 A) (x5 A) (ix4 c r n x)
    = (((hd A r (headOf x)).dv (posOf c n) (laneOf x) : ℝ) : EReal) := by
  have e1 : idx_main_v197 (ix4 c r n x) = ix5 c r n (headOf x) (laneOf x) := by
    refine funext fun a => Fin.ext ?_
    match a with
    | ⟨0, _⟩ => show (((c.val * 16 + r.val) * 16 + n.val) * 1024 + x.val) / 262144 = c.val; omega
    | ⟨1, _⟩ => show (((c.val * 16 + r.val) * 16 + n.val) * 1024 + x.val) / 16384 % 16 = r.val; omega
    | ⟨2, _⟩ => show (((c.val * 16 + r.val) * 16 + n.val) * 1024 + x.val) / 1024 % 16 = n.val; omega
    | ⟨3, _⟩ => show (((c.val * 16 + r.val) * 16 + n.val) * 1024 + x.val) / 64 % 16 = x.val / 64; omega
    | ⟨4, _⟩ => show (((c.val * 16 + r.val) * 16 + n.val) * 1024 + x.val) % 64 = x.val % 64; omega
  have e2 : idx_main_v196 (ix5 c r n (headOf x) (laneOf x)) = ix5 r (headOf x) c n (laneOf x) := by
    refine funext fun a => Fin.ext ?_
    match a with
    | ⟨0, _⟩ => rfl
    | ⟨1, _⟩ => rfl
    | ⟨2, _⟩ => rfl
    | ⟨3, _⟩ => rfl
    | ⟨4, _⟩ => rfl
  have e3 : idx_main_v195 (ix5 r (headOf x) c n (laneOf x)) = ix4 r (headOf x) (posOf c n) (laneOf x) := by
    have hh := (headOf x).isLt
    have hl := (laneOf x).isLt
    refine funext fun a => Fin.ext ?_
    match a with
    | ⟨0, _⟩ => show ((((r.val * 16 + (headOf x).val) * 16 + c.val) * 16 + n.val) * 64 + (laneOf x).val) / 262144 = r.val; omega
    | ⟨1, _⟩ => show ((((r.val * 16 + (headOf x).val) * 16 + c.val) * 16 + n.val) * 64 + (laneOf x).val) / 16384 % 16 = (headOf x).val; omega
    | ⟨2, _⟩ => show ((((r.val * 16 + (headOf x).val) * 16 + c.val) * 16 + n.val) * 64 + (laneOf x).val) / 64 % 256 = c.val * 16 + n.val; omega
    | ⟨3, _⟩ => show ((((r.val * 16 + (headOf x).val) * 16 + c.val) * 16 + n.val) * 64 + (laneOf x).val) % 64 = (laneOf x).val; omega
  rw [val_main_v197_apply, e1, val_main_v196_apply, e2, val_main_v195_apply, e3]
  exact v172_eq A _

/-- The reference's result at finite arguments: the three gradients. -/
theorem v202_eq (i : S3x16x16x16x1024.Idx) : val_main_v202 (F := Ideal) (x0 A) (x1 A) (x2 A) (x3 A) (x4 A) (x5 A) i
    = ((grad A i : ℝ) : EReal) := by
  obtain ⟨w, c, r, n, x, rfl⟩ : ∃ (w : Fin 3) (c r n : Fin 16) (x : Fin 1024), i = ix5 w c r n x := ⟨_, _, _, _, _, eq_ix5 i⟩
  rw [val_main_v202_apply, Ideal.truncf_def]
  unfold val_main_v201
  refine (concatenate_ofFn_unit_apply (t := S3x16x16x16x1024) (s₁ := S1x16x16x16x1024) 0 (N := 3)
    (fun n : Fin 3 => match n with
      | 0 => val_main_v198 (F := Ideal) (x0 A) (x1 A) (x2 A) (x3 A) (x4 A) (x5 A)
      | 1 => val_main_v199 (F := Ideal) (x0 A) (x1 A) (x2 A) (x3 A) (x4 A) (x5 A)
      | 2 => val_main_v200 (F := Ideal) (x0 A) (x2 A) (x4 A) (x5 A))
    _ rfl rfl (ix5 w c r n x) w rfl (ix5 (0 : Fin 1) c r n x) (fun b hb => by
      match b with
      | ⟨0, _⟩ => exact absurd rfl hb
      | ⟨1, _⟩ => rfl
      | ⟨2, _⟩ => rfl
      | ⟨3, _⟩ => rfl
      | ⟨4, _⟩ => rfl)).trans ?_
  show _ = ((gradAt A w c r n x : ℝ) : EReal)
  match w with
  | 0 => exact (val_main_v198_apply _ _ _ _ _ _ _).trans (v191_eq A c r n x)
  | 1 => exact (val_main_v199_apply _ _ _ _ _ _ _).trans (v194_eq A c r n x)
  | 2 => exact (val_main_v200_apply _ _ _ _ _).trans (v197_eq A c r n x)

end Attn
-- ==== Proof.Attn.HostB.lean ====
/-
  The host operations before the kernel call, second stretch: the three groups are combined, and the combined output and its log-sum are
  laid out in the call's own row order.
-/
module

public import proofs.«01_k».proof.Proof.Attn.HostA
public import proofs.«01_k».proof.Proof.Attn.RefGrad

@[expose] public section

set_option maxRecDepth 16384

noncomputable section

namespace Attn

open Idealize.ShloMosaic Idealize.ShloMosaic.ValueIdx Idealize.ShloMosaic.StableHlo
open Cert.KernelIdeal Cert.KernelIdeal.Gen

/-- The largest of three log-sums. -/
def gmax (a b l : FVec Ideal S16x16x256 .f32) : FVec Ideal S16x16x256 .f32 := maximumf (maximumf a b) l
/-- The sum of the three exponentials, from the largest. -/
def gsum (a b l : FVec Ideal S16x16x256 .f32) : FVec Ideal S16x16x256 .f32 :=
  addf (addf (Host.exp (subf a (gmax a b l))) (Host.exp (subf b (gmax a b l)))) (Host.exp (subf l (gmax a b l)))
/-- The log-sum over the three groups. -/
def gtot (a b l : FVec Ideal S16x16x256 .f32) : FVec Ideal S16x16x256 .f32 := addf (gmax a b l) (Host.log (gsum a b l))
/-- The weight of a group whose log-sum is `x`. -/
def gweight (a b l x : FVec Ideal S16x16x256 .f32) : FVec Ideal S16x16x256 .f32 := Host.divf (Host.exp (subf x (gmax a b l))) (gsum a b l)
/-- A number per query, repeated over the lanes of a head. -/
def lanes (w : FVec Ideal S16x16x256 .f32) : FVec Ideal S16x16x256x64 .f32 :=
  broadcastInDim S16x16x256x64 ![0, 1, 2, 3] bcast_S16x16x256x1_S16x16x256x64_0_1_2_3
    (broadcastInDim S16x16x256x1 ![0, 1, 2] bcast_S16x16x256_S16x16x256x1_0_1_2 w : (⟨S16x16x256x1, .f32⟩ : BufTy).Contents (Elt Ideal))
/-- The combined output. -/
def gout (a b l : FVec Ideal S16x16x256 .f32) (o1 o2 o : FVec Ideal S16x16x256x64 .f32) : FVec Ideal S16x16x256x64 .f32 :=
  addf (addf (mulf (lanes (gweight a b l a)) o1) (mulf (lanes (gweight a b l b)) o2)) (mulf (lanes (gweight a b l l)) o)
/-- The call's row order. -/
def toRows (x : FVec Ideal S16x16x256x64 .f32) : FVec Ideal S16x16x16x1024 .f32 :=
  shapeCast _ (transpose S16x16x16x16x64 [2, 0, 3, 1, 4] (shapeCast S16x16x16x16x64 x shapeCasts_S16x16x256x64_S16x16x16x16x64)
    transposes_S16x16x16x16x64_S16x16x16x16x64_2_0_3_1_4) shapeCasts_S16x16x16x16x64_S16x16x16x1024

/-- The buffers at the kernel call. -/
def hv3 (V0 : Valuation τ sig (Elt Ideal)) : Valuation τ sig (Elt Ideal) := after hostOps0_2 (hv2 V0)

section
open Cert.ReferenceIdeal.Read

set_option maxHeartbeats 8000000 in
/-- The log-sums the call is given. -/
theorem hv3_v121 (V0 : Valuation τ sig (Elt Ideal)) : hv3 V0 (no_index (Proc.devRef .tc main_v121))
    = toRows (lanes (gtot (val_main_v30 (F := Ideal) (V0 (Proc.devRef .tc main_arg2))) (val_main_v34 (F := Ideal) (V0 (Proc.devRef .tc main_arg4)))
        (val_main_v90 (F := Ideal) (V0 (Proc.devRef .tc main_arg0))))) := by
  unfold hv3
  simp only [hostOps0_2]
  after_results_simp
  simp only [hv2_v60, hv2_arg2, hv2_arg4]
  rfl

set_option maxHeartbeats 8000000 in
/-- The outputs the call is given. -/
theorem hv3_v118 (V0 : Valuation τ sig (Elt Ideal)) : hv3 V0 (no_index (Proc.devRef .tc main_v118))
    = toRows (gout (val_main_v30 (F := Ideal) (V0 (Proc.devRef .tc main_arg2))) (val_main_v34 (F := Ideal) (V0 (Proc.devRef .tc main_arg4)))
        (val_main_v90 (F := Ideal) (V0 (Proc.devRef .tc main_arg0)))
        (val_main_v20 (F := Ideal) (V0 (Proc.devRef .tc main_arg1))) (val_main_v23 (F := Ideal) (V0 (Proc.devRef .tc main_arg3)))
        (val_main_v95 (F := Ideal) (V0 (Proc.devRef .tc main_arg0)))) := by
  unfold hv3
  simp only [hostOps0_2]
  after_results_simp
  simp only [hv2_v60, hv2_v17, hv2_arg1, hv2_arg2, hv2_arg3, hv2_arg4]
  rfl

set_option maxHeartbeats 8000000 in
/-- The table of slopes the call is given. -/
theorem hv3_cst (V0 : Valuation τ sig (Elt Ideal)) : hv3 V0 (no_index (Proc.devRef .tc main_cst))
    = fun i => Ideal.ofBits .f32 (lit0 (S8x2x1x256.rowMajor i)) := by
  unfold hv3
  simp only [hostOps0_2]
  after_results_simp
  exact hv2_cst V0
end

/-! ### Their values at finite log-sums and outputs -/

section
variable (H : Fin 16 → Fin 16 → Head) (a b l : FVec Ideal S16x16x256 .f32) (o1 o2 o : FVec Ideal S16x16x256x64 .f32)
  (ha : ∀ r h i, a (ix3 r h i) = ((H r h).l1 i : EReal)) (hb : ∀ r h i, b (ix3 r h i) = ((H r h).l2 i : EReal))
  (hl : ∀ r h i, l (ix3 r h i) = ((H r h).lse i : EReal))
  (h1 : ∀ r h i e, o1 (ix4 r h i e) = ((H r h).o1 i e : EReal)) (h2 : ∀ r h i e, o2 (ix4 r h i e) = ((H r h).o2 i e : EReal))
  (h3 : ∀ r h i e, o (ix4 r h i e) = ((H r h).o i e : EReal))

/-- The largest log-sum of a query. -/
def gtop (J : Head) (i : Fin 256) : ℝ := max (max (J.l1 i) (J.l2 i)) (J.lse i)

include ha hb hl in
theorem gmax_apply (r h : Fin 16) (i : Fin 256) : gmax a b l (ix3 r h i) = (gtop (H r h) i : EReal) := by
  have e : gmax a b l (ix3 r h i) = max (max (a (ix3 r h i)) (b (ix3 r h i))) (l (ix3 r h i)) := rfl
  rw [e, ha, hb, hl, gtop, EReal.coe_strictMono.monotone.map_max, EReal.coe_strictMono.monotone.map_max]

include ha hb hl in
theorem gexp_apply (x : FVec Ideal S16x16x256 .f32) (r h : Fin 16) (i : Fin 256) (t : ℝ) (hx : x (ix3 r h i) = (t : EReal)) :
    Host.exp (subf x (gmax a b l)) (ix3 r h i) = ((Real.exp (t - gtop (H r h) i) : ℝ) : EReal) := by
  have e : Host.exp (subf x (gmax a b l)) (ix3 r h i) = Ideal.exp (x (ix3 r h i) - gmax a b l (ix3 r h i)) := rfl
  rw [e, hx, gmax_apply H a b l ha hb hl, coe_sub', Ideal.exp_coe]

include ha hb hl in
theorem gsum_apply (r h : Fin 16) (i : Fin 256) : gsum a b l (ix3 r h i)
    = ((Real.exp ((H r h).LT i - gtop (H r h) i) : ℝ) : EReal) := by
  have e : gsum a b l (ix3 r h i) = Host.exp (subf a (gmax a b l)) (ix3 r h i) + Host.exp (subf b (gmax a b l)) (ix3 r h i)
      + Host.exp (subf l (gmax a b l)) (ix3 r h i) := rfl
  rw [e, gexp_apply H a b l ha hb hl a r h i _ (ha r h i), gexp_apply H a b l ha hb hl b r h i _ (hb r h i),
    gexp_apply H a b l ha hb hl l r h i _ (hl r h i), coe_add', coe_add']
  refine congrArg (fun z : ℝ => (z : EReal)) ?_
  rw [Real.exp_sub, Real.exp_sub, Real.exp_sub, Real.exp_sub, Head.exp_LT]
  ring

include ha hb hl in
theorem gtot_apply (r h : Fin 16) (i : Fin 256) : gtot a b l (ix3 r h i) = ((H r h).LT i : EReal) := by
  have e : gtot a b l (ix3 r h i) = gmax a b l (ix3 r h i) + Ideal.log (gsum a b l (ix3 r h i)) := rfl
  rw [e, gsum_apply H a b l ha hb hl, gmax_apply H a b l ha hb hl, Ideal.log_coe, if_neg (not_le.2 (Real.exp_pos _)), Real.log_exp, coe_add']
  exact congrArg (fun z : ℝ => (z : EReal)) (by ring)

include ha hb hl in
theorem gweight_apply (x : FVec Ideal S16x16x256 .f32) (r h : Fin 16) (i : Fin 256) (t : ℝ) (hx : x (ix3 r h i) = (t : EReal)) :
    gweight a b l x (ix3 r h i) = ((Real.exp (t - (H r h).LT i) : ℝ) : EReal) := by
  have e : gweight a b l x (ix3 r h i) = Ideal.div (Host.exp (subf x (gmax a b l)) (ix3 r h i)) (gsum a b l (ix3 r h i)) := rfl
  rw [e, gexp_apply H a b l ha hb hl x r h i t hx, gsum_apply H a b l ha hb hl, coe_div' _ (Real.exp_pos _).ne', Head.weight_shift]

theorem lanes_apply (w : FVec Ideal S16x16x256 .f32) (r h : Fin 16) (i : Fin 256) (e : Fin 64) : lanes w (ix4 r h i e) = w (ix3 r h i) := by
  unfold lanes
  refine (broadcastInDim_apply _ _ _ _ (ix4 r h i (0 : Fin 1)) (fun a => match a with
    | ⟨0, _⟩ => rfl
    | ⟨1, _⟩ => rfl
    | ⟨2, _⟩ => rfl
    | ⟨3, _⟩ => rfl)).trans ?_
  exact broadcastInDim_apply _ _ _ _ (ix3 r h i) (fun a => match a with
    | ⟨0, _⟩ => rfl
    | ⟨1, _⟩ => rfl
    | ⟨2, _⟩ => rfl)

include ha hb hl h1 h2 h3 in
theorem gout_apply (r h : Fin 16) (i : Fin 256) (e : Fin 64) : gout a b l o1 o2 o (ix4 r h i e) = ((H r h).ao i e : EReal) := by
  have e0 : gout a b l o1 o2 o (ix4 r h i e) = lanes (gweight a b l a) (ix4 r h i e) * o1 (ix4 r h i e)
      + lanes (gweight a b l b) (ix4 r h i e) * o2 (ix4 r h i e) + lanes (gweight a b l l) (ix4 r h i e) * o (ix4 r h i e) := rfl
  rw [e0, lanes_apply, lanes_apply, lanes_apply, gweight_apply H a b l ha hb hl a r h i _ (ha r h i),
    gweight_apply H a b l ha hb hl b r h i _ (hb r h i), gweight_apply H a b l ha hb hl l r h i _ (hl r h i), h1, h2, h3,
    coe_mul', coe_mul', coe_mul', coe_add', coe_add']
  rfl

theorem toRows_apply (x : FVec Ideal S16x16x256x64 .f32) (c r n : Fin 16) (y : Fin 1024) :
    toRows x (ix4 c r n y) = x (ix4 r (headOf y) (posOf c n) (laneOf y)) := by
  have hc := c.isLt
  have hr := r.isLt
  have hn := n.isLt
  have hy := y.isLt
  unfold toRows
  refine (shapeCast_apply _ _ _ (ix5 c r n (headOf y) (laneOf y)) ?_).trans ?_
  · rw [Shape.rowMajor_val_four, Shape.rowMajor_val_five]
    show (((c.val * 16 + r.val) * 16 + n.val) * 16 + y.val / 64) * 64 + y.val % 64 = ((c.val * 16 + r.val) * 16 + n.val) * 1024 + y.val
    omega
  refine (transpose_apply _ _ _ _ (ix5 r (headOf y) c n (laneOf y)) (fun a => match a with
    | ⟨0, _⟩ => rfl
    | ⟨1, _⟩ => rfl
    | ⟨2, _⟩ => rfl
    | ⟨3, _⟩ => rfl
    | ⟨4, _⟩ => rfl)).trans ?_
  refine shapeCast_apply _ _ _ _ ?_
  rw [Shape.rowMajor_val_four, Shape.rowMajor_val_five]
  show ((r.val * 16 + y.val / 64) * 256 + (c.val * 16 + n.val)) * 64 + y.val % 64
    = (((r.val * 16 + y.val / 64) * 16 + c.val) * 16 + n.val) * 64 + y.val % 64
  omega
end

end Attn
-- ==== Proof.Attn.Ops.lean ====
/-
  The vectors of one half-block of the backward kernel over the extended reals, read at an index: the row casts, the three
  products, the lane maximum and lane sum, and from them the probabilities, the score gradients and the three products of a
  half-block as real formulas.
-/
module

public import proofs.«01_k».proof.Proof.Attn.Math
public import proofs.«01_k».proof.Proof.Gen.KernelIdeal.Skeleton
public import Idealize.ShloMosaic.Lib.ValueIdxCore
public import Idealize.ShloMosaic.Lib.MatmulPlain
public import Idealize.ShloMosaic.Lib.Pipeline.Value

@[expose] public section

set_option maxRecDepth 16384

noncomputable section

namespace Attn

open Idealize.ShloMosaic Idealize.ShloMosaic.ValueIdx
open Cert.KernelIdeal Cert.KernelIdeal.Gen

/-- A finite sum of reals is the same sum of extended reals. -/
theorem ereal_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, ← EReal.coe_add]

/-- The high and the low part of a row of a half-block. -/
def hi8 (i : Fin 128) : Fin 8 := ⟨i.val / 16, by omega⟩
def lo16 (i : Fin 128) : Fin 16 := ⟨i.val % 16, by omega⟩
def hi16 (i : Fin 256) : Fin 16 := ⟨i.val / 16, by omega⟩
def lo16' (i : Fin 256) : Fin 16 := ⟨i.val % 16, by omega⟩

/-- A half-block's query rows. -/
theorem pay41_apply (v : Vec Ideal S1x8x1x16x128 .bf16) (i : Fin 128) (l : Fin 128) :
    k0_pay41 v (ix2 i l) = v (ix5 0 (hi8 i) 0 (lo16 i) l) := by
  unfold k0_pay41
  refine (shapeCast_apply _ _ (ix2 i l) (ix3 (hi8 i) (lo16 i) l) ?_).trans (shapeCast_apply _ _ _ (ix5 0 (hi8 i) 0 (lo16 i) l) ?_)
  · rw [Shape.rowMajor_val_three, Shape.rowMajor_val_two]
    show ((i.val / 16) * 16 + i.val % 16) * 128 + l.val = i.val * 128 + l.val; omega
  · rw [Shape.rowMajor_val_three, Shape.rowMajor_val_five]
    show ((((0 * 8 + i.val / 16) * 1 + 0) * 16 + i.val % 16) * 128 + l.val) = ((i.val / 16) * 16 + i.val % 16) * 128 + l.val; omega

/-- A half-block's rows of a full-precision array. -/
theorem pay43_apply (v : Vec Ideal S8x1x16x128 .f32) (i : Fin 128) (l : Fin 128) :
    k0_pay43 v (ix2 i l) = v (ix4 (hi8 i) 0 (lo16 i) l) := by
  unfold k0_pay43
  refine (shapeCast_apply _ _ (ix2 i l) (ix3 (hi8 i) (lo16 i) l) ?_).trans (shapeCast_apply _ _ _ (ix4 (hi8 i) 0 (lo16 i) l) ?_)
  · rw [Shape.rowMajor_val_three, Shape.rowMajor_val_two]
    show ((i.val / 16) * 16 + i.val % 16) * 128 + l.val = i.val * 128 + l.val; omega
  · rw [Shape.rowMajor_val_three, Shape.rowMajor_val_four]
    show (((i.val / 16 * 1 + 0) * 16 + i.val % 16) * 128 + l.val) = ((i.val / 16) * 16 + i.val % 16) * 128 + l.val; omega

/-- A staged window without its unit axis. -/
theorem window_cast {φ : FTy} (v : FVec Ideal S1x256x128 φ) (h) (c : Fin 256) (l : Fin 128) :
    shapeCast S256x128 v h (ix2 c l) = v (ix3 0 c l) := by
  refine shapeCast_apply _ _ (ix2 c l) (ix3 0 c l) ?_
  rw [Shape.rowMajor_val_three, Shape.rowMajor_val_two]
  show ((0 * 256 + c.val) * 128 + l.val) = c.val * 128 + l.val; omega

/-- A bias without its unit axes. -/
theorem bias_cast {φ : FTy} (v : FVec Ideal S1x1x128x256 φ) (h) (i : Fin 128) (c : Fin 256) :
    shapeCast S128x256 v h (ix2 i c) = v (ix4 0 0 i c) := by
  refine shapeCast_apply _ _ (ix2 i c) (ix4 0 0 i c) ?_
  rw [Shape.rowMajor_val_four, Shape.rowMajor_val_two]
  show (((0 * 1 + 0) * 128 + i.val) * 256 + c.val) = i.val * 256 + c.val; omega

/-- A column of row values, spread over the columns. -/
theorem column_spread (v : FVec Ideal S128 .f32) (h h') (i : Fin 128) (c : Fin 256) :
    broadcastTo S128x256 (shapeCast S128x1 v h) h' (ix2 i c) = v (ix1 i) := by
  refine (broadcastTo_apply _ _ (ix2 i c) (ix2 i 0) ?_).trans (shapeCast_apply _ _ _ (ix1 i) ?_)
  · intro a
    match a with
    | ⟨0, _⟩ => rfl
    | ⟨1, _⟩ => rfl
  · rw [Shape.rowMajor_val_one, Shape.rowMajor_val_two]
    show i.val = i.val * 1 + 0; omega

/-- The product of a half-block's rows with a window's rows. -/
theorem mm_nt {φ₁ φ₂ : FTy} (a : FVec Ideal S128x128 φ₁) (b : FVec Ideal S256x128 φ₂) (i : Fin 128) (c : Fin 256) :
    matmul (F := Ideal) dot_S128x128_S256x128_S128x256_1_1_0_0_n_n none a b (constant (F := Ideal) S128x256 .f32 0x00000000#32) (ix2 i c)
      = ∑ l : Fin 128, a (ix2 i l) * b (ix2 c l) := by
  have h := Ideal.matmul_transposedRhs_apply (M := 128) (K := 128) (N := 256) none a b (constant S128x256 .f32 0x00000000#32) i c
  refine Eq.trans h ?_
  show Ideal.ofBits .f32 0x00000000#32 + _ = _
  rw [Ideal.ofBits_zero_f32, zero_add]

/-- The product over a half-block's rows. -/
theorem mm_tn {φ₁ φ₂ : FTy} (a : FVec Ideal S128x256 φ₁) (b : FVec Ideal S128x128 φ₂) (c : Fin 256) (l : Fin 128) :
    matmul (F := Ideal) dot_S128x256_S128x128_S256x128_0_0_1_1_n_n none a b (constant (F := Ideal) S256x128 .f32 0x00000000#32) (ix2 c l)
      = ∑ i : Fin 128, a (ix2 i c) * b (ix2 i l) := by
  refine Eq.trans (Ideal.matmul_constant_zero_apply dot_S128x256_S128x128_S256x128_0_0_1_1_n_n none a b (ix2 c l)) ?_
  rw [← Equiv.sum_comp (contrEquiv1 dot_S128x256_S128x128_S256x128_0_0_1_1_n_n 128 rfl rfl).symm]
  refine Finset.sum_congr rfl fun k _ => ?_
  have hk := contrEquiv1_symm_val dot_S128x256_S128x128_S256x128_0_0_1_1_n_n 128 rfl rfl k
  have el : dot_S128x256_S128x128_S256x128_0_0_1_1_n_n.lhsIdx (ix2 c l)
      ((contrEquiv1 dot_S128x256_S128x128_S256x128_0_0_1_1_n_n 128 rfl rfl).symm k) = ix2 k c := by
    funext a; apply Fin.ext
    match a with
    | ⟨0, _⟩ => exact hk
    | ⟨1, _⟩ => rfl
  have er : dot_S128x256_S128x128_S256x128_0_0_1_1_n_n.rhsIdx (ix2 c l)
      ((contrEquiv1 dot_S128x256_S128x128_S256x128_0_0_1_1_n_n 128 rfl rfl).symm k) = ix2 k l := by
    funext a; apply Fin.ext
    match a with
    | ⟨0, _⟩ => exact hk
    | ⟨1, _⟩ => rfl
  rw [el, er]

/-- The product of two stacked windows. -/
theorem mm_nn {φ₁ φ₂ : FTy} (a : FVec Ideal S128x512 φ₁) (b : FVec Ideal S512x128 φ₂) (i : Fin 128) (l : Fin 128) :
    matmul (F := Ideal) dot_S128x512_S512x128_S128x128_1_0_0_1_n_n none a b (constant (F := Ideal) S128x128 .f32 0x00000000#32) (ix2 i l)
      = ∑ c : Fin 512, a (ix2 i c) * b (ix2 c l) := by
  have h := Ideal.matmul_plain_apply (M := 128) (K := 512) (N := 128) none a b (constant S128x128 .f32 0x00000000#32) i l
  refine Eq.trans h ?_
  show Ideal.ofBits .f32 0x00000000#32 + _ = _
  rw [Ideal.ofBits_zero_f32, zero_add]

/-- A row's sum over the lanes. -/
theorem lane_sum (v : FVec Ideal S128x128 .f32) (h hφ hacc) (i : Fin 128) :
    multiReduction .add [1] S128 v 0x00000000#32 h hφ hacc (ix1 i) = ∑ l : Fin 128, v (ix2 i l) := by
  refine (Ideal.multiReduction_add_single _ _ _ _ _ _).trans ?_
  refine Finset.sum_congr rfl fun l _ => congrArg v ?_
  funext a; apply Fin.ext
  match a with
  | ⟨0, _⟩ => rfl
  | ⟨1, _⟩ => rfl

/-- A row's maximum over the lanes, when some lanes hold one real value and the others the least. -/
theorem lane_max (v : FVec Ideal S128x128 .f32) (h hφ hacc) (i : Fin 128) (t : ℝ) (ok : Fin 128 → Prop) [DecidablePred ok]
    (l0 : Fin 128) (h0 : ok l0) (hv : ∀ l, v (ix2 i l) = if ok l then (t : EReal) else ⊥) :
    multiReduction .maximumf [1] S128 v 0xFF800000#32 h hφ hacc (ix1 i) = (t : EReal) := by
  refine (Ideal.multiReduction_maximumf_single _ _ _ _ _ _).trans ?_
  have hl : ∀ l : Fin 128, (v ∘ h.lift (ix1 i)) l = if ok l then (t : EReal) else ⊥ := by
    intro l
    refine Eq.trans (congrArg v ?_) (hv l)
    funext a; apply Fin.ext
    match a with
    | ⟨0, _⟩ => rfl
    | ⟨1, _⟩ => rfl
  have hb : FloatOps.ofBits (F := Ideal) .f32 0xFF800000#32 = (⊥ : EReal) := by
    simp [Ideal.ofBits_def, Ideal.ofBits, Ideal.ieee]
  rw [hb]
  refine le_antisymm ?_ ?_
  · rw [Finset.fold_max_le]
    refine ⟨bot_le, fun l _ => ?_⟩
    refine (hl l).trans_le ?_
    split_ifs
    · exact le_rfl
    · exact bot_le
  · rw [Finset.le_fold_max]
    refine Or.inr ⟨l0, Finset.mem_univ _, ?_⟩
    exact (((hl l0).trans (if_pos h0)).symm).le

/-! ## One head of a half-block -/

section Half
variable {ok : Fin 128 → Fin 256 → Prop} [∀ i c, Decidable (ok i c)] {hd : Fin 128 → Prop} [DecidablePred hd]
  (Q C O L : Fin 128 → Fin 128 → ℝ) (lt : Fin 128 → ℝ) (K V : Fin 256 → Fin 128 → ℝ) (b : Fin 128 → Fin 256 → ℝ)

/-- The probability of a window column: the exponential of the scaled product plus the bias less the row's log-sum, zero
where the bias masks the column. -/
def hP (ok : Fin 128 → Fin 256 → Prop) [∀ i c, Decidable (ok i c)] (i : Fin 128) (c : Fin 256) : ℝ :=
  if ok i c then Real.exp (∑ l, Q i l * (1 / 8) * K c l + b i c - lt i) else 0

/-- A row's product of the cotangent with the output, over one head's lanes. -/
def hD (hd : Fin 128 → Prop) [DecidablePred hd] (i : Fin 128) : ℝ := ∑ l, if hd l then C i l * O i l else 0

/-- The gradient of a scaled product. -/
def hS (ok : Fin 128 → Fin 256 → Prop) [∀ i c, Decidable (ok i c)] (hd : Fin 128 → Prop) [DecidablePred hd] (i : Fin 128) (c : Fin 256) : ℝ :=
  hP Q lt K b ok i c * (∑ l, C i l * V c l - hD C O hd i) * (1 / 8)

theorem ofBits16_eighth : Ideal.ofBits .bf16 0x3E00#16 = ((1 / 8 : ℝ) : EReal) := by
  simp [Ideal.ofBits, Ideal.ieee, -EReal.coe_mul]; norm_num
theorem ofBits32_eighth : Ideal.ofBits .f32 0x3E000000#32 = ((1 / 8 : ℝ) : EReal) := by
  simp [Ideal.ofBits, Ideal.ieee, -EReal.coe_mul]; norm_num
theorem ofBits32_neg_inf : Ideal.ofBits .f32 0xFF800000#32 = ⊥ := by
  simp [Ideal.ofBits, Ideal.ieee]

/-- The scores. -/
theorem pay47_apply (vq : Vec Ideal S1x8x1x16x128 .bf16) (vk : Vec Ideal S1x256x128 .bf16) (vb : Vec Ideal S1x1x128x256 .f32)
    (hq : ∀ i l, k0_pay41 vq (ix2 i l) = (Q i l : EReal)) (hk : ∀ c l, vk (ix3 0 c l) = (K c l : EReal))
    (hb : ∀ i c, vb (ix4 0 0 i c) = if ok i c then (b i c : EReal) else ⊥) (i : Fin 128) (c : Fin 256) :
    k0_pay47 vq vk vb (ix2 i c) = if ok i c then ((∑ l, Q i l * (1 / 8) * K c l + b i c : ℝ) : EReal) else ⊥ := by
  unfold k0_pay47 k0_pay42
  refine Eq.trans (congrArg₂ (fun x y : EReal => x + y) (mm_nt _ _ i c) (bias_cast vb _ i c)) ?_
  have e : ∀ l : Fin 128, mulf (F := Ideal) (k0_pay41 vq) (broadcast S128x128 (Scalar.ofBits (F := Ideal) .bf16 0x3E00#16)) (ix2 i l)
      * shapeCast S256x128 vk shapeCasts_S1x256x128_S256x128 (ix2 c l) = ((Q i l * (1 / 8) * K c l : ℝ) : EReal) := by
    intro l
    rw [window_cast (φ := .bf16), hk]
    refine Eq.trans (congrArg (fun z : EReal => z * (K c l : EReal)) (congrArg₂ (fun x y : EReal => x * y) (hq i l) ofBits16_eighth)) ?_
    rw [← EReal.coe_mul, ← EReal.coe_mul]
  rw [Finset.sum_congr rfl fun l _ => e l, ereal_sum, hb]
  split_ifs
  · rw [← EReal.coe_add]
  · exact EReal.add_bot _

/-- The rows' log-sums kept on one head's lanes. -/
theorem pay48_apply (m : IVec S128x128 1) (vl : Vec Ideal S8x1x16x128 .f32)
    (hm : ∀ i l, m (ix2 i l) = if hd l then 1#1 else 0#1)
    (hl : ∀ i l, k0_pay43 vl (ix2 i l) = (L i l : EReal)) (hL : ∀ i l, hd l → L i l = lt i) (i l : Fin 128) :
    k0_pay48 m vl (ix2 i l) = if hd l then (lt i : EReal) else ⊥ := by
  unfold k0_pay48
  show Scalar.select (m (ix2 i l)) (k0_pay43 vl (ix2 i l)) (Ideal.ofBits .f32 0xFF800000#32) = _
  rw [hm, hl, ofBits32_neg_inf]
  by_cases h : hd l
  · rw [if_pos h, if_pos h, hL i l h]; rfl
  · rw [if_neg h, if_neg h]; rfl

/-- The probabilities. -/
theorem pay49_apply (vs : FVec Ideal S128x256 .f32) (vm : FVec Ideal S128x128 .f32) (l0 : Fin 128) (h0 : hd l0)
    (hs : ∀ i c, vs (ix2 i c) = if ok i c then ((∑ l, Q i l * (1 / 8) * K c l + b i c : ℝ) : EReal) else ⊥)
    (hm : ∀ i l, vm (ix2 i l) = if hd l then (lt i : EReal) else ⊥) (i : Fin 128) (c : Fin 256) :
    k0_pay49 vs vm (ix2 i c) = (hP Q lt K b ok i c : EReal) := by
  unfold k0_pay49
  refine Eq.trans (congrArg₂ (fun x y : EReal => Ideal.exp (x - y)) (hs i c)
    ((column_spread _ _ _ i c).trans (lane_max vm _ _ _ i (lt i) hd l0 h0 (hm i)))) ?_
  unfold hP
  split_ifs
  · rw [← EReal.coe_sub, Ideal.exp_coe]
  · rw [EReal.bot_sub, Ideal.exp_bot, EReal.coe_zero]

/-- A row's product of the cotangent with the output. -/
theorem rowD_apply (m : IVec S128x128 1) (vd : FVec Ideal S128x128 .f32) (h hφ hacc)
    (hm : ∀ i l, m (ix2 i l) = if hd l then 1#1 else 0#1) (hv : ∀ i l, vd (ix2 i l) = ((C i l * O i l : ℝ) : EReal)) (i : Fin 128) :
    multiReduction .add [1] S128 (select (α := Ideal .f32) m vd (broadcast S128x128 (Scalar.ofBits (F := Ideal) .f32 0x00000000#32))) 0x00000000#32 h hφ hacc (ix1 i)
      = (hD C O hd i : EReal) := by
  rw [lane_sum]
  unfold hD
  rw [← ereal_sum]
  refine Finset.sum_congr rfl fun l _ => ?_
  show Scalar.select (m (ix2 i l)) (vd (ix2 i l)) (Ideal.ofBits .f32 0x00000000#32) = _
  rw [hm, hv, Ideal.ofBits_zero_f32]
  by_cases h : hd l
  · rw [if_pos h, if_pos h]; rfl
  · rw [if_neg h, if_neg h]; rfl

/-- The gradients of the scaled products. -/
theorem pay50_apply (m : IVec S128x128 1) (vd : FVec Ideal S128x128 .f32) (vc : FVec Ideal S128x128 .bf16) (vs : FVec Ideal S128x256 .f32)
    (vm : FVec Ideal S128x128 .f32) (vv : Vec Ideal S1x256x128 .bf16)
    (hm : ∀ i l, m (ix2 i l) = if hd l then 1#1 else 0#1) (hvd : ∀ i l, vd (ix2 i l) = ((C i l * O i l : ℝ) : EReal))
    (hc : ∀ i l, vc (ix2 i l) = (C i l : EReal)) (hP' : ∀ i c, k0_pay49 vs vm (ix2 i c) = (hP Q lt K b ok i c : EReal))
    (hv : ∀ c l, vv (ix3 0 c l) = (V c l : EReal)) (i : Fin 128) (c : Fin 256) :
    k0_pay50 m vd vc vs vm vv (ix2 i c) = (hS Q C O lt K V b ok hd i c : EReal) := by
  unfold k0_pay50
  refine Eq.trans (congrArg₂ (fun x y : EReal => x * y) (congrArg₂ (fun x y : EReal => x * y) (hP' i c)
    (congrArg₂ (fun x y : EReal => x - y) (mm_nt _ _ i c) ((column_spread _ _ _ i c).trans (rowD_apply C O m vd _ _ _ hm hvd i)))) ofBits32_eighth) ?_
  have e : ∀ l : Fin 128, vc (ix2 i l) * shapeCast S256x128 vv shapeCasts_S1x256x128_S256x128 (ix2 c l) = ((C i l * V c l : ℝ) : EReal) := by
    intro l; rw [window_cast (φ := .bf16), hc, hv, ← EReal.coe_mul]
  rw [Finset.sum_congr rfl fun l _ => e l, ereal_sum]
  rw [← EReal.coe_sub, ← EReal.coe_mul, ← EReal.coe_mul]; rfl

/-- A product over a half-block's rows, of real factors. -/
theorem mm_tn_real {φ₁ φ₂ : FTy} (a : FVec Ideal S128x256 φ₁) (w : FVec Ideal S128x128 φ₂) (x : Fin 128 → Fin 256 → ℝ) (y : Fin 128 → Fin 128 → ℝ)
    (ha : ∀ i c, a (ix2 i c) = (x i c : EReal)) (hw : ∀ i l, w (ix2 i l) = (y i l : EReal)) (c : Fin 256) (l : Fin 128) :
    matmul (F := Ideal) dot_S128x256_S128x128_S256x128_0_0_1_1_n_n none a w (constant (F := Ideal) S256x128 .f32 0x00000000#32) (ix2 c l)
      = ((∑ i, x i c * y i l : ℝ) : EReal) := by
  rw [mm_tn, ← ereal_sum]
  exact Finset.sum_congr rfl fun i _ => by rw [ha, hw, ← EReal.coe_mul]

/-- The stacked product of both heads' gradients with their windows. -/
theorem stack_real (a0 a1 : FVec Ideal S128x256 .bf16) (w0 w1 : Vec Ideal S1x256x128 .bf16) (x0 x1 : Fin 128 → Fin 256 → ℝ) (y0 y1 : Fin 256 → Fin 128 → ℝ)
    (h0 : ∀ i c, a0 (ix2 i c) = (x0 i c : EReal)) (h1 : ∀ i c, a1 (ix2 i c) = (x1 i c : EReal))
    (g0 : ∀ c l, w0 (ix3 0 c l) = (y0 c l : EReal)) (g1 : ∀ c l, w1 (ix3 0 c l) = (y1 c l : EReal)) (hc : Shape.Concatenates [S128x256, S128x256] S128x512 1) (hc' : Shape.Concatenates [S256x128, S256x128] S512x128 0)
    (h h' : S1x256x128.ShapeCasts S256x128) (i l : Fin 128) :
    matmul (F := Ideal) dot_S128x512_S512x128_S128x128_1_0_0_1_n_n none
      (concatenate S128x512 1 [⟨S128x256, a0⟩, ⟨S128x256, a1⟩] hc : FVec Ideal S128x512 .bf16)
      (concatenate S512x128 0 [⟨S256x128, shapeCast S256x128 w0 h⟩, ⟨S256x128, shapeCast S256x128 w1 h'⟩] hc' : FVec Ideal S512x128 .bf16)
      (constant (F := Ideal) S128x128 .f32 0x00000000#32) (ix2 i l)
      = ((∑ c, x0 i c * y0 c l + ∑ c, x1 i c * y1 c l : ℝ) : EReal) := by
  rw [mm_nn]
  refine Eq.trans (Fin.sum_univ_add (a := 256) (b := 256) _) ?_
  rw [EReal.coe_add, ← ereal_sum, ← ereal_sum]
  refine congrArg₂ (fun x y : EReal => x + y) (Finset.sum_congr rfl fun c _ => ?_) (Finset.sum_congr rfl fun c _ => ?_)
  · have e1 : concatenate S128x512 1 [⟨S128x256, a0⟩, ⟨S128x256, a1⟩] hc (ix2 i (Fin.castAdd 256 c)) = a0 (ix2 i c) :=
      concatenate_pair_apply_left (t := S128x512) 1 a0 a1 hc _ rfl (ix2 i c) (fun b => match b with | ⟨0, _⟩ => rfl | ⟨1, _⟩ => rfl)
    have e2 : concatenate S512x128 0 [⟨S256x128, shapeCast S256x128 w0 h⟩, ⟨S256x128, shapeCast S256x128 w1 h'⟩] hc' (ix2 (Fin.castAdd 256 c) l)
        = shapeCast S256x128 w0 h (ix2 c l) :=
      concatenate_pair_apply_left (t := S512x128) 0 _ _ hc' _ rfl (ix2 c l) (fun b => match b with | ⟨0, _⟩ => rfl | ⟨1, _⟩ => rfl)
    exact (congrArg₂ (fun x y : EReal => x * y) (e1.trans (h0 i c)) (e2.trans ((window_cast (φ := .bf16) w0 h c l).trans (g0 c l)))).trans (EReal.coe_mul _ _).symm
  · have e1 : concatenate S128x512 1 [⟨S128x256, a0⟩, ⟨S128x256, a1⟩] hc (ix2 i (Fin.natAdd 256 c)) = a1 (ix2 i c) :=
      concatenate_pair_apply_right (t := S128x512) 1 a0 a1 hc _ rfl rfl (ix2 i c)
        (fun b => match b with | ⟨0, _⟩ => fun _ => rfl | ⟨1, _⟩ => fun hb => absurd rfl hb) (by show c.val + 256 = 256 + c.val; omega)
    have e2 : concatenate S512x128 0 [⟨S256x128, shapeCast S256x128 w0 h⟩, ⟨S256x128, shapeCast S256x128 w1 h'⟩] hc' (ix2 (Fin.natAdd 256 c) l)
        = shapeCast S256x128 w1 h' (ix2 c l) :=
      concatenate_pair_apply_right (t := S512x128) 0 _ _ hc' _ rfl rfl (ix2 c l)
        (fun b => match b with | ⟨0, _⟩ => fun hb => absurd rfl hb | ⟨1, _⟩ => fun _ => rfl) (by show c.val + 256 = 256 + c.val; omega)
    exact (congrArg₂ (fun x y : EReal => x * y) (e1.trans (h1 i c)) (e2.trans ((window_cast (φ := .bf16) w1 h' c l).trans (g1 c l)))).trans (EReal.coe_mul _ _).symm

end Half

/-- The lanes of the first head. -/
theorem pay38_apply (i l : Fin 128) : k0_pay38 (ix2 i l) = if l.val < 64 then 1#1 else 0#1 := by
  have h : ∀ l : Fin 128, IntOp.cmpi .slt (BitVec.ofNat 32 l.val) 64#32 = if l.val < 64 then 1#1 else 0#1 := by decide +kernel
  unfold k0_pay38
  show IntOp.cmpi .slt (iota .tc S128x128 32 [1] iota_S128x128_d1_w32 (ix2 i l)) 64#32 = _
  rw [iota_single_apply]; exact h l

/-- The lanes of the second head. -/
theorem pay39_apply (i l : Fin 128) : k0_pay39 (ix2 i l) = if 64 ≤ l.val then 1#1 else 0#1 := by
  have h : ∀ l : Fin 128, IntOp.cmpi .sge (BitVec.ofNat 32 l.val) 64#32 = if 64 ≤ l.val then 1#1 else 0#1 := by decide +kernel
  unfold k0_pay39
  show IntOp.cmpi .sge (iota .tc S128x128 32 [1] iota_S128x128_d1_w32 (ix2 i l)) 64#32 = _
  rw [iota_single_apply]; exact h l

end Attn
-- ==== Proof.Attn.Block.lean ====
/-
  A half-block of the backward kernel, both heads: the three products that leave it as vectors of the loaded blocks, read at
  an index as real formulas; the staged window copies and the accumulated key and value gradients read at an index.
-/
module

public import proofs.«01_k».proof.Proof.Attn.Ops
public import Idealize.ShloMosaic.Lib.Pipeline.FrameBody

@[expose] public section

set_option maxRecDepth 16384

noncomputable section

namespace Attn

open Idealize.ShloMosaic Idealize.ShloMosaic.ValueIdx
open Cert.KernelIdeal Cert.KernelIdeal.Gen

/-! ## Stored pieces read at an index -/

/-- An index inside the last stored piece reads it. -/
theorem canon_in {S : Shape} {e : EltTy} (off size : Fin S.rank → ℕ) (inb) (w : (Rect.unit (s := S) off size inb).shape.Idx → Elt Ideal e)
    (Ls : List (View.Piece (Elt Ideal) S e)) (y : S.Idx) (x : (Rect.unit (s := S) off size inb).shape.Idx)
    (h : ∀ a, (y a : ℕ) = off a + x a) : View.canon (⟨Rect.unit off size inb, w⟩ :: Ls) y = w x := by
  have e : y = (Rect.unit (s := S) off size inb).emb x := by
    funext a; apply Fin.ext
    refine (h a).trans ?_
    show _ = off a + 1 * (x a : ℕ)
    rw [Nat.one_mul]
  rw [e]; exact View.canon_cons_emb _ _ _ _

/-- An index outside the last stored piece reads the others. -/
theorem canon_out {S : Shape} {e : EltTy} (off size : Fin S.rank → ℕ) (inb) (w : (Rect.unit (s := S) off size inb).shape.Idx → Elt Ideal e)
    (Ls : List (View.Piece (Elt Ideal) S e)) (y : S.Idx) (a : Fin S.rank)
    (h : (y a : ℕ) < off a ∨ off a + size a ≤ y a) : View.canon (⟨Rect.unit off size inb, w⟩ :: Ls) y = View.canon Ls y := by
  refine View.canon_cons_of_not_mem _ _ ?_
  intro hy
  have h2 := (Rect.mem_set_unit (inb := inb)).1 hy a
  omega

/-! ## The two heads of a pair -/

/-- The lanes of a head. -/
def hdOf (h : Fin 2) (l : Fin 128) : Prop := l.val / 64 = h.val
instance (h : Fin 2) : DecidablePred (hdOf h) := fun _ => inferInstanceAs (Decidable (_ = _))

theorem mask0_apply (i l : Fin 128) : k0_pay38 (ix2 i l) = if hdOf 0 l then 1#1 else 0#1 := by
  have h : ∀ l : Fin 128, (if l.val < 64 then 1#1 else 0#1) = if hdOf 0 l then 1#1 else 0#1 := by decide +kernel
  rw [pay38_apply]; exact h l

theorem mask1_apply (i l : Fin 128) : k0_pay39 (ix2 i l) = if hdOf 1 l then 1#1 else 0#1 := by
  have h : ∀ l : Fin 128, (if 64 ≤ l.val then 1#1 else 0#1) = if hdOf 1 l then 1#1 else 0#1 := by decide +kernel
  rw [pay39_apply]; exact h l

theorem mask256_0_apply (c : Fin 256) (l : Fin 128) : k0_pay40 (ix2 c l) = if hdOf 0 l then 1#1 else 0#1 := by
  have h : ∀ l : Fin 128, IntOp.cmpi .slt (BitVec.ofNat 32 l.val) 64#32 = if hdOf 0 l then 1#1 else 0#1 := by decide +kernel
  unfold k0_pay40
  show IntOp.cmpi .slt (iota .tc S256x128 32 [1] iota_S256x128_d1_w32 (ix2 c l)) 64#32 = _
  rw [iota_single_apply]; exact h l

theorem mask256_1_apply (c : Fin 256) (l : Fin 128) : k0_pay23 (ix2 c l) = if hdOf 1 l then 1#1 else 0#1 := by
  have h : ∀ l : Fin 128, IntOp.cmpi .sge (BitVec.ofNat 32 l.val) 64#32 = if hdOf 1 l then 1#1 else 0#1 := by decide +kernel
  unfold k0_pay23
  show IntOp.cmpi .sge (iota .tc S256x128 32 [1] iota_S256x128_d1_w32 (ix2 c l)) 64#32 = _
  rw [iota_single_apply]; exact h l

/-- The two heads' masks. -/
def mask (h : Fin 2) : IVec S128x128 1 := match h with | 0 => k0_pay38 | 1 => k0_pay39

theorem mask_apply (h : Fin 2) (i l : Fin 128) : mask h (ix2 i l) = if hdOf h l then 1#1 else 0#1 := by
  match h with
  | 0 => exact mask0_apply i l
  | 1 => exact mask1_apply i l

/-- A lane of each head. -/
def lane0 (h : Fin 2) : Fin 128 := ⟨h.val * 64, by omega⟩
theorem lane0_hd : ∀ h : Fin 2, hdOf h (lane0 h) := by decide

/-! ## The vectors of a half-block -/

/-- A head's probabilities. -/
def vP (h : Fin 2) (q : Vec Ideal S1x8x1x16x128 .bf16) (k : Vec Ideal S1x256x128 .bf16) (b : Vec Ideal S1x1x128x256 .f32)
    (ls : Vec Ideal S8x1x16x128 .f32) : FVec Ideal S128x256 .f32 :=
  k0_pay49 (k0_pay47 q k b) (k0_pay48 (mask h) ls)

/-- A head's gradients of the scaled products. -/
def vS (h : Fin 2) (q : Vec Ideal S1x8x1x16x128 .bf16) (k v : Vec Ideal S1x256x128 .bf16) (b : Vec Ideal S1x1x128x256 .f32)
    (d o ls : Vec Ideal S8x1x16x128 .f32) : FVec Ideal S128x256 .bf16 :=
  k0_pay50 (mask h) (k0_pay44 d o) (k0_pay46 d) (k0_pay47 q k b) (k0_pay48 (mask h) ls) v

/-- The value gradients of a half-block's window, each lane from its head. -/
def vV (q : Vec Ideal S1x8x1x16x128 .bf16) (k0 k1 : Vec Ideal S1x256x128 .bf16) (b0 b1 : Vec Ideal S1x1x128x256 .f32)
    (d ls : Vec Ideal S8x1x16x128 .f32) : FVec Ideal S256x128 .f32 :=
  select k0_pay40
    (matmul dot_S128x256_S128x128_S256x128_0_0_1_1_n_n none (truncf .bf16 (vP 0 q k0 b0 ls) bitsLt_bf16_f32) (k0_pay46 d) (constant S256x128 .f32 0x00000000#32))
    (matmul dot_S128x256_S128x128_S256x128_0_0_1_1_n_n none (truncf .bf16 (vP 1 q k1 b1 ls) bitsLt_bf16_f32) (k0_pay46 d) (constant S256x128 .f32 0x00000000#32))

/-- The key gradients of a half-block's window, each lane from its head. -/
def vK (q : Vec Ideal S1x8x1x16x128 .bf16) (k0 k1 v0 v1 : Vec Ideal S1x256x128 .bf16) (b0 b1 : Vec Ideal S1x1x128x256 .f32)
    (d o ls : Vec Ideal S8x1x16x128 .f32) : FVec Ideal S256x128 .f32 :=
  select k0_pay40
    (matmul dot_S128x256_S128x128_S256x128_0_0_1_1_n_n none (vS 0 q k0 v0 b0 d o ls) (k0_pay41 q) (constant S256x128 .f32 0x00000000#32))
    (matmul dot_S128x256_S128x128_S256x128_0_0_1_1_n_n none (vS 1 q k1 v1 b1 d o ls) (k0_pay41 q) (constant S256x128 .f32 0x00000000#32))

/-- The query gradients of a half-block. -/
def vQ (q : Vec Ideal S1x8x1x16x128 .bf16) (k0 k1 v0 v1 : Vec Ideal S1x256x128 .bf16) (b0 b1 : Vec Ideal S1x1x128x256 .f32)
    (d o ls : Vec Ideal S8x1x16x128 .f32) : FVec Ideal S128x128 .f32 :=
  matmul dot_S128x512_S512x128_S128x128_1_0_0_1_n_n none
    (concatenate S128x512 1 [⟨S128x256, vS 0 q k0 v0 b0 d o ls⟩, ⟨S128x256, vS 1 q k1 v1 b1 d o ls⟩] concatenates_S128x256_S128x256_S128x512_d1 : FVec Ideal S128x512 .bf16)
    (concatenate S512x128 0 [⟨S256x128, shapeCast S256x128 k0 shapeCasts_S1x256x128_S256x128⟩, ⟨S256x128, shapeCast S256x128 k1 shapeCasts_S1x256x128_S256x128⟩]
      concatenates_S256x128_S256x128_S512x128_d0 : FVec Ideal S512x128 .bf16)
    (constant S128x128 .f32 0x00000000#32)

section Reals
variable {ok : Fin 128 → Fin 256 → Prop} [∀ i c, Decidable (ok i c)]
  (Q C O L : Fin 128 → Fin 128 → ℝ) (lt : Fin 2 → Fin 128 → ℝ) (K V : Fin 2 → Fin 256 → Fin 128 → ℝ) (b : Fin 2 → Fin 128 → Fin 256 → ℝ)
  (q : Vec Ideal S1x8x1x16x128 .bf16) (k v : Fin 2 → Vec Ideal S1x256x128 .bf16) (bb : Fin 2 → Vec Ideal S1x1x128x256 .f32)
  (d o ls : Vec Ideal S8x1x16x128 .f32)
  (hq : ∀ i l, k0_pay41 q (ix2 i l) = (Q i l : EReal)) (hd : ∀ i l, k0_pay43 d (ix2 i l) = (C i l : EReal))
  (ho : ∀ i l, k0_pay43 o (ix2 i l) = (O i l : EReal)) (hls : ∀ i l, k0_pay43 ls (ix2 i l) = (L i l : EReal))
  (hL : ∀ h i l, hdOf h l → L i l = lt h i)
  (hk : ∀ h c l, k h (ix3 0 c l) = (K h c l : EReal)) (hv : ∀ h c l, v h (ix3 0 c l) = (V h c l : EReal))
  (hb : ∀ h i c, bb h (ix4 0 0 i c) = if ok i c then (b h i c : EReal) else ⊥)

include hq hls hL hk hb in
theorem vP_apply (h : Fin 2) (i : Fin 128) (c : Fin 256) :
    vP h q (k h) (bb h) ls (ix2 i c) = (hP Q (lt h) (K h) (b h) ok i c : EReal) :=
  pay49_apply Q (lt h) (K h) (b h) _ _ (lane0 h) (lane0_hd h) (pay47_apply Q (K h) (b h) q (k h) (bb h) hq (hk h) (hb h))
    (pay48_apply L (lt h) (mask h) ls (mask_apply h) hls (hL h)) i c

include hq hd ho hls hL hk hv hb in
theorem vS_apply (h : Fin 2) (i : Fin 128) (c : Fin 256) :
    vS h q (k h) (v h) (bb h) d o ls (ix2 i c) = (hS Q C O (lt h) (K h) (V h) (b h) ok (hdOf h) i c : EReal) := by
  refine pay50_apply Q C O (lt h) (K h) (V h) (b h) (mask h) _ _ _ _ (v h) (mask_apply h) (fun i l => ?_) (fun i l => hd i l)
    (fun i c => vP_apply Q L lt K b q k bb ls hq hls hL hk hb h i c) (hv h) i c
  unfold k0_pay44
  refine Eq.trans (congrArg₂ (fun x y : EReal => x * y) (hd i l) (ho i l)) (EReal.coe_mul _ _).symm

include hq hd hls hL hk hb in
theorem vV_apply (c : Fin 256) (l : Fin 128) :
    vV q (k 0) (k 1) (bb 0) (bb 1) d ls (ix2 c l)
      = ((if hdOf 0 l then ∑ i, hP Q (lt 0) (K 0) (b 0) ok i c * C i l else ∑ i, hP Q (lt 1) (K 1) (b 1) ok i c * C i l : ℝ) : EReal) := by
  unfold vV
  refine Eq.trans (congrArg₂ (Scalar.select (k0_pay40 (ix2 c l)))
    (mm_tn_real _ _ _ C (fun i c => vP_apply Q L lt K b q k bb ls hq hls hL hk hb 0 i c) (fun i l => hd i l) c l)
    (mm_tn_real _ _ _ C (fun i c => vP_apply Q L lt K b q k bb ls hq hls hL hk hb 1 i c) (fun i l => hd i l) c l)) ?_
  rw [mask256_0_apply]
  by_cases h : hdOf 0 l
  · rw [if_pos h, if_pos h]; rfl
  · rw [if_neg h, if_neg h]; rfl

include hq hd ho hls hL hk hv hb in
theorem vK_apply (c : Fin 256) (l : Fin 128) :
    vK q (k 0) (k 1) (v 0) (v 1) (bb 0) (bb 1) d o ls (ix2 c l)
      = ((if hdOf 0 l then ∑ i, hS Q C O (lt 0) (K 0) (V 0) (b 0) ok (hdOf 0) i c * Q i l
          else ∑ i, hS Q C O (lt 1) (K 1) (V 1) (b 1) ok (hdOf 1) i c * Q i l : ℝ) : EReal) := by
  unfold vK
  refine Eq.trans (congrArg₂ (Scalar.select (k0_pay40 (ix2 c l)))
    (mm_tn_real _ _ _ Q (fun i c => vS_apply Q C O L lt K V b q k v bb d o ls hq hd ho hls hL hk hv hb 0 i c) hq c l)
    (mm_tn_real _ _ _ Q (fun i c => vS_apply Q C O L lt K V b q k v bb d o ls hq hd ho hls hL hk hv hb 1 i c) hq c l)) ?_
  rw [mask256_0_apply]
  by_cases h : hdOf 0 l
  · rw [if_pos h, if_pos h]; rfl
  · rw [if_neg h, if_neg h]; rfl

include hq hd ho hls hL hk hv hb in
theorem vQ_apply (i l : Fin 128) :
    vQ q (k 0) (k 1) (v 0) (v 1) (bb 0) (bb 1) d o ls (ix2 i l)
      = ((∑ c, hS Q C O (lt 0) (K 0) (V 0) (b 0) ok (hdOf 0) i c * K 0 c l
          + ∑ c, hS Q C O (lt 1) (K 1) (V 1) (b 1) ok (hdOf 1) i c * K 1 c l : ℝ) : EReal) :=
  stack_real _ _ (k 0) (k 1) _ _ (K 0) (K 1) (fun i c => vS_apply Q C O L lt K V b q k v bb d o ls hq hd ho hls hL hk hv hb 0 i c)
    (fun i c => vS_apply Q C O L lt K V b q k v bb d o ls hq hd ho hls hL hk hv hb 1 i c) (hk 0) (hk 1) _ _ _ _ i l

end Reals

/-! ## The staged copies and the accumulators -/

/-- A staged copy read at a row and a lane: the row less the border of sixty-four, on the head's lanes. -/
def stR (X : Fin 256 → Fin 128 → ℝ) (h : Fin 2) (r : ℕ) (l : Fin 128) : ℝ :=
  if hr : 64 ≤ r ∧ r < 320 then (if hdOf h l then X ⟨r - 64, by omega⟩ l else 0) else 0

theorem staged_apply (X : Fin 256 → Fin 128 → ℝ) (w0 w1 : Vec Ideal S1x256x128 .bf16) (z0 z1 z2 z3 : Vec Ideal S1x64x128 .bf16)
    (i0 i1 i2 i3 i4 i5)
    (hz0 : ∀ x, z0 x = (0 : EReal)) (hz1 : ∀ x, z1 x = (0 : EReal)) (hz2 : ∀ x, z2 x = (0 : EReal)) (hz3 : ∀ x, z3 x = (0 : EReal))
    (h0 : ∀ c l, w0 (ix3 0 c l) = ((if hdOf 0 l then X c l else 0 : ℝ) : EReal))
    (h1 : ∀ c l, w1 (ix3 0 c l) = ((if hdOf 1 l then X c l else 0 : ℝ) : EReal)) (h : Fin 2) (r : Fin 384) (l : Fin 128) :
    View.canon (Val := Elt Ideal) (s := S2x384x128) (e := .bf16)
      [⟨Rect.unit ![1, 64, 0] S1x256x128.size i0, w1⟩, ⟨Rect.unit ![1, 320, 0] S1x64x128.size i1, z3⟩,
        ⟨Rect.unit ![1, 0, 0] S1x64x128.size i2, z2⟩, ⟨Rect.unit ![0, 64, 0] S1x256x128.size i3, w0⟩,
        ⟨Rect.unit ![0, 320, 0] S1x64x128.size i4, z1⟩, ⟨Rect.unit ![0, 0, 0] S1x64x128.size i5, z0⟩] (ix3 h r l)
      = (stR X h r l : EReal) := by
  have hr := r.isLt
  have hl := l.isLt
  unfold stR
  by_cases hin : 64 ≤ r.val ∧ r.val < 320
  · rw [dif_pos hin]
    match h with
    | 1 =>
      exact (canon_in _ _ _ _ _ _ (ix3 (0 : Fin 1) (⟨r.val - 64, by omega⟩ : Fin 256) l) (fun a => match a with
        | ⟨0, _⟩ => rfl | ⟨1, _⟩ => by show r.val = 64 + (r.val - 64); omega | ⟨2, _⟩ => by show l.val = 0 + l.val; omega)).trans (h1 _ l)
    | 0 =>
      refine (canon_out _ _ _ _ _ _ 0 (Or.inl (by show 0 < 1; omega))).trans ?_
      refine (canon_out _ _ _ _ _ _ 0 (Or.inl (by show 0 < 1; omega))).trans ?_
      refine (canon_out _ _ _ _ _ _ 0 (Or.inl (by show 0 < 1; omega))).trans ?_
      exact (canon_in _ _ _ _ _ _ (ix3 (0 : Fin 1) (⟨r.val - 64, by omega⟩ : Fin 256) l) (fun a => match a with
        | ⟨0, _⟩ => rfl | ⟨1, _⟩ => by show r.val = 64 + (r.val - 64); omega | ⟨2, _⟩ => by show l.val = 0 + l.val; omega)).trans (h0 _ l)
  · rw [dif_neg hin, EReal.coe_zero]
    by_cases hlo : r.val < 64
    · match h with
      | 1 =>
        refine (canon_out _ _ _ _ _ _ 1 (Or.inl (by show r.val < 64; omega))).trans ?_
        refine (canon_out _ _ _ _ _ _ 1 (Or.inl (by show r.val < 320; omega))).trans ?_
        exact (canon_in _ _ _ _ _ _ (ix3 (0 : Fin 1) (⟨r.val, by omega⟩ : Fin 64) l) (fun a => match a with
          | ⟨0, _⟩ => rfl | ⟨1, _⟩ => by show r.val = 0 + r.val; omega | ⟨2, _⟩ => by show l.val = 0 + l.val; omega)).trans (hz2 _)
      | 0 =>
        refine (canon_out _ _ _ _ _ _ 0 (Or.inl (by show 0 < 1; omega))).trans ?_
        refine (canon_out _ _ _ _ _ _ 0 (Or.inl (by show 0 < 1; omega))).trans ?_
        refine (canon_out _ _ _ _ _ _ 0 (Or.inl (by show 0 < 1; omega))).trans ?_
        refine (canon_out _ _ _ _ _ _ 1 (Or.inl (by show r.val < 64; omega))).trans ?_
        refine (canon_out _ _ _ _ _ _ 1 (Or.inl (by show r.val < 320; omega))).trans ?_
        exact (canon_in _ _ _ _ _ _ (ix3 (0 : Fin 1) (⟨r.val, by omega⟩ : Fin 64) l) (fun a => match a with
          | ⟨0, _⟩ => rfl | ⟨1, _⟩ => by show r.val = 0 + r.val; omega | ⟨2, _⟩ => by show l.val = 0 + l.val; omega)).trans (hz0 _)
    · match h with
      | 1 =>
        refine (canon_out _ _ _ _ _ _ 1 (Or.inr (by show 64 + 256 ≤ r.val; omega))).trans ?_
        exact (canon_in _ _ _ _ _ _ (ix3 (0 : Fin 1) (⟨r.val - 320, by omega⟩ : Fin 64) l) (fun a => match a with
          | ⟨0, _⟩ => rfl | ⟨1, _⟩ => by show r.val = 320 + (r.val - 320); omega | ⟨2, _⟩ => by show l.val = 0 + l.val; omega)).trans (hz3 _)
      | 0 =>
        refine (canon_out _ _ _ _ _ _ 0 (Or.inl (by show 0 < 1; omega))).trans ?_
        refine (canon_out _ _ _ _ _ _ 0 (Or.inl (by show 0 < 1; omega))).trans ?_
        refine (canon_out _ _ _ _ _ _ 0 (Or.inl (by show 0 < 1; omega))).trans ?_
        refine (canon_out _ _ _ _ _ _ 1 (Or.inr (by show 64 + 256 ≤ r.val; omega))).trans ?_
        exact (canon_in _ _ _ _ _ _ (ix3 (0 : Fin 1) (⟨r.val - 320, by omega⟩ : Fin 64) l) (fun a => match a with
          | ⟨0, _⟩ => rfl | ⟨1, _⟩ => by show r.val = 320 + (r.val - 320); omega | ⟨2, _⟩ => by show l.val = 0 + l.val; omega)).trans (hz1 _)

/-- The accumulated gradient of a key row: what the two windows add to it. -/
def accR (s0 s1 : Fin 256 → Fin 128 → ℝ) (j : Fin 256) (l : Fin 128) : ℝ :=
  (if hj : j.val < 192 then s0 ⟨j.val + 64, by omega⟩ l else 0) + (if hj : 64 ≤ j.val then s1 ⟨j.val - 64, by omega⟩ l else 0)

/-- The accumulator after both half-blocks, read at its middle rows. -/
theorem acc_apply (s0 s1 : Fin 256 → Fin 128 → ℝ) (a0 a1 : Vec Ideal S256x128 .f32) (z : Vec Ideal S384x128 .f32)
    (i1 i2 i3) (hz : ∀ x, z x = (0 : EReal)) (h0 : ∀ c l, a0 (ix2 c l) = (s0 c l : EReal))
    (h1 : ∀ c l, a1 (ix2 c l) = (((if hc : c.val < 128 then s0 ⟨c.val + 128, by omega⟩ l else 0) + s1 c l : ℝ) : EReal)) (j : Fin 256) (l : Fin 128) :
    View.canon (Val := Elt Ideal) (s := S384x128) (e := .f32)
      [⟨Rect.unit ![128, 0] S256x128.size i1, a1⟩, ⟨Rect.unit ![0, 0] S256x128.size i2, a0⟩, ⟨Rect.unit ![0, 0] S384x128.size i3, z⟩]
      (ix2 (⟨64 + j.val, by omega⟩ : Fin 384) l) = (accR s0 s1 j l : EReal) := by
  have hj := j.isLt
  unfold accR
  by_cases hm : 64 ≤ j.val
  · refine (canon_in _ _ _ _ _ _ (ix2 (⟨j.val - 64, by omega⟩ : Fin 256) l) (fun a => match a with
      | ⟨0, _⟩ => by show 64 + j.val = 128 + (j.val - 64); omega | ⟨1, _⟩ => by show l.val = 0 + l.val; omega)).trans ?_
    rw [dif_pos hm]
    refine (h1 _ l).trans (congrArg (fun z : ℝ => (z : EReal)) (congrArg (fun z : ℝ => z + _) ?_))
    by_cases hj' : j.val < 192
    · rw [dif_pos hj', dif_pos (show j.val - 64 < 128 by omega)]
      exact congrArg (fun z => s0 z l) (Fin.ext (show j.val - 64 + 128 = j.val + 64 by omega))
    · rw [dif_neg hj', dif_neg (show ¬ j.val - 64 < 128 by omega)]
  · refine (canon_out _ _ _ _ _ _ 0 (Or.inl (by show 64 + j.val < 128; omega))).trans ?_
    refine (canon_in _ _ _ _ _ _ (ix2 (⟨64 + j.val, by omega⟩ : Fin 256) l) (fun a => match a with
      | ⟨0, _⟩ => by show 64 + j.val = 0 + (64 + j.val); omega | ⟨1, _⟩ => by show l.val = 0 + l.val; omega)).trans ?_
    rw [dif_neg hm, add_zero, dif_pos (by omega : j.val < 192)]
    exact (h0 _ l).trans (congrArg (fun z => ((s0 z l : ℝ) : EReal)) (Fin.ext (show 64 + j.val = j.val + 64 by omega)))

/-- The accumulator after the first half-block, read at its last rows. -/
theorem acc_first_apply (s0 : Fin 256 → Fin 128 → ℝ) (a0 : Vec Ideal S256x128 .f32) (z : Vec Ideal S384x128 .f32)
    (i2 i3) (hz : ∀ x, z x = (0 : EReal)) (h0 : ∀ c l, a0 (ix2 c l) = (s0 c l : EReal)) (c : Fin 256) (l : Fin 128) :
    View.canon (Val := Elt Ideal) (s := S384x128) (e := .f32)
      [⟨Rect.unit ![0, 0] S256x128.size i2, a0⟩, ⟨Rect.unit ![0, 0] S384x128.size i3, z⟩]
      (ix2 (⟨128 + c.val, by omega⟩ : Fin 384) l) = ((if hc : c.val < 128 then s0 ⟨c.val + 128, by omega⟩ l else 0 : ℝ) : EReal) := by
  have hc' := c.isLt
  by_cases hc : c.val < 128
  · rw [dif_pos hc]
    refine (canon_in _ _ _ _ _ _ (ix2 (⟨128 + c.val, by omega⟩ : Fin 256) l) (fun a => match a with
      | ⟨0, _⟩ => by show 128 + c.val = 0 + (128 + c.val); omega | ⟨1, _⟩ => by show l.val = 0 + l.val; omega)).trans ?_
    exact (h0 _ l).trans (congrArg (fun z => ((s0 z l : ℝ) : EReal)) (Fin.ext (show 128 + c.val = c.val + 128 by omega)))
  · rw [dif_neg hc]
    refine (canon_out _ _ _ _ _ _ 0 (Or.inr (by show 0 + 256 ≤ 128 + c.val; omega))).trans ?_
    exact (canon_in _ _ _ _ _ _ (ix2 (⟨128 + c.val, by omega⟩ : Fin 384) l) (fun a => match a with
      | ⟨0, _⟩ => by show 128 + c.val = 0 + (128 + c.val); omega | ⟨1, _⟩ => by show l.val = 0 + l.val; omega)).trans (hz _)

end Attn
-- ==== Proof.Attn.Bridge.lean ====
/-
  From the two half-blocks' real formulas (rows of 128 lanes for two heads, windows of 256 key rows) to each head's
  gradients: the window columns are the keys in a query's reach, and the two windows' contributions to a key row add up to
  the sum over all queries.
-/
module

public import proofs.«01_k».proof.Proof.Attn.Block

@[expose] public section

noncomputable section

namespace Attn

/-- The head of a pair and the lane within it. -/
def hOf (l : Fin 128) : Fin 2 := ⟨l.val / 64, by omega⟩
def eOf (l : Fin 128) : Fin 64 := ⟨l.val % 64, by omega⟩
/-- The lane of a head. -/
def laneAt (h : Fin 2) (e : Fin 64) : Fin 128 := ⟨h.val * 64 + e.val, by omega⟩
/-- The position of a half-block's row. -/
def row (η : Fin 2) (i : Fin 128) : Fin 256 := ⟨128 * η.val + i.val, by omega⟩

theorem hOf_laneAt (h : Fin 2) (e : Fin 64) : hOf (laneAt h e) = h := Fin.ext (by show (h.val * 64 + e.val) / 64 = h.val; omega)
theorem eOf_laneAt (h : Fin 2) (e : Fin 64) : eOf (laneAt h e) = e := Fin.ext (by show (h.val * 64 + e.val) % 64 = e.val; omega)
theorem hdOf_iff (h : Fin 2) (l : Fin 128) : hdOf h l ↔ hOf l = h := by
  unfold hdOf hOf; rw [Fin.ext_iff]

/-- A sum over a head's lanes. -/
theorem sum_lanes (h : Fin 2) (f : Fin 128 → ℝ) : (∑ l, if hdOf h l then f l else 0) = ∑ e, f (laneAt h e) := by
  have e1 : (∑ l : Fin 128, if hdOf h l then f l else 0) = ∑ p : Fin 2 × Fin 64, if p.1 = h then f (laneAt p.1 p.2) else 0 := by
    refine (Equiv.sum_comp (finProdFinEquiv : Fin 2 × Fin 64 ≃ Fin 128) _).symm.trans ?_
    refine Finset.sum_congr rfl fun p _ => ?_
    have hl : (finProdFinEquiv p : Fin 128) = laneAt p.1 p.2 := Fin.ext (by
      show p.2.val + 64 * p.1.val = p.1.val * 64 + p.2.val; omega)
    have hh : hdOf h (laneAt p.1 p.2) ↔ p.1 = h := by rw [hdOf_iff, hOf_laneAt]
    show (if hdOf h (finProdFinEquiv p : Fin 128) then f (finProdFinEquiv p : Fin 128) else 0) = _
    rw [hl]
    simp only [hh]
  rw [e1, Fintype.sum_prod_type]
  rw [Finset.sum_eq_single h]
  · simp
  · intro b _ hb; simp [hb]
  · intro hn; exact absurd (Finset.mem_univ _) hn

/-- The bias's band: sixty-four on each side, cut at the sequence's ends. -/
def okw (η : Fin 2) (i : Fin 128) (c : Fin 256) : Prop :=
  |(c.val : ℤ) - 64 - (i.val : ℤ)| ≤ 64 ∧ (if η = 0 then 64 ≤ c.val else c.val < 192)
instance (η : Fin 2) (i : Fin 128) (c : Fin 256) : Decidable (okw η i c) := by unfold okw; infer_instance

/-- A window column holds a key when it lies inside the sequence. -/
theorem okw_iff (η : Fin 2) (i : Fin 128) (c : Fin 256) (j : Fin 256) (hj : j.val + 64 = c.val + 128 * η.val) :
    okw η i c ↔ near (row η i) j := by
  have hi := i.isLt
  have hc := c.isLt
  have hj' := j.isLt
  unfold okw near dist row
  dsimp only
  match η with
  | 0 =>
    simp only [if_pos]
    have e : ((j.val : ℤ) - ((128 * (0 : Fin 2).val + i.val : ℕ) : ℤ)) = (c.val : ℤ) - 64 - i.val := by
      have : j.val + 64 = c.val + 128 * 0 := hj
      show ((j.val : ℤ) - ((128 * 0 + i.val : ℕ) : ℤ)) = _
      push_cast; omega
    rw [e]
    have : j.val + 64 = c.val + 128 * 0 := hj
    constructor
    · exact fun h => h.1
    · exact fun h => ⟨h, by omega⟩
  | 1 =>
    have h10 : ¬ ((1 : Fin 2) = 0) := by decide
    simp only [if_neg h10]
    have hq : j.val + 64 = c.val + 128 * 1 := hj
    have e : ((j.val : ℤ) - ((128 * (1 : Fin 2).val + i.val : ℕ) : ℤ)) = (c.val : ℤ) - 64 - i.val := by
      show ((j.val : ℤ) - ((128 * 1 + i.val : ℕ) : ℤ)) = _
      push_cast; omega
    rw [e]
    constructor
    · exact fun h => h.1
    · exact fun h => ⟨h, by omega⟩

theorem okw_valid (η : Fin 2) (i : Fin 128) (c : Fin 256) (h : okw η i c) : ∃ j : Fin 256, j.val + 64 = c.val + 128 * η.val := by
  have hc := c.isLt
  unfold okw at h
  match η with
  | 0 =>
    have h2 : 64 ≤ c.val := by simpa using h.2
    exact ⟨⟨c.val - 64, by omega⟩, by show c.val - 64 + 64 = c.val + 128 * 0; omega⟩
  | 1 =>
    have h2 : c.val < 192 := by simpa using h.2
    exact ⟨⟨c.val + 64, by omega⟩, by show c.val + 64 + 64 = c.val + 128 * 1; omega⟩

/-- A key outside a half-block's window is outside every query's band. -/
theorem not_near (η : Fin 2) (i : Fin 128) (j : Fin 256) (h : ¬ ∃ c : Fin 256, j.val + 64 = c.val + 128 * η.val) : ¬ near (row η i) j := by
  have hi := i.isLt
  have hj := j.isLt
  unfold near dist row
  dsimp only
  rw [abs_le]
  match η with
  | 0 =>
    have h2 : 192 ≤ j.val := by
      by_contra hn
      exact h ⟨⟨j.val + 64, by omega⟩, by show j.val + 64 = j.val + 64 + 128 * 0; omega⟩
    show ¬ (-64 ≤ (j.val : ℤ) - ((128 * 0 + i.val : ℕ) : ℤ) ∧ (j.val : ℤ) - ((128 * 0 + i.val : ℕ) : ℤ) ≤ 64)
    push_cast; omega
  | 1 =>
    have h2 : j.val < 64 := by
      by_contra hn
      exact h ⟨⟨j.val - 64, by omega⟩, by show j.val + 64 = j.val - 64 + 128 * 1; omega⟩
    show ¬ (-64 ≤ (j.val : ℤ) - ((128 * 1 + i.val : ℕ) : ℤ) ∧ (j.val : ℤ) - ((128 * 1 + i.val : ℕ) : ℤ) ≤ 64)
    push_cast; omega

/-- A sum over a window's columns is the sum over all keys, when keys outside the band add nothing. -/
theorem sum_window (η : Fin 2) (i : Fin 128) (F g : Fin 256 → ℝ) (hg : ∀ j, ¬ near (row η i) j → g j = 0)
    (hF : ∀ c j : Fin 256, j.val + 64 = c.val + 128 * η.val → F c = g j)
    (hF0 : ∀ c, ¬ okw η i c → F c = 0) : ∑ c, F c = ∑ j, g j := by
  have e1 : ∀ c, F c = ∑ j : Fin 256, if j.val + 64 = c.val + 128 * η.val then g j else 0 := by
    intro c
    by_cases hx : ∃ j : Fin 256, j.val + 64 = c.val + 128 * η.val
    · obtain ⟨j, hj⟩ := hx
      rw [Finset.sum_eq_single j, if_pos hj]
      · exact hF c j hj
      · intro b _ hb
        rw [if_neg]
        intro hb'
        exact hb (Fin.ext (by omega))
      · intro hn; exact absurd (Finset.mem_univ _) hn
    · rw [hF0 c (fun hok => hx (okw_valid η i c hok)), Finset.sum_eq_zero]
      intro j _
      rw [if_neg (fun hj => hx ⟨j, hj⟩)]
  simp only [e1]
  rw [Finset.sum_comm]
  refine Finset.sum_congr rfl fun j _ => ?_
  by_cases hx : ∃ c : Fin 256, j.val + 64 = c.val + 128 * η.val
  · obtain ⟨c, hc⟩ := hx
    rw [Finset.sum_eq_single c, if_pos hc]
    · intro b _ hb
      rw [if_neg]
      intro hb'
      exact hb (Fin.ext (by omega))
    · intro hn; exact absurd (Finset.mem_univ _) hn
  · rw [hg j (not_near η i j hx)]
    simp

section Heads
variable (H : Fin 2 → Head)

/-- The pair's rows of 128 lanes. -/
def pQ (i : Fin 256) (l : Fin 128) : ℝ := (H (hOf l)).q i (eOf l)
def pK (i : Fin 256) (l : Fin 128) : ℝ := (H (hOf l)).k i (eOf l)
def pV (i : Fin 256) (l : Fin 128) : ℝ := (H (hOf l)).v i (eOf l)
def pC (i : Fin 256) (l : Fin 128) : ℝ := (H (hOf l)).ct i (eOf l)
def pO (i : Fin 256) (l : Fin 128) : ℝ := (H (hOf l)).ao i (eOf l)
/-- The bias inside the band. -/
def bw (h : Fin 2) (i : Fin 128) (c : Fin 256) : ℝ := -((H h).s * ((|(c.val : ℤ) - 64 - (i.val : ℤ)| : ℤ) : ℝ))

/-- A half-block's window of a staged copy. -/
def win (X : Fin 256 → Fin 128 → ℝ) (η h : Fin 2) (c : Fin 256) (l : Fin 128) : ℝ := stR X h (c.val + 128 * η.val) l

theorem win_eq (X : Fin 256 → Fin 128 → ℝ) (η h : Fin 2) (c j : Fin 256) (l : Fin 128) (hj : j.val + 64 = c.val + 128 * η.val) :
    win X η h c l = if hdOf h l then X j l else 0 := by
  have := j.isLt
  unfold win stR
  rw [dif_pos (by omega)]
  have e : (⟨c.val + 128 * η.val - 64, by omega⟩ : Fin 256) = j := Fin.ext (by show c.val + 128 * η.val - 64 = j.val; omega)
  rw [e]

theorem win_other (X : Fin 256 → Fin 128 → ℝ) (η h : Fin 2) (c : Fin 256) (l : Fin 128) (hl : ¬ hdOf h l) : win X η h c l = 0 := by
  unfold win stR
  split_ifs <;> rfl

/-- A half-block's probabilities and score gradients. -/
def kP (η h : Fin 2) : Fin 128 → Fin 256 → ℝ :=
  hP (fun i => pQ H (row η i)) (fun i => (H h).LT (row η i)) (win (pK H) η h) (bw H h) (okw η)
def kS (η h : Fin 2) : Fin 128 → Fin 256 → ℝ :=
  hS (fun i => pQ H (row η i)) (fun i => pC H (row η i)) (fun i => pO H (row η i)) (fun i => (H h).LT (row η i)) (win (pK H) η h) (win (pV H) η h)
    (bw H h) (okw η) (hdOf h)

theorem sum_win (η h : Fin 2) (c j : Fin 256) (hj : j.val + 64 = c.val + 128 * η.val) (X : Fin 256 → Fin 128 → ℝ) (f : Fin 128 → ℝ) :
    ∑ l, f l * win X η h c l = ∑ e, f (laneAt h e) * X j (laneAt h e) := by
  rw [← sum_lanes h (fun l => f l * X j l)]
  refine Finset.sum_congr rfl fun l _ => ?_
  rw [win_eq X η h c j l hj]
  split_ifs
  · rfl
  · rw [mul_zero]

theorem kP_far (η h : Fin 2) (i : Fin 128) (c : Fin 256) (hn : ¬ okw η i c) : kP H η h i c = 0 := by
  unfold kP hP; rw [if_neg hn]

theorem kP_eq (η h : Fin 2) (i : Fin 128) (c j : Fin 256) (hj : j.val + 64 = c.val + 128 * η.val) :
    kP H η h i c = (H h).P (row η i) j := by
  have hiff := okw_iff η i c j hj
  unfold kP hP Head.P
  by_cases hn : near (row η i) j
  · rw [if_pos (hiff.2 hn), if_pos hn]
    refine congrArg Real.exp (congrArg (fun z => z - (H h).LT (row η i)) ?_)
    rw [sum_win η h c j hj (pK H) (fun l => pQ H (row η i) l * (1 / 8))]
    unfold Head.S bw dist pQ pK row
    simp only [hOf_laneAt, eOf_laneAt]
    rw [Finset.sum_mul, ← sub_eq_add_neg]
    refine congrArg₂ (fun a b => a - b) (Finset.sum_congr rfl fun e _ => by ring) ?_
    have e : ((c.val : ℤ) - 64 - (i.val : ℤ)) = (j.val : ℤ) - ((128 * η.val + i.val : ℕ) : ℤ) := by push_cast; omega
    rw [e]
  · rw [if_neg (fun h' => hn (hiff.1 h')), if_neg hn]

theorem kS_far (η h : Fin 2) (i : Fin 128) (c : Fin 256) (hn : ¬ okw η i c) : kS H η h i c = 0 := by
  have := kP_far H η h i c hn
  unfold kP at this
  unfold kS hS
  rw [this]; ring

theorem kS_eq (η h : Fin 2) (i : Fin 128) (c j : Fin 256) (hj : j.val + 64 = c.val + 128 * η.val) :
    kS H η h i c = (H h).ds (row η i) j := by
  have hp := kP_eq H η h i c j hj
  unfold kP at hp
  unfold kS hS
  rw [hp, sum_win η h c j hj (pV H) (fun l => pC H (row η i) l)]
  unfold hD
  rw [sum_lanes h (fun l => pC H (row η i) l * pO H (row η i) l)]
  unfold Head.ds Head.dp Head.D pC pV pO
  simp only [hOf_laneAt, eOf_laneAt]

/-- The query gradients of a half-block. -/
theorem kQ_eq (η : Fin 2) (i l : Fin 128) :
    ∑ c, kS H η 0 i c * win (pK H) η 0 c l + ∑ c, kS H η 1 i c * win (pK H) η 1 c l = (H (hOf l)).dq (row η i) (eOf l) := by
  have main : ∀ h, hdOf h l → ∑ c, kS H η h i c * win (pK H) η h c l = (H h).dq (row η i) (eOf l) := by
    intro h hl
    refine sum_window η i _ _ (fun j hn => by rw [Head.ds_far _ hn, zero_mul]) (fun c j hj => ?_) (fun c hn => by rw [kS_far H η h i c hn, zero_mul])
    rw [kS_eq H η h i c j hj, win_eq _ η h c j l hj, if_pos hl]
    unfold pK
    rw [(hdOf_iff h l).1 hl]
  have other : ∀ h, ¬ hdOf h l → ∑ c, kS H η h i c * win (pK H) η h c l = 0 := by
    intro h hl
    refine Finset.sum_eq_zero fun c _ => ?_
    rw [win_other _ η h c l hl, mul_zero]
  by_cases h0 : hdOf 0 l
  · have h1 : ¬ hdOf 1 l := by
      unfold hdOf at *; intro h1
      have := h0.symm.trans h1
      exact absurd this (by decide)
    rw [main 0 h0, other 1 h1, add_zero, (hdOf_iff 0 l).1 h0]
  · have h1 : hdOf 1 l := by
      have hl := l.isLt
      unfold hdOf at *
      have : l.val / 64 ≠ 0 := h0
      show l.val / 64 = 1
      omega
    rw [main 1 h1, other 0 h0, zero_add, (hdOf_iff 1 l).1 h1]

/-- What a half-block adds to a key row: each lane takes its head's part. -/
def part (M : Fin 2 → Fin 128 → Fin 256 → ℝ) (X : Fin 128 → Fin 128 → ℝ) (c : Fin 256) (l : Fin 128) : ℝ :=
  if hdOf 0 l then ∑ i, M 0 i c * X i l else ∑ i, M 1 i c * X i l

theorem part_eq (M : Fin 2 → Fin 128 → Fin 256 → ℝ) (X : Fin 128 → Fin 128 → ℝ) (c : Fin 256) (l : Fin 128) :
    part M X c l = ∑ i, M (hOf l) i c * X i l := by
  unfold part
  by_cases h0 : hdOf 0 l
  · rw [if_pos h0, (hdOf_iff 0 l).1 h0]
  · have h1 : hOf l = 1 := by
      have hl := l.isLt
      unfold hdOf at h0
      have : l.val / 64 ≠ 0 := h0
      exact Fin.ext (show l.val / 64 = 1 by omega)
    rw [if_neg h0, h1]

/-- The two half-blocks' parts of a key row add up to the sum over all queries. -/
theorem acc_eq (M : Fin 2 → Fin 2 → Fin 128 → Fin 256 → ℝ) (G : Fin 2 → Fin 256 → Fin 256 → ℝ) (X : Fin 256 → Fin 128 → ℝ)
    (hM : ∀ η h i c j, j.val + 64 = c.val + 128 * η.val → M η h i c = G h (row η i) j)
    (hG : ∀ h i j, ¬ near i j → G h i j = 0) (j : Fin 256) (l : Fin 128) :
    accR (part (M 0) (fun i => X (row 0 i))) (part (M 1) (fun i => X (row 1 i))) j l = ∑ i, G (hOf l) i j * X i l := by
  have hj := j.isLt
  have hs : ∑ i : Fin 256, G (hOf l) i j * X i l = ∑ i : Fin 128, G (hOf l) (row 0 i) j * X (row 0 i) l + ∑ i : Fin 128, G (hOf l) (row 1 i) j * X (row 1 i) l := by
    refine (Fin.sum_univ_add (a := 128) (b := 128) (fun i : Fin 256 => G (hOf l) i j * X i l)).trans ?_
    have e0 : ∀ i : Fin 128, (Fin.castAdd 128 i : Fin 256) = row 0 i := fun i => Fin.ext (by show i.val = 128 * 0 + i.val; omega)
    have e1 : ∀ i : Fin 128, (Fin.natAdd 128 i : Fin 256) = row 1 i := fun i => Fin.ext (by show 128 + i.val = 128 * 1 + i.val; omega)
    exact congrArg₂ (fun a b => a + b) (Finset.sum_congr rfl fun i _ => by rw [e0]) (Finset.sum_congr rfl fun i _ => by rw [e1])
  rw [hs]
  unfold accR
  refine congrArg₂ (fun a b => a + b) ?_ ?_
  · by_cases h : j.val < 192
    · rw [dif_pos h, part_eq]
      refine Finset.sum_congr rfl fun i _ => ?_
      rw [hM 0 (hOf l) i _ j (by show j.val + 64 = j.val + 64 + 128 * 0; omega)]
    · rw [dif_neg h]
      refine (Finset.sum_eq_zero fun i _ => ?_).symm
      rw [hG _ _ _ (not_near 0 i j (fun ⟨c, hc⟩ => by have := c.isLt; have : j.val + 64 = c.val + 128 * 0 := hc; omega)), zero_mul]
  · by_cases h : 64 ≤ j.val
    · rw [dif_pos h, part_eq]
      refine Finset.sum_congr rfl fun i _ => ?_
      rw [hM 1 (hOf l) i _ j (by show j.val + 64 = j.val - 64 + 128 * 1; omega)]
    · rw [dif_neg h]
      refine (Finset.sum_eq_zero fun i _ => ?_).symm
      rw [hG _ _ _ (not_near 1 i j (fun ⟨c, hc⟩ => by have : j.val + 64 = c.val + 128 * 1 := hc; omega)), zero_mul]

/-- The accumulated key gradients. -/
theorem kK_eq (j : Fin 256) (l : Fin 128) :
    accR (part (kS H 0) (fun i => pQ H (row 0 i))) (part (kS H 1) (fun i => pQ H (row 1 i))) j l = (H (hOf l)).dk j (eOf l) :=
  acc_eq (kS H) (fun h => (H h).ds) (pQ H) (fun η h i c j hj => kS_eq H η h i c j hj) (fun h i j hn => Head.ds_far _ hn) j l

/-- The accumulated value gradients. -/
theorem kV_eq (j : Fin 256) (l : Fin 128) :
    accR (part (kP H 0) (fun i => pC H (row 0 i))) (part (kP H 1) (fun i => pC H (row 1 i))) j l = (H (hOf l)).dv j (eOf l) :=
  acc_eq (kP H) (fun h => (H h).P) (pC H) (fun η h i c j hj => kP_eq H η h i c j hj)
    (fun h i j hn => by show (if near i j then _ else (0:ℝ)) = 0; rw [if_neg hn]) j l

end Heads
end Attn
-- ==== Proof.Attn.Words.lean ====
/-
  What a step of the kernel reads: the loads of a step's blocks, the windows of the staged copies and the accumulators,
  read at an index as real numbers of the pair of heads the step works on.
-/
module

public import proofs.«01_k».proof.Proof.Attn.Bridge
public import proofs.«01_k».proof.Proof.Gen.KernelIdeal.Value
public import Idealize.ShloMosaic.Lib.Pipeline.ValueKit.Tiles

@[expose] public section

set_option maxRecDepth 16384

noncomputable section

namespace Attn

open Idealize.ShloMosaic Idealize.ShloMosaic.ValueIdx
open Cert.KernelIdeal Cert.KernelIdeal.Gen

/-- The position of a row of a block. -/
def posn (a b : Fin 16) : Fin 256 := ⟨16 * a.val + b.val, by omega⟩

/-- A load of a whole buffer's contents, read at an index. -/
theorem load_at {S : Shape} {e : EltTy} (M : Memref sig .tc .vmem S e) (h : M.IsWhole) (x : Vec Ideal S e) (off size : Fin S.rank → ℕ) (inb)
    (j : (Rect.unit (s := S) off size inb).shape.Idx) (i : S.Idx) (hi : ∀ a, (i a : ℕ) = off a + j a) :
    View.readAt (Elt Ideal) M.view (Rect.unit (s := S) off size inb).toLoadRect (h.unread x) j = x i := by
  rw [View.readAt_eq_ld, h.read_unread]
  exact View.ld_unit_apply_of x off size inb j i hi

/-- The rows of a whole block of keys or values. -/
theorem rows_apply (v : Vec Ideal S1x16x1x16x128 .bf16) (h h') (i : Fin 256) (l : Fin 128) :
    shapeCast S256x128 (shapeCast S16x16x128 v h) h' (ix2 i l) = v (ix5 0 (hi16 i) 0 (lo16' i) l) := by
  refine (shapeCast_apply _ _ (ix2 i l) (ix3 (hi16 i) (lo16' i) l) ?_).trans (shapeCast_apply _ _ _ (ix5 0 (hi16 i) 0 (lo16' i) l) ?_)
  · rw [Shape.rowMajor_val_three, Shape.rowMajor_val_two]
    show ((i.val / 16) * 16 + i.val % 16) * 128 + l.val = i.val * 128 + l.val; omega
  · rw [Shape.rowMajor_val_three, Shape.rowMajor_val_five]
    show ((((0 * 16 + i.val / 16) * 1 + 0) * 16 + i.val % 16) * 128 + l.val) = ((i.val / 16) * 16 + i.val % 16) * 128 + l.val; omega

theorem posn_hi16 (i : Fin 256) : posn (hi16 i) (lo16' i) = i := Fin.ext (by show 16 * (i.val / 16) + i.val % 16 = i.val; omega)

theorem ofBits16_zero : Ideal.ofBits .bf16 0x0000#16 = (0 : EReal) := by simp [Ideal.ofBits, Ideal.ieee]
theorem ofBits32_zero : Ideal.ofBits .f32 0x00000000#32 = (0 : EReal) := by simp [Ideal.ofBits, Ideal.ieee]

/-- The first and second head's staged rows: the block's rows on the head's lanes, zero elsewhere. -/
theorem stage0 (X : Fin 256 → Fin 128 → ℝ) (r z : FVec Ideal S256x128 .bf16) (hs) (hr : ∀ i l, r (ix2 i l) = (X i l : EReal))
    (hz : ∀ i, z i = (0 : EReal)) (c : Fin 256) (l : Fin 128) :
    shapeCast S1x256x128 (select k0_pay40 r z) hs (ix3 0 c l) = ((if hdOf 0 l then X c l else 0 : ℝ) : EReal) := by
  refine (shapeCast_apply _ _ (ix3 0 c l) (ix2 c l) ?_).trans ?_
  · rw [Shape.rowMajor_val_three, Shape.rowMajor_val_two]
    show c.val * 128 + l.val = ((0 * 256 + c.val) * 128 + l.val); omega
  · show Scalar.select (k0_pay40 (ix2 c l)) (r (ix2 c l)) (z (ix2 c l)) = _
    rw [mask256_0_apply, hr, hz]
    split_ifs <;> rfl

theorem stage1 (X : Fin 256 → Fin 128 → ℝ) (r z : FVec Ideal S256x128 .bf16) (hs) (hr : ∀ i l, r (ix2 i l) = (X i l : EReal))
    (hz : ∀ i, z i = (0 : EReal)) (c : Fin 256) (l : Fin 128) :
    shapeCast S1x256x128 (select k0_pay23 r z) hs (ix3 0 c l) = ((if hdOf 1 l then X c l else 0 : ℝ) : EReal) := by
  refine (shapeCast_apply _ _ (ix3 0 c l) (ix2 c l) ?_).trans ?_
  · rw [Shape.rowMajor_val_three, Shape.rowMajor_val_two]
    show c.val * 128 + l.val = ((0 * 256 + c.val) * 128 + l.val); omega
  · show Scalar.select (k0_pay23 (ix2 c l)) (r (ix2 c l)) (z (ix2 c l)) = _
    rw [mask256_1_apply, hr, hz]
    split_ifs <;> rfl

/-- A window of a staged copy. -/
theorem window_apply (M : Memref sig .tc .vmem S2x384x128 .bf16) (L : List (View.Piece (Elt Ideal) S2x384x128 .bf16))
    (X : Fin 256 → Fin 128 → ℝ) (hL : ∀ h r l, View.canon L (ix3 h r l) = (stR X h r l : EReal))
    (η h : Fin 2) (off : Fin 3 → ℕ) (inb) (e0 : off 0 = h.val) (e1 : off 1 = 128 * η.val) (e2 : off 2 = 0) (c : Fin 256) (l : Fin 128) :
    M.view.readCov L (Rect.unit (s := S2x384x128) off S1x256x128.size inb).toLoadRect (ix3 0 c l) = (win X η h c l : EReal) := by
  rw [View.readCov_eq_canon']
  have hc := c.isLt
  have hη := η.isLt
  have e : (Rect.unit (s := S2x384x128) off S1x256x128.size inb).toLoadRect.idx (ix3 0 c l) = ix3 h (⟨c.val + 128 * η.val, by omega⟩ : Fin 384) l := by
    funext a
    refine Fin.ext ?_
    match a with
    | ⟨0, _⟩ => show off 0 + 1 * 0 = h.val; omega
    | ⟨1, _⟩ => show off 1 + 1 * c.val = c.val + 128 * η.val; omega
    | ⟨2, _⟩ => show off 2 + 1 * l.val = l.val; omega
  show View.canon L ((Rect.unit (s := S2x384x128) off S1x256x128.size inb).toLoadRect.idx (ix3 0 c l)) = _
  rw [e]
  exact hL _ _ _

/-- A load of the accumulator's rows. -/
theorem acc_load (M : Memref sig .tc .vmem S384x128 .f32) (L : List (View.Piece (Elt Ideal) S384x128 .f32))
    (off : Fin 2 → ℕ) (inb) (n : ℕ) (e0 : off 0 = n) (e1 : off 1 = 0) (hn : n ≤ 128) (c : Fin 256) (l : Fin 128) :
    M.view.readCov L (Rect.unit (s := S384x128) off S256x128.size inb).toLoadRect (ix2 c l) = View.canon L (ix2 (⟨n + c.val, by omega⟩ : Fin 384) l) := by
  rw [View.readCov_eq_canon']
  have hc := c.isLt
  refine congrArg (View.canon L) (funext fun a => Fin.ext ?_)
  match a with
  | ⟨0, _⟩ => show off 0 + 1 * c.val = n + c.val; omega
  | ⟨1, _⟩ => show off 1 + 1 * l.val = l.val; omega

/-- The rows of an accumulator are kept by a cast to their own shape. -/
theorem self_cast {φ : FTy} (v : FVec Ideal S256x128 φ) (h) (i : S256x128.Idx) : shapeCast S256x128 v h i = v i :=
  shapeCast_apply _ _ i i rfl

/-- The half-block's queries, cotangents, outputs and log-sums, loaded from the blocks. -/
theorem load_q (X : Fin 256 → Fin 128 → ℝ) (M : Memref sig .tc .vmem S1x16x1x16x128 .bf16) (hM : M.IsWhole) (x : Vec Ideal S1x16x1x16x128 .bf16)
    (hx : ∀ a b l, x (ix5 0 a 0 b l) = (X (posn a b) l : EReal)) (η : Fin 2) (off : Fin 5 → ℕ) (inb)
    (e0 : off 0 = 0) (e1 : off 1 = 8 * η.val) (e2 : off 2 = 0) (e3 : off 3 = 0) (e4 : off 4 = 0) (i l : Fin 128) :
    k0_pay41 (View.readAt (Elt Ideal) M.view (Rect.unit (s := S1x16x1x16x128) off S1x8x1x16x128.size inb).toLoadRect (hM.unread x)) (ix2 i l)
      = (X (row η i) l : EReal) := by
  have hi := i.isLt
  have hη := η.isLt
  rw [pay41_apply]
  refine (load_at M hM x off _ inb (ix5 0 (hi8 i) 0 (lo16 i) l) (ix5 0 (⟨8 * η.val + i.val / 16, by omega⟩ : Fin 16) 0 (lo16 i) l) (fun a => ?_)).trans ((hx _ _ _).trans ?_)
  · match a with
    | ⟨0, _⟩ => show 0 = off 0 + 0; omega
    | ⟨1, _⟩ => show 8 * η.val + i.val / 16 = off 1 + i.val / 16; omega
    | ⟨2, _⟩ => show 0 = off 2 + 0; omega
    | ⟨3, _⟩ => show i.val % 16 = off 3 + i.val % 16; omega
    | ⟨4, _⟩ => show l.val = off 4 + l.val; omega
  · refine congrArg (fun p => ((X p l : ℝ) : EReal)) (Fin.ext ?_)
    show 16 * (8 * η.val + i.val / 16) + i.val % 16 = 128 * η.val + i.val; omega

theorem load_r (X : Fin 256 → Fin 128 → ℝ) (M : Memref sig .tc .vmem S16x1x16x128 .f32) (hM : M.IsWhole) (x : Vec Ideal S16x1x16x128 .f32)
    (hx : ∀ a b l, x (ix4 a 0 b l) = (X (posn a b) l : EReal)) (η : Fin 2) (off : Fin 4 → ℕ) (inb)
    (e0 : off 0 = 8 * η.val) (e1 : off 1 = 0) (e2 : off 2 = 0) (e3 : off 3 = 0) (i l : Fin 128) :
    k0_pay43 (View.readAt (Elt Ideal) M.view (Rect.unit (s := S16x1x16x128) off S8x1x16x128.size inb).toLoadRect (hM.unread x)) (ix2 i l)
      = (X (row η i) l : EReal) := by
  have hi := i.isLt
  have hη := η.isLt
  rw [pay43_apply]
  refine (load_at M hM x off _ inb (ix4 (hi8 i) 0 (lo16 i) l) (ix4 (⟨8 * η.val + i.val / 16, by omega⟩ : Fin 16) 0 (lo16 i) l) (fun a => ?_)).trans ((hx _ _ _).trans ?_)
  · match a with
    | ⟨0, _⟩ => show 8 * η.val + i.val / 16 = off 0 + i.val / 16; omega
    | ⟨1, _⟩ => show 0 = off 1 + 0; omega
    | ⟨2, _⟩ => show i.val % 16 = off 2 + i.val % 16; omega
    | ⟨3, _⟩ => show l.val = off 3 + l.val; omega
  · refine congrArg (fun p => ((X p l : ℝ) : EReal)) (Fin.ext ?_)
    show 16 * (8 * η.val + i.val / 16) + i.val % 16 = 128 * η.val + i.val; omega

/-- The rows of a block of keys or values, loaded whole. -/
theorem load_k (X : Fin 256 → Fin 128 → ℝ) (M : Memref sig .tc .vmem S1x16x1x16x128 .bf16) (hM : M.IsWhole) (x : Vec Ideal S1x16x1x16x128 .bf16)
    (hx : ∀ a b l, x (ix5 0 a 0 b l) = (X (posn a b) l : EReal)) (off : Fin 5 → ℕ) (inb)
    (e0 : off 0 = 0) (e1 : off 1 = 0) (e2 : off 2 = 0) (e3 : off 3 = 0) (e4 : off 4 = 0) (h h') (i : Fin 256) (l : Fin 128) :
    shapeCast S256x128 (shapeCast S16x16x128
      (View.readAt (Elt Ideal) M.view (Rect.unit (s := S1x16x1x16x128) off S1x16x1x16x128.size inb).toLoadRect (hM.unread x) : Vec Ideal S1x16x1x16x128 .bf16) h) h' (ix2 i l)
      = (X i l : EReal) := by
  rw [rows_apply]
  refine (load_at M hM x off _ inb (ix5 0 (hi16 i) 0 (lo16' i) l) (ix5 0 (hi16 i) 0 (lo16' i) l) (fun a => ?_)).trans ((hx _ _ _).trans ?_)
  · match a with
    | ⟨0, _⟩ => show 0 = off 0 + 0; omega
    | ⟨1, _⟩ => show i.val / 16 = off 1 + i.val / 16; omega
    | ⟨2, _⟩ => show 0 = off 2 + 0; omega
    | ⟨3, _⟩ => show i.val % 16 = off 3 + i.val % 16; omega
    | ⟨4, _⟩ => show l.val = off 4 + l.val; omega
  · rw [posn_hi16]

/-- A bias scratch that holds the two half-blocks' biases in its second and third entry. -/
def BiasAt (H : Fin 2 → Head) (x : Vec Ideal S4x2x128x256 .f32) : Prop :=
  ∀ (η h : Fin 2) (i : Fin 128) (c : Fin 256),
    x (ix4 (⟨η.val + 1, by omega⟩ : Fin 4) h i c) = if okw η i c then ((bw H h i c : ℝ) : EReal) else ⊥

/-- A bias read from a scratch that holds them. -/
theorem bias_read (H : Fin 2 → Head) (M : Memref sig .tc .vmem S4x2x128x256 .f32) (hM : M.IsWhole) (x : Vec Ideal S4x2x128x256 .f32)
    (hx : BiasAt H x) (η h : Fin 2) (off : Fin 4 → ℕ) (inb)
    (e0 : off 0 = η.val + 1) (e1 : off 1 = h.val) (e2 : off 2 = 0) (e3 : off 3 = 0) (i : Fin 128) (c : Fin 256) :
    View.readAt (Elt Ideal) M.view (Rect.unit (s := S4x2x128x256) off S1x1x128x256.size inb).toLoadRect (hM.unread x) (ix4 0 0 i c)
      = if okw η i c then ((bw H h i c : ℝ) : EReal) else ⊥ := by
  have hη := η.isLt
  refine (load_at M hM x off _ inb (ix4 0 0 i c) (ix4 (⟨η.val + 1, by omega⟩ : Fin 4) h i c) (fun a => ?_)).trans (hx η h i c)
  match a with
  | ⟨0, _⟩ => show η.val + 1 = off 0 + 0; omega
  | ⟨1, _⟩ => show h.val = off 1 + 0; omega
  | ⟨2, _⟩ => show i.val = off 2 + i.val; omega
  | ⟨3, _⟩ => show c.val = off 3 + c.val; omega

/-- A bias read back from the pieces just stored. -/
theorem bias_back (H : Fin 2 → Head) (M : Memref sig .tc .vmem S4x2x128x256 .f32) (L : List (View.Piece (Elt Ideal) S4x2x128x256 .f32))
    (hL : BiasAt H (View.canon L)) (η h : Fin 2) (off : Fin 4 → ℕ) (inb)
    (e0 : off 0 = η.val + 1) (e1 : off 1 = h.val) (e2 : off 2 = 0) (e3 : off 3 = 0) (i : Fin 128) (c : Fin 256) :
    M.view.readCov L (Rect.unit (s := S4x2x128x256) off S1x1x128x256.size inb).toLoadRect (ix4 0 0 i c)
      = if okw η i c then ((bw H h i c : ℝ) : EReal) else ⊥ := by
  rw [View.readCov_eq_canon']
  have hη := η.isLt
  have e : (Rect.unit (s := S4x2x128x256) off S1x1x128x256.size inb).toLoadRect.idx (ix4 0 0 i c) = ix4 (⟨η.val + 1, by omega⟩ : Fin 4) h i c := by
    funext a
    refine Fin.ext ?_
    match a with
    | ⟨0, _⟩ => show off 0 + 1 * 0 = η.val + 1; omega
    | ⟨1, _⟩ => show off 1 + 1 * 0 = h.val; omega
    | ⟨2, _⟩ => show off 2 + 1 * i.val = i.val; omega
    | ⟨3, _⟩ => show off 3 + 1 * c.val = c.val; omega
  show View.canon L ((Rect.unit (s := S4x2x128x256) off S1x1x128x256.size inb).toLoadRect.idx (ix4 0 0 i c)) = _
  rw [e]
  exact hL _ _ _ _

/-- The first sum into a cleared accumulator. -/
theorem acc_start (M : Memref sig .tc .vmem S384x128 .f32) (off : Fin 2 → ℕ) (inb) (e0 : off 0 = 0) (e1 : off 1 = 0)
    (z : Vec Ideal S384x128 .f32) (i3) (hz : ∀ x, z x = (0 : EReal)) (g : FVec Ideal S256x128 .f32) (x : EReal) {c : Fin 256} {l : Fin 128}
    (hg : g (ix2 c l) = x) :
    addf (M.view.readCov [⟨Rect.unit (s := S384x128) ![0, 0] S384x128.size i3, z⟩]
      (Rect.unit (s := S384x128) off S256x128.size inb).toLoadRect : FVec Ideal S256x128 .f32) g (ix2 c l) = x := by
  refine (congrArg₂ (fun x y : EReal => x + y) ((acc_load M _ off inb 0 e0 e1 (by decide) c l).trans ((canon_in _ _ _ _ _ _
    (ix2 (⟨0 + c.val, by omega⟩ : Fin 384) l) (fun a => ?_)).trans (hz _))) hg).trans (zero_add _)
  match a with
  | ⟨0, _⟩ => show 0 + c.val = 0 + (0 + c.val); omega
  | ⟨1, _⟩ => show l.val = 0 + l.val; omega

/-- The second sum into an accumulator. -/
theorem acc_next (M : Memref sig .tc .vmem S384x128 .f32) (off : Fin 2 → ℕ) (inb) (e0 : off 0 = 128) (e1 : off 1 = 0)
    (a0 : Vec Ideal S256x128 .f32) (z : Vec Ideal S384x128 .f32) (i2 i3) (hz : ∀ x, z x = (0 : EReal)) (s0 : Fin 256 → Fin 128 → ℝ)
    (h0 : ∀ c l, a0 (ix2 c l) = (s0 c l : EReal)) (g : FVec Ideal S256x128 .f32) (x : ℝ) {c : Fin 256} {l : Fin 128}
    (hg : g (ix2 c l) = (x : EReal)) :
    addf (M.view.readCov [⟨Rect.unit (s := S384x128) ![0, 0] S256x128.size i2, a0⟩, ⟨Rect.unit (s := S384x128) ![0, 0] S384x128.size i3, z⟩]
      (Rect.unit (s := S384x128) off S256x128.size inb).toLoadRect : FVec Ideal S256x128 .f32) g (ix2 c l)
      = (((if hc : c.val < 128 then s0 ⟨c.val + 128, by omega⟩ l else 0) + x : ℝ) : EReal) :=
  (congrArg₂ (fun x y : EReal => x + y) ((acc_load M _ off inb 128 e0 e1 (by decide) c l).trans
    (acc_first_apply s0 a0 z i2 i3 hz h0 c l)) hg).trans (EReal.coe_add _ _).symm

/-- A block's gradients: of the queries, the keys and the values. -/
def gOut (H : Fin 2 → Head) (w : Fin 3) (p : Fin 256) (l : Fin 128) : ℝ :=
  if w = 0 then (H (hOf l)).dq p (eOf l) else if w = 1 then (H (hOf l)).dk p (eOf l) else (H (hOf l)).dv p (eOf l)

/-- The rows of a block, cast to the block's own shape. -/
theorem out16_cast {φ : FTy} (v : FVec Ideal S256x128 φ) (h h') (a b : Fin 16) (l : Fin 128) :
    shapeCast S1x16x1x16x128 (shapeCast S16x16x128 v h) h' (ix5 0 a 0 b l) = v (ix2 (posn a b) l) := by
  refine (shapeCast_apply _ _ (ix5 0 a 0 b l) (ix3 a b l) ?_).trans (shapeCast_apply _ _ _ (ix2 (posn a b) l) ?_)
  · rw [Shape.rowMajor_val_three, Shape.rowMajor_val_five]
    show (a.val * 16 + b.val) * 128 + l.val = ((((0 * 16 + a.val) * 1 + 0) * 16 + b.val) * 128 + l.val); omega
  · rw [Shape.rowMajor_val_three, Shape.rowMajor_val_two]
    show (16 * a.val + b.val) * 128 + l.val = (a.val * 16 + b.val) * 128 + l.val; omega

/-- The rows of half a block, cast to its own shape. -/
theorem out8_cast {φ : FTy} (v : FVec Ideal S128x128 φ) (h h') (a : Fin 8) (b : Fin 16) (l : Fin 128) :
    shapeCast S1x8x1x16x128 (shapeCast S8x16x128 v h) h' (ix5 0 a 0 b l) = v (ix2 (⟨16 * a.val + b.val, by omega⟩ : Fin 128) l) := by
  refine (shapeCast_apply _ _ (ix5 0 a 0 b l) (ix3 a b l) ?_).trans (shapeCast_apply _ _ _ (ix2 (⟨16 * a.val + b.val, by omega⟩ : Fin 128) l) ?_)
  · rw [Shape.rowMajor_val_three, Shape.rowMajor_val_five]
    show (a.val * 16 + b.val) * 128 + l.val = ((((0 * 8 + a.val) * 1 + 0) * 16 + b.val) * 128 + l.val); omega
  · rw [Shape.rowMajor_val_three, Shape.rowMajor_val_two]
    show (16 * a.val + b.val) * 128 + l.val = (a.val * 16 + b.val) * 128 + l.val; omega

/-- The four stores of a step cover its block. -/
theorem out_apply (H : Fin 2 → Head) (i0 i1 i2 i3) (w3 w2 : Vec Ideal S1x16x1x16x128 .bf16) (w1 w0 : Vec Ideal S1x8x1x16x128 .bf16)
    (h3 : ∀ a b l, w3 (ix5 0 a 0 b l) = ((H (hOf l)).dv (posn a b) (eOf l) : EReal))
    (h2 : ∀ a b l, w2 (ix5 0 a 0 b l) = ((H (hOf l)).dk (posn a b) (eOf l) : EReal))
    (h1 : ∀ (a : Fin 8) (b : Fin 16) l, w1 (ix5 0 a 0 b l) = ((H (hOf l)).dq (row 1 ⟨16 * a.val + b.val, by omega⟩) (eOf l) : EReal))
    (h0 : ∀ (a : Fin 8) (b : Fin 16) l, w0 (ix5 0 a 0 b l) = ((H (hOf l)).dq (row 0 ⟨16 * a.val + b.val, by omega⟩) (eOf l) : EReal))
    (w : Fin 3) (a b : Fin 16) (l : Fin 128) :
    View.canon (Val := Elt Ideal) (s := S3x16x1x16x128) (e := .bf16)
      [⟨Rect.unit ![2, 0, 0, 0, 0] S1x16x1x16x128.size i0, w3⟩, ⟨Rect.unit ![1, 0, 0, 0, 0] S1x16x1x16x128.size i1, w2⟩,
        ⟨Rect.unit ![0, 8, 0, 0, 0] S1x8x1x16x128.size i2, w1⟩, ⟨Rect.unit ![0, 0, 0, 0, 0] S1x8x1x16x128.size i3, w0⟩]
      (ix5 w a 0 b l) = (gOut H w (posn a b) l : EReal) := by
  have ha := a.isLt
  have coord : ∀ (n m : ℕ) {k : ℕ} (a' : Fin k) (hn : w.val = n) (hm : a.val = m + a'.val) (d : Fin 5),
      ((ix5 w a (0 : Fin 1) b l : S3x16x1x16x128.Idx) d : ℕ) = (![n, m, 0, 0, 0] : Fin 5 → ℕ) d + ((ix5 (0 : Fin 1) a' (0 : Fin 1) b l) d : ℕ) := by
    intro n m k a' hn hm d
    match d with
    | ⟨0, _⟩ => show w.val = n + 0; omega
    | ⟨1, _⟩ => show a.val = m + a'.val; omega
    | ⟨2, _⟩ => show 0 = 0 + 0; omega
    | ⟨3, _⟩ => show b.val = 0 + b.val; omega
    | ⟨4, _⟩ => show l.val = 0 + l.val; omega
  unfold gOut
  match w, coord with
  | ⟨2, _⟩, coord =>
    refine (canon_in _ _ _ _ _ _ (ix5 0 a 0 b l) (coord 2 0 a rfl (by omega))).trans ((h3 a b l).trans ?_)
    rfl
  | ⟨1, _⟩, coord =>
    rw [canon_out _ _ _ _ _ _ (0 : Fin 5) (Or.inl (by show 1 < 2; decide))]
    refine (canon_in _ _ _ _ _ _ (ix5 0 a 0 b l) (coord 1 0 a rfl (by omega))).trans ((h2 a b l).trans ?_)
    rfl
  | ⟨0, _⟩, coord =>
    rw [canon_out _ _ _ _ _ _ (0 : Fin 5) (Or.inl (by show 0 < 2; decide)), canon_out _ _ _ _ _ _ (0 : Fin 5) (Or.inl (by show 0 < 1; decide))]
    by_cases h8 : a.val < 8
    · rw [canon_out _ _ _ _ _ _ (1 : Fin 5) (Or.inl (by show a.val < 8; exact h8))]
      refine (canon_in _ _ _ _ _ _ (ix5 0 (⟨a.val, h8⟩ : Fin 8) 0 b l) (coord 0 0 ⟨a.val, h8⟩ rfl (by show a.val = 0 + a.val; omega))).trans ((h0 _ b l).trans ?_)
      refine congrArg (fun p => (((H (hOf l)).dq p (eOf l) : ℝ) : EReal)) (Fin.ext ?_)
      show 128 * 0 + (16 * a.val + b.val) = 16 * a.val + b.val; omega
    · refine (canon_in _ _ _ _ _ _ (ix5 0 (⟨a.val - 8, by omega⟩ : Fin 8) 0 b l) (coord 0 8 ⟨a.val - 8, by omega⟩ rfl (by show a.val = 8 + (a.val - 8); omega))).trans ((h1 _ b l).trans ?_)
      refine congrArg (fun p => (((H (hOf l)).dq p (eOf l) : ℝ) : EReal)) (Fin.ext ?_)
      show 128 * 1 + (16 * (a.val - 8) + b.val) = 16 * a.val + b.val; omega

end Attn
-- ==== Proof.Attn.Region.lean ====
/-
  The blocks a grid point is given, read at an index: the queries, keys, values and cotangents of the two heads of one residue class,
  their combined outputs and log-sums, and the slopes of the two heads.
-/
module

public import proofs.«01_k».proof.Proof.Attn.HostB
public import proofs.«01_k».proof.Proof.Attn.Words

@[expose] public section

set_option maxRecDepth 16384

noncomputable section

namespace Attn

open Idealize.ShloMosaic Idealize.ShloMosaic.ValueIdx Idealize.ShloMosaic.StableHlo Idealize.ShloMosaic.TcCoe
open Cert.KernelIdeal Cert.KernelIdeal.Gen

/-- The penalties per step of a residue class, as float words. -/
def slopeBits16 : Fin 16 → BitVec 32 := ![0x3EB504F3#32, 0x3EA14518#32, 0x3E8FACD6#32, 0x3E800000#32, 0x3E6411F0#32,
  0x3E4B2FF5#32, 0x3E3504F3#32, 0x3E214518#32, 0x3E0FACD6#32, 0x3E000000#32, 0x3DE411F0#32, 0x3DCB2FF5#32, 0x3DB504F3#32,
  0x3DA14518#32, 0x3D8FACD6#32, 0x3D800000#32]

theorem slope16_coe (h : Fin 16) : Ideal.ofBits .f32 (slopeBits16 h) = ((16 * slope h : ℝ) : EReal) := by
  have e : Ideal.ofBits .f32 (slopeBits16 h) = (((Ideal.ofBits .f32 (slopeBits16 h)).toReal : ℝ) : EReal) := by
    fin_cases h <;> simp [slopeBits16, Ideal.ofBits, Ideal.ieee, -EReal.coe_mul, -EReal.coe_neg]
  rw [e]
  refine congrArg (fun z : ℝ => (z : EReal)) ?_
  unfold slope
  fin_cases h <;> simp [slopeBits16, slopeBits, Ideal.ofBits, Ideal.ieee, -EReal.coe_mul, -EReal.coe_neg] <;> norm_num

/-- The two heads of a pair. -/
def headAt (p : Fin 8) (h : Fin 2) : Fin 16 := ⟨2 * p.val + h.val, by omega⟩
/-- A lane of a pair's block, in the row. -/
def laneIn (p : Fin 8) (l : Fin 128) : Fin 1024 := ⟨128 * p.val + l.val, by omega⟩
/-- The two heads of a pair in a residue class. -/
def pair (A : Args) (r : Fin 16) (p : Fin 8) (h : Fin 2) : Head := hd A r (headAt p h)

set_option maxRecDepth 100000 in
theorem lit0_at : ∀ (p : Fin 8) (h : Fin 2) (c : Fin 256), lit0 ⟨(p.val * 2 + h.val) * 256 + c.val, by omega⟩ = slopeBits16 (headAt p h) := by
  decide +kernel

theorem lane_in (p : Fin 8) (l : Fin 128) : lane (headAt p (hOf l)) (eOf l) = laneIn p l := by
  refine Fin.ext ?_
  show (2 * p.val + l.val / 64) * 64 + l.val % 64 = 128 * p.val + l.val
  omega
theorem headOf_in (p : Fin 8) (l : Fin 128) : headOf (laneIn p l) = headAt p (hOf l) := by
  refine Fin.ext ?_
  show (128 * p.val + l.val) / 64 = 2 * p.val + l.val / 64
  omega
theorem laneOf_in (p : Fin 8) (l : Fin 128) : laneOf (laneIn p l) = eOf l := by
  refine Fin.ext ?_
  show (128 * p.val + l.val) % 64 = l.val % 64
  omega
theorem rowHi_posn (a b : Fin 16) : rowHi (posn a b) = a := by
  refine Fin.ext ?_
  show (16 * a.val + b.val) / 16 = a.val
  omega
theorem rowLo_posn (a b : Fin 16) : rowLo (posn a b) = b := by
  refine Fin.ext ?_
  show (16 * a.val + b.val) % 16 = b.val
  omega
theorem posOf_eq (a b : Fin 16) : posOf a b = posn a b := by
  refine Fin.ext ?_
  show a.val * 16 + b.val = 16 * a.val + b.val
  omega

/-! ### The buffers at the kernel call -/

theorem after_three (a b d : List (HloOp τ sig (Elt Ideal))) (v : Valuation τ sig (Elt Ideal)) :
    StableHlo.after (List.flatten [a, b, d]) v = StableHlo.after d (StableHlo.after b (StableHlo.after a v)) := by
  rw [List.flatten_cons, List.flatten_cons, List.flatten_cons, List.flatten_nil, List.append_nil, after_append, after_append]

section
variable (m : (ℓ : Loc nD τ sig) → Buf (Elt Ideal) ℓ) (c : Dev nD) (A : Args)

theorem V_eq (b : Ref sig .tc) : V m c b = hv3 (fun b => m (c, b)) (Proc.devRef .tc b) :=
  congrFun (after_three hostOps0 hostOps0_1 hostOps0_2 (fun b => m (c, b))) (Proc.devRef .tc b)

/-- The launch's arguments are the finite arrays. -/
structure Holds : Prop where
  h0 : m ((c : Thread nD τ).loc main_arg0) = x0 A
  h1 : m ((c : Thread nD τ).loc main_arg1) = x1 A
  h2 : m ((c : Thread nD τ).loc main_arg2) = x2 A
  h3 : m ((c : Thread nD τ).loc main_arg3) = x3 A
  h4 : m ((c : Thread nD τ).loc main_arg4) = x4 A
  h5 : m ((c : Thread nD τ).loc main_arg5) = x5 A

variable (hA : Holds m c A)
include hA

/-- The combined outputs the call is given. -/
theorem V_out (a r n : Fin 16) (y : Fin 1024) : V m c main_v118 (ix4 a r n y)
    = (((hd A r (headOf y)).ao (posOf a n) (laneOf y) : ℝ) : EReal) := by
  have e : V m c main_v118 = toRows (gout (Cert.ReferenceIdeal.Read.val_main_v30 (F := Ideal) (x2 A))
      (Cert.ReferenceIdeal.Read.val_main_v34 (F := Ideal) (x4 A)) (Cert.ReferenceIdeal.Read.val_main_v90 (F := Ideal) (x0 A))
      (Cert.ReferenceIdeal.Read.val_main_v20 (F := Ideal) (x1 A)) (Cert.ReferenceIdeal.Read.val_main_v23 (F := Ideal) (x3 A))
      (Cert.ReferenceIdeal.Read.val_main_v95 (F := Ideal) (x0 A))) := by
    rw [← hA.h0, ← hA.h1, ← hA.h2, ← hA.h3, ← hA.h4]
    exact (V_eq m c main_v118).trans (hv3_v118 _)
  refine (congrFun e _).trans ((toRows_apply _ a r n y).trans ?_)
  exact gout_apply (hd A) _ _ _ _ _ _ (fun r h i => v30_eq A (ix3 r h i)) (fun r h i => v34_eq A (ix3 r h i)) (fun r h i => v90_eq A (ix3 r h i))
    (fun r h i e => v20_eq A (ix4 r h i e)) (fun r h i e => v23_eq A (ix4 r h i e)) (fun r h i e => v95_eq A (ix4 r h i e)) r (headOf y) (posOf a n) (laneOf y)

/-- The log-sums the call is given. -/
theorem V_lse (a r n : Fin 16) (y : Fin 1024) : V m c main_v121 (ix4 a r n y)
    = (((hd A r (headOf y)).LT (posOf a n) : ℝ) : EReal) := by
  have e : V m c main_v121 = toRows (lanes (gtot (Cert.ReferenceIdeal.Read.val_main_v30 (F := Ideal) (x2 A))
      (Cert.ReferenceIdeal.Read.val_main_v34 (F := Ideal) (x4 A)) (Cert.ReferenceIdeal.Read.val_main_v90 (F := Ideal) (x0 A)))) := by
    rw [← hA.h0, ← hA.h2, ← hA.h4]
    exact (V_eq m c main_v121).trans (hv3_v121 _)
  refine (congrFun e _).trans ((toRows_apply _ a r n y).trans ((lanes_apply _ _ _ _ _).trans ?_))
  exact gtot_apply (hd A) _ _ _ (fun r h i => v30_eq A (ix3 r h i)) (fun r h i => v34_eq A (ix3 r h i)) (fun r h i => v90_eq A (ix3 r h i))
    r (headOf y) (posOf a n)

omit hA in
/-- The slopes the call is given. -/
theorem V_slope (p : Fin 8) (h : Fin 2) (j : Fin 256) : V m c main_cst (ix4 p h (0 : Fin 1) j) = ((16 * slope (headAt p h) : ℝ) : EReal) := by
  refine (congrFun ((V_eq m c main_cst).trans (hv3_cst _)) (ix4 p h (0 : Fin 1) j)).trans ?_
  refine Eq.trans (congrArg (Ideal.ofBits .f32) ?_) (slope16_coe (headAt p h))
  refine Eq.trans (congrArg lit0 (Fin.ext ?_)) (lit0_at p h j)
  rw [Shape.rowMajor_val_four]
  show ((p.val * 2 + h.val) * 1 + 0) * 256 + j.val = (p.val * 2 + h.val) * 256 + j.val
  omega

/-! ### The blocks of a grid point -/

omit hA in
theorem place0 : ∀ t : Fin cfg0.N, win0_0.index t (0 : Fin 5) = 0 ∧ win0_0.index t (1 : Fin 5) = 0 ∧ win0_0.index t (2 : Fin 5) = t.val % 16
    ∧ win0_0.index t (3 : Fin 5) = 0 ∧ win0_0.index t (4 : Fin 5) = t.val / 16 := by decide +kernel
omit hA in
theorem place1 : ∀ t : Fin cfg0.N, win0_1.index t (0 : Fin 5) = 1 ∧ win0_1.index t (1 : Fin 5) = 0 ∧ win0_1.index t (2 : Fin 5) = t.val % 16
    ∧ win0_1.index t (3 : Fin 5) = 0 ∧ win0_1.index t (4 : Fin 5) = t.val / 16 := by decide +kernel
omit hA in
theorem place2 : ∀ t : Fin cfg0.N, win0_2.index t (0 : Fin 5) = 2 ∧ win0_2.index t (1 : Fin 5) = 0 ∧ win0_2.index t (2 : Fin 5) = t.val % 16
    ∧ win0_2.index t (3 : Fin 5) = 0 ∧ win0_2.index t (4 : Fin 5) = t.val / 16 := by decide +kernel
omit hA in
theorem place3 : ∀ t : Fin cfg0.N, win0_3.index t (0 : Fin 4) = 0 ∧ win0_3.index t (1 : Fin 4) = t.val % 16
    ∧ win0_3.index t (2 : Fin 4) = 0 ∧ win0_3.index t (3 : Fin 4) = t.val / 16 := by decide +kernel
omit hA in
theorem place4 : ∀ t : Fin cfg0.N, win0_4.index t (0 : Fin 4) = 0 ∧ win0_4.index t (1 : Fin 4) = t.val % 16
    ∧ win0_4.index t (2 : Fin 4) = 0 ∧ win0_4.index t (3 : Fin 4) = t.val / 16 := by decide +kernel
omit hA in
theorem place5 : ∀ t : Fin cfg0.N, win0_5.index t (0 : Fin 4) = 0 ∧ win0_5.index t (1 : Fin 4) = t.val % 16
    ∧ win0_5.index t (2 : Fin 4) = 0 ∧ win0_5.index t (3 : Fin 4) = t.val / 16 := by decide +kernel
omit hA in
theorem place6 : ∀ t : Fin cfg0.N, win0_6.index t (0 : Fin 4) = t.val / 16 ∧ win0_6.index t (1 : Fin 4) = 0
    ∧ win0_6.index t (2 : Fin 4) = 0 ∧ win0_6.index t (3 : Fin 4) = 0 := by decide +kernel

variable (t : Fin cfg0.N) (p : Fin 8) (r : Fin 16) (ht : t.val = 16 * p.val + r.val)
include ht

theorem block0 (a b : Fin 16) (l : Fin 128) : iblk m c 0 t (ix5 (0 : Fin 1) a (0 : Fin 1) b l) = ((pQ (pair A r p) (posn a b) l : ℝ) : EReal) := by
  obtain ⟨e0, e1, e2, e3, e4⟩ := place0 t
  have hp := p.isLt
  have hr := r.isLt
  have ep : t.val / 16 = p.val := by omega
  have er : t.val % 16 = r.val := by omega
  have e : iblk m c 0 t (ix5 (0 : Fin 1) a (0 : Fin 1) b l) = V m c main_arg0 (ix5 (0 : Fin 3) a r b (laneIn p l)) := by
    unfold iblk
    rw [View.read_apply]
    refine congrArg (V m c main_arg0) (funext fun z => Fin.ext ?_)
    match z with
    | ⟨0, _⟩ => show win0_0.index t (0 : Fin 5) * 1 + 1 * 0 = 0; omega
    | ⟨1, _⟩ => show win0_0.index t (1 : Fin 5) * 16 + 1 * a.val = a.val; omega
    | ⟨2, _⟩ => show win0_0.index t (2 : Fin 5) * 1 + 1 * 0 = r.val; omega
    | ⟨3, _⟩ => show win0_0.index t (3 : Fin 5) * 16 + 1 * b.val = b.val; omega
    | ⟨4, _⟩ => show win0_0.index t (4 : Fin 5) * 128 + 1 * l.val = 128 * p.val + l.val; omega
  refine e.trans ((congrFun ((V_main_arg0 m c).trans hA.h0) _).trans ?_)
  refine congrArg (fun z : ℝ => (z : EReal)) ?_
  show A.a0 _ = A.a0 (ix5 (0 : Fin 3) (rowHi (posn a b)) r (rowLo (posn a b)) (lane (headAt p (hOf l)) (eOf l)))
  rw [rowHi_posn, rowLo_posn, lane_in]

theorem block1 (a b : Fin 16) (l : Fin 128) : iblk m c 1 t (ix5 (0 : Fin 1) a (0 : Fin 1) b l) = ((pK (pair A r p) (posn a b) l : ℝ) : EReal) := by
  obtain ⟨e0, e1, e2, e3, e4⟩ := place1 t
  have hp := p.isLt
  have hr := r.isLt
  have ep : t.val / 16 = p.val := by omega
  have er : t.val % 16 = r.val := by omega
  have e : iblk m c 1 t (ix5 (0 : Fin 1) a (0 : Fin 1) b l) = V m c main_arg0 (ix5 (1 : Fin 3) a r b (laneIn p l)) := by
    unfold iblk
    rw [View.read_apply]
    refine congrArg (V m c main_arg0) (funext fun z => Fin.ext ?_)
    match z with
    | ⟨0, _⟩ => show win0_1.index t (0 : Fin 5) * 1 + 1 * 0 = 1; omega
    | ⟨1, _⟩ => show win0_1.index t (1 : Fin 5) * 16 + 1 * a.val = a.val; omega
    | ⟨2, _⟩ => show win0_1.index t (2 : Fin 5) * 1 + 1 * 0 = r.val; omega
    | ⟨3, _⟩ => show win0_1.index t (3 : Fin 5) * 16 + 1 * b.val = b.val; omega
    | ⟨4, _⟩ => show win0_1.index t (4 : Fin 5) * 128 + 1 * l.val = 128 * p.val + l.val; omega
  refine e.trans ((congrFun ((V_main_arg0 m c).trans hA.h0) _).trans ?_)
  refine congrArg (fun z : ℝ => (z : EReal)) ?_
  show A.a0 _ = A.a0 (ix5 (1 : Fin 3) (rowHi (posn a b)) r (rowLo (posn a b)) (lane (headAt p (hOf l)) (eOf l)))
  rw [rowHi_posn, rowLo_posn, lane_in]

theorem block2 (a b : Fin 16) (l : Fin 128) : iblk m c 2 t (ix5 (0 : Fin 1) a (0 : Fin 1) b l) = ((pV (pair A r p) (posn a b) l : ℝ) : EReal) := by
  obtain ⟨e0, e1, e2, e3, e4⟩ := place2 t
  have hp := p.isLt
  have hr := r.isLt
  have ep : t.val / 16 = p.val := by omega
  have er : t.val % 16 = r.val := by omega
  have e : iblk m c 2 t (ix5 (0 : Fin 1) a (0 : Fin 1) b l) = V m c main_arg0 (ix5 (2 : Fin 3) a r b (laneIn p l)) := by
    unfold iblk
    rw [View.read_apply]
    refine congrArg (V m c main_arg0) (funext fun z => Fin.ext ?_)
    match z with
    | ⟨0, _⟩ => show win0_2.index t (0 : Fin 5) * 1 + 1 * 0 = 2; omega
    | ⟨1, _⟩ => show win0_2.index t (1 : Fin 5) * 16 + 1 * a.val = a.val; omega
    | ⟨2, _⟩ => show win0_2.index t (2 : Fin 5) * 1 + 1 * 0 = r.val; omega
    | ⟨3, _⟩ => show win0_2.index t (3 : Fin 5) * 16 + 1 * b.val = b.val; omega
    | ⟨4, _⟩ => show win0_2.index t (4 : Fin 5) * 128 + 1 * l.val = 128 * p.val + l.val; omega
  refine e.trans ((congrFun ((V_main_arg0 m c).trans hA.h0) _).trans ?_)
  refine congrArg (fun z : ℝ => (z : EReal)) ?_
  show A.a0 _ = A.a0 (ix5 (2 : Fin 3) (rowHi (posn a b)) r (rowLo (posn a b)) (lane (headAt p (hOf l)) (eOf l)))
  rw [rowHi_posn, rowLo_posn, lane_in]

theorem block3 (a b : Fin 16) (l : Fin 128) : iblk m c 3 t (ix4 a (0 : Fin 1) b l) = ((pC (pair A r p) (posn a b) l : ℝ) : EReal) := by
  obtain ⟨e0, e1, e2, e3⟩ := place3 t
  have hp := p.isLt
  have hr := r.isLt
  have ep : t.val / 16 = p.val := by omega
  have er : t.val % 16 = r.val := by omega
  have e : iblk m c 3 t (ix4 a (0 : Fin 1) b l) = V m c main_arg5 (ix4 a r b (laneIn p l)) := by
    unfold iblk
    rw [View.read_apply]
    refine congrArg (V m c main_arg5) (funext fun z => Fin.ext ?_)
    match z with
    | ⟨0, _⟩ => show win0_3.index t (0 : Fin 4) * 16 + 1 * a.val = a.val; omega
    | ⟨1, _⟩ => show win0_3.index t (1 : Fin 4) * 1 + 1 * 0 = r.val; omega
    | ⟨2, _⟩ => show win0_3.index t (2 : Fin 4) * 16 + 1 * b.val = b.val; omega
    | ⟨3, _⟩ => show win0_3.index t (3 : Fin 4) * 128 + 1 * l.val = 128 * p.val + l.val; omega
  refine e.trans ((congrFun ((V_main_arg5 m c).trans hA.h5) _).trans ?_)
  refine congrArg (fun z : ℝ => (z : EReal)) ?_
  show A.a5 _ = A.a5 (ix4 (rowHi (posn a b)) r (rowLo (posn a b)) (lane (headAt p (hOf l)) (eOf l)))
  rw [rowHi_posn, rowLo_posn, lane_in]

theorem block4 (a b : Fin 16) (l : Fin 128) : iblk m c 4 t (ix4 a (0 : Fin 1) b l) = ((pO (pair A r p) (posn a b) l : ℝ) : EReal) := by
  obtain ⟨e0, e1, e2, e3⟩ := place4 t
  have hp := p.isLt
  have hr := r.isLt
  have ep : t.val / 16 = p.val := by omega
  have er : t.val % 16 = r.val := by omega
  have e : iblk m c 4 t (ix4 a (0 : Fin 1) b l) = V m c main_v118 (ix4 a r b (laneIn p l)) := by
    unfold iblk
    rw [View.read_apply]
    refine congrArg (V m c main_v118) (funext fun z => Fin.ext ?_)
    match z with
    | ⟨0, _⟩ => show win0_4.index t (0 : Fin 4) * 16 + 1 * a.val = a.val; omega
    | ⟨1, _⟩ => show win0_4.index t (1 : Fin 4) * 1 + 1 * 0 = r.val; omega
    | ⟨2, _⟩ => show win0_4.index t (2 : Fin 4) * 16 + 1 * b.val = b.val; omega
    | ⟨3, _⟩ => show win0_4.index t (3 : Fin 4) * 128 + 1 * l.val = 128 * p.val + l.val; omega
  refine e.trans ((V_out m c A hA a r b (laneIn p l)).trans ?_)
  rw [headOf_in, laneOf_in, posOf_eq]
  rfl

theorem block5 (a b : Fin 16) (l : Fin 128) : iblk m c 5 t (ix4 a (0 : Fin 1) b l) = ((((pair A r p) (hOf l)).LT (posn a b) : ℝ) : EReal) := by
  obtain ⟨e0, e1, e2, e3⟩ := place5 t
  have hp := p.isLt
  have hr := r.isLt
  have ep : t.val / 16 = p.val := by omega
  have er : t.val % 16 = r.val := by omega
  have e : iblk m c 5 t (ix4 a (0 : Fin 1) b l) = V m c main_v121 (ix4 a r b (laneIn p l)) := by
    unfold iblk
    rw [View.read_apply]
    refine congrArg (V m c main_v121) (funext fun z => Fin.ext ?_)
    match z with
    | ⟨0, _⟩ => show win0_5.index t (0 : Fin 4) * 16 + 1 * a.val = a.val; omega
    | ⟨1, _⟩ => show win0_5.index t (1 : Fin 4) * 1 + 1 * 0 = r.val; omega
    | ⟨2, _⟩ => show win0_5.index t (2 : Fin 4) * 16 + 1 * b.val = b.val; omega
    | ⟨3, _⟩ => show win0_5.index t (3 : Fin 4) * 128 + 1 * l.val = 128 * p.val + l.val; omega
  refine e.trans ((V_lse m c A hA a r b (laneIn p l)).trans ?_)
  rw [headOf_in, posOf_eq]
  rfl

omit hA in
theorem block6 (h : Fin 2) (j : Fin 256) : iblk m c 6 t (ix4 (0 : Fin 1) h (0 : Fin 1) j) = (((pair A r p) h).s : EReal) := by
  obtain ⟨e0, e1, e2, e3⟩ := place6 t
  have hp := p.isLt
  have hr := r.isLt
  have ep : t.val / 16 = p.val := by omega
  have e : iblk m c 6 t (ix4 (0 : Fin 1) h (0 : Fin 1) j) = V m c main_cst (ix4 p h (0 : Fin 1) j) := by
    unfold iblk
    rw [View.read_apply]
    refine congrArg (V m c main_cst) (funext fun z => Fin.ext ?_)
    match z with
    | ⟨0, _⟩ => show win0_6.index t (0 : Fin 4) * 1 + 1 * 0 = p.val; omega
    | ⟨1, _⟩ => show win0_6.index t (1 : Fin 4) * 2 + 1 * h.val = h.val; omega
    | ⟨2, _⟩ => show win0_6.index t (2 : Fin 4) * 1 + 1 * 0 = 0; omega
    | ⟨3, _⟩ => show win0_6.index t (3 : Fin 4) * 256 + 1 * j.val = j.val; omega
  exact e.trans (V_slope m c p h j)
end

end Attn
-- ==== Proof.Attn.StagedA.lean ====
/-
  The words of a step that fills the bias scratch (a head pair's first residue class): its staged copies, half-blocks and
  accumulators, read at an index as real numbers.
-/
module

public import proofs.«01_k».proof.Proof.Attn.Words

@[expose] public section

set_option maxRecDepth 16384

noncomputable section

namespace Attn

open Idealize.ShloMosaic Idealize.ShloMosaic.ValueIdx
open Cert.KernelIdeal Cert.KernelIdeal.Gen

namespace CaseA

section Staged
variable (H : Fin 2 → Head) (c : Dev nD)
  (arg2 : Memref sig .tc .vmem S1x16x1x16x128 .bf16) (harg2 : arg2.IsWhole) (arg3 : Memref sig .tc .vmem S1x16x1x16x128 .bf16) (harg3 : arg3.IsWhole)
  (arg4 : Memref sig .tc .vmem S1x16x1x16x128 .bf16) (harg4 : arg4.IsWhole) (arg5 : Memref sig .tc .vmem S16x1x16x128 .f32) (harg5 : arg5.IsWhole)
  (arg6 : Memref sig .tc .vmem S16x1x16x128 .f32) (harg6 : arg6.IsWhole) (arg7 : Memref sig .tc .vmem S16x1x16x128 .f32) (harg7 : arg7.IsWhole)
  (arg8 : Memref sig .tc .vmem S1x2x1x256 .f32) (harg8 : arg8.IsWhole)
  (arg10 arg11 : Memref sig .tc .vmem S2x384x128 .bf16) (arg12 arg13 : Memref sig .tc .vmem S384x128 .f32)
  (arg14 : Memref sig .tc .vmem S4x2x128x256 .f32) (harg14 : arg14.IsWhole)
  (x0 x1 x2 : Vec Ideal S1x16x1x16x128 .bf16) (x3 x4 x5 : Vec Ideal S16x1x16x128 .f32) (x6 : Vec Ideal S1x2x1x256 .f32) (xs4 : Vec Ideal S4x2x128x256 .f32)
  (hx0 : ∀ a b l, x0 (ix5 0 a 0 b l) = (pQ H (posn a b) l : EReal)) (hx1 : ∀ a b l, x1 (ix5 0 a 0 b l) = (pK H (posn a b) l : EReal))
  (hx2 : ∀ a b l, x2 (ix5 0 a 0 b l) = (pV H (posn a b) l : EReal)) (hx3 : ∀ a b l, x3 (ix4 a 0 b l) = (pC H (posn a b) l : EReal))
  (hx4 : ∀ a b l, x4 (ix4 a 0 b l) = (pO H (posn a b) l : EReal)) (hx5 : ∀ a b l, x5 (ix4 a 0 b l) = ((H (hOf l)).LT (posn a b) : EReal))

include hx1 in
/-- The staged keys. -/
theorem HS0_apply (h : Fin 2) (r : Fin 384) (l : Fin 128) :
    View.canon (kernelRun0_A.sl.HS0_6 (F := Ideal) c arg3 harg3 x1) (ix3 h r l) = (stR (pK H) h r l : EReal) := by
  unfold kernelRun0_A.sl.HS0_6
  refine staged_apply (pK H) _ _ _ _ _ _ _ _ _ _ _ _ (fun _ => ofBits16_zero) (fun _ => ofBits16_zero) (fun _ => ofBits16_zero) (fun _ => ofBits16_zero)
    (fun k l => ?_) (fun k l => ?_) h r l
  · exact stage0 (pK H) _ _ _ (fun i l => load_k (pK H) arg3 harg3 x1 hx1 _ _ rfl rfl rfl rfl rfl _ _ i l) (fun _ => ofBits16_zero) k l
  · exact stage1 (pK H) _ _ _ (fun i l => load_k (pK H) arg3 harg3 x1 hx1 _ _ rfl rfl rfl rfl rfl _ _ i l) (fun _ => ofBits16_zero) k l

include hx2 in
/-- The staged values. -/
theorem HS1_apply (h : Fin 2) (r : Fin 384) (l : Fin 128) :
    View.canon (kernelRun0_A.sl.HS1_6 (F := Ideal) c arg4 harg4 x2) (ix3 h r l) = (stR (pV H) h r l : EReal) := by
  unfold kernelRun0_A.sl.HS1_6
  refine staged_apply (pV H) _ _ _ _ _ _ _ _ _ _ _ _ (fun _ => ofBits16_zero) (fun _ => ofBits16_zero) (fun _ => ofBits16_zero) (fun _ => ofBits16_zero)
    (fun k l => ?_) (fun k l => ?_) h r l
  · exact stage0 (pV H) _ _ _ (fun i l => load_k (pV H) arg4 harg4 x2 hx2 _ _ rfl rfl rfl rfl rfl _ _ i l) (fun _ => ofBits16_zero) k l
  · exact stage1 (pV H) _ _ _ (fun i l => load_k (pV H) arg4 harg4 x2 hx2 _ _ rfl rfl rfl rfl rfl _ _ i l) (fun _ => ofBits16_zero) k l

end Staged

end CaseA
end Attn
-- ==== Proof.Attn.BiasVal.lean ====
/-
  The bias a step stores in its scratch, read at an index: minus the slope times the distance inside the band, the masked value
  outside it, with the columns before or behind the sequence masked for the first and second half-block.
-/
module

public import proofs.«01_k».proof.Proof.Attn.Words

@[expose] public section

set_option maxRecDepth 16384

noncomputable section

namespace Attn

open Idealize.ShloMosaic Idealize.ShloMosaic.ValueIdx
open Cert.KernelIdeal Cert.KernelIdeal.Gen

/-- The distance of a window column from a row, as a number. -/
def absd (i : Fin 128) (c : Fin 256) : ℕ := ((c.val : ℤ) - 64 - (i.val : ℤ)).natAbs

theorem absd_lt (i : Fin 128) (c : Fin 256) : absd i c < 512 := by unfold absd; omega
theorem absd_cast (i : Fin 128) (c : Fin 256) : ((absd i c : ℕ) : ℤ) = |(c.val : ℤ) - 64 - (i.val : ℤ)| := (Int.abs_eq_natAbs _).symm

theorem word_absd (i : Fin 128) (c : Fin 256) :
    IntOp.absi (IntOp.subi (IntOp.subi (BitVec.ofNat 32 c.val) 64#32) (BitVec.ofNat 32 i.val)) = BitVec.ofNat 32 (((c.val : ℤ) - 64 - (i.val : ℤ)).natAbs) := by
  revert i c; decide +kernel
theorem word_int (n : Fin 512) : (BitVec.ofNat 32 n.val).toInt = (n.val : ℤ) := by revert n; decide +kernel
theorem word_near (n : Fin 512) : IntOp.cmpi .sle (BitVec.ofNat 32 n.val) 64#32 = if n.val ≤ 64 then 1#1 else 0#1 := by revert n; decide +kernel
theorem word_ge (c : Fin 256) : IntOp.cmpi .sge (BitVec.ofNat 32 c.val) 64#32 = if 64 ≤ c.val then 1#1 else 0#1 := by revert c; decide +kernel
theorem word_lt (c : Fin 256) : IntOp.cmpi .slt (BitVec.ofNat 32 c.val) 192#32 = if c.val < 192 then 1#1 else 0#1 := by revert c; decide +kernel

theorem pay2_apply (i : Fin 128) (c : Fin 256) : k0_pay2 (ix2 i c) = BitVec.ofNat 32 (absd i c) := by
  unfold k0_pay2
  show IntOp.absi (IntOp.subi (IntOp.subi (iota .tc S128x256 32 [1] iota_S128x256_d1_w32 (ix2 i c)) 64#32)
    (iota .tc S128x256 32 [0] iota_S128x256_d0_w32 (ix2 i c))) = _
  rw [iota_single_apply, iota_single_apply]
  exact word_absd i c

theorem pay3_apply (i : Fin 128) (c : Fin 256) : k0_pay3 (ix2 i c) = if absd i c ≤ 64 then 1#1 else 0#1 := by
  unfold k0_pay3
  show IntOp.cmpi .sle (k0_pay2 (ix2 i c)) 64#32 = _
  rw [pay2_apply]
  exact word_near ⟨absd i c, absd_lt i c⟩

theorem pay4_apply (i : Fin 128) (c : Fin 256) : k0_pay4 (ix2 i c) = if 64 ≤ c.val then 1#1 else 0#1 := by
  unfold k0_pay4
  show IntOp.cmpi .sge (iota .tc S128x256 32 [1] iota_S128x256_d1_w32 (ix2 i c)) 64#32 = _
  rw [iota_single_apply]
  exact word_ge c

theorem pay5_apply (i : Fin 128) (c : Fin 256) : k0_pay5 (ix2 i c) = if c.val < 192 then 1#1 else 0#1 := by
  unfold k0_pay5
  show IntOp.cmpi .slt (iota .tc S128x256 32 [1] iota_S128x256_d1_w32 (ix2 i c)) 192#32 = _
  rw [iota_single_apply]
  exact word_lt c

/-- The band's value before masking. -/
theorem pay12_apply (s : ℝ) (v : Vec Ideal S1x1x1x256 .f32) (hv : ∀ c, v (ix4 0 0 0 c) = (s : EReal)) (i : Fin 128) (c : Fin 256) :
    k0_pay12 k0_pay2 v (ix2 i c) = ((-(s * ((|(c.val : ℤ) - 64 - (i.val : ℤ)| : ℤ) : ℝ)) : ℝ) : EReal) := by
  unfold k0_pay12
  show (Ideal.ofBits .f32 0x00000000#32 : EReal) - (broadcastTo S128x256 (shapeCast S1x256 v _) broadcasts_S1x256_S128x256 (ix2 i c) : EReal)
    * (((k0_pay2 (ix2 i c)).toInt : ℝ) : EReal) = _
  have e1 : broadcastTo S128x256 (shapeCast S1x256 v shapeCasts_S1x1x1x256_S1x256) broadcasts_S1x256_S128x256 (ix2 i c) = (s : EReal) := by
    refine (broadcastTo_apply _ _ (ix2 i c) (ix2 0 c) ?_).trans ((shapeCast_apply _ _ (ix2 0 c) (ix4 0 0 0 c) ?_).trans (hv c))
    · intro a
      match a with
      | ⟨0, _⟩ => rfl
      | ⟨1, _⟩ => rfl
    · rw [Shape.rowMajor_val_four, Shape.rowMajor_val_two]
      show ((0 * 1 + 0) * 1 + 0) * 256 + c.val = 0 * 256 + c.val; omega
  rw [ofBits32_zero, pay2_apply, word_int ⟨absd i c, absd_lt i c⟩]
  refine Eq.trans (congrArg (fun x : EReal => (0 : EReal) - x * (((absd i c : ℕ) : ℤ) : ℝ)) e1) ?_
  rw [absd_cast, ← EReal.coe_mul, ← EReal.coe_zero, ← EReal.coe_sub, zero_sub]

theorem mask_bot : (Named.named κ "mask" 0xF149F2CA#32 : Ideal .f32) = (⊥ : EReal) := IdealRules.named_const.ideal_named_scalar _ _ _ _ rfl

/-- A masked selection of the band's values. -/
theorem select_band (η : Fin 2) (s : ℝ) (v : Vec Ideal S1x1x1x256 .f32) (hv : ∀ c, v (ix4 0 0 0 c) = (s : EReal)) (m : IVec S128x256 1)
    (hm : ∀ i c, m (ix2 i c) = if (if η = 0 then 64 ≤ c.val else c.val < 192) then 1#1 else 0#1) (h) (i : Fin 128) (c : Fin 256) :
    shapeCast S1x1x128x256 (select (andi k0_pay3 m) (k0_pay12 k0_pay2 v) (broadcast S128x256 (Named.named κ "mask" 0xF149F2CA#32 : Ideal .f32))) h (ix4 0 0 i c)
      = if okw η i c then ((-(s * ((|(c.val : ℤ) - 64 - (i.val : ℤ)| : ℤ) : ℝ)) : ℝ) : EReal) else ⊥ := by
  refine (shapeCast_apply _ _ (ix4 0 0 i c) (ix2 i c) ?_).trans ?_
  · rw [Shape.rowMajor_val_four, Shape.rowMajor_val_two]
    show i.val * 256 + c.val = ((0 * 1 + 0) * 128 + i.val) * 256 + c.val; omega
  · show Scalar.select (IntOp.andi (k0_pay3 (ix2 i c)) (m (ix2 i c))) (k0_pay12 k0_pay2 v (ix2 i c)) (Named.named κ "mask" 0xF149F2CA#32 : Ideal .f32) = _
    rw [pay3_apply, hm, pay12_apply s v hv, mask_bot]
    have hn : absd i c ≤ 64 ↔ |(c.val : ℤ) - 64 - (i.val : ℤ)| ≤ 64 := by rw [← absd_cast]; omega
    by_cases h1 : absd i c ≤ 64
    · by_cases h2 : (if η = 0 then 64 ≤ c.val else c.val < 192)
      · rw [if_pos h1, if_pos h2, if_pos (show okw η i c from ⟨hn.1 h1, h2⟩)]; rfl
      · rw [if_pos h1, if_neg h2, if_neg (show ¬ okw η i c from fun hh => h2 hh.2)]; rfl
    · rw [if_neg h1, if_neg (show ¬ okw η i c from fun hh => h1 (hn.2 hh.1))]
      by_cases h2 : (if η = 0 then 64 ≤ c.val else c.val < 192)
      · rw [if_pos h2]; rfl
      · rw [if_neg h2]; rfl

/-- The eight stored pieces hold the two half-blocks' biases. -/
theorem pieces_bias (H : Fin 2 → Head) (p0 p1 p2 p3 q0 q1 q2 q3 : Vec Ideal S1x1x128x256 .f32) (i0 i1 i2 i3 j0 j1 j2 j3)
    (hp1 : ∀ i c, p1 (ix4 0 0 i c) = if okw 0 i c then ((bw H 0 i c : ℝ) : EReal) else ⊥)
    (hp2 : ∀ i c, p2 (ix4 0 0 i c) = if okw 1 i c then ((bw H 0 i c : ℝ) : EReal) else ⊥)
    (hq1 : ∀ i c, q1 (ix4 0 0 i c) = if okw 0 i c then ((bw H 1 i c : ℝ) : EReal) else ⊥)
    (hq2 : ∀ i c, q2 (ix4 0 0 i c) = if okw 1 i c then ((bw H 1 i c : ℝ) : EReal) else ⊥) :
    BiasAt H (View.canon (Val := Elt Ideal) (s := S4x2x128x256) (e := .f32)
      [⟨Rect.unit ![3, 1, 0, 0] S1x1x128x256.size j3, q3⟩, ⟨Rect.unit ![2, 1, 0, 0] S1x1x128x256.size j2, q2⟩,
        ⟨Rect.unit ![1, 1, 0, 0] S1x1x128x256.size j1, q1⟩, ⟨Rect.unit ![0, 1, 0, 0] S1x1x128x256.size j0, q0⟩,
        ⟨Rect.unit ![3, 0, 0, 0] S1x1x128x256.size i3, p3⟩, ⟨Rect.unit ![2, 0, 0, 0] S1x1x128x256.size i2, p2⟩,
        ⟨Rect.unit ![1, 0, 0, 0] S1x1x128x256.size i1, p1⟩, ⟨Rect.unit ![0, 0, 0, 0] S1x1x128x256.size i0, p0⟩]) := by
  have coord : ∀ (w : Fin 4) (h : Fin 2) (i : Fin 128) (c : Fin 256) (n m : ℕ) (hn : w.val = n) (hm : h.val = m) (d : Fin 4),
      ((ix4 w h i c : S4x2x128x256.Idx) d : ℕ) = (![n, m, 0, 0] : Fin 4 → ℕ) d + ((ix4 (0 : Fin 1) (0 : Fin 1) i c) d : ℕ) := by
    intro w h i c n m hn hm d
    match d with
    | ⟨0, _⟩ => show w.val = n + 0; omega
    | ⟨1, _⟩ => show h.val = m + 0; omega
    | ⟨2, _⟩ => show i.val = 0 + i.val; omega
    | ⟨3, _⟩ => show c.val = 0 + c.val; omega
  intro η h i c
  match η, h with
  | ⟨1, _⟩, ⟨1, _⟩ =>
    rw [canon_out _ _ _ _ _ _ (0 : Fin 4) (Or.inl (by show 2 < 3; decide))]
    exact (canon_in _ _ _ _ _ _ (ix4 0 0 i c) (coord _ _ i c 2 1 rfl rfl)).trans (hq2 i c)
  | ⟨0, _⟩, ⟨1, _⟩ =>
    rw [canon_out _ _ _ _ _ _ (0 : Fin 4) (Or.inl (by show 1 < 3; decide)), canon_out _ _ _ _ _ _ (0 : Fin 4) (Or.inl (by show 1 < 2; decide))]
    exact (canon_in _ _ _ _ _ _ (ix4 0 0 i c) (coord _ _ i c 1 1 rfl rfl)).trans (hq1 i c)
  | ⟨1, _⟩, ⟨0, _⟩ =>
    rw [canon_out _ _ _ _ _ _ (1 : Fin 4) (Or.inl (by show 0 < 1; decide)), canon_out _ _ _ _ _ _ (1 : Fin 4) (Or.inl (by show 0 < 1; decide)),
      canon_out _ _ _ _ _ _ (1 : Fin 4) (Or.inl (by show 0 < 1; decide)), canon_out _ _ _ _ _ _ (1 : Fin 4) (Or.inl (by show 0 < 1; decide)),
      canon_out _ _ _ _ _ _ (0 : Fin 4) (Or.inl (by show 2 < 3; decide))]
    exact (canon_in _ _ _ _ _ _ (ix4 0 0 i c) (coord _ _ i c 2 0 rfl rfl)).trans (hp2 i c)
  | ⟨0, _⟩, ⟨0, _⟩ =>
    rw [canon_out _ _ _ _ _ _ (1 : Fin 4) (Or.inl (by show 0 < 1; decide)), canon_out _ _ _ _ _ _ (1 : Fin 4) (Or.inl (by show 0 < 1; decide)),
      canon_out _ _ _ _ _ _ (1 : Fin 4) (Or.inl (by show 0 < 1; decide)), canon_out _ _ _ _ _ _ (1 : Fin 4) (Or.inl (by show 0 < 1; decide)),
      canon_out _ _ _ _ _ _ (0 : Fin 4) (Or.inl (by show 1 < 3; decide)), canon_out _ _ _ _ _ _ (0 : Fin 4) (Or.inl (by show 1 < 2; decide))]
    exact (canon_in _ _ _ _ _ _ (ix4 0 0 i c) (coord _ _ i c 1 0 rfl rfl)).trans (hp1 i c)

/-- A head's slopes, loaded from the table. -/
theorem load_s (H : Fin 2 → Head) (M : Memref sig .tc .vmem S1x2x1x256 .f32) (hM : M.IsWhole) (x : Vec Ideal S1x2x1x256 .f32)
    (hx : ∀ h c, x (ix4 0 h 0 c) = ((H h).s : EReal)) (h : Fin 2) (off : Fin 4 → ℕ) (inb)
    (e0 : off 0 = 0) (e1 : off 1 = h.val) (e2 : off 2 = 0) (e3 : off 3 = 0) (c : Fin 256) :
    View.readAt (Elt Ideal) M.view (Rect.unit (s := S1x2x1x256) off S1x1x1x256.size inb).toLoadRect (hM.unread x) (ix4 0 0 0 c) = ((H h).s : EReal) := by
  refine (load_at M hM x off _ inb (ix4 0 0 0 c) (ix4 0 h 0 c) (fun a => ?_)).trans (hx h c)
  match a with
  | ⟨0, _⟩ => show 0 = off 0 + 0; omega
  | ⟨1, _⟩ => show h.val = off 1 + 0; omega
  | ⟨2, _⟩ => show 0 = off 2 + 0; omega
  | ⟨3, _⟩ => show c.val = off 3 + c.val; omega

end Attn
-- ==== Proof.Attn.BiasA.lean ====
/-
  The bias scratch after a step that fills it.
-/
module

public import proofs.«01_k».proof.Proof.Attn.StagedA
public import proofs.«01_k».proof.Proof.Attn.BiasVal

@[expose] public section

set_option maxRecDepth 16384

noncomputable section

namespace Attn

open Idealize.ShloMosaic Idealize.ShloMosaic.ValueIdx
open Cert.KernelIdeal Cert.KernelIdeal.Gen

namespace CaseA

/-- The bias scratch's pieces hold the two heads' biases. -/
theorem HS4_apply (H : Fin 2 → Head) (c : Dev nD) (arg8 : Memref sig .tc .vmem S1x2x1x256 .f32) (harg8 : arg8.IsWhole) (x6 : Vec Ideal S1x2x1x256 .f32)
    (hx6 : ∀ h c, x6 (ix4 0 h 0 c) = ((H h).s : EReal)) : BiasAt H (View.canon (kernelRun0_A.sl.HS4_8 (F := Ideal) c arg8 harg8 x6)) := by
  unfold kernelRun0_A.sl.HS4_8
  refine pieces_bias H _ _ _ _ _ _ _ _ _ _ _ _ _ _ _ _ ?_ ?_ ?_ ?_
  · exact fun i c => select_band 0 _ _ (fun c => load_s H arg8 harg8 x6 hx6 0 _ _ rfl rfl rfl rfl c) _ (fun i c => pay4_apply i c) _ i c
  · exact fun i c => select_band 1 _ _ (fun c => load_s H arg8 harg8 x6 hx6 0 _ _ rfl rfl rfl rfl c) _ (fun i c => pay5_apply i c) _ i c
  · exact fun i c => select_band 0 _ _ (fun c => load_s H arg8 harg8 x6 hx6 1 _ _ rfl rfl rfl rfl c) _ (fun i c => pay4_apply i c) _ i c
  · exact fun i c => select_band 1 _ _ (fun c => load_s H arg8 harg8 x6 hx6 1 _ _ rfl rfl rfl rfl c) _ (fun i c => pay5_apply i c) _ i c

end CaseA
end Attn
-- ==== Proof.Attn.HalfA.lean ====
/-
  The half-blocks of a step that fills the bias scratch, read at an index as real numbers.
-/
module

public import proofs.«01_k».proof.Proof.Attn.BiasA

@[expose] public section

set_option maxRecDepth 16384

noncomputable section

namespace Attn

open Idealize.ShloMosaic Idealize.ShloMosaic.ValueIdx
open Cert.KernelIdeal Cert.KernelIdeal.Gen

namespace CaseA

section Half
variable (H : Fin 2 → Head) (c : Dev nD)
  (arg2 : Memref sig .tc .vmem S1x16x1x16x128 .bf16) (harg2 : arg2.IsWhole) (arg3 : Memref sig .tc .vmem S1x16x1x16x128 .bf16) (harg3 : arg3.IsWhole)
  (arg4 : Memref sig .tc .vmem S1x16x1x16x128 .bf16) (harg4 : arg4.IsWhole) (arg5 : Memref sig .tc .vmem S16x1x16x128 .f32) (harg5 : arg5.IsWhole)
  (arg6 : Memref sig .tc .vmem S16x1x16x128 .f32) (harg6 : arg6.IsWhole) (arg7 : Memref sig .tc .vmem S16x1x16x128 .f32) (harg7 : arg7.IsWhole)
  (arg8 : Memref sig .tc .vmem S1x2x1x256 .f32) (harg8 : arg8.IsWhole)
  (arg10 arg11 : Memref sig .tc .vmem S2x384x128 .bf16) (arg12 arg13 : Memref sig .tc .vmem S384x128 .f32)
  (arg14 : Memref sig .tc .vmem S4x2x128x256 .f32) (harg14 : arg14.IsWhole)
  (x0 x1 x2 : Vec Ideal S1x16x1x16x128 .bf16) (x3 x4 x5 : Vec Ideal S16x1x16x128 .f32) (x6 : Vec Ideal S1x2x1x256 .f32) (xs4 : Vec Ideal S4x2x128x256 .f32)
  (hx0 : ∀ a b l, x0 (ix5 0 a 0 b l) = (pQ H (posn a b) l : EReal)) (hx1 : ∀ a b l, x1 (ix5 0 a 0 b l) = (pK H (posn a b) l : EReal))
  (hx2 : ∀ a b l, x2 (ix5 0 a 0 b l) = (pV H (posn a b) l : EReal)) (hx3 : ∀ a b l, x3 (ix4 a 0 b l) = (pC H (posn a b) l : EReal))
  (hx4 : ∀ a b l, x4 (ix4 a 0 b l) = (pO H (posn a b) l : EReal)) (hx5 : ∀ a b l, x5 (ix4 a 0 b l) = ((H (hOf l)).LT (posn a b) : EReal))
  (hx6 : ∀ h c, x6 (ix4 0 h 0 c) = ((H h).s : EReal))

include hx0 hx1 hx2 hx3 hx4 hx5 hx6 in
/-- The query gradients of half-block 0. -/
theorem dq0_apply (i l : Fin 128) : (kernelRun0_A.sl.v184 (F := Ideal) c arg2 harg2 arg3 harg3 arg4 harg4 arg5 harg5 arg6 harg6 arg7 harg7 arg8 harg8 arg10 arg11 arg14 x0 x1 x2 x3 x4 x5 x6) (ix2 i l) = ((H (hOf l)).dq (row 0 i) (eOf l) : EReal) :=
  (vQ_apply (ok := okw 0) (fun i => pQ H (row 0 i)) (fun i => pC H (row 0 i)) (fun i => pO H (row 0 i)) (fun i l => (H (hOf l)).LT (row 0 i)) (fun h i => (H h).LT (row 0 i)) (win (pK H) 0) (win (pV H) 0) (bw H) (View.readAt (Elt Ideal) arg2.view (Rect.unit (s := S1x16x1x16x128) ![0, 0, 0, 0, 0] S1x8x1x16x128.size (by decide)).toLoadRect (harg2.unread x0)) (fun h : Fin 2 => match h with | 0 => ((kernelRun0_A.sl.v113 (F := Ideal) c arg3 harg3 arg10 x1) : Vec Ideal S1x256x128 .bf16) | 1 => ((kernelRun0_A.sl.v145 (F := Ideal) c arg3 harg3 arg10 x1) : Vec Ideal S1x256x128 .bf16)) (fun h : Fin 2 => match h with | 0 => ((kernelRun0_A.sl.v132 (F := Ideal) c arg4 harg4 arg11 x2) : Vec Ideal S1x256x128 .bf16) | 1 => ((kernelRun0_A.sl.v164 (F := Ideal) c arg4 harg4 arg11 x2) : Vec Ideal S1x256x128 .bf16)) (fun h : Fin 2 => match h with | 0 => ((kernelRun0_A.sl.v117 (F := Ideal) c arg8 harg8 arg14 x6) : Vec Ideal S1x1x128x256 .f32) | 1 => ((kernelRun0_A.sl.v149 (F := Ideal) c arg8 harg8 arg14 x6) : Vec Ideal S1x1x128x256 .f32)) (View.readAt (Elt Ideal) arg5.view (Rect.unit (s := S16x1x16x128) ![0, 0, 0, 0] S8x1x16x128.size (by decide)).toLoadRect (harg5.unread x3)) (View.readAt (Elt Ideal) arg6.view (Rect.unit (s := S16x1x16x128) ![0, 0, 0, 0] S8x1x16x128.size (by decide)).toLoadRect (harg6.unread x4)) (View.readAt (Elt Ideal) arg7.view (Rect.unit (s := S16x1x16x128) ![0, 0, 0, 0] S8x1x16x128.size (by decide)).toLoadRect (harg7.unread x5))
    (load_q (pQ H) arg2 harg2 x0 hx0 0 _ _ rfl rfl rfl rfl rfl) (load_r (pC H) arg5 harg5 x3 hx3 0 _ _ rfl rfl rfl rfl) (load_r (pO H) arg6 harg6 x4 hx4 0 _ _ rfl rfl rfl rfl) (load_r (fun p l => (H (hOf l)).LT p) arg7 harg7 x5 hx5 0 _ _ rfl rfl rfl rfl) (fun h i l hl => by rw [(hdOf_iff h l).1 hl])
    (fun h c' l => match h with | 0 => window_apply arg10 _ (pK H) (HS0_apply H c arg3 harg3 x1 hx1) 0 0 _ _ rfl rfl rfl c' l | 1 => window_apply arg10 _ (pK H) (HS0_apply H c arg3 harg3 x1 hx1) 0 1 _ _ rfl rfl rfl c' l)
    (fun h c' l => match h with | 0 => window_apply arg11 _ (pV H) (HS1_apply H c arg4 harg4 x2 hx2) 0 0 _ _ rfl rfl rfl c' l | 1 => window_apply arg11 _ (pV H) (HS1_apply H c arg4 harg4 x2 hx2) 0 1 _ _ rfl rfl rfl c' l)
    (fun h i c' => match h with | 0 => bias_back H arg14 _ (HS4_apply H c arg8 harg8 x6 hx6) 0 0 _ _ rfl rfl rfl rfl i c' | 1 => bias_back H arg14 _ (HS4_apply H c arg8 harg8 x6 hx6) 0 1 _ _ rfl rfl rfl rfl i c') i l).trans (congrArg (fun x : ℝ => (x : EReal)) (kQ_eq H 0 i l))

include hx0 hx1 hx2 hx3 hx4 hx5 hx6 in
/-- The value gradients of half-block 0's window. -/
theorem dv0_apply (c' : Fin 256) (l : Fin 128) : (kernelRun0_A.sl.v187 (F := Ideal) c arg2 harg2 arg3 harg3 arg5 harg5 arg7 harg7 arg8 harg8 arg10 arg14 x0 x1 x3 x5 x6) (ix2 c' l) = (part (kP H 0) (fun i => pC H (row 0 i)) c' l : EReal) :=
  vV_apply (ok := okw 0) (fun i => pQ H (row 0 i)) (fun i => pC H (row 0 i)) (fun i l => (H (hOf l)).LT (row 0 i)) (fun h i => (H h).LT (row 0 i)) (win (pK H) 0) (bw H) (View.readAt (Elt Ideal) arg2.view (Rect.unit (s := S1x16x1x16x128) ![0, 0, 0, 0, 0] S1x8x1x16x128.size (by decide)).toLoadRect (harg2.unread x0)) (fun h : Fin 2 => match h with | 0 => ((kernelRun0_A.sl.v113 (F := Ideal) c arg3 harg3 arg10 x1) : Vec Ideal S1x256x128 .bf16) | 1 => ((kernelRun0_A.sl.v145 (F := Ideal) c arg3 harg3 arg10 x1) : Vec Ideal S1x256x128 .bf16)) (fun h : Fin 2 => match h with | 0 => ((kernelRun0_A.sl.v117 (F := Ideal) c arg8 harg8 arg14 x6) : Vec Ideal S1x1x128x256 .f32) | 1 => ((kernelRun0_A.sl.v149 (F := Ideal) c arg8 harg8 arg14 x6) : Vec Ideal S1x1x128x256 .f32)) (View.readAt (Elt Ideal) arg5.view (Rect.unit (s := S16x1x16x128) ![0, 0, 0, 0] S8x1x16x128.size (by decide)).toLoadRect (harg5.unread x3)) (View.readAt (Elt Ideal) arg7.view (Rect.unit (s := S16x1x16x128) ![0, 0, 0, 0] S8x1x16x128.size (by decide)).toLoadRect (harg7.unread x5))
    (load_q (pQ H) arg2 harg2 x0 hx0 0 _ _ rfl rfl rfl rfl rfl) (load_r (pC H) arg5 harg5 x3 hx3 0 _ _ rfl rfl rfl rfl) (load_r (fun p l => (H (hOf l)).LT p) arg7 harg7 x5 hx5 0 _ _ rfl rfl rfl rfl) (fun h i l hl => by rw [(hdOf_iff h l).1 hl])
    (fun h c' l => match h with | 0 => window_apply arg10 _ (pK H) (HS0_apply H c arg3 harg3 x1 hx1) 0 0 _ _ rfl rfl rfl c' l | 1 => window_apply arg10 _ (pK H) (HS0_apply H c arg3 harg3 x1 hx1) 0 1 _ _ rfl rfl rfl c' l)
    (fun h i c' => match h with | 0 => bias_back H arg14 _ (HS4_apply H c arg8 harg8 x6 hx6) 0 0 _ _ rfl rfl rfl rfl i c' | 1 => bias_back H arg14 _ (HS4_apply H c arg8 harg8 x6 hx6) 0 1 _ _ rfl rfl rfl rfl i c') c' l

include hx0 hx1 hx2 hx3 hx4 hx5 hx6 in
/-- The key gradients of half-block 0's window. -/
theorem dk0_apply (c' : Fin 256) (l : Fin 128) : (kernelRun0_A.sl.v195 (F := Ideal) c arg2 harg2 arg3 harg3 arg4 harg4 arg5 harg5 arg6 harg6 arg7 harg7 arg8 harg8 arg10 arg11 arg14 x0 x1 x2 x3 x4 x5 x6) (ix2 c' l) = (part (kS H 0) (fun i => pQ H (row 0 i)) c' l : EReal) :=
  vK_apply (ok := okw 0) (fun i => pQ H (row 0 i)) (fun i => pC H (row 0 i)) (fun i => pO H (row 0 i)) (fun i l => (H (hOf l)).LT (row 0 i)) (fun h i => (H h).LT (row 0 i)) (win (pK H) 0) (win (pV H) 0) (bw H) (View.readAt (Elt Ideal) arg2.view (Rect.unit (s := S1x16x1x16x128) ![0, 0, 0, 0, 0] S1x8x1x16x128.size (by decide)).toLoadRect (harg2.unread x0)) (fun h : Fin 2 => match h with | 0 => ((kernelRun0_A.sl.v113 (F := Ideal) c arg3 harg3 arg10 x1) : Vec Ideal S1x256x128 .bf16) | 1 => ((kernelRun0_A.sl.v145 (F := Ideal) c arg3 harg3 arg10 x1) : Vec Ideal S1x256x128 .bf16)) (fun h : Fin 2 => match h with | 0 => ((kernelRun0_A.sl.v132 (F := Ideal) c arg4 harg4 arg11 x2) : Vec Ideal S1x256x128 .bf16) | 1 => ((kernelRun0_A.sl.v164 (F := Ideal) c arg4 harg4 arg11 x2) : Vec Ideal S1x256x128 .bf16)) (fun h : Fin 2 => match h with | 0 => ((kernelRun0_A.sl.v117 (F := Ideal) c arg8 harg8 arg14 x6) : Vec Ideal S1x1x128x256 .f32) | 1 => ((kernelRun0_A.sl.v149 (F := Ideal) c arg8 harg8 arg14 x6) : Vec Ideal S1x1x128x256 .f32)) (View.readAt (Elt Ideal) arg5.view (Rect.unit (s := S16x1x16x128) ![0, 0, 0, 0] S8x1x16x128.size (by decide)).toLoadRect (harg5.unread x3)) (View.readAt (Elt Ideal) arg6.view (Rect.unit (s := S16x1x16x128) ![0, 0, 0, 0] S8x1x16x128.size (by decide)).toLoadRect (harg6.unread x4)) (View.readAt (Elt Ideal) arg7.view (Rect.unit (s := S16x1x16x128) ![0, 0, 0, 0] S8x1x16x128.size (by decide)).toLoadRect (harg7.unread x5))
    (load_q (pQ H) arg2 harg2 x0 hx0 0 _ _ rfl rfl rfl rfl rfl) (load_r (pC H) arg5 harg5 x3 hx3 0 _ _ rfl rfl rfl rfl) (load_r (pO H) arg6 harg6 x4 hx4 0 _ _ rfl rfl rfl rfl) (load_r (fun p l => (H (hOf l)).LT p) arg7 harg7 x5 hx5 0 _ _ rfl rfl rfl rfl) (fun h i l hl => by rw [(hdOf_iff h l).1 hl])
    (fun h c' l => match h with | 0 => window_apply arg10 _ (pK H) (HS0_apply H c arg3 harg3 x1 hx1) 0 0 _ _ rfl rfl rfl c' l | 1 => window_apply arg10 _ (pK H) (HS0_apply H c arg3 harg3 x1 hx1) 0 1 _ _ rfl rfl rfl c' l)
    (fun h c' l => match h with | 0 => window_apply arg11 _ (pV H) (HS1_apply H c arg4 harg4 x2 hx2) 0 0 _ _ rfl rfl rfl c' l | 1 => window_apply arg11 _ (pV H) (HS1_apply H c arg4 harg4 x2 hx2) 0 1 _ _ rfl rfl rfl c' l)
    (fun h i c' => match h with | 0 => bias_back H arg14 _ (HS4_apply H c arg8 harg8 x6 hx6) 0 0 _ _ rfl rfl rfl rfl i c' | 1 => bias_back H arg14 _ (HS4_apply H c arg8 harg8 x6 hx6) 0 1 _ _ rfl rfl rfl rfl i c') c' l

include hx0 hx1 hx2 hx3 hx4 hx5 hx6 in
/-- The query gradients of half-block 1. -/
theorem dq1_apply (i l : Fin 128) : (kernelRun0_A.sl.v311 (F := Ideal) c arg2 harg2 arg3 harg3 arg4 harg4 arg5 harg5 arg6 harg6 arg7 harg7 arg8 harg8 arg10 arg11 arg14 x0 x1 x2 x3 x4 x5 x6) (ix2 i l) = ((H (hOf l)).dq (row 1 i) (eOf l) : EReal) :=
  (vQ_apply (ok := okw 1) (fun i => pQ H (row 1 i)) (fun i => pC H (row 1 i)) (fun i => pO H (row 1 i)) (fun i l => (H (hOf l)).LT (row 1 i)) (fun h i => (H h).LT (row 1 i)) (win (pK H) 1) (win (pV H) 1) (bw H) (View.readAt (Elt Ideal) arg2.view (Rect.unit (s := S1x16x1x16x128) ![0, 8, 0, 0, 0] S1x8x1x16x128.size (by decide)).toLoadRect (harg2.unread x0)) (fun h : Fin 2 => match h with | 0 => ((kernelRun0_A.sl.v240 (F := Ideal) c arg3 harg3 arg10 x1) : Vec Ideal S1x256x128 .bf16) | 1 => ((kernelRun0_A.sl.v272 (F := Ideal) c arg3 harg3 arg10 x1) : Vec Ideal S1x256x128 .bf16)) (fun h : Fin 2 => match h with | 0 => ((kernelRun0_A.sl.v259 (F := Ideal) c arg4 harg4 arg11 x2) : Vec Ideal S1x256x128 .bf16) | 1 => ((kernelRun0_A.sl.v291 (F := Ideal) c arg4 harg4 arg11 x2) : Vec Ideal S1x256x128 .bf16)) (fun h : Fin 2 => match h with | 0 => ((kernelRun0_A.sl.v244 (F := Ideal) c arg8 harg8 arg14 x6) : Vec Ideal S1x1x128x256 .f32) | 1 => ((kernelRun0_A.sl.v276 (F := Ideal) c arg8 harg8 arg14 x6) : Vec Ideal S1x1x128x256 .f32)) (View.readAt (Elt Ideal) arg5.view (Rect.unit (s := S16x1x16x128) ![8, 0, 0, 0] S8x1x16x128.size (by decide)).toLoadRect (harg5.unread x3)) (View.readAt (Elt Ideal) arg6.view (Rect.unit (s := S16x1x16x128) ![8, 0, 0, 0] S8x1x16x128.size (by decide)).toLoadRect (harg6.unread x4)) (View.readAt (Elt Ideal) arg7.view (Rect.unit (s := S16x1x16x128) ![8, 0, 0, 0] S8x1x16x128.size (by decide)).toLoadRect (harg7.unread x5))
    (load_q (pQ H) arg2 harg2 x0 hx0 1 _ _ rfl rfl rfl rfl rfl) (load_r (pC H) arg5 harg5 x3 hx3 1 _ _ rfl rfl rfl rfl) (load_r (pO H) arg6 harg6 x4 hx4 1 _ _ rfl rfl rfl rfl) (load_r (fun p l => (H (hOf l)).LT p) arg7 harg7 x5 hx5 1 _ _ rfl rfl rfl rfl) (fun h i l hl => by rw [(hdOf_iff h l).1 hl])
    (fun h c' l => match h with | 0 => window_apply arg10 _ (pK H) (HS0_apply H c arg3 harg3 x1 hx1) 1 0 _ _ rfl rfl rfl c' l | 1 => window_apply arg10 _ (pK H) (HS0_apply H c arg3 harg3 x1 hx1) 1 1 _ _ rfl rfl rfl c' l)
    (fun h c' l => match h with | 0 => window_apply arg11 _ (pV H) (HS1_apply H c arg4 harg4 x2 hx2) 1 0 _ _ rfl rfl rfl c' l | 1 => window_apply arg11 _ (pV H) (HS1_apply H c arg4 harg4 x2 hx2) 1 1 _ _ rfl rfl rfl c' l)
    (fun h i c' => match h with | 0 => bias_back H arg14 _ (HS4_apply H c arg8 harg8 x6 hx6) 1 0 _ _ rfl rfl rfl rfl i c' | 1 => bias_back H arg14 _ (HS4_apply H c arg8 harg8 x6 hx6) 1 1 _ _ rfl rfl rfl rfl i c') i l).trans (congrArg (fun x : ℝ => (x : EReal)) (kQ_eq H 1 i l))

include hx0 hx1 hx2 hx3 hx4 hx5 hx6 in
/-- The value gradients of half-block 1's window. -/
theorem dv1_apply (c' : Fin 256) (l : Fin 128) : (kernelRun0_A.sl.v314 (F := Ideal) c arg2 harg2 arg3 harg3 arg5 harg5 arg7 harg7 arg8 harg8 arg10 arg14 x0 x1 x3 x5 x6) (ix2 c' l) = (part (kP H 1) (fun i => pC H (row 1 i)) c' l : EReal) :=
  vV_apply (ok := okw 1) (fun i => pQ H (row 1 i)) (fun i => pC H (row 1 i)) (fun i l => (H (hOf l)).LT (row 1 i)) (fun h i => (H h).LT (row 1 i)) (win (pK H) 1) (bw H) (View.readAt (Elt Ideal) arg2.view (Rect.unit (s := S1x16x1x16x128) ![0, 8, 0, 0, 0] S1x8x1x16x128.size (by decide)).toLoadRect (harg2.unread x0)) (fun h : Fin 2 => match h with | 0 => ((kernelRun0_A.sl.v240 (F := Ideal) c arg3 harg3 arg10 x1) : Vec Ideal S1x256x128 .bf16) | 1 => ((kernelRun0_A.sl.v272 (F := Ideal) c arg3 harg3 arg10 x1) : Vec Ideal S1x256x128 .bf16)) (fun h : Fin 2 => match h with | 0 => ((kernelRun0_A.sl.v244 (F := Ideal) c arg8 harg8 arg14 x6) : Vec Ideal S1x1x128x256 .f32) | 1 => ((kernelRun0_A.sl.v276 (F := Ideal) c arg8 harg8 arg14 x6) : Vec Ideal S1x1x128x256 .f32)) (View.readAt (Elt Ideal) arg5.view (Rect.unit (s := S16x1x16x128) ![8, 0, 0, 0] S8x1x16x128.size (by decide)).toLoadRect (harg5.unread x3)) (View.readAt (Elt Ideal) arg7.view (Rect.unit (s := S16x1x16x128) ![8, 0, 0, 0] S8x1x16x128.size (by decide)).toLoadRect (harg7.unread x5))
    (load_q (pQ H) arg2 harg2 x0 hx0 1 _ _ rfl rfl rfl rfl rfl) (load_r (pC H) arg5 harg5 x3 hx3 1 _ _ rfl rfl rfl rfl) (load_r (fun p l => (H (hOf l)).LT p) arg7 harg7 x5 hx5 1 _ _ rfl rfl rfl rfl) (fun h i l hl => by rw [(hdOf_iff h l).1 hl])
    (fun h c' l => match h with | 0 => window_apply arg10 _ (pK H) (HS0_apply H c arg3 harg3 x1 hx1) 1 0 _ _ rfl rfl rfl c' l | 1 => window_apply arg10 _ (pK H) (HS0_apply H c arg3 harg3 x1 hx1) 1 1 _ _ rfl rfl rfl c' l)
    (fun h i c' => match h with | 0 => bias_back H arg14 _ (HS4_apply H c arg8 harg8 x6 hx6) 1 0 _ _ rfl rfl rfl rfl i c' | 1 => bias_back H arg14 _ (HS4_apply H c arg8 harg8 x6 hx6) 1 1 _ _ rfl rfl rfl rfl i c') c' l

include hx0 hx1 hx2 hx3 hx4 hx5 hx6 in
/-- The key gradients of half-block 1's window. -/
theorem dk1_apply (c' : Fin 256) (l : Fin 128) : (select k0_pay40 (kernelRun0_A.sl.v270 (F := Ideal) c arg2 harg2 arg3 harg3 arg4 harg4 arg5 harg5 arg6 harg6 arg7 harg7 arg8 harg8 arg10 arg11 arg14 x0 x1 x2 x3 x4 x5 x6) (kernelRun0_A.sl.v302 (F := Ideal) c arg2 harg2 arg3 harg3 arg4 harg4 arg5 harg5 arg6 harg6 arg7 harg7 arg8 harg8 arg10 arg11 arg14 x0 x1 x2 x3 x4 x5 x6) : FVec Ideal S256x128 .f32) (ix2 c' l) = (part (kS H 1) (fun i => pQ H (row 1 i)) c' l : EReal) :=
  vK_apply (ok := okw 1) (fun i => pQ H (row 1 i)) (fun i => pC H (row 1 i)) (fun i => pO H (row 1 i)) (fun i l => (H (hOf l)).LT (row 1 i)) (fun h i => (H h).LT (row 1 i)) (win (pK H) 1) (win (pV H) 1) (bw H) (View.readAt (Elt Ideal) arg2.view (Rect.unit (s := S1x16x1x16x128) ![0, 8, 0, 0, 0] S1x8x1x16x128.size (by decide)).toLoadRect (harg2.unread x0)) (fun h : Fin 2 => match h with | 0 => ((kernelRun0_A.sl.v240 (F := Ideal) c arg3 harg3 arg10 x1) : Vec Ideal S1x256x128 .bf16) | 1 => ((kernelRun0_A.sl.v272 (F := Ideal) c arg3 harg3 arg10 x1) : Vec Ideal S1x256x128 .bf16)) (fun h : Fin 2 => match h with | 0 => ((kernelRun0_A.sl.v259 (F := Ideal) c arg4 harg4 arg11 x2) : Vec Ideal S1x256x128 .bf16) | 1 => ((kernelRun0_A.sl.v291 (F := Ideal) c arg4 harg4 arg11 x2) : Vec Ideal S1x256x128 .bf16)) (fun h : Fin 2 => match h with | 0 => ((kernelRun0_A.sl.v244 (F := Ideal) c arg8 harg8 arg14 x6) : Vec Ideal S1x1x128x256 .f32) | 1 => ((kernelRun0_A.sl.v276 (F := Ideal) c arg8 harg8 arg14 x6) : Vec Ideal S1x1x128x256 .f32)) (View.readAt (Elt Ideal) arg5.view (Rect.unit (s := S16x1x16x128) ![8, 0, 0, 0] S8x1x16x128.size (by decide)).toLoadRect (harg5.unread x3)) (View.readAt (Elt Ideal) arg6.view (Rect.unit (s := S16x1x16x128) ![8, 0, 0, 0] S8x1x16x128.size (by decide)).toLoadRect (harg6.unread x4)) (View.readAt (Elt Ideal) arg7.view (Rect.unit (s := S16x1x16x128) ![8, 0, 0, 0] S8x1x16x128.size (by decide)).toLoadRect (harg7.unread x5))
    (load_q (pQ H) arg2 harg2 x0 hx0 1 _ _ rfl rfl rfl rfl rfl) (load_r (pC H) arg5 harg5 x3 hx3 1 _ _ rfl rfl rfl rfl) (load_r (pO H) arg6 harg6 x4 hx4 1 _ _ rfl rfl rfl rfl) (load_r (fun p l => (H (hOf l)).LT p) arg7 harg7 x5 hx5 1 _ _ rfl rfl rfl rfl) (fun h i l hl => by rw [(hdOf_iff h l).1 hl])
    (fun h c' l => match h with | 0 => window_apply arg10 _ (pK H) (HS0_apply H c arg3 harg3 x1 hx1) 1 0 _ _ rfl rfl rfl c' l | 1 => window_apply arg10 _ (pK H) (HS0_apply H c arg3 harg3 x1 hx1) 1 1 _ _ rfl rfl rfl c' l)
    (fun h c' l => match h with | 0 => window_apply arg11 _ (pV H) (HS1_apply H c arg4 harg4 x2 hx2) 1 0 _ _ rfl rfl rfl c' l | 1 => window_apply arg11 _ (pV H) (HS1_apply H c arg4 harg4 x2 hx2) 1 1 _ _ rfl rfl rfl c' l)
    (fun h i c' => match h with | 0 => bias_back H arg14 _ (HS4_apply H c arg8 harg8 x6 hx6) 1 0 _ _ rfl rfl rfl rfl i c' | 1 => bias_back H arg14 _ (HS4_apply H c arg8 harg8 x6 hx6) 1 1 _ _ rfl rfl rfl rfl i c') c' l

end Half

end CaseA
end Attn
-- ==== Proof.Attn.OutA.lean ====
/-
  The block of a step that fills the bias scratch, read at an index as real numbers.
-/
module

public import proofs.«01_k».proof.Proof.Attn.HalfA

@[expose] public section

set_option maxRecDepth 16384

noncomputable section

namespace Attn

open Idealize.ShloMosaic Idealize.ShloMosaic.ValueIdx
open Cert.KernelIdeal Cert.KernelIdeal.Gen

namespace CaseA

section Out
variable (H : Fin 2 → Head) (c : Dev nD)
  (arg2 : Memref sig .tc .vmem S1x16x1x16x128 .bf16) (harg2 : arg2.IsWhole) (arg3 : Memref sig .tc .vmem S1x16x1x16x128 .bf16) (harg3 : arg3.IsWhole)
  (arg4 : Memref sig .tc .vmem S1x16x1x16x128 .bf16) (harg4 : arg4.IsWhole) (arg5 : Memref sig .tc .vmem S16x1x16x128 .f32) (harg5 : arg5.IsWhole)
  (arg6 : Memref sig .tc .vmem S16x1x16x128 .f32) (harg6 : arg6.IsWhole) (arg7 : Memref sig .tc .vmem S16x1x16x128 .f32) (harg7 : arg7.IsWhole)
  (arg8 : Memref sig .tc .vmem S1x2x1x256 .f32) (harg8 : arg8.IsWhole)
  (arg10 arg11 : Memref sig .tc .vmem S2x384x128 .bf16) (arg12 arg13 : Memref sig .tc .vmem S384x128 .f32)
  (arg14 : Memref sig .tc .vmem S4x2x128x256 .f32) (harg14 : arg14.IsWhole)
  (x0 x1 x2 : Vec Ideal S1x16x1x16x128 .bf16) (x3 x4 x5 : Vec Ideal S16x1x16x128 .f32) (x6 : Vec Ideal S1x2x1x256 .f32) (xs4 : Vec Ideal S4x2x128x256 .f32)
  (hx0 : ∀ a b l, x0 (ix5 0 a 0 b l) = (pQ H (posn a b) l : EReal)) (hx1 : ∀ a b l, x1 (ix5 0 a 0 b l) = (pK H (posn a b) l : EReal))
  (hx2 : ∀ a b l, x2 (ix5 0 a 0 b l) = (pV H (posn a b) l : EReal)) (hx3 : ∀ a b l, x3 (ix4 a 0 b l) = (pC H (posn a b) l : EReal))
  (hx4 : ∀ a b l, x4 (ix4 a 0 b l) = (pO H (posn a b) l : EReal)) (hx5 : ∀ a b l, x5 (ix4 a 0 b l) = ((H (hOf l)).LT (posn a b) : EReal))
  (hx6 : ∀ h c, x6 (ix4 0 h 0 c) = ((H h).s : EReal))

include hx0 hx1 hx2 hx3 hx4 hx5 hx6 in
/-- The value gradients, summed over the half-blocks. -/
theorem dv_apply (j : Fin 256) (l : Fin 128) : (kernelRun0_A.sl.v341 (F := Ideal) c arg2 harg2 arg3 harg3 arg5 harg5 arg7 harg7 arg8 harg8 arg10 arg13 arg14 x0 x1 x3 x5 x6) (ix2 j l) = ((H (hOf l)).dv j (eOf l) : EReal) := by
  refine (acc_load arg13 _ _ _ 64 rfl rfl (by decide) j l).trans ?_
  refine (acc_apply (part (kP H 0) (fun i => pC H (row 0 i))) (part (kP H 1) (fun i => pC H (row 1 i))) _ _ _ _ _ _ (fun _ => ofBits32_zero) (fun c' l => ?_) (fun c' l => ?_) j l).trans
    (congrArg (fun x : ℝ => (x : EReal)) (kV_eq H j l))
  · exact (self_cast _ _ _).trans (acc_start arg13 _ _ rfl rfl _ _ (fun _ => ofBits32_zero) _ _ (dv0_apply (hx0 := hx0) (hx1 := hx1) (hx2 := hx2) (hx3 := hx3) (hx4 := hx4) (hx5 := hx5) (hx6 := hx6) ..))
  · exact (self_cast _ _ _).trans (acc_next arg13 _ _ rfl rfl _ _ _ _ (fun _ => ofBits32_zero) (part (kP H 0) (fun i => pC H (row 0 i)))
      (fun c' l => (self_cast _ _ _).trans (acc_start arg13 _ _ rfl rfl _ _ (fun _ => ofBits32_zero) _ _ (dv0_apply (hx0 := hx0) (hx1 := hx1) (hx2 := hx2) (hx3 := hx3) (hx4 := hx4) (hx5 := hx5) (hx6 := hx6) ..))) _ _ (dv1_apply (hx0 := hx0) (hx1 := hx1) (hx2 := hx2) (hx3 := hx3) (hx4 := hx4) (hx5 := hx5) (hx6 := hx6) ..))

include hx0 hx1 hx2 hx3 hx4 hx5 hx6 in
/-- The key gradients, summed over the half-blocks. -/
theorem dk_apply (j : Fin 256) (l : Fin 128) : (kernelRun0_A.sl.v335 (F := Ideal) c arg2 harg2 arg3 harg3 arg4 harg4 arg5 harg5 arg6 harg6 arg7 harg7 arg8 harg8 arg10 arg11 arg12 arg14 x0 x1 x2 x3 x4 x5 x6) (ix2 j l) = ((H (hOf l)).dk j (eOf l) : EReal) := by
  refine (acc_load arg12 _ _ _ 64 rfl rfl (by decide) j l).trans ?_
  refine (acc_apply (part (kS H 0) (fun i => pQ H (row 0 i))) (part (kS H 1) (fun i => pQ H (row 1 i))) _ _ _ _ _ _ (fun _ => ofBits32_zero) (fun c' l => ?_) (fun c' l => ?_) j l).trans
    (congrArg (fun x : ℝ => (x : EReal)) (kK_eq H j l))
  · exact (self_cast _ _ _).trans (acc_start arg12 _ _ rfl rfl _ _ (fun _ => ofBits32_zero) _ _ (dk0_apply (hx0 := hx0) (hx1 := hx1) (hx2 := hx2) (hx3 := hx3) (hx4 := hx4) (hx5 := hx5) (hx6 := hx6) ..))
  · exact (self_cast _ _ _).trans (acc_next arg12 _ _ rfl rfl _ _ _ _ (fun _ => ofBits32_zero) (part (kS H 0) (fun i => pQ H (row 0 i)))
      (fun c' l => (self_cast _ _ _).trans (acc_start arg12 _ _ rfl rfl _ _ (fun _ => ofBits32_zero) _ _ (dk0_apply (hx0 := hx0) (hx1 := hx1) (hx2 := hx2) (hx3 := hx3) (hx4 := hx4) (hx5 := hx5) (hx6 := hx6) ..))) _ _ (dk1_apply (hx0 := hx0) (hx1 := hx1) (hx2 := hx2) (hx3 := hx3) (hx4 := hx4) (hx5 := hx5) (hx6 := hx6) ..))

include hx0 hx1 hx2 hx3 hx4 hx5 hx6 in
/-- The block a step stores holds the gradients of its two heads. -/
theorem pieces_apply (i0 i1 i2 i3) (w : Fin 3) (a b : Fin 16) (l : Fin 128) :
    View.canon (Val := Elt Ideal) (s := S3x16x1x16x128) (e := .bf16)
  [⟨Rect.unit (s := S3x16x1x16x128) ![2, 0, 0, 0, 0] S1x16x1x16x128.size i0, k0_pay1 (k0_pay80 (kernelRun0_A.sl.v341 (F := Ideal) c arg2 harg2 arg3 harg3 arg5 harg5 arg7 harg7 arg8 harg8 arg10 arg13 arg14 x0 x1 x3 x5 x6))⟩,
    ⟨Rect.unit (s := S3x16x1x16x128) ![1, 0, 0, 0, 0] S1x16x1x16x128.size i1, k0_pay79 (kernelRun0_A.sl.v335 (F := Ideal) c arg2 harg2 arg3 harg3 arg4 harg4 arg5 harg5 arg6 harg6 arg7 harg7 arg8 harg8 arg10 arg11 arg12 arg14 x0 x1 x2 x3 x4 x5 x6)⟩,
    ⟨Rect.unit (s := S3x16x1x16x128) ![0, 8, 0, 0, 0] S1x8x1x16x128.size i2, k0_pay78 (kernelRun0_A.sl.v311 (F := Ideal) c arg2 harg2 arg3 harg3 arg4 harg4 arg5 harg5 arg6 harg6 arg7 harg7 arg8 harg8 arg10 arg11 arg14 x0 x1 x2 x3 x4 x5 x6)⟩,
    ⟨Rect.unit (s := S3x16x1x16x128) ![0, 0, 0, 0, 0] S1x8x1x16x128.size i3, (kernelRun0_A.sl.v207 (F := Ideal) c arg2 harg2 arg3 harg3 arg4 harg4 arg5 harg5 arg6 harg6 arg7 harg7 arg8 harg8 arg10 arg11 arg14 x0 x1 x2 x3 x4 x5 x6)⟩]
      (ix5 w a 0 b l) = (gOut H w (posn a b) l : EReal) := by
  exact out_apply H _ _ _ _ _ _ _ _ (fun a b l => (out16_cast (φ := .bf16) _ _ _ a b l).trans (dv_apply (hx0 := hx0) (hx1 := hx1) (hx2 := hx2) (hx3 := hx3) (hx4 := hx4) (hx5 := hx5) (hx6 := hx6) ..)) (fun a b l => (out16_cast (φ := .bf16) _ _ _ a b l).trans (dk_apply (hx0 := hx0) (hx1 := hx1) (hx2 := hx2) (hx3 := hx3) (hx4 := hx4) (hx5 := hx5) (hx6 := hx6) ..))
    (fun a b l => (out8_cast (φ := .bf16) _ _ _ a b l).trans (dq1_apply (hx0 := hx0) (hx1 := hx1) (hx2 := hx2) (hx3 := hx3) (hx4 := hx4) (hx5 := hx5) (hx6 := hx6) ..)) (fun a b l => (out8_cast (φ := .bf16) _ _ _ a b l).trans (dq0_apply (hx0 := hx0) (hx1 := hx1) (hx2 := hx2) (hx3 := hx3) (hx4 := hx4) (hx5 := hx5) (hx6 := hx6) ..)) w a b l

end Out

end CaseA
end Attn
-- ==== Proof.Attn.StagedB.lean ====
/-
  The words of a step that keeps the bias scratch of the step before (every residue class but a head pair's first): its staged
  copies, half-blocks and accumulators, read at an index as real numbers.
-/
module

public import proofs.«01_k».proof.Proof.Attn.Words

@[expose] public section

set_option maxRecDepth 16384

noncomputable section

namespace Attn

open Idealize.ShloMosaic Idealize.ShloMosaic.ValueIdx
open Cert.KernelIdeal Cert.KernelIdeal.Gen

namespace CaseB

section Staged
variable (H : Fin 2 → Head) (c : Dev nD)
  (arg2 : Memref sig .tc .vmem S1x16x1x16x128 .bf16) (harg2 : arg2.IsWhole) (arg3 : Memref sig .tc .vmem S1x16x1x16x128 .bf16) (harg3 : arg3.IsWhole)
  (arg4 : Memref sig .tc .vmem S1x16x1x16x128 .bf16) (harg4 : arg4.IsWhole) (arg5 : Memref sig .tc .vmem S16x1x16x128 .f32) (harg5 : arg5.IsWhole)
  (arg6 : Memref sig .tc .vmem S16x1x16x128 .f32) (harg6 : arg6.IsWhole) (arg7 : Memref sig .tc .vmem S16x1x16x128 .f32) (harg7 : arg7.IsWhole)
  (arg8 : Memref sig .tc .vmem S1x2x1x256 .f32) (harg8 : arg8.IsWhole)
  (arg10 arg11 : Memref sig .tc .vmem S2x384x128 .bf16) (arg12 arg13 : Memref sig .tc .vmem S384x128 .f32)
  (arg14 : Memref sig .tc .vmem S4x2x128x256 .f32) (harg14 : arg14.IsWhole)
  (x0 x1 x2 : Vec Ideal S1x16x1x16x128 .bf16) (x3 x4 x5 : Vec Ideal S16x1x16x128 .f32) (x6 : Vec Ideal S1x2x1x256 .f32) (xs4 : Vec Ideal S4x2x128x256 .f32)
  (hx0 : ∀ a b l, x0 (ix5 0 a 0 b l) = (pQ H (posn a b) l : EReal)) (hx1 : ∀ a b l, x1 (ix5 0 a 0 b l) = (pK H (posn a b) l : EReal))
  (hx2 : ∀ a b l, x2 (ix5 0 a 0 b l) = (pV H (posn a b) l : EReal)) (hx3 : ∀ a b l, x3 (ix4 a 0 b l) = (pC H (posn a b) l : EReal))
  (hx4 : ∀ a b l, x4 (ix4 a 0 b l) = (pO H (posn a b) l : EReal)) (hx5 : ∀ a b l, x5 (ix4 a 0 b l) = ((H (hOf l)).LT (posn a b) : EReal))

include hx1 in
/-- The staged keys. -/
theorem HS0_apply (h : Fin 2) (r : Fin 384) (l : Fin 128) :
    View.canon (kernelRun0_B.sl.HS0_6 (F := Ideal) c arg3 harg3 x1) (ix3 h r l) = (stR (pK H) h r l : EReal) := by
  unfold kernelRun0_B.sl.HS0_6
  refine staged_apply (pK H) _ _ _ _ _ _ _ _ _ _ _ _ (fun _ => ofBits16_zero) (fun _ => ofBits16_zero) (fun _ => ofBits16_zero) (fun _ => ofBits16_zero)
    (fun k l => ?_) (fun k l => ?_) h r l
  · exact stage0 (pK H) _ _ _ (fun i l => load_k (pK H) arg3 harg3 x1 hx1 _ _ rfl rfl rfl rfl rfl _ _ i l) (fun _ => ofBits16_zero) k l
  · exact stage1 (pK H) _ _ _ (fun i l => load_k (pK H) arg3 harg3 x1 hx1 _ _ rfl rfl rfl rfl rfl _ _ i l) (fun _ => ofBits16_zero) k l

include hx2 in
/-- The staged values. -/
theorem HS1_apply (h : Fin 2) (r : Fin 384) (l : Fin 128) :
    View.canon (kernelRun0_B.sl.HS1_6 (F := Ideal) c arg4 harg4 x2) (ix3 h r l) = (stR (pV H) h r l : EReal) := by
  unfold kernelRun0_B.sl.HS1_6
  refine staged_apply (pV H) _ _ _ _ _ _ _ _ _ _ _ _ (fun _ => ofBits16_zero) (fun _ => ofBits16_zero) (fun _ => ofBits16_zero) (fun _ => ofBits16_zero)
    (fun k l => ?_) (fun k l => ?_) h r l
  · exact stage0 (pV H) _ _ _ (fun i l => load_k (pV H) arg4 harg4 x2 hx2 _ _ rfl rfl rfl rfl rfl _ _ i l) (fun _ => ofBits16_zero) k l
  · exact stage1 (pV H) _ _ _ (fun i l => load_k (pV H) arg4 harg4 x2 hx2 _ _ rfl rfl rfl rfl rfl _ _ i l) (fun _ => ofBits16_zero) k l

end Staged

end CaseB
end Attn
-- ==== Proof.Attn.HalfB.lean ====
/-
  The half-blocks of a step that keeps the bias scratch of the step before, read at an index as real numbers.
-/
module

public import proofs.«01_k».proof.Proof.Attn.StagedB

@[expose] public section

set_option maxRecDepth 16384

noncomputable section

namespace Attn

open Idealize.ShloMosaic Idealize.ShloMosaic.ValueIdx
open Cert.KernelIdeal Cert.KernelIdeal.Gen

namespace CaseB

section Half
variable (H : Fin 2 → Head) (c : Dev nD)
  (arg2 : Memref sig .tc .vmem S1x16x1x16x128 .bf16) (harg2 : arg2.IsWhole) (arg3 : Memref sig .tc .vmem S1x16x1x16x128 .bf16) (harg3 : arg3.IsWhole)
  (arg4 : Memref sig .tc .vmem S1x16x1x16x128 .bf16) (harg4 : arg4.IsWhole) (arg5 : Memref sig .tc .vmem S16x1x16x128 .f32) (harg5 : arg5.IsWhole)
  (arg6 : Memref sig .tc .vmem S16x1x16x128 .f32) (harg6 : arg6.IsWhole) (arg7 : Memref sig .tc .vmem S16x1x16x128 .f32) (harg7 : arg7.IsWhole)
  (arg8 : Memref sig .tc .vmem S1x2x1x256 .f32) (harg8 : arg8.IsWhole)
  (arg10 arg11 : Memref sig .tc .vmem S2x384x128 .bf16) (arg12 arg13 : Memref sig .tc .vmem S384x128 .f32)
  (arg14 : Memref sig .tc .vmem S4x2x128x256 .f32) (harg14 : arg14.IsWhole)
  (x0 x1 x2 : Vec Ideal S1x16x1x16x128 .bf16) (x3 x4 x5 : Vec Ideal S16x1x16x128 .f32) (x6 : Vec Ideal S1x2x1x256 .f32) (xs4 : Vec Ideal S4x2x128x256 .f32)
  (hx0 : ∀ a b l, x0 (ix5 0 a 0 b l) = (pQ H (posn a b) l : EReal)) (hx1 : ∀ a b l, x1 (ix5 0 a 0 b l) = (pK H (posn a b) l : EReal))
  (hx2 : ∀ a b l, x2 (ix5 0 a 0 b l) = (pV H (posn a b) l : EReal)) (hx3 : ∀ a b l, x3 (ix4 a 0 b l) = (pC H (posn a b) l : EReal))
  (hx4 : ∀ a b l, x4 (ix4 a 0 b l) = (pO H (posn a b) l : EReal)) (hx5 : ∀ a b l, x5 (ix4 a 0 b l) = ((H (hOf l)).LT (posn a b) : EReal))
  (hb : BiasAt H xs4)

include hx0 hx1 hx2 hx3 hx4 hx5 hb in
/-- The query gradients of half-block 0. -/
theorem dq0_apply (i l : Fin 128) : (kernelRun0_B.sl.v184 (F := Ideal) c arg2 harg2 arg3 harg3 arg4 harg4 arg5 harg5 arg6 harg6 arg7 harg7 arg10 arg11 arg14 harg14 x0 x1 x2 x3 x4 x5 xs4) (ix2 i l) = ((H (hOf l)).dq (row 0 i) (eOf l) : EReal) :=
  (vQ_apply (ok := okw 0) (fun i => pQ H (row 0 i)) (fun i => pC H (row 0 i)) (fun i => pO H (row 0 i)) (fun i l => (H (hOf l)).LT (row 0 i)) (fun h i => (H h).LT (row 0 i)) (win (pK H) 0) (win (pV H) 0) (bw H) (View.readAt (Elt Ideal) arg2.view (Rect.unit (s := S1x16x1x16x128) ![0, 0, 0, 0, 0] S1x8x1x16x128.size (by decide)).toLoadRect (harg2.unread x0)) (fun h : Fin 2 => match h with | 0 => ((kernelRun0_B.sl.v113 (F := Ideal) c arg3 harg3 arg10 x1) : Vec Ideal S1x256x128 .bf16) | 1 => ((kernelRun0_B.sl.v145 (F := Ideal) c arg3 harg3 arg10 x1) : Vec Ideal S1x256x128 .bf16)) (fun h : Fin 2 => match h with | 0 => ((kernelRun0_B.sl.v132 (F := Ideal) c arg4 harg4 arg11 x2) : Vec Ideal S1x256x128 .bf16) | 1 => ((kernelRun0_B.sl.v164 (F := Ideal) c arg4 harg4 arg11 x2) : Vec Ideal S1x256x128 .bf16)) (fun h : Fin 2 => match h with | 0 => ((View.readAt (Elt Ideal) arg14.view (Rect.unit (s := S4x2x128x256) ![1, 0, 0, 0] S1x1x128x256.size (by decide)).toLoadRect (harg14.unread xs4)) : Vec Ideal S1x1x128x256 .f32) | 1 => ((View.readAt (Elt Ideal) arg14.view (Rect.unit (s := S4x2x128x256) ![1, 1, 0, 0] S1x1x128x256.size (by decide)).toLoadRect (harg14.unread xs4)) : Vec Ideal S1x1x128x256 .f32)) (View.readAt (Elt Ideal) arg5.view (Rect.unit (s := S16x1x16x128) ![0, 0, 0, 0] S8x1x16x128.size (by decide)).toLoadRect (harg5.unread x3)) (View.readAt (Elt Ideal) arg6.view (Rect.unit (s := S16x1x16x128) ![0, 0, 0, 0] S8x1x16x128.size (by decide)).toLoadRect (harg6.unread x4)) (View.readAt (Elt Ideal) arg7.view (Rect.unit (s := S16x1x16x128) ![0, 0, 0, 0] S8x1x16x128.size (by decide)).toLoadRect (harg7.unread x5))
    (load_q (pQ H) arg2 harg2 x0 hx0 0 _ _ rfl rfl rfl rfl rfl) (load_r (pC H) arg5 harg5 x3 hx3 0 _ _ rfl rfl rfl rfl) (load_r (pO H) arg6 harg6 x4 hx4 0 _ _ rfl rfl rfl rfl) (load_r (fun p l => (H (hOf l)).LT p) arg7 harg7 x5 hx5 0 _ _ rfl rfl rfl rfl) (fun h i l hl => by rw [(hdOf_iff h l).1 hl])
    (fun h c' l => match h with | 0 => window_apply arg10 _ (pK H) (HS0_apply H c arg3 harg3 x1 hx1) 0 0 _ _ rfl rfl rfl c' l | 1 => window_apply arg10 _ (pK H) (HS0_apply H c arg3 harg3 x1 hx1) 0 1 _ _ rfl rfl rfl c' l)
    (fun h c' l => match h with | 0 => window_apply arg11 _ (pV H) (HS1_apply H c arg4 harg4 x2 hx2) 0 0 _ _ rfl rfl rfl c' l | 1 => window_apply arg11 _ (pV H) (HS1_apply H c arg4 harg4 x2 hx2) 0 1 _ _ rfl rfl rfl c' l)
    (fun h i c' => match h with | 0 => bias_read H arg14 harg14 xs4 hb 0 0 _ _ rfl rfl rfl rfl i c' | 1 => bias_read H arg14 harg14 xs4 hb 0 1 _ _ rfl rfl rfl rfl i c') i l).trans (congrArg (fun x : ℝ => (x : EReal)) (kQ_eq H 0 i l))

include hx0 hx1 hx2 hx3 hx4 hx5 hb in
/-- The value gradients of half-block 0's window. -/
theorem dv0_apply (c' : Fin 256) (l : Fin 128) : (kernelRun0_B.sl.v187 (F := Ideal) c arg2 harg2 arg3 harg3 arg5 harg5 arg7 harg7 arg10 arg14 harg14 x0 x1 x3 x5 xs4) (ix2 c' l) = (part (kP H 0) (fun i => pC H (row 0 i)) c' l : EReal) :=
  vV_apply (ok := okw 0) (fun i => pQ H (row 0 i)) (fun i => pC H (row 0 i)) (fun i l => (H (hOf l)).LT (row 0 i)) (fun h i => (H h).LT (row 0 i)) (win (pK H) 0) (bw H) (View.readAt (Elt Ideal) arg2.view (Rect.unit (s := S1x16x1x16x128) ![0, 0, 0, 0, 0] S1x8x1x16x128.size (by decide)).toLoadRect (harg2.unread x0)) (fun h : Fin 2 => match h with | 0 => ((kernelRun0_B.sl.v113 (F := Ideal) c arg3 harg3 arg10 x1) : Vec Ideal S1x256x128 .bf16) | 1 => ((kernelRun0_B.sl.v145 (F := Ideal) c arg3 harg3 arg10 x1) : Vec Ideal S1x256x128 .bf16)) (fun h : Fin 2 => match h with | 0 => ((View.readAt (Elt Ideal) arg14.view (Rect.unit (s := S4x2x128x256) ![1, 0, 0, 0] S1x1x128x256.size (by decide)).toLoadRect (harg14.unread xs4)) : Vec Ideal S1x1x128x256 .f32) | 1 => ((View.readAt (Elt Ideal) arg14.view (Rect.unit (s := S4x2x128x256) ![1, 1, 0, 0] S1x1x128x256.size (by decide)).toLoadRect (harg14.unread xs4)) : Vec Ideal S1x1x128x256 .f32)) (View.readAt (Elt Ideal) arg5.view (Rect.unit (s := S16x1x16x128) ![0, 0, 0, 0] S8x1x16x128.size (by decide)).toLoadRect (harg5.unread x3)) (View.readAt (Elt Ideal) arg7.view (Rect.unit (s := S16x1x16x128) ![0, 0, 0, 0] S8x1x16x128.size (by decide)).toLoadRect (harg7.unread x5))
    (load_q (pQ H) arg2 harg2 x0 hx0 0 _ _ rfl rfl rfl rfl rfl) (load_r (pC H) arg5 harg5 x3 hx3 0 _ _ rfl rfl rfl rfl) (load_r (fun p l => (H (hOf l)).LT p) arg7 harg7 x5 hx5 0 _ _ rfl rfl rfl rfl) (fun h i l hl => by rw [(hdOf_iff h l).1 hl])
    (fun h c' l => match h with | 0 => window_apply arg10 _ (pK H) (HS0_apply H c arg3 harg3 x1 hx1) 0 0 _ _ rfl rfl rfl c' l | 1 => window_apply arg10 _ (pK H) (HS0_apply H c arg3 harg3 x1 hx1) 0 1 _ _ rfl rfl rfl c' l)
    (fun h i c' => match h with | 0 => bias_read H arg14 harg14 xs4 hb 0 0 _ _ rfl rfl rfl rfl i c' | 1 => bias_read H arg14 harg14 xs4 hb 0 1 _ _ rfl rfl rfl rfl i c') c' l

include hx0 hx1 hx2 hx3 hx4 hx5 hb in
/-- The key gradients of half-block 0's window. -/
theorem dk0_apply (c' : Fin 256) (l : Fin 128) : (kernelRun0_B.sl.v195 (F := Ideal) c arg2 harg2 arg3 harg3 arg4 harg4 arg5 harg5 arg6 harg6 arg7 harg7 arg10 arg11 arg14 harg14 x0 x1 x2 x3 x4 x5 xs4) (ix2 c' l) = (part (kS H 0) (fun i => pQ H (row 0 i)) c' l : EReal) :=
  vK_apply (ok := okw 0) (fun i => pQ H (row 0 i)) (fun i => pC H (row 0 i)) (fun i => pO H (row 0 i)) (fun i l => (H (hOf l)).LT (row 0 i)) (fun h i => (H h).LT (row 0 i)) (win (pK H) 0) (win (pV H) 0) (bw H) (View.readAt (Elt Ideal) arg2.view (Rect.unit (s := S1x16x1x16x128) ![0, 0, 0, 0, 0] S1x8x1x16x128.size (by decide)).toLoadRect (harg2.unread x0)) (fun h : Fin 2 => match h with | 0 => ((kernelRun0_B.sl.v113 (F := Ideal) c arg3 harg3 arg10 x1) : Vec Ideal S1x256x128 .bf16) | 1 => ((kernelRun0_B.sl.v145 (F := Ideal) c arg3 harg3 arg10 x1) : Vec Ideal S1x256x128 .bf16)) (fun h : Fin 2 => match h with | 0 => ((kernelRun0_B.sl.v132 (F := Ideal) c arg4 harg4 arg11 x2) : Vec Ideal S1x256x128 .bf16) | 1 => ((kernelRun0_B.sl.v164 (F := Ideal) c arg4 harg4 arg11 x2) : Vec Ideal S1x256x128 .bf16)) (fun h : Fin 2 => match h with | 0 => ((View.readAt (Elt Ideal) arg14.view (Rect.unit (s := S4x2x128x256) ![1, 0, 0, 0] S1x1x128x256.size (by decide)).toLoadRect (harg14.unread xs4)) : Vec Ideal S1x1x128x256 .f32) | 1 => ((View.readAt (Elt Ideal) arg14.view (Rect.unit (s := S4x2x128x256) ![1, 1, 0, 0] S1x1x128x256.size (by decide)).toLoadRect (harg14.unread xs4)) : Vec Ideal S1x1x128x256 .f32)) (View.readAt (Elt Ideal) arg5.view (Rect.unit (s := S16x1x16x128) ![0, 0, 0, 0] S8x1x16x128.size (by decide)).toLoadRect (harg5.unread x3)) (View.readAt (Elt Ideal) arg6.view (Rect.unit (s := S16x1x16x128) ![0, 0, 0, 0] S8x1x16x128.size (by decide)).toLoadRect (harg6.unread x4)) (View.readAt (Elt Ideal) arg7.view (Rect.unit (s := S16x1x16x128) ![0, 0, 0, 0] S8x1x16x128.size (by decide)).toLoadRect (harg7.unread x5))
    (load_q (pQ H) arg2 harg2 x0 hx0 0 _ _ rfl rfl rfl rfl rfl) (load_r (pC H) arg5 harg5 x3 hx3 0 _ _ rfl rfl rfl rfl) (load_r (pO H) arg6 harg6 x4 hx4 0 _ _ rfl rfl rfl rfl) (load_r (fun p l => (H (hOf l)).LT p) arg7 harg7 x5 hx5 0 _ _ rfl rfl rfl rfl) (fun h i l hl => by rw [(hdOf_iff h l).1 hl])
    (fun h c' l => match h with | 0 => window_apply arg10 _ (pK H) (HS0_apply H c arg3 harg3 x1 hx1) 0 0 _ _ rfl rfl rfl c' l | 1 => window_apply arg10 _ (pK H) (HS0_apply H c arg3 harg3 x1 hx1) 0 1 _ _ rfl rfl rfl c' l)
    (fun h c' l => match h with | 0 => window_apply arg11 _ (pV H) (HS1_apply H c arg4 harg4 x2 hx2) 0 0 _ _ rfl rfl rfl c' l | 1 => window_apply arg11 _ (pV H) (HS1_apply H c arg4 harg4 x2 hx2) 0 1 _ _ rfl rfl rfl c' l)
    (fun h i c' => match h with | 0 => bias_read H arg14 harg14 xs4 hb 0 0 _ _ rfl rfl rfl rfl i c' | 1 => bias_read H arg14 harg14 xs4 hb 0 1 _ _ rfl rfl rfl rfl i c') c' l

include hx0 hx1 hx2 hx3 hx4 hx5 hb in
/-- The query gradients of half-block 1. -/
theorem dq1_apply (i l : Fin 128) : (kernelRun0_B.sl.v311 (F := Ideal) c arg2 harg2 arg3 harg3 arg4 harg4 arg5 harg5 arg6 harg6 arg7 harg7 arg10 arg11 arg14 harg14 x0 x1 x2 x3 x4 x5 xs4) (ix2 i l) = ((H (hOf l)).dq (row 1 i) (eOf l) : EReal) :=
  (vQ_apply (ok := okw 1) (fun i => pQ H (row 1 i)) (fun i => pC H (row 1 i)) (fun i => pO H (row 1 i)) (fun i l => (H (hOf l)).LT (row 1 i)) (fun h i => (H h).LT (row 1 i)) (win (pK H) 1) (win (pV H) 1) (bw H) (View.readAt (Elt Ideal) arg2.view (Rect.unit (s := S1x16x1x16x128) ![0, 8, 0, 0, 0] S1x8x1x16x128.size (by decide)).toLoadRect (harg2.unread x0)) (fun h : Fin 2 => match h with | 0 => ((kernelRun0_B.sl.v240 (F := Ideal) c arg3 harg3 arg10 x1) : Vec Ideal S1x256x128 .bf16) | 1 => ((kernelRun0_B.sl.v272 (F := Ideal) c arg3 harg3 arg10 x1) : Vec Ideal S1x256x128 .bf16)) (fun h : Fin 2 => match h with | 0 => ((kernelRun0_B.sl.v259 (F := Ideal) c arg4 harg4 arg11 x2) : Vec Ideal S1x256x128 .bf16) | 1 => ((kernelRun0_B.sl.v291 (F := Ideal) c arg4 harg4 arg11 x2) : Vec Ideal S1x256x128 .bf16)) (fun h : Fin 2 => match h with | 0 => ((View.readAt (Elt Ideal) arg14.view (Rect.unit (s := S4x2x128x256) ![2, 0, 0, 0] S1x1x128x256.size (by decide)).toLoadRect (harg14.unread xs4)) : Vec Ideal S1x1x128x256 .f32) | 1 => ((View.readAt (Elt Ideal) arg14.view (Rect.unit (s := S4x2x128x256) ![2, 1, 0, 0] S1x1x128x256.size (by decide)).toLoadRect (harg14.unread xs4)) : Vec Ideal S1x1x128x256 .f32)) (View.readAt (Elt Ideal) arg5.view (Rect.unit (s := S16x1x16x128) ![8, 0, 0, 0] S8x1x16x128.size (by decide)).toLoadRect (harg5.unread x3)) (View.readAt (Elt Ideal) arg6.view (Rect.unit (s := S16x1x16x128) ![8, 0, 0, 0] S8x1x16x128.size (by decide)).toLoadRect (harg6.unread x4)) (View.readAt (Elt Ideal) arg7.view (Rect.unit (s := S16x1x16x128) ![8, 0, 0, 0] S8x1x16x128.size (by decide)).toLoadRect (harg7.unread x5))
    (load_q (pQ H) arg2 harg2 x0 hx0 1 _ _ rfl rfl rfl rfl rfl) (load_r (pC H) arg5 harg5 x3 hx3 1 _ _ rfl rfl rfl rfl) (load_r (pO H) arg6 harg6 x4 hx4 1 _ _ rfl rfl rfl rfl) (load_r (fun p l => (H (hOf l)).LT p) arg7 harg7 x5 hx5 1 _ _ rfl rfl rfl rfl) (fun h i l hl => by rw [(hdOf_iff h l).1 hl])
    (fun h c' l => match h with | 0 => window_apply arg10 _ (pK H) (HS0_apply H c arg3 harg3 x1 hx1) 1 0 _ _ rfl rfl rfl c' l | 1 => window_apply arg10 _ (pK H) (HS0_apply H c arg3 harg3 x1 hx1) 1 1 _ _ rfl rfl rfl c' l)
    (fun h c' l => match h with | 0 => window_apply arg11 _ (pV H) (HS1_apply H c arg4 harg4 x2 hx2) 1 0 _ _ rfl rfl rfl c' l | 1 => window_apply arg11 _ (pV H) (HS1_apply H c arg4 harg4 x2 hx2) 1 1 _ _ rfl rfl rfl c' l)
    (fun h i c' => match h with | 0 => bias_read H arg14 harg14 xs4 hb 1 0 _ _ rfl rfl rfl rfl i c' | 1 => bias_read H arg14 harg14 xs4 hb 1 1 _ _ rfl rfl rfl rfl i c') i l).trans (congrArg (fun x : ℝ => (x : EReal)) (kQ_eq H 1 i l))

include hx0 hx1 hx2 hx3 hx4 hx5 hb in
/-- The value gradients of half-block 1's window. -/
theorem dv1_apply (c' : Fin 256) (l : Fin 128) : (kernelRun0_B.sl.v314 (F := Ideal) c arg2 harg2 arg3 harg3 arg5 harg5 arg7 harg7 arg10 arg14 harg14 x0 x1 x3 x5 xs4) (ix2 c' l) = (part (kP H 1) (fun i => pC H (row 1 i)) c' l : EReal) :=
  vV_apply (ok := okw 1) (fun i => pQ H (row 1 i)) (fun i => pC H (row 1 i)) (fun i l => (H (hOf l)).LT (row 1 i)) (fun h i => (H h).LT (row 1 i)) (win (pK H) 1) (bw H) (View.readAt (Elt Ideal) arg2.view (Rect.unit (s := S1x16x1x16x128) ![0, 8, 0, 0, 0] S1x8x1x16x128.size (by decide)).toLoadRect (harg2.unread x0)) (fun h : Fin 2 => match h with | 0 => ((kernelRun0_B.sl.v240 (F := Ideal) c arg3 harg3 arg10 x1) : Vec Ideal S1x256x128 .bf16) | 1 => ((kernelRun0_B.sl.v272 (F := Ideal) c arg3 harg3 arg10 x1) : Vec Ideal S1x256x128 .bf16)) (fun h : Fin 2 => match h with | 0 => ((View.readAt (Elt Ideal) arg14.view (Rect.unit (s := S4x2x128x256) ![2, 0, 0, 0] S1x1x128x256.size (by decide)).toLoadRect (harg14.unread xs4)) : Vec Ideal S1x1x128x256 .f32) | 1 => ((View.readAt (Elt Ideal) arg14.view (Rect.unit (s := S4x2x128x256) ![2, 1, 0, 0] S1x1x128x256.size (by decide)).toLoadRect (harg14.unread xs4)) : Vec Ideal S1x1x128x256 .f32)) (View.readAt (Elt Ideal) arg5.view (Rect.unit (s := S16x1x16x128) ![8, 0, 0, 0] S8x1x16x128.size (by decide)).toLoadRect (harg5.unread x3)) (View.readAt (Elt Ideal) arg7.view (Rect.unit (s := S16x1x16x128) ![8, 0, 0, 0] S8x1x16x128.size (by decide)).toLoadRect (harg7.unread x5))
    (load_q (pQ H) arg2 harg2 x0 hx0 1 _ _ rfl rfl rfl rfl rfl) (load_r (pC H) arg5 harg5 x3 hx3 1 _ _ rfl rfl rfl rfl) (load_r (fun p l => (H (hOf l)).LT p) arg7 harg7 x5 hx5 1 _ _ rfl rfl rfl rfl) (fun h i l hl => by rw [(hdOf_iff h l).1 hl])
    (fun h c' l => match h with | 0 => window_apply arg10 _ (pK H) (HS0_apply H c arg3 harg3 x1 hx1) 1 0 _ _ rfl rfl rfl c' l | 1 => window_apply arg10 _ (pK H) (HS0_apply H c arg3 harg3 x1 hx1) 1 1 _ _ rfl rfl rfl c' l)
    (fun h i c' => match h with | 0 => bias_read H arg14 harg14 xs4 hb 1 0 _ _ rfl rfl rfl rfl i c' | 1 => bias_read H arg14 harg14 xs4 hb 1 1 _ _ rfl rfl rfl rfl i c') c' l

include hx0 hx1 hx2 hx3 hx4 hx5 hb in
/-- The key gradients of half-block 1's window. -/
theorem dk1_apply (c' : Fin 256) (l : Fin 128) : (select k0_pay40 (kernelRun0_B.sl.v270 (F := Ideal) c arg2 harg2 arg3 harg3 arg4 harg4 arg5 harg5 arg6 harg6 arg7 harg7 arg10 arg11 arg14 harg14 x0 x1 x2 x3 x4 x5 xs4) (kernelRun0_B.sl.v302 (F := Ideal) c arg2 harg2 arg3 harg3 arg4 harg4 arg5 harg5 arg6 harg6 arg7 harg7 arg10 arg11 arg14 harg14 x0 x1 x2 x3 x4 x5 xs4) : FVec Ideal S256x128 .f32) (ix2 c' l) = (part (kS H 1) (fun i => pQ H (row 1 i)) c' l : EReal) :=
  vK_apply (ok := okw 1) (fun i => pQ H (row 1 i)) (fun i => pC H (row 1 i)) (fun i => pO H (row 1 i)) (fun i l => (H (hOf l)).LT (row 1 i)) (fun h i => (H h).LT (row 1 i)) (win (pK H) 1) (win (pV H) 1) (bw H) (View.readAt (Elt Ideal) arg2.view (Rect.unit (s := S1x16x1x16x128) ![0, 8, 0, 0, 0] S1x8x1x16x128.size (by decide)).toLoadRect (harg2.unread x0)) (fun h : Fin 2 => match h with | 0 => ((kernelRun0_B.sl.v240 (F := Ideal) c arg3 harg3 arg10 x1) : Vec Ideal S1x256x128 .bf16) | 1 => ((kernelRun0_B.sl.v272 (F := Ideal) c arg3 harg3 arg10 x1) : Vec Ideal S1x256x128 .bf16)) (fun h : Fin 2 => match h with | 0 => ((kernelRun0_B.sl.v259 (F := Ideal) c arg4 harg4 arg11 x2) : Vec Ideal S1x256x128 .bf16) | 1 => ((kernelRun0_B.sl.v291 (F := Ideal) c arg4 harg4 arg11 x2) : Vec Ideal S1x256x128 .bf16)) (fun h : Fin 2 => match h with | 0 => ((View.readAt (Elt Ideal) arg14.view (Rect.unit (s := S4x2x128x256) ![2, 0, 0, 0] S1x1x128x256.size (by decide)).toLoadRect (harg14.unread xs4)) : Vec Ideal S1x1x128x256 .f32) | 1 => ((View.readAt (Elt Ideal) arg14.view (Rect.unit (s := S4x2x128x256) ![2, 1, 0, 0] S1x1x128x256.size (by decide)).toLoadRect (harg14.unread xs4)) : Vec Ideal S1x1x128x256 .f32)) (View.readAt (Elt Ideal) arg5.view (Rect.unit (s := S16x1x16x128) ![8, 0, 0, 0] S8x1x16x128.size (by decide)).toLoadRect (harg5.unread x3)) (View.readAt (Elt Ideal) arg6.view (Rect.unit (s := S16x1x16x128) ![8, 0, 0, 0] S8x1x16x128.size (by decide)).toLoadRect (harg6.unread x4)) (View.readAt (Elt Ideal) arg7.view (Rect.unit (s := S16x1x16x128) ![8, 0, 0, 0] S8x1x16x128.size (by decide)).toLoadRect (harg7.unread x5))
    (load_q (pQ H) arg2 harg2 x0 hx0 1 _ _ rfl rfl rfl rfl rfl) (load_r (pC H) arg5 harg5 x3 hx3 1 _ _ rfl rfl rfl rfl) (load_r (pO H) arg6 harg6 x4 hx4 1 _ _ rfl rfl rfl rfl) (load_r (fun p l => (H (hOf l)).LT p) arg7 harg7 x5 hx5 1 _ _ rfl rfl rfl rfl) (fun h i l hl => by rw [(hdOf_iff h l).1 hl])
    (fun h c' l => match h with | 0 => window_apply arg10 _ (pK H) (HS0_apply H c arg3 harg3 x1 hx1) 1 0 _ _ rfl rfl rfl c' l | 1 => window_apply arg10 _ (pK H) (HS0_apply H c arg3 harg3 x1 hx1) 1 1 _ _ rfl rfl rfl c' l)
    (fun h c' l => match h with | 0 => window_apply arg11 _ (pV H) (HS1_apply H c arg4 harg4 x2 hx2) 1 0 _ _ rfl rfl rfl c' l | 1 => window_apply arg11 _ (pV H) (HS1_apply H c arg4 harg4 x2 hx2) 1 1 _ _ rfl rfl rfl c' l)
    (fun h i c' => match h with | 0 => bias_read H arg14 harg14 xs4 hb 1 0 _ _ rfl rfl rfl rfl i c' | 1 => bias_read H arg14 harg14 xs4 hb 1 1 _ _ rfl rfl rfl rfl i c') c' l

end Half

end CaseB
end Attn
-- ==== Proof.Attn.OutB.lean ====
/-
  The block of a step that keeps the bias scratch of the step before, read at an index as real numbers.
-/
module

public import proofs.«01_k».proof.Proof.Attn.HalfB

@[expose] public section

set_option maxRecDepth 16384

noncomputable section

namespace Attn

open Idealize.ShloMosaic Idealize.ShloMosaic.ValueIdx
open Cert.KernelIdeal Cert.KernelIdeal.Gen

namespace CaseB

section Out
variable (H : Fin 2 → Head) (c : Dev nD)
  (arg2 : Memref sig .tc .vmem S1x16x1x16x128 .bf16) (harg2 : arg2.IsWhole) (arg3 : Memref sig .tc .vmem S1x16x1x16x128 .bf16) (harg3 : arg3.IsWhole)
  (arg4 : Memref sig .tc .vmem S1x16x1x16x128 .bf16) (harg4 : arg4.IsWhole) (arg5 : Memref sig .tc .vmem S16x1x16x128 .f32) (harg5 : arg5.IsWhole)
  (arg6 : Memref sig .tc .vmem S16x1x16x128 .f32) (harg6 : arg6.IsWhole) (arg7 : Memref sig .tc .vmem S16x1x16x128 .f32) (harg7 : arg7.IsWhole)
  (arg8 : Memref sig .tc .vmem S1x2x1x256 .f32) (harg8 : arg8.IsWhole)
  (arg10 arg11 : Memref sig .tc .vmem S2x384x128 .bf16) (arg12 arg13 : Memref sig .tc .vmem S384x128 .f32)
  (arg14 : Memref sig .tc .vmem S4x2x128x256 .f32) (harg14 : arg14.IsWhole)
  (x0 x1 x2 : Vec Ideal S1x16x1x16x128 .bf16) (x3 x4 x5 : Vec Ideal S16x1x16x128 .f32) (x6 : Vec Ideal S1x2x1x256 .f32) (xs4 : Vec Ideal S4x2x128x256 .f32)
  (hx0 : ∀ a b l, x0 (ix5 0 a 0 b l) = (pQ H (posn a b) l : EReal)) (hx1 : ∀ a b l, x1 (ix5 0 a 0 b l) = (pK H (posn a b) l : EReal))
  (hx2 : ∀ a b l, x2 (ix5 0 a 0 b l) = (pV H (posn a b) l : EReal)) (hx3 : ∀ a b l, x3 (ix4 a 0 b l) = (pC H (posn a b) l : EReal))
  (hx4 : ∀ a b l, x4 (ix4 a 0 b l) = (pO H (posn a b) l : EReal)) (hx5 : ∀ a b l, x5 (ix4 a 0 b l) = ((H (hOf l)).LT (posn a b) : EReal))
  (hb : BiasAt H xs4)

include hx0 hx1 hx2 hx3 hx4 hx5 hb in
/-- The value gradients, summed over the half-blocks. -/
theorem dv_apply (j : Fin 256) (l : Fin 128) : (kernelRun0_B.sl.v341 (F := Ideal) c arg2 harg2 arg3 harg3 arg5 harg5 arg7 harg7 arg10 arg13 arg14 harg14 x0 x1 x3 x5 xs4) (ix2 j l) = ((H (hOf l)).dv j (eOf l) : EReal) := by
  refine (acc_load arg13 _ _ _ 64 rfl rfl (by decide) j l).trans ?_
  refine (acc_apply (part (kP H 0) (fun i => pC H (row 0 i))) (part (kP H 1) (fun i => pC H (row 1 i))) _ _ _ _ _ _ (fun _ => ofBits32_zero) (fun c' l => ?_) (fun c' l => ?_) j l).trans
    (congrArg (fun x : ℝ => (x : EReal)) (kV_eq H j l))
  · exact (self_cast _ _ _).trans (acc_start arg13 _ _ rfl rfl _ _ (fun _ => ofBits32_zero) _ _ (dv0_apply (hx0 := hx0) (hx1 := hx1) (hx2 := hx2) (hx3 := hx3) (hx4 := hx4) (hx5 := hx5) (hb := hb) ..))
  · exact (self_cast _ _ _).trans (acc_next arg13 _ _ rfl rfl _ _ _ _ (fun _ => ofBits32_zero) (part (kP H 0) (fun i => pC H (row 0 i)))
      (fun c' l => (self_cast _ _ _).trans (acc_start arg13 _ _ rfl rfl _ _ (fun _ => ofBits32_zero) _ _ (dv0_apply (hx0 := hx0) (hx1 := hx1) (hx2 := hx2) (hx3 := hx3) (hx4 := hx4) (hx5 := hx5) (hb := hb) ..))) _ _ (dv1_apply (hx0 := hx0) (hx1 := hx1) (hx2 := hx2) (hx3 := hx3) (hx4 := hx4) (hx5 := hx5) (hb := hb) ..))

include hx0 hx1 hx2 hx3 hx4 hx5 hb in
/-- The key gradients, summed over the half-blocks. -/
theorem dk_apply (j : Fin 256) (l : Fin 128) : (kernelRun0_B.sl.v335 (F := Ideal) c arg2 harg2 arg3 harg3 arg4 harg4 arg5 harg5 arg6 harg6 arg7 harg7 arg10 arg11 arg12 arg14 harg14 x0 x1 x2 x3 x4 x5 xs4) (ix2 j l) = ((H (hOf l)).dk j (eOf l) : EReal) := by
  refine (acc_load arg12 _ _ _ 64 rfl rfl (by decide) j l).trans ?_
  refine (acc_apply (part (kS H 0) (fun i => pQ H (row 0 i))) (part (kS H 1) (fun i => pQ H (row 1 i))) _ _ _ _ _ _ (fun _ => ofBits32_zero) (fun c' l => ?_) (fun c' l => ?_) j l).trans
    (congrArg (fun x : ℝ => (x : EReal)) (kK_eq H j l))
  · exact (self_cast _ _ _).trans (acc_start arg12 _ _ rfl rfl _ _ (fun _ => ofBits32_zero) _ _ (dk0_apply (hx0 := hx0) (hx1 := hx1) (hx2 := hx2) (hx3 := hx3) (hx4 := hx4) (hx5 := hx5) (hb := hb) ..))
  · exact (self_cast _ _ _).trans (acc_next arg12 _ _ rfl rfl _ _ _ _ (fun _ => ofBits32_zero) (part (kS H 0) (fun i => pQ H (row 0 i)))
      (fun c' l => (self_cast _ _ _).trans (acc_start arg12 _ _ rfl rfl _ _ (fun _ => ofBits32_zero) _ _ (dk0_apply (hx0 := hx0) (hx1 := hx1) (hx2 := hx2) (hx3 := hx3) (hx4 := hx4) (hx5 := hx5) (hb := hb) ..))) _ _ (dk1_apply (hx0 := hx0) (hx1 := hx1) (hx2 := hx2) (hx3 := hx3) (hx4 := hx4) (hx5 := hx5) (hb := hb) ..))

include hx0 hx1 hx2 hx3 hx4 hx5 hb in
/-- The block a step stores holds the gradients of its two heads. -/
theorem pieces_apply (i0 i1 i2 i3) (w : Fin 3) (a b : Fin 16) (l : Fin 128) :
    View.canon (Val := Elt Ideal) (s := S3x16x1x16x128) (e := .bf16)
  [⟨Rect.unit (s := S3x16x1x16x128) ![2, 0, 0, 0, 0] S1x16x1x16x128.size i0, k0_pay1 (k0_pay80 (kernelRun0_B.sl.v341 (F := Ideal) c arg2 harg2 arg3 harg3 arg5 harg5 arg7 harg7 arg10 arg13 arg14 harg14 x0 x1 x3 x5 xs4))⟩,
    ⟨Rect.unit (s := S3x16x1x16x128) ![1, 0, 0, 0, 0] S1x16x1x16x128.size i1, k0_pay79 (kernelRun0_B.sl.v335 (F := Ideal) c arg2 harg2 arg3 harg3 arg4 harg4 arg5 harg5 arg6 harg6 arg7 harg7 arg10 arg11 arg12 arg14 harg14 x0 x1 x2 x3 x4 x5 xs4)⟩,
    ⟨Rect.unit (s := S3x16x1x16x128) ![0, 8, 0, 0, 0] S1x8x1x16x128.size i2, k0_pay78 (kernelRun0_B.sl.v311 (F := Ideal) c arg2 harg2 arg3 harg3 arg4 harg4 arg5 harg5 arg6 harg6 arg7 harg7 arg10 arg11 arg14 harg14 x0 x1 x2 x3 x4 x5 xs4)⟩,
    ⟨Rect.unit (s := S3x16x1x16x128) ![0, 0, 0, 0, 0] S1x8x1x16x128.size i3, (kernelRun0_B.sl.v207 (F := Ideal) c arg2 harg2 arg3 harg3 arg4 harg4 arg5 harg5 arg6 harg6 arg7 harg7 arg10 arg11 arg14 harg14 x0 x1 x2 x3 x4 x5 xs4)⟩]
      (ix5 w a 0 b l) = (gOut H w (posn a b) l : EReal) := by
  exact out_apply H _ _ _ _ _ _ _ _ (fun a b l => (out16_cast (φ := .bf16) _ _ _ a b l).trans (dv_apply (hx0 := hx0) (hx1 := hx1) (hx2 := hx2) (hx3 := hx3) (hx4 := hx4) (hx5 := hx5) (hb := hb) ..)) (fun a b l => (out16_cast (φ := .bf16) _ _ _ a b l).trans (dk_apply (hx0 := hx0) (hx1 := hx1) (hx2 := hx2) (hx3 := hx3) (hx4 := hx4) (hx5 := hx5) (hb := hb) ..))
    (fun a b l => (out8_cast (φ := .bf16) _ _ _ a b l).trans (dq1_apply (hx0 := hx0) (hx1 := hx1) (hx2 := hx2) (hx3 := hx3) (hx4 := hx4) (hx5 := hx5) (hb := hb) ..)) (fun a b l => (out8_cast (φ := .bf16) _ _ _ a b l).trans (dq0_apply (hx0 := hx0) (hx1 := hx1) (hx2 := hx2) (hx3 := hx3) (hx4 := hx4) (hx5 := hx5) (hb := hb) ..)) w a b l

end Out

end CaseB
end Attn
-- ==== Proof.Attn.Steps.lean ====
/-
  What each grid point leaves: its block of the gradients, and in the scratch the bias of its pair of heads.
-/
module

public import proofs.«01_k».proof.Proof.Attn.Region
public import proofs.«01_k».proof.Proof.Attn.OutA
public import proofs.«01_k».proof.Proof.Attn.OutB
public import proofs.«01_k».proof.Proof.Attn.BiasA
public import proofs.«01_k».proof.Proof.Gen.KernelIdeal.Value

@[expose] public section

set_option maxRecDepth 16384

noncomputable section

namespace Attn

open Idealize.ShloMosaic Idealize.ShloMosaic.ValueIdx Idealize.ShloMosaic.StableHlo Idealize.ShloMosaic.TcCoe
open Cert.KernelIdeal Cert.KernelIdeal.Gen

variable (m : (ℓ : Loc nD τ sig) → Buf (Elt Ideal) ℓ) (c : Dev nD) (A : Args) (hA : Holds m c A)
  (t : Fin cfg0.N) (p : Fin 8) (r : Fin 16) (ht : t.val = 16 * p.val + r.val)

include hA ht in
/-- The block a first point of a pair writes. -/
theorem block_A (h0 : t.val % 16 = 0) (w : Fin 3) (a b : Fin 16) (l : Fin 128) :
    (outsAt0 m c t.val t.isLt).1 (ix5 w a (0 : Fin 1) b l) = ((gOut (pair A r p) w (posn a b) l : ℝ) : EReal) := by
  rw [outsAt0_A m c t h0]
  dsimp only
  unfold out0_A_7
  rw [View.read_writes_eq_canon _ _ _ (cover0_A_7 c _ _ _ _ _ _ _ _ _ _ _ _ _ _ _ _ _ _ _ _ _ _ _ _ _ _ _ _ _ _ _ _ _ _ _)]
  unfold kernelRun0_A
  dsimp only
  exact CaseA.pieces_apply (hx0 := fun a b l => block0 m c A hA t p r ht a b l) (hx1 := fun a b l => block1 m c A hA t p r ht a b l)
    (hx2 := fun a b l => block2 m c A hA t p r ht a b l) (hx3 := fun a b l => block3 m c A hA t p r ht a b l)
    (hx4 := fun a b l => block4 m c A hA t p r ht a b l) (hx5 := fun a b l => block5 m c A hA t p r ht a b l)
    (hx6 := fun h j => block6 m c A t p r ht h j) ..

include ht in
/-- The bias a first point of a pair leaves in the scratch. -/
theorem bias_A (h0 : t.val % 16 = 0) : BiasAt (pair A r p) (outsAt0 m c t.val t.isLt).2 := by
  rw [outsAt0_A m c t h0]
  dsimp only
  unfold sout0_A_4
  rw [View.read_writes_eq_canon _ _ _ (scover0_A_4 c _ _ _ _ _ _ _ _ _ _ _ _ _ _ _ _ _ _ _ _ _ _ _ _ _ _ _ _ _ _ _ _ _ _ _)]
  unfold kernelRun0_A
  dsimp only
  exact CaseA.HS4_apply (pair A r p) c _ _ _ (fun h j => block6 m c A t p r ht h j)

include hA ht in
/-- The block a later point of a pair writes, over the scratch of the point before. -/
theorem block_B (h0 : ¬ t.val % 16 = 0)
    (hb : BiasAt (pair A r p) (outsAt0 m c (t.val - 1) (Nat.lt_of_le_of_lt (Nat.sub_le _ _) t.isLt)).2)
    (w : Fin 3) (a b : Fin 16) (l : Fin 128) :
    (outsAt0 m c t.val t.isLt).1 (ix5 w a (0 : Fin 1) b l) = ((gOut (pair A r p) w (posn a b) l : ℝ) : EReal) := by
  rw [outsAt0_B m c t h0]
  dsimp only
  unfold out0_B_7
  rw [View.read_writes_eq_canon _ _ _ (cover0_B_7 c _ _ _ _ _ _ _ _ _ _ _ _ _ _ _ _ _ _ _ _ _ _ _ _ _ _ _ _ _ _ _ _ _ _ _ _)]
  unfold kernelRun0_B
  dsimp only
  exact CaseB.pieces_apply (hx0 := fun a b l => block0 m c A hA t p r ht a b l) (hx1 := fun a b l => block1 m c A hA t p r ht a b l)
    (hx2 := fun a b l => block2 m c A hA t p r ht a b l) (hx3 := fun a b l => block3 m c A hA t p r ht a b l)
    (hx4 := fun a b l => block4 m c A hA t p r ht a b l) (hx5 := fun a b l => block5 m c A hA t p r ht a b l)
    (hb := hb) ..

/-- The bias a later point of a pair keeps in the scratch. -/
theorem bias_B (h0 : ¬ t.val % 16 = 0) :
    (outsAt0 m c t.val t.isLt).2 = (outsAt0 m c (t.val - 1) (Nat.lt_of_le_of_lt (Nat.sub_le _ _) t.isLt)).2 := by
  rw [outsAt0_B m c t h0]
  rfl

/-- The bias depends on the pair of heads, not on the residue class. -/
theorem bias_class (r r' : Fin 16) (x : Vec Ideal S4x2x128x256 .f32) (h : BiasAt (pair A r p) x) : BiasAt (pair A r' p) x :=
  fun η k i c => h η k i c

/-- After every point of a pair the scratch holds the bias of the pair. -/
theorem bias_all (p : Fin 8) : ∀ (n : ℕ) (hn : n < 16) (h : 16 * p.val + n < cfg0.N), BiasAt (pair A 0 p) (outsAt0 m c (16 * p.val + n) h).2 := by
  intro n
  induction n with
  | zero =>
    intro hn h
    have e : (16 * p.val + 0) % 16 = 0 := by omega
    exact bias_A m c A ⟨16 * p.val + 0, h⟩ p 0 rfl e
  | succ n ih =>
    intro hn h
    have e : ¬ (16 * p.val + (n + 1)) % 16 = 0 := by omega
    have hb := ih (by omega) (by omega)
    have hB := bias_B m c ⟨16 * p.val + (n + 1), h⟩ e
    dsimp only at hB
    rw [hB]
    exact hb

include hA ht in
/-- The block every point writes. -/
theorem block_all (w : Fin 3) (a b : Fin 16) (l : Fin 128) :
    (outsAt0 m c t.val t.isLt).1 (ix5 w a (0 : Fin 1) b l) = ((gOut (pair A r p) w (posn a b) l : ℝ) : EReal) := by
  by_cases h0 : t.val % 16 = 0
  · exact block_A m c A hA t p r ht h0 w a b l
  · refine block_B m c A hA t p r ht h0 ?_ w a b l
    have hr := r.isLt
    have hlt : 16 * p.val + (r.val - 1) < cfg0.N := by have := t.isLt; omega
    have hb := bias_class A p 0 r _ (bias_all m c A p (r.val - 1) (by omega) hlt)
    have e : t.val - 1 = 16 * p.val + (r.val - 1) := by omega
    have key : ∀ (n n' : ℕ) (h : n < cfg0.N) (h' : n' < cfg0.N), n = n' → outsAt0 m c n h = outsAt0 m c n' h' := by
      intro n n' h h' e
      subst e
      rfl
    rw [key _ _ _ hlt e]
    exact hb

end Attn
-- ==== Proof.Attn.Final.lean ====
/-
  The kernel's result, and the finite arrays of the precondition.
-/
module

public import proofs.«01_k».proof.Proof.Attn.Steps
public import proofs.«01_k».proof.Defs
public import Idealize.ShloMosaic.Lib.ReduceAll

@[expose] public section

set_option maxRecDepth 16384

noncomputable section

namespace Attn

open Idealize.ShloMosaic Idealize.ShloMosaic.ValueIdx Idealize.ShloMosaic.StableHlo Idealize.ShloMosaic.TcCoe
open Cert.KernelIdeal Cert.KernelIdeal.Gen

section
variable (m : (ℓ : Loc nD τ sig) → Buf (Elt Ideal) ℓ) (c : Dev nD) (A : Args) (hA : Holds m c A)

/-- A block's gradient is the gradient at its place in the array. -/
theorem gOut_eq (r : Fin 16) (p : Fin 8) (w : Fin 3) (a b : Fin 16) (l : Fin 128) :
    gOut (pair A r p) w (posn a b) l = gradAt A w a r b (laneIn p l) := by
  match w with
  | 0 => show (pair A r p (hOf l)).dq _ _ = (hd A r (headOf (laneIn p l))).dq _ _
         rw [headOf_in, laneOf_in, posOf_eq]; rfl
  | 1 => show (pair A r p (hOf l)).dk _ _ = (hd A r (headOf (laneIn p l))).dk _ _
         rw [headOf_in, laneOf_in, posOf_eq]; rfl
  | 2 => show (pair A r p (hOf l)).dv _ _ = (hd A r (headOf (laneIn p l))).dv _ _
         rw [headOf_in, laneOf_in, posOf_eq]; rfl

include hA in
/-- The kernel's result at an index. -/
theorem G7_at (w : Fin 3) (a r b : Fin 16) (y : Fin 1024) :
    Cert.KernelIdeal.Value.G7 m c (ix5 w a r b y) = ((gradAt A w a r b y : ℝ) : EReal) := by
  have hw := w.isLt
  have ha := a.isLt
  have hr := r.isLt
  have hb := b.isLt
  have hy := y.isLt
  let p : Fin 8 := ⟨y.val / 128, by omega⟩
  let l : Fin 128 := ⟨y.val % 128, by omega⟩
  have hN : cfg0.N = 128 := N_0
  have ep : Cert.KernelIdeal.Value.pt7Of (ix5 w a r b y) = 16 * p.val + r.val := by
    show 1 * (w.val / 3 - 0) + 1 * (a.val / 16 - 0) + 1 * (r.val / 1 - 0) + 16 * (b.val / 16 - 0) + 16 * (y.val / 128 - 0) = 16 * (y.val / 128) + r.val
    omega
  have hlt : Cert.KernelIdeal.Value.pt7Of (ix5 w a r b y) < cfg0.N := by
    rw [ep, hN]
    show 16 * (y.val / 128) + r.val < 128
    omega
  have el : Cert.KernelIdeal.Value.loc7Of (ix5 w a r b y) = ix5 w a (0 : Fin 1) b l := by
    funext z
    refine Fin.ext ?_
    match z with
    | ⟨0, _⟩ => show w.val % 3 = w.val; omega
    | ⟨1, _⟩ => show a.val % 16 = a.val; omega
    | ⟨2, _⟩ => show r.val % 1 = 0; omega
    | ⟨3, _⟩ => show b.val % 16 = b.val; omega
    | ⟨4, _⟩ => rfl
  have eb := block_all m c A hA ⟨_, hlt⟩ p r ep w a b l
  have ely : laneIn p l = y := by
    refine Fin.ext ?_
    show 128 * (y.val / 128) + y.val % 128 = y.val
    omega
  rw [gOut_eq, ely] at eb
  refine Eq.trans ?_ eb
  unfold Cert.KernelIdeal.Value.G7
  rw [dif_pos hlt, el]
  exact congrArg (fun z => z.1 (ix5 w a (0 : Fin 1) b l)) (Cert.KernelIdeal.Value.outsAt0_sweep m c _ hlt).symm

include hA in
/-- The kernel's result is the gradient. -/
theorem G7_eq : Cert.KernelIdeal.Value.G7 m c = fun i => ((grad A i : ℝ) : EReal) := by
  funext i
  exact (congrArg (Cert.KernelIdeal.Value.G7 m c) (eq_ix5 i)).trans (G7_at m c A hA (i 0) (i 1) (i 2) (i 3) (i 4))
end

/-! ### The precondition -/

theorem top_word : Ideal.ofBits .f32 0x7F800000#32 = ⊤ := by
  simp [Ideal.ofBits, Ideal.ieee]

/-- A number whose absolute value is below infinity is a real. -/
theorem real_of_lt (x : EReal) (h : Ideal.cmp .olt (max x (-x)) ⊤ = 1#1) : x = ((x.toReal : ℝ) : EReal) := by
  induction x using EReal.rec with
  | bot => simp [Ideal.cmp] at h
  | coe x => rfl
  | top => simp [Ideal.cmp] at h

section
variable [Cert.Pre_finite.Facts]

/-- The arrays of the precondition are finite. -/
theorem finite_of_fn (y0 : FVec Ideal Cert.Pre_finite.S3x16x16x16x1024 .bf16) (y1 : FVec Ideal Cert.Pre_finite.S16x16x16x1024 .f32)
    (y2 : FVec Ideal Cert.Pre_finite.S16x16x16x16 .f32) (y3 : FVec Ideal Cert.Pre_finite.S16x16x16x1024 .f32)
    (y4 : FVec Ideal Cert.Pre_finite.S16x16x16x16 .f32) (y5 : FVec Ideal Cert.Pre_finite.S16x16x16x1024 .f32)
    (h : Cert.Pre_finite.fn (F := Ideal) y0 y1 y2 y3 y4 y5 = fun _ => 1#1) :
    (∀ i, y0 i = (((y0 i).toReal : ℝ) : EReal)) ∧ (∀ i, y1 i = (((y1 i).toReal : ℝ) : EReal)) ∧ (∀ i, y2 i = (((y2 i).toReal : ℝ) : EReal))
      ∧ (∀ i, y3 i = (((y3 i).toReal : ℝ) : EReal)) ∧ (∀ i, y4 i = (((y4 i).toReal : ℝ) : EReal)) ∧ (∀ i, y5 i = (((y5 i).toReal : ℝ) : EReal)) := by
  have hs : Subsingleton Cert.Pre_finite.S_.Idx := ⟨fun a b => funext fun z => absurd z.isLt (by simp)⟩
  have e := congrFun h (fun z => absurd z.isLt (by simp))
  unfold Cert.Pre_finite.fn Cert.Pre_finite.fn_part1 at e
  dsimp only at e
  obtain ⟨e, f5⟩ := IntOp.andi_eq_one.1 e
  obtain ⟨e, f4⟩ := IntOp.andi_eq_one.1 e
  obtain ⟨e, f3⟩ := IntOp.andi_eq_one.1 e
  obtain ⟨e, f2⟩ := IntOp.andi_eq_one.1 e
  obtain ⟨f0, f1⟩ := IntOp.andi_eq_one.1 e
  refine ⟨fun i => real_of_lt _ ?_, fun i => real_of_lt _ ?_, fun i => real_of_lt _ ?_, fun i => real_of_lt _ ?_, fun i => real_of_lt _ ?_, fun i => real_of_lt _ ?_⟩
  · rw [← top_word]; exact Host.reduce_andi_all _ _ _ _ _ f0 i
  · rw [← top_word]; exact Host.reduce_andi_all _ _ _ _ _ f1 i
  · rw [← top_word]; exact Host.reduce_andi_all _ _ _ _ _ f2 i
  · rw [← top_word]; exact Host.reduce_andi_all _ _ _ _ _ f3 i
  · rw [← top_word]; exact Host.reduce_andi_all _ _ _ _ _ f4 i
  · rw [← top_word]; exact Host.reduce_andi_all _ _ _ _ _ f5 i

/-- The launch's arguments, as real arrays. -/
def argsOf (m : (ℓ : Loc nD τ sig) → Buf (Elt Ideal) ℓ) (c : Dev nD) : Args where
  a0 i := EReal.toReal (m ((c : Thread nD τ).loc main_arg0) i)
  a1 i := EReal.toReal (m ((c : Thread nD τ).loc main_arg1) i)
  a2 i := EReal.toReal (m ((c : Thread nD τ).loc main_arg2) i)
  a3 i := EReal.toReal (m ((c : Thread nD τ).loc main_arg3) i)
  a4 i := EReal.toReal (m ((c : Thread nD τ).loc main_arg4) i)
  a5 i := EReal.toReal (m ((c : Thread nD τ).loc main_arg5) i)

/-- Under the precondition the launch's arguments are real arrays. -/
theorem holds_of_pre (m : (ℓ : Loc nD τ sig) → Buf (Elt Ideal) ℓ) (h : Cert.Pre_KernelIdeal_finite m) (c : Dev nD) : Holds m c (argsOf m c) := by
  obtain ⟨g0, g1, g2, g3, g4, g5⟩ := finite_of_fn _ _ _ _ _ _ (h c)
  exact ⟨funext g0, funext g1, funext g2, funext g3, funext g4, funext g5⟩
end

end Attn
-- ==== Proof.Ffn.Sums.lean ====
/-
  Sums split into equal blocks, and a nonnegative real factor over a sum of extended reals.
-/
module

public import Idealize.ShloMosaic.Lib.ValueIdxCore
public import Idealize.ShloMosaic.Lib.MatmulPlain

@[expose] public section

noncomputable section

namespace Ffn

open Idealize.ShloMosaic

/-- The `r`-th index of block `i`, of `k` blocks of `b`. -/
abbrev inBlock {k b n : ℕ} (hn : n = k * b) (i : Fin k) (r : Fin b) : Fin n :=
  ⟨i.val * b + r.val, by
    have hi := i.isLt; have hr := r.isLt
    calc i.val * b + r.val < i.val * b + b := by omega
      _ = (i.val + 1) * b := by ring
      _ ≤ k * b := Nat.mul_le_mul_right b hi
      _ = n := hn.symm⟩

/-- A sum over `k` blocks of `b` is the sum of the block sums. -/
theorem sum_inBlock {M : Type} [AddCommMonoid M] {k b n : ℕ} (hn : n = k * b) (f : Fin n → M) :
    ∑ s, f s = ∑ i : Fin k, ∑ r : Fin b, f (inBlock hn i r) := by
  subst hn
  rw [← finProdFinEquiv.sum_comp, Fintype.sum_prod_type]
  refine Finset.sum_congr rfl fun i _ => Finset.sum_congr rfl fun r _ => congrArg f (Fin.ext ?_)
  show r.val + b * i.val = i.val * b + r.val
  ring

/-- A nonnegative real factor over a finite sum of extended reals. -/
theorem coe_mul_sum {ι : Type} (s : Finset ι) (x : ℝ) (hx : 0 ≤ x) (f : ι → EReal) : (x : EReal) * ∑ i ∈ s, f i = ∑ i ∈ s, (x : EReal) * f i := by
  classical
  induction s using Finset.induction_on with
  | empty => simp
  | insert a s ha ih => rw [Finset.sum_insert ha, Finset.sum_insert ha, ← ih, EReal.left_distrib_of_nonneg_of_ne_top (EReal.coe_nonneg.2 hx) (EReal.coe_ne_top x)]

/-- The constant one. -/
theorem ofBits_one : Ideal.ofBits .f32 0x3F800000#32 = (1 : EReal) := by
  rw [← EReal.coe_one]
  simp [Ideal.ofBits, Ideal.ieee, -EReal.coe_mul, -EReal.coe_one]; norm_num

/-- The constant one half. -/
theorem ofBits_half : Ideal.ofBits .f32 0x3F000000#32 = ((1 / 2 : ℝ) : EReal) := by
  simp [Ideal.ofBits, Ideal.ieee, -EReal.coe_mul]; norm_num

end Ffn
-- ==== Proof.Ffn.BwdOps.lean ====
/-
  The feed-forward half step's backward pass: one grid point's products of a weight block, read at an index.
-/
module

public import proofs.«01_k».proof.Proof.Ffn.Sums
public import proofs.«01_k».proof.Proof.Gen.Kernel2Ideal.Skeleton
public import Idealize.ShloMosaic.Lib.Pipeline.Value

@[expose] public section

set_option maxRecDepth 16384

noncomputable section

namespace Ffn.Bwd

open Idealize.ShloMosaic Idealize.ShloMosaic.ValueIdx
open Cert.Kernel2Ideal Cert.Kernel2Ideal.Gen

/-- The hidden value of a unit from its two projections. -/
def hid (a u : EReal) : EReal := a * Ideal.logistic a * u
/-- The gradient of the gate projection, from the hidden unit's gradient. -/
def dgate (t a u : EReal) : EReal :=
  t * u * (Ideal.logistic a * (Ideal.ofBits .f32 0x3F800000#32 + a * (Ideal.ofBits .f32 0x3F800000#32 - Ideal.logistic a)))
/-- The gradient of the up projection, from the hidden unit's gradient. -/
def dup (t a : EReal) : EReal := t * (a * Ideal.logistic a)

/-- A block of rows times a tile of 256 weight rows. -/
theorem mm_nt256 {φ₁ φ₂ : FTy} (a : FVec Ideal S1024x1024 φ₁) (b : FVec Ideal S256x1024 φ₂) (i : Fin 1024) (p : Fin 256) :
    matmul (F := Ideal) dot_S1024x1024_S256x1024_S1024x256_1_1_0_0_n_n none a b (constant (F := Ideal) S1024x256 .f32 0x00000000#32) (ix2 i p)
      = ∑ d : Fin 1024, a (ix2 i d) * b (ix2 p d) := by
  refine Eq.trans (Ideal.matmul_constant_zero_apply dot_S1024x1024_S256x1024_S1024x256_1_1_0_0_n_n none a b (ix2 i p)) ?_
  rw [← Equiv.sum_comp (contrEquiv1 dot_S1024x1024_S256x1024_S1024x256_1_1_0_0_n_n 1024 rfl rfl).symm]
  refine Finset.sum_congr rfl fun k _ => ?_
  have hk := contrEquiv1_symm_val dot_S1024x1024_S256x1024_S1024x256_1_1_0_0_n_n 1024 rfl rfl k
  have el : dot_S1024x1024_S256x1024_S1024x256_1_1_0_0_n_n.lhsIdx (ix2 i p) ((contrEquiv1 dot_S1024x1024_S256x1024_S1024x256_1_1_0_0_n_n 1024 rfl rfl).symm k) = ix2 i k := by
    funext a; apply Fin.ext
    match a with
    | ⟨0, _⟩ => rfl
    | ⟨1, _⟩ => exact hk
  have er : dot_S1024x1024_S256x1024_S1024x256_1_1_0_0_n_n.rhsIdx (ix2 i p) ((contrEquiv1 dot_S1024x1024_S256x1024_S1024x256_1_1_0_0_n_n 1024 rfl rfl).symm k) = ix2 p k := by
    funext a; apply Fin.ext
    match a with
    | ⟨0, _⟩ => rfl
    | ⟨1, _⟩ => exact hk
  rw [el, er]

/-- A block of 512 joined columns times 512 joined weight rows. -/
theorem mm_nn512 {φ₁ φ₂ : FTy} (a : FVec Ideal S1024x512 φ₁) (b : FVec Ideal S512x1024 φ₂) (i d : Fin 1024) :
    matmul (F := Ideal) dot_S1024x512_S512x1024_S1024x1024_1_0_0_1_n_n none a b (constant (F := Ideal) S1024x1024 .f32 0x00000000#32) (ix2 i d)
      = ∑ p : Fin 512, a (ix2 i p) * b (ix2 p d) := by
  refine Eq.trans (Ideal.matmul_constant_zero_apply dot_S1024x512_S512x1024_S1024x1024_1_0_0_1_n_n none a b (ix2 i d)) ?_
  rw [← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 i d) ((contrEquiv1 dot_S1024x512_S512x1024_S1024x1024_1_0_0_1_n_n 512 rfl rfl).symm k) = ix2 i k := by
    funext a; apply Fin.ext
    match a with
    | ⟨0, _⟩ => rfl
    | ⟨1, _⟩ => exact hk
  have er : dot_S1024x512_S512x1024_S1024x1024_1_0_0_1_n_n.rhsIdx (ix2 i d) ((contrEquiv1 dot_S1024x512_S512x1024_S1024x1024_1_0_0_1_n_n 512 rfl rfl).symm k) = ix2 k d := by
    funext a; apply Fin.ext
    match a with
    | ⟨0, _⟩ => exact hk
    | ⟨1, _⟩ => rfl
  rw [el, er]

/-- The product of joined columns with joined rows is the sum of the two products. -/
theorem joined256 (a b : FVec Ideal S1024x256 .bf16) (v w : FVec Ideal S256x1024 .bf16) (h₁ h₀) (i d : Fin 1024) :
    matmul (F := Ideal) dot_S1024x512_S512x1024_S1024x1024_1_0_0_1_n_n none (concatenate S1024x512 1 [⟨S1024x256, a⟩, ⟨S1024x256, b⟩] h₁) (concatenate S512x1024 0 [⟨S256x1024, v⟩, ⟨S256x1024, w⟩] h₀)
        (constant (F := Ideal) S1024x1024 .f32 0x00000000#32) (ix2 i d)
      = ∑ p : Fin 256, a (ix2 i p) * v (ix2 p d) + ∑ p : Fin 256, b (ix2 i p) * w (ix2 p d) := by
  rw [mm_nn512]
  refine Eq.trans (Fin.sum_univ_add (a := 256) (b := 256) fun p : Fin 512 =>
    (concatenate S1024x512 1 [⟨S1024x256, a⟩, ⟨S1024x256, b⟩] h₁ (ix2 i p) * concatenate S512x1024 0 [⟨S256x1024, v⟩, ⟨S256x1024, w⟩] h₀ (ix2 p d) : EReal)) ?_
  refine congrArg₂ (· + ·) (Finset.sum_congr rfl fun p _ => ?_) (Finset.sum_congr rfl fun p _ => ?_)
  · refine congrArg₂ (fun s t : EReal => s * t) (concatenate_pair_apply_left 1 a b h₁ _ rfl (ix2 i p) fun z => ?_) (concatenate_pair_apply_left 0 v w h₀ _ rfl (ix2 p d) fun z => ?_)
    · match z with
      | ⟨0, _⟩ => rfl
      | ⟨1, _⟩ => rfl
    · match z with
      | ⟨0, _⟩ => rfl
      | ⟨1, _⟩ => rfl
  · refine congrArg₂ (fun s t : EReal => s * t) (concatenate_pair_apply_right 1 a b h₁ _ rfl rfl (ix2 i p) (fun z hz => ?_) ?_) (concatenate_pair_apply_right 0 v w h₀ _ rfl rfl (ix2 p d) (fun z hz => ?_) ?_)
    · match z with
      | ⟨0, _⟩ => rfl
      | ⟨1, _⟩ => exact absurd rfl hz
    · show p.val + 256 = 256 + p.val; omega
    · match z with
      | ⟨0, _⟩ => exact absurd rfl hz
      | ⟨1, _⟩ => rfl
    · show p.val + 256 = 256 + p.val; omega

/-- A weight tile without its unit axis. -/
theorem tile256 (v : Vec Ideal S1x256x1024 .bf16) (p : Fin 256) (d : Fin 1024) :
    shapeCast S256x1024 v shapeCasts_S1x256x1024_S256x1024 (ix2 p d) = v (ix3 (0 : Fin 1) p d) := by
  refine shapeCast_apply _ _ _ (ix3 (0 : Fin 1) p d) ?_
  rw [Shape.rowMajor_val_two, Shape.rowMajor_val_three]
  show (0 * 256 + p.val) * 1024 + d.val = p.val * 1024 + d.val
  omega

/-- A tile of hidden columns, given a unit axis. -/
theorem lead256 (v : FVec Ideal S1024x256 .bf16) (i : Fin 1024) (p : Fin 256) :
    shapeCast S1x1024x256 v shapeCasts_S1024x256_S1x1024x256 (ix3 (0 : Fin 1) i p) = v (ix2 i p) := by
  refine shapeCast_apply _ _ _ (ix2 i p) ?_
  rw [Shape.rowMajor_val_two, Shape.rowMajor_val_three]
  show i.val * 256 + p.val = (0 * 1024 + i.val) * 256 + p.val
  omega

/-- A tile of hidden columns without its unit axis. -/
theorem strip256 (v : Vec Ideal S1x1024x256 .bf16) (i : Fin 1024) (p : Fin 256) :
    shapeCast S1024x256 v shapeCasts_S1x1024x256_S1024x256 (ix2 i p) = v (ix3 (0 : Fin 1) i p) := by
  refine shapeCast_apply _ _ _ (ix3 (0 : Fin 1) i p) ?_
  rw [Shape.rowMajor_val_two, Shape.rowMajor_val_three]
  show (0 * 1024 + i.val) * 256 + p.val = i.val * 256 + p.val
  omega

/-- A block of rows times a tile of 192 weight rows. -/
theorem mm_nt192 {φ₁ φ₂ : FTy} (a : FVec Ideal S1024x1024 φ₁) (b : FVec Ideal S192x1024 φ₂) (i : Fin 1024) (p : Fin 192) :
    matmul (F := Ideal) dot_S1024x1024_S192x1024_S1024x192_1_1_0_0_n_n none a b (constant (F := Ideal) S1024x192 .f32 0x00000000#32) (ix2 i p)
      = ∑ d : Fin 1024, a (ix2 i d) * b (ix2 p d) := by
  refine Eq.trans (Ideal.matmul_constant_zero_apply dot_S1024x1024_S192x1024_S1024x192_1_1_0_0_n_n none a b (ix2 i p)) ?_
  rw [← Equiv.sum_comp (contrEquiv1 dot_S1024x1024_S192x1024_S1024x192_1_1_0_0_n_n 1024 rfl rfl).symm]
  refine Finset.sum_congr rfl fun k _ => ?_
  have hk := contrEquiv1_symm_val dot_S1024x1024_S192x1024_S1024x192_1_1_0_0_n_n 1024 rfl rfl k
  have el : dot_S1024x1024_S192x1024_S1024x192_1_1_0_0_n_n.lhsIdx (ix2 i p) ((contrEquiv1 dot_S1024x1024_S192x1024_S1024x192_1_1_0_0_n_n 1024 rfl rfl).symm k) = ix2 i k := by
    funext a; apply Fin.ext
    match a with
    | ⟨0, _⟩ => rfl
    | ⟨1, _⟩ => exact hk
  have er : dot_S1024x1024_S192x1024_S1024x192_1_1_0_0_n_n.rhsIdx (ix2 i p) ((contrEquiv1 dot_S1024x1024_S192x1024_S1024x192_1_1_0_0_n_n 1024 rfl rfl).symm k) = ix2 p k := by
    funext a; apply Fin.ext
    match a with
    | ⟨0, _⟩ => rfl
    | ⟨1, _⟩ => exact hk
  rw [el, er]

/-- A block of 384 joined columns times 384 joined weight rows. -/
theorem mm_nn384 {φ₁ φ₂ : FTy} (a : FVec Ideal S1024x384 φ₁) (b : FVec Ideal S384x1024 φ₂) (i d : Fin 1024) :
    matmul (F := Ideal) dot_S1024x384_S384x1024_S1024x1024_1_0_0_1_n_n none a b (constant (F := Ideal) S1024x1024 .f32 0x00000000#32) (ix2 i d)
      = ∑ p : Fin 384, a (ix2 i p) * b (ix2 p d) := by
  refine Eq.trans (Ideal.matmul_constant_zero_apply dot_S1024x384_S384x1024_S1024x1024_1_0_0_1_n_n none a b (ix2 i d)) ?_
  rw [← Equiv.sum_comp (contrEquiv1 dot_S1024x384_S384x1024_S1024x1024_1_0_0_1_n_n 384 rfl rfl).symm]
  refine Finset.sum_congr rfl fun k _ => ?_
  have hk := contrEquiv1_symm_val dot_S1024x384_S384x1024_S1024x1024_1_0_0_1_n_n 384 rfl rfl k
  have el : dot_S1024x384_S384x1024_S1024x1024_1_0_0_1_n_n.lhsIdx (ix2 i d) ((contrEquiv1 dot_S1024x384_S384x1024_S1024x1024_1_0_0_1_n_n 384 rfl rfl).symm k) = ix2 i k := by
    funext a; apply Fin.ext
    match a with
    | ⟨0, _⟩ => rfl
    | ⟨1, _⟩ => exact hk
  have er : dot_S1024x384_S384x1024_S1024x1024_1_0_0_1_n_n.rhsIdx (ix2 i d) ((contrEquiv1 dot_S1024x384_S384x1024_S1024x1024_1_0_0_1_n_n 384 rfl rfl).symm k) = ix2 k d := by
    funext a; apply Fin.ext
    match a with
    | ⟨0, _⟩ => exact hk
    | ⟨1, _⟩ => rfl
  rw [el, er]

/-- The product of joined columns with joined rows is the sum of the two products. -/
theorem joined192 (a b : FVec Ideal S1024x192 .bf16) (v w : FVec Ideal S192x1024 .bf16) (h₁ h₀) (i d : Fin 1024) :
    matmul (F := Ideal) dot_S1024x384_S384x1024_S1024x1024_1_0_0_1_n_n none (concatenate S1024x384 1 [⟨S1024x192, a⟩, ⟨S1024x192, b⟩] h₁) (concatenate S384x1024 0 [⟨S192x1024, v⟩, ⟨S192x1024, w⟩] h₀)
        (constant (F := Ideal) S1024x1024 .f32 0x00000000#32) (ix2 i d)
      = ∑ p : Fin 192, a (ix2 i p) * v (ix2 p d) + ∑ p : Fin 192, b (ix2 i p) * w (ix2 p d) := by
  rw [mm_nn384]
  refine Eq.trans (Fin.sum_univ_add (a := 192) (b := 192) fun p : Fin 384 =>
    (concatenate S1024x384 1 [⟨S1024x192, a⟩, ⟨S1024x192, b⟩] h₁ (ix2 i p) * concatenate S384x1024 0 [⟨S192x1024, v⟩, ⟨S192x1024, w⟩] h₀ (ix2 p d) : EReal)) ?_
  refine congrArg₂ (· + ·) (Finset.sum_congr rfl fun p _ => ?_) (Finset.sum_congr rfl fun p _ => ?_)
  · refine congrArg₂ (fun s t : EReal => s * t) (concatenate_pair_apply_left 1 a b h₁ _ rfl (ix2 i p) fun z => ?_) (concatenate_pair_apply_left 0 v w h₀ _ rfl (ix2 p d) fun z => ?_)
    · match z with
      | ⟨0, _⟩ => rfl
      | ⟨1, _⟩ => rfl
    · match z with
      | ⟨0, _⟩ => rfl
      | ⟨1, _⟩ => rfl
  · refine congrArg₂ (fun s t : EReal => s * t) (concatenate_pair_apply_right 1 a b h₁ _ rfl rfl (ix2 i p) (fun z hz => ?_) ?_) (concatenate_pair_apply_right 0 v w h₀ _ rfl rfl (ix2 p d) (fun z hz => ?_) ?_)
    · match z with
      | ⟨0, _⟩ => rfl
      | ⟨1, _⟩ => exact absurd rfl hz
    · show p.val + 192 = 192 + p.val; omega
    · match z with
      | ⟨0, _⟩ => exact absurd rfl hz
      | ⟨1, _⟩ => rfl
    · show p.val + 192 = 192 + p.val; omega

/-- A weight tile without its unit axis. -/
theorem tile192 (v : Vec Ideal S1x192x1024 .bf16) (p : Fin 192) (d : Fin 1024) :
    shapeCast S192x1024 v shapeCasts_S1x192x1024_S192x1024 (ix2 p d) = v (ix3 (0 : Fin 1) p d) := by
  refine shapeCast_apply _ _ _ (ix3 (0 : Fin 1) p d) ?_
  rw [Shape.rowMajor_val_two, Shape.rowMajor_val_three]
  show (0 * 192 + p.val) * 1024 + d.val = p.val * 1024 + d.val
  omega

/-- A tile of hidden columns, given a unit axis. -/
theorem lead192 (v : FVec Ideal S1024x192 .bf16) (i : Fin 1024) (p : Fin 192) :
    shapeCast S1x1024x192 v shapeCasts_S1024x192_S1x1024x192 (ix3 (0 : Fin 1) i p) = v (ix2 i p) := by
  refine shapeCast_apply _ _ _ (ix2 i p) ?_
  rw [Shape.rowMajor_val_two, Shape.rowMajor_val_three]
  show i.val * 192 + p.val = (0 * 1024 + i.val) * 192 + p.val
  omega

/-- A tile of hidden columns without its unit axis. -/
theorem strip192 (v : Vec Ideal S1x1024x192 .bf16) (i : Fin 1024) (p : Fin 192) :
    shapeCast S1024x192 v shapeCasts_S1x1024x192_S1024x192 (ix2 i p) = v (ix3 (0 : Fin 1) i p) := by
  refine shapeCast_apply _ _ _ (ix3 (0 : Fin 1) i p) ?_
  rw [Shape.rowMajor_val_two, Shape.rowMajor_val_three]
  show (0 * 1024 + i.val) * 192 + p.val = i.val * 192 + p.val
  omega

variable (xb : Vec Ideal S1024x1024 .bf16)

/-- The hidden units' gradients in tile 0. -/
theorem grad0_apply (w : Vec Ideal S1x256x1024 .bf16) (i : Fin 1024) (p : Fin 256) :
    k0_pay4 (F := Ideal) xb w (ix2 i p) = ∑ e : Fin 1024, xb (ix2 i e) * w (ix3 (0 : Fin 1) p e) := by
  unfold k0_pay4
  exact (mm_nt256 _ _ i p).trans (Finset.sum_congr rfl fun d _ => by rw [tile256])
/-- A saved gate projection of tile 0. -/
theorem gate0_apply (v : Vec Ideal S1x1024x256 .bf16) (i : Fin 1024) (p : Fin 256) : k0_pay5 (F := Ideal) v (ix2 i p) = v (ix3 (0 : Fin 1) i p) := by
  unfold k0_pay5
  exact strip256 v i p
/-- A saved up projection of tile 0. -/
theorem up0_apply (v : Vec Ideal S1x1024x256 .bf16) (i : Fin 1024) (p : Fin 256) : k0_pay6 (F := Ideal) v (ix2 i p) = v (ix3 (0 : Fin 1) i p) := by
  unfold k0_pay6
  exact strip256 v i p

/-- The hidden units' gradients in tile 1. -/
theorem grad1_apply (w : Vec Ideal S1x256x1024 .bf16) (i : Fin 1024) (p : Fin 256) :
    k0_pay15 (F := Ideal) xb w (ix2 i p) = ∑ e : Fin 1024, xb (ix2 i e) * w (ix3 (0 : Fin 1) p e) := by
  unfold k0_pay15
  exact (mm_nt256 _ _ i p).trans (Finset.sum_congr rfl fun d _ => by rw [tile256])
/-- A saved gate projection of tile 1. -/
theorem gate1_apply (v : Vec Ideal S1x1024x256 .bf16) (i : Fin 1024) (p : Fin 256) : k0_pay16 (F := Ideal) v (ix2 i p) = v (ix3 (0 : Fin 1) i p) := by
  unfold k0_pay16
  exact strip256 v i p
/-- A saved up projection of tile 1. -/
theorem up1_apply (v : Vec Ideal S1x1024x256 .bf16) (i : Fin 1024) (p : Fin 256) : k0_pay17 (F := Ideal) v (ix2 i p) = v (ix3 (0 : Fin 1) i p) := by
  unfold k0_pay17
  exact strip256 v i p

/-- The hidden units' gradients in tile 2. -/
theorem grad2_apply (w : Vec Ideal S1x192x1024 .bf16) (i : Fin 1024) (p : Fin 192) :
    k0_pay28 (F := Ideal) xb w (ix2 i p) = ∑ e : Fin 1024, xb (ix2 i e) * w (ix3 (0 : Fin 1) p e) := by
  unfold k0_pay28
  exact (mm_nt192 _ _ i p).trans (Finset.sum_congr rfl fun d _ => by rw [tile192])
/-- A saved gate projection of tile 2. -/
theorem gate2_apply (v : Vec Ideal S1x1024x192 .bf16) (i : Fin 1024) (p : Fin 192) : k0_pay29 (F := Ideal) v (ix2 i p) = v (ix3 (0 : Fin 1) i p) := by
  unfold k0_pay29
  exact strip192 v i p
/-- A saved up projection of tile 2. -/
theorem up2_apply (v : Vec Ideal S1x1024x192 .bf16) (i : Fin 1024) (p : Fin 192) : k0_pay30 (F := Ideal) v (ix2 i p) = v (ix3 (0 : Fin 1) i p) := by
  unfold k0_pay30
  exact strip192 v i p

/-- The gradient of the gate projection in tile 0. -/
theorem dgate0_apply (wd : Vec Ideal S1x256x1024 .bf16) (va vu : Vec Ideal S1x1024x256 .bf16) (i : Fin 1024) (p : Fin 256) : k0_pay10 (F := Ideal) xb wd va vu (ix2 i p) = dgate (∑ e : Fin 1024, xb (ix2 i e) * wd (ix3 (0 : Fin 1) p e)) (va (ix3 (0 : Fin 1) i p)) (vu (ix3 (0 : Fin 1) i p)) := by
  rw [← grad0_apply xb wd, ← gate0_apply va, ← up0_apply vu]
  rfl
/-- The gradient of the up projection in tile 0. -/
theorem dup0_apply (wd : Vec Ideal S1x256x1024 .bf16) (va : Vec Ideal S1x1024x256 .bf16) (i : Fin 1024) (p : Fin 256) : k0_pay11 (F := Ideal) xb wd va (ix2 i p) = dup (∑ e : Fin 1024, xb (ix2 i e) * wd (ix3 (0 : Fin 1) p e)) (va (ix3 (0 : Fin 1) i p)) := by
  rw [← grad0_apply xb wd, ← gate0_apply va]
  rfl
/-- The stored gradient of the gate projection in tile 0. -/
theorem sgate0_apply (wd : Vec Ideal S1x256x1024 .bf16) (va vu : Vec Ideal S1x1024x256 .bf16) (i : Fin 1024) (p : Fin 256) : k0_pay12 (F := Ideal) xb wd va vu (ix3 (0 : Fin 1) i p) = dgate (∑ e : Fin 1024, xb (ix2 i e) * wd (ix3 (0 : Fin 1) p e)) (va (ix3 (0 : Fin 1) i p)) (vu (ix3 (0 : Fin 1) i p)) := by
  unfold k0_pay12
  exact (lead256 _ i p).trans (dgate0_apply xb wd va vu i p)
/-- The stored gradient of the up projection in tile 0. -/
theorem sup0_apply (wd : Vec Ideal S1x256x1024 .bf16) (va : Vec Ideal S1x1024x256 .bf16) (i : Fin 1024) (p : Fin 256) : k0_pay13 (F := Ideal) (k0_pay11 (F := Ideal) xb wd va) (ix3 (0 : Fin 1) i p) = dup (∑ e : Fin 1024, xb (ix2 i e) * wd (ix3 (0 : Fin 1) p e)) (va (ix3 (0 : Fin 1) i p)) := by
  unfold k0_pay13
  exact (lead256 _ i p).trans (dup0_apply xb wd va i p)
/-- The stored hidden value in tile 0. -/
theorem shid0_apply (va vu : Vec Ideal S1x1024x256 .bf16) (i : Fin 1024) (p : Fin 256) : k0_pay9 (F := Ideal) va vu (ix3 (0 : Fin 1) i p) = hid (va (ix3 (0 : Fin 1) i p)) (vu (ix3 (0 : Fin 1) i p)) := by
  unfold k0_pay9
  refine (lead256 _ i p).trans ?_
  rw [← gate0_apply va, ← up0_apply vu]
  rfl

/-- The gradient of the gate projection in tile 1. -/
theorem dgate1_apply (wd : Vec Ideal S1x256x1024 .bf16) (va vu : Vec Ideal S1x1024x256 .bf16) (i : Fin 1024) (p : Fin 256) : k0_pay23 (F := Ideal) (k0_pay18 (F := Ideal) va) (k0_pay21 (F := Ideal) xb wd vu) (k0_pay22 (F := Ideal) va) (ix2 i p) = dgate (∑ e : Fin 1024, xb (ix2 i e) * wd (ix3 (0 : Fin 1) p e)) (va (ix3 (0 : Fin 1) i p)) (vu (ix3 (0 : Fin 1) i p)) := by
  rw [← grad1_apply xb wd, ← gate1_apply va, ← up1_apply vu]
  rfl
/-- The gradient of the up projection in tile 1. -/
theorem dup1_apply (wd : Vec Ideal S1x256x1024 .bf16) (va : Vec Ideal S1x1024x256 .bf16) (i : Fin 1024) (p : Fin 256) : k0_pay24 (F := Ideal) (k0_pay15 (F := Ideal) xb wd) (k0_pay19 (F := Ideal) va) (ix2 i p) = dup (∑ e : Fin 1024, xb (ix2 i e) * wd (ix3 (0 : Fin 1) p e)) (va (ix3 (0 : Fin 1) i p)) := by
  rw [← grad1_apply xb wd, ← gate1_apply va]
  rfl
/-- The stored gradient of the gate projection in tile 1. -/
theorem sgate1_apply (wd : Vec Ideal S1x256x1024 .bf16) (va vu : Vec Ideal S1x1024x256 .bf16) (i : Fin 1024) (p : Fin 256) : k0_pay25 (F := Ideal) (k0_pay18 (F := Ideal) va) (k0_pay21 (F := Ideal) xb wd vu) (k0_pay22 (F := Ideal) va) (ix3 (0 : Fin 1) i p) = dgate (∑ e : Fin 1024, xb (ix2 i e) * wd (ix3 (0 : Fin 1) p e)) (va (ix3 (0 : Fin 1) i p)) (vu (ix3 (0 : Fin 1) i p)) := by
  unfold k0_pay25
  exact (lead256 _ i p).trans (dgate1_apply xb wd va vu i p)
/-- The stored gradient of the up projection in tile 1. -/
theorem sup1_apply (wd : Vec Ideal S1x256x1024 .bf16) (va : Vec Ideal S1x1024x256 .bf16) (i : Fin 1024) (p : Fin 256) : k0_pay26 (F := Ideal) (k0_pay15 (F := Ideal) xb wd) (k0_pay19 (F := Ideal) va) (ix3 (0 : Fin 1) i p) = dup (∑ e : Fin 1024, xb (ix2 i e) * wd (ix3 (0 : Fin 1) p e)) (va (ix3 (0 : Fin 1) i p)) := by
  unfold k0_pay26
  exact (lead256 _ i p).trans (dup1_apply xb wd va i p)
/-- The stored hidden value in tile 1. -/
theorem shid1_apply (va vu : Vec Ideal S1x1024x256 .bf16) (i : Fin 1024) (p : Fin 256) : k0_pay20 (F := Ideal) va vu (ix3 (0 : Fin 1) i p) = hid (va (ix3 (0 : Fin 1) i p)) (vu (ix3 (0 : Fin 1) i p)) := by
  unfold k0_pay20
  refine (lead256 _ i p).trans ?_
  rw [← gate1_apply va, ← up1_apply vu]
  rfl

/-- The gradient of the gate projection in tile 2. -/
theorem dgate2_apply (wd : Vec Ideal S1x192x1024 .bf16) (va vu : Vec Ideal S1x1024x192 .bf16) (i : Fin 1024) (p : Fin 192) : k0_pay35 (F := Ideal) (k0_pay28 (F := Ideal) xb wd) (k0_pay29 (F := Ideal) va) (k0_pay30 (F := Ideal) vu) (k0_pay31 (F := Ideal) va) (ix2 i p) = dgate (∑ e : Fin 1024, xb (ix2 i e) * wd (ix3 (0 : Fin 1) p e)) (va (ix3 (0 : Fin 1) i p)) (vu (ix3 (0 : Fin 1) i p)) := by
  rw [← grad2_apply xb wd, ← gate2_apply va, ← up2_apply vu]
  rfl
/-- The gradient of the up projection in tile 2. -/
theorem dup2_apply (wd : Vec Ideal S1x192x1024 .bf16) (va : Vec Ideal S1x1024x192 .bf16) (i : Fin 1024) (p : Fin 192) : k0_pay36 (F := Ideal) (k0_pay28 (F := Ideal) xb wd) (k0_pay32 (F := Ideal) va) (ix2 i p) = dup (∑ e : Fin 1024, xb (ix2 i e) * wd (ix3 (0 : Fin 1) p e)) (va (ix3 (0 : Fin 1) i p)) := by
  rw [← grad2_apply xb wd, ← gate2_apply va]
  rfl
/-- The stored gradient of the gate projection in tile 2. -/
theorem sgate2_apply (wd : Vec Ideal S1x192x1024 .bf16) (va vu : Vec Ideal S1x1024x192 .bf16) (i : Fin 1024) (p : Fin 192) : k0_pay37 (F := Ideal) (k0_pay28 (F := Ideal) xb wd) (k0_pay29 (F := Ideal) va) (k0_pay30 (F := Ideal) vu) (k0_pay31 (F := Ideal) va) (ix3 (0 : Fin 1) i p) = dgate (∑ e : Fin 1024, xb (ix2 i e) * wd (ix3 (0 : Fin 1) p e)) (va (ix3 (0 : Fin 1) i p)) (vu (ix3 (0 : Fin 1) i p)) := by
  unfold k0_pay37
  exact (lead192 _ i p).trans (dgate2_apply xb wd va vu i p)
/-- The stored gradient of the up projection in tile 2. -/
theorem sup2_apply (wd : Vec Ideal S1x192x1024 .bf16) (va : Vec Ideal S1x1024x192 .bf16) (i : Fin 1024) (p : Fin 192) : k0_pay38 (F := Ideal) (k0_pay28 (F := Ideal) xb wd) (k0_pay32 (F := Ideal) va) (ix3 (0 : Fin 1) i p) = dup (∑ e : Fin 1024, xb (ix2 i e) * wd (ix3 (0 : Fin 1) p e)) (va (ix3 (0 : Fin 1) i p)) := by
  unfold k0_pay38
  exact (lead192 _ i p).trans (dup2_apply xb wd va i p)
/-- The stored hidden value in tile 2. -/
theorem shid2_apply (va vu : Vec Ideal S1x1024x192 .bf16) (i : Fin 1024) (p : Fin 192) : k0_pay34 (F := Ideal) (k0_pay33 (F := Ideal) va vu) (ix3 (0 : Fin 1) i p) = hid (va (ix3 (0 : Fin 1) i p)) (vu (ix3 (0 : Fin 1) i p)) := by
  unfold k0_pay34
  refine (lead192 _ i p).trans ?_
  rw [← gate2_apply va, ← up2_apply vu]
  rfl

/-- Tile 0's contribution to the input's gradient. -/
theorem contr0_apply (wg wu wd : Vec Ideal S1x256x1024 .bf16) (va vu : Vec Ideal S1x1024x256 .bf16) (i d : Fin 1024) :
    k0_pay14 (F := Ideal) (k0_pay10 (F := Ideal) xb wd va vu) (k0_pay11 (F := Ideal) xb wd va) wg wu (ix2 i d)
      = (∑ p : Fin 256, dgate (∑ e : Fin 1024, xb (ix2 i e) * wd (ix3 (0 : Fin 1) p e)) (va (ix3 (0 : Fin 1) i p)) (vu (ix3 (0 : Fin 1) i p)) * wg (ix3 (0 : Fin 1) p d) + ∑ p : Fin 256, dup (∑ e : Fin 1024, xb (ix2 i e) * wd (ix3 (0 : Fin 1) p e)) (va (ix3 (0 : Fin 1) i p)) * wu (ix3 (0 : Fin 1) p d)) := by
  unfold k0_pay14
  refine (joined256 _ _ _ _ _ _ i d).trans ?_
  refine congrArg₂ (fun s t : EReal => s + t) (Finset.sum_congr rfl fun p _ => ?_) (Finset.sum_congr rfl fun p _ => ?_)
  · rw [tile256, dgate0_apply]
  · rw [tile256, dup0_apply]

/-- Tile 1's contribution to the input's gradient. -/
theorem contr1_apply (v43 : FVec Ideal S1024x1024 .f32) (wg wu wd : Vec Ideal S1x256x1024 .bf16) (va vu : Vec Ideal S1x1024x256 .bf16) (i d : Fin 1024) :
    k0_pay27 (F := Ideal) v43 (k0_pay15 (F := Ideal) xb wd) (k0_pay18 (F := Ideal) va) (k0_pay19 (F := Ideal) va) (k0_pay21 (F := Ideal) xb wd vu) (k0_pay22 (F := Ideal) va) wg wu (ix2 i d)
      = v43 (ix2 i d) + (∑ p : Fin 256, dgate (∑ e : Fin 1024, xb (ix2 i e) * wd (ix3 (0 : Fin 1) p e)) (va (ix3 (0 : Fin 1) i p)) (vu (ix3 (0 : Fin 1) i p)) * wg (ix3 (0 : Fin 1) p d) + ∑ p : Fin 256, dup (∑ e : Fin 1024, xb (ix2 i e) * wd (ix3 (0 : Fin 1) p e)) (va (ix3 (0 : Fin 1) i p)) * wu (ix3 (0 : Fin 1) p d)) := by
  unfold k0_pay27
  refine congrArg (v43 (ix2 i d) + ·) ((joined256 _ _ _ _ _ _ i d).trans ?_)
  refine congrArg₂ (fun s t : EReal => s + t) (Finset.sum_congr rfl fun p _ => ?_) (Finset.sum_congr rfl fun p _ => ?_)
  · rw [tile256, dgate1_apply]
  · rw [tile256, dup1_apply]

/-- Tile 2's contribution to the input's gradient. -/
theorem contr2_apply (v84 acc : Vec Ideal S1024x1024 .f32) (wg wu wd : Vec Ideal S1x192x1024 .bf16) (va vu : Vec Ideal S1x1024x192 .bf16) (i d : Fin 1024) :
    k0_pay39 (F := Ideal) v84 (k0_pay28 (F := Ideal) xb wd) (k0_pay29 (F := Ideal) va) (k0_pay30 (F := Ideal) vu) (k0_pay31 (F := Ideal) va) (k0_pay32 (F := Ideal) va) wg wu acc (ix2 i d)
      = acc (ix2 i d) + (v84 (ix2 i d) + (∑ p : Fin 192, dgate (∑ e : Fin 1024, xb (ix2 i e) * wd (ix3 (0 : Fin 1) p e)) (va (ix3 (0 : Fin 1) i p)) (vu (ix3 (0 : Fin 1) i p)) * wg (ix3 (0 : Fin 1) p d) + ∑ p : Fin 192, dup (∑ e : Fin 1024, xb (ix2 i e) * wd (ix3 (0 : Fin 1) p e)) (va (ix3 (0 : Fin 1) i p)) * wu (ix3 (0 : Fin 1) p d))) := by
  unfold k0_pay39
  rw [shapeCast_self]
  refine congrArg (fun s : EReal => acc (ix2 i d) + (v84 (ix2 i d) + s)) ((joined192 _ _ _ _ _ _ i d).trans ?_)
  refine congrArg₂ (fun s t : EReal => s + t) (Finset.sum_congr rfl fun p _ => ?_) (Finset.sum_congr rfl fun p _ => ?_)
  · rw [tile192, dgate2_apply]
  · rw [tile192, dup2_apply]

/-- The kept rows: half the incoming gradient. -/
theorem half_apply (z : Vec Ideal S1024x1024 .f32) (i d : Fin 1024) : k0_pay2 (F := Ideal) z (ix2 i d) = Ideal.ofBits .f32 0x3F000000#32 * z (ix2 i d) := by
  unfold k0_pay2
  rw [shapeCast_self]
  rfl
/-- The accumulator starts at zero. -/
theorem zero_apply (i d : Fin 1024) : k0_pay3 (F := Ideal) (ix2 i d) = (0 : EReal) := by
  unfold k0_pay3
  rw [shapeCast_self]
  show Ideal.ofBits .f32 0x00000000#32 = 0
  simp [Ideal.ofBits, Ideal.ieee]
/-- The input's gradient from the finished accumulator. -/
theorem last_apply (z acc : Vec Ideal S1024x1024 .f32) (i d : Fin 1024) :
    k0_pay1 (F := Ideal) z acc (ix2 i d) = Ideal.ofBits .f32 0x3FB504F3#32 * z (ix2 i d) + acc (ix2 i d) := rfl

end Ffn.Bwd
-- ==== Proof.Ffn.BwdCase.lean ====
/-
  The feed-forward half step's backward pass: what one grid point leaves in its accumulator, in the three blocks of hidden columns and, at the
  last weight block, in the input's gradient.
-/
module

public import proofs.«01_k».proof.Proof.Ffn.BwdOps
public import proofs.«01_k».proof.Proof.Gen.Kernel2Ideal.Frame
public import Idealize.ShloMosaic.Lib.Pipeline.ValueKit.Tiles

@[expose] public section

set_option maxRecDepth 16384

noncomputable section

namespace Ffn.Bwd

open Idealize.ShloMosaic Idealize.ShloMosaic.TcCoe Idealize.ShloMosaic.ValueIdx
open Cert.Kernel2Ideal Cert.Kernel2Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- The three tiles of a weight block. -/
def tl0 (w : Vec Ideal S1x704x1024 .bf16) : Vec Ideal S1x256x1024 .bf16 := View.ld w (Rect.unit (s := S1x704x1024) ![0, 0, 0] ![1, 256, 1024] inb_S1x704x1024_S1x256x1024_0_0_0)
def tl1 (w : Vec Ideal S1x704x1024 .bf16) : Vec Ideal S1x256x1024 .bf16 := View.ld w (Rect.unit (s := S1x704x1024) ![0, 256, 0] ![1, 256, 1024] inb_S1x704x1024_S1x256x1024_0_256_0)
def tl2 (w : Vec Ideal S1x704x1024 .bf16) : Vec Ideal S1x192x1024 .bf16 := View.ld w (Rect.unit (s := S1x704x1024) ![0, 512, 0] ![1, 192, 1024] inb_S1x704x1024_S1x192x1024_0_512_0)

theorem tl0_apply (w : Vec Ideal S1x704x1024 .bf16) (p : Fin 256) (d : Fin 1024) (r : Fin 704) (h : r.val = p.val) : tl0 w (ix3 (0 : Fin 1) p d) = w (ix3 (0 : Fin 1) r d) :=
  congrArg w (funext fun a => Fin.ext (by
    match a with
    | ⟨0, _⟩ => rfl
    | ⟨1, _⟩ => show 0 + 1 * p.val = r.val; omega
    | ⟨2, _⟩ => show 0 + 1 * d.val = d.val; omega))
theorem tl1_apply (w : Vec Ideal S1x704x1024 .bf16) (p : Fin 256) (d : Fin 1024) (r : Fin 704) (h : r.val = 256 + p.val) : tl1 w (ix3 (0 : Fin 1) p d) = w (ix3 (0 : Fin 1) r d) :=
  congrArg w (funext fun a => Fin.ext (by
    match a with
    | ⟨0, _⟩ => rfl
    | ⟨1, _⟩ => show 256 + 1 * p.val = r.val; omega
    | ⟨2, _⟩ => show 0 + 1 * d.val = d.val; omega))
theorem tl2_apply (w : Vec Ideal S1x704x1024 .bf16) (p : Fin 192) (d : Fin 1024) (r : Fin 704) (h : r.val = 512 + p.val) : tl2 w (ix3 (0 : Fin 1) p d) = w (ix3 (0 : Fin 1) r d) :=
  congrArg w (funext fun a => Fin.ext (by
    match a with
    | ⟨0, _⟩ => rfl
    | ⟨1, _⟩ => show 512 + 1 * p.val = r.val; omega
    | ⟨2, _⟩ => show 0 + 1 * d.val = d.val; omega))

/-- A sum over a weight block's units, tile by tile. -/
theorem sum_tiles {M : Type} [AddCommMonoid M] (f : Fin 704 → M) :
    ∑ r, f r = (∑ p : Fin 256, f ⟨p.val, by omega⟩ + ∑ p : Fin 256, f ⟨256 + p.val, by omega⟩) + ∑ p : Fin 192, f ⟨512 + p.val, by omega⟩ := by
  have e1 : ∑ r, f r = ∑ r : Fin (512 + 192), f r := rfl
  rw [e1, Fin.sum_univ_add]
  have e2 : ∑ i : Fin 512, f (Fin.castAdd 192 i) = ∑ i : Fin (256 + 256), f (Fin.castAdd 192 i) := rfl
  rw [e2, Fin.sum_univ_add]
  rfl

/-- Column tile 0 of a saved block. -/
def tc0 (v : Vec Ideal S1x1024x704 .bf16) : Vec Ideal S1x1024x256 .bf16 := View.ld v (Rect.unit (s := S1x1024x704) ![0, 0, 0] ![1, 1024, 256] inb_S1x1024x704_S1x1024x256_0_0_0)
theorem tc0_apply (v : Vec Ideal S1x1024x704 .bf16) (i : Fin 1024) (p : Fin 256) (r : Fin 704) (h : r.val = p.val) : tc0 v (ix3 (0 : Fin 1) i p) = v (ix3 (0 : Fin 1) i r) :=
  congrArg v (funext fun a => Fin.ext (by
    match a with
    | ⟨0, _⟩ => rfl
    | ⟨1, _⟩ => show 0 + 1 * i.val = i.val; omega
    | ⟨2, _⟩ => show 0 + 1 * p.val = r.val; omega))

/-- Column tile 1 of a saved block. -/
def tc1 (v : Vec Ideal S1x1024x704 .bf16) : Vec Ideal S1x1024x256 .bf16 := View.ld v (Rect.unit (s := S1x1024x704) ![0, 0, 256] ![1, 1024, 256] inb_S1x1024x704_S1x1024x256_0_0_256)
theorem tc1_apply (v : Vec Ideal S1x1024x704 .bf16) (i : Fin 1024) (p : Fin 256) (r : Fin 704) (h : r.val = 256 + p.val) : tc1 v (ix3 (0 : Fin 1) i p) = v (ix3 (0 : Fin 1) i r) :=
  congrArg v (funext fun a => Fin.ext (by
    match a with
    | ⟨0, _⟩ => rfl
    | ⟨1, _⟩ => show 0 + 1 * i.val = i.val; omega
    | ⟨2, _⟩ => show 256 + 1 * p.val = r.val; omega))

/-- Column tile 2 of a saved block. -/
def tc2 (v : Vec Ideal S1x1024x704 .bf16) : Vec Ideal S1x1024x192 .bf16 := View.ld v (Rect.unit (s := S1x1024x704) ![0, 0, 512] ![1, 1024, 192] inb_S1x1024x704_S1x1024x192_0_0_512)
theorem tc2_apply (v : Vec Ideal S1x1024x704 .bf16) (i : Fin 1024) (p : Fin 192) (r : Fin 704) (h : r.val = 512 + p.val) : tc2 v (ix3 (0 : Fin 1) i p) = v (ix3 (0 : Fin 1) i r) :=
  congrArg v (funext fun a => Fin.ext (by
    match a with
    | ⟨0, _⟩ => rfl
    | ⟨1, _⟩ => show 0 + 1 * i.val = i.val; omega
    | ⟨2, _⟩ => show 512 + 1 * p.val = r.val; omega))

/-- The gradients of a block's hidden units. -/
def hgrad (xb : Vec Ideal S1024x1024 .bf16) (w : Vec Ideal S1x704x1024 .bf16) (i : Fin 1024) (r : Fin 704) : EReal :=
  ∑ e : Fin 1024, xb (ix2 i e) * w (ix3 (0 : Fin 1) r e)

/-- The block's contribution to the input's gradient added to the accumulator. -/
def whole (xb : Vec Ideal S1024x1024 .bf16) (va vu : Vec Ideal S1x1024x704 .bf16) (wg wu wd : Vec Ideal S1x704x1024 .bf16) (acc : Vec Ideal S1024x1024 .f32) : Vec Ideal S1024x1024 .f32 :=
  k0_pay39 (F := Ideal)
    (k0_pay27 (F := Ideal) (k0_pay14 (F := Ideal) (k0_pay10 (F := Ideal) xb (tl0 wd) (tc0 va) (tc0 vu)) (k0_pay11 (F := Ideal) xb (tl0 wd) (tc0 va)) (tl0 wg) (tl0 wu))
      (k0_pay15 (F := Ideal) xb (tl1 wd)) (k0_pay18 (F := Ideal) (tc1 va)) (k0_pay19 (F := Ideal) (tc1 va)) (k0_pay21 (F := Ideal) xb (tl1 wd) (tc1 vu)) (k0_pay22 (F := Ideal) (tc1 va)) (tl1 wg) (tl1 wu))
    (k0_pay28 (F := Ideal) xb (tl2 wd)) (k0_pay29 (F := Ideal) (tc2 va)) (k0_pay30 (F := Ideal) (tc2 vu)) (k0_pay31 (F := Ideal) (tc2 va)) (k0_pay32 (F := Ideal) (tc2 va)) (tl2 wg) (tl2 wu) acc

/-- The gate projection's gradient of a block's unit, and the up projection's. -/
def dg (xb : Vec Ideal S1024x1024 .bf16) (va vu : Vec Ideal S1x1024x704 .bf16) (wd : Vec Ideal S1x704x1024 .bf16) (i : Fin 1024) (r : Fin 704) : EReal := dgate (hgrad xb wd i r) (va (ix3 (0 : Fin 1) i r)) (vu (ix3 (0 : Fin 1) i r))
def du (xb : Vec Ideal S1024x1024 .bf16) (va : Vec Ideal S1x1024x704 .bf16) (wd : Vec Ideal S1x704x1024 .bf16) (i : Fin 1024) (r : Fin 704) : EReal := dup (hgrad xb wd i r) (va (ix3 (0 : Fin 1) i r))

/-- Three sums of pairs are the pair of the sums. -/
theorem regroup (a b c p q r : EReal) : (a + p) + (b + q) + (c + r) = ((a + b) + c) + ((p + q) + r) := by
  rw [add_add_add_comm a p b q, add_add_add_comm (a + b) (p + q) c r]

theorem whole_apply (xb : Vec Ideal S1024x1024 .bf16) (va vu : Vec Ideal S1x1024x704 .bf16) (wg wu wd : Vec Ideal S1x704x1024 .bf16) (acc : Vec Ideal S1024x1024 .f32) (i d : Fin 1024) :
    whole xb va vu wg wu wd acc (ix2 i d) = acc (ix2 i d)
      + (∑ r : Fin 704, dg xb va vu wd i r * wg (ix3 (0 : Fin 1) r d) + ∑ r : Fin 704, du xb va wd i r * wu (ix3 (0 : Fin 1) r d)) := by
  unfold whole
  rw [contr2_apply, contr1_apply, contr0_apply, sum_tiles, sum_tiles]
  unfold dg du hgrad
  simp only [fun w p e => tl0_apply w p e ⟨p.val, by omega⟩ rfl, fun w p e => tl1_apply w p e ⟨256 + p.val, by omega⟩ rfl, fun w p e => tl2_apply w p e ⟨512 + p.val, by omega⟩ rfl,
    fun v i p => tc0_apply v i p ⟨p.val, by omega⟩ rfl, fun v i p => tc1_apply v i p ⟨256 + p.val, by omega⟩ rfl, fun v i p => tc2_apply v i p ⟨512 + p.val, by omega⟩ rfl]
  exact congrArg (acc (ix2 i d) + ·) (regroup _ _ _ _ _ _)

/-- The block of hidden values, in three column tiles. -/
def savedH (va vu : Vec Ideal S1x1024x704 .bf16) : Vec Ideal S1x1024x704 .bf16 :=
  View.canon [⟨Rect.unit ![0, 0, 512] ![1, 1024, 192] inb_S1x1024x704_S1x1024x192_0_0_512, k0_pay34 (F := Ideal) (k0_pay33 (F := Ideal) (tc2 va) (tc2 vu))⟩,
    ⟨Rect.unit ![0, 0, 256] ![1, 1024, 256] inb_S1x1024x704_S1x1024x256_0_0_256, k0_pay20 (F := Ideal) (tc1 va) (tc1 vu)⟩,
    ⟨Rect.unit ![0, 0, 0] ![1, 1024, 256] inb_S1x1024x704_S1x1024x256_0_0_0, k0_pay9 (F := Ideal) (tc0 va) (tc0 vu)⟩]
/-- The block of the gate projection's gradient. -/
def savedG (xb : Vec Ideal S1024x1024 .bf16) (va vu : Vec Ideal S1x1024x704 .bf16) (wd : Vec Ideal S1x704x1024 .bf16) : Vec Ideal S1x1024x704 .bf16 :=
  View.canon [⟨Rect.unit ![0, 0, 512] ![1, 1024, 192] inb_S1x1024x704_S1x1024x192_0_0_512, k0_pay37 (F := Ideal) (k0_pay28 (F := Ideal) xb (tl2 wd)) (k0_pay29 (F := Ideal) (tc2 va)) (k0_pay30 (F := Ideal) (tc2 vu)) (k0_pay31 (F := Ideal) (tc2 va))⟩,
    ⟨Rect.unit ![0, 0, 256] ![1, 1024, 256] inb_S1x1024x704_S1x1024x256_0_0_256, k0_pay25 (F := Ideal) (k0_pay18 (F := Ideal) (tc1 va)) (k0_pay21 (F := Ideal) xb (tl1 wd) (tc1 vu)) (k0_pay22 (F := Ideal) (tc1 va))⟩,
    ⟨Rect.unit ![0, 0, 0] ![1, 1024, 256] inb_S1x1024x704_S1x1024x256_0_0_0, k0_pay12 (F := Ideal) xb (tl0 wd) (tc0 va) (tc0 vu)⟩]
/-- The block of the up projection's gradient. -/
def savedU (xb : Vec Ideal S1024x1024 .bf16) (va : Vec Ideal S1x1024x704 .bf16) (wd : Vec Ideal S1x704x1024 .bf16) : Vec Ideal S1x1024x704 .bf16 :=
  View.canon [⟨Rect.unit ![0, 0, 512] ![1, 1024, 192] inb_S1x1024x704_S1x1024x192_0_0_512, k0_pay38 (F := Ideal) (k0_pay28 (F := Ideal) xb (tl2 wd)) (k0_pay32 (F := Ideal) (tc2 va))⟩,
    ⟨Rect.unit ![0, 0, 256] ![1, 1024, 256] inb_S1x1024x704_S1x1024x256_0_0_256, k0_pay26 (F := Ideal) (k0_pay15 (F := Ideal) xb (tl1 wd)) (k0_pay19 (F := Ideal) (tc1 va))⟩,
    ⟨Rect.unit ![0, 0, 0] ![1, 1024, 256] inb_S1x1024x704_S1x1024x256_0_0_0, k0_pay13 (F := Ideal) (k0_pay11 (F := Ideal) xb (tl0 wd) (tc0 va))⟩]
/-- The three column tiles cover the saved block. -/
theorem cover3 (P2 : Vec Ideal S1x1024x192 .bf16) (P1 P0 : Vec Ideal S1x1024x256 .bf16) (i : Fin 1024) (r : Fin 704) :
    ∃ p ∈ ([⟨Rect.unit ![0, 0, 512] ![1, 1024, 192] inb_S1x1024x704_S1x1024x192_0_0_512, P2⟩,
      ⟨Rect.unit ![0, 0, 256] ![1, 1024, 256] inb_S1x1024x704_S1x1024x256_0_0_256, P1⟩,
      ⟨Rect.unit ![0, 0, 0] ![1, 1024, 256] inb_S1x1024x704_S1x1024x256_0_0_0, P0⟩] : List (View.Piece (Elt Ideal) S1x1024x704 .bf16)),
      ix3 (0 : Fin 1) i r ∈ p.1.set := by
  have hi := i.isLt
  have hr := r.isLt
  by_cases h2 : 512 ≤ r.val
  · refine ⟨_, List.mem_cons_self, (show _ ∈ (Rect.unit (s := S1x1024x704) ![0, 0, 512] ![1, 1024, 192] inb_S1x1024x704_S1x1024x192_0_0_512).set from Rect.mem_set_unit.mpr fun a => ?_)⟩
    match a with
    | ⟨0, _⟩ => exact ⟨Nat.zero_le _, Nat.zero_lt_one⟩
    | ⟨1, _⟩ => exact ⟨Nat.zero_le _, by show i.val < 0 + 1024; omega⟩
    | ⟨2, _⟩ => exact ⟨h2, by show r.val < 512 + 192; omega⟩
  · by_cases h1 : 256 ≤ r.val
    · refine ⟨_, List.mem_cons_of_mem _ List.mem_cons_self, (show _ ∈ (Rect.unit (s := S1x1024x704) ![0, 0, 256] ![1, 1024, 256] inb_S1x1024x704_S1x1024x256_0_0_256).set from Rect.mem_set_unit.mpr fun a => ?_)⟩
      match a with
      | ⟨0, _⟩ => exact ⟨Nat.zero_le _, Nat.zero_lt_one⟩
      | ⟨1, _⟩ => exact ⟨Nat.zero_le _, by show i.val < 0 + 1024; omega⟩
      | ⟨2, _⟩ => exact ⟨h1, by show r.val < 256 + 256; omega⟩
    · refine ⟨_, List.mem_cons_of_mem _ (List.mem_cons_of_mem _ List.mem_cons_self), (show _ ∈ (Rect.unit (s := S1x1024x704) ![0, 0, 0] ![1, 1024, 256] inb_S1x1024x704_S1x1024x256_0_0_0).set from Rect.mem_set_unit.mpr fun a => ?_)⟩
      match a with
      | ⟨0, _⟩ => exact ⟨Nat.zero_le _, Nat.zero_lt_one⟩
      | ⟨1, _⟩ => exact ⟨Nat.zero_le _, by show i.val < 0 + 1024; omega⟩
      | ⟨2, _⟩ => exact ⟨Nat.zero_le _, by show r.val < 0 + 256; omega⟩

theorem savedH_apply (va vu : Vec Ideal S1x1024x704 .bf16) (i : Fin 1024) (r : Fin 704) :
    savedH va vu (ix3 (0 : Fin 1) i r) = hid (va (ix3 (0 : Fin 1) i r)) (vu (ix3 (0 : Fin 1) i r)) := by
  unfold savedH
  canon_tiles x h using cover3 _ _ _ i r
  · have g0 : 0 = (x 0 : ℕ) := h0
    have g1 : i.val = (x 1 : ℕ) := h1
    have g2 : r.val = 512 + (x 2 : ℕ) := h2
    have hl : (x 2 : ℕ) < 192 := x2_lt
    have e : x = ix3 (0 : Fin 1) i (⟨(x 2 : ℕ), hl⟩ : Fin 192) := funext fun a => Fin.ext (by
      match a with
      | ⟨0, _⟩ => exact g0.symm
      | ⟨1, _⟩ => exact g1.symm
      | ⟨2, _⟩ => rfl)
    rw [e, shid2_apply, tc2_apply va i ⟨(x 2 : ℕ), hl⟩ r g2, tc2_apply vu i ⟨(x 2 : ℕ), hl⟩ r g2]
  · have g0 : 0 = (x 0 : ℕ) := h0
    have g1 : i.val = (x 1 : ℕ) := h1
    have g2 : r.val = 256 + (x 2 : ℕ) := h2
    have hl : (x 2 : ℕ) < 256 := x2_lt
    have e : x = ix3 (0 : Fin 1) i (⟨(x 2 : ℕ), hl⟩ : Fin 256) := funext fun a => Fin.ext (by
      match a with
      | ⟨0, _⟩ => exact g0.symm
      | ⟨1, _⟩ => exact g1.symm
      | ⟨2, _⟩ => rfl)
    rw [e, shid1_apply, tc1_apply va i ⟨(x 2 : ℕ), hl⟩ r g2, tc1_apply vu i ⟨(x 2 : ℕ), hl⟩ r g2]
  · have g0 : 0 = (x 0 : ℕ) := h0
    have g1 : i.val = (x 1 : ℕ) := h1
    have g2 : r.val = (x 2 : ℕ) := h2
    have hl : (x 2 : ℕ) < 256 := x2_lt
    have e : x = ix3 (0 : Fin 1) i (⟨(x 2 : ℕ), hl⟩ : Fin 256) := funext fun a => Fin.ext (by
      match a with
      | ⟨0, _⟩ => exact g0.symm
      | ⟨1, _⟩ => exact g1.symm
      | ⟨2, _⟩ => rfl)
    rw [e, shid0_apply, tc0_apply va i ⟨(x 2 : ℕ), hl⟩ r g2, tc0_apply vu i ⟨(x 2 : ℕ), hl⟩ r g2]

theorem savedG_apply (xb : Vec Ideal S1024x1024 .bf16) (va vu : Vec Ideal S1x1024x704 .bf16) (wd : Vec Ideal S1x704x1024 .bf16) (i : Fin 1024) (r : Fin 704) :
    savedG xb va vu wd (ix3 (0 : Fin 1) i r) = dg xb va vu wd i r := by
  unfold savedG dg hgrad
  canon_tiles x h using cover3 _ _ _ i r
  · have g0 : 0 = (x 0 : ℕ) := h0
    have g1 : i.val = (x 1 : ℕ) := h1
    have g2 : r.val = 512 + (x 2 : ℕ) := h2
    have hl : (x 2 : ℕ) < 192 := x2_lt
    have e : x = ix3 (0 : Fin 1) i (⟨(x 2 : ℕ), hl⟩ : Fin 192) := funext fun a => Fin.ext (by
      match a with
      | ⟨0, _⟩ => exact g0.symm
      | ⟨1, _⟩ => exact g1.symm
      | ⟨2, _⟩ => rfl)
    rw [e, sgate2_apply, tc2_apply va i ⟨(x 2 : ℕ), hl⟩ r g2, tc2_apply vu i ⟨(x 2 : ℕ), hl⟩ r g2]
    simp only [fun e => tl2_apply wd ⟨(x 2 : ℕ), hl⟩ e r g2]
  · have g0 : 0 = (x 0 : ℕ) := h0
    have g1 : i.val = (x 1 : ℕ) := h1
    have g2 : r.val = 256 + (x 2 : ℕ) := h2
    have hl : (x 2 : ℕ) < 256 := x2_lt
    have e : x = ix3 (0 : Fin 1) i (⟨(x 2 : ℕ), hl⟩ : Fin 256) := funext fun a => Fin.ext (by
      match a with
      | ⟨0, _⟩ => exact g0.symm
      | ⟨1, _⟩ => exact g1.symm
      | ⟨2, _⟩ => rfl)
    rw [e, sgate1_apply, tc1_apply va i ⟨(x 2 : ℕ), hl⟩ r g2, tc1_apply vu i ⟨(x 2 : ℕ), hl⟩ r g2]
    simp only [fun e => tl1_apply wd ⟨(x 2 : ℕ), hl⟩ e r g2]
  · have g0 : 0 = (x 0 : ℕ) := h0
    have g1 : i.val = (x 1 : ℕ) := h1
    have g2 : r.val = (x 2 : ℕ) := h2
    have hl : (x 2 : ℕ) < 256 := x2_lt
    have e : x = ix3 (0 : Fin 1) i (⟨(x 2 : ℕ), hl⟩ : Fin 256) := funext fun a => Fin.ext (by
      match a with
      | ⟨0, _⟩ => exact g0.symm
      | ⟨1, _⟩ => exact g1.symm
      | ⟨2, _⟩ => rfl)
    rw [e, sgate0_apply, tc0_apply va i ⟨(x 2 : ℕ), hl⟩ r g2, tc0_apply vu i ⟨(x 2 : ℕ), hl⟩ r g2]
    simp only [fun e => tl0_apply wd ⟨(x 2 : ℕ), hl⟩ e r g2]

theorem savedU_apply (xb : Vec Ideal S1024x1024 .bf16) (va : Vec Ideal S1x1024x704 .bf16) (wd : Vec Ideal S1x704x1024 .bf16) (i : Fin 1024) (r : Fin 704) :
    savedU xb va wd (ix3 (0 : Fin 1) i r) = du xb va wd i r := by
  unfold savedU du hgrad
  canon_tiles x h using cover3 _ _ _ i r
  · have g0 : 0 = (x 0 : ℕ) := h0
    have g1 : i.val = (x 1 : ℕ) := h1
    have g2 : r.val = 512 + (x 2 : ℕ) := h2
    have hl : (x 2 : ℕ) < 192 := x2_lt
    have e : x = ix3 (0 : Fin 1) i (⟨(x 2 : ℕ), hl⟩ : Fin 192) := funext fun a => Fin.ext (by
      match a with
      | ⟨0, _⟩ => exact g0.symm
      | ⟨1, _⟩ => exact g1.symm
      | ⟨2, _⟩ => rfl)
    rw [e, sup2_apply, tc2_apply va i ⟨(x 2 : ℕ), hl⟩ r g2]
    simp only [fun e => tl2_apply wd ⟨(x 2 : ℕ), hl⟩ e r g2]
  · have g0 : 0 = (x 0 : ℕ) := h0
    have g1 : i.val = (x 1 : ℕ) := h1
    have g2 : r.val = 256 + (x 2 : ℕ) := h2
    have hl : (x 2 : ℕ) < 256 := x2_lt
    have e : x = ix3 (0 : Fin 1) i (⟨(x 2 : ℕ), hl⟩ : Fin 256) := funext fun a => Fin.ext (by
      match a with
      | ⟨0, _⟩ => exact g0.symm
      | ⟨1, _⟩ => exact g1.symm
      | ⟨2, _⟩ => rfl)
    rw [e, sup1_apply, tc1_apply va i ⟨(x 2 : ℕ), hl⟩ r g2]
    simp only [fun e => tl1_apply wd ⟨(x 2 : ℕ), hl⟩ e r g2]
  · have g0 : 0 = (x 0 : ℕ) := h0
    have g1 : i.val = (x 1 : ℕ) := h1
    have g2 : r.val = (x 2 : ℕ) := h2
    have hl : (x 2 : ℕ) < 256 := x2_lt
    have e : x = ix3 (0 : Fin 1) i (⟨(x 2 : ℕ), hl⟩ : Fin 256) := funext fun a => Fin.ext (by
      match a with
      | ⟨0, _⟩ => exact g0.symm
      | ⟨1, _⟩ => exact g1.symm
      | ⟨2, _⟩ => rfl)
    rw [e, sup0_apply, tc0_apply va i ⟨(x 2 : ℕ), hl⟩ r g2]
    simp only [fun e => tl0_apply wd ⟨(x 2 : ℕ), hl⟩ e r g2]

variable (m : (ℓ : Loc nD τ sig) → Buf (Elt Ideal) ℓ) (c : Dev nD)

set_option maxHeartbeats 4000000 in
/-- The accumulator after a point. -/
theorem accA (t : Fin cfg0.N) (h : t.val % 4 = 0) :
    (outsAt0 m c t.val t.isLt).2.2.2.2.1 = whole (k0_pay2 (F := Ideal) (iblk m c 0 t)) (iblk m c 1 t) (iblk m c 2 t) (iblk m c 3 t) (iblk m c 4 t) (iblk m c 5 t) (k0_pay3 (F := Ideal)) := by
  rw [outsAt0_A m c t h (by omega)]
  dsimp only
  unfold sout0_A_0
  refine (View.read_writes_eq_canon _ _ _ (fun _ => scover0_A_0 ..)).trans ?_
  unfold kernelRun0_A
  dsimp only
  sl_unfold_words
  first | rw [View.canon_unit_zero hz2] | rw [View.canon_cons_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole _).read_unread, View.ld_unit_zero (S := S1024x1024) hz2, View.readCov_unit_zero (S := S1024x1024) _ hz2]
  rfl

set_option maxHeartbeats 4000000 in
/-- The rows kept at the first weight block. -/
theorem rowsA (t : Fin cfg0.N) (h : t.val % 4 = 0) :
    (outsAt0 m c t.val t.isLt).2.2.2.2.2 = k0_pay2 (F := Ideal) (iblk m c 0 t) := by
  rw [outsAt0_A m c t h (by omega)]
  dsimp only
  unfold sout0_A_1
  refine (View.read_writes_eq_canon _ _ _ (fun _ => scover0_A_1 ..)).trans ?_
  unfold kernelRun0_A
  dsimp only
  sl_unfold_words
  first | rw [View.canon_unit_zero hz2] | rw [View.canon_cons_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole _).read_unread, View.ld_unit_zero (S := S1024x1024) hz2, View.readCov_unit_zero (S := S1024x1024) _ hz2]
  try rfl

set_option maxHeartbeats 4000000 in
/-- The block of hidden values. -/
theorem hidA (t : Fin cfg0.N) (h : t.val % 4 = 0) :
    (outsAt0 m c t.val t.isLt).2.1 = savedH (iblk m c 1 t) (iblk m c 2 t) := by
  rw [outsAt0_A m c t h (by omega)]
  dsimp only
  unfold out0_A_7
  refine (View.read_writes_eq_canon _ _ _ (fun _ => cover0_A_7 ..)).trans ?_
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole _).read_unread, View.ld_unit_zero (S := S1024x1024) hz2, View.readCov_unit_zero (S := S1024x1024) _ hz2]
  rfl

set_option maxHeartbeats 4000000 in
/-- The block of the gate projection's gradient. -/
theorem gateA (t : Fin cfg0.N) (h : t.val % 4 = 0) :
    (outsAt0 m c t.val t.isLt).2.2.1 = savedG (k0_pay2 (F := Ideal) (iblk m c 0 t)) (iblk m c 1 t) (iblk m c 2 t) (iblk m c 5 t) := by
  rw [outsAt0_A m c t h (by omega)]
  dsimp only
  unfold out0_A_8
  refine (View.read_writes_eq_canon _ _ _ (fun _ => cover0_A_8 ..)).trans ?_
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole _).read_unread, View.ld_unit_zero (S := S1024x1024) hz2, View.readCov_unit_zero (S := S1024x1024) _ hz2]
  rfl

set_option maxHeartbeats 4000000 in
/-- The block of the up projection's gradient. -/
theorem upA (t : Fin cfg0.N) (h : t.val % 4 = 0) :
    (outsAt0 m c t.val t.isLt).2.2.2.1 = savedU (k0_pay2 (F := Ideal) (iblk m c 0 t)) (iblk m c 1 t) (iblk m c 5 t) := by
  rw [outsAt0_A m c t h (by omega)]
  dsimp only
  unfold out0_A_9
  refine (View.read_writes_eq_canon _ _ _ (fun _ => cover0_A_9 ..)).trans ?_
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole _).read_unread, View.ld_unit_zero (S := S1024x1024) hz2, View.readCov_unit_zero (S := S1024x1024) _ hz2]
  rfl

set_option maxHeartbeats 4000000 in
/-- The accumulator after a point. -/
theorem accB (t : Fin cfg0.N) (h : ¬ t.val % 4 = 0) (h3 : ¬ t.val % 4 = 3) (hp : t.val - 1 < cfg0.N) :
    (outsAt0 m c t.val t.isLt).2.2.2.2.1 = whole (outsAt0 m c (t.val - 1) hp).2.2.2.2.2 (iblk m c 1 t) (iblk m c 2 t) (iblk m c 3 t) (iblk m c 4 t) (iblk m c 5 t) (outsAt0 m c (t.val - 1) hp).2.2.2.2.1 := by
  rw [outsAt0_B m c t h h3]
  dsimp only
  unfold sout0_B_0
  refine (View.read_writes_eq_canon _ _ _ (fun _ => scover0_B_0 ..)).trans ?_
  unfold kernelRun0_B
  dsimp only
  sl_unfold_words
  first | rw [View.canon_unit_zero hz2] | rw [View.canon_cons_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole _).read_unread, View.ld_unit_zero (S := S1024x1024) hz2, View.readCov_unit_zero (S := S1024x1024) _ hz2]
  rfl

/-- The rows are kept. -/
theorem rowsB (t : Fin cfg0.N) (h : ¬ t.val % 4 = 0) (h3 : ¬ t.val % 4 = 3) (hp : t.val - 1 < cfg0.N) :
    (outsAt0 m c t.val t.isLt).2.2.2.2.2 = (outsAt0 m c (t.val - 1) hp).2.2.2.2.2 := by
  rw [outsAt0_B m c t h h3]
  rfl

set_option maxHeartbeats 4000000 in
/-- The block of hidden values. -/
theorem hidB (t : Fin cfg0.N) (h : ¬ t.val % 4 = 0) (h3 : ¬ t.val % 4 = 3) (hp : t.val - 1 < cfg0.N) :
    (outsAt0 m c t.val t.isLt).2.1 = savedH (iblk m c 1 t) (iblk m c 2 t) := by
  rw [outsAt0_B m c t h h3]
  dsimp only
  unfold out0_B_7
  refine (View.read_writes_eq_canon _ _ _ (fun _ => cover0_B_7 ..)).trans ?_
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole _).read_unread, View.ld_unit_zero (S := S1024x1024) hz2, View.readCov_unit_zero (S := S1024x1024) _ hz2]
  rfl

set_option maxHeartbeats 4000000 in
/-- The block of the gate projection's gradient. -/
theorem gateB (t : Fin cfg0.N) (h : ¬ t.val % 4 = 0) (h3 : ¬ t.val % 4 = 3) (hp : t.val - 1 < cfg0.N) :
    (outsAt0 m c t.val t.isLt).2.2.1 = savedG (outsAt0 m c (t.val - 1) hp).2.2.2.2.2 (iblk m c 1 t) (iblk m c 2 t) (iblk m c 5 t) := by
  rw [outsAt0_B m c t h h3]
  dsimp only
  unfold out0_B_8
  refine (View.read_writes_eq_canon _ _ _ (fun _ => cover0_B_8 ..)).trans ?_
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole _).read_unread, View.ld_unit_zero (S := S1024x1024) hz2, View.readCov_unit_zero (S := S1024x1024) _ hz2]
  rfl

set_option maxHeartbeats 4000000 in
/-- The block of the up projection's gradient. -/
theorem upB (t : Fin cfg0.N) (h : ¬ t.val % 4 = 0) (h3 : ¬ t.val % 4 = 3) (hp : t.val - 1 < cfg0.N) :
    (outsAt0 m c t.val t.isLt).2.2.2.1 = savedU (outsAt0 m c (t.val - 1) hp).2.2.2.2.2 (iblk m c 1 t) (iblk m c 5 t) := by
  rw [outsAt0_B m c t h h3]
  dsimp only
  unfold out0_B_9
  refine (View.read_writes_eq_canon _ _ _ (fun _ => cover0_B_9 ..)).trans ?_
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole _).read_unread, View.ld_unit_zero (S := S1024x1024) hz2, View.readCov_unit_zero (S := S1024x1024) _ hz2]
  rfl

set_option maxHeartbeats 4000000 in
/-- The accumulator after a point. -/
theorem accC (t : Fin cfg0.N) (h : ¬ t.val % 4 = 0) (h3 : t.val % 4 = 3) (hp : t.val - 1 < cfg0.N) :
    (outsAt0 m c t.val t.isLt).2.2.2.2.1 = whole (outsAt0 m c (t.val - 1) hp).2.2.2.2.2 (iblk m c 1 t) (iblk m c 2 t) (iblk m c 3 t) (iblk m c 4 t) (iblk m c 5 t) (outsAt0 m c (t.val - 1) hp).2.2.2.2.1 := by
  rw [outsAt0_C m c t h h3]
  dsimp only
  unfold sout0_C_0
  refine (View.read_writes_eq_canon _ _ _ (fun _ => scover0_C_0 ..)).trans ?_
  unfold kernelRun0_C
  dsimp only
  sl_unfold_words
  first | rw [View.canon_unit_zero hz2] | rw [View.canon_cons_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole _).read_unread, View.ld_unit_zero (S := S1024x1024) hz2, View.readCov_unit_zero (S := S1024x1024) _ hz2]
  rfl

/-- The rows are kept. -/
theorem rowsC (t : Fin cfg0.N) (h : ¬ t.val % 4 = 0) (h3 : t.val % 4 = 3) (hp : t.val - 1 < cfg0.N) :
    (outsAt0 m c t.val t.isLt).2.2.2.2.2 = (outsAt0 m c (t.val - 1) hp).2.2.2.2.2 := by
  rw [outsAt0_C m c t h h3]
  rfl

set_option maxHeartbeats 4000000 in
/-- The block of hidden values. -/
theorem hidC (t : Fin cfg0.N) (h : ¬ t.val % 4 = 0) (h3 : t.val % 4 = 3) (hp : t.val - 1 < cfg0.N) :
    (outsAt0 m c t.val t.isLt).2.1 = savedH (iblk m c 1 t) (iblk m c 2 t) := by
  rw [outsAt0_C m c t h h3]
  dsimp only
  unfold out0_C_7
  refine (View.read_writes_eq_canon _ _ _ (fun _ => cover0_C_7 ..)).trans ?_
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole _).read_unread, View.ld_unit_zero (S := S1024x1024) hz2, View.readCov_unit_zero (S := S1024x1024) _ hz2]
  rfl

set_option maxHeartbeats 4000000 in
/-- The block of the gate projection's gradient. -/
theorem gateC (t : Fin cfg0.N) (h : ¬ t.val % 4 = 0) (h3 : t.val % 4 = 3) (hp : t.val - 1 < cfg0.N) :
    (outsAt0 m c t.val t.isLt).2.2.1 = savedG (outsAt0 m c (t.val - 1) hp).2.2.2.2.2 (iblk m c 1 t) (iblk m c 2 t) (iblk m c 5 t) := by
  rw [outsAt0_C m c t h h3]
  dsimp only
  unfold out0_C_8
  refine (View.read_writes_eq_canon _ _ _ (fun _ => cover0_C_8 ..)).trans ?_
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole _).read_unread, View.ld_unit_zero (S := S1024x1024) hz2, View.readCov_unit_zero (S := S1024x1024) _ hz2]
  rfl

set_option maxHeartbeats 4000000 in
/-- The block of the up projection's gradient. -/
theorem upC (t : Fin cfg0.N) (h : ¬ t.val % 4 = 0) (h3 : t.val % 4 = 3) (hp : t.val - 1 < cfg0.N) :
    (outsAt0 m c t.val t.isLt).2.2.2.1 = savedU (outsAt0 m c (t.val - 1) hp).2.2.2.2.2 (iblk m c 1 t) (iblk m c 5 t) := by
  rw [outsAt0_C m c t h h3]
  dsimp only
  unfold out0_C_9
  refine (View.read_writes_eq_canon _ _ _ (fun _ => cover0_C_9 ..)).trans ?_
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole _).read_unread, View.ld_unit_zero (S := S1024x1024) hz2, View.readCov_unit_zero (S := S1024x1024) _ hz2]
  rfl

set_option maxHeartbeats 4000000 in
/-- The input's gradient after the last weight block. -/
theorem dxC (t : Fin cfg0.N) (h : ¬ t.val % 4 = 0) (h3 : t.val % 4 = 3) (hp : t.val - 1 < cfg0.N) :
    (outsAt0 m c t.val t.isLt).1 = k0_pay1 (F := Ideal) (iblk m c 0 t) (whole (outsAt0 m c (t.val - 1) hp).2.2.2.2.2 (iblk m c 1 t) (iblk m c 2 t) (iblk m c 3 t) (iblk m c 4 t) (iblk m c 5 t) (outsAt0 m c (t.val - 1) hp).2.2.2.2.1) := by
  rw [outsAt0_C m c t h h3]
  dsimp only
  unfold out0_C_6
  refine (View.read_writes_eq_canon _ _ _ (fun _ => cover0_C_6 ..)).trans ?_
  unfold kernelRun0_C
  dsimp only
  sl_unfold_words
  first | rw [View.canon_unit_zero hz2] | rw [View.canon_cons_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole _).read_unread, View.ld_unit_zero (S := S1024x1024) hz2, View.readCov_unit_zero (S := S1024x1024) _ hz2]
  rfl

end Ffn.Bwd
-- ==== Proof.Ffn.BwdSum.lean ====
/-
  The feed-forward half step's backward pass: the results of the call as functions of its arguments' entries.
-/
module

public import proofs.«01_k».proof.Proof.Ffn.BwdCase
public import proofs.«01_k».proof.Proof.Ffn.Sums
public import proofs.«01_k».proof.Proof.Gen.Kernel2Ideal.Value

@[expose] public section

set_option maxRecDepth 16384

noncomputable section

namespace Ffn.Bwd

open Idealize.ShloMosaic Idealize.ShloMosaic.TcCoe Idealize.ShloMosaic.ValueIdx
open Cert.Kernel2Ideal Cert.Kernel2Ideal.Gen

variable (m : (ℓ : Loc nD τ sig) → Buf (Elt Ideal) ℓ) (c : Dev nD)

/-- Row `k` of row block `i`. -/
abbrev row (i : Fin 4) (k : Fin 1024) : Fin 4096 := inBlock (show 4096 = 4 * 1024 by rfl) i k
/-- The grid point of row block `i` and weight block `j`. -/
abbrev pt (i j : Fin 4) : Fin cfg0.N := ⟨4 * i.val + j.val, lt_of_lt_of_eq (by have := i.isLt; have := j.isLt; omega) N_0.symm⟩

/-- An entry of the incoming gradient. -/
abbrev dz (s : Fin 4096) (d : Fin 1024) : EReal := V m c main_arg4 (ix2 s d)
/-- A saved gate projection. -/
abbrev sa (j : Fin 4) (s : Fin 4096) (r : Fin 704) : EReal := V m c main_v10 (ix3 j s r)
/-- A saved up projection. -/
abbrev su (j : Fin 4) (s : Fin 4096) (r : Fin 704) : EReal := V m c main_v13 (ix3 j s r)
/-- A gate weight. -/
abbrev wgt3 (j : Fin 4) (r : Fin 704) (d : Fin 1024) : EReal := V m c main_arg1 (ix3 j r d)
/-- An up weight. -/
abbrev wgt4 (j : Fin 4) (r : Fin 704) (d : Fin 1024) : EReal := V m c main_arg2 (ix3 j r d)
/-- A down weight. -/
abbrev wgt5 (j : Fin 4) (r : Fin 704) (d : Fin 1024) : EReal := V m c main_arg3 (ix3 j r d)

/-- Half the incoming gradient. -/
def half (s : Fin 4096) (d : Fin 1024) : EReal := Ideal.ofBits .f32 0x3F000000#32 * dz m c s d
/-- The gradient of a hidden unit. -/
def hg (j : Fin 4) (s : Fin 4096) (r : Fin 704) : EReal := ∑ e : Fin 1024, half m c s e * wgt5 m c j r e
/-- The gradient of a gate projection. -/
def pg (j : Fin 4) (s : Fin 4096) (r : Fin 704) : EReal := dgate (hg m c j s r) (sa m c j s r) (su m c j s r)
/-- The gradient of an up projection. -/
def pu (j : Fin 4) (s : Fin 4096) (r : Fin 704) : EReal := dup (hg m c j s r) (sa m c j s r)
/-- A hidden value. -/
def ph (j : Fin 4) (s : Fin 4096) (r : Fin 704) : EReal := hid (sa m c j s r) (su m c j s r)
/-- One weight block's contribution to a row of the input's gradient. -/
def part (j : Fin 4) (s : Fin 4096) (d : Fin 1024) : EReal :=
  ∑ r : Fin 704, pg m c j s r * wgt3 m c j r d + ∑ r : Fin 704, pu m c j s r * wgt4 m c j r d

theorem place0 : ∀ t : Fin cfg0.N, win0_0.index t (0 : Fin 2) = t.val / 4 ∧ win0_0.index t (1 : Fin 2) = 0 := by decide +kernel
/-- The block of rows at a point. -/
theorem block0 (i j : Fin 4) (k d : Fin 1024) : iblk m c 0 (pt i j) (ix2 k d) = dz m c (row i k) d := by
  obtain ⟨e0, e1⟩ := place0 (pt i j)
  have hi := i.isLt
  have hj := j.isLt
  have ev : (pt i j).val = 4 * i.val + j.val := rfl
  unfold iblk
  rw [View.read_apply]
  refine congrArg (V m c main_arg4) (funext fun z => Fin.ext ?_)
  match z with
  | ⟨0, _⟩ => show win0_0.index (pt i j) (0 : Fin 2) * 1024 + 1 * k.val = i.val * 1024 + k.val; omega
  | ⟨1, _⟩ => show win0_0.index (pt i j) (1 : Fin 2) * 1024 + 1 * d.val = d.val; omega

theorem place1 : ∀ t : Fin cfg0.N, win0_1.index t (0 : Fin 3) = t.val % 4 ∧ win0_1.index t (1 : Fin 3) = t.val / 4 ∧ win0_1.index t (2 : Fin 3) = 0 := by decide +kernel
/-- The block of a saved array at a point. -/
theorem block1 (i j : Fin 4) (k : Fin 1024) (r : Fin 704) : iblk m c 1 (pt i j) (ix3 (0 : Fin 1) k r) = sa m c j (row i k) r := by
  obtain ⟨e0, e1, e2⟩ := place1 (pt i j)
  have hi := i.isLt
  have hj := j.isLt
  have ev : (pt i j).val = 4 * i.val + j.val := rfl
  unfold iblk
  rw [View.read_apply]
  refine congrArg (V m c main_v10) (funext fun z => Fin.ext ?_)
  match z with
  | ⟨0, _⟩ => show win0_1.index (pt i j) (0 : Fin 3) * 1 + 1 * 0 = j.val; omega
  | ⟨1, _⟩ => show win0_1.index (pt i j) (1 : Fin 3) * 1024 + 1 * k.val = i.val * 1024 + k.val; omega
  | ⟨2, _⟩ => show win0_1.index (pt i j) (2 : Fin 3) * 704 + 1 * r.val = r.val; omega

theorem place2 : ∀ t : Fin cfg0.N, win0_2.index t (0 : Fin 3) = t.val % 4 ∧ win0_2.index t (1 : Fin 3) = t.val / 4 ∧ win0_2.index t (2 : Fin 3) = 0 := by decide +kernel
/-- The block of a saved array at a point. -/
theorem block2 (i j : Fin 4) (k : Fin 1024) (r : Fin 704) : iblk m c 2 (pt i j) (ix3 (0 : Fin 1) k r) = su m c j (row i k) r := by
  obtain ⟨e0, e1, e2⟩ := place2 (pt i j)
  have hi := i.isLt
  have hj := j.isLt
  have ev : (pt i j).val = 4 * i.val + j.val := rfl
  unfold iblk
  rw [View.read_apply]
  refine congrArg (V m c main_v13) (funext fun z => Fin.ext ?_)
  match z with
  | ⟨0, _⟩ => show win0_2.index (pt i j) (0 : Fin 3) * 1 + 1 * 0 = j.val; omega
  | ⟨1, _⟩ => show win0_2.index (pt i j) (1 : Fin 3) * 1024 + 1 * k.val = i.val * 1024 + k.val; omega
  | ⟨2, _⟩ => show win0_2.index (pt i j) (2 : Fin 3) * 704 + 1 * r.val = r.val; omega

theorem place3 : ∀ t : Fin cfg0.N, win0_3.index t (0 : Fin 3) = t.val % 4 ∧ win0_3.index t (1 : Fin 3) = 0 ∧ win0_3.index t (2 : Fin 3) = 0 := by decide +kernel
/-- The block of a weight array at a point. -/
theorem block3 (i j : Fin 4) (r : Fin 704) (d : Fin 1024) : iblk m c 3 (pt i j) (ix3 (0 : Fin 1) r d) = wgt3 m c j r d := by
  obtain ⟨e0, e1, e2⟩ := place3 (pt i j)
  have hi := i.isLt
  have hj := j.isLt
  have ev : (pt i j).val = 4 * i.val + j.val := rfl
  unfold iblk
  rw [View.read_apply]
  refine congrArg (V m c main_arg1) (funext fun z => Fin.ext ?_)
  match z with
  | ⟨0, _⟩ => show win0_3.index (pt i j) (0 : Fin 3) * 1 + 1 * 0 = j.val; omega
  | ⟨1, _⟩ => show win0_3.index (pt i j) (1 : Fin 3) * 704 + 1 * r.val = r.val; omega
  | ⟨2, _⟩ => show win0_3.index (pt i j) (2 : Fin 3) * 1024 + 1 * d.val = d.val; omega

theorem place4 : ∀ t : Fin cfg0.N, win0_4.index t (0 : Fin 3) = t.val % 4 ∧ win0_4.index t (1 : Fin 3) = 0 ∧ win0_4.index t (2 : Fin 3) = 0 := by decide +kernel
/-- The block of a weight array at a point. -/
theorem block4 (i j : Fin 4) (r : Fin 704) (d : Fin 1024) : iblk m c 4 (pt i j) (ix3 (0 : Fin 1) r d) = wgt4 m c j r d := by
  obtain ⟨e0, e1, e2⟩ := place4 (pt i j)
  have hi := i.isLt
  have hj := j.isLt
  have ev : (pt i j).val = 4 * i.val + j.val := rfl
  unfold iblk
  rw [View.read_apply]
  refine congrArg (V m c main_arg2) (funext fun z => Fin.ext ?_)
  match z with
  | ⟨0, _⟩ => show win0_4.index (pt i j) (0 : Fin 3) * 1 + 1 * 0 = j.val; omega
  | ⟨1, _⟩ => show win0_4.index (pt i j) (1 : Fin 3) * 704 + 1 * r.val = r.val; omega
  | ⟨2, _⟩ => show win0_4.index (pt i j) (2 : Fin 3) * 1024 + 1 * d.val = d.val; omega

theorem place5 : ∀ t : Fin cfg0.N, win0_5.index t (0 : Fin 3) = t.val % 4 ∧ win0_5.index t (1 : Fin 3) = 0 ∧ win0_5.index t (2 : Fin 3) = 0 := by decide +kernel
/-- The block of a weight array at a point. -/
theorem block5 (i j : Fin 4) (r : Fin 704) (d : Fin 1024) : iblk m c 5 (pt i j) (ix3 (0 : Fin 1) r d) = wgt5 m c j r d := by
  obtain ⟨e0, e1, e2⟩ := place5 (pt i j)
  have hi := i.isLt
  have hj := j.isLt
  have ev : (pt i j).val = 4 * i.val + j.val := rfl
  unfold iblk
  rw [View.read_apply]
  refine congrArg (V m c main_arg3) (funext fun z => Fin.ext ?_)
  match z with
  | ⟨0, _⟩ => show win0_5.index (pt i j) (0 : Fin 3) * 1 + 1 * 0 = j.val; omega
  | ⟨1, _⟩ => show win0_5.index (pt i j) (1 : Fin 3) * 704 + 1 * r.val = r.val; omega
  | ⟨2, _⟩ => show win0_5.index (pt i j) (2 : Fin 3) * 1024 + 1 * d.val = d.val; omega

/-- The state before a point is the state after the point before it. -/
theorem before (i j j' : Fin 4) (hj : j.val = j'.val + 1) (hp : (pt i j).val - 1 < cfg0.N) :
    outsAt0 m c ((pt i j).val - 1) hp = outsAt0 m c (pt i j').val (pt i j').isLt := by
  have e2 : (⟨(pt i j).val - 1, hp⟩ : Fin cfg0.N) = pt i j' := Fin.ext (by show 4 * i.val + j.val - 1 = 4 * i.val + j'.val; omega)
  rw [← e2]

theorem prior (i j : Fin 4) : (pt i j).val - 1 < cfg0.N := lt_of_le_of_lt (Nat.sub_le _ _) (pt i j).isLt

/-- The rows kept across a row block's weight blocks: the first point. -/
theorem kept_start (i : Fin 4) (k d : Fin 1024) :
    (outsAt0 m c (pt i 0).val (pt i 0).isLt).2.2.2.2.2 (ix2 k d) = half m c (row i k) d := by
  rw [rowsA m c (pt i 0) (by show (4 * i.val + 0) % 4 = 0; omega), half_apply, block0]; rfl

/-- The rows kept: a later point. -/
theorem kept_next (i j j' : Fin 4) (hj : j.val = j'.val + 1) (k d : Fin 1024) :
    (outsAt0 m c (pt i j).val (pt i j).isLt).2.2.2.2.2 (ix2 k d) = (outsAt0 m c (pt i j').val (pt i j').isLt).2.2.2.2.2 (ix2 k d) := by
  have ev : (pt i j).val = 4 * i.val + j.val := rfl
  have hj4 := j.isLt
  have e : (outsAt0 m c (pt i j).val (pt i j).isLt).2.2.2.2.2 = (outsAt0 m c ((pt i j).val - 1) (prior i j)).2.2.2.2.2 := by
    by_cases h3 : (pt i j).val % 4 = 3
    · exact rowsC m c (pt i j) (by omega) h3 _
    · exact rowsB m c (pt i j) (by omega) h3 _
  rw [e, before m c i j j' hj]

/-- The rows kept are the block's halved gradient rows. -/
theorem kept (i j : Fin 4) (k d : Fin 1024) :
    (outsAt0 m c (pt i j).val (pt i j).isLt).2.2.2.2.2 (ix2 k d) = half m c (row i k) d := by
  match j with
  | 0 => exact kept_start m c i k d
  | 1 => exact (kept_next m c i 1 0 rfl k d).trans (kept_start m c i k d)
  | 2 => exact (kept_next m c i 2 1 rfl k d).trans ((kept_next m c i 1 0 rfl k d).trans (kept_start m c i k d))
  | 3 => exact (kept_next m c i 3 2 rfl k d).trans ((kept_next m c i 2 1 rfl k d).trans ((kept_next m c i 1 0 rfl k d).trans (kept_start m c i k d)))

/-- A block's hidden gradients from kept rows. -/
theorem hgrad_eq (xb : Vec Ideal S1024x1024 .bf16) (i j : Fin 4) (k : Fin 1024) (h : ∀ e, xb (ix2 k e) = half m c (row i k) e) (r : Fin 704) : hgrad xb (iblk m c 5 (pt i j)) k r = hg m c j (row i k) r := by
  unfold hgrad hg
  exact Finset.sum_congr rfl fun e _ => by rw [h, block5]
/-- A block's gate gradients from kept rows. -/
theorem dg_eq (xb : Vec Ideal S1024x1024 .bf16) (i j : Fin 4) (k : Fin 1024) (h : ∀ e, xb (ix2 k e) = half m c (row i k) e) (r : Fin 704) : dg xb (iblk m c 1 (pt i j)) (iblk m c 2 (pt i j)) (iblk m c 5 (pt i j)) k r = pg m c j (row i k) r := by
  unfold dg pg
  rw [hgrad_eq m c xb i j k h, block1, block2]
/-- A block's up gradients from kept rows. -/
theorem du_eq (xb : Vec Ideal S1024x1024 .bf16) (i j : Fin 4) (k : Fin 1024) (h : ∀ e, xb (ix2 k e) = half m c (row i k) e) (r : Fin 704) : du xb (iblk m c 1 (pt i j)) (iblk m c 5 (pt i j)) k r = pu m c j (row i k) r := by
  unfold du pu
  rw [hgrad_eq m c xb i j k h, block1]

/-- A point adds its weight block's contribution. -/
theorem whole_part (xb : Vec Ideal S1024x1024 .bf16) (acc : Vec Ideal S1024x1024 .f32) (i j : Fin 4) (k : Fin 1024)
    (h : ∀ e, xb (ix2 k e) = half m c (row i k) e) (d : Fin 1024) :
    whole xb (iblk m c 1 (pt i j)) (iblk m c 2 (pt i j)) (iblk m c 3 (pt i j)) (iblk m c 4 (pt i j)) (iblk m c 5 (pt i j)) acc (ix2 k d) = acc (ix2 k d) + part m c j (row i k) d := by
  rw [whole_apply]
  refine congrArg (acc (ix2 k d) + ·) (congrArg₂ (fun s t : EReal => s + t) (Finset.sum_congr rfl fun r _ => ?_) (Finset.sum_congr rfl fun r _ => ?_))
  · rw [dg_eq m c xb i j k h, block3]
  · rw [du_eq m c xb i j k h, block4]

/-- The first point's kept rows. -/
theorem start_rows (i : Fin 4) (j : Fin 4) (k e : Fin 1024) : k0_pay2 (F := Ideal) (iblk m c 0 (pt i j)) (ix2 k e) = half m c (row i k) e := by
  rw [half_apply, block0]; rfl

/-- The accumulator: the first point. -/
theorem acc_start (i : Fin 4) (k d : Fin 1024) :
    (outsAt0 m c (pt i 0).val (pt i 0).isLt).2.2.2.2.1 (ix2 k d) = part m c 0 (row i k) d := by
  rw [accA m c (pt i 0) (by show (4 * i.val + 0) % 4 = 0; omega), whole_part m c _ _ i 0 k (start_rows m c i 0 k), zero_apply, zero_add]

/-- The accumulator: a later point. -/
theorem acc_next (i j j' : Fin 4) (hj : j.val = j'.val + 1) (k d : Fin 1024) :
    (outsAt0 m c (pt i j).val (pt i j).isLt).2.2.2.2.1 (ix2 k d)
      = (outsAt0 m c (pt i j').val (pt i j').isLt).2.2.2.2.1 (ix2 k d) + part m c j (row i k) d := by
  have ev : (pt i j).val = 4 * i.val + j.val := rfl
  have hj4 := j.isLt
  have e : (outsAt0 m c (pt i j).val (pt i j).isLt).2.2.2.2.1
      = whole (outsAt0 m c ((pt i j).val - 1) (prior i j)).2.2.2.2.2 (iblk m c 1 (pt i j)) (iblk m c 2 (pt i j)) (iblk m c 3 (pt i j)) (iblk m c 4 (pt i j)) (iblk m c 5 (pt i j)) (outsAt0 m c ((pt i j).val - 1) (prior i j)).2.2.2.2.1 := by
    by_cases h3 : (pt i j).val % 4 = 3
    · exact accC m c (pt i j) (by omega) h3 _
    · exact accB m c (pt i j) (by omega) h3 _
  rw [e, before m c i j j' hj, whole_part m c _ _ i j k (fun e => kept m c i j' k e)]

/-- The finished accumulator. -/
theorem acc_total (i : Fin 4) (k d : Fin 1024) :
    (outsAt0 m c (pt i 3).val (pt i 3).isLt).2.2.2.2.1 (ix2 k d) = ∑ j : Fin 4, part m c j (row i k) d := by
  rw [acc_next m c i 3 2 rfl, acc_next m c i 2 1 rfl, acc_next m c i 1 0 rfl, acc_start, Fin.sum_univ_four]

/-- The input's gradient at the last point. -/
theorem last_x (i : Fin 4) (k d : Fin 1024) : (outsAt0 m c (pt i 3).val (pt i 3).isLt).1 (ix2 k d) = Ideal.ofBits .f32 0x3FB504F3#32 * dz m c (row i k) d + ∑ j : Fin 4, part m c j (row i k) d := by
  rw [dxC m c (pt i 3) (by show ¬ (4 * i.val + 3) % 4 = 0; omega) (by show (4 * i.val + 3) % 4 = 3; omega) (prior i 3), ← accC m c (pt i 3) (by show ¬ (4 * i.val + 3) % 4 = 0; omega) (by show (4 * i.val + 3) % 4 = 3; omega) (prior i 3), last_apply, block0, acc_total]

/-- The hidden values at every point. -/
theorem hid_eq (i j : Fin 4) (k : Fin 1024) (r : Fin 704) : (outsAt0 m c (pt i j).val (pt i j).isLt).2.1 (ix3 (0 : Fin 1) k r) = ph m c j (row i k) r := by
  have ev : (pt i j).val = 4 * i.val + j.val := rfl
  have hj4 := j.isLt
  have e : (outsAt0 m c (pt i j).val (pt i j).isLt).2.1 = savedH (iblk m c 1 (pt i j)) (iblk m c 2 (pt i j)) := by
    by_cases h0 : (pt i j).val % 4 = 0
    · exact hidA m c (pt i j) h0
    · by_cases h3 : (pt i j).val % 4 = 3
      · exact hidC m c (pt i j) h0 h3 (prior i j)
      · exact hidB m c (pt i j) h0 h3 (prior i j)
  rw [e, savedH_apply, block1, block2]
  rfl

/-- The gate projection's gradient at every point. -/
theorem gate_eq (i j : Fin 4) (k : Fin 1024) (r : Fin 704) : (outsAt0 m c (pt i j).val (pt i j).isLt).2.2.1 (ix3 (0 : Fin 1) k r) = pg m c j (row i k) r := by
  have ev : (pt i j).val = 4 * i.val + j.val := rfl
  have hj4 := j.isLt
  by_cases h0 : j.val = 0
  · rw [gateA m c (pt i j) (by omega), savedG_apply, dg_eq m c _ i j k (start_rows m c i j k)]
  · have e : (outsAt0 m c (pt i j).val (pt i j).isLt).2.2.1 = savedG (outsAt0 m c ((pt i j).val - 1) (prior i j)).2.2.2.2.2 (iblk m c 1 (pt i j)) (iblk m c 2 (pt i j)) (iblk m c 5 (pt i j)) := by
      by_cases h3 : (pt i j).val % 4 = 3
      · exact gateC m c (pt i j) (by omega) h3 _
      · exact gateB m c (pt i j) (by omega) h3 _
    rw [e, savedG_apply, dg_eq m c _ i j k (fun e => by rw [before m c i j ⟨j.val - 1, by omega⟩ (by show j.val = j.val - 1 + 1; omega)]; exact kept m c i _ k e)]

/-- The up projection's gradient at every point. -/
theorem up_eq (i j : Fin 4) (k : Fin 1024) (r : Fin 704) : (outsAt0 m c (pt i j).val (pt i j).isLt).2.2.2.1 (ix3 (0 : Fin 1) k r) = pu m c j (row i k) r := by
  have ev : (pt i j).val = 4 * i.val + j.val := rfl
  have hj4 := j.isLt
  by_cases h0 : j.val = 0
  · rw [upA m c (pt i j) (by omega), savedU_apply, du_eq m c _ i j k (start_rows m c i j k)]
  · have e : (outsAt0 m c (pt i j).val (pt i j).isLt).2.2.2.1 = savedU (outsAt0 m c ((pt i j).val - 1) (prior i j)).2.2.2.2.2 (iblk m c 1 (pt i j)) (iblk m c 5 (pt i j)) := by
      by_cases h3 : (pt i j).val % 4 = 3
      · exact upC m c (pt i j) (by omega) h3 _
      · exact upB m c (pt i j) (by omega) h3 _
    rw [e, savedU_apply, du_eq m c _ i j k (fun e => by rw [before m c i j ⟨j.val - 1, by omega⟩ (by show j.val = j.val - 1 + 1; omega)]; exact kept m c i _ k e)]

/-- The input's gradient at an index. -/
theorem res6 (i : Fin 4) (k d : Fin 1024) : Cert.Kernel2Ideal.Value.G6 m c (ix2 (row i k) d) = Ideal.ofBits .f32 0x3FB504F3#32 * dz m c (row i k) d + ∑ j : Fin 4, part m c j (row i k) d := by
  have hi := i.isLt
  have hk := k.isLt
  have hd := d.isLt
  have e : Cert.Kernel2Ideal.Value.pt6Of (ix2 (row i k) d) = (pt i 3).val := by
    show 4 * (1 * ((i.val * 1024 + k.val) / 1024 - 0) + 1 * (d.val / 1024 - 0)) + 3 = 4 * i.val + 3
    omega
  have el : Cert.Kernel2Ideal.Value.loc6Of (ix2 (row i k) d) = ix2 k d := funext fun a => Fin.ext (by
    match a with
    | ⟨0, _⟩ => show (i.val * 1024 + k.val) % 1024 = k.val; omega
    | ⟨1, _⟩ => show d.val % 1024 = d.val; omega)
  have key : ∀ (n : ℕ) (hn : n < cfg0.N), n = (pt i 3).val → (outsAt0 m c n hn).1 (ix2 k d) = Ideal.ofBits .f32 0x3FB504F3#32 * dz m c (row i k) d + ∑ j : Fin 4, part m c j (row i k) d := by
    intro n hn h
    subst h
    exact last_x m c i k d
  unfold Cert.Kernel2Ideal.Value.G6
  rw [dif_pos (show Cert.Kernel2Ideal.Value.pt6Of (ix2 (row i k) d) < cfg0.N by rw [e]; exact (pt i 3).isLt), el]
  rw [← Cert.Kernel2Ideal.Value.outsAt0_sweep m c _ (show Cert.Kernel2Ideal.Value.pt6Of (ix2 (row i k) d) < cfg0.N by rw [e]; exact (pt i 3).isLt)]
  exact key _ _ e

/-- A block of hidden columns at an index. -/
theorem res7 (j i : Fin 4) (k : Fin 1024) (r : Fin 704) : Cert.Kernel2Ideal.Value.G7 m c (ix3 j (row i k) r) = ph m c j (row i k) r := by
  have hi := i.isLt
  have hj := j.isLt
  have hk := k.isLt
  have hr := r.isLt
  have e : Cert.Kernel2Ideal.Value.pt7Of (ix3 j (row i k) r) = (pt i j).val := by
    show 1 * (j.val / 1 - 0) + 4 * ((i.val * 1024 + k.val) / 1024 - 0) + 16 * (r.val / 704 - 0) = 4 * i.val + j.val
    omega
  have el : Cert.Kernel2Ideal.Value.loc7Of (ix3 j (row i k) r) = ix3 (0 : Fin 1) k r := funext fun a => Fin.ext (by
    match a with
    | ⟨0, _⟩ => show j.val % 1 = 0; omega
    | ⟨1, _⟩ => show (i.val * 1024 + k.val) % 1024 = k.val; omega
    | ⟨2, _⟩ => show r.val % 704 = r.val; omega)
  have key : ∀ (n : ℕ) (hn : n < cfg0.N), n = (pt i j).val → (outsAt0 m c n hn).2.1 (ix3 (0 : Fin 1) k r) = ph m c j (row i k) r := by
    intro n hn h
    subst h
    exact hid_eq m c i j k r
  unfold Cert.Kernel2Ideal.Value.G7
  rw [dif_pos (show Cert.Kernel2Ideal.Value.pt7Of (ix3 j (row i k) r) < cfg0.N by rw [e]; exact (pt i j).isLt), el]
  rw [← Cert.Kernel2Ideal.Value.outsAt0_sweep m c _ (show Cert.Kernel2Ideal.Value.pt7Of (ix3 j (row i k) r) < cfg0.N by rw [e]; exact (pt i j).isLt)]
  exact key _ _ e

/-- A block of hidden columns at an index. -/
theorem res8 (j i : Fin 4) (k : Fin 1024) (r : Fin 704) : Cert.Kernel2Ideal.Value.G8 m c (ix3 j (row i k) r) = pg m c j (row i k) r := by
  have hi := i.isLt
  have hj := j.isLt
  have hk := k.isLt
  have hr := r.isLt
  have e : Cert.Kernel2Ideal.Value.pt8Of (ix3 j (row i k) r) = (pt i j).val := by
    show 1 * (j.val / 1 - 0) + 4 * ((i.val * 1024 + k.val) / 1024 - 0) + 16 * (r.val / 704 - 0) = 4 * i.val + j.val
    omega
  have el : Cert.Kernel2Ideal.Value.loc8Of (ix3 j (row i k) r) = ix3 (0 : Fin 1) k r := funext fun a => Fin.ext (by
    match a with
    | ⟨0, _⟩ => show j.val % 1 = 0; omega
    | ⟨1, _⟩ => show (i.val * 1024 + k.val) % 1024 = k.val; omega
    | ⟨2, _⟩ => show r.val % 704 = r.val; omega)
  have key : ∀ (n : ℕ) (hn : n < cfg0.N), n = (pt i j).val → (outsAt0 m c n hn).2.2.1 (ix3 (0 : Fin 1) k r) = pg m c j (row i k) r := by
    intro n hn h
    subst h
    exact gate_eq m c i j k r
  unfold Cert.Kernel2Ideal.Value.G8
  rw [dif_pos (show Cert.Kernel2Ideal.Value.pt8Of (ix3 j (row i k) r) < cfg0.N by rw [e]; exact (pt i j).isLt), el]
  rw [← Cert.Kernel2Ideal.Value.outsAt0_sweep m c _ (show Cert.Kernel2Ideal.Value.pt8Of (ix3 j (row i k) r) < cfg0.N by rw [e]; exact (pt i j).isLt)]
  exact key _ _ e

/-- A block of hidden columns at an index. -/
theorem res9 (j i : Fin 4) (k : Fin 1024) (r : Fin 704) : Cert.Kernel2Ideal.Value.G9 m c (ix3 j (row i k) r) = pu m c j (row i k) r := by
  have hi := i.isLt
  have hj := j.isLt
  have hk := k.isLt
  have hr := r.isLt
  have e : Cert.Kernel2Ideal.Value.pt9Of (ix3 j (row i k) r) = (pt i j).val := by
    show 1 * (j.val / 1 - 0) + 4 * ((i.val * 1024 + k.val) / 1024 - 0) + 16 * (r.val / 704 - 0) = 4 * i.val + j.val
    omega
  have el : Cert.Kernel2Ideal.Value.loc9Of (ix3 j (row i k) r) = ix3 (0 : Fin 1) k r := funext fun a => Fin.ext (by
    match a with
    | ⟨0, _⟩ => show j.val % 1 = 0; omega
    | ⟨1, _⟩ => show (i.val * 1024 + k.val) % 1024 = k.val; omega
    | ⟨2, _⟩ => show r.val % 704 = r.val; omega)
  have key : ∀ (n : ℕ) (hn : n < cfg0.N), n = (pt i j).val → (outsAt0 m c n hn).2.2.2.1 (ix3 (0 : Fin 1) k r) = pu m c j (row i k) r := by
    intro n hn h
    subst h
    exact up_eq m c i j k r
  unfold Cert.Kernel2Ideal.Value.G9
  rw [dif_pos (show Cert.Kernel2Ideal.Value.pt9Of (ix3 j (row i k) r) < cfg0.N by rw [e]; exact (pt i j).isLt), el]
  rw [← Cert.Kernel2Ideal.Value.outsAt0_sweep m c _ (show Cert.Kernel2Ideal.Value.pt9Of (ix3 j (row i k) r) < cfg0.N by rw [e]; exact (pt i j).isLt)]
  exact key _ _ e

end Ffn.Bwd
-- ==== Proof.Ffn.BwdHost.lean ====
/-
  The feed-forward half step's backward pass: what the host operations before the call hand it, written with the reference's own values.
-/
module

public import proofs.«01_k».proof.Proof.Ffn.Sums
public import proofs.«01_k».proof.Proof.Gen.Kernel2Ideal.Frame
public import proofs.«01_k».proof.Proof.Gen.Reference2Ideal.Read

@[expose] public section

set_option maxRecDepth 16384

noncomputable section

namespace Ffn.Bwd

open Idealize.ShloMosaic Idealize.ShloMosaic.TcCoe Idealize.ShloMosaic.ValueIdx Idealize.ShloMosaic.StableHlo
open Cert.Kernel2Ideal Cert.Kernel2Ideal.Gen
open Cert.Reference2Ideal.Read

/-- The layout the call is given. -/
def blocked (w : FVec Ideal S4096x2816 .f32) : FVec Ideal S4x4096x704 .bf16 :=
  truncf .bf16 (transpose S4x4096x704 [1, 0, 2] (shapeCast S4096x4x704 w shapeCasts_S4096x2816_S4096x4x704)
    transposes_S4096x4x704_S4x4096x704_1_0_2) bitsLt_bf16_f32

/-- The buffers after the host operations. -/
def hv1 (V0 : Valuation τ sig (Elt Ideal)) : Valuation τ sig (Elt Ideal) := after hostOps0 V0

set_option maxHeartbeats 8000000 in
/-- The gate projection the call is given. -/
theorem hv1_v10 (V0 : Valuation τ sig (Elt Ideal)) : hv1 V0 (no_index (Proc.devRef .tc main_v10))
    = blocked (val_main_v11 (F := Ideal) (V0 (Proc.devRef .tc main_arg0)) (V0 (Proc.devRef .tc main_arg1))) := by
  unfold hv1
  simp only [hostOps0]
  after_results_simp
  rfl

set_option maxHeartbeats 8000000 in
/-- The up projection the call is given. -/
theorem hv1_v13 (V0 : Valuation τ sig (Elt Ideal)) : hv1 V0 (no_index (Proc.devRef .tc main_v13))
    = blocked (val_main_v11 (F := Ideal) (V0 (Proc.devRef .tc main_arg0)) (V0 (Proc.devRef .tc main_arg2))) := by
  unfold hv1
  simp only [hostOps0]
  after_results_simp
  rfl

theorem V_eq (m : (ℓ : Loc nD τ sig) → Buf (Elt Ideal) ℓ) (c : Dev nD) (b : Ref sig .tc) : V m c b = hv1 (fun b => m (c, b)) (Proc.devRef .tc b) := rfl

/-- The layout at an index. -/
theorem blocked_apply (w : FVec Ideal S4096x2816 .f32) (j : Fin 4) (s : Fin 4096) (r : Fin 704) :
    blocked w (ix3 j s r) = w (ix2 s (inBlock (show 2816 = 4 * 704 by rfl) j r)) := by
  have e : blocked w (ix3 j s r) = transpose S4x4096x704 [1, 0, 2] (shapeCast S4096x4x704 w shapeCasts_S4096x2816_S4096x4x704)
    transposes_S4096x4x704_S4x4096x704_1_0_2 (ix3 j s r) := rfl
  rw [e]
  refine (transpose_apply [1, 0, 2] _ transposes_S4096x4x704_S4x4096x704_1_0_2 (ix3 j s r) (ix3 s j r) (fun b => match b with
    | ⟨0, _⟩ => rfl
    | ⟨1, _⟩ => rfl
    | ⟨2, _⟩ => rfl)).trans ?_
  refine shapeCast_apply _ _ _ _ ?_
  rw [Shape.rowMajor_val_two, Shape.rowMajor_val_three]
  show s.val * 2816 + (j.val * 704 + r.val) = (s.val * 4 + j.val) * 704 + r.val
  omega

end Ffn.Bwd
-- ==== Proof.Ffn.BwdRef.lean ====
/-
  The reference's gradient of the feed-forward half step's input, with the hidden values and the gradients of the two projections, read at
  an index.
-/
module

public import proofs.«01_k».proof.Proof.Ffn.BwdSum
public import proofs.«01_k».proof.Proof.Gen.Reference2Ideal.Read

@[expose] public section

set_option maxRecDepth 16384

noncomputable section

namespace Ffn.Bwd

open Idealize.ShloMosaic Idealize.ShloMosaic.ValueIdx
open Cert.Reference2Ideal Cert.Reference2Ideal.Read

/-- Hidden unit `r` of weight block `j`. -/
abbrev unit (j : Fin 4) (r : Fin 704) : Fin 2816 := inBlock (show 2816 = 4 * 704 by rfl) j r

variable (x0 : FVec Ideal S4096x1024 .f32) (x1 x2 x3 : FVec Ideal S4x704x1024 .bf16) (x4 : FVec Ideal S4096x1024 .f32)

/-- The zero word. -/
theorem word_zero : Ideal.ofBits .f32 0x00000000#32 = (0 : EReal) := by simp [Ideal.ofBits, Ideal.ieee]

/-- A projection of a row. -/
def rp (w : FVec Ideal S4x704x1024 .bf16) (j : Fin 4) (s : Fin 4096) (r : Fin 704) : EReal := ∑ e : Fin 1024, x0 (ix2 s e) * w (ix3 j r e)
/-- The gradient of a hidden unit. -/
def rh (j : Fin 4) (s : Fin 4096) (r : Fin 704) : EReal := ∑ e : Fin 1024, Ideal.ofBits .f32 0x3F000000#32 * x4 (ix2 s e) * x3 (ix3 j r e)
/-- The reference's gradient of the gate projection: the sigmoid's part and the part of its derivative. -/
def rgate (t a u : EReal) : EReal := t * u * Ideal.logistic a + a * (t * u) * (Ideal.logistic a * (Ideal.ofBits .f32 0x3F800000#32 - Ideal.logistic a))

/-- Where a wide weight row lies in its block. -/
theorem idx1 (j : Fin 4) (r : Fin 704) (d : Fin 1024) : idx_main_v1 (ix2 (unit j r) d) = ix3 j r d := funext fun a => Fin.ext (by
  have := d.isLt
  have := r.isLt
  match a with
  | ⟨0, _⟩ => show ((j.val * 704 + r.val) * 1024 + d.val) / 720896 = j.val; omega
  | ⟨1, _⟩ => show ((j.val * 704 + r.val) * 1024 + d.val) / 1024 % 704 = r.val; omega
  | ⟨2, _⟩ => show ((j.val * 704 + r.val) * 1024 + d.val) % 1024 = d.val; omega)

/-- A transposed weight. -/
theorem v2_at (j : Fin 4) (r : Fin 704) (d : Fin 1024) : val_main_v2 (F := Ideal) x1 (ix2 d (unit j r)) = x1 (ix3 j r d) := by
  have er : idx_main_v2 (ix2 d (unit j r)) = ix2 (unit j r) d := funext fun a => match a with
    | ⟨0, _⟩ => rfl
    | ⟨1, _⟩ => rfl
  rw [val_main_v2_apply, er, val_main_v1_apply, idx1]
  rfl
theorem v5_at (j : Fin 4) (r : Fin 704) (d : Fin 1024) : val_main_v5 (F := Ideal) x2 (ix2 d (unit j r)) = x2 (ix3 j r d) := v2_at x2 j r d
theorem v7_at (j : Fin 4) (r : Fin 704) (d : Fin 1024) : val_main_v7 (F := Ideal) x3 (ix2 (unit j r) d) = x3 (ix3 j r d) := by
  have ei : idx_main_v7 (ix2 (unit j r) d) = ix3 j r d := idx1 j r d
  rw [val_main_v7_apply, ei]
  rfl

/-- The gate projection. -/
theorem v11_at (s : Fin 4096) (j : Fin 4) (r : Fin 704) : val_main_v11 (F := Ideal) x0 x1 (ix2 s (unit j r)) = rp x0 x1 j s r := by
  rw [val_main_v11_apply]
  unfold rp
  refine Finset.sum_congr rfl fun e _ => ?_
  have el : lidx_main_v11 (ix2 s (unit j r)) e = ix2 s e := funext fun a => match a with
    | ⟨0, _⟩ => rfl
    | ⟨1, _⟩ => rfl
  have er : ridx_main_v11 (ix2 s (unit j r)) e = ix2 e (unit j r) := funext fun a => match a with
    | ⟨0, _⟩ => rfl
    | ⟨1, _⟩ => rfl
  rw [el, er, v2_at]
/-- The gate projection with the zero that its derivative's split leaves. -/
theorem v12_at (s : Fin 4096) (j : Fin 4) (r : Fin 704) : val_main_v12 (F := Ideal) x0 x1 (ix2 s (unit j r)) = rp x0 x1 j s r := by
  have e : val_main_v12 (F := Ideal) x0 x1 (ix2 s (unit j r)) = val_main_v11 (F := Ideal) x0 x1 (ix2 s (unit j r)) + Ideal.ofBits .f32 0x00000000#32 := rfl
  rw [e, v11_at, word_zero, add_zero]
theorem v14_at (s : Fin 4096) (j : Fin 4) (r : Fin 704) : val_main_v14 (F := Ideal) x0 x2 (ix2 s (unit j r)) = rp x0 x2 j s r := v12_at x0 x2 s j r

/-- The sigmoid of a projection. -/
theorem v15_at (s : Fin 4096) (j : Fin 4) (r : Fin 704) : val_main_v15_2 (F := Ideal) x0 x1 (ix2 s (unit j r)) = Ideal.logistic (rp x0 x1 j s r) := by
  have e : val_main_v15_2 (F := Ideal) x0 x1 (ix2 s (unit j r))
      = Ideal.div (Ideal.ofBits .f32 0x3F800000#32) (Ideal.ofBits .f32 0x3F800000#32 + Ideal.exp (-(val_main_v12 (F := Ideal) x0 x1 (ix2 s (unit j r))))) := rfl
  rw [e, v12_at, ofBits_one]
  rfl

/-- The hidden unit's gradient. -/
theorem v25_at (s : Fin 4096) (j : Fin 4) (r : Fin 704) : val_main_v25 (F := Ideal) x3 x4 (ix2 s (unit j r)) = rh x3 x4 j s r := by
  rw [val_main_v25_apply]
  unfold rh
  refine Finset.sum_congr rfl fun e _ => ?_
  have el : lidx_main_v25 (ix2 s (unit j r)) e = ix2 s e := funext fun a => match a with
    | ⟨0, _⟩ => rfl
    | ⟨1, _⟩ => rfl
  have er : ridx_main_v25 (ix2 s (unit j r)) e = ix2 (unit j r) e := funext fun a => match a with
    | ⟨0, _⟩ => rfl
    | ⟨1, _⟩ => rfl
  have ew : idx_main_v22 (ix2 s e) = ix2 s e := funext fun a => Fin.ext (by
    have := e.isLt
    match a with
    | ⟨0, _⟩ => show (s.val * 1024 + e.val) / 1024 = s.val; omega
    | ⟨1, _⟩ => show (s.val * 1024 + e.val) % 1024 = e.val; omega)
  rw [el, er, v7_at, val_main_v24_apply, val_main_v22_apply, ew]
  rfl

/-- The up projection's gradient. -/
theorem v26_at (s : Fin 4096) (j : Fin 4) (r : Fin 704) : val_main_v26 (F := Ideal) x0 x1 x3 x4 (ix2 s (unit j r)) = dup (rh x3 x4 j s r) (rp x0 x1 j s r) := by
  have e : val_main_v26 (F := Ideal) x0 x1 x3 x4 (ix2 s (unit j r))
      = val_main_v12 (F := Ideal) x0 x1 (ix2 s (unit j r)) * val_main_v15_2 (F := Ideal) x0 x1 (ix2 s (unit j r)) * val_main_v25 (F := Ideal) x3 x4 (ix2 s (unit j r)) := rfl
  rw [e, v12_at, v15_at, v25_at]
  exact mul_comm _ _

/-- The gate projection's gradient. -/
theorem v28_at (s : Fin 4096) (j : Fin 4) (r : Fin 704) :
    val_main_v28 (F := Ideal) x0 x1 x2 x3 x4 (ix2 s (unit j r)) = rgate (rh x3 x4 j s r) (rp x0 x1 j s r) (rp x0 x2 j s r) := by
  have e : val_main_v28 (F := Ideal) x0 x1 x2 x3 x4 (ix2 s (unit j r))
      = val_main_v25 (F := Ideal) x3 x4 (ix2 s (unit j r)) * val_main_v14 (F := Ideal) x0 x2 (ix2 s (unit j r)) * val_main_v15_2 (F := Ideal) x0 x1 (ix2 s (unit j r))
        + val_main_v12 (F := Ideal) x0 x1 (ix2 s (unit j r)) * (val_main_v25 (F := Ideal) x3 x4 (ix2 s (unit j r)) * val_main_v14 (F := Ideal) x0 x2 (ix2 s (unit j r)))
          * (val_main_v15_2 (F := Ideal) x0 x1 (ix2 s (unit j r)) * (Ideal.ofBits .f32 0x3F800000#32 - val_main_v15_2 (F := Ideal) x0 x1 (ix2 s (unit j r)))) := rfl
  rw [e, v12_at, v14_at, v15_at, v25_at]
  rfl

/-- One projection's share of the input's gradient. -/
theorem v29_at (s : Fin 4096) (d : Fin 1024) : val_main_v29 (F := Ideal) x0 x1 x2 x3 x4 (ix2 s d) = ∑ j : Fin 4, ∑ r : Fin 704, dup (rh x3 x4 j s r) (rp x0 x1 j s r) * x2 (ix3 j r d) := by
  rw [val_main_v29_apply, sum_inBlock (show 2816 = 4 * 704 by rfl)]
  refine Finset.sum_congr rfl fun j _ => Finset.sum_congr rfl fun r _ => ?_
  have el : lidx_main_v29 (ix2 s d) (unit j r) = ix2 s (unit j r) := funext fun a => match a with
    | ⟨0, _⟩ => rfl
    | ⟨1, _⟩ => rfl
  have er : ridx_main_v29 (ix2 s d) (unit j r) = ix2 d (unit j r) := funext fun a => match a with
    | ⟨0, _⟩ => rfl
    | ⟨1, _⟩ => rfl
  rw [el, er, v26_at, v5_at]

/-- One projection's share of the input's gradient. -/
theorem v30_at (s : Fin 4096) (d : Fin 1024) : val_main_v30 (F := Ideal) x0 x1 x2 x3 x4 (ix2 s d) = ∑ j : Fin 4, ∑ r : Fin 704, rgate (rh x3 x4 j s r) (rp x0 x1 j s r) (rp x0 x2 j s r) * x1 (ix3 j r d) := by
  rw [val_main_v30_apply, sum_inBlock (show 2816 = 4 * 704 by rfl)]
  refine Finset.sum_congr rfl fun j _ => Finset.sum_congr rfl fun r _ => ?_
  have el : lidx_main_v30 (ix2 s d) (unit j r) = ix2 s (unit j r) := funext fun a => match a with
    | ⟨0, _⟩ => rfl
    | ⟨1, _⟩ => rfl
  have er : ridx_main_v30 (ix2 s d) (unit j r) = ix2 d (unit j r) := funext fun a => match a with
    | ⟨0, _⟩ => rfl
    | ⟨1, _⟩ => rfl
  rw [el, er, v28_at, v2_at]

/-- The input's gradient. -/
theorem v34_at (s : Fin 4096) (d : Fin 1024) : val_main_v34 (F := Ideal) x0 x1 x2 x3 x4 (ix2 s d)
    = ((∑ j : Fin 4, ∑ r : Fin 704, dup (rh x3 x4 j s r) (rp x0 x1 j s r) * x2 (ix3 j r d))
        + ∑ j : Fin 4, ∑ r : Fin 704, rgate (rh x3 x4 j s r) (rp x0 x1 j s r) (rp x0 x2 j s r) * x1 (ix3 j r d))
      + Ideal.ofBits .f32 0x3FB504F3#32 * x4 (ix2 s d) := by
  have ew : idx_main_v21 (ix2 s d) = ix2 s d := funext fun a => Fin.ext (by
    have := d.isLt
    match a with
    | ⟨0, _⟩ => show (s.val * 1024 + d.val) / 1024 = s.val; omega
    | ⟨1, _⟩ => show (s.val * 1024 + d.val) % 1024 = d.val; omega)
  rw [← v29_at, ← v30_at, val_main_v34_apply, val_main_v31_apply, val_main_v33_apply, val_main_v21_apply, ew]
  rfl

/-- A hidden value before the change of layout. -/
theorem v38_at (s : Fin 4096) (j : Fin 4) (r : Fin 704) : val_main_v38 (F := Ideal) x0 x1 x2 (ix2 s (unit j r)) = hid (rp x0 x1 j s r) (rp x0 x2 j s r) := by
  have e : val_main_v38 (F := Ideal) x0 x1 x2 (ix2 s (unit j r))
      = val_main_v11 (F := Ideal) x0 x1 (ix2 s (unit j r)) * Ideal.div (Ideal.ofBits .f32 0x3F800000#32) (Ideal.ofBits .f32 0x3F800000#32 + Ideal.exp (-(val_main_v11 (F := Ideal) x0 x1 (ix2 s (unit j r))))) * val_main_v11 (F := Ideal) x0 x2 (ix2 s (unit j r)) := rfl
  rw [e, v11_at, v11_at, ofBits_one]
  rfl

/-- The hidden values. -/
theorem v41_at (j : Fin 4) (s : Fin 4096) (r : Fin 704) : val_main_v41 (F := Ideal) x0 x1 x2 (ix3 j s r) = hid (rp x0 x1 j s r) (rp x0 x2 j s r) := by
  have ei : idx_main_v39 (idx_main_v40 (ix3 j s r)) = ix2 s (unit j r) := funext fun a => Fin.ext (by
    have := r.isLt
    have := j.isLt
    match a with
    | ⟨0, _⟩ => show ((s.val * 4 + j.val) * 704 + r.val) / 2816 = s.val; omega
    | ⟨1, _⟩ => show ((s.val * 4 + j.val) * 704 + r.val) % 2816 = j.val * 704 + r.val; omega)
  have e : val_main_v41 (F := Ideal) x0 x1 x2 (ix3 j s r) = val_main_v40 (F := Ideal) x0 x1 x2 (ix3 j s r) := rfl
  rw [e, val_main_v40_apply, val_main_v39_apply, ei, v38_at]

/-- The gate gradients. -/
theorem v44_at (j : Fin 4) (s : Fin 4096) (r : Fin 704) : val_main_v44 (F := Ideal) x0 x1 x2 x3 x4 (ix3 j s r) = rgate (rh x3 x4 j s r) (rp x0 x1 j s r) (rp x0 x2 j s r) := by
  have ei : idx_main_v42 (idx_main_v43 (ix3 j s r)) = ix2 s (unit j r) := funext fun a => Fin.ext (by
    have := r.isLt
    have := j.isLt
    match a with
    | ⟨0, _⟩ => show ((s.val * 4 + j.val) * 704 + r.val) / 2816 = s.val; omega
    | ⟨1, _⟩ => show ((s.val * 4 + j.val) * 704 + r.val) % 2816 = j.val * 704 + r.val; omega)
  have e : val_main_v44 (F := Ideal) x0 x1 x2 x3 x4 (ix3 j s r) = val_main_v43 (F := Ideal) x0 x1 x2 x3 x4 (ix3 j s r) := rfl
  rw [e, val_main_v43_apply, val_main_v42_apply, ei, v28_at]

/-- The up gradients. -/
theorem v47_at (j : Fin 4) (s : Fin 4096) (r : Fin 704) : val_main_v47 (F := Ideal) x0 x1 x3 x4 (ix3 j s r) = dup (rh x3 x4 j s r) (rp x0 x1 j s r) := by
  have ei : idx_main_v45 (idx_main_v46 (ix3 j s r)) = ix2 s (unit j r) := funext fun a => Fin.ext (by
    have := r.isLt
    have := j.isLt
    match a with
    | ⟨0, _⟩ => show ((s.val * 4 + j.val) * 704 + r.val) / 2816 = s.val; omega
    | ⟨1, _⟩ => show ((s.val * 4 + j.val) * 704 + r.val) % 2816 = j.val * 704 + r.val; omega)
  have e : val_main_v47 (F := Ideal) x0 x1 x3 x4 (ix3 j s r) = val_main_v46 (F := Ideal) x0 x1 x3 x4 (ix3 j s r) := rfl
  rw [e, val_main_v46_apply, val_main_v45_apply, ei, v26_at]

end Ffn.Bwd
-- ==== Proof.Ffn.BwdFinal.lean ====
/-
  The feed-forward half step's backward pass: the call's four results are the reference's, and the claim.
-/
module

public import proofs.«01_k».proof.Defs
public import proofs.«01_k».proof.Proof.Attn.Final
public import proofs.«01_k».proof.Proof.Ffn.BwdSum
public import proofs.«01_k».proof.Proof.Ffn.BwdHost
public import proofs.«01_k».proof.Proof.Ffn.BwdRef
public import proofs.«01_k».proof.Proof.Gen.Reference2Ideal.Run

@[expose] public section

set_option maxRecDepth 16384

noncomputable section

namespace Ffn.Bwd

open Idealize.ShloMosaic Idealize.ShloMosaic.TcCoe Idealize.ShloMosaic.ValueIdx Idealize.SL.Sem
open Cert.Kernel2Ideal Cert.Kernel2Ideal.Gen

/-! ### Real entries -/

/-- An extended real that is a real. -/
def IsReal (x : EReal) : Prop := ∃ y : ℝ, x = (y : EReal)

theorem IsReal.mul {x y : EReal} (hx : IsReal x) (hy : IsReal y) : IsReal (x * y) := by
  obtain ⟨p, rfl⟩ := hx
  obtain ⟨q, rfl⟩ := hy
  exact ⟨p * q, (EReal.coe_mul p q).symm⟩
theorem IsReal.add {x y : EReal} (hx : IsReal x) (hy : IsReal y) : IsReal (x + y) := by
  obtain ⟨p, rfl⟩ := hx
  obtain ⟨q, rfl⟩ := hy
  exact ⟨p + q, (EReal.coe_add p q).symm⟩
theorem IsReal.sum {ι : Type} (s : Finset ι) (f : ι → EReal) (h : ∀ i, IsReal (f i)) : IsReal (∑ i ∈ s, f i) := by
  classical
  induction s using Finset.induction with
  | empty => exact ⟨0, by simp⟩
  | insert a s ha ih => rw [Finset.sum_insert ha]; exact (h a).add ih

/-- The sigmoid of a real is a real. -/
theorem IsReal.logistic {x : EReal} (hx : IsReal x) : IsReal (Ideal.logistic x) := by
  obtain ⟨p, rfl⟩ := hx
  exact ⟨_, Ideal.logistic_coe p⟩

/-- On reals the two forms of the gate projection's gradient agree. -/
theorem rgate_eq {t a u : EReal} (ht : IsReal t) (ha : IsReal a) (hu : IsReal u) : rgate t a u = dgate t a u := by
  obtain ⟨s, hs⟩ := ha.logistic
  obtain ⟨t, rfl⟩ := ht
  obtain ⟨a, rfl⟩ := ha
  obtain ⟨u, rfl⟩ := hu
  unfold rgate dgate
  rw [hs, ofBits_one, ← EReal.coe_one]
  norm_cast
  ring

/-- A projection of real rows is real. -/
theorem rp_real {x0 : FVec Ideal Cert.Reference2Ideal.S4096x1024 .f32} {w : FVec Ideal Cert.Reference2Ideal.S4x704x1024 .bf16} (h0 : ∀ i, IsReal (x0 i)) (hw : ∀ i, IsReal (w i))
    (j : Fin 4) (s : Fin 4096) (r : Fin 704) : IsReal (rp x0 w j s r) :=
  IsReal.sum _ _ fun e => (h0 _).mul (hw _)
/-- The hidden gradients of real rows are real. -/
theorem rh_real {x3 : FVec Ideal Cert.Reference2Ideal.S4x704x1024 .bf16} {x4 : FVec Ideal Cert.Reference2Ideal.S4096x1024 .f32} (h3 : ∀ i, IsReal (x3 i)) (h4 : ∀ i, IsReal (x4 i))
    (j : Fin 4) (s : Fin 4096) (r : Fin 704) : IsReal (rh x3 x4 j s r) :=
  IsReal.sum _ _ fun e => (IsReal.mul ⟨_, ofBits_half⟩ (h4 _)).mul (h3 _)

/-! ### The results -/

variable (m : (ℓ : Loc nD τ sig) → Buf (Elt Ideal) ℓ) (c : Dev nD)

/-- An array the program was handed. -/
abbrev arr (b : Ref sig .tc) : Buf (Elt Ideal) ((c : Thread nD τ).loc b) := m ((c : Thread nD τ).loc b)

/-- The gate projection that the call is handed. -/
theorem sa_eq (j : Fin 4) (s : Fin 4096) (r : Fin 704) : sa m c j s r = rp (arr m c main_arg0) (arr m c main_arg1) j s r := by
  refine (congrFun ((V_eq m c _).trans (hv1_v10 _)) (ix3 j s r)).trans ((blocked_apply _ j s r).trans ?_)
  exact v11_at (arr m c main_arg0) (arr m c main_arg1) s j r
/-- The up projection that the call is handed. -/
theorem su_eq (j : Fin 4) (s : Fin 4096) (r : Fin 704) : su m c j s r = rp (arr m c main_arg0) (arr m c main_arg2) j s r := by
  refine (congrFun ((V_eq m c _).trans (hv1_v13 _)) (ix3 j s r)).trans ((blocked_apply _ j s r).trans ?_)
  exact v11_at (arr m c main_arg0) (arr m c main_arg2) s j r
/-- The hidden units' gradients. -/
theorem hg_eq (j : Fin 4) (s : Fin 4096) (r : Fin 704) : hg m c j s r = rh (arr m c main_arg3) (arr m c main_arg4) j s r := by
  have e : ∀ e, half m c s e * wgt5 m c j r e = _ := fun e => congrArg₂ (fun p q : EReal => Ideal.ofBits .f32 0x3F000000#32 * p * q) (congrFun (V_main_arg4 m c) (ix2 s e)) (congrFun (V_main_arg3 m c) (ix3 j r e))
  exact Finset.sum_congr (M := EReal) rfl fun k _ => e k
/-- The up projection's gradients. -/
theorem pu_eq (j : Fin 4) (s : Fin 4096) (r : Fin 704) : pu m c j s r = dup (rh (arr m c main_arg3) (arr m c main_arg4) j s r) (rp (arr m c main_arg0) (arr m c main_arg1) j s r) := by
  unfold pu
  rw [hg_eq, sa_eq]
/-- The hidden values. -/
theorem ph_eq (j : Fin 4) (s : Fin 4096) (r : Fin 704) : ph m c j s r = hid (rp (arr m c main_arg0) (arr m c main_arg1) j s r) (rp (arr m c main_arg0) (arr m c main_arg2) j s r) := by
  unfold ph
  rw [sa_eq, su_eq]

/-- Every argument has real entries. -/
structure Reals : Prop where
  r0 : ∀ i, IsReal (arr m c main_arg0 i)
  r1 : ∀ i, IsReal (arr m c main_arg1 i)
  r2 : ∀ i, IsReal (arr m c main_arg2 i)
  r3 : ∀ i, IsReal (arr m c main_arg3 i)
  r4 : ∀ i, IsReal (arr m c main_arg4 i)

/-- The gate projection's gradients. -/
theorem pg_eq (h : Reals m c) (j : Fin 4) (s : Fin 4096) (r : Fin 704) :
    pg m c j s r = rgate (rh (arr m c main_arg3) (arr m c main_arg4) j s r) (rp (arr m c main_arg0) (arr m c main_arg1) j s r) (rp (arr m c main_arg0) (arr m c main_arg2) j s r) := by
  unfold pg
  rw [hg_eq, sa_eq, su_eq]
  exact (rgate_eq (rh_real h.r3 h.r4 j s r) (rp_real h.r0 h.r1 j s r) (rp_real h.r0 h.r2 j s r)).symm

/-- One weight block's contribution. -/
theorem part_eq (h : Reals m c) (j : Fin 4) (s : Fin 4096) (d : Fin 1024) : part m c j s d
    = (∑ r : Fin 704, rgate (rh (arr m c main_arg3) (arr m c main_arg4) j s r) (rp (arr m c main_arg0) (arr m c main_arg1) j s r) (rp (arr m c main_arg0) (arr m c main_arg2) j s r) * (arr m c main_arg1 (ix3 j r d) : EReal))
      + ∑ r : Fin 704, dup (rh (arr m c main_arg3) (arr m c main_arg4) j s r) (rp (arr m c main_arg0) (arr m c main_arg1) j s r) * (arr m c main_arg2 (ix3 j r d) : EReal) := by
  have e1 : ∀ r, pg m c j s r * wgt3 m c j r d = _ := fun r => congrArg₂ (fun p q : EReal => p * q) (pg_eq m c h j s r) (congrFun (V_main_arg1 m c) (ix3 j r d))
  have e2 : ∀ r, pu m c j s r * wgt4 m c j r d = _ := fun r => congrArg₂ (fun p q : EReal => p * q) (pu_eq m c j s r) (congrFun (V_main_arg2 m c) (ix3 j r d))
  exact congrArg₂ (fun p q : EReal => p + q) (Finset.sum_congr (M := EReal) rfl fun r _ => e1 r) (Finset.sum_congr (M := EReal) rfl fun r _ => e2 r)

/-- Every row lies in a row block. -/
theorem row_of (s : Fin 4096) : ∃ (i : Fin 4) (k : Fin 1024), s = row i k :=
  ⟨⟨s.val / 1024, by omega⟩, ⟨s.val % 1024, by omega⟩, Fin.ext (by show s.val = s.val / 1024 * 1024 + s.val % 1024; omega)⟩

/-- The input's gradient is the reference's. -/
theorem G6_eq (h : Reals m c) : Cert.Kernel2Ideal.Value.G6 m c = Cert.Reference2Ideal.Read.val_main_v34 (F := Ideal) (arr m c main_arg0) (arr m c main_arg1) (arr m c main_arg2) (arr m c main_arg3) (arr m c main_arg4) := by
  funext x
  obtain ⟨s, d, rfl⟩ : ∃ (s : Fin 4096) (d : Fin 1024), x = ix2 s d := ⟨x 0, x 1, eq_ix2 x⟩
  obtain ⟨i, k, rfl⟩ := row_of s
  refine (res6 m c i k d).trans (Eq.trans ?_ (v34_at (arr m c main_arg0) (arr m c main_arg1) (arr m c main_arg2) (arr m c main_arg3) (arr m c main_arg4) (row i k) d).symm)
  have ez : dz m c (row i k) d = arr m c main_arg4 (ix2 (row i k) d) := congrFun (V_main_arg4 m c) (ix2 (row i k) d)
  have es := Finset.sum_congr (M := EReal) (s₁ := (Finset.univ : Finset (Fin 4))) rfl fun j _ => part_eq m c h j (row i k) d
  refine (congrArg₂ (fun p q : EReal => Ideal.ofBits .f32 0x3FB504F3#32 * p + q) ez es).trans ?_
  refine (add_comm _ _).trans (congrArg (fun p : EReal => p + Ideal.ofBits .f32 0x3FB504F3#32 * (arr m c main_arg4 (ix2 (row i k) d) : EReal)) ?_)
  exact (Finset.sum_add_distrib (M := EReal)).trans (add_comm _ _)

/-- The hidden values are the reference's. -/
theorem G7_eq : Cert.Kernel2Ideal.Value.G7 m c = Cert.Reference2Ideal.Read.val_main_v41 (F := Ideal) (arr m c main_arg0) (arr m c main_arg1) (arr m c main_arg2) := by
  funext x
  obtain ⟨j, s, r, rfl⟩ : ∃ (j : Fin 4) (s : Fin 4096) (r : Fin 704), x = ix3 j s r := ⟨x 0, x 1, x 2, eq_ix3 x⟩
  obtain ⟨i, k, rfl⟩ := row_of s
  exact (res7 m c j i k r).trans ((ph_eq m c j (row i k) r).trans (v41_at (arr m c main_arg0) (arr m c main_arg1) (arr m c main_arg2) j (row i k) r).symm)

/-- The gate gradients are the reference's. -/
theorem G8_eq (h : Reals m c) : Cert.Kernel2Ideal.Value.G8 m c = Cert.Reference2Ideal.Read.val_main_v44 (F := Ideal) (arr m c main_arg0) (arr m c main_arg1) (arr m c main_arg2) (arr m c main_arg3) (arr m c main_arg4) := by
  funext x
  obtain ⟨j, s, r, rfl⟩ : ∃ (j : Fin 4) (s : Fin 4096) (r : Fin 704), x = ix3 j s r := ⟨x 0, x 1, x 2, eq_ix3 x⟩
  obtain ⟨i, k, rfl⟩ := row_of s
  exact (res8 m c j i k r).trans ((pg_eq m c h j (row i k) r).trans (v44_at (arr m c main_arg0) (arr m c main_arg1) (arr m c main_arg2) (arr m c main_arg3) (arr m c main_arg4) j (row i k) r).symm)

/-- The up gradients are the reference's. -/
theorem G9_eq : Cert.Kernel2Ideal.Value.G9 m c = Cert.Reference2Ideal.Read.val_main_v47 (F := Ideal) (arr m c main_arg0) (arr m c main_arg1) (arr m c main_arg3) (arr m c main_arg4) := by
  funext x
  obtain ⟨j, s, r, rfl⟩ : ∃ (j : Fin 4) (s : Fin 4096) (r : Fin 704), x = ix3 j s r := ⟨x 0, x 1, x 2, eq_ix3 x⟩
  obtain ⟨i, k, rfl⟩ := row_of s
  exact (res9 m c j i k r).trans ((pu_eq m c j (row i k) r).trans (v47_at (arr m c main_arg0) (arr m c main_arg1) (arr m c main_arg3) (arr m c main_arg4) j (row i k) r).symm)

/-! ### The precondition -/

section
variable [Cert.Pre_finite2.Facts]

/-- The arrays of the precondition have real entries. -/
theorem reals_of_fn (y0 : FVec Ideal Cert.Pre_finite2.S4096x1024 .f32) (y1 y2 y3 : FVec Ideal Cert.Pre_finite2.S4x704x1024 .bf16) (y4 : FVec Ideal Cert.Pre_finite2.S4096x1024 .f32)
    (h : Cert.Pre_finite2.fn (F := Ideal) y0 y1 y2 y3 y4 = fun _ => 1#1) :
    (∀ i, IsReal (y0 i)) ∧ (∀ i, IsReal (y1 i)) ∧ (∀ i, IsReal (y2 i)) ∧ (∀ i, IsReal (y3 i)) ∧ (∀ i, IsReal (y4 i)) := by
  have hs : Subsingleton Cert.Pre_finite2.S_.Idx := ⟨fun a b => funext fun z => absurd z.isLt (by simp)⟩
  have e := congrFun h (fun z => absurd z.isLt (by simp))
  unfold Cert.Pre_finite2.fn at e
  dsimp only at e
  obtain ⟨e, f3⟩ := IntOp.andi_eq_one.1 e
  obtain ⟨e, f2⟩ := IntOp.andi_eq_one.1 e
  obtain ⟨e, f1⟩ := IntOp.andi_eq_one.1 e
  obtain ⟨f0, f4⟩ := IntOp.andi_eq_one.1 e
  refine ⟨fun i => ⟨_, Attn.real_of_lt _ ?_⟩, fun i => ⟨_, Attn.real_of_lt _ ?_⟩, fun i => ⟨_, Attn.real_of_lt _ ?_⟩, fun i => ⟨_, Attn.real_of_lt _ ?_⟩, fun i => ⟨_, Attn.real_of_lt _ ?_⟩⟩
  · rw [← Attn.top_word]; exact Host.reduce_andi_all _ _ _ _ _ f0 i
  · rw [← Attn.top_word]; exact Host.reduce_andi_all _ _ _ _ _ f1 i
  · rw [← Attn.top_word]; exact Host.reduce_andi_all _ _ _ _ _ f2 i
  · rw [← Attn.top_word]; exact Host.reduce_andi_all _ _ _ _ _ f3 i
  · rw [← Attn.top_word]; exact Host.reduce_andi_all _ _ _ _ _ f4 i

/-- Under the precondition every argument has real entries. -/
theorem reals_of_pre (h : Cert.Pre_Kernel2Ideal_finite2 m) : Reals m c := by
  obtain ⟨g0, g1, g2, g3, g4⟩ := reals_of_fn _ _ _ _ _ (h c)
  exact ⟨g0, g1, g2, g3, g4⟩

/-- The two programs end with the same four arrays. -/
theorem algebraic : Cert.algebraic_Kernel2Ideal_Reference2Ideal_pre_finite2 := by
  intro m g m' g' hpre hagree
  have hr := fun c => reals_of_pre m c hpre
  refine ⟨fun c => Cert.Kernel2Ideal.Value.G6 m c, fun c => Cert.Kernel2Ideal.Value.G7 m c, fun c => Cert.Kernel2Ideal.Value.G8 m c, fun c => Cert.Kernel2Ideal.Value.G9 m c,
    Cert.Kernel2Ideal.Value.run (F := Ideal) m g, ?_⟩
  refine (θ_run _ _ _).mono (fun r h c => ?_) (Cert.Reference2Ideal.Value.run (F := Ideal) m' g')
  obtain ⟨h0, h1, h2, h3, hk⟩ := h c
  obtain ⟨e0, e1, e2, e3, e4⟩ := hagree c
  refine ⟨h0.trans ?_, h1.trans ?_, h2.trans ?_, h3.trans ?_, hk⟩
  · rw [Cert.Reference2Ideal.Read.val_main_v34_eq (F := Ideal) m' c, e0, e1, e2, e3, e4]
    exact (G6_eq m c (hr c)).symm
  · rw [e0, e1, e2]
    exact (Cert.Reference2Ideal.Read.val_main_v41_eq (F := Ideal) _ _ _).trans (G7_eq m c).symm
  · rw [e0, e1, e2, e3, e4]
    exact (Cert.Reference2Ideal.Read.val_main_v44_eq (F := Ideal) _ _ _ _ _).trans (G8_eq m c (hr c)).symm
  · rw [e0, e1, e3, e4]
    exact (Cert.Reference2Ideal.Read.val_main_v47_eq (F := Ideal) _ _ _ _).trans (G9_eq m c).symm
end

end Ffn.Bwd
-- ==== Proof.Ffn.GradOps.lean ====
/-
  The weight gradients of the feed-forward half-step: one grid point's three products, read at an index as sums over the rows of its block.
-/
module

public import proofs.«01_k».proof.Proof.Ffn.Sums
public import proofs.«01_k».proof.Proof.Gen.Kernel3Ideal.Skeleton
public import Idealize.ShloMosaic.Lib.Pipeline.Value

@[expose] public section

set_option maxRecDepth 16384

noncomputable section

namespace Ffn.Grad

open Idealize.ShloMosaic Idealize.ShloMosaic.ValueIdx
open Cert.Kernel3Ideal Cert.Kernel3Ideal.Gen

/-- A product over the rows of a block. -/
theorem mm_tn {φ₁ φ₂ : FTy} (a : FVec Ideal S1024x704 φ₁) (b : FVec Ideal S1024x1024 φ₂) (r : Fin 704) (d : Fin 1024) :
    matmul (F := Ideal) dot_S1024x704_S1024x1024_S704x1024_0_0_1_1_n_n none a b (constant (F := Ideal) S704x1024 .f32 0x00000000#32) (ix2 r d)
      = ∑ i : Fin 1024, a (ix2 i r) * b (ix2 i d) := by
  refine Eq.trans (Ideal.matmul_constant_zero_apply dot_S1024x704_S1024x1024_S704x1024_0_0_1_1_n_n none a b (ix2 r d)) ?_
  rw [← Equiv.sum_comp (contrEquiv1 dot_S1024x704_S1024x1024_S704x1024_0_0_1_1_n_n 1024 rfl rfl).symm]
  refine Finset.sum_congr rfl fun k _ => ?_
  have hk := contrEquiv1_symm_val dot_S1024x704_S1024x1024_S704x1024_0_0_1_1_n_n 1024 rfl rfl k
  have el : dot_S1024x704_S1024x1024_S704x1024_0_0_1_1_n_n.lhsIdx (ix2 r d)
      ((contrEquiv1 dot_S1024x704_S1024x1024_S704x1024_0_0_1_1_n_n 1024 rfl rfl).symm k) = ix2 k r := by
    funext a; apply Fin.ext
    match a with
    | ⟨0, _⟩ => exact hk
    | ⟨1, _⟩ => rfl
  have er : dot_S1024x704_S1024x1024_S704x1024_0_0_1_1_n_n.rhsIdx (ix2 r d)
      ((contrEquiv1 dot_S1024x704_S1024x1024_S704x1024_0_0_1_1_n_n 1024 rfl rfl).symm k) = ix2 k d := by
    funext a; apply Fin.ext
    match a with
    | ⟨0, _⟩ => exact hk
    | ⟨1, _⟩ => rfl
  rw [el, er]

/-- The block a point is given, without its unit axis. -/
theorem unblock (v : Vec Ideal S1x1024x704 .bf16) (i : Fin 1024) (r : Fin 704) :
    shapeCast S1024x704 v shapeCasts_S1x1024x704_S1024x704 (ix2 i r) = v (ix3 (0 : Fin 1) i r) := by
  refine shapeCast_apply _ _ _ (ix3 (0 : Fin 1) i r) ?_
  rw [Shape.rowMajor_val_two, Shape.rowMajor_val_three]
  show (0 * 1024 + i.val) * 704 + r.val = i.val * 704 + r.val
  omega

/-- One point's product of a block of `v` and a block of `w`. -/
theorem pay5_apply (v : Vec Ideal S1x1024x704 .bf16) (w : Vec Ideal S1024x1024 .f32) (r : Fin 704) (d : Fin 1024) :
    k0_pay5 (F := Ideal) v w (ix2 r d) = ∑ i : Fin 1024, v (ix3 (0 : Fin 1) i r) * w (ix2 i d) := by
  unfold k0_pay5
  refine (mm_tn _ _ r d).trans (Finset.sum_congr rfl fun i _ => ?_)
  rw [unblock]
  rfl
theorem pay9_apply (v : Vec Ideal S1x1024x704 .bf16) (w : Vec Ideal S1024x1024 .f32) (r : Fin 704) (d : Fin 1024) :
    k0_pay9 (F := Ideal) v w (ix2 r d) = ∑ i : Fin 1024, v (ix3 (0 : Fin 1) i r) * w (ix2 i d) := pay5_apply v w r d
theorem pay1_apply (v : Vec Ideal S1x1024x704 .bf16) (w : Vec Ideal S1024x1024 .f32) (r : Fin 704) (d : Fin 1024) :
    k0_pay1 (F := Ideal) v w (ix2 r d) = ∑ i : Fin 1024, v (ix3 (0 : Fin 1) i r) * w (ix2 i d) := pay5_apply v w r d

/-- The finished accumulator is written out times one. -/
theorem pay8_apply (v : Vec Ideal S704x1024 .f32) (r : Fin 704) (d : Fin 1024) :
    k0_pay8 (F := Ideal) v (ix3 (0 : Fin 1) r d) = v (ix2 r d) := by
  unfold k0_pay8
  refine (shapeCast_apply _ _ _ (ix2 r d) ?_).trans ?_
  · rw [Shape.rowMajor_val_two, Shape.rowMajor_val_three]
    show r.val * 1024 + d.val = (0 * 704 + r.val) * 1024 + d.val
    omega
  · show Ideal.ofBits .f32 0x3F800000#32 * v (ix2 r d) = _
    rw [ofBits_one, one_mul]
theorem pay12_apply (v : Vec Ideal S704x1024 .f32) (r : Fin 704) (d : Fin 1024) :
    k0_pay12 (F := Ideal) v (ix3 (0 : Fin 1) r d) = v (ix2 r d) := pay8_apply v r d
/-- The third is written out times one half. -/
theorem pay4_apply (v : Vec Ideal S704x1024 .f32) (r : Fin 704) (d : Fin 1024) :
    k0_pay4 (F := Ideal) v (ix3 (0 : Fin 1) r d) = ((1 / 2 : ℝ) : EReal) * v (ix2 r d) := by
  unfold k0_pay4
  refine (shapeCast_apply _ _ _ (ix2 r d) ?_).trans ?_
  · rw [Shape.rowMajor_val_two, Shape.rowMajor_val_three]
    show r.val * 1024 + d.val = (0 * 704 + r.val) * 1024 + d.val
    omega
  · show Ideal.ofBits .f32 0x3F000000#32 * v (ix2 r d) = _
    rw [ofBits_half]

end Ffn.Grad
-- ==== Proof.Ffn.GradCase.lean ====
/-
  The weight gradients of the feed-forward half-step: what one grid point leaves in its accumulators and, at the last row block, in the
  three output blocks; then the three outputs as sums over the four row blocks.
-/
module

public import proofs.«01_k».proof.Proof.Ffn.GradOps
public import proofs.«01_k».proof.Proof.Gen.Kernel3Ideal.Frame

@[expose] public section

set_option maxRecDepth 16384

noncomputable section

namespace Ffn.Grad

open Idealize.ShloMosaic Idealize.ShloMosaic.TcCoe Idealize.ShloMosaic.ValueIdx
open Cert.Kernel3Ideal Cert.Kernel3Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ) (c : Dev nD)

set_option maxHeartbeats 4000000 in
/-- The first row block's product starts the first accumulator. -/
theorem start0 (t : Fin cfg0.N) (h : t.val % 4 = 0) :
    (outsAt0 m c t.val t.isLt).2.2.2.1 = k0_pay5 (iblk m c 0 t) (iblk m c 1 t) := by
  rw [outsAt0_A m c t h (by omega) (by omega) h (by omega) (by omega) h (by omega) (by omega)]
  dsimp only
  unfold sout0_A_0
  refine (View.read_writes_eq_canon _ _ _ (fun _ => scover0_A_0 ..)).trans ?_
  unfold kernelRun0_A
  dsimp only
  sl_unfold_words
  rw [View.canon_unit_zero hz2]
  unfold k0_pay6
  simp only [View.readAt_eq_ld, (hs0_0 t).read_unread, (hs0_1 t).read_unread, View.ld_unit_zero (S := S1x1024x704) hz3, View.ld_unit_zero (S := S1024x1024) hz2, View.ld_unit_zero (S := S704x1024) hz2, shapeCast_self]

set_option maxHeartbeats 4000000 in
/-- A later row block's product is added to it. -/
theorem stepB0 (t : Fin cfg0.N) (h : ¬ t.val % 4 = 0) (h3 : ¬ t.val % 4 = 3) (hp : t.val - 1 < cfg0.N) :
    (outsAt0 m c t.val t.isLt).2.2.2.1 = k0_pay7 (iblk m c 0 t) (iblk m c 1 t) ((outsAt0 m c (t.val - 1) hp).2.2.2.1) := by
  rw [outsAt0_B m c t h (by omega) h3 h (by omega) h3 h (by omega) h3]
  dsimp only
  unfold sout0_B_0
  refine (View.read_writes_eq_canon _ _ _ (fun _ => scover0_B_0 ..)).trans ?_
  unfold kernelRun0_B
  dsimp only
  sl_unfold_words
  rw [View.canon_unit_zero hz2]
  simp only [View.readAt_eq_ld, (hs0_0 t).read_unread, (hs0_1 t).read_unread, (Memref.isWhole_whole _).read_unread, View.ld_unit_zero (S := S1x1024x704) hz3, View.ld_unit_zero (S := S1024x1024) hz2, View.ld_unit_zero (S := S704x1024) hz2]

set_option maxHeartbeats 4000000 in
/-- A later row block's product is added to it. -/
theorem stepC0 (t : Fin cfg0.N) (h : ¬ t.val % 4 = 0) (h3 : t.val % 4 = 3) (hp : t.val - 1 < cfg0.N) :
    (outsAt0 m c t.val t.isLt).2.2.2.1 = k0_pay7 (iblk m c 0 t) (iblk m c 1 t) ((outsAt0 m c (t.val - 1) hp).2.2.2.1) := by
  rw [outsAt0_C m c t h (by omega) h3 h (by omega) h3 h (by omega) h3]
  dsimp only
  unfold sout0_C_0
  refine (View.read_writes_eq_canon _ _ _ (fun _ => scover0_C_0 ..)).trans ?_
  unfold kernelRun0_C
  dsimp only
  sl_unfold_words
  rw [View.canon_unit_zero hz2]
  simp only [View.readAt_eq_ld, (hs0_0 t).read_unread, (hs0_1 t).read_unread, (Memref.isWhole_whole _).read_unread, View.ld_unit_zero (S := S1x1024x704) hz3, View.ld_unit_zero (S := S1024x1024) hz2, View.ld_unit_zero (S := S704x1024) hz2]

set_option maxHeartbeats 4000000 in
/-- At the last row block the first output is made from the finished accumulator. -/
theorem last0 (t : Fin cfg0.N) (h : ¬ t.val % 4 = 0) (h3 : t.val % 4 = 3) :
    (outsAt0 m c t.val t.isLt).1 = k0_pay8 ((outsAt0 m c t.val t.isLt).2.2.2.1) := by
  rw [stepC0 m c t h h3 (lt_of_le_of_lt (Nat.sub_le _ _) t.isLt), outsAt0_C m c t h (by omega) h3 h (by omega) h3 h (by omega) h3]
  dsimp only
  unfold out0_C_5
  refine (View.read_writes_eq_canon _ _ _ (fun _ => cover0_C_5 ..)).trans ?_
  unfold kernelRun0_C
  dsimp only
  sl_unfold_words
  rw [View.canon_unit_zero hz3, View.readCov_unit_zero (S := S704x1024) _ hz2]
  simp only [View.readAt_eq_ld, (hs0_0 t).read_unread, (hs0_1 t).read_unread, (Memref.isWhole_whole _).read_unread, View.ld_unit_zero (S := S1x1024x704) hz3, View.ld_unit_zero (S := S1024x1024) hz2, View.ld_unit_zero (S := S704x1024) hz2]

set_option maxHeartbeats 4000000 in
/-- The first row block's product starts the second accumulator. -/
theorem start1 (t : Fin cfg0.N) (h : t.val % 4 = 0) :
    (outsAt0 m c t.val t.isLt).2.2.2.2.1 = k0_pay9 (iblk m c 2 t) (iblk m c 1 t) := by
  rw [outsAt0_A m c t h (by omega) (by omega) h (by omega) (by omega) h (by omega) (by omega)]
  dsimp only
  unfold sout0_A_1
  refine (View.read_writes_eq_canon _ _ _ (fun _ => scover0_A_1 ..)).trans ?_
  unfold kernelRun0_A
  dsimp only
  sl_unfold_words
  rw [View.canon_unit_zero hz2]
  unfold k0_pay10
  simp only [View.readAt_eq_ld, (hs0_2 t).read_unread, (hs0_1 t).read_unread, View.ld_unit_zero (S := S1x1024x704) hz3, View.ld_unit_zero (S := S1024x1024) hz2, View.ld_unit_zero (S := S704x1024) hz2, shapeCast_self]

set_option maxHeartbeats 4000000 in
/-- A later row block's product is added to it. -/
theorem stepB1 (t : Fin cfg0.N) (h : ¬ t.val % 4 = 0) (h3 : ¬ t.val % 4 = 3) (hp : t.val - 1 < cfg0.N) :
    (outsAt0 m c t.val t.isLt).2.2.2.2.1 = k0_pay11 (iblk m c 2 t) (iblk m c 1 t) ((outsAt0 m c (t.val - 1) hp).2.2.2.2.1) := by
  rw [outsAt0_B m c t h (by omega) h3 h (by omega) h3 h (by omega) h3]
  dsimp only
  unfold sout0_B_1
  refine (View.read_writes_eq_canon _ _ _ (fun _ => scover0_B_1 ..)).trans ?_
  unfold kernelRun0_B
  dsimp only
  sl_unfold_words
  rw [View.canon_unit_zero hz2]
  simp only [View.readAt_eq_ld, (hs0_2 t).read_unread, (hs0_1 t).read_unread, (Memref.isWhole_whole _).read_unread, View.ld_unit_zero (S := S1x1024x704) hz3, View.ld_unit_zero (S := S1024x1024) hz2, View.ld_unit_zero (S := S704x1024) hz2]

set_option maxHeartbeats 4000000 in
/-- A later row block's product is added to it. -/
theorem stepC1 (t : Fin cfg0.N) (h : ¬ t.val % 4 = 0) (h3 : t.val % 4 = 3) (hp : t.val - 1 < cfg0.N) :
    (outsAt0 m c t.val t.isLt).2.2.2.2.1 = k0_pay11 (iblk m c 2 t) (iblk m c 1 t) ((outsAt0 m c (t.val - 1) hp).2.2.2.2.1) := by
  rw [outsAt0_C m c t h (by omega) h3 h (by omega) h3 h (by omega) h3]
  dsimp only
  unfold sout0_C_1
  refine (View.read_writes_eq_canon _ _ _ (fun _ => scover0_C_1 ..)).trans ?_
  unfold kernelRun0_C
  dsimp only
  sl_unfold_words
  rw [View.canon_unit_zero hz2]
  simp only [View.readAt_eq_ld, (hs0_2 t).read_unread, (hs0_1 t).read_unread, (Memref.isWhole_whole _).read_unread, View.ld_unit_zero (S := S1x1024x704) hz3, View.ld_unit_zero (S := S1024x1024) hz2, View.ld_unit_zero (S := S704x1024) hz2]

set_option maxHeartbeats 4000000 in
/-- At the last row block the second output is made from the finished accumulator. -/
theorem last1 (t : Fin cfg0.N) (h : ¬ t.val % 4 = 0) (h3 : t.val % 4 = 3) :
    (outsAt0 m c t.val t.isLt).2.1 = k0_pay12 ((outsAt0 m c t.val t.isLt).2.2.2.2.1) := by
  rw [stepC1 m c t h h3 (lt_of_le_of_lt (Nat.sub_le _ _) t.isLt), outsAt0_C m c t h (by omega) h3 h (by omega) h3 h (by omega) h3]
  dsimp only
  unfold out0_C_6
  refine (View.read_writes_eq_canon _ _ _ (fun _ => cover0_C_6 ..)).trans ?_
  unfold kernelRun0_C
  dsimp only
  sl_unfold_words
  rw [View.canon_unit_zero hz3, View.readCov_unit_zero (S := S704x1024) _ hz2]
  simp only [View.readAt_eq_ld, (hs0_2 t).read_unread, (hs0_1 t).read_unread, (Memref.isWhole_whole _).read_unread, View.ld_unit_zero (S := S1x1024x704) hz3, View.ld_unit_zero (S := S1024x1024) hz2, View.ld_unit_zero (S := S704x1024) hz2]

set_option maxHeartbeats 4000000 in
/-- The first row block's product starts the third accumulator. -/
theorem start2 (t : Fin cfg0.N) (h : t.val % 4 = 0) :
    (outsAt0 m c t.val t.isLt).2.2.2.2.2 = k0_pay1 (iblk m c 3 t) (iblk m c 4 t) := by
  rw [outsAt0_A m c t h (by omega) (by omega) h (by omega) (by omega) h (by omega) (by omega)]
  dsimp only
  unfold sout0_A_2
  refine (View.read_writes_eq_canon _ _ _ (fun _ => scover0_A_2 ..)).trans ?_
  unfold kernelRun0_A
  dsimp only
  sl_unfold_words
  rw [View.canon_unit_zero hz2]
  unfold k0_pay2
  simp only [View.readAt_eq_ld, (hs0_3 t).read_unread, (hs0_4 t).read_unread, View.ld_unit_zero (S := S1x1024x704) hz3, View.ld_unit_zero (S := S1024x1024) hz2, View.ld_unit_zero (S := S704x1024) hz2, shapeCast_self]

set_option maxHeartbeats 4000000 in
/-- A later row block's product is added to it. -/
theorem stepB2 (t : Fin cfg0.N) (h : ¬ t.val % 4 = 0) (h3 : ¬ t.val % 4 = 3) (hp : t.val - 1 < cfg0.N) :
    (outsAt0 m c t.val t.isLt).2.2.2.2.2 = k0_pay3 (iblk m c 3 t) (iblk m c 4 t) ((outsAt0 m c (t.val - 1) hp).2.2.2.2.2) := by
  rw [outsAt0_B m c t h (by omega) h3 h (by omega) h3 h (by omega) h3]
  dsimp only
  unfold sout0_B_2
  refine (View.read_writes_eq_canon _ _ _ (fun _ => scover0_B_2 ..)).trans ?_
  unfold kernelRun0_B
  dsimp only
  sl_unfold_words
  rw [View.canon_unit_zero hz2]
  simp only [View.readAt_eq_ld, (hs0_3 t).read_unread, (hs0_4 t).read_unread, (Memref.isWhole_whole _).read_unread, View.ld_unit_zero (S := S1x1024x704) hz3, View.ld_unit_zero (S := S1024x1024) hz2, View.ld_unit_zero (S := S704x1024) hz2]

set_option maxHeartbeats 4000000 in
/-- A later row block's product is added to it. -/
theorem stepC2 (t : Fin cfg0.N) (h : ¬ t.val % 4 = 0) (h3 : t.val % 4 = 3) (hp : t.val - 1 < cfg0.N) :
    (outsAt0 m c t.val t.isLt).2.2.2.2.2 = k0_pay3 (iblk m c 3 t) (iblk m c 4 t) ((outsAt0 m c (t.val - 1) hp).2.2.2.2.2) := by
  rw [outsAt0_C m c t h (by omega) h3 h (by omega) h3 h (by omega) h3]
  dsimp only
  unfold sout0_C_2
  refine (View.read_writes_eq_canon _ _ _ (fun _ => scover0_C_2 ..)).trans ?_
  unfold kernelRun0_C
  dsimp only
  sl_unfold_words
  rw [View.canon_unit_zero hz2]
  simp only [View.readAt_eq_ld, (hs0_3 t).read_unread, (hs0_4 t).read_unread, (Memref.isWhole_whole _).read_unread, View.ld_unit_zero (S := S1x1024x704) hz3, View.ld_unit_zero (S := S1024x1024) hz2, View.ld_unit_zero (S := S704x1024) hz2]

set_option maxHeartbeats 4000000 in
/-- At the last row block the third output is made from the finished accumulator. -/
theorem last2 (t : Fin cfg0.N) (h : ¬ t.val % 4 = 0) (h3 : t.val % 4 = 3) :
    (outsAt0 m c t.val t.isLt).2.2.1 = k0_pay4 ((outsAt0 m c t.val t.isLt).2.2.2.2.2) := by
  rw [stepC2 m c t h h3 (lt_of_le_of_lt (Nat.sub_le _ _) t.isLt), outsAt0_C m c t h (by omega) h3 h (by omega) h3 h (by omega) h3]
  dsimp only
  unfold out0_C_7
  refine (View.read_writes_eq_canon _ _ _ (fun _ => cover0_C_7 ..)).trans ?_
  unfold kernelRun0_C
  dsimp only
  sl_unfold_words
  rw [View.canon_unit_zero hz3, View.readCov_unit_zero (S := S704x1024) _ hz2]
  simp only [View.readAt_eq_ld, (hs0_3 t).read_unread, (hs0_4 t).read_unread, (Memref.isWhole_whole _).read_unread, View.ld_unit_zero (S := S1x1024x704) hz3, View.ld_unit_zero (S := S1024x1024) hz2, View.ld_unit_zero (S := S704x1024) hz2]

end Ffn.Grad
-- ==== Proof.Ffn.GradSum.lean ====
/-
  The weight gradients of the feed-forward half-step: the three results of the call as sums over all the rows.
-/
module

public import proofs.«01_k».proof.Proof.Ffn.GradCase
public import proofs.«01_k».proof.Proof.Gen.Kernel3Ideal.Value

@[expose] public section

set_option maxRecDepth 16384

noncomputable section

namespace Ffn.Grad

open Idealize.ShloMosaic Idealize.ShloMosaic.TcCoe Idealize.ShloMosaic.ValueIdx
open Cert.Kernel3Ideal Cert.Kernel3Ideal.Gen

variable (m : (ℓ : Loc nD τ sig) → Buf (Elt Ideal) ℓ) (c : Dev nD)

/-- Row `i` of row block `k`. -/
abbrev row (k : Fin 4) (i : Fin 1024) : Fin 4096 := inBlock (show 4096 = 4 * 1024 by rfl) k i
/-- The grid point of weight block `j` and row block `k`. -/
abbrev pt (j k : Fin 4) : Fin cfg0.N := ⟨4 * j.val + k.val, lt_of_lt_of_eq (by have := j.isLt; have := k.isLt; omega) N_0.symm⟩

/-- An activation handed to the call. -/
abbrev act0 (j : Fin 4) (s : Fin 4096) (r : Fin 704) : EReal := V m c main_v24 (ix3 j s r)
/-- An activation handed to the call. -/
abbrev act2 (j : Fin 4) (s : Fin 4096) (r : Fin 704) : EReal := V m c main_v27 (ix3 j s r)
/-- An activation handed to the call. -/
abbrev act3 (j : Fin 4) (s : Fin 4096) (r : Fin 704) : EReal := V m c main_v21 (ix3 j s r)
/-- A row handed to the call. -/
abbrev rows1 (s : Fin 4096) (d : Fin 1024) : EReal := V m c main_arg0 (ix2 s d)
/-- A row handed to the call. -/
abbrev rows4 (s : Fin 4096) (d : Fin 1024) : EReal := V m c main_arg4 (ix2 s d)

theorem place0 : ∀ t : Fin cfg0.N, win0_0.index t (0 : Fin 3) = t.val / 4 ∧ win0_0.index t (1 : Fin 3) = t.val % 4 ∧ win0_0.index t (2 : Fin 3) = 0 := by decide +kernel
/-- The block of an activation at a point. -/
theorem block0 (j k : Fin 4) (i : Fin 1024) (r : Fin 704) :
    iblk m c 0 (pt j k) (ix3 (0 : Fin 1) i r) = act0 m c j (row k i) r := by
  obtain ⟨e0, e1, e2⟩ := place0 (pt j k)
  have hj := j.isLt
  have hk := k.isLt
  have ev : (pt j k).val = 4 * j.val + k.val := rfl
  unfold iblk
  rw [View.read_apply]
  refine congrArg (V m c main_v24) (funext fun z => Fin.ext ?_)
  match z with
  | ⟨0, _⟩ => show win0_0.index (pt j k) (0 : Fin 3) * 1 + 1 * 0 = j.val; omega
  | ⟨1, _⟩ => show win0_0.index (pt j k) (1 : Fin 3) * 1024 + 1 * i.val = k.val * 1024 + i.val; omega
  | ⟨2, _⟩ => show win0_0.index (pt j k) (2 : Fin 3) * 704 + 1 * r.val = r.val; omega

theorem place2 : ∀ t : Fin cfg0.N, win0_2.index t (0 : Fin 3) = t.val / 4 ∧ win0_2.index t (1 : Fin 3) = t.val % 4 ∧ win0_2.index t (2 : Fin 3) = 0 := by decide +kernel
/-- The block of an activation at a point. -/
theorem block2 (j k : Fin 4) (i : Fin 1024) (r : Fin 704) :
    iblk m c 2 (pt j k) (ix3 (0 : Fin 1) i r) = act2 m c j (row k i) r := by
  obtain ⟨e0, e1, e2⟩ := place2 (pt j k)
  have hj := j.isLt
  have hk := k.isLt
  have ev : (pt j k).val = 4 * j.val + k.val := rfl
  unfold iblk
  rw [View.read_apply]
  refine congrArg (V m c main_v27) (funext fun z => Fin.ext ?_)
  match z with
  | ⟨0, _⟩ => show win0_2.index (pt j k) (0 : Fin 3) * 1 + 1 * 0 = j.val; omega
  | ⟨1, _⟩ => show win0_2.index (pt j k) (1 : Fin 3) * 1024 + 1 * i.val = k.val * 1024 + i.val; omega
  | ⟨2, _⟩ => show win0_2.index (pt j k) (2 : Fin 3) * 704 + 1 * r.val = r.val; omega

theorem place3 : ∀ t : Fin cfg0.N, win0_3.index t (0 : Fin 3) = t.val / 4 ∧ win0_3.index t (1 : Fin 3) = t.val % 4 ∧ win0_3.index t (2 : Fin 3) = 0 := by decide +kernel
/-- The block of an activation at a point. -/
theorem block3 (j k : Fin 4) (i : Fin 1024) (r : Fin 704) :
    iblk m c 3 (pt j k) (ix3 (0 : Fin 1) i r) = act3 m c j (row k i) r := by
  obtain ⟨e0, e1, e2⟩ := place3 (pt j k)
  have hj := j.isLt
  have hk := k.isLt
  have ev : (pt j k).val = 4 * j.val + k.val := rfl
  unfold iblk
  rw [View.read_apply]
  refine congrArg (V m c main_v21) (funext fun z => Fin.ext ?_)
  match z with
  | ⟨0, _⟩ => show win0_3.index (pt j k) (0 : Fin 3) * 1 + 1 * 0 = j.val; omega
  | ⟨1, _⟩ => show win0_3.index (pt j k) (1 : Fin 3) * 1024 + 1 * i.val = k.val * 1024 + i.val; omega
  | ⟨2, _⟩ => show win0_3.index (pt j k) (2 : Fin 3) * 704 + 1 * r.val = r.val; omega

theorem place1 : ∀ t : Fin cfg0.N, win0_1.index t (0 : Fin 2) = t.val % 4 ∧ win0_1.index t (1 : Fin 2) = 0 := by decide +kernel
/-- The block of rows at a point. -/
theorem block1 (j k : Fin 4) (i d : Fin 1024) :
    iblk m c 1 (pt j k) (ix2 i d) = rows1 m c (row k i) d := by
  obtain ⟨e0, e1⟩ := place1 (pt j k)
  have hj := j.isLt
  have hk := k.isLt
  have ev : (pt j k).val = 4 * j.val + k.val := rfl
  unfold iblk
  rw [View.read_apply]
  refine congrArg (V m c main_arg0) (funext fun z => Fin.ext ?_)
  match z with
  | ⟨0, _⟩ => show win0_1.index (pt j k) (0 : Fin 2) * 1024 + 1 * i.val = k.val * 1024 + i.val; omega
  | ⟨1, _⟩ => show win0_1.index (pt j k) (1 : Fin 2) * 1024 + 1 * d.val = d.val; omega

theorem place4 : ∀ t : Fin cfg0.N, win0_4.index t (0 : Fin 2) = t.val % 4 ∧ win0_4.index t (1 : Fin 2) = 0 := by decide +kernel
/-- The block of rows at a point. -/
theorem block4 (j k : Fin 4) (i d : Fin 1024) :
    iblk m c 4 (pt j k) (ix2 i d) = rows4 m c (row k i) d := by
  obtain ⟨e0, e1⟩ := place4 (pt j k)
  have hj := j.isLt
  have hk := k.isLt
  have ev : (pt j k).val = 4 * j.val + k.val := rfl
  unfold iblk
  rw [View.read_apply]
  refine congrArg (V m c main_arg4) (funext fun z => Fin.ext ?_)
  match z with
  | ⟨0, _⟩ => show win0_4.index (pt j k) (0 : Fin 2) * 1024 + 1 * i.val = k.val * 1024 + i.val; omega
  | ⟨1, _⟩ => show win0_4.index (pt j k) (1 : Fin 2) * 1024 + 1 * d.val = d.val; omega

/-- The product of one row block, into the first accumulator. -/
def part0 (j k : Fin 4) (r : Fin 704) (d : Fin 1024) : EReal :=
  ∑ i : Fin 1024, act0 m c j (row k i) r * rows1 m c (row k i) d

theorem prod0 (j k : Fin 4) (r : Fin 704) (d : Fin 1024) :
    k0_pay5 (iblk m c 0 (pt j k)) (iblk m c 1 (pt j k)) (ix2 r d) = part0 m c j k r d := by
  rw [pay5_apply]
  exact Finset.sum_congr rfl fun i _ => by rw [block0, block1]

/-- A later row block adds its product. -/
theorem next0 (j k k' : Fin 4) (hk : k.val = k'.val + 1) (r : Fin 704) (d : Fin 1024) :
    (outsAt0 m c (pt j k).val (pt j k).isLt).2.2.2.1 (ix2 r d) = (outsAt0 m c (pt j k').val (pt j k').isLt).2.2.2.1 (ix2 r d) + part0 m c j k r d := by
  have ev : (pt j k).val = 4 * j.val + k.val := rfl
  have ev' : (pt j k').val = 4 * j.val + k'.val := rfl
  have hk4 := k.isLt
  have hp : (pt j k).val - 1 < cfg0.N := lt_of_le_of_lt (Nat.sub_le _ _) (pt j k).isLt
  have e1 : (outsAt0 m c (pt j k).val (pt j k).isLt).2.2.2.1
      = k0_pay7 (iblk m c 0 (pt j k)) (iblk m c 1 (pt j k)) ((outsAt0 m c ((pt j k).val - 1) hp).2.2.2.1) := by
    by_cases h3 : (pt j k).val % 4 = 3
    · exact stepC0 m c (pt j k) (by omega) h3 hp
    · exact stepB0 m c (pt j k) (by omega) h3 hp
  have e2 : (⟨(pt j k).val - 1, hp⟩ : Fin cfg0.N) = pt j k' := Fin.ext (by show (pt j k).val - 1 = _; omega)
  have e3 : outsAt0 m c ((pt j k).val - 1) hp = outsAt0 m c (pt j k').val (pt j k').isLt := by
    rw [← e2]
  rw [e1, e3, ← prod0]
  unfold k0_pay7
  rw [shapeCast_self]
  rfl

/-- The finished accumulator is the sum over all rows. -/
theorem total0 (j : Fin 4) (r : Fin 704) (d : Fin 1024) :
    (outsAt0 m c (pt j 3).val (pt j 3).isLt).2.2.2.1 (ix2 r d) = ∑ s : Fin 4096, act0 m c j s r * rows1 m c s d := by
  rw [next0 m c j 3 2 rfl, next0 m c j 2 1 rfl, next0 m c j 1 0 rfl, start0 m c (pt j 0) (by show (4 * j.val + 0) % 4 = 0; omega), prod0,
    sum_inBlock (show 4096 = 4 * 1024 by rfl), Fin.sum_univ_four]
  rfl

/-- The first result at an index. -/
theorem res0 (j : Fin 4) (r : Fin 704) (d : Fin 1024) :
    Cert.Kernel3Ideal.Value.G5 m c (ix3 j r d) = ∑ s : Fin 4096, act0 m c j s r * rows1 m c s d := by
  have hr := r.isLt
  have hd := d.isLt
  have e : Cert.Kernel3Ideal.Value.pt5Of (ix3 j r d) = (pt j 3).val := by
    show 4 * (1 * (j.val / 1 - 0) + 1 * (r.val / 704 - 0) + 1 * (d.val / 1024 - 0)) + 3 = 4 * j.val + 3
    omega
  have el : Cert.Kernel3Ideal.Value.loc5Of (ix3 j r d) = ix3 (0 : Fin 1) r d := funext fun a => Fin.ext (by
    match a with
    | ⟨0, _⟩ => show j.val % 1 = 0; omega
    | ⟨1, _⟩ => show r.val % 704 = r.val; omega
    | ⟨2, _⟩ => show d.val % 1024 = d.val; omega)
  have key : ∀ (n : ℕ) (hn : n < cfg0.N), n = (pt j 3).val →
      (outsAt0 m c n hn).1 (ix3 (0 : Fin 1) r d) = ∑ s : Fin 4096, act0 m c j s r * rows1 m c s d := by
    intro n hn h
    subst h
    rw [last0 m c (pt j 3) (by show ¬ (4 * j.val + 3) % 4 = 0; omega) (by show (4 * j.val + 3) % 4 = 3; omega), pay8_apply, total0]
  unfold Cert.Kernel3Ideal.Value.G5
  rw [dif_pos (show Cert.Kernel3Ideal.Value.pt5Of (ix3 j r d) < cfg0.N by rw [e]; exact (pt j 3).isLt), el]
  rw [← Cert.Kernel3Ideal.Value.outsAt0_sweep m c _ (show Cert.Kernel3Ideal.Value.pt5Of (ix3 j r d) < cfg0.N by rw [e]; exact (pt j 3).isLt)]
  exact key _ _ e

/-- The product of one row block, into the second accumulator. -/
def part1 (j k : Fin 4) (r : Fin 704) (d : Fin 1024) : EReal :=
  ∑ i : Fin 1024, act2 m c j (row k i) r * rows1 m c (row k i) d

theorem prod1 (j k : Fin 4) (r : Fin 704) (d : Fin 1024) :
    k0_pay9 (iblk m c 2 (pt j k)) (iblk m c 1 (pt j k)) (ix2 r d) = part1 m c j k r d := by
  rw [pay9_apply]
  exact Finset.sum_congr rfl fun i _ => by rw [block2, block1]

/-- A later row block adds its product. -/
theorem next1 (j k k' : Fin 4) (hk : k.val = k'.val + 1) (r : Fin 704) (d : Fin 1024) :
    (outsAt0 m c (pt j k).val (pt j k).isLt).2.2.2.2.1 (ix2 r d) = (outsAt0 m c (pt j k').val (pt j k').isLt).2.2.2.2.1 (ix2 r d) + part1 m c j k r d := by
  have ev : (pt j k).val = 4 * j.val + k.val := rfl
  have ev' : (pt j k').val = 4 * j.val + k'.val := rfl
  have hk4 := k.isLt
  have hp : (pt j k).val - 1 < cfg0.N := lt_of_le_of_lt (Nat.sub_le _ _) (pt j k).isLt
  have e1 : (outsAt0 m c (pt j k).val (pt j k).isLt).2.2.2.2.1
      = k0_pay11 (iblk m c 2 (pt j k)) (iblk m c 1 (pt j k)) ((outsAt0 m c ((pt j k).val - 1) hp).2.2.2.2.1) := by
    by_cases h3 : (pt j k).val % 4 = 3
    · exact stepC1 m c (pt j k) (by omega) h3 hp
    · exact stepB1 m c (pt j k) (by omega) h3 hp
  have e2 : (⟨(pt j k).val - 1, hp⟩ : Fin cfg0.N) = pt j k' := Fin.ext (by show (pt j k).val - 1 = _; omega)
  have e3 : outsAt0 m c ((pt j k).val - 1) hp = outsAt0 m c (pt j k').val (pt j k').isLt := by
    rw [← e2]
  rw [e1, e3, ← prod1]
  unfold k0_pay11
  rw [shapeCast_self]
  rfl

/-- The finished accumulator is the sum over all rows. -/
theorem total1 (j : Fin 4) (r : Fin 704) (d : Fin 1024) :
    (outsAt0 m c (pt j 3).val (pt j 3).isLt).2.2.2.2.1 (ix2 r d) = ∑ s : Fin 4096, act2 m c j s r * rows1 m c s d := by
  rw [next1 m c j 3 2 rfl, next1 m c j 2 1 rfl, next1 m c j 1 0 rfl, start1 m c (pt j 0) (by show (4 * j.val + 0) % 4 = 0; omega), prod1,
    sum_inBlock (show 4096 = 4 * 1024 by rfl), Fin.sum_univ_four]
  rfl

/-- The second result at an index. -/
theorem res1 (j : Fin 4) (r : Fin 704) (d : Fin 1024) :
    Cert.Kernel3Ideal.Value.G6 m c (ix3 j r d) = ∑ s : Fin 4096, act2 m c j s r * rows1 m c s d := by
  have hr := r.isLt
  have hd := d.isLt
  have e : Cert.Kernel3Ideal.Value.pt6Of (ix3 j r d) = (pt j 3).val := by
    show 4 * (1 * (j.val / 1 - 0) + 1 * (r.val / 704 - 0) + 1 * (d.val / 1024 - 0)) + 3 = 4 * j.val + 3
    omega
  have el : Cert.Kernel3Ideal.Value.loc6Of (ix3 j r d) = ix3 (0 : Fin 1) r d := funext fun a => Fin.ext (by
    match a with
    | ⟨0, _⟩ => show j.val % 1 = 0; omega
    | ⟨1, _⟩ => show r.val % 704 = r.val; omega
    | ⟨2, _⟩ => show d.val % 1024 = d.val; omega)
  have key : ∀ (n : ℕ) (hn : n < cfg0.N), n = (pt j 3).val →
      (outsAt0 m c n hn).2.1 (ix3 (0 : Fin 1) r d) = ∑ s : Fin 4096, act2 m c j s r * rows1 m c s d := by
    intro n hn h
    subst h
    rw [last1 m c (pt j 3) (by show ¬ (4 * j.val + 3) % 4 = 0; omega) (by show (4 * j.val + 3) % 4 = 3; omega), pay12_apply, total1]
  unfold Cert.Kernel3Ideal.Value.G6
  rw [dif_pos (show Cert.Kernel3Ideal.Value.pt6Of (ix3 j r d) < cfg0.N by rw [e]; exact (pt j 3).isLt), el]
  rw [← Cert.Kernel3Ideal.Value.outsAt0_sweep m c _ (show Cert.Kernel3Ideal.Value.pt6Of (ix3 j r d) < cfg0.N by rw [e]; exact (pt j 3).isLt)]
  exact key _ _ e

/-- The product of one row block, into the third accumulator. -/
def part2 (j k : Fin 4) (r : Fin 704) (d : Fin 1024) : EReal :=
  ∑ i : Fin 1024, act3 m c j (row k i) r * rows4 m c (row k i) d

theorem prod2 (j k : Fin 4) (r : Fin 704) (d : Fin 1024) :
    k0_pay1 (iblk m c 3 (pt j k)) (iblk m c 4 (pt j k)) (ix2 r d) = part2 m c j k r d := by
  rw [pay1_apply]
  exact Finset.sum_congr rfl fun i _ => by rw [block3, block4]

/-- A later row block adds its product. -/
theorem next2 (j k k' : Fin 4) (hk : k.val = k'.val + 1) (r : Fin 704) (d : Fin 1024) :
    (outsAt0 m c (pt j k).val (pt j k).isLt).2.2.2.2.2 (ix2 r d) = (outsAt0 m c (pt j k').val (pt j k').isLt).2.2.2.2.2 (ix2 r d) + part2 m c j k r d := by
  have ev : (pt j k).val = 4 * j.val + k.val := rfl
  have ev' : (pt j k').val = 4 * j.val + k'.val := rfl
  have hk4 := k.isLt
  have hp : (pt j k).val - 1 < cfg0.N := lt_of_le_of_lt (Nat.sub_le _ _) (pt j k).isLt
  have e1 : (outsAt0 m c (pt j k).val (pt j k).isLt).2.2.2.2.2
      = k0_pay3 (iblk m c 3 (pt j k)) (iblk m c 4 (pt j k)) ((outsAt0 m c ((pt j k).val - 1) hp).2.2.2.2.2) := by
    by_cases h3 : (pt j k).val % 4 = 3
    · exact stepC2 m c (pt j k) (by omega) h3 hp
    · exact stepB2 m c (pt j k) (by omega) h3 hp
  have e2 : (⟨(pt j k).val - 1, hp⟩ : Fin cfg0.N) = pt j k' := Fin.ext (by show (pt j k).val - 1 = _; omega)
  have e3 : outsAt0 m c ((pt j k).val - 1) hp = outsAt0 m c (pt j k').val (pt j k').isLt := by
    rw [← e2]
  rw [e1, e3, ← prod2]
  unfold k0_pay3
  rw [shapeCast_self]
  rfl

/-- The finished accumulator is the sum over all rows. -/
theorem total2 (j : Fin 4) (r : Fin 704) (d : Fin 1024) :
    (outsAt0 m c (pt j 3).val (pt j 3).isLt).2.2.2.2.2 (ix2 r d) = ∑ s : Fin 4096, act3 m c j s r * rows4 m c s d := by
  rw [next2 m c j 3 2 rfl, next2 m c j 2 1 rfl, next2 m c j 1 0 rfl, start2 m c (pt j 0) (by show (4 * j.val + 0) % 4 = 0; omega), prod2,
    sum_inBlock (show 4096 = 4 * 1024 by rfl), Fin.sum_univ_four]
  rfl

/-- The third result at an index. -/
theorem res2 (j : Fin 4) (r : Fin 704) (d : Fin 1024) :
    Cert.Kernel3Ideal.Value.G7 m c (ix3 j r d) = ((1 / 2 : ℝ) : EReal) * ∑ s : Fin 4096, act3 m c j s r * rows4 m c s d := by
  have hr := r.isLt
  have hd := d.isLt
  have e : Cert.Kernel3Ideal.Value.pt7Of (ix3 j r d) = (pt j 3).val := by
    show 4 * (1 * (j.val / 1 - 0) + 1 * (r.val / 704 - 0) + 1 * (d.val / 1024 - 0)) + 3 = 4 * j.val + 3
    omega
  have el : Cert.Kernel3Ideal.Value.loc7Of (ix3 j r d) = ix3 (0 : Fin 1) r d := funext fun a => Fin.ext (by
    match a with
    | ⟨0, _⟩ => show j.val % 1 = 0; omega
    | ⟨1, _⟩ => show r.val % 704 = r.val; omega
    | ⟨2, _⟩ => show d.val % 1024 = d.val; omega)
  have key : ∀ (n : ℕ) (hn : n < cfg0.N), n = (pt j 3).val →
      (outsAt0 m c n hn).2.2.1 (ix3 (0 : Fin 1) r d) = ((1 / 2 : ℝ) : EReal) * ∑ s : Fin 4096, act3 m c j s r * rows4 m c s d := by
    intro n hn h
    subst h
    rw [last2 m c (pt j 3) (by show ¬ (4 * j.val + 3) % 4 = 0; omega) (by show (4 * j.val + 3) % 4 = 3; omega), pay4_apply, total2]
  unfold Cert.Kernel3Ideal.Value.G7
  rw [dif_pos (show Cert.Kernel3Ideal.Value.pt7Of (ix3 j r d) < cfg0.N by rw [e]; exact (pt j 3).isLt), el]
  rw [← Cert.Kernel3Ideal.Value.outsAt0_sweep m c _ (show Cert.Kernel3Ideal.Value.pt7Of (ix3 j r d) < cfg0.N by rw [e]; exact (pt j 3).isLt)]
  exact key _ _ e

end Ffn.Grad
-- ==== Proof.Ffn.GradHost.lean ====
/-
  The weight gradients of the feed-forward half-step: what the host operations before the call hand it, written with the reference's own values.
-/
module

public import proofs.«01_k».proof.Proof.Ffn.Sums
public import proofs.«01_k».proof.Proof.Gen.Kernel3Ideal.Frame
public import proofs.«01_k».proof.Proof.Gen.Reference3Ideal.Read

@[expose] public section

set_option maxRecDepth 16384

noncomputable section

namespace Ffn.Grad

open Idealize.ShloMosaic Idealize.ShloMosaic.TcCoe Idealize.ShloMosaic.ValueIdx Idealize.ShloMosaic.StableHlo
open Cert.Kernel3Ideal Cert.Kernel3Ideal.Gen
open Cert.Reference3Ideal.Read

/-- The gradient of the hidden activations. -/
def hid (x3 : FVec Ideal S4x704x1024 .bf16) (x4 : FVec Ideal S4096x1024 .f32) : FVec Ideal S4096x2816 .f32 :=
  val_main_v10 (F := Ideal) (val_main_v19 (F := Ideal) x4) x3
/-- The gradient of the second pre-activation. -/
def gu (x0 : FVec Ideal S4096x1024 .f32) (x1 x3 : FVec Ideal S4x704x1024 .bf16) (x4 : FVec Ideal S4096x1024 .f32) : FVec Ideal S4096x2816 .f32 :=
  mulf (val_main_v11_0 (F := Ideal) x0 x1) (hid x3 x4)
/-- The gradient of the gate. -/
def gs (x0 : FVec Ideal S4096x1024 .f32) (x2 x3 : FVec Ideal S4x704x1024 .bf16) (x4 : FVec Ideal S4096x1024 .f32) : FVec Ideal S4096x2816 .f32 :=
  mulf (hid x3 x4) (val_main_v12 (F := Ideal) x0 x2)
/-- The gradient of the first pre-activation. -/
def ga (x0 : FVec Ideal S4096x1024 .f32) (x1 x2 x3 : FVec Ideal S4x704x1024 .bf16) (x4 : FVec Ideal S4096x1024 .f32) : FVec Ideal S4096x2816 .f32 :=
  addf (mulf (gs x0 x2 x3 x4) (val_main_v11_2 (F := Ideal) x0 x1))
    (mulf (mulf (val_main_v10 (F := Ideal) x0 x1) (gs x0 x2 x3 x4)) (val_main_v11_1 (F := Ideal) x0 x1))
/-- The layout the call is given. -/
def blocked (w : FVec Ideal S4096x2816 .f32) : FVec Ideal S4x4096x704 .bf16 :=
  truncf .bf16 (transpose S4x4096x704 [1, 0, 2] (shapeCast S4096x4x704 w shapeCasts_S4096x2816_S4096x4x704)
    transposes_S4096x4x704_S4x4096x704_1_0_2) bitsLt_bf16_f32

/-- The buffers after stretch 1. -/
def hv1 (V0 : Valuation τ sig (Elt Ideal)) : Valuation τ sig (Elt Ideal) := after hostOps0 V0

set_option maxHeartbeats 8000000 in
/-- The first pre-activation. -/
theorem hv1_v3 (V0 : Valuation τ sig (Elt Ideal)) : hv1 V0 (no_index (Proc.devRef .tc main_v3)) = val_main_v10 (F := Ideal) (V0 (Proc.devRef .tc main_arg0)) (V0 (Proc.devRef .tc main_arg1)) := by
  unfold hv1
  simp only [hostOps0]
  after_results_simp
  try rfl

set_option maxHeartbeats 8000000 in
/-- The second pre-activation. -/
theorem hv1_v7 (V0 : Valuation τ sig (Elt Ideal)) : hv1 V0 (no_index (Proc.devRef .tc main_v7)) = val_main_v12 (F := Ideal) (V0 (Proc.devRef .tc main_arg0)) (V0 (Proc.devRef .tc main_arg2)) := by
  unfold hv1
  simp only [hostOps0]
  after_results_simp
  try rfl

set_option maxHeartbeats 8000000 in
/-- Kept. -/
theorem hv1_arg3 (V0 : Valuation τ sig (Elt Ideal)) : hv1 V0 (no_index (Proc.devRef .tc main_arg3)) = (V0 (Proc.devRef .tc main_arg3)) := by
  unfold hv1
  simp only [hostOps0]
  after_results_simp
  try rfl

set_option maxHeartbeats 8000000 in
/-- Kept. -/
theorem hv1_arg4 (V0 : Valuation τ sig (Elt Ideal)) : hv1 V0 (no_index (Proc.devRef .tc main_arg4)) = (V0 (Proc.devRef .tc main_arg4)) := by
  unfold hv1
  simp only [hostOps0]
  after_results_simp
  try rfl

/-- The buffers after stretch 2. -/
def hv2 (V0 : Valuation τ sig (Elt Ideal)) : Valuation τ sig (Elt Ideal) := after hostOps0_1 (hv1 V0)

set_option maxHeartbeats 8000000 in
/-- Kept. -/
theorem hv2_v3 (V0 : Valuation τ sig (Elt Ideal)) : hv2 V0 (no_index (Proc.devRef .tc main_v3)) = val_main_v10 (F := Ideal) (V0 (Proc.devRef .tc main_arg0)) (V0 (Proc.devRef .tc main_arg1)) := by
  unfold hv2
  simp only [hostOps0_1]
  after_results_simp
  try simp only [hv1_v3, hv1_v7, hv1_arg3, hv1_arg4]
  try rfl

set_option maxHeartbeats 8000000 in
/-- Kept. -/
theorem hv2_v7 (V0 : Valuation τ sig (Elt Ideal)) : hv2 V0 (no_index (Proc.devRef .tc main_v7)) = val_main_v12 (F := Ideal) (V0 (Proc.devRef .tc main_arg0)) (V0 (Proc.devRef .tc main_arg2)) := by
  unfold hv2
  simp only [hostOps0_1]
  after_results_simp
  try simp only [hv1_v3, hv1_v7, hv1_arg3, hv1_arg4]
  try rfl

set_option maxHeartbeats 8000000 in
/-- The gate. -/
theorem hv2_v8_0 (V0 : Valuation τ sig (Elt Ideal)) : hv2 V0 (no_index (Proc.devRef .tc main_v8_0)) = val_main_v11_0 (F := Ideal) (V0 (Proc.devRef .tc main_arg0)) (V0 (Proc.devRef .tc main_arg1)) := by
  unfold hv2
  simp only [hostOps0_1]
  after_results_simp
  try simp only [hv1_v3, hv1_v7, hv1_arg3, hv1_arg4]
  try rfl

set_option maxHeartbeats 8000000 in
/-- The sigmoid's derivative. -/
theorem hv2_v8_1 (V0 : Valuation τ sig (Elt Ideal)) : hv2 V0 (no_index (Proc.devRef .tc main_v8_1)) = val_main_v11_1 (F := Ideal) (V0 (Proc.devRef .tc main_arg0)) (V0 (Proc.devRef .tc main_arg1)) := by
  unfold hv2
  simp only [hostOps0_1]
  after_results_simp
  try simp only [hv1_v3, hv1_v7, hv1_arg3, hv1_arg4]
  try rfl

set_option maxHeartbeats 8000000 in
/-- The sigmoid. -/
theorem hv2_v8_2 (V0 : Valuation τ sig (Elt Ideal)) : hv2 V0 (no_index (Proc.devRef .tc main_v8_2)) = val_main_v11_2 (F := Ideal) (V0 (Proc.devRef .tc main_arg0)) (V0 (Proc.devRef .tc main_arg1)) := by
  unfold hv2
  simp only [hostOps0_1]
  after_results_simp
  try simp only [hv1_v3, hv1_v7, hv1_arg3, hv1_arg4]
  try rfl

set_option maxHeartbeats 8000000 in
/-- Kept. -/
theorem hv2_arg3 (V0 : Valuation τ sig (Elt Ideal)) : hv2 V0 (no_index (Proc.devRef .tc main_arg3)) = (V0 (Proc.devRef .tc main_arg3)) := by
  unfold hv2
  simp only [hostOps0_1]
  after_results_simp
  try simp only [hv1_v3, hv1_v7, hv1_arg3, hv1_arg4]
  try rfl

set_option maxHeartbeats 8000000 in
/-- Kept. -/
theorem hv2_arg4 (V0 : Valuation τ sig (Elt Ideal)) : hv2 V0 (no_index (Proc.devRef .tc main_arg4)) = (V0 (Proc.devRef .tc main_arg4)) := by
  unfold hv2
  simp only [hostOps0_1]
  after_results_simp
  try simp only [hv1_v3, hv1_v7, hv1_arg3, hv1_arg4]
  try rfl

/-- The buffers after stretch 3. -/
def hv3 (V0 : Valuation τ sig (Elt Ideal)) : Valuation τ sig (Elt Ideal) := after hostOps0_2 (hv2 V0)

set_option maxHeartbeats 8000000 in
/-- Kept. -/
theorem hv3_v3 (V0 : Valuation τ sig (Elt Ideal)) : hv3 V0 (no_index (Proc.devRef .tc main_v3)) = val_main_v10 (F := Ideal) (V0 (Proc.devRef .tc main_arg0)) (V0 (Proc.devRef .tc main_arg1)) := by
  unfold hv3
  simp only [hostOps0_2]
  after_results_simp
  try simp only [hv2_v3, hv2_v7, hv2_v8_0, hv2_v8_1, hv2_v8_2, hv2_arg3, hv2_arg4]
  try rfl

set_option maxHeartbeats 8000000 in
/-- Kept. -/
theorem hv3_v8_1 (V0 : Valuation τ sig (Elt Ideal)) : hv3 V0 (no_index (Proc.devRef .tc main_v8_1)) = val_main_v11_1 (F := Ideal) (V0 (Proc.devRef .tc main_arg0)) (V0 (Proc.devRef .tc main_arg1)) := by
  unfold hv3
  simp only [hostOps0_2]
  after_results_simp
  try simp only [hv2_v3, hv2_v7, hv2_v8_0, hv2_v8_1, hv2_v8_2, hv2_arg3, hv2_arg4]
  try rfl

set_option maxHeartbeats 8000000 in
/-- Kept. -/
theorem hv3_v8_2 (V0 : Valuation τ sig (Elt Ideal)) : hv3 V0 (no_index (Proc.devRef .tc main_v8_2)) = val_main_v11_2 (F := Ideal) (V0 (Proc.devRef .tc main_arg0)) (V0 (Proc.devRef .tc main_arg1)) := by
  unfold hv3
  simp only [hostOps0_2]
  after_results_simp
  try simp only [hv2_v3, hv2_v7, hv2_v8_0, hv2_v8_1, hv2_v8_2, hv2_arg3, hv2_arg4]
  try rfl

set_option maxHeartbeats 8000000 in
/-- The hidden activations. -/
theorem hv3_v9 (V0 : Valuation τ sig (Elt Ideal)) : hv3 V0 (no_index (Proc.devRef .tc main_v9)) = val_main_v13 (F := Ideal) (V0 (Proc.devRef .tc main_arg0)) (V0 (Proc.devRef .tc main_arg1)) (V0 (Proc.devRef .tc main_arg2)) := by
  unfold hv3
  simp only [hostOps0_2]
  after_results_simp
  try simp only [hv2_v3, hv2_v7, hv2_v8_0, hv2_v8_1, hv2_v8_2, hv2_arg3, hv2_arg4]
  try rfl

set_option maxHeartbeats 8000000 in
/-- The gradient of the second pre-activation. -/
theorem hv3_v16 (V0 : Valuation τ sig (Elt Ideal)) : hv3 V0 (no_index (Proc.devRef .tc main_v16)) = gu (V0 (Proc.devRef .tc main_arg0)) (V0 (Proc.devRef .tc main_arg1)) (V0 (Proc.devRef .tc main_arg3)) (V0 (Proc.devRef .tc main_arg4)) := by
  unfold hv3
  simp only [hostOps0_2]
  after_results_simp
  try simp only [hv2_v3, hv2_v7, hv2_v8_0, hv2_v8_1, hv2_v8_2, hv2_arg3, hv2_arg4]
  try rfl

set_option maxHeartbeats 8000000 in
/-- The gradient of the gate. -/
theorem hv3_v17 (V0 : Valuation τ sig (Elt Ideal)) : hv3 V0 (no_index (Proc.devRef .tc main_v17)) = gs (V0 (Proc.devRef .tc main_arg0)) (V0 (Proc.devRef .tc main_arg2)) (V0 (Proc.devRef .tc main_arg3)) (V0 (Proc.devRef .tc main_arg4)) := by
  unfold hv3
  simp only [hostOps0_2]
  after_results_simp
  try simp only [hv2_v3, hv2_v7, hv2_v8_0, hv2_v8_1, hv2_v8_2, hv2_arg3, hv2_arg4]
  try rfl

/-- The buffers after stretch 4. -/
def hv4 (V0 : Valuation τ sig (Elt Ideal)) : Valuation τ sig (Elt Ideal) := after hostOps0_3 (hv3 V0)

set_option maxHeartbeats 8000000 in
/-- Kept. -/
theorem hv4_v9 (V0 : Valuation τ sig (Elt Ideal)) : hv4 V0 (no_index (Proc.devRef .tc main_v9)) = val_main_v13 (F := Ideal) (V0 (Proc.devRef .tc main_arg0)) (V0 (Proc.devRef .tc main_arg1)) (V0 (Proc.devRef .tc main_arg2)) := by
  unfold hv4
  simp only [hostOps0_3]
  after_results_simp
  try simp only [hv3_v3, hv3_v8_1, hv3_v8_2, hv3_v9, hv3_v16, hv3_v17]
  try rfl

set_option maxHeartbeats 8000000 in
/-- Kept. -/
theorem hv4_v16 (V0 : Valuation τ sig (Elt Ideal)) : hv4 V0 (no_index (Proc.devRef .tc main_v16)) = gu (V0 (Proc.devRef .tc main_arg0)) (V0 (Proc.devRef .tc main_arg1)) (V0 (Proc.devRef .tc main_arg3)) (V0 (Proc.devRef .tc main_arg4)) := by
  unfold hv4
  simp only [hostOps0_3]
  after_results_simp
  try simp only [hv3_v3, hv3_v8_1, hv3_v8_2, hv3_v9, hv3_v16, hv3_v17]
  try rfl

set_option maxHeartbeats 8000000 in
/-- The gradient of the first pre-activation. -/
theorem hv4_v18 (V0 : Valuation τ sig (Elt Ideal)) : hv4 V0 (no_index (Proc.devRef .tc main_v18)) = ga (V0 (Proc.devRef .tc main_arg0)) (V0 (Proc.devRef .tc main_arg1)) (V0 (Proc.devRef .tc main_arg2)) (V0 (Proc.devRef .tc main_arg3)) (V0 (Proc.devRef .tc main_arg4)) := by
  unfold hv4
  simp only [hostOps0_3]
  after_results_simp
  try simp only [hv3_v3, hv3_v8_1, hv3_v8_2, hv3_v9, hv3_v16, hv3_v17]
  try rfl

/-- The buffers after stretch 5. -/
def hv5 (V0 : Valuation τ sig (Elt Ideal)) : Valuation τ sig (Elt Ideal) := after hostOps0_4 (hv4 V0)

set_option maxHeartbeats 8000000 in
/-- The hidden activations the call is given. -/
theorem hv5_v21 (V0 : Valuation τ sig (Elt Ideal)) : hv5 V0 (no_index (Proc.devRef .tc main_v21)) = blocked (val_main_v13 (F := Ideal) (V0 (Proc.devRef .tc main_arg0)) (V0 (Proc.devRef .tc main_arg1)) (V0 (Proc.devRef .tc main_arg2))) := by
  unfold hv5
  simp only [hostOps0_4]
  after_results_simp
  try simp only [hv4_v9, hv4_v16, hv4_v18]
  try rfl

set_option maxHeartbeats 8000000 in
/-- The first gradient the call is given. -/
theorem hv5_v24 (V0 : Valuation τ sig (Elt Ideal)) : hv5 V0 (no_index (Proc.devRef .tc main_v24)) = blocked (ga (V0 (Proc.devRef .tc main_arg0)) (V0 (Proc.devRef .tc main_arg1)) (V0 (Proc.devRef .tc main_arg2)) (V0 (Proc.devRef .tc main_arg3)) (V0 (Proc.devRef .tc main_arg4))) := by
  unfold hv5
  simp only [hostOps0_4]
  after_results_simp
  try simp only [hv4_v9, hv4_v16, hv4_v18]
  try rfl

set_option maxHeartbeats 8000000 in
/-- The second gradient the call is given. -/
theorem hv5_v27 (V0 : Valuation τ sig (Elt Ideal)) : hv5 V0 (no_index (Proc.devRef .tc main_v27)) = blocked (gu (V0 (Proc.devRef .tc main_arg0)) (V0 (Proc.devRef .tc main_arg1)) (V0 (Proc.devRef .tc main_arg3)) (V0 (Proc.devRef .tc main_arg4))) := by
  unfold hv5
  simp only [hostOps0_4]
  after_results_simp
  try simp only [hv4_v9, hv4_v16, hv4_v18]
  try rfl

theorem after_five (a b d e f : List (HloOp τ sig (Elt Ideal))) (v : Valuation τ sig (Elt Ideal)) :
    StableHlo.after (List.flatten [a, b, d, e, f]) v = StableHlo.after f (StableHlo.after e (StableHlo.after d (StableHlo.after b (StableHlo.after a v)))) := by
  rw [List.flatten_cons, List.flatten_cons, List.flatten_cons, List.flatten_cons, List.flatten_cons, List.flatten_nil, List.append_nil,
    after_append, after_append, after_append, after_append]

theorem V_eq (m : (ℓ : Loc nD τ sig) → Buf (Elt Ideal) ℓ) (c : Dev nD) (b : Ref sig .tc) : V m c b = hv5 (fun b => m (c, b)) (Proc.devRef .tc b) :=
  congrFun (after_five hostOps0 hostOps0_1 hostOps0_2 hostOps0_3 hostOps0_4 (fun b => m (c, b))) (Proc.devRef .tc b)

/-- The layout at an index. -/
theorem blocked_apply (w : FVec Ideal S4096x2816 .f32) (j : Fin 4) (s : Fin 4096) (r : Fin 704) :
    blocked w (ix3 j s r) = w (ix2 s (inBlock (show 2816 = 4 * 704 by rfl) j r)) := by
  have e : blocked w (ix3 j s r) = transpose S4x4096x704 [1, 0, 2] (shapeCast S4096x4x704 w shapeCasts_S4096x2816_S4096x4x704)
    transposes_S4096x4x704_S4x4096x704_1_0_2 (ix3 j s r) := rfl
  rw [e]
  refine (transpose_apply [1, 0, 2] _ transposes_S4096x4x704_S4x4096x704_1_0_2 (ix3 j s r) (ix3 s j r) (fun b => match b with
    | ⟨0, _⟩ => rfl
    | ⟨1, _⟩ => rfl
    | ⟨2, _⟩ => rfl)).trans ?_
  refine shapeCast_apply _ _ _ _ ?_
  rw [Shape.rowMajor_val_two, Shape.rowMajor_val_three]
  show s.val * 2816 + (j.val * 704 + r.val) = (s.val * 4 + j.val) * 704 + r.val
  omega

/-- The gradient of the hidden activations is the reference's. -/
theorem hid_eq (x3 : FVec Ideal S4x704x1024 .bf16) (x4 : FVec Ideal S4096x1024 .f32) : hid x3 x4 = val_main_v22 (F := Ideal) x3 x4 := by
  funext i
  refine (val_main_v10_apply _ _ i).trans ((val_main_v22_apply x3 x4 i).trans (Finset.sum_congr rfl fun k _ => ?_)).symm
  rw [val_main_v4_apply]
  rfl
theorem gu_eq (x0 : FVec Ideal S4096x1024 .f32) (x1 x3 : FVec Ideal S4x704x1024 .bf16) (x4 : FVec Ideal S4096x1024 .f32) :
    gu x0 x1 x3 x4 = val_main_v23 (F := Ideal) x0 x1 x3 x4 := by
  unfold gu; rw [hid_eq]; rfl
theorem ga_eq (x0 : FVec Ideal S4096x1024 .f32) (x1 x2 x3 : FVec Ideal S4x704x1024 .bf16) (x4 : FVec Ideal S4096x1024 .f32) :
    ga x0 x1 x2 x3 x4 = val_main_v27 (F := Ideal) x0 x1 x2 x3 x4 := by
  unfold ga gs; rw [hid_eq]; rfl

end Ffn.Grad
-- ==== Proof.Ffn.GradRef.lean ====
/-
  The reference's gradients of the three weights of the feed-forward half-step, read at an index as sums over the rows.
-/
module

public import proofs.«01_k».proof.Proof.Ffn.Sums
public import proofs.«01_k».proof.Proof.Gen.Reference3Ideal.Read

@[expose] public section

set_option maxRecDepth 16384

noncomputable section

namespace Ffn.Grad

open Idealize.ShloMosaic Idealize.ShloMosaic.ValueIdx
open Cert.Reference3Ideal Cert.Reference3Ideal.Read

/-- Hidden unit `r` of weight block `j`. -/
abbrev unit (j : Fin 4) (r : Fin 704) : Fin 2816 := inBlock (show 2816 = 4 * 704 by rfl) j r

variable (x0 : FVec Ideal S4096x1024 .f32) (x1 x2 x3 : FVec Ideal S4x704x1024 .bf16) (x4 : FVec Ideal S4096x1024 .f32)

theorem idx32 (j : Fin 4) (r : Fin 704) (d : Fin 1024) : idx_main_v32 (ix3 j r d) = ix2 (unit j r) d := funext fun a => Fin.ext (by
  have := d.isLt
  match a with
  | ⟨0, _⟩ => show ((j.val * 704 + r.val) * 1024 + d.val) / 1024 = j.val * 704 + r.val; omega
  | ⟨1, _⟩ => show ((j.val * 704 + r.val) * 1024 + d.val) % 1024 = d.val; omega)

/-- The second weight's gradient. -/
theorem ref_up (j : Fin 4) (r : Fin 704) (d : Fin 1024) : val_main_v36 (F := Ideal) x0 x1 x3 x4 (ix3 j r d)
    = ∑ s : Fin 4096, val_main_v23 (F := Ideal) x0 x1 x3 x4 (ix2 s (unit j r)) * x0 (ix2 s d) := by
  refine Eq.trans (show _ = val_main_v32 (F := Ideal) x0 x1 x3 x4 (ix3 j r d) from rfl) ?_
  rw [val_main_v32_apply, idx32, val_main_v31_apply, val_main_v26_apply, val_main_v25_apply]
  refine Finset.sum_congr rfl fun s _ => ?_
  have el : lidx_main_v25 (idx_main_v26 (idx_main_v31 (ix2 (unit j r) d))) s = ix2 s (unit j r) := funext fun a => match a with
    | ⟨0, _⟩ => rfl
    | ⟨1, _⟩ => rfl
  have er : ridx_main_v25 (idx_main_v26 (idx_main_v31 (ix2 (unit j r) d))) s = ix2 s d := funext fun a => match a with
    | ⟨0, _⟩ => rfl
    | ⟨1, _⟩ => rfl
  rw [el, er]

/-- The first weight's gradient. -/
theorem ref_gate (j : Fin 4) (r : Fin 704) (d : Fin 1024) : val_main_v35 (F := Ideal) x0 x1 x2 x3 x4 (ix3 j r d)
    = ∑ s : Fin 4096, val_main_v27 (F := Ideal) x0 x1 x2 x3 x4 (ix2 s (unit j r)) * x0 (ix2 s d) := by
  refine Eq.trans (show _ = val_main_v34 (F := Ideal) x0 x1 x2 x3 x4 (ix3 j r d) from rfl) ?_
  have ei : idx_main_v34 (ix3 j r d) = ix2 (unit j r) d := idx32 j r d
  rw [val_main_v34_apply, ei, val_main_v33_apply, val_main_v29_apply, val_main_v28_apply]
  refine Finset.sum_congr rfl fun s _ => ?_
  have el : lidx_main_v28 (idx_main_v29 (idx_main_v33 (ix2 (unit j r) d))) s = ix2 s (unit j r) := funext fun a => match a with
    | ⟨0, _⟩ => rfl
    | ⟨1, _⟩ => rfl
  have er : ridx_main_v28 (idx_main_v29 (idx_main_v33 (ix2 (unit j r) d))) s = ix2 s d := funext fun a => match a with
    | ⟨0, _⟩ => rfl
    | ⟨1, _⟩ => rfl
  rw [el, er]

/-- The third weight's gradient. -/
theorem ref_down (j : Fin 4) (r : Fin 704) (d : Fin 1024) : val_main_v37 (F := Ideal) x0 x1 x2 x4 (ix3 j r d)
    = ((1 / 2 : ℝ) : EReal) * ∑ s : Fin 4096, val_main_v13 (F := Ideal) x0 x1 x2 (ix2 s (unit j r)) * x4 (ix2 s d) := by
  refine Eq.trans (show _ = val_main_v30 (F := Ideal) x0 x1 x2 x4 (ix3 j r d) from rfl) ?_
  have ei : idx_main_v30 (ix3 j r d) = ix2 (unit j r) d := idx32 j r d
  rw [val_main_v30_apply, ei, val_main_v21_apply, val_main_v20_apply, coe_mul_sum _ _ (by norm_num)]
  refine Finset.sum_congr rfl fun s _ => ?_
  have el : lidx_main_v20 (idx_main_v21 (ix2 (unit j r) d)) s = ix2 s d := funext fun a => match a with
    | ⟨0, _⟩ => rfl
    | ⟨1, _⟩ => rfl
  have er : ridx_main_v20 (idx_main_v21 (ix2 (unit j r) d)) s = ix2 s (unit j r) := funext fun a => match a with
    | ⟨0, _⟩ => rfl
    | ⟨1, _⟩ => rfl
  rw [el, er]
  have eh : val_main_v19 (F := Ideal) x4 (ix2 s d) = ((1 / 2 : ℝ) : EReal) * x4 (ix2 s d) := by
    show Ideal.ofBits .f32 0x3F000000#32 * x4 (ix2 s d) = _
    rw [ofBits_half]
  rw [eh, mul_assoc, mul_comm (x4 (ix2 s d))]

end Ffn.Grad
-- ==== Proof.Ffn.GradFinal.lean ====
/-
  The weight gradients of the feed-forward half-step: the call's three results are the reference's, and the claim.
-/
module

public import proofs.«01_k».proof.Defs
public import proofs.«01_k».proof.Proof.Ffn.GradSum
public import proofs.«01_k».proof.Proof.Ffn.GradHost
public import proofs.«01_k».proof.Proof.Ffn.GradRef
public import proofs.«01_k».proof.Proof.Gen.Reference3Ideal.Run

@[expose] public section

set_option maxRecDepth 16384

noncomputable section

namespace Ffn.Grad

open Idealize.ShloMosaic Idealize.ShloMosaic.TcCoe Idealize.ShloMosaic.ValueIdx Idealize.SL.Sem
open Cert.Kernel3Ideal Cert.Kernel3Ideal.Gen

variable (m : (ℓ : Loc nD τ sig) → Buf (Elt Ideal) ℓ) (c : Dev nD)

/-- An array the program was handed. -/
abbrev arr (b : Ref sig .tc) : Buf (Elt Ideal) ((c : Thread nD τ).loc b) := m ((c : Thread nD τ).loc b)

/-- An activation the call is handed is the reference's. -/
theorem act0_eq (j : Fin 4) (s : Fin 4096) (r : Fin 704) : act0 m c j s r = Cert.Reference3Ideal.Read.val_main_v27 (F := Ideal) (arr m c main_arg0) (arr m c main_arg1) (arr m c main_arg2) (arr m c main_arg3) (arr m c main_arg4) (ix2 s (unit j r)) := by
  refine (congrFun ((V_eq m c _).trans (hv5_v24 _)) (ix3 j s r)).trans ((blocked_apply _ j s r).trans ?_)
  rw [ga_eq]

/-- An activation the call is handed is the reference's. -/
theorem act2_eq (j : Fin 4) (s : Fin 4096) (r : Fin 704) : act2 m c j s r = Cert.Reference3Ideal.Read.val_main_v23 (F := Ideal) (arr m c main_arg0) (arr m c main_arg1) (arr m c main_arg3) (arr m c main_arg4) (ix2 s (unit j r)) := by
  refine (congrFun ((V_eq m c _).trans (hv5_v27 _)) (ix3 j s r)).trans ((blocked_apply _ j s r).trans ?_)
  rw [gu_eq]

/-- An activation the call is handed is the reference's. -/
theorem act3_eq (j : Fin 4) (s : Fin 4096) (r : Fin 704) : act3 m c j s r = Cert.Reference3Ideal.Read.val_main_v13 (F := Ideal) (arr m c main_arg0) (arr m c main_arg1) (arr m c main_arg2) (ix2 s (unit j r)) := by
  refine (congrFun ((V_eq m c _).trans (hv5_v21 _)) (ix3 j s r)).trans ((blocked_apply _ j s r).trans ?_)
  rfl

/-- A result of the call is the reference's. -/
theorem G5_eq : Cert.Kernel3Ideal.Value.G5 m c = Cert.Reference3Ideal.Read.val_main_v35 (F := Ideal) (arr m c main_arg0) (arr m c main_arg1) (arr m c main_arg2) (arr m c main_arg3) (arr m c main_arg4) := by
  funext i
  obtain ⟨j, r, d, rfl⟩ : ∃ (j : Fin 4) (r : Fin 704) (d : Fin 1024), i = ix3 j r d := ⟨i 0, i 1, i 2, eq_ix3 i⟩
  refine (res0 m c j r d).trans (Eq.trans ?_ (ref_gate (arr m c main_arg0) (arr m c main_arg1) (arr m c main_arg2) (arr m c main_arg3) (arr m c main_arg4) j r d).symm)
  have ex : ∀ s, rows1 m c s d = arr m c main_arg0 (ix2 s d) := fun s => congrFun (V_main_arg0 m c) (ix2 s d)
  have e : ∀ s, act0 m c j s r * rows1 m c s d = _ := fun s => congrArg₂ (fun p q : EReal => p * q) (act0_eq m c j s r) (ex s)
  exact Finset.sum_congr (M := EReal) rfl fun s _ => e s

/-- A result of the call is the reference's. -/
theorem G6_eq : Cert.Kernel3Ideal.Value.G6 m c = Cert.Reference3Ideal.Read.val_main_v36 (F := Ideal) (arr m c main_arg0) (arr m c main_arg1) (arr m c main_arg3) (arr m c main_arg4) := by
  funext i
  obtain ⟨j, r, d, rfl⟩ : ∃ (j : Fin 4) (r : Fin 704) (d : Fin 1024), i = ix3 j r d := ⟨i 0, i 1, i 2, eq_ix3 i⟩
  refine (res1 m c j r d).trans (Eq.trans ?_ (ref_up (arr m c main_arg0) (arr m c main_arg1) (arr m c main_arg3) (arr m c main_arg4) j r d).symm)
  have ex : ∀ s, rows1 m c s d = arr m c main_arg0 (ix2 s d) := fun s => congrFun (V_main_arg0 m c) (ix2 s d)
  have e : ∀ s, act2 m c j s r * rows1 m c s d = _ := fun s => congrArg₂ (fun p q : EReal => p * q) (act2_eq m c j s r) (ex s)
  exact Finset.sum_congr (M := EReal) rfl fun s _ => e s

/-- A result of the call is the reference's. -/
theorem G7_eq : Cert.Kernel3Ideal.Value.G7 m c = Cert.Reference3Ideal.Read.val_main_v37 (F := Ideal) (arr m c main_arg0) (arr m c main_arg1) (arr m c main_arg2) (arr m c main_arg4) := by
  funext i
  obtain ⟨j, r, d, rfl⟩ : ∃ (j : Fin 4) (r : Fin 704) (d : Fin 1024), i = ix3 j r d := ⟨i 0, i 1, i 2, eq_ix3 i⟩
  refine (res2 m c j r d).trans (Eq.trans ?_ (ref_down (arr m c main_arg0) (arr m c main_arg1) (arr m c main_arg2) (arr m c main_arg4) j r d).symm)
  have ex : ∀ s, rows4 m c s d = arr m c main_arg4 (ix2 s d) := fun s => congrFun (V_main_arg4 m c) (ix2 s d)
  have e : ∀ s, act3 m c j s r * rows4 m c s d = _ := fun s => congrArg₂ (fun p q : EReal => p * q) (act3_eq m c j s r) (ex s)
  exact congrArg (fun t : EReal => ((1 / 2 : ℝ) : EReal) * t) (Finset.sum_congr (M := EReal) rfl fun s _ => e s)

/-- The two programs end with the same three gradients. -/
theorem algebraic : Cert.algebraic_Kernel3Ideal_Reference3Ideal := by
  intro m g m' g' _ hagree
  refine ⟨fun c => Cert.Kernel3Ideal.Value.G5 m c, fun c => Cert.Kernel3Ideal.Value.G6 m c, fun c => Cert.Kernel3Ideal.Value.G7 m c,
    Cert.Kernel3Ideal.Value.run (F := Ideal) m g, ?_⟩
  refine (θ_run _ _ _).mono (fun r h c => ?_) (Cert.Reference3Ideal.Value.run (F := Ideal) m' g')
  obtain ⟨h0, h1, h2, hk⟩ := h c
  obtain ⟨e0, e1, e2, e3, e4⟩ := hagree c
  refine ⟨h0.trans ?_, h1.trans ?_, h2.trans ?_, hk⟩
  · rw [e0, e1, e2, e3, e4]
    exact (Cert.Reference3Ideal.Read.val_main_v35_eq (F := Ideal) _ _ _ _ _).trans (G5_eq m c).symm
  · rw [e0, e1, e3, e4]
    exact (Cert.Reference3Ideal.Read.val_main_v36_eq (F := Ideal) _ _ _ _).trans (G6_eq m c).symm
  · rw [e0, e1, e2, e4]
    exact (Cert.Reference3Ideal.Read.val_main_v37_eq (F := Ideal) _ _ _ _).trans (G7_eq m c).symm

end Ffn.Grad
-- ==== Proof.Ffn.FwdOps.lean ====
/-
  The feed-forward half-step forward: one grid point's gated products of a weight block, and the normalisation of a row, read at an index.
-/
module

public import proofs.«01_k».proof.Proof.Ffn.Sums
public import proofs.«01_k».proof.Proof.Gen.Kernel4Ideal.Skeleton
public import Idealize.ShloMosaic.Lib.Pipeline.Value

@[expose] public section

set_option maxRecDepth 16384

noncomputable section

namespace Ffn.Fwd

open Idealize.ShloMosaic Idealize.ShloMosaic.ValueIdx
open Cert.Kernel4Ideal Cert.Kernel4Ideal.Gen

/-- The gated hidden value of a unit: the gate's preactivation through the sigmoid-weighted unit, times the up projection. -/
def gated (a u : EReal) : EReal := a * Ideal.logistic a * u
/-- The residual sum of a half-step. -/
def mix (x t : EReal) : EReal := Ideal.ofBits .f32 0x3FB504F3#32 * x + Ideal.ofBits .f32 0x3F000000#32 * t
/-- A row's mean. -/
def mean (z : Fin 1024 → EReal) : EReal := Ideal.div (∑ k, z k) (Ideal.ofBits .f32 0x44800000#32)
/-- A row less its mean. -/
def dev (z : Fin 1024 → EReal) (d : Fin 1024) : EReal := z d - mean z
/-- A row's reciprocal deviation. -/
def rdev (z : Fin 1024 → EReal) : EReal :=
  Ideal.rsqrt (Ideal.div (∑ k, dev z k * dev z k) (Ideal.ofBits .f32 0x44800000#32) + Ideal.ofBits .f32 0x3727C5AC#32)

/-- A block of rows times a tile of 256 weight rows. -/
theorem mm_nt256 {φ₁ φ₂ : FTy} (a : FVec Ideal S1024x1024 φ₁) (b : FVec Ideal S256x1024 φ₂) (i : Fin 1024) (p : Fin 256) :
    matmul (F := Ideal) dot_S1024x1024_S256x1024_S1024x256_1_1_0_0_n_n none a b (constant (F := Ideal) S1024x256 .f32 0x00000000#32) (ix2 i p)
      = ∑ d : Fin 1024, a (ix2 i d) * b (ix2 p d) := by
  refine Eq.trans (Ideal.matmul_constant_zero_apply dot_S1024x1024_S256x1024_S1024x256_1_1_0_0_n_n none a b (ix2 i p)) ?_
  rw [← Equiv.sum_comp (contrEquiv1 dot_S1024x1024_S256x1024_S1024x256_1_1_0_0_n_n 1024 rfl rfl).symm]
  refine Finset.sum_congr rfl fun k _ => ?_
  have hk := contrEquiv1_symm_val dot_S1024x1024_S256x1024_S1024x256_1_1_0_0_n_n 1024 rfl rfl k
  have el : dot_S1024x1024_S256x1024_S1024x256_1_1_0_0_n_n.lhsIdx (ix2 i p) ((contrEquiv1 dot_S1024x1024_S256x1024_S1024x256_1_1_0_0_n_n 1024 rfl rfl).symm k) = ix2 i k := by
    funext a; apply Fin.ext
    match a with
    | ⟨0, _⟩ => rfl
    | ⟨1, _⟩ => exact hk
  have er : dot_S1024x1024_S256x1024_S1024x256_1_1_0_0_n_n.rhsIdx (ix2 i p) ((contrEquiv1 dot_S1024x1024_S256x1024_S1024x256_1_1_0_0_n_n 1024 rfl rfl).symm k) = ix2 p k := by
    funext a; apply Fin.ext
    match a with
    | ⟨0, _⟩ => rfl
    | ⟨1, _⟩ => exact hk
  rw [el, er]

/-- A tile of 256 hidden columns times the weight rows of that tile. -/
theorem mm_nn256 {φ₁ φ₂ : FTy} (a : FVec Ideal S1024x256 φ₁) (b : FVec Ideal S256x1024 φ₂) (i d : Fin 1024) :
    matmul (F := Ideal) dot_S1024x256_S256x1024_S1024x1024_1_0_0_1_n_n none a b (constant (F := Ideal) S1024x1024 .f32 0x00000000#32) (ix2 i d)
      = ∑ p : Fin 256, a (ix2 i p) * b (ix2 p d) := by
  refine Eq.trans (Ideal.matmul_constant_zero_apply dot_S1024x256_S256x1024_S1024x1024_1_0_0_1_n_n none a b (ix2 i d)) ?_
  rw [← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 i d) ((contrEquiv1 dot_S1024x256_S256x1024_S1024x1024_1_0_0_1_n_n 256 rfl rfl).symm k) = ix2 i k := by
    funext a; apply Fin.ext
    match a with
    | ⟨0, _⟩ => rfl
    | ⟨1, _⟩ => exact hk
  have er : dot_S1024x256_S256x1024_S1024x1024_1_0_0_1_n_n.rhsIdx (ix2 i d) ((contrEquiv1 dot_S1024x256_S256x1024_S1024x1024_1_0_0_1_n_n 256 rfl rfl).symm k) = ix2 k d := by
    funext a; apply Fin.ext
    match a with
    | ⟨0, _⟩ => exact hk
    | ⟨1, _⟩ => rfl
  rw [el, er]

/-- A weight tile without its unit axis. -/
theorem tile256 (v : Vec Ideal S1x256x1024 .bf16) (p : Fin 256) (d : Fin 1024) :
    shapeCast S256x1024 v shapeCasts_S1x256x1024_S256x1024 (ix2 p d) = v (ix3 (0 : Fin 1) p d) := by
  refine shapeCast_apply _ _ _ (ix3 (0 : Fin 1) p d) ?_
  rw [Shape.rowMajor_val_two, Shape.rowMajor_val_three]
  show (0 * 256 + p.val) * 1024 + d.val = p.val * 1024 + d.val
  omega

/-- A tile of hidden columns, given a unit axis. -/
theorem lead256 (v : FVec Ideal S1024x256 .bf16) (i : Fin 1024) (p : Fin 256) :
    shapeCast S1x1024x256 v shapeCasts_S1024x256_S1x1024x256 (ix3 (0 : Fin 1) i p) = v (ix2 i p) := by
  refine shapeCast_apply _ _ _ (ix2 i p) ?_
  rw [Shape.rowMajor_val_two, Shape.rowMajor_val_three]
  show i.val * 256 + p.val = (0 * 1024 + i.val) * 256 + p.val
  omega

/-- A block of rows times a tile of 192 weight rows. -/
theorem mm_nt192 {φ₁ φ₂ : FTy} (a : FVec Ideal S1024x1024 φ₁) (b : FVec Ideal S192x1024 φ₂) (i : Fin 1024) (p : Fin 192) :
    matmul (F := Ideal) dot_S1024x1024_S192x1024_S1024x192_1_1_0_0_n_n none a b (constant (F := Ideal) S1024x192 .f32 0x00000000#32) (ix2 i p)
      = ∑ d : Fin 1024, a (ix2 i d) * b (ix2 p d) := by
  refine Eq.trans (Ideal.matmul_constant_zero_apply dot_S1024x1024_S192x1024_S1024x192_1_1_0_0_n_n none a b (ix2 i p)) ?_
  rw [← Equiv.sum_comp (contrEquiv1 dot_S1024x1024_S192x1024_S1024x192_1_1_0_0_n_n 1024 rfl rfl).symm]
  refine Finset.sum_congr rfl fun k _ => ?_
  have hk := contrEquiv1_symm_val dot_S1024x1024_S192x1024_S1024x192_1_1_0_0_n_n 1024 rfl rfl k
  have el : dot_S1024x1024_S192x1024_S1024x192_1_1_0_0_n_n.lhsIdx (ix2 i p) ((contrEquiv1 dot_S1024x1024_S192x1024_S1024x192_1_1_0_0_n_n 1024 rfl rfl).symm k) = ix2 i k := by
    funext a; apply Fin.ext
    match a with
    | ⟨0, _⟩ => rfl
    | ⟨1, _⟩ => exact hk
  have er : dot_S1024x1024_S192x1024_S1024x192_1_1_0_0_n_n.rhsIdx (ix2 i p) ((contrEquiv1 dot_S1024x1024_S192x1024_S1024x192_1_1_0_0_n_n 1024 rfl rfl).symm k) = ix2 p k := by
    funext a; apply Fin.ext
    match a with
    | ⟨0, _⟩ => rfl
    | ⟨1, _⟩ => exact hk
  rw [el, er]

/-- A tile of 192 hidden columns times the weight rows of that tile. -/
theorem mm_nn192 {φ₁ φ₂ : FTy} (a : FVec Ideal S1024x192 φ₁) (b : FVec Ideal S192x1024 φ₂) (i d : Fin 1024) :
    matmul (F := Ideal) dot_S1024x192_S192x1024_S1024x1024_1_0_0_1_n_n none a b (constant (F := Ideal) S1024x1024 .f32 0x00000000#32) (ix2 i d)
      = ∑ p : Fin 192, a (ix2 i p) * b (ix2 p d) := by
  refine Eq.trans (Ideal.matmul_constant_zero_apply dot_S1024x192_S192x1024_S1024x1024_1_0_0_1_n_n none a b (ix2 i d)) ?_
  rw [← Equiv.sum_comp (contrEquiv1 dot_S1024x192_S192x1024_S1024x1024_1_0_0_1_n_n 192 rfl rfl).symm]
  refine Finset.sum_congr rfl fun k _ => ?_
  have hk := contrEquiv1_symm_val dot_S1024x192_S192x1024_S1024x1024_1_0_0_1_n_n 192 rfl rfl k
  have el : dot_S1024x192_S192x1024_S1024x1024_1_0_0_1_n_n.lhsIdx (ix2 i d) ((contrEquiv1 dot_S1024x192_S192x1024_S1024x1024_1_0_0_1_n_n 192 rfl rfl).symm k) = ix2 i k := by
    funext a; apply Fin.ext
    match a with
    | ⟨0, _⟩ => rfl
    | ⟨1, _⟩ => exact hk
  have er : dot_S1024x192_S192x1024_S1024x1024_1_0_0_1_n_n.rhsIdx (ix2 i d) ((contrEquiv1 dot_S1024x192_S192x1024_S1024x1024_1_0_0_1_n_n 192 rfl rfl).symm k) = ix2 k d := by
    funext a; apply Fin.ext
    match a with
    | ⟨0, _⟩ => exact hk
    | ⟨1, _⟩ => rfl
  rw [el, er]

/-- A weight tile without its unit axis. -/
theorem tile192 (v : Vec Ideal S1x192x1024 .bf16) (p : Fin 192) (d : Fin 1024) :
    shapeCast S192x1024 v shapeCasts_S1x192x1024_S192x1024 (ix2 p d) = v (ix3 (0 : Fin 1) p d) := by
  refine shapeCast_apply _ _ _ (ix3 (0 : Fin 1) p d) ?_
  rw [Shape.rowMajor_val_two, Shape.rowMajor_val_three]
  show (0 * 192 + p.val) * 1024 + d.val = p.val * 1024 + d.val
  omega

/-- A tile of hidden columns, given a unit axis. -/
theorem lead192 (v : FVec Ideal S1024x192 .bf16) (i : Fin 1024) (p : Fin 192) :
    shapeCast S1x1024x192 v shapeCasts_S1024x192_S1x1024x192 (ix3 (0 : Fin 1) i p) = v (ix2 i p) := by
  refine shapeCast_apply _ _ _ (ix2 i p) ?_
  rw [Shape.rowMajor_val_two, Shape.rowMajor_val_three]
  show i.val * 192 + p.val = (0 * 1024 + i.val) * 192 + p.val
  omega

variable (xb : Vec Ideal S1024x1024 .bf16)

/-- The products of the rows with a weight tile. -/
theorem pay9_apply (w : Vec Ideal S1x256x1024 .bf16) (i : Fin 1024) (p : Fin 256) :
    k0_pay9 (F := Ideal) xb w (ix2 i p) = ∑ d : Fin 1024, xb (ix2 i d) * w (ix3 (0 : Fin 1) p d) := by
  unfold k0_pay9
  exact (mm_nt256 _ _ i p).trans (Finset.sum_congr rfl fun d _ => by rw [tile256])
theorem pay10_apply (w : Vec Ideal S1x256x1024 .bf16) (i : Fin 1024) (p : Fin 256) :
    k0_pay10 (F := Ideal) xb w (ix2 i p) = ∑ d : Fin 1024, xb (ix2 i d) * w (ix3 (0 : Fin 1) p d) := pay9_apply xb w i p
theorem pay14_apply (w : Vec Ideal S1x256x1024 .bf16) (i : Fin 1024) (p : Fin 256) :
    k0_pay14 (F := Ideal) xb w (ix2 i p) = ∑ d : Fin 1024, xb (ix2 i d) * w (ix3 (0 : Fin 1) p d) := pay9_apply xb w i p
theorem pay15_apply (w : Vec Ideal S1x256x1024 .bf16) (i : Fin 1024) (p : Fin 256) :
    k0_pay15 (F := Ideal) xb w (ix2 i p) = ∑ d : Fin 1024, xb (ix2 i d) * w (ix3 (0 : Fin 1) p d) := pay9_apply xb w i p
theorem pay19_apply (w : Vec Ideal S1x192x1024 .bf16) (i : Fin 1024) (p : Fin 192) :
    k0_pay19 (F := Ideal) xb w (ix2 i p) = ∑ d : Fin 1024, xb (ix2 i d) * w (ix3 (0 : Fin 1) p d) := by
  unfold k0_pay19
  exact (mm_nt192 _ _ i p).trans (Finset.sum_congr rfl fun d _ => by rw [tile192])
theorem pay20_apply (w : Vec Ideal S1x192x1024 .bf16) (i : Fin 1024) (p : Fin 192) :
    k0_pay20 (F := Ideal) xb w (ix2 i p) = ∑ d : Fin 1024, xb (ix2 i d) * w (ix3 (0 : Fin 1) p d) := pay19_apply xb w i p

/-- The saved tiles of the two projections. -/
theorem pay11_apply (w : Vec Ideal S1x256x1024 .bf16) (i : Fin 1024) (p : Fin 256) :
    k0_pay11 (F := Ideal) xb w (ix3 (0 : Fin 1) i p) = ∑ d : Fin 1024, xb (ix2 i d) * w (ix3 (0 : Fin 1) p d) := by
  unfold k0_pay11
  exact (lead256 _ i p).trans (pay9_apply xb w i p)
theorem pay12_apply (w : Vec Ideal S1x256x1024 .bf16) (i : Fin 1024) (p : Fin 256) :
    k0_pay12 (F := Ideal) xb w (ix3 (0 : Fin 1) i p) = ∑ d : Fin 1024, xb (ix2 i d) * w (ix3 (0 : Fin 1) p d) := pay11_apply xb w i p
theorem pay16_apply (w : Vec Ideal S1x256x1024 .bf16) (i : Fin 1024) (p : Fin 256) :
    k0_pay16 (F := Ideal) (k0_pay14 (F := Ideal) xb w) (ix3 (0 : Fin 1) i p) = ∑ d : Fin 1024, xb (ix2 i d) * w (ix3 (0 : Fin 1) p d) := pay11_apply xb w i p
theorem pay17_apply (w : Vec Ideal S1x256x1024 .bf16) (i : Fin 1024) (p : Fin 256) :
    k0_pay17 (F := Ideal) xb w (ix3 (0 : Fin 1) i p) = ∑ d : Fin 1024, xb (ix2 i d) * w (ix3 (0 : Fin 1) p d) := pay11_apply xb w i p
theorem pay21_apply (w : Vec Ideal S1x192x1024 .bf16) (i : Fin 1024) (p : Fin 192) :
    k0_pay21 (F := Ideal) xb w (ix3 (0 : Fin 1) i p) = ∑ d : Fin 1024, xb (ix2 i d) * w (ix3 (0 : Fin 1) p d) := by
  unfold k0_pay21
  exact (lead192 _ i p).trans (pay19_apply xb w i p)
theorem pay1_apply (w : Vec Ideal S1x192x1024 .bf16) (i : Fin 1024) (p : Fin 192) :
    k0_pay1 (F := Ideal) (k0_pay22 (F := Ideal) xb w) (ix3 (0 : Fin 1) i p) = ∑ d : Fin 1024, xb (ix2 i d) * w (ix3 (0 : Fin 1) p d) := pay21_apply xb w i p

/-- The first tile's contribution to the output rows. -/
theorem pay13_apply (wg wu wd : Vec Ideal S1x256x1024 .bf16) (i d : Fin 1024) :
    k0_pay13 (F := Ideal) xb wg wu wd (ix2 i d)
      = ∑ p : Fin 256, gated (∑ e : Fin 1024, xb (ix2 i e) * wg (ix3 (0 : Fin 1) p e)) (∑ e : Fin 1024, xb (ix2 i e) * wu (ix3 (0 : Fin 1) p e)) * wd (ix3 (0 : Fin 1) p d) := by
  unfold k0_pay13
  refine (mm_nn256 _ _ i d).trans (Finset.sum_congr rfl fun p _ => ?_)
  rw [tile256, ← pay9_apply, ← pay10_apply]
  rfl
/-- The second tile's contribution, added to the first's. -/
theorem pay18_apply (v24 : FVec Ideal S1024x1024 .f32) (wg wu wd : Vec Ideal S1x256x1024 .bf16) (i d : Fin 1024) :
    k0_pay18 (F := Ideal) xb v24 (k0_pay14 (F := Ideal) xb wg) wu wd (ix2 i d)
      = v24 (ix2 i d) + ∑ p : Fin 256, gated (∑ e : Fin 1024, xb (ix2 i e) * wg (ix3 (0 : Fin 1) p e)) (∑ e : Fin 1024, xb (ix2 i e) * wu (ix3 (0 : Fin 1) p e)) * wd (ix3 (0 : Fin 1) p d) := by
  unfold k0_pay18
  refine congrArg (v24 (ix2 i d) + ·) ?_
  refine (mm_nn256 _ _ i d).trans (Finset.sum_congr rfl fun p _ => ?_)
  rw [tile256, ← pay14_apply, ← pay15_apply]
  rfl
/-- The third tile's contribution, and the whole block's added to the accumulator. -/
theorem pay2_apply (v46 : FVec Ideal S1024x1024 .f32) (wg wu wd : Vec Ideal S1x192x1024 .bf16) (acc : Vec Ideal S1024x1024 .f32) (i d : Fin 1024) :
    k0_pay2 (F := Ideal) v46 (k0_pay19 (F := Ideal) xb wg) (k0_pay20 (F := Ideal) xb wu) wd acc (ix2 i d)
      = acc (ix2 i d) + (v46 (ix2 i d) + ∑ p : Fin 192, gated (∑ e : Fin 1024, xb (ix2 i e) * wg (ix3 (0 : Fin 1) p e)) (∑ e : Fin 1024, xb (ix2 i e) * wu (ix3 (0 : Fin 1) p e)) * wd (ix3 (0 : Fin 1) p d)) := by
  unfold k0_pay2
  rw [shapeCast_self]
  refine congrArg (fun t => acc (ix2 i d) + (v46 (ix2 i d) + t)) ?_
  refine (mm_nn192 _ _ i d).trans (Finset.sum_congr rfl fun p _ => ?_)
  rw [tile192, ← pay19_apply, ← pay20_apply]
  rfl

/-- The rows, and the accumulator's start. -/
theorem pay7_apply (x : Vec Ideal S1024x1024 .f32) (i d : Fin 1024) : k0_pay7 (F := Ideal) x (ix2 i d) = x (ix2 i d) := by
  unfold k0_pay7
  rw [shapeCast_self]
  rfl
theorem pay8_apply (i d : Fin 1024) : k0_pay8 (F := Ideal) (ix2 i d) = (0 : EReal) := by
  unfold k0_pay8
  rw [shapeCast_self]
  show Ideal.ofBits .f32 0x00000000#32 = 0
  simp [Ideal.ofBits, Ideal.ieee]

/-- A row's sum. -/
theorem row_sum (v : FVec Ideal S1024x1024 .f32) (h hφ hacc) (i : Fin 1024) :
    multiReduction .add [1] S1024 v 0x00000000#32 h hφ hacc (ix1 i) = ∑ l : Fin 1024, v (ix2 i l) := by
  refine (Ideal.multiReduction_add_single _ _ _ _ _ _).trans ?_
  refine Finset.sum_congr rfl fun l _ => congrArg v ?_
  funext a; apply Fin.ext
  match a with
  | ⟨0, _⟩ => rfl
  | ⟨1, _⟩ => rfl

/-- A column of row values. -/
theorem col (v : FVec Ideal S1024 .f32) (h) (i : Fin 1024) : shapeCast S1024x1 v h (ix2 i 0) = v (ix1 i) := by
  refine shapeCast_apply _ _ _ (ix1 i) ?_
  rw [Shape.rowMajor_val_one, Shape.rowMajor_val_two]
  show i.val = i.val * 1 + 0; omega

/-- A column spread over the row. -/
theorem spread (v : FVec Ideal S1024x1 .f32) (h) (i d : Fin 1024) : broadcastTo S1024x1024 v h (ix2 i d) = v (ix2 i 0) := by
  refine broadcastTo_apply _ _ (ix2 i d) (ix2 i 0) ?_
  intro a
  match a with
  | ⟨0, _⟩ => rfl
  | ⟨1, _⟩ => rfl

/-- A row spread over the columns. -/
theorem lower (v : FVec Ideal S1x1024 .f32) (h) (i d : Fin 1024) : broadcastTo S1024x1024 v h (ix2 i d) = v (ix2 (0 : Fin 1) d) := by
  refine broadcastTo_apply _ _ (ix2 i d) (ix2 (0 : Fin 1) d) ?_
  intro a
  match a with
  | ⟨0, _⟩ => rfl
  | ⟨1, _⟩ => rfl

variable (x acc : Vec Ideal S1024x1024 .f32)

/-- Row `i` of the residual sum. -/
def zrow (i : Fin 1024) : Fin 1024 → EReal := fun d => mix (x (ix2 i d)) (acc (ix2 i d))

/-- The four values made of the finished accumulator: the centred row, its reciprocal deviation, the normalised row and its affine image. -/
theorem pay3_apply (i d : Fin 1024) : k0_pay3 (F := Ideal) x acc (ix2 i d) = dev (zrow x acc i) d := by
  unfold k0_pay3
  refine congrArg (zrow x acc i d - ·) ?_
  refine (spread _ _ i d).trans ?_
  refine congrArg (fun t => Ideal.div t (Ideal.ofBits .f32 0x44800000#32)) ?_
  exact (col _ _ i).trans (row_sum _ _ _ _ i)
theorem pay4_apply (i : Fin 1024) : k0_pay4 (F := Ideal) x acc (ix2 i 0) = rdev (zrow x acc i) := by
  unfold k0_pay4
  refine congrArg (fun t => Ideal.rsqrt (Ideal.div t (Ideal.ofBits .f32 0x44800000#32) + Ideal.ofBits .f32 0x3727C5AC#32)) ?_
  refine (col _ _ i).trans ((row_sum _ _ _ _ i).trans (Finset.sum_congr rfl fun k _ => ?_))
  rw [← pay3_apply]
  rfl
theorem pay5_apply (i d : Fin 1024) : k0_pay5 (F := Ideal) x acc (ix2 i d) = dev (zrow x acc i) d * rdev (zrow x acc i) := by
  unfold k0_pay5
  rw [← pay3_apply, ← pay4_apply]
  exact congrArg (k0_pay3 (F := Ideal) x acc (ix2 i d) * ·) (spread _ _ i d)
theorem pay6_apply (g b : Vec Ideal S1x1024 .f32) (i d : Fin 1024) : k0_pay6 (F := Ideal) x acc g b (ix2 i d)
    = dev (zrow x acc i) d * rdev (zrow x acc i) * g (ix2 (0 : Fin 1) d) + b (ix2 (0 : Fin 1) d) := by
  unfold k0_pay6
  rw [← pay5_apply]
  have hg := lower g broadcasts_S1x1024_S1024x1024 i d
  have hb := lower b broadcasts_S1x1024_S1024x1024 i d
  rw [← hg, ← hb]
  rfl

end Ffn.Fwd
-- ==== Proof.Ffn.FwdCase.lean ====
/-
  The feed-forward half-step forward: what one grid point leaves in its accumulator, in the saved blocks of the two projections and, at the
  last weight block, in the three output blocks.
-/
module

public import proofs.«01_k».proof.Proof.Ffn.FwdOps
public import proofs.«01_k».proof.Proof.Gen.Kernel4Ideal.Frame
public import Idealize.ShloMosaic.Lib.Pipeline.ValueKit.Tiles

@[expose] public section

set_option maxRecDepth 16384

noncomputable section

namespace Ffn.Fwd

open Idealize.ShloMosaic Idealize.ShloMosaic.TcCoe Idealize.ShloMosaic.ValueIdx
open Cert.Kernel4Ideal Cert.Kernel4Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- The three tiles of a weight block. -/
def tl0 (w : Vec Ideal S1x704x1024 .bf16) : Vec Ideal S1x256x1024 .bf16 := View.ld w (Rect.unit (s := S1x704x1024) ![0, 0, 0] ![1, 256, 1024] inb_S1x704x1024_S1x256x1024_0_0_0)
def tl1 (w : Vec Ideal S1x704x1024 .bf16) : Vec Ideal S1x256x1024 .bf16 := View.ld w (Rect.unit (s := S1x704x1024) ![0, 256, 0] ![1, 256, 1024] inb_S1x704x1024_S1x256x1024_0_256_0)
def tl2 (w : Vec Ideal S1x704x1024 .bf16) : Vec Ideal S1x192x1024 .bf16 := View.ld w (Rect.unit (s := S1x704x1024) ![0, 512, 0] ![1, 192, 1024] inb_S1x704x1024_S1x192x1024_0_512_0)

theorem tl0_apply (w : Vec Ideal S1x704x1024 .bf16) (p : Fin 256) (d : Fin 1024) (r : Fin 704) (h : r.val = p.val) : tl0 w (ix3 (0 : Fin 1) p d) = w (ix3 (0 : Fin 1) r d) :=
  congrArg w (funext fun a => Fin.ext (by
    match a with
    | ⟨0, _⟩ => rfl
    | ⟨1, _⟩ => show 0 + 1 * p.val = r.val; omega
    | ⟨2, _⟩ => show 0 + 1 * d.val = d.val; omega))
theorem tl1_apply (w : Vec Ideal S1x704x1024 .bf16) (p : Fin 256) (d : Fin 1024) (r : Fin 704) (h : r.val = 256 + p.val) : tl1 w (ix3 (0 : Fin 1) p d) = w (ix3 (0 : Fin 1) r d) :=
  congrArg w (funext fun a => Fin.ext (by
    match a with
    | ⟨0, _⟩ => rfl
    | ⟨1, _⟩ => show 256 + 1 * p.val = r.val; omega
    | ⟨2, _⟩ => show 0 + 1 * d.val = d.val; omega))
theorem tl2_apply (w : Vec Ideal S1x704x1024 .bf16) (p : Fin 192) (d : Fin 1024) (r : Fin 704) (h : r.val = 512 + p.val) : tl2 w (ix3 (0 : Fin 1) p d) = w (ix3 (0 : Fin 1) r d) :=
  congrArg w (funext fun a => Fin.ext (by
    match a with
    | ⟨0, _⟩ => rfl
    | ⟨1, _⟩ => show 512 + 1 * p.val = r.val; omega
    | ⟨2, _⟩ => show 0 + 1 * d.val = d.val; omega))

/-- A sum over a weight block's units, tile by tile. -/
theorem sum_tiles {M : Type} [AddCommMonoid M] (f : Fin 704 → M) :
    ∑ r, f r = (∑ p : Fin 256, f ⟨p.val, by omega⟩ + ∑ p : Fin 256, f ⟨256 + p.val, by omega⟩) + ∑ p : Fin 192, f ⟨512 + p.val, by omega⟩ := by
  have e1 : ∑ r, f r = ∑ r : Fin (512 + 192), f r := rfl
  rw [e1, Fin.sum_univ_add]
  have e2 : ∑ i : Fin 512, f (Fin.castAdd 192 i) = ∑ i : Fin (256 + 256), f (Fin.castAdd 192 i) := rfl
  rw [e2, Fin.sum_univ_add]
  rfl

/-- One weight block's contribution added to the accumulator. -/
def whole (xb : Vec Ideal S1024x1024 .bf16) (wg wu wd : Vec Ideal S1x704x1024 .bf16) (acc : Vec Ideal S1024x1024 .f32) : Vec Ideal S1024x1024 .f32 :=
  k0_pay2 (k0_pay18 xb (k0_pay13 xb (tl0 wg) (tl0 wu) (tl0 wd)) (k0_pay14 xb (tl1 wg)) (tl1 wu) (tl1 wd)) (k0_pay19 xb (tl2 wg)) (k0_pay20 xb (tl2 wu)) (tl2 wd) acc

/-- The products of the rows with a block's units. -/
def proj (xb : Vec Ideal S1024x1024 .bf16) (w : Vec Ideal S1x704x1024 .bf16) (i : Fin 1024) (r : Fin 704) : EReal :=
  ∑ e : Fin 1024, xb (ix2 i e) * w (ix3 (0 : Fin 1) r e)

theorem whole_apply (xb : Vec Ideal S1024x1024 .bf16) (wg wu wd : Vec Ideal S1x704x1024 .bf16) (acc : Vec Ideal S1024x1024 .f32) (i d : Fin 1024) :
    whole xb wg wu wd acc (ix2 i d) = acc (ix2 i d) + ∑ r : Fin 704, gated (proj xb wg i r) (proj xb wu i r) * wd (ix3 (0 : Fin 1) r d) := by
  unfold whole
  rw [pay2_apply, pay18_apply, pay13_apply, sum_tiles]
  unfold proj
  simp only [fun w p e => tl0_apply w p e ⟨p.val, by omega⟩ rfl, fun w p e => tl1_apply w p e ⟨256 + p.val, by omega⟩ rfl, fun w p e => tl2_apply w p e ⟨512 + p.val, by omega⟩ rfl]

/-- The saved block of the first projection, in three column tiles. -/
def savedA (xb : Vec Ideal S1024x1024 .bf16) (w : Vec Ideal S1x704x1024 .bf16) : Vec Ideal S1x1024x704 .bf16 :=
  View.canon [⟨Rect.unit ![0, 0, 512] ![1, 1024, 192] inb_S1x1024x704_S1x1024x192_0_0_512, k0_pay21 (F := Ideal) xb (tl2 w)⟩,
    ⟨Rect.unit ![0, 0, 256] ![1, 1024, 256] inb_S1x1024x704_S1x1024x256_0_0_256, k0_pay16 (F := Ideal) (k0_pay14 (F := Ideal) xb (tl1 w))⟩,
    ⟨Rect.unit ![0, 0, 0] ![1, 1024, 256] inb_S1x1024x704_S1x1024x256_0_0_0, k0_pay11 (F := Ideal) xb (tl0 w)⟩]
/-- The saved block of the second projection. -/
def savedU (xb : Vec Ideal S1024x1024 .bf16) (w : Vec Ideal S1x704x1024 .bf16) : Vec Ideal S1x1024x704 .bf16 :=
  View.canon [⟨Rect.unit ![0, 0, 512] ![1, 1024, 192] inb_S1x1024x704_S1x1024x192_0_0_512, k0_pay1 (F := Ideal) (k0_pay22 (F := Ideal) xb (tl2 w))⟩,
    ⟨Rect.unit ![0, 0, 256] ![1, 1024, 256] inb_S1x1024x704_S1x1024x256_0_0_256, k0_pay17 (F := Ideal) xb (tl1 w)⟩,
    ⟨Rect.unit ![0, 0, 0] ![1, 1024, 256] inb_S1x1024x704_S1x1024x256_0_0_0, k0_pay12 (F := Ideal) xb (tl0 w)⟩]

/-- The three column tiles cover the saved block. -/
theorem cover3 (P2 : Vec Ideal S1x1024x192 .bf16) (P1 P0 : Vec Ideal S1x1024x256 .bf16) (i : Fin 1024) (r : Fin 704) :
    ∃ p ∈ ([⟨Rect.unit ![0, 0, 512] ![1, 1024, 192] inb_S1x1024x704_S1x1024x192_0_0_512, P2⟩,
      ⟨Rect.unit ![0, 0, 256] ![1, 1024, 256] inb_S1x1024x704_S1x1024x256_0_0_256, P1⟩,
      ⟨Rect.unit ![0, 0, 0] ![1, 1024, 256] inb_S1x1024x704_S1x1024x256_0_0_0, P0⟩] : List (View.Piece (Elt Ideal) S1x1024x704 .bf16)),
      ix3 (0 : Fin 1) i r ∈ p.1.set := by
  have hi := i.isLt
  have hr := r.isLt
  by_cases h2 : 512 ≤ r.val
  · refine ⟨_, List.mem_cons_self, (show _ ∈ (Rect.unit (s := S1x1024x704) ![0, 0, 512] ![1, 1024, 192] inb_S1x1024x704_S1x1024x192_0_0_512).set from Rect.mem_set_unit.mpr fun a => ?_)⟩
    match a with
    | ⟨0, _⟩ => exact ⟨Nat.zero_le _, Nat.zero_lt_one⟩
    | ⟨1, _⟩ => exact ⟨Nat.zero_le _, by show i.val < 0 + 1024; omega⟩
    | ⟨2, _⟩ => exact ⟨h2, by show r.val < 512 + 192; omega⟩
  · by_cases h1 : 256 ≤ r.val
    · refine ⟨_, List.mem_cons_of_mem _ List.mem_cons_self, (show _ ∈ (Rect.unit (s := S1x1024x704) ![0, 0, 256] ![1, 1024, 256] inb_S1x1024x704_S1x1024x256_0_0_256).set from Rect.mem_set_unit.mpr fun a => ?_)⟩
      match a with
      | ⟨0, _⟩ => exact ⟨Nat.zero_le _, Nat.zero_lt_one⟩
      | ⟨1, _⟩ => exact ⟨Nat.zero_le _, by show i.val < 0 + 1024; omega⟩
      | ⟨2, _⟩ => exact ⟨h1, by show r.val < 256 + 256; omega⟩
    · refine ⟨_, List.mem_cons_of_mem _ (List.mem_cons_of_mem _ List.mem_cons_self), (show _ ∈ (Rect.unit (s := S1x1024x704) ![0, 0, 0] ![1, 1024, 256] inb_S1x1024x704_S1x1024x256_0_0_0).set from Rect.mem_set_unit.mpr fun a => ?_)⟩
      match a with
      | ⟨0, _⟩ => exact ⟨Nat.zero_le _, Nat.zero_lt_one⟩
      | ⟨1, _⟩ => exact ⟨Nat.zero_le _, by show i.val < 0 + 1024; omega⟩
      | ⟨2, _⟩ => exact ⟨Nat.zero_le _, by show r.val < 0 + 256; omega⟩

theorem savedA_apply (xb : Vec Ideal S1024x1024 .bf16) (w : Vec Ideal S1x704x1024 .bf16) (i : Fin 1024) (r : Fin 704) :
    savedA xb w (ix3 (0 : Fin 1) i r) = proj xb w i r := by
  unfold savedA proj
  canon_tiles x h using cover3 _ _ _ i r
  · have g0 : 0 = (x 0 : ℕ) := h0
    have g1 : i.val = (x 1 : ℕ) := h1
    have g2 : r.val = 512 + (x 2 : ℕ) := h2
    have hl : (x 2 : ℕ) < 192 := x2_lt
    have e : x = ix3 (0 : Fin 1) i (⟨(x 2 : ℕ), hl⟩ : Fin 192) := funext fun a => Fin.ext (by
      match a with
      | ⟨0, _⟩ => exact g0.symm
      | ⟨1, _⟩ => exact g1.symm
      | ⟨2, _⟩ => rfl)
    rw [e, pay21_apply]
    exact Finset.sum_congr rfl fun d _ => by rw [tl2_apply w ⟨(x 2 : ℕ), hl⟩ d r g2]
  · have g0 : 0 = (x 0 : ℕ) := h0
    have g1 : i.val = (x 1 : ℕ) := h1
    have g2 : r.val = 256 + (x 2 : ℕ) := h2
    have hl : (x 2 : ℕ) < 256 := x2_lt
    have e : x = ix3 (0 : Fin 1) i (⟨(x 2 : ℕ), hl⟩ : Fin 256) := funext fun a => Fin.ext (by
      match a with
      | ⟨0, _⟩ => exact g0.symm
      | ⟨1, _⟩ => exact g1.symm
      | ⟨2, _⟩ => rfl)
    rw [e, pay16_apply]
    exact Finset.sum_congr rfl fun d _ => by rw [tl1_apply w ⟨(x 2 : ℕ), hl⟩ d r g2]
  · have g0 : 0 = (x 0 : ℕ) := h0
    have g1 : i.val = (x 1 : ℕ) := h1
    have g2 : r.val = (x 2 : ℕ) := h2
    have hl : (x 2 : ℕ) < 256 := x2_lt
    have e : x = ix3 (0 : Fin 1) i (⟨(x 2 : ℕ), hl⟩ : Fin 256) := funext fun a => Fin.ext (by
      match a with
      | ⟨0, _⟩ => exact g0.symm
      | ⟨1, _⟩ => exact g1.symm
      | ⟨2, _⟩ => rfl)
    rw [e, pay11_apply]
    exact Finset.sum_congr rfl fun d _ => by rw [tl0_apply w ⟨(x 2 : ℕ), hl⟩ d r g2]

theorem savedU_apply (xb : Vec Ideal S1024x1024 .bf16) (w : Vec Ideal S1x704x1024 .bf16) (i : Fin 1024) (r : Fin 704) :
    savedU xb w (ix3 (0 : Fin 1) i r) = proj xb w i r := by
  unfold savedU proj
  canon_tiles x h using cover3 _ _ _ i r
  · have g0 : 0 = (x 0 : ℕ) := h0
    have g1 : i.val = (x 1 : ℕ) := h1
    have g2 : r.val = 512 + (x 2 : ℕ) := h2
    have hl : (x 2 : ℕ) < 192 := x2_lt
    have e : x = ix3 (0 : Fin 1) i (⟨(x 2 : ℕ), hl⟩ : Fin 192) := funext fun a => Fin.ext (by
      match a with
      | ⟨0, _⟩ => exact g0.symm
      | ⟨1, _⟩ => exact g1.symm
      | ⟨2, _⟩ => rfl)
    rw [e, pay1_apply]
    exact Finset.sum_congr rfl fun d _ => by rw [tl2_apply w ⟨(x 2 : ℕ), hl⟩ d r g2]
  · have g0 : 0 = (x 0 : ℕ) := h0
    have g1 : i.val = (x 1 : ℕ) := h1
    have g2 : r.val = 256 + (x 2 : ℕ) := h2
    have hl : (x 2 : ℕ) < 256 := x2_lt
    have e : x = ix3 (0 : Fin 1) i (⟨(x 2 : ℕ), hl⟩ : Fin 256) := funext fun a => Fin.ext (by
      match a with
      | ⟨0, _⟩ => exact g0.symm
      | ⟨1, _⟩ => exact g1.symm
      | ⟨2, _⟩ => rfl)
    rw [e, pay17_apply]
    exact Finset.sum_congr rfl fun d _ => by rw [tl1_apply w ⟨(x 2 : ℕ), hl⟩ d r g2]
  · have g0 : 0 = (x 0 : ℕ) := h0
    have g1 : i.val = (x 1 : ℕ) := h1
    have g2 : r.val = (x 2 : ℕ) := h2
    have hl : (x 2 : ℕ) < 256 := x2_lt
    have e : x = ix3 (0 : Fin 1) i (⟨(x 2 : ℕ), hl⟩ : Fin 256) := funext fun a => Fin.ext (by
      match a with
      | ⟨0, _⟩ => exact g0.symm
      | ⟨1, _⟩ => exact g1.symm
      | ⟨2, _⟩ => rfl)
    rw [e, pay12_apply]
    exact Finset.sum_congr rfl fun d _ => by rw [tl0_apply w ⟨(x 2 : ℕ), hl⟩ d r g2]

variable (m : (ℓ : Loc nD τ sig) → Buf (Elt Ideal) ℓ) (c : Dev nD)

set_option maxHeartbeats 4000000 in
/-- The accumulator after a point. -/
theorem accA (t : Fin cfg0.N) (h : t.val % 4 = 0) :
    (outsAt0 m c t.val t.isLt).2.2.2.2.2.1 = whole (k0_pay7 (iblk m c 0 t)) (iblk m c 1 t) (iblk m c 2 t) (iblk m c 3 t) (k0_pay8 (F := Ideal)) := by
  rw [outsAt0_A m c t h (by omega)]
  dsimp only
  unfold sout0_A_0
  refine (View.read_writes_eq_canon _ _ _ (fun _ => scover0_A_0 ..)).trans ?_
  unfold kernelRun0_A
  dsimp only
  sl_unfold_words
  first | rw [View.canon_unit_zero hz2] | rw [View.canon_cons_unit_zero hz2]
  simp only [View.readAt_eq_ld, (hs0_0 t).read_unread, (hs0_1 t).read_unread, (hs0_2 t).read_unread, (hs0_3 t).read_unread, (hs0_4 t).read_unread, (hs0_5 t).read_unread, (Memref.isWhole_whole _).read_unread, View.ld_unit_zero (S := S1024x1024) hz2, View.ld_unit_zero (S := S1x1024) hz2, View.readCov_unit_zero (S := S1024x1024) _ hz2]
  rfl

set_option maxHeartbeats 4000000 in
/-- The rows kept at the first weight block. -/
theorem rowsA (t : Fin cfg0.N) (h : t.val % 4 = 0) :
    (outsAt0 m c t.val t.isLt).2.2.2.2.2.2 = k0_pay7 (iblk m c 0 t) := by
  rw [outsAt0_A m c t h (by omega)]
  dsimp only
  unfold sout0_A_1
  refine (View.read_writes_eq_canon _ _ _ (fun _ => scover0_A_1 ..)).trans ?_
  unfold kernelRun0_A
  dsimp only
  sl_unfold_words
  first | rw [View.canon_unit_zero hz2] | rw [View.canon_cons_unit_zero hz2]
  simp only [View.readAt_eq_ld, (hs0_0 t).read_unread, (hs0_1 t).read_unread, (hs0_2 t).read_unread, (hs0_3 t).read_unread, (hs0_4 t).read_unread, (hs0_5 t).read_unread, (Memref.isWhole_whole _).read_unread, View.ld_unit_zero (S := S1024x1024) hz2, View.ld_unit_zero (S := S1x1024) hz2, View.readCov_unit_zero (S := S1024x1024) _ hz2]
  try rfl

set_option maxHeartbeats 4000000 in
/-- The saved block of the first projection. -/
theorem gateA (t : Fin cfg0.N) (h : t.val % 4 = 0) :
    (outsAt0 m c t.val t.isLt).2.2.2.1 = savedA (k0_pay7 (iblk m c 0 t)) (iblk m c 1 t) := by
  rw [outsAt0_A m c t h (by omega)]
  dsimp only
  unfold out0_A_9
  refine (View.read_writes_eq_canon _ _ _ (fun _ => cover0_A_9 ..)).trans ?_
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (Memref.isWhole_whole _).read_unread, View.ld_unit_zero (S := S1024x1024) hz2, View.ld_unit_zero (S := S1x1024) hz2, View.readCov_unit_zero (S := S1024x1024) _ hz2]
  rfl

set_option maxHeartbeats 4000000 in
/-- The saved block of the second projection. -/
theorem upA (t : Fin cfg0.N) (h : t.val % 4 = 0) :
    (outsAt0 m c t.val t.isLt).2.2.2.2.1 = savedU (k0_pay7 (iblk m c 0 t)) (iblk m c 2 t) := by
  rw [outsAt0_A m c t h (by omega)]
  dsimp only
  unfold out0_A_10
  refine (View.read_writes_eq_canon _ _ _ (fun _ => cover0_A_10 ..)).trans ?_
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (Memref.isWhole_whole _).read_unread, View.ld_unit_zero (S := S1024x1024) hz2, View.ld_unit_zero (S := S1x1024) hz2, View.readCov_unit_zero (S := S1024x1024) _ hz2]
  rfl

set_option maxHeartbeats 4000000 in
/-- The accumulator after a point. -/
theorem accB (t : Fin cfg0.N) (h : ¬ t.val % 4 = 0) (h3 : ¬ t.val % 4 = 3) (hp : t.val - 1 < cfg0.N) :
    (outsAt0 m c t.val t.isLt).2.2.2.2.2.1 = whole (outsAt0 m c (t.val - 1) hp).2.2.2.2.2.2 (iblk m c 1 t) (iblk m c 2 t) (iblk m c 3 t) (outsAt0 m c (t.val - 1) hp).2.2.2.2.2.1 := by
  rw [outsAt0_B m c t h h3]
  dsimp only
  unfold sout0_B_0
  refine (View.read_writes_eq_canon _ _ _ (fun _ => scover0_B_0 ..)).trans ?_
  unfold kernelRun0_B
  dsimp only
  sl_unfold_words
  first | rw [View.canon_unit_zero hz2] | rw [View.canon_cons_unit_zero hz2]
  simp only [View.readAt_eq_ld, (hs0_0 t).read_unread, (hs0_1 t).read_unread, (hs0_2 t).read_unread, (hs0_3 t).read_unread, (hs0_4 t).read_unread, (hs0_5 t).read_unread, (Memref.isWhole_whole _).read_unread, View.ld_unit_zero (S := S1024x1024) hz2, View.ld_unit_zero (S := S1x1024) hz2, View.readCov_unit_zero (S := S1024x1024) _ hz2]
  rfl

/-- The rows are kept. -/
theorem rowsB (t : Fin cfg0.N) (h : ¬ t.val % 4 = 0) (h3 : ¬ t.val % 4 = 3) (hp : t.val - 1 < cfg0.N) :
    (outsAt0 m c t.val t.isLt).2.2.2.2.2.2 = (outsAt0 m c (t.val - 1) hp).2.2.2.2.2.2 := by
  rw [outsAt0_B m c t h h3]
  rfl

set_option maxHeartbeats 4000000 in
/-- The saved block of the first projection. -/
theorem gateB (t : Fin cfg0.N) (h : ¬ t.val % 4 = 0) (h3 : ¬ t.val % 4 = 3) (hp : t.val - 1 < cfg0.N) :
    (outsAt0 m c t.val t.isLt).2.2.2.1 = savedA (outsAt0 m c (t.val - 1) hp).2.2.2.2.2.2 (iblk m c 1 t) := by
  rw [outsAt0_B m c t h h3]
  dsimp only
  unfold out0_B_9
  refine (View.read_writes_eq_canon _ _ _ (fun _ => cover0_B_9 ..)).trans ?_
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (Memref.isWhole_whole _).read_unread, View.ld_unit_zero (S := S1024x1024) hz2, View.ld_unit_zero (S := S1x1024) hz2, View.readCov_unit_zero (S := S1024x1024) _ hz2]
  rfl

set_option maxHeartbeats 4000000 in
/-- The saved block of the second projection. -/
theorem upB (t : Fin cfg0.N) (h : ¬ t.val % 4 = 0) (h3 : ¬ t.val % 4 = 3) (hp : t.val - 1 < cfg0.N) :
    (outsAt0 m c t.val t.isLt).2.2.2.2.1 = savedU (outsAt0 m c (t.val - 1) hp).2.2.2.2.2.2 (iblk m c 2 t) := by
  rw [outsAt0_B m c t h h3]
  dsimp only
  unfold out0_B_10
  refine (View.read_writes_eq_canon _ _ _ (fun _ => cover0_B_10 ..)).trans ?_
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (Memref.isWhole_whole _).read_unread, View.ld_unit_zero (S := S1024x1024) hz2, View.ld_unit_zero (S := S1x1024) hz2, View.readCov_unit_zero (S := S1024x1024) _ hz2]
  rfl

set_option maxHeartbeats 4000000 in
/-- The accumulator after a point. -/
theorem accC (t : Fin cfg0.N) (h : ¬ t.val % 4 = 0) (h3 : t.val % 4 = 3) (hp : t.val - 1 < cfg0.N) :
    (outsAt0 m c t.val t.isLt).2.2.2.2.2.1 = whole (outsAt0 m c (t.val - 1) hp).2.2.2.2.2.2 (iblk m c 1 t) (iblk m c 2 t) (iblk m c 3 t) (outsAt0 m c (t.val - 1) hp).2.2.2.2.2.1 := by
  rw [outsAt0_C m c t h h3]
  dsimp only
  unfold sout0_C_0
  refine (View.read_writes_eq_canon _ _ _ (fun _ => scover0_C_0 ..)).trans ?_
  unfold kernelRun0_C
  dsimp only
  sl_unfold_words
  first | rw [View.canon_unit_zero hz2] | rw [View.canon_cons_unit_zero hz2]
  simp only [View.readAt_eq_ld, (hs0_0 t).read_unread, (hs0_1 t).read_unread, (hs0_2 t).read_unread, (hs0_3 t).read_unread, (hs0_4 t).read_unread, (hs0_5 t).read_unread, (Memref.isWhole_whole _).read_unread, View.ld_unit_zero (S := S1024x1024) hz2, View.ld_unit_zero (S := S1x1024) hz2, View.readCov_unit_zero (S := S1024x1024) _ hz2]
  rfl

/-- The rows are kept. -/
theorem rowsC (t : Fin cfg0.N) (h : ¬ t.val % 4 = 0) (h3 : t.val % 4 = 3) (hp : t.val - 1 < cfg0.N) :
    (outsAt0 m c t.val t.isLt).2.2.2.2.2.2 = (outsAt0 m c (t.val - 1) hp).2.2.2.2.2.2 := by
  rw [outsAt0_C m c t h h3]
  rfl

set_option maxHeartbeats 4000000 in
/-- The saved block of the first projection. -/
theorem gateC (t : Fin cfg0.N) (h : ¬ t.val % 4 = 0) (h3 : t.val % 4 = 3) (hp : t.val - 1 < cfg0.N) :
    (outsAt0 m c t.val t.isLt).2.2.2.1 = savedA (outsAt0 m c (t.val - 1) hp).2.2.2.2.2.2 (iblk m c 1 t) := by
  rw [outsAt0_C m c t h h3]
  dsimp only
  unfold out0_C_9
  refine (View.read_writes_eq_canon _ _ _ (fun _ => cover0_C_9 ..)).trans ?_
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (Memref.isWhole_whole _).read_unread, View.ld_unit_zero (S := S1024x1024) hz2, View.ld_unit_zero (S := S1x1024) hz2, View.readCov_unit_zero (S := S1024x1024) _ hz2]
  rfl

set_option maxHeartbeats 4000000 in
/-- The saved block of the second projection. -/
theorem upC (t : Fin cfg0.N) (h : ¬ t.val % 4 = 0) (h3 : t.val % 4 = 3) (hp : t.val - 1 < cfg0.N) :
    (outsAt0 m c t.val t.isLt).2.2.2.2.1 = savedU (outsAt0 m c (t.val - 1) hp).2.2.2.2.2.2 (iblk m c 2 t) := by
  rw [outsAt0_C m c t h h3]
  dsimp only
  unfold out0_C_10
  refine (View.read_writes_eq_canon _ _ _ (fun _ => cover0_C_10 ..)).trans ?_
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (Memref.isWhole_whole _).read_unread, View.ld_unit_zero (S := S1024x1024) hz2, View.ld_unit_zero (S := S1x1024) hz2, View.readCov_unit_zero (S := S1024x1024) _ hz2]
  rfl

set_option maxHeartbeats 4000000 in
/-- An output block, made at the last weight block from the finished accumulator. -/
theorem outYC (t : Fin cfg0.N) (h : ¬ t.val % 4 = 0) (h3 : t.val % 4 = 3) (hp : t.val - 1 < cfg0.N) :
    (outsAt0 m c t.val t.isLt).1 = k0_pay6 (iblk m c 0 t) (whole (outsAt0 m c (t.val - 1) hp).2.2.2.2.2.2 (iblk m c 1 t) (iblk m c 2 t) (iblk m c 3 t) (outsAt0 m c (t.val - 1) hp).2.2.2.2.2.1) (iblk m c 4 t) (iblk m c 5 t) := by
  rw [outsAt0_C m c t h h3]
  dsimp only
  unfold out0_C_6
  refine (View.read_writes_eq_canon _ _ _ (fun _ => cover0_C_6 ..)).trans ?_
  unfold kernelRun0_C
  dsimp only
  sl_unfold_words
  first | rw [View.canon_unit_zero hz2] | rw [View.canon_cons_unit_zero hz2]
  simp only [View.readAt_eq_ld, (hs0_0 t).read_unread, (hs0_1 t).read_unread, (hs0_2 t).read_unread, (hs0_3 t).read_unread, (hs0_4 t).read_unread, (hs0_5 t).read_unread, (Memref.isWhole_whole _).read_unread, View.ld_unit_zero (S := S1024x1024) hz2, View.ld_unit_zero (S := S1x1024) hz2, View.readCov_unit_zero (S := S1024x1024) _ hz2]
  rfl

set_option maxHeartbeats 4000000 in
/-- An output block, made at the last weight block from the finished accumulator. -/
theorem outXC (t : Fin cfg0.N) (h : ¬ t.val % 4 = 0) (h3 : t.val % 4 = 3) (hp : t.val - 1 < cfg0.N) :
    (outsAt0 m c t.val t.isLt).2.1 = k0_pay5 (iblk m c 0 t) (whole (outsAt0 m c (t.val - 1) hp).2.2.2.2.2.2 (iblk m c 1 t) (iblk m c 2 t) (iblk m c 3 t) (outsAt0 m c (t.val - 1) hp).2.2.2.2.2.1) := by
  rw [outsAt0_C m c t h h3]
  dsimp only
  unfold out0_C_7
  refine (View.read_writes_eq_canon _ _ _ (fun _ => cover0_C_7 ..)).trans ?_
  unfold kernelRun0_C
  dsimp only
  sl_unfold_words
  first | rw [View.canon_unit_zero hz2] | rw [View.canon_cons_unit_zero hz2]
  simp only [View.readAt_eq_ld, (hs0_0 t).read_unread, (hs0_1 t).read_unread, (hs0_2 t).read_unread, (hs0_3 t).read_unread, (hs0_4 t).read_unread, (hs0_5 t).read_unread, (Memref.isWhole_whole _).read_unread, View.ld_unit_zero (S := S1024x1024) hz2, View.ld_unit_zero (S := S1x1024) hz2, View.readCov_unit_zero (S := S1024x1024) _ hz2]
  rfl

set_option maxHeartbeats 4000000 in
/-- An output block, made at the last weight block from the finished accumulator. -/
theorem outRC (t : Fin cfg0.N) (h : ¬ t.val % 4 = 0) (h3 : t.val % 4 = 3) (hp : t.val - 1 < cfg0.N) :
    (outsAt0 m c t.val t.isLt).2.2.1 = k0_pay4 (iblk m c 0 t) (whole (outsAt0 m c (t.val - 1) hp).2.2.2.2.2.2 (iblk m c 1 t) (iblk m c 2 t) (iblk m c 3 t) (outsAt0 m c (t.val - 1) hp).2.2.2.2.2.1) := by
  rw [outsAt0_C m c t h h3]
  dsimp only
  unfold out0_C_8
  refine (View.read_writes_eq_canon _ _ _ (fun _ => cover0_C_8 ..)).trans ?_
  unfold kernelRun0_C
  dsimp only
  sl_unfold_words
  first | rw [View.canon_unit_zero hz2] | rw [View.canon_cons_unit_zero hz2]
  simp only [View.readAt_eq_ld, (hs0_0 t).read_unread, (hs0_1 t).read_unread, (hs0_2 t).read_unread, (hs0_3 t).read_unread, (hs0_4 t).read_unread, (hs0_5 t).read_unread, (Memref.isWhole_whole _).read_unread, View.ld_unit_zero (S := S1024x1024) hz2, View.ld_unit_zero (S := S1x1024) hz2, View.readCov_unit_zero (S := S1024x1024) _ hz2]
  rfl

end Ffn.Fwd
-- ==== Proof.Ffn.FwdSum.lean ====
/-
  The feed-forward half step: the results of the call as functions of its arguments' entries.
-/
module

public import proofs.«01_k».proof.Proof.Ffn.FwdCase
public import proofs.«01_k».proof.Proof.Ffn.Sums
public import proofs.«01_k».proof.Proof.Gen.Kernel4Ideal.Value

@[expose] public section

set_option maxRecDepth 16384

noncomputable section

namespace Ffn.Fwd

open Idealize.ShloMosaic Idealize.ShloMosaic.TcCoe Idealize.ShloMosaic.ValueIdx
open Cert.Kernel4Ideal Cert.Kernel4Ideal.Gen

variable (m : (ℓ : Loc nD τ sig) → Buf (Elt Ideal) ℓ) (c : Dev nD)

/-- Row `k` of row block `i`. -/
abbrev row (i : Fin 4) (k : Fin 1024) : Fin 4096 := inBlock (show 4096 = 4 * 1024 by rfl) i k
/-- The grid point of row block `i` and weight block `j`. -/
abbrev pt (i j : Fin 4) : Fin cfg0.N := ⟨4 * i.val + j.val, lt_of_lt_of_eq (by have := i.isLt; have := j.isLt; omega) N_0.symm⟩

/-- An input row. -/
abbrev xr (s : Fin 4096) (d : Fin 1024) : EReal := V m c main_arg0 (ix2 s d)
/-- A gate weight. -/
abbrev wgt1 (j : Fin 4) (r : Fin 704) (d : Fin 1024) : EReal := V m c main_arg1 (ix3 j r d)
/-- An up weight. -/
abbrev wgt2 (j : Fin 4) (r : Fin 704) (d : Fin 1024) : EReal := V m c main_arg2 (ix3 j r d)
/-- A down weight. -/
abbrev wgt3 (j : Fin 4) (r : Fin 704) (d : Fin 1024) : EReal := V m c main_arg3 (ix3 j r d)
/-- The layer norm's gain. -/
abbrev gain (d : Fin 1024) : EReal := V m c main_arg4 (ix2 (0 : Fin 1) d)
/-- The layer norm's bias. -/
abbrev bias (d : Fin 1024) : EReal := V m c main_arg5 (ix2 (0 : Fin 1) d)

/-- The gate projection of a row. -/
def pg (j : Fin 4) (s : Fin 4096) (r : Fin 704) : EReal := ∑ e : Fin 1024, xr m c s e * wgt1 m c j r e
/-- The up projection of a row. -/
def pu (j : Fin 4) (s : Fin 4096) (r : Fin 704) : EReal := ∑ e : Fin 1024, xr m c s e * wgt2 m c j r e
/-- One weight block's contribution to a row. -/
def part (j : Fin 4) (s : Fin 4096) (d : Fin 1024) : EReal := ∑ r : Fin 704, gated (pg m c j s r) (pu m c j s r) * wgt3 m c j r d
/-- A row before the layer norm. -/
def zr (s : Fin 4096) (d : Fin 1024) : EReal := mix (xr m c s d) (∑ j : Fin 4, part m c j s d)

theorem place0 : ∀ t : Fin cfg0.N, win0_0.index t (0 : Fin 2) = t.val / 4 ∧ win0_0.index t (1 : Fin 2) = 0 := by decide +kernel
/-- The block of rows at a point. -/
theorem block0 (i j : Fin 4) (k d : Fin 1024) : iblk m c 0 (pt i j) (ix2 k d) = xr m c (row i k) d := by
  obtain ⟨e0, e1⟩ := place0 (pt i j)
  have hi := i.isLt
  have hj := j.isLt
  have ev : (pt i j).val = 4 * i.val + j.val := rfl
  unfold iblk
  rw [View.read_apply]
  refine congrArg (V m c main_arg0) (funext fun z => Fin.ext ?_)
  match z with
  | ⟨0, _⟩ => show win0_0.index (pt i j) (0 : Fin 2) * 1024 + 1 * k.val = i.val * 1024 + k.val; omega
  | ⟨1, _⟩ => show win0_0.index (pt i j) (1 : Fin 2) * 1024 + 1 * d.val = d.val; omega

theorem place1 : ∀ t : Fin cfg0.N, win0_1.index t (0 : Fin 3) = t.val % 4 ∧ win0_1.index t (1 : Fin 3) = 0 ∧ win0_1.index t (2 : Fin 3) = 0 := by decide +kernel
/-- The block of a weight array at a point. -/
theorem block1 (i j : Fin 4) (r : Fin 704) (d : Fin 1024) : iblk m c 1 (pt i j) (ix3 (0 : Fin 1) r d) = wgt1 m c j r d := by
  obtain ⟨e0, e1, e2⟩ := place1 (pt i j)
  have hi := i.isLt
  have hj := j.isLt
  have ev : (pt i j).val = 4 * i.val + j.val := rfl
  unfold iblk
  rw [View.read_apply]
  refine congrArg (V m c main_arg1) (funext fun z => Fin.ext ?_)
  match z with
  | ⟨0, _⟩ => show win0_1.index (pt i j) (0 : Fin 3) * 1 + 1 * 0 = j.val; omega
  | ⟨1, _⟩ => show win0_1.index (pt i j) (1 : Fin 3) * 704 + 1 * r.val = r.val; omega
  | ⟨2, _⟩ => show win0_1.index (pt i j) (2 : Fin 3) * 1024 + 1 * d.val = d.val; omega

theorem place2 : ∀ t : Fin cfg0.N, win0_2.index t (0 : Fin 3) = t.val % 4 ∧ win0_2.index t (1 : Fin 3) = 0 ∧ win0_2.index t (2 : Fin 3) = 0 := by decide +kernel
/-- The block of a weight array at a point. -/
theorem block2 (i j : Fin 4) (r : Fin 704) (d : Fin 1024) : iblk m c 2 (pt i j) (ix3 (0 : Fin 1) r d) = wgt2 m c j r d := by
  obtain ⟨e0, e1, e2⟩ := place2 (pt i j)
  have hi := i.isLt
  have hj := j.isLt
  have ev : (pt i j).val = 4 * i.val + j.val := rfl
  unfold iblk
  rw [View.read_apply]
  refine congrArg (V m c main_arg2) (funext fun z => Fin.ext ?_)
  match z with
  | ⟨0, _⟩ => show win0_2.index (pt i j) (0 : Fin 3) * 1 + 1 * 0 = j.val; omega
  | ⟨1, _⟩ => show win0_2.index (pt i j) (1 : Fin 3) * 704 + 1 * r.val = r.val; omega
  | ⟨2, _⟩ => show win0_2.index (pt i j) (2 : Fin 3) * 1024 + 1 * d.val = d.val; omega

theorem place3 : ∀ t : Fin cfg0.N, win0_3.index t (0 : Fin 3) = t.val % 4 ∧ win0_3.index t (1 : Fin 3) = 0 ∧ win0_3.index t (2 : Fin 3) = 0 := by decide +kernel
/-- The block of a weight array at a point. -/
theorem block3 (i j : Fin 4) (r : Fin 704) (d : Fin 1024) : iblk m c 3 (pt i j) (ix3 (0 : Fin 1) r d) = wgt3 m c j r d := by
  obtain ⟨e0, e1, e2⟩ := place3 (pt i j)
  have hi := i.isLt
  have hj := j.isLt
  have ev : (pt i j).val = 4 * i.val + j.val := rfl
  unfold iblk
  rw [View.read_apply]
  refine congrArg (V m c main_arg3) (funext fun z => Fin.ext ?_)
  match z with
  | ⟨0, _⟩ => show win0_3.index (pt i j) (0 : Fin 3) * 1 + 1 * 0 = j.val; omega
  | ⟨1, _⟩ => show win0_3.index (pt i j) (1 : Fin 3) * 704 + 1 * r.val = r.val; omega
  | ⟨2, _⟩ => show win0_3.index (pt i j) (2 : Fin 3) * 1024 + 1 * d.val = d.val; omega

theorem place4 : ∀ t : Fin cfg0.N, win0_4.index t (0 : Fin 2) = 0 ∧ win0_4.index t (1 : Fin 2) = 0 := by decide +kernel
/-- The layer norm's gain at a point. -/
theorem block4 (i j : Fin 4) (d : Fin 1024) : iblk m c 4 (pt i j) (ix2 (0 : Fin 1) d) = gain m c d := by
  obtain ⟨e0, e1⟩ := place4 (pt i j)
  unfold iblk
  rw [View.read_apply]
  refine congrArg (V m c main_arg4) (funext fun z => Fin.ext ?_)
  match z with
  | ⟨0, _⟩ => show win0_4.index (pt i j) (0 : Fin 2) * 1 + 1 * 0 = 0; omega
  | ⟨1, _⟩ => show win0_4.index (pt i j) (1 : Fin 2) * 1024 + 1 * d.val = d.val; omega

theorem place5 : ∀ t : Fin cfg0.N, win0_5.index t (0 : Fin 2) = 0 ∧ win0_5.index t (1 : Fin 2) = 0 := by decide +kernel
/-- The layer norm's bias at a point. -/
theorem block5 (i j : Fin 4) (d : Fin 1024) : iblk m c 5 (pt i j) (ix2 (0 : Fin 1) d) = bias m c d := by
  obtain ⟨e0, e1⟩ := place5 (pt i j)
  unfold iblk
  rw [View.read_apply]
  refine congrArg (V m c main_arg5) (funext fun z => Fin.ext ?_)
  match z with
  | ⟨0, _⟩ => show win0_5.index (pt i j) (0 : Fin 2) * 1 + 1 * 0 = 0; omega
  | ⟨1, _⟩ => show win0_5.index (pt i j) (1 : Fin 2) * 1024 + 1 * d.val = d.val; omega

/-- The state before a point is the state after the point before it. -/
theorem before (i j j' : Fin 4) (hj : j.val = j'.val + 1) (hp : (pt i j).val - 1 < cfg0.N) :
    outsAt0 m c ((pt i j).val - 1) hp = outsAt0 m c (pt i j').val (pt i j').isLt := by
  have e2 : (⟨(pt i j).val - 1, hp⟩ : Fin cfg0.N) = pt i j' := Fin.ext (by show 4 * i.val + j.val - 1 = 4 * i.val + j'.val; omega)
  rw [← e2]

theorem prior (i j : Fin 4) : (pt i j).val - 1 < cfg0.N := lt_of_le_of_lt (Nat.sub_le _ _) (pt i j).isLt

/-- The rows kept across a row block's weight blocks: the first point. -/
theorem kept_start (i : Fin 4) (k d : Fin 1024) :
    (outsAt0 m c (pt i 0).val (pt i 0).isLt).2.2.2.2.2.2 (ix2 k d) = xr m c (row i k) d := by
  rw [rowsA m c (pt i 0) (by show (4 * i.val + 0) % 4 = 0; omega), pay7_apply, block0]

/-- The rows kept: a later point. -/
theorem kept_next (i j j' : Fin 4) (hj : j.val = j'.val + 1) (k d : Fin 1024) :
    (outsAt0 m c (pt i j).val (pt i j).isLt).2.2.2.2.2.2 (ix2 k d) = (outsAt0 m c (pt i j').val (pt i j').isLt).2.2.2.2.2.2 (ix2 k d) := by
  have ev : (pt i j).val = 4 * i.val + j.val := rfl
  have hj4 := j.isLt
  have e : (outsAt0 m c (pt i j).val (pt i j).isLt).2.2.2.2.2.2 = (outsAt0 m c ((pt i j).val - 1) (prior i j)).2.2.2.2.2.2 := by
    by_cases h3 : (pt i j).val % 4 = 3
    · exact rowsC m c (pt i j) (by omega) h3 _
    · exact rowsB m c (pt i j) (by omega) h3 _
  rw [e, before m c i j j' hj]

/-- The rows kept are the block's input rows. -/
theorem kept (i j : Fin 4) (k d : Fin 1024) :
    (outsAt0 m c (pt i j).val (pt i j).isLt).2.2.2.2.2.2 (ix2 k d) = xr m c (row i k) d := by
  match j with
  | 0 => exact kept_start m c i k d
  | 1 => exact (kept_next m c i 1 0 rfl k d).trans (kept_start m c i k d)
  | 2 => exact (kept_next m c i 2 1 rfl k d).trans ((kept_next m c i 1 0 rfl k d).trans (kept_start m c i k d))
  | 3 => exact (kept_next m c i 3 2 rfl k d).trans ((kept_next m c i 2 1 rfl k d).trans ((kept_next m c i 1 0 rfl k d).trans (kept_start m c i k d)))

/-- A block's gate projection of kept rows. -/
theorem proj1 (xb : Vec Ideal S1024x1024 .bf16) (i j : Fin 4) (k : Fin 1024) (h : ∀ e, xb (ix2 k e) = xr m c (row i k) e) (r : Fin 704) :
    proj xb (iblk m c 1 (pt i j)) k r = pg m c j (row i k) r := by
  unfold proj pg
  exact Finset.sum_congr rfl fun e _ => by rw [h, block1]
/-- A block's up projection of kept rows. -/
theorem proj2 (xb : Vec Ideal S1024x1024 .bf16) (i j : Fin 4) (k : Fin 1024) (h : ∀ e, xb (ix2 k e) = xr m c (row i k) e) (r : Fin 704) :
    proj xb (iblk m c 2 (pt i j)) k r = pu m c j (row i k) r := by
  unfold proj pu
  exact Finset.sum_congr rfl fun e _ => by rw [h, block2]

/-- A point adds its weight block's contribution. -/
theorem whole_part (xb : Vec Ideal S1024x1024 .bf16) (acc : Vec Ideal S1024x1024 .f32) (i j : Fin 4) (k : Fin 1024)
    (h : ∀ e, xb (ix2 k e) = xr m c (row i k) e) (d : Fin 1024) :
    whole xb (iblk m c 1 (pt i j)) (iblk m c 2 (pt i j)) (iblk m c 3 (pt i j)) acc (ix2 k d) = acc (ix2 k d) + part m c j (row i k) d := by
  rw [whole_apply]
  refine congrArg (acc (ix2 k d) + ·) (Finset.sum_congr rfl fun r _ => ?_)
  rw [proj1 m c xb i j k h, proj2 m c xb i j k h, block3]

/-- The accumulator: the first point. -/
theorem acc_start (i : Fin 4) (k d : Fin 1024) :
    (outsAt0 m c (pt i 0).val (pt i 0).isLt).2.2.2.2.2.1 (ix2 k d) = part m c 0 (row i k) d := by
  rw [accA m c (pt i 0) (by show (4 * i.val + 0) % 4 = 0; omega), whole_part m c _ _ i 0 k (fun e => by rw [pay7_apply, block0]), pay8_apply, zero_add]

/-- The accumulator: a later point. -/
theorem acc_next (i j j' : Fin 4) (hj : j.val = j'.val + 1) (k d : Fin 1024) :
    (outsAt0 m c (pt i j).val (pt i j).isLt).2.2.2.2.2.1 (ix2 k d)
      = (outsAt0 m c (pt i j').val (pt i j').isLt).2.2.2.2.2.1 (ix2 k d) + part m c j (row i k) d := by
  have ev : (pt i j).val = 4 * i.val + j.val := rfl
  have hj4 := j.isLt
  have e : (outsAt0 m c (pt i j).val (pt i j).isLt).2.2.2.2.2.1
      = whole (outsAt0 m c ((pt i j).val - 1) (prior i j)).2.2.2.2.2.2 (iblk m c 1 (pt i j)) (iblk m c 2 (pt i j)) (iblk m c 3 (pt i j)) (outsAt0 m c ((pt i j).val - 1) (prior i j)).2.2.2.2.2.1 := by
    by_cases h3 : (pt i j).val % 4 = 3
    · exact accC m c (pt i j) (by omega) h3 _
    · exact accB m c (pt i j) (by omega) h3 _
  rw [e, before m c i j j' hj, whole_part m c _ _ i j k (fun e => kept m c i j' k e)]

/-- The finished accumulator. -/
theorem acc_total (i : Fin 4) (k d : Fin 1024) :
    (outsAt0 m c (pt i 3).val (pt i 3).isLt).2.2.2.2.2.1 (ix2 k d) = ∑ j : Fin 4, part m c j (row i k) d := by
  rw [acc_next m c i 3 2 rfl, acc_next m c i 2 1 rfl, acc_next m c i 1 0 rfl, acc_start, Fin.sum_univ_four]

/-- The row that the last point normalises. -/
theorem zrow_eq (i : Fin 4) (k : Fin 1024) :
    zrow (iblk m c 0 (pt i 3)) ((outsAt0 m c (pt i 3).val (pt i 3).isLt).2.2.2.2.2.1) k = zr m c (row i k) := by
  funext d
  unfold zrow zr
  rw [block0, acc_total]

/-- The first result at the last point. -/
theorem last_y (i : Fin 4) (k d : Fin 1024) : (outsAt0 m c (pt i 3).val (pt i 3).isLt).1 (ix2 k d) = dev (zr m c (row i k)) d * rdev (zr m c (row i k)) * gain m c d + bias m c d := by
  rw [outYC m c (pt i 3) (by show ¬ (4 * i.val + 3) % 4 = 0; omega) (by show (4 * i.val + 3) % 4 = 3; omega) (prior i 3), ← accC m c (pt i 3) (by show ¬ (4 * i.val + 3) % 4 = 0; omega) (by show (4 * i.val + 3) % 4 = 3; omega) (prior i 3), pay6_apply, zrow_eq, block4, block5]

/-- The second result at the last point. -/
theorem last_xh (i : Fin 4) (k d : Fin 1024) : (outsAt0 m c (pt i 3).val (pt i 3).isLt).2.1 (ix2 k d) = dev (zr m c (row i k)) d * rdev (zr m c (row i k)) := by
  rw [outXC m c (pt i 3) (by show ¬ (4 * i.val + 3) % 4 = 0; omega) (by show (4 * i.val + 3) % 4 = 3; omega) (prior i 3), ← accC m c (pt i 3) (by show ¬ (4 * i.val + 3) % 4 = 0; omega) (by show (4 * i.val + 3) % 4 = 3; omega) (prior i 3), pay5_apply, zrow_eq]

/-- The third result at the last point. -/
theorem last_rs (i : Fin 4) (k : Fin 1024) : (outsAt0 m c (pt i 3).val (pt i 3).isLt).2.2.1 (ix2 k 0) = rdev (zr m c (row i k)) := by
  rw [outRC m c (pt i 3) (by show ¬ (4 * i.val + 3) % 4 = 0; omega) (by show (4 * i.val + 3) % 4 = 3; omega) (prior i 3), ← accC m c (pt i 3) (by show ¬ (4 * i.val + 3) % 4 = 0; omega) (by show (4 * i.val + 3) % 4 = 3; omega) (prior i 3), pay4_apply, zrow_eq]

/-- A saved projection at every point. -/
theorem gate_eq (i j : Fin 4) (k : Fin 1024) (r : Fin 704) : (outsAt0 m c (pt i j).val (pt i j).isLt).2.2.2.1 (ix3 (0 : Fin 1) k r) = pg m c j (row i k) r := by
  have ev : (pt i j).val = 4 * i.val + j.val := rfl
  have hj4 := j.isLt
  by_cases h0 : j.val = 0
  · rw [gateA m c (pt i j) (by omega), savedA_apply, proj1 m c _ i j k (fun e => by rw [pay7_apply, block0])]
  · have e : (outsAt0 m c (pt i j).val (pt i j).isLt).2.2.2.1 = savedA (outsAt0 m c ((pt i j).val - 1) (prior i j)).2.2.2.2.2.2 (iblk m c 1 (pt i j)) := by
      by_cases h3 : (pt i j).val % 4 = 3
      · exact gateC m c (pt i j) (by omega) h3 _
      · exact gateB m c (pt i j) (by omega) h3 _
    rw [e, savedA_apply, proj1 m c _ i j k (fun e => by rw [before m c i j ⟨j.val - 1, by omega⟩ (by show j.val = j.val - 1 + 1; omega)]; exact kept m c i _ k e)]

/-- A saved projection at every point. -/
theorem up_eq (i j : Fin 4) (k : Fin 1024) (r : Fin 704) : (outsAt0 m c (pt i j).val (pt i j).isLt).2.2.2.2.1 (ix3 (0 : Fin 1) k r) = pu m c j (row i k) r := by
  have ev : (pt i j).val = 4 * i.val + j.val := rfl
  have hj4 := j.isLt
  by_cases h0 : j.val = 0
  · rw [upA m c (pt i j) (by omega), savedU_apply, proj2 m c _ i j k (fun e => by rw [pay7_apply, block0])]
  · have e : (outsAt0 m c (pt i j).val (pt i j).isLt).2.2.2.2.1 = savedU (outsAt0 m c ((pt i j).val - 1) (prior i j)).2.2.2.2.2.2 (iblk m c 2 (pt i j)) := by
      by_cases h3 : (pt i j).val % 4 = 3
      · exact upC m c (pt i j) (by omega) h3 _
      · exact upB m c (pt i j) (by omega) h3 _
    rw [e, savedU_apply, proj2 m c _ i j k (fun e => by rw [before m c i j ⟨j.val - 1, by omega⟩ (by show j.val = j.val - 1 + 1; omega)]; exact kept m c i _ k e)]

/-- A result at an index. -/
theorem res6 (i : Fin 4) (k d : Fin 1024) : Cert.Kernel4Ideal.Value.G6 m c (ix2 (row i k) d) = dev (zr m c (row i k)) d * rdev (zr m c (row i k)) * gain m c d + bias m c d := by
  have hi := i.isLt
  have hk := k.isLt
  have hd := d.isLt
  have e : Cert.Kernel4Ideal.Value.pt6Of (ix2 (row i k) d) = (pt i 3).val := by
    show 4 * (1 * ((i.val * 1024 + k.val) / 1024 - 0) + 1 * (d.val / 1024 - 0)) + 3 = 4 * i.val + 3
    omega
  have el : Cert.Kernel4Ideal.Value.loc6Of (ix2 (row i k) d) = ix2 k d := funext fun a => Fin.ext (by
    match a with
    | ⟨0, _⟩ => show (i.val * 1024 + k.val) % 1024 = k.val; omega
    | ⟨1, _⟩ => show d.val % 1024 = d.val; omega)
  have key : ∀ (n : ℕ) (hn : n < cfg0.N), n = (pt i 3).val → (outsAt0 m c n hn).1 (ix2 k d) = dev (zr m c (row i k)) d * rdev (zr m c (row i k)) * gain m c d + bias m c d := by
    intro n hn h
    subst h
    exact last_y m c i k d
  unfold Cert.Kernel4Ideal.Value.G6
  rw [dif_pos (show Cert.Kernel4Ideal.Value.pt6Of (ix2 (row i k) d) < cfg0.N by rw [e]; exact (pt i 3).isLt), el]
  rw [← Cert.Kernel4Ideal.Value.outsAt0_sweep m c _ (show Cert.Kernel4Ideal.Value.pt6Of (ix2 (row i k) d) < cfg0.N by rw [e]; exact (pt i 3).isLt)]
  exact key _ _ e

/-- A result at an index. -/
theorem res7 (i : Fin 4) (k d : Fin 1024) : Cert.Kernel4Ideal.Value.G7 m c (ix2 (row i k) d) = dev (zr m c (row i k)) d * rdev (zr m c (row i k)) := by
  have hi := i.isLt
  have hk := k.isLt
  have hd := d.isLt
  have e : Cert.Kernel4Ideal.Value.pt7Of (ix2 (row i k) d) = (pt i 3).val := by
    show 4 * (1 * ((i.val * 1024 + k.val) / 1024 - 0) + 1 * (d.val / 1024 - 0)) + 3 = 4 * i.val + 3
    omega
  have el : Cert.Kernel4Ideal.Value.loc7Of (ix2 (row i k) d) = ix2 k d := funext fun a => Fin.ext (by
    match a with
    | ⟨0, _⟩ => show (i.val * 1024 + k.val) % 1024 = k.val; omega
    | ⟨1, _⟩ => show d.val % 1024 = d.val; omega)
  have key : ∀ (n : ℕ) (hn : n < cfg0.N), n = (pt i 3).val → (outsAt0 m c n hn).2.1 (ix2 k d) = dev (zr m c (row i k)) d * rdev (zr m c (row i k)) := by
    intro n hn h
    subst h
    exact last_xh m c i k d
  unfold Cert.Kernel4Ideal.Value.G7
  rw [dif_pos (show Cert.Kernel4Ideal.Value.pt7Of (ix2 (row i k) d) < cfg0.N by rw [e]; exact (pt i 3).isLt), el]
  rw [← Cert.Kernel4Ideal.Value.outsAt0_sweep m c _ (show Cert.Kernel4Ideal.Value.pt7Of (ix2 (row i k) d) < cfg0.N by rw [e]; exact (pt i 3).isLt)]
  exact key _ _ e

/-- A result at an index. -/
theorem res8 (i : Fin 4) (k : Fin 1024) : Cert.Kernel4Ideal.Value.G8 m c (ix2 (row i k) (0 : Fin 1)) = rdev (zr m c (row i k)) := by
  have hi := i.isLt
  have hk := k.isLt
  have e : Cert.Kernel4Ideal.Value.pt8Of (ix2 (row i k) (0 : Fin 1)) = (pt i 3).val := by
    show 4 * (1 * ((i.val * 1024 + k.val) / 1024 - 0) + 1 * (0 / 1 - 0)) + 3 = 4 * i.val + 3
    omega
  have el : Cert.Kernel4Ideal.Value.loc8Of (ix2 (row i k) (0 : Fin 1)) = ix2 k 0 := funext fun a => Fin.ext (by
    match a with
    | ⟨0, _⟩ => show (i.val * 1024 + k.val) % 1024 = k.val; omega
    | ⟨1, _⟩ => rfl)
  have key : ∀ (n : ℕ) (hn : n < cfg0.N), n = (pt i 3).val → (outsAt0 m c n hn).2.2.1 (ix2 k 0) = rdev (zr m c (row i k)) := by
    intro n hn h
    subst h
    exact last_rs m c i k
  unfold Cert.Kernel4Ideal.Value.G8
  rw [dif_pos (show Cert.Kernel4Ideal.Value.pt8Of (ix2 (row i k) (0 : Fin 1)) < cfg0.N by rw [e]; exact (pt i 3).isLt), el]
  rw [← Cert.Kernel4Ideal.Value.outsAt0_sweep m c _ (show Cert.Kernel4Ideal.Value.pt8Of (ix2 (row i k) (0 : Fin 1)) < cfg0.N by rw [e]; exact (pt i 3).isLt)]
  exact key _ _ e

/-- A saved projection at an index. -/
theorem res9 (j i : Fin 4) (k : Fin 1024) (r : Fin 704) : Cert.Kernel4Ideal.Value.G9 m c (ix3 j (row i k) r) = pg m c j (row i k) r := by
  have hi := i.isLt
  have hj := j.isLt
  have hk := k.isLt
  have hr := r.isLt
  have e : Cert.Kernel4Ideal.Value.pt9Of (ix3 j (row i k) r) = (pt i j).val := by
    show 1 * (j.val / 1 - 0) + 4 * ((i.val * 1024 + k.val) / 1024 - 0) + 16 * (r.val / 704 - 0) = 4 * i.val + j.val
    omega
  have el : Cert.Kernel4Ideal.Value.loc9Of (ix3 j (row i k) r) = ix3 (0 : Fin 1) k r := funext fun a => Fin.ext (by
    match a with
    | ⟨0, _⟩ => show j.val % 1 = 0; omega
    | ⟨1, _⟩ => show (i.val * 1024 + k.val) % 1024 = k.val; omega
    | ⟨2, _⟩ => show r.val % 704 = r.val; omega)
  have key : ∀ (n : ℕ) (hn : n < cfg0.N), n = (pt i j).val → (outsAt0 m c n hn).2.2.2.1 (ix3 (0 : Fin 1) k r) = pg m c j (row i k) r := by
    intro n hn h
    subst h
    exact gate_eq m c i j k r
  unfold Cert.Kernel4Ideal.Value.G9
  rw [dif_pos (show Cert.Kernel4Ideal.Value.pt9Of (ix3 j (row i k) r) < cfg0.N by rw [e]; exact (pt i j).isLt), el]
  rw [← Cert.Kernel4Ideal.Value.outsAt0_sweep m c _ (show Cert.Kernel4Ideal.Value.pt9Of (ix3 j (row i k) r) < cfg0.N by rw [e]; exact (pt i j).isLt)]
  exact key _ _ e

/-- A saved projection at an index. -/
theorem res10 (j i : Fin 4) (k : Fin 1024) (r : Fin 704) : Cert.Kernel4Ideal.Value.G10 m c (ix3 j (row i k) r) = pu m c j (row i k) r := by
  have hi := i.isLt
  have hj := j.isLt
  have hk := k.isLt
  have hr := r.isLt
  have e : Cert.Kernel4Ideal.Value.pt10Of (ix3 j (row i k) r) = (pt i j).val := by
    show 1 * (j.val / 1 - 0) + 4 * ((i.val * 1024 + k.val) / 1024 - 0) + 16 * (r.val / 704 - 0) = 4 * i.val + j.val
    omega
  have el : Cert.Kernel4Ideal.Value.loc10Of (ix3 j (row i k) r) = ix3 (0 : Fin 1) k r := funext fun a => Fin.ext (by
    match a with
    | ⟨0, _⟩ => show j.val % 1 = 0; omega
    | ⟨1, _⟩ => show (i.val * 1024 + k.val) % 1024 = k.val; omega
    | ⟨2, _⟩ => show r.val % 704 = r.val; omega)
  have key : ∀ (n : ℕ) (hn : n < cfg0.N), n = (pt i j).val → (outsAt0 m c n hn).2.2.2.2.1 (ix3 (0 : Fin 1) k r) = pu m c j (row i k) r := by
    intro n hn h
    subst h
    exact up_eq m c i j k r
  unfold Cert.Kernel4Ideal.Value.G10
  rw [dif_pos (show Cert.Kernel4Ideal.Value.pt10Of (ix3 j (row i k) r) < cfg0.N by rw [e]; exact (pt i j).isLt), el]
  rw [← Cert.Kernel4Ideal.Value.outsAt0_sweep m c _ (show Cert.Kernel4Ideal.Value.pt10Of (ix3 j (row i k) r) < cfg0.N by rw [e]; exact (pt i j).isLt)]
  exact key _ _ e

end Ffn.Fwd
-- ==== Proof.Ffn.FwdRef.lean ====
/-
  The reference's feed-forward half step with its layer norm, read at an index.
-/
module

public import proofs.«01_k».proof.Proof.Ffn.FwdSum
public import proofs.«01_k».proof.Proof.Gen.Reference4Ideal.Read

@[expose] public section

set_option maxRecDepth 16384

noncomputable section

namespace Ffn.Fwd

open Idealize.ShloMosaic Idealize.ShloMosaic.ValueIdx
open Cert.Reference4Ideal Cert.Reference4Ideal.Read

/-- Hidden unit `r` of weight block `j`. -/
abbrev unit (j : Fin 4) (r : Fin 704) : Fin 2816 := inBlock (show 2816 = 4 * 704 by rfl) j r

variable (x0 : FVec Ideal S4096x1024 .f32) (x1 x2 x3 : FVec Ideal S4x704x1024 .bf16) (x4 x5 : FVec Ideal S1x1024 .f32)

/-- The sums' starting word is zero. -/
theorem word_zero (i : S_.Idx) : val_main_cst_1 (F := Ideal) i = (0 : EReal) := by
  show Ideal.ofBits .f32 0x00000000#32 = 0
  simp [Ideal.ofBits, Ideal.ieee]

/-- A projection of a row. -/
def rp (w : FVec Ideal S4x704x1024 .bf16) (j : Fin 4) (s : Fin 4096) (r : Fin 704) : EReal := ∑ e : Fin 1024, x0 (ix2 s e) * w (ix3 j r e)
/-- A row before the layer norm. -/
def rz (s : Fin 4096) (d : Fin 1024) : EReal :=
  mix (x0 (ix2 s d)) (∑ j : Fin 4, ∑ r : Fin 704, gated (rp x0 x1 j s r) (rp x0 x2 j s r) * x3 (ix3 j r d))

/-- Where a wide weight row lies in its block. -/
theorem idx1 (j : Fin 4) (r : Fin 704) (d : Fin 1024) : idx_main_v1 (ix2 (unit j r) d) = ix3 j r d := funext fun a => Fin.ext (by
  have := d.isLt
  have := r.isLt
  match a with
  | ⟨0, _⟩ => show ((j.val * 704 + r.val) * 1024 + d.val) / 720896 = j.val; omega
  | ⟨1, _⟩ => show ((j.val * 704 + r.val) * 1024 + d.val) / 1024 % 704 = r.val; omega
  | ⟨2, _⟩ => show ((j.val * 704 + r.val) * 1024 + d.val) % 1024 = d.val; omega)

theorem v3_at (s : Fin 4096) (j : Fin 4) (r : Fin 704) : val_main_v3 (F := Ideal) x0 x1 (ix2 s (unit j r)) = rp x0 x1 j s r := by
  rw [val_main_v3_apply]
  unfold rp
  refine Finset.sum_congr rfl fun e _ => ?_
  have el : lidx_main_v3 (ix2 s (unit j r)) e = ix2 s e := funext fun a => match a with
    | ⟨0, _⟩ => rfl
    | ⟨1, _⟩ => rfl
  have er : idx_main_v2 (ridx_main_v3 (ix2 s (unit j r)) e) = ix2 (unit j r) e := funext fun a => match a with
    | ⟨0, _⟩ => rfl
    | ⟨1, _⟩ => rfl
  rw [el, val_main_v2_apply, er, val_main_v1_apply, idx1]
  rfl

theorem v7_at (s : Fin 4096) (j : Fin 4) (r : Fin 704) : val_main_v7 (F := Ideal) x0 x2 (ix2 s (unit j r)) = rp x0 x2 j s r :=
  v3_at x0 x2 s j r

/-- The gated hidden unit. -/
theorem v11_at (s : Fin 4096) (j : Fin 4) (r : Fin 704) :
    val_main_v11 (F := Ideal) x0 x1 x2 (ix2 s (unit j r)) = gated (rp x0 x1 j s r) (rp x0 x2 j s r) := by
  have e : val_main_v11 (F := Ideal) x0 x1 x2 (ix2 s (unit j r))
      = val_main_v3 (F := Ideal) x0 x1 (ix2 s (unit j r)) * Ideal.div (Ideal.ofBits .f32 0x3F800000#32) (Ideal.ofBits .f32 0x3F800000#32 + Ideal.exp (-(val_main_v3 (F := Ideal) x0 x1 (ix2 s (unit j r))))) * val_main_v7 (F := Ideal) x0 x2 (ix2 s (unit j r)) := rfl
  rw [e, v3_at, v7_at, ofBits_one]
  rfl

/-- The half step's products with the down matrix. -/
theorem v14_at (s : Fin 4096) (d : Fin 1024) : val_main_v14 (F := Ideal) x0 x1 x2 x3 (ix2 s d)
    = ∑ j : Fin 4, ∑ r : Fin 704, gated (rp x0 x1 j s r) (rp x0 x2 j s r) * x3 (ix3 j r d) := by
  rw [val_main_v14_apply, sum_inBlock (show 2816 = 4 * 704 by rfl)]
  refine Finset.sum_congr rfl fun j _ => Finset.sum_congr rfl fun r _ => ?_
  have el : lidx_main_v14 (ix2 s d) (unit j r) = ix2 s (unit j r) := funext fun a => match a with
    | ⟨0, _⟩ => rfl
    | ⟨1, _⟩ => rfl
  have er : ridx_main_v14 (ix2 s d) (unit j r) = ix2 (unit j r) d := funext fun a => match a with
    | ⟨0, _⟩ => rfl
    | ⟨1, _⟩ => rfl
  have ei : idx_main_v13 (ix2 (unit j r) d) = ix3 j r d := idx1 j r d
  rw [el, er, v11_at, val_main_v13_apply, ei]
  rfl

/-- The row before the layer norm. -/
theorem v17_at (s : Fin 4096) (d : Fin 1024) : val_main_v17 (F := Ideal) x0 x1 x2 x3 (ix2 s d) = rz x0 x1 x2 x3 s d := by
  unfold rz
  rw [← v14_at]
  rfl

/-- The row's mean. -/
theorem v21_at (s : Fin 4096) : val_main_v21 (F := Ideal) x0 x1 x2 x3 (ix2 s (0 : Fin 1)) = mean (rz x0 x1 x2 x3 s) := by
  refine congrArg (fun t => Ideal.div t (Ideal.ofBits .f32 0x44800000#32)) (?_ : val_main_v19 (F := Ideal) x0 x1 x2 x3 (ix2 s (0 : Fin 1)) = _)
  rw [val_main_v19_apply, val_main_v18_apply]
  refine Eq.trans (congrArg (· + _) (word_zero _)) ?_
  refine (zero_add _).trans (Finset.sum_congr rfl fun k _ => ?_)
  have ei : idx_main_v18 (idx_main_v19 (ix2 s (0 : Fin 1))) k = ix2 s k := funext fun a => match a with
    | ⟨0, _⟩ => rfl
    | ⟨1, _⟩ => rfl
  rw [ei, v17_at]

/-- The centred row. -/
theorem v23_at (s : Fin 4096) (d : Fin 1024) : val_main_v23 (F := Ideal) x0 x1 x2 x3 (ix2 s d) = dev (rz x0 x1 x2 x3 s) d := by
  have ei : idx_main_v22 (ix2 s d) = ix2 s (0 : Fin 1) := funext fun a => match a with
    | ⟨0, _⟩ => rfl
    | ⟨1, _⟩ => rfl
  rw [val_main_v23_apply, val_main_v22_apply, ei, v17_at, v21_at]
  rfl

/-- The reciprocal deviation. -/
theorem v31_at (s : Fin 4096) : val_main_v31 (F := Ideal) x0 x1 x2 x3 (ix2 s (0 : Fin 1)) = rdev (rz x0 x1 x2 x3 s) := by
  refine congrArg (fun t => Ideal.rsqrt (Ideal.div t (Ideal.ofBits .f32 0x44800000#32) + Ideal.ofBits .f32 0x3727C5AC#32))
    (?_ : val_main_v26 (F := Ideal) x0 x1 x2 x3 (ix2 s (0 : Fin 1)) = _)
  rw [val_main_v26_apply, val_main_v25_apply]
  refine Eq.trans (congrArg (· + _) (word_zero _)) ?_
  refine (zero_add _).trans (Finset.sum_congr rfl fun k _ => ?_)
  have ei : idx_main_v25 (idx_main_v26 (ix2 s (0 : Fin 1))) k = ix2 s k := funext fun a => match a with
    | ⟨0, _⟩ => rfl
    | ⟨1, _⟩ => rfl
  rw [ei, val_main_v24_apply, v23_at]
  rfl

/-- The normalised row. -/
theorem v35_at (s : Fin 4096) (d : Fin 1024) : val_main_v35 (F := Ideal) x0 x1 x2 x3 (ix2 s d) = dev (rz x0 x1 x2 x3 s) d * rdev (rz x0 x1 x2 x3 s) := by
  have ei : idx_main_v34 (ix2 s d) = ix2 s (0 : Fin 1) := funext fun a => match a with
    | ⟨0, _⟩ => rfl
    | ⟨1, _⟩ => rfl
  have ej : val_main_v33 (F := Ideal) x0 x1 x2 x3 (ix2 s d) = val_main_v23 (F := Ideal) x0 x1 x2 x3 (ix2 s d) := rfl
  rw [val_main_v35_apply, ej, val_main_v34_apply, ei, v23_at, v31_at]
  rfl

/-- The half step's output. -/
theorem v39_at (s : Fin 4096) (d : Fin 1024) : val_main_v39 (F := Ideal) x0 x1 x2 x3 x4 x5 (ix2 s d)
    = dev (rz x0 x1 x2 x3 s) d * rdev (rz x0 x1 x2 x3 s) * x4 (ix2 (0 : Fin 1) d) + x5 (ix2 (0 : Fin 1) d) := by
  have e4 : idx_main_v36 (ix2 s d) = ix2 (0 : Fin 1) d := funext fun a => match a with
    | ⟨0, _⟩ => rfl
    | ⟨1, _⟩ => rfl
  have e5 : idx_main_v38 (ix2 s d) = ix2 (0 : Fin 1) d := funext fun a => match a with
    | ⟨0, _⟩ => rfl
    | ⟨1, _⟩ => rfl
  rw [val_main_v39_apply, val_main_v37_apply, val_main_v36_apply, val_main_v38_apply, e4, e5, v35_at]
  rfl

/-- The saved gate projection. -/
theorem v42_at (j : Fin 4) (s : Fin 4096) (r : Fin 704) : val_main_v42 (F := Ideal) x0 x1 (ix3 j s r) = rp x0 x1 j s r := by
  have ei : idx_main_v40 (idx_main_v41 (ix3 j s r)) = ix2 s (unit j r) := funext fun a => Fin.ext (by
    have := r.isLt
    have := j.isLt
    match a with
    | ⟨0, _⟩ => show ((s.val * 4 + j.val) * 704 + r.val) / 2816 = s.val; omega
    | ⟨1, _⟩ => show ((s.val * 4 + j.val) * 704 + r.val) % 2816 = j.val * 704 + r.val; omega)
  refine Eq.trans (show _ = val_main_v41 (F := Ideal) x0 x1 (ix3 j s r) from rfl) ?_
  rw [val_main_v41_apply, val_main_v40_apply, ei, v3_at]

/-- The saved up projection. -/
theorem v45_at (j : Fin 4) (s : Fin 4096) (r : Fin 704) : val_main_v45 (F := Ideal) x0 x2 (ix3 j s r) = rp x0 x2 j s r :=
  v42_at x0 x2 j s r

end Ffn.Fwd
-- ==== Proof.Ffn.FwdFinal.lean ====
/-
  The feed-forward half step: the call's five results are the reference's, and the claim.
-/
module

public import proofs.«01_k».proof.Defs
public import proofs.«01_k».proof.Proof.Ffn.FwdSum
public import proofs.«01_k».proof.Proof.Ffn.FwdRef
public import proofs.«01_k».proof.Proof.Gen.Reference4Ideal.Run

@[expose] public section

set_option maxRecDepth 16384

noncomputable section

namespace Ffn.Fwd

open Idealize.ShloMosaic Idealize.ShloMosaic.TcCoe Idealize.ShloMosaic.ValueIdx Idealize.SL.Sem
open Cert.Kernel4Ideal Cert.Kernel4Ideal.Gen

variable (m : (ℓ : Loc nD τ sig) → Buf (Elt Ideal) ℓ) (c : Dev nD)

/-- An array the program was handed. -/
abbrev arr (b : Ref sig .tc) : Buf (Elt Ideal) ((c : Thread nD τ).loc b) := m ((c : Thread nD τ).loc b)

/-- A row by its block and its place there. -/
theorem exists_row (s : Fin 4096) : ∃ (i : Fin 4) (k : Fin 1024), s = row i k :=
  ⟨⟨s.val / 1024, by have := s.isLt; omega⟩, ⟨s.val % 1024, by omega⟩, Fin.ext (by show s.val = s.val / 1024 * 1024 + s.val % 1024; omega)⟩

theorem xr_eq (s : Fin 4096) (d : Fin 1024) : xr m c s d = arr m c main_arg0 (ix2 s d) := congrFun (V_main_arg0 m c) (ix2 s d)
theorem wgt1_eq (j : Fin 4) (r : Fin 704) (d : Fin 1024) : wgt1 m c j r d = arr m c main_arg1 (ix3 j r d) := congrFun (V_main_arg1 m c) (ix3 j r d)
theorem wgt2_eq (j : Fin 4) (r : Fin 704) (d : Fin 1024) : wgt2 m c j r d = arr m c main_arg2 (ix3 j r d) := congrFun (V_main_arg2 m c) (ix3 j r d)
theorem wgt3_eq (j : Fin 4) (r : Fin 704) (d : Fin 1024) : wgt3 m c j r d = arr m c main_arg3 (ix3 j r d) := congrFun (V_main_arg3 m c) (ix3 j r d)
theorem gain_eq (d : Fin 1024) : gain m c d = arr m c main_arg4 (ix2 (0 : Fin 1) d) := congrFun (V_main_arg4 m c) (ix2 (0 : Fin 1) d)
theorem bias_eq (d : Fin 1024) : bias m c d = arr m c main_arg5 (ix2 (0 : Fin 1) d) := congrFun (V_main_arg5 m c) (ix2 (0 : Fin 1) d)

theorem pg_eq (j : Fin 4) (s : Fin 4096) (r : Fin 704) : pg m c j s r = rp (arr m c main_arg0) (arr m c main_arg1) j s r :=
  Finset.sum_congr (M := EReal) rfl fun e _ => congrArg₂ (fun p q : EReal => p * q) (xr_eq m c s e) (wgt1_eq m c j r e)
theorem pu_eq (j : Fin 4) (s : Fin 4096) (r : Fin 704) : pu m c j s r = rp (arr m c main_arg0) (arr m c main_arg2) j s r :=
  Finset.sum_congr (M := EReal) rfl fun e _ => congrArg₂ (fun p q : EReal => p * q) (xr_eq m c s e) (wgt2_eq m c j r e)

/-- The two rows before the layer norm are one. -/
theorem zr_eq (s : Fin 4096) : zr m c s = rz (arr m c main_arg0) (arr m c main_arg1) (arr m c main_arg2) (arr m c main_arg3) s := by
  funext d
  refine congrArg₂ mix (xr_eq m c s d) (Finset.sum_congr (M := EReal) rfl fun j _ => Finset.sum_congr (M := EReal) rfl fun r _ => ?_)
  exact congrArg₂ (fun p q : EReal => p * q) (congrArg₂ gated (pg_eq m c j s r) (pu_eq m c j s r)) (wgt3_eq m c j r d)

/-- A result of the call is the reference's. -/
theorem G6_eq : Cert.Kernel4Ideal.Value.G6 m c = Cert.Reference4Ideal.Read.val_main_v39 (F := Ideal) (arr m c main_arg0) (arr m c main_arg1) (arr m c main_arg2) (arr m c main_arg3) (arr m c main_arg4) (arr m c main_arg5) := by
  funext i
  obtain ⟨s, d, rfl⟩ : ∃ (s : Fin 4096) (d : Fin 1024), i = ix2 s d := ⟨i 0, i 1, eq_ix2 i⟩
  obtain ⟨b, k, rfl⟩ := exists_row s
  refine (res6 m c b k d).trans (Eq.trans ?_ (v39_at (arr m c main_arg0) (arr m c main_arg1) (arr m c main_arg2) (arr m c main_arg3) (arr m c main_arg4) (arr m c main_arg5) (row b k) d).symm)
  rw [zr_eq, gain_eq, bias_eq]

/-- A result of the call is the reference's. -/
theorem G7_eq : Cert.Kernel4Ideal.Value.G7 m c = Cert.Reference4Ideal.Read.val_main_v35 (F := Ideal) (arr m c main_arg0) (arr m c main_arg1) (arr m c main_arg2) (arr m c main_arg3) := by
  funext i
  obtain ⟨s, d, rfl⟩ : ∃ (s : Fin 4096) (d : Fin 1024), i = ix2 s d := ⟨i 0, i 1, eq_ix2 i⟩
  obtain ⟨b, k, rfl⟩ := exists_row s
  refine (res7 m c b k d).trans (Eq.trans ?_ (v35_at (arr m c main_arg0) (arr m c main_arg1) (arr m c main_arg2) (arr m c main_arg3) (row b k) d).symm)
  rw [zr_eq]

/-- A result of the call is the reference's. -/
theorem G8_eq : Cert.Kernel4Ideal.Value.G8 m c = Cert.Reference4Ideal.Read.val_main_v31 (F := Ideal) (arr m c main_arg0) (arr m c main_arg1) (arr m c main_arg2) (arr m c main_arg3) := by
  funext i
  obtain ⟨s, rfl⟩ : ∃ s : Fin 4096, i = ix2 s (0 : Fin 1) := ⟨i 0, (eq_ix2 i).trans (congrArg (ix2 (i 0)) (Subsingleton.elim (α := Fin 1) _ _))⟩
  obtain ⟨b, k, rfl⟩ := exists_row s
  refine (res8 m c b k).trans (Eq.trans ?_ (v31_at (arr m c main_arg0) (arr m c main_arg1) (arr m c main_arg2) (arr m c main_arg3) (row b k)).symm)
  rw [zr_eq]

/-- A result of the call is the reference's. -/
theorem G9_eq : Cert.Kernel4Ideal.Value.G9 m c = Cert.Reference4Ideal.Read.val_main_v42 (F := Ideal) (arr m c main_arg0) (arr m c main_arg1) := by
  funext i
  obtain ⟨j, s, r, rfl⟩ : ∃ (j : Fin 4) (s : Fin 4096) (r : Fin 704), i = ix3 j s r := ⟨i 0, i 1, i 2, eq_ix3 i⟩
  obtain ⟨b, k, rfl⟩ := exists_row s
  exact (res9 m c j b k r).trans ((pg_eq m c j (row b k) r).trans (v42_at (arr m c main_arg0) (arr m c main_arg1) j (row b k) r).symm)

/-- A result of the call is the reference's. -/
theorem G10_eq : Cert.Kernel4Ideal.Value.G10 m c = Cert.Reference4Ideal.Read.val_main_v45 (F := Ideal) (arr m c main_arg0) (arr m c main_arg2) := by
  funext i
  obtain ⟨j, s, r, rfl⟩ : ∃ (j : Fin 4) (s : Fin 4096) (r : Fin 704), i = ix3 j s r := ⟨i 0, i 1, i 2, eq_ix3 i⟩
  obtain ⟨b, k, rfl⟩ := exists_row s
  exact (res10 m c j b k r).trans ((pu_eq m c j (row b k) r).trans (v45_at (arr m c main_arg0) (arr m c main_arg2) j (row b k) r).symm)

/-- The two programs end with the same five results. -/
theorem algebraic : Cert.algebraic_Kernel4Ideal_Reference4Ideal := by
  intro m g m' g' _ hagree
  refine ⟨fun c => Cert.Kernel4Ideal.Value.G6 m c, fun c => Cert.Kernel4Ideal.Value.G7 m c, fun c => Cert.Kernel4Ideal.Value.G8 m c,
    fun c => Cert.Kernel4Ideal.Value.G9 m c, fun c => Cert.Kernel4Ideal.Value.G10 m c, Cert.Kernel4Ideal.Value.run (F := Ideal) m g, ?_⟩
  refine (θ_run _ _ _).mono (fun r h c => ?_) (Cert.Reference4Ideal.Value.run (F := Ideal) m' g')
  obtain ⟨h0, h1, h2, h3, h4, hk⟩ := h c
  obtain ⟨e0, e1, e2, e3, e4, e5⟩ := hagree c
  refine ⟨h0.trans ?_, h1.trans ?_, h2.trans ?_, h3.trans ?_, h4.trans ?_, hk⟩
  · refine (Cert.Reference4Ideal.Read.val_main_v39_eq (F := Ideal) m' c).trans ?_
    rw [e0, e1, e2, e3, e4, e5]
    exact (G6_eq m c).symm
  · refine (Cert.Reference4Ideal.Read.val_main_v35_eq (F := Ideal) m' c).trans ?_
    rw [e0, e1, e2, e3]
    exact (G7_eq m c).symm
  · refine (Cert.Reference4Ideal.Read.val_main_v31_eq (F := Ideal) m' c).trans ?_
    rw [e0, e1, e2, e3]
    exact (G8_eq m c).symm
  · rw [e0, e1]
    exact (Cert.Reference4Ideal.Read.val_main_v42_eq (F := Ideal) _ _).trans (G9_eq m c).symm
  · rw [e0, e2]
    exact (Cert.Reference4Ideal.Read.val_main_v45_eq (F := Ideal) _ _).trans (G10_eq m c).symm

end Ffn.Fwd
-- ==== Proof.Proj.Moved.lean ====
/-
  The weight gradient of the q, k, v projection of a dilated group: the call's result at an index, as a sum over all the rows.
-/
module

public import proofs.«01_k».proof.Proof.Ffn.Sums
public import proofs.«01_k».proof.Proof.Gen.Kernel5Ideal.Value

@[expose] public section

set_option maxRecDepth 16384

noncomputable section

namespace Proj.Moved

open Idealize.ShloMosaic Idealize.ShloMosaic.TcCoe Idealize.ShloMosaic.ValueIdx
open Cert.Kernel5Ideal Cert.Kernel5Ideal.Gen
open Ffn (inBlock sum_inBlock ofBits_one)

/-- A product over the rows of a block. -/
theorem mm_tn {φ₁ φ₂ : FTy} (a : FVec Ideal S1024x1024 φ₁) (b : FVec Ideal S1024x1024 φ₂) (r d : Fin 1024) :
    matmul (F := Ideal) dot_S1024x1024_S1024x1024_S1024x1024_0_0_1_1_n_n none a b (constant (F := Ideal) S1024x1024 .f32 0x00000000#32) (ix2 r d)
      = ∑ i : Fin 1024, a (ix2 i r) * b (ix2 i d) := by
  refine Eq.trans (Ideal.matmul_constant_zero_apply dot_S1024x1024_S1024x1024_S1024x1024_0_0_1_1_n_n none a b (ix2 r d)) ?_
  rw [← Equiv.sum_comp (contrEquiv1 dot_S1024x1024_S1024x1024_S1024x1024_0_0_1_1_n_n 1024 rfl rfl).symm]
  refine Finset.sum_congr rfl fun k _ => ?_
  have hk := contrEquiv1_symm_val dot_S1024x1024_S1024x1024_S1024x1024_0_0_1_1_n_n 1024 rfl rfl k
  have el : dot_S1024x1024_S1024x1024_S1024x1024_0_0_1_1_n_n.lhsIdx (ix2 r d) ((contrEquiv1 dot_S1024x1024_S1024x1024_S1024x1024_0_0_1_1_n_n 1024 rfl rfl).symm k) = ix2 k r := by
    funext a; apply Fin.ext
    match a with
    | ⟨0, _⟩ => exact hk
    | ⟨1, _⟩ => rfl
  have er : dot_S1024x1024_S1024x1024_S1024x1024_0_0_1_1_n_n.rhsIdx (ix2 r d) ((contrEquiv1 dot_S1024x1024_S1024x1024_S1024x1024_0_0_1_1_n_n 1024 rfl rfl).symm k) = ix2 k d := by
    funext a; apply Fin.ext
    match a with
    | ⟨0, _⟩ => exact hk
    | ⟨1, _⟩ => rfl
  rw [el, er]

/-- The block a point is given, without its unit axis. -/
theorem unblock (v : Vec Ideal S1x1024x1024 .bf16) (i d : Fin 1024) :
    shapeCast S1024x1024 v shapeCasts_S1x1024x1024_S1024x1024 (ix2 i d) = v (ix3 (0 : Fin 1) i d) := by
  refine shapeCast_apply _ _ _ (ix3 (0 : Fin 1) i d) ?_
  rw [Shape.rowMajor_val_two, Shape.rowMajor_val_three]
  show (0 * 1024 + i.val) * 1024 + d.val = i.val * 1024 + d.val
  omega

/-- One point's product. -/
theorem pay1_apply (v : Vec Ideal S1024x1024 .bf16) (w : Vec Ideal S1x1024x1024 .bf16) (r d : Fin 1024) :
    k0_pay1 (F := Ideal) v w (ix2 r d) = ∑ i : Fin 1024, v (ix2 i r) * w (ix3 (0 : Fin 1) i d) := by
  unfold k0_pay1
  refine (mm_tn _ _ r d).trans (Finset.sum_congr rfl fun i _ => ?_)
  rw [unblock]

/-- The finished accumulator is written out times one. -/
theorem pay4_apply (v : Vec Ideal S1024x1024 .f32) (r d : Fin 1024) : k0_pay4 (F := Ideal) v (ix2 r d) = v (ix2 r d) := by
  show Ideal.ofBits .f32 0x3F800000#32 * v (ix2 r d) = _
  rw [ofBits_one, one_mul]

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ) (c : Dev nD)

set_option maxHeartbeats 4000000 in
/-- The first row block's product starts the accumulator. -/
theorem start (t : Fin cfg0.N) (h : t.val % 4 = 0) : (outsAt0 m c t.val t.isLt).2 = k0_pay1 (iblk m c 0 t) (iblk m c 1 t) := by
  rw [outsAt0_A m c t h (by omega) (by omega)]
  dsimp only
  unfold sout0_A_0
  refine (View.read_writes_eq_canon _ _ _ (fun _ => scover0_A_0 ..)).trans ?_
  unfold kernelRun0_A
  dsimp only
  sl_unfold_words
  rw [View.canon_unit_zero hz2]
  unfold k0_pay2
  simp only [View.readAt_eq_ld, (hs0_0 t).read_unread, (hs0_1 t).read_unread, (Memref.isWhole_whole _).read_unread, View.ld_unit_zero (S := S1024x1024) hz2, View.ld_unit_zero (S := S1x1024x1024) hz3, shapeCast_self]

set_option maxHeartbeats 4000000 in
/-- A later row block's product is added to it. -/
theorem stepB (t : Fin cfg0.N) (h : ¬ t.val % 4 = 0) (h3 : ¬ t.val % 4 = 3) (hp : t.val - 1 < cfg0.N) :
    (outsAt0 m c t.val t.isLt).2 = k0_pay3 (iblk m c 0 t) (iblk m c 1 t) ((outsAt0 m c (t.val - 1) hp).2) := by
  rw [outsAt0_B m c t h (by omega) h3]
  dsimp only
  unfold sout0_B_0
  refine (View.read_writes_eq_canon _ _ _ (fun _ => scover0_B_0 ..)).trans ?_
  unfold kernelRun0_B
  dsimp only
  sl_unfold_words
  rw [View.canon_unit_zero hz2]
  simp only [View.readAt_eq_ld, (hs0_0 t).read_unread, (hs0_1 t).read_unread, (Memref.isWhole_whole _).read_unread, View.ld_unit_zero (S := S1024x1024) hz2, View.ld_unit_zero (S := S1x1024x1024) hz3]

set_option maxHeartbeats 4000000 in
/-- So is the last row block's. -/
theorem stepC (t : Fin cfg0.N) (h : ¬ t.val % 4 = 0) (h3 : t.val % 4 = 3) (hp : t.val - 1 < cfg0.N) :
    (outsAt0 m c t.val t.isLt).2 = k0_pay3 (iblk m c 0 t) (iblk m c 1 t) ((outsAt0 m c (t.val - 1) hp).2) := by
  rw [outsAt0_C m c t h (by omega) h3]
  dsimp only
  unfold sout0_C_0
  refine (View.read_writes_eq_canon _ _ _ (fun _ => scover0_C_0 ..)).trans ?_
  unfold kernelRun0_C
  dsimp only
  sl_unfold_words
  rw [View.canon_unit_zero hz2]
  simp only [View.readAt_eq_ld, (hs0_0 t).read_unread, (hs0_1 t).read_unread, (Memref.isWhole_whole _).read_unread, View.ld_unit_zero (S := S1024x1024) hz2, View.ld_unit_zero (S := S1x1024x1024) hz3]

set_option maxHeartbeats 4000000 in
/-- At the last row block the result's block is made from the finished accumulator. -/
theorem last (t : Fin cfg0.N) (h : ¬ t.val % 4 = 0) (h3 : t.val % 4 = 3) :
    (outsAt0 m c t.val t.isLt).1 = k0_pay4 ((outsAt0 m c t.val t.isLt).2) := by
  rw [stepC m c t h h3 (lt_of_le_of_lt (Nat.sub_le _ _) t.isLt), outsAt0_C m c t h (by omega) h3]
  dsimp only
  unfold out0_C_2
  refine (View.read_writes_eq_canon _ _ _ (fun _ => cover0_C_2 ..)).trans ?_
  unfold kernelRun0_C
  dsimp only
  sl_unfold_words
  rw [View.canon_unit_zero hz2, View.readCov_unit_zero (S := S1024x1024) _ hz2]
  simp only [View.readAt_eq_ld, (hs0_0 t).read_unread, (hs0_1 t).read_unread, (Memref.isWhole_whole _).read_unread, View.ld_unit_zero (S := S1024x1024) hz2, View.ld_unit_zero (S := S1x1024x1024) hz3]

/-- Row `i` of row block `k`. -/
abbrev row (k : Fin 4) (i : Fin 1024) : Fin 4096 := inBlock (show 4096 = 4 * 1024 by rfl) k i
/-- The grid point of weight block `j` and row block `k`. -/
abbrev pt (j : Fin 3) (k : Fin 4) : Fin cfg0.N := ⟨4 * j.val + k.val, lt_of_lt_of_eq (by have := j.isLt; have := k.isLt; omega) N_0.symm⟩

/-- The rows the projection took. -/
abbrev src (s : Fin 4096) (r : Fin 1024) : EReal := V m c main_arg0 (ix2 s r)
/-- The gradient of what it gave. -/
abbrev grad (j : Fin 3) (s : Fin 4096) (d : Fin 1024) : EReal := V m c main_arg1 (ix3 j s d)

theorem place0 : ∀ t : Fin cfg0.N, win0_0.index t (0 : Fin 2) = t.val % 4 ∧ win0_0.index t (1 : Fin 2) = 0 := by decide +kernel
/-- The block of rows at a point. -/
theorem block0 (j : Fin 3) (k : Fin 4) (i r : Fin 1024) : iblk m c 0 (pt j k) (ix2 i r) = src m c (row k i) r := by
  obtain ⟨e0, e1⟩ := place0 (pt j k)
  have hj := j.isLt
  have hk := k.isLt
  have ev : (pt j k).val = 4 * j.val + k.val := rfl
  unfold iblk
  rw [View.read_apply]
  refine congrArg (V m c main_arg0) (funext fun z => Fin.ext ?_)
  match z with
  | ⟨0, _⟩ => show win0_0.index (pt j k) (0 : Fin 2) * 1024 + 1 * i.val = k.val * 1024 + i.val; omega
  | ⟨1, _⟩ => show win0_0.index (pt j k) (1 : Fin 2) * 1024 + 1 * r.val = r.val; omega

theorem place1 : ∀ t : Fin cfg0.N, win0_1.index t (0 : Fin 3) = t.val / 4 ∧ win0_1.index t (1 : Fin 3) = t.val % 4 ∧ win0_1.index t (2 : Fin 3) = 0 := by decide +kernel
/-- The block of gradients at a point. -/
theorem block1 (j : Fin 3) (k : Fin 4) (i d : Fin 1024) : iblk m c 1 (pt j k) (ix3 (0 : Fin 1) i d) = grad m c j (row k i) d := by
  obtain ⟨e0, e1, e2⟩ := place1 (pt j k)
  have hj := j.isLt
  have hk := k.isLt
  have ev : (pt j k).val = 4 * j.val + k.val := rfl
  unfold iblk
  rw [View.read_apply]
  refine congrArg (V m c main_arg1) (funext fun z => Fin.ext ?_)
  match z with
  | ⟨0, _⟩ => show win0_1.index (pt j k) (0 : Fin 3) * 1 + 1 * 0 = j.val; omega
  | ⟨1, _⟩ => show win0_1.index (pt j k) (1 : Fin 3) * 1024 + 1 * i.val = k.val * 1024 + i.val; omega
  | ⟨2, _⟩ => show win0_1.index (pt j k) (2 : Fin 3) * 1024 + 1 * d.val = d.val; omega

/-- The product of one row block. -/
def part (j : Fin 3) (k : Fin 4) (r d : Fin 1024) : EReal := ∑ i : Fin 1024, src m c (row k i) r * grad m c j (row k i) d

theorem prod (j : Fin 3) (k : Fin 4) (r d : Fin 1024) :
    k0_pay1 (iblk m c 0 (pt j k)) (iblk m c 1 (pt j k)) (ix2 r d) = part m c j k r d := by
  rw [pay1_apply]
  exact Finset.sum_congr rfl fun i _ => by rw [block0, block1]

/-- A later row block adds its product. -/
theorem next (j : Fin 3) (k k' : Fin 4) (hk : k.val = k'.val + 1) (r d : Fin 1024) :
    (outsAt0 m c (pt j k).val (pt j k).isLt).2 (ix2 r d) = (outsAt0 m c (pt j k').val (pt j k').isLt).2 (ix2 r d) + part m c j k r d := by
  have ev : (pt j k).val = 4 * j.val + k.val := rfl
  have ev' : (pt j k').val = 4 * j.val + k'.val := rfl
  have hk4 := k.isLt
  have hp : (pt j k).val - 1 < cfg0.N := lt_of_le_of_lt (Nat.sub_le _ _) (pt j k).isLt
  have e1 : (outsAt0 m c (pt j k).val (pt j k).isLt).2
      = k0_pay3 (iblk m c 0 (pt j k)) (iblk m c 1 (pt j k)) ((outsAt0 m c ((pt j k).val - 1) hp).2) := by
    by_cases h3 : (pt j k).val % 4 = 3
    · exact stepC m c (pt j k) (by omega) h3 hp
    · exact stepB m c (pt j k) (by omega) h3 hp
  have e2 : (⟨(pt j k).val - 1, hp⟩ : Fin cfg0.N) = pt j k' := Fin.ext (by show (pt j k).val - 1 = _; omega)
  have e3 : outsAt0 m c ((pt j k).val - 1) hp = outsAt0 m c (pt j k').val (pt j k').isLt := by
    rw [← e2]
  rw [e1, e3, ← prod]
  unfold k0_pay3
  rw [shapeCast_self]
  rfl

/-- The finished accumulator is the sum over all rows. -/
theorem total (j : Fin 3) (r d : Fin 1024) :
    (outsAt0 m c (pt j 3).val (pt j 3).isLt).2 (ix2 r d) = ∑ s : Fin 4096, src m c s r * grad m c j s d := by
  rw [next m c j 3 2 rfl, next m c j 2 1 rfl, next m c j 1 0 rfl, start m c (pt j 0) (by show (4 * j.val + 0) % 4 = 0; omega), prod,
    sum_inBlock (show 4096 = 4 * 1024 by rfl), Fin.sum_univ_four]
  rfl

/-- The result at an index. -/
theorem res (j : Fin 3) (r d : Fin 1024) :
    Cert.Kernel5Ideal.Value.G2 m c (ix2 r (inBlock (show 3072 = 3 * 1024 by rfl) j d)) = ∑ s : Fin 4096, src m c s r * grad m c j s d := by
  have hr := r.isLt
  have hd := d.isLt
  have hj := j.isLt
  have e : Cert.Kernel5Ideal.Value.pt2Of (ix2 r (inBlock (show 3072 = 3 * 1024 by rfl) j d)) = (pt j 3).val := by
    show 4 * (3 * (r.val / 1024 - 0) + 1 * ((j.val * 1024 + d.val) / 1024 - 0)) + 3 = 4 * j.val + 3
    omega
  have el : Cert.Kernel5Ideal.Value.loc2Of (ix2 r (inBlock (show 3072 = 3 * 1024 by rfl) j d)) = ix2 r d := funext fun a => Fin.ext (by
    match a with
    | ⟨0, _⟩ => show r.val % 1024 = r.val; omega
    | ⟨1, _⟩ => show (j.val * 1024 + d.val) % 1024 = d.val; omega)
  have key : ∀ (n : ℕ) (hn : n < cfg0.N), n = (pt j 3).val →
      (outsAt0 m c n hn).1 (ix2 r d) = ∑ s : Fin 4096, src m c s r * grad m c j s d := by
    intro n hn h
    subst h
    rw [last m c (pt j 3) (by show ¬ (4 * j.val + 3) % 4 = 0; omega) (by show (4 * j.val + 3) % 4 = 3; omega), pay4_apply, total]
  unfold Cert.Kernel5Ideal.Value.G2
  rw [dif_pos (show Cert.Kernel5Ideal.Value.pt2Of (ix2 r (inBlock (show 3072 = 3 * 1024 by rfl) j d)) < cfg0.N by rw [e]; exact (pt j 3).isLt), el]
  rw [← Cert.Kernel5Ideal.Value.outsAt0_sweep m c _ (show Cert.Kernel5Ideal.Value.pt2Of (ix2 r (inBlock (show 3072 = 3 * 1024 by rfl) j d)) < cfg0.N by rw [e]; exact (pt j 3).isLt)]
  exact key _ _ e

end Proj.Moved
-- ==== Proof.Proj.MovedFinal.lean ====
/-
  The weight gradient of the q, k, v projection of a dilated group: the call's result is the reference's, and the claim.
-/
module

public import proofs.«01_k».proof.Defs
public import proofs.«01_k».proof.Proof.Proj.Moved
public import proofs.«01_k».proof.Proof.Gen.Reference5Ideal.Read

@[expose] public section

set_option maxRecDepth 16384

noncomputable section

namespace Proj.Moved

open Idealize.ShloMosaic Idealize.ShloMosaic.TcCoe Idealize.ShloMosaic.ValueIdx Idealize.SL.Sem
open Cert.Kernel5Ideal Cert.Kernel5Ideal.Gen
open Cert.Reference5Ideal.Read
open Ffn (inBlock)

/-- The incoming gradient, its three parts side by side. -/
theorem flat (x1 : FVec Ideal S3x4096x1024 .bf16) (j : Fin 3) (s : Fin 4096) (d : Fin 1024) :
    val_main_v7 (F := Ideal) x1 (ix2 s (inBlock (show 3072 = 3 * 1024 by rfl) j d)) = x1 (ix3 j s d) := by
  have hj := j.isLt
  have hs := s.isLt
  have hd := d.isLt
  rw [val_main_v7_apply]
  have e : idx_main_v7 (ix2 s (inBlock (show 3072 = 3 * 1024 by rfl) j d)) = ix3 s j d := funext fun a => Fin.ext (by
    match a with
    | ⟨0, _⟩ => show (s.val * 3072 + (j.val * 1024 + d.val)) / 3072 = s.val; omega
    | ⟨1, _⟩ => show (s.val * 3072 + (j.val * 1024 + d.val)) / 1024 % 3 = j.val; omega
    | ⟨2, _⟩ => show (s.val * 3072 + (j.val * 1024 + d.val)) % 1024 = d.val; omega)
  rw [e, val_main_v6_apply]
  exact congrArg x1 (funext fun a => match a with
    | ⟨0, _⟩ => rfl
    | ⟨1, _⟩ => rfl
    | ⟨2, _⟩ => rfl)

/-- The reference at an index: a sum over all the rows. -/
theorem ref (x0 : FVec Ideal S4096x1024 .bf16) (x1 : FVec Ideal S3x4096x1024 .bf16) (j : Fin 3) (r d : Fin 1024) :
    val_main_v10 (F := Ideal) x0 x1 (ix2 r (inBlock (show 3072 = 3 * 1024 by rfl) j d)) = ∑ s : Fin 4096, x0 (ix2 s r) * x1 (ix3 j s d) := by
  refine Eq.trans (show _ = val_main_v9 (F := Ideal) x0 x1 (ix2 r (inBlock (show 3072 = 3 * 1024 by rfl) j d)) from rfl) ?_
  rw [val_main_v9_apply, val_main_v8_apply]
  refine Finset.sum_congr rfl fun s _ => ?_
  have el : lidx_main_v8 (idx_main_v9 (ix2 r (inBlock (show 3072 = 3 * 1024 by rfl) j d))) s = (ix2 s (inBlock (show 3072 = 3 * 1024 by rfl) j d)) := funext fun a => match a with
    | ⟨0, _⟩ => rfl
    | ⟨1, _⟩ => rfl
  have er : ridx_main_v8 (idx_main_v9 (ix2 r (inBlock (show 3072 = 3 * 1024 by rfl) j d))) s = ix2 s r := funext fun a => match a with
    | ⟨0, _⟩ => rfl
    | ⟨1, _⟩ => rfl
  rw [el, er, flat, mul_comm]
  rfl

variable (m : (ℓ : Loc nD τ sig) → Buf (Elt Ideal) ℓ) (c : Dev nD)

/-- An array the program was handed. -/
abbrev arr (b : Ref sig .tc) : Buf (Elt Ideal) ((c : Thread nD τ).loc b) := m ((c : Thread nD τ).loc b)

/-- The call's result is the reference's. -/
theorem G2_eq : Cert.Kernel5Ideal.Value.G2 m c = val_main_v10 (F := Ideal) (arr m c main_arg0) (arr m c main_arg1) := by
  funext i
  obtain ⟨r, j, d, rfl⟩ : ∃ (r : Fin 1024) (j : Fin 3) (d : Fin 1024), i = ix2 r (inBlock (show 3072 = 3 * 1024 by rfl) j d) := by
    have h1 : (i 1).val < 3072 := (i 1).isLt
    refine ⟨i 0, ⟨(i 1).val / 1024, by omega⟩, ⟨(i 1).val % 1024, by omega⟩, (eq_ix2 i).trans (congrArg (ix2 (i 0)) (Fin.ext ?_))⟩
    show (i 1).val = (i 1).val / 1024 * 1024 + (i 1).val % 1024
    omega
  exact (res m c j r d).trans (ref (arr m c main_arg0) (arr m c main_arg1) j r d).symm

/-- The two programs end with the same weight gradient. -/
theorem algebraic : Cert.algebraic_Kernel5Ideal_Reference5Ideal := by
  intro m g m' g' _ hagree
  refine ⟨fun c => Cert.Kernel5Ideal.Value.G2 m c, Cert.Kernel5Ideal.Value.run (F := Ideal) m g, ?_⟩
  refine (θ_run _ _ _).mono (fun r h c => ?_) (Cert.Reference5Ideal.Value.run (F := Ideal) m' g')
  obtain ⟨h0, hk⟩ := h c
  obtain ⟨e0, e1⟩ := hagree c
  refine ⟨h0.trans ?_, hk⟩
  rw [e0, e1]
  exact (val_main_v10_eq (F := Ideal) _ _).trans (G2_eq m c).symm

end Proj.Moved
-- ==== Proof.Opt.Step.lean ====
/-
  One optimiser step on single numbers: the two running means and the change of a weight.
-/
module

public import Idealize.ShloMosaic.Lib.Pipeline.Value
public import Idealize.ShloMosaic.Lib.Pipeline.ValueKit

@[expose] public section

noncomputable section

namespace Opt

open Idealize.ShloMosaic

/-- The gradient of half `k`: the device's own one where `k` is the half the device keeps, the other one elsewhere. -/
def pick (w k : BitVec 32) (own other : Ideal .f32) : Ideal .f32 := Scalar.select (IntOp.cmpi .eq k w) own other

/-- The running mean of the gradient. -/
def mean (g m : Ideal .f32) : Ideal .f32 :=
  FloatOps.addf (FloatOps.mulf (FloatOps.ofBits .f32 0x3F666666#32) m) (FloatOps.mulf (FloatOps.ofBits .f32 0x3DCCCCCD#32) g)

/-- The running mean of the gradient's square. -/
def square (g v : Ideal .f32) : Ideal .f32 :=
  FloatOps.addf (FloatOps.mulf (FloatOps.ofBits .f32 0x3F7FBE77#32) v) (FloatOps.mulf (FloatOps.ofBits .f32 0x3A83126F#32) (FloatOps.mulf g g))

/-- The change of a weight: the quotient of the two corrected means, with the decay, times the rate. -/
def change (g m v w : Ideal .f32) : Ideal .f32 :=
  FloatOps.mulf (FloatOps.ofBits .f32 0xBA83126F#32) (FloatOps.addf
    (FloatOps.divf (FloatOps.divf (mean g m) (FloatOps.ofBits .f32 0x3F26BD02#32))
      (FloatOps.addf (FloatOps.sqrt (FloatOps.divf (square g v) (FloatOps.ofBits .f32 0x3C231ACC#32))) (FloatOps.ofBits .f32 0x322BCC77#32)))
    (FloatOps.mulf (FloatOps.ofBits .f32 0x3C23D70A#32) w))

/-- A block of `R` rows and `C` columns without its two unit axes. -/
theorem drop {R C : Nat} (v : Vec Ideal ⟨4, ![1, 1, R, C]⟩ .f32) (h) :
    shapeCast (⟨2, ![R, C]⟩ : Shape) v h = fun i => v (ix4 (0 : Fin 1) (0 : Fin 1) (i 0) (i 1)) := by
  funext i
  refine shapeCast_apply _ _ i (ix4 (0 : Fin 1) (0 : Fin 1) (i 0) (i 1)) ?_
  rw [Shape.rowMajor_val_four, Shape.rowMajor_val_two]
  show (((0 * 1 + 0) * R + (i 0).val) * C + (i 1).val) = (i 0).val * C + (i 1).val
  simp only [Nat.zero_mul, Nat.zero_add, Nat.add_zero]

/-- A block with two unit axes in front. -/
theorem lift {R C : Nat} (v : Vec Ideal ⟨2, ![R, C]⟩ .f32) (h) :
    shapeCast (⟨4, ![1, 1, R, C]⟩ : Shape) v h = fun i => v (ix2 (i 2) (i 3)) := by
  funext i
  refine shapeCast_apply _ _ i (ix2 (i 2) (i 3)) ?_
  rw [Shape.rowMajor_val_four, Shape.rowMajor_val_two]
  have h0 : (i 0).val < 1 := (i 0).isLt
  have h1 : (i 1).val < 1 := (i 1).isLt
  have e0 : (i 0).val = 0 := by omega
  have e1 : (i 1).val = 0 := by omega
  show (i 2).val * C + (i 3).val = (((i 0).val * 1 + (i 1).val) * R + (i 2).val) * C + (i 3).val
  rw [e0, e1]
  simp only [Nat.zero_mul, Nat.zero_add, Nat.add_zero]

/-- An entry of a block by its row and column. -/
theorem eta {R C : Nat} (y : (⟨4, ![1, 1, R, C]⟩ : Shape).Idx) : ix4 (0 : Fin 1) (0 : Fin 1) (y 2) (y 3) = y := funext fun a => match a with
  | ⟨0, _⟩ => Subsingleton.elim (α := Fin 1) _ _
  | ⟨1, _⟩ => Subsingleton.elim (α := Fin 1) _ _
  | ⟨2, _⟩ => rfl
  | ⟨3, _⟩ => rfl

/-- A choice between two blocks, entry by entry. -/
theorem select_fun {s : Shape} (k : BitVec 1) (x y : Vec Ideal s .f32) : Scalar.select k x y = fun i => Scalar.select k (x i) (y i) := by
  unfold Scalar.select
  split <;> rfl

/-- A place of an array is in the block of its layer, its half and its row's tile. -/
theorem within {L H R C : Nat} (r : Nat) (hr : 0 < r) (f : Fin 4 → Nat) (i : (⟨4, ![L, H, R, C]⟩ : Shape).Idx) (e0 : f 0 = (i 0).val)
    (e1 : f 1 = (i 1).val) (e2 : f 2 = (i 2).val / r) (e3 : f 3 = 0) (a : Fin 4) :
    f a * (⟨4, ![1, 1, r, C]⟩ : Shape).size a ≤ (i a).val
    ∧ (i a).val < f a * (⟨4, ![1, 1, r, C]⟩ : Shape).size a + (⟨4, ![1, 1, r, C]⟩ : Shape).size a := by
  match a with
  | ⟨0, _⟩ => show f 0 * 1 ≤ (i 0).val ∧ (i 0).val < f 0 * 1 + 1; omega
  | ⟨1, _⟩ => show f 1 * 1 ≤ (i 1).val ∧ (i 1).val < f 1 * 1 + 1; omega
  | ⟨2, _⟩ =>
    show f 2 * r ≤ (i 2).val ∧ (i 2).val < f 2 * r + r
    rw [e2]
    exact ⟨Nat.div_mul_le_self _ _, Nat.lt_div_mul_add hr⟩
  | ⟨3, _⟩ =>
    have h3 : (i 3).val < C := (i 3).isLt
    show f 3 * C ≤ (i 3).val ∧ (i 3).val < f 3 * C + C
    rw [e3, Nat.zero_mul, Nat.zero_add]
    exact ⟨Nat.zero_le _, h3⟩

/-- Choosing between two equal gradients. -/
theorem pick_self (w k : BitVec 32) (g : Ideal .f32) : pick w k g g = g := by
  unfold pick Scalar.select
  split <;> rfl

end Opt
-- ==== Proof.Opt.Matrix.lean ====
/-
  The optimiser's step on the feed-forward matrices of both layers, entry by entry: the call's four results at an entry of a block are the gradient
  chosen between the two halves, the change and the two moments, the reference's are the same at the entry's place, and the blocks cover the array.
-/
module

public import proofs.«01_k».proof.Defs
public import proofs.«01_k».proof.Proof.Opt.Step
public import proofs.«01_k».proof.Proof.Gen.Kernel6Ideal.Frame
public import proofs.«01_k».proof.Proof.Gen.Reference6Ideal.Run
public import proofs.«01_k».proof.Proof.Gen.Reference6Ideal.Read

@[expose] public section

set_option maxRecDepth 16384

noncomputable section

namespace Opt.Matrix

open Idealize.ShloMosaic Idealize.ShloMosaic.TcCoe Idealize.SL.Sem
open Cert.Kernel6Ideal Cert.Kernel6Ideal.Gen
open Cert.Reference6Ideal.Read
open Idealize.ShloMosaic.Pipeline (Dat)

section stores
variable {c : Dev nD} {i : grid0.Coords} {a4 a9 a10 a11 a12 a13 a14 : Memref sig .tc .vmem S1x1x352x1024 .f32}
  {a5 a6 a7 a8 : Memref sig .tc .vmem S352x1024 .f32}
  {h4 : a4.IsWhole} {h5 : a5.IsWhole} {h6 : a6.IsWhole} {h7 : a7.IsWhole} {h8 : a8.IsWhole} {h9 : a9.IsWhole} {h10 : a10.IsWhole}
  {h11 : a11.IsWhole} {h12 : a12.IsWhole} {h13 : a13.IsWhole} {h14 : a14.IsWhole}
  {x0 x5 x6 : Vec Ideal S1x1x352x1024 .f32} {x1 x2 x3 x4 : Vec Ideal S352x1024 .f32}
  {xt : TbBuf0 (F := Ideal) c tbM0_0} {y : S1x1x352x1024.Idx}

/-- The gradient at an entry of the block: the second layer's or the first's. -/
abbrev gAt (i : grid0.Coords) (x1 x2 x3 x4 : Vec Ideal S352x1024 .f32) (xt : IVec S1 32) (y : S1x1x352x1024.Idx) : Ideal .f32 :=
  Scalar.select (IntOp.cmpi .eq (BitVec.ofNat 32 (i 0).val) 1#32)
    (pick (xt (ix1 (0 : Fin 1))) (BitVec.ofNat 32 (i 1).val) (x3 (ix2 (y 2) (y 3))) (x4 (ix2 (y 2) (y 3))))
    (pick (xt (ix1 (0 : Fin 1))) (BitVec.ofNat 32 (i 1).val) (x1 (ix2 (y 2) (y 3))) (x2 (ix2 (y 2) (y 3))))

/-- The table has one entry. -/
theorem read_one : ∀ h, View.read (Elt Ideal) (View.whole main_arg0) xt (Shape.Idx.first (s := S1) h) = xt (ix1 (0 : Fin 1)) := fun _ =>
  congrArg xt (funext fun a => match a with | ⟨0, _⟩ => Subsingleton.elim (α := Fin 1) _ _)

theorem out_g : out0_A_7 c i a4 h4 a5 h5 a6 h6 a7 h7 a8 h8 a9 h9 a10 h10 a11 h11 a12 h12 a13 h13 a14 h14 x0 x1 x2 x3 x4 x5 x6 xt y = gAt i x1 x2 x3 x4 xt y := by
  frame_out [k0_pay1, k0_pay5]
  rw [lift, select_fun, select_fun, select_fun, read_one]
  rfl

theorem out_d : out0_A_8 c i a4 h4 a5 h5 a6 h6 a7 h7 a8 h8 a9 h9 a10 h10 a11 h11 a12 h12 a13 h13 a14 h14 x0 x1 x2 x3 x4 x5 x6 xt y = change (gAt i x1 x2 x3 x4 xt y) (x5 y) (x6 y) (x0 y) := by
  frame_out [k0_pay2, k0_pay8, k0_pay9, k0_pay6, k0_pay7, k0_pay5]
  rw [lift, select_fun, select_fun, select_fun, drop, drop, drop, read_one, ← congrArg x5 (eta y), ← congrArg x6 (eta y), ← congrArg x0 (eta y)]
  rfl

theorem out_m : out0_A_9 c i a4 h4 a5 h5 a6 h6 a7 h7 a8 h8 a9 h9 a10 h10 a11 h11 a12 h12 a13 h13 a14 h14 x0 x1 x2 x3 x4 x5 x6 xt y = mean (gAt i x1 x2 x3 x4 xt y) (x5 y) := by
  frame_out [k0_pay3, k0_pay6, k0_pay5]
  rw [lift, select_fun, select_fun, select_fun, drop, read_one, ← congrArg x5 (eta y)]
  rfl

theorem out_v : out0_A_10 c i a4 h4 a5 h5 a6 h6 a7 h7 a8 h8 a9 h9 a10 h10 a11 h11 a12 h12 a13 h13 a14 h14 x0 x1 x2 x3 x4 x5 x6 xt y = square (gAt i x1 x2 x3 x4 xt y) (x6 y) := by
  frame_out [k0_pay4, k0_pay7, k0_pay5]
  rw [lift, select_fun, select_fun, select_fun, drop, read_one, ← congrArg x6 (eta y)]
  rfl

end stores

variable (m : (ℓ : Loc nD τ sig) → Buf (Elt Ideal) ℓ) (c : Dev nD)

/-- An array the program was handed. -/
abbrev arr (b : Ref sig .tc) : Buf (Elt Ideal) ((c : Thread nD τ).loc b) := m ((c : Thread nD τ).loc b)

/-- The reference's results, of the arrays the program was handed. -/
abbrev resG : Buf (Elt Ideal) ((c : Thread nD τ).loc main_v0_0) := val_main_v14 (F := Ideal) (arr m c main_arg0) (arr m c main_arg2) (arr m c main_arg3) (arr m c main_arg4) (arr m c main_arg5)
abbrev resD : Buf (Elt Ideal) ((c : Thread nD τ).loc main_v0_1) :=
  val_main_v38 (F := Ideal) (arr m c main_arg0) (arr m c main_arg1) (arr m c main_arg2) (arr m c main_arg3) (arr m c main_arg4) (arr m c main_arg5) (arr m c main_arg6) (arr m c main_arg7)
abbrev resM : Buf (Elt Ideal) ((c : Thread nD τ).loc main_v0_2) := val_main_v19 (F := Ideal) (arr m c main_arg0) (arr m c main_arg2) (arr m c main_arg3) (arr m c main_arg4) (arr m c main_arg5) (arr m c main_arg6)
abbrev resV : Buf (Elt Ideal) ((c : Thread nD τ).loc main_v0_3) := val_main_v25 (F := Ideal) (arr m c main_arg0) (arr m c main_arg2) (arr m c main_arg3) (arr m c main_arg4) (arr m c main_arg5) (arr m c main_arg7)

/-- The reference's gradient of the first layer: the half of the device's own number from the device's own sums, the other from the
    other device's. -/
theorem ref_0 (j : Cert.Reference6Ideal.S1x2x352x1024.Idx) : val_main_v12 (F := Ideal) (arr m c main_arg0) (arr m c main_arg2) (arr m c main_arg3) j
    = pick (arr m c main_arg0 (ix1 (0 : Fin 1))) (BitVec.ofNat 32 (j 1).val) (arr m c main_arg2 (ix2 (j 2) (j 3))) (arr m c main_arg3 (ix2 (j 2) (j 3))) := by
  rw [val_main_v12_apply, val_main_v5_apply, val_main_call0_v0_apply, val_main_call0_v1_apply, val_main_call0_v2_apply, val_main_v4_apply,
    val_main_v1_apply, val_main_v3_apply, val_main_v0_apply]
  unfold val_main_v2
  rw [shapeCast_apply _ _ _ (ix1 (0 : Fin 1)) (by rfl)]
  exact congrArg₂ (Scalar.select _)
    (congrArg (arr m c main_arg2) (funext fun a => match a with
      | ⟨0, _⟩ => rfl
      | ⟨1, _⟩ => rfl))
    (congrArg (arr m c main_arg3) (funext fun a => match a with
      | ⟨0, _⟩ => rfl
      | ⟨1, _⟩ => rfl))

/-- The second layer's. -/
theorem ref_1 (j : Cert.Reference6Ideal.S1x2x352x1024.Idx) : val_main_v13 (F := Ideal) (arr m c main_arg0) (arr m c main_arg4) (arr m c main_arg5) j
    = pick (arr m c main_arg0 (ix1 (0 : Fin 1))) (BitVec.ofNat 32 (j 1).val) (arr m c main_arg4 (ix2 (j 2) (j 3))) (arr m c main_arg5 (ix2 (j 2) (j 3))) := by
  rw [val_main_v13_apply, val_main_v11_apply, val_main_call1_v0_apply, val_main_call1_v1_apply, val_main_call1_v2_apply, val_main_v10_apply,
    val_main_v7_apply, val_main_v9_apply, val_main_v6_apply]
  unfold val_main_v8
  rw [shapeCast_apply _ _ _ (ix1 (0 : Fin 1)) (by rfl)]
  exact congrArg₂ (Scalar.select _)
    (congrArg (arr m c main_arg4) (funext fun a => match a with
      | ⟨0, _⟩ => rfl
      | ⟨1, _⟩ => rfl))
    (congrArg (arr m c main_arg5) (funext fun a => match a with
      | ⟨0, _⟩ => rfl
      | ⟨1, _⟩ => rfl))

/-- The layers are stacked: an entry of the first layer, -/
theorem stack_0 (j : S2x2x352x1024.Idx) (hj : (j 0).val = 0) : resG m c j
    = pick (arr m c main_arg0 (ix1 (0 : Fin 1))) (BitVec.ofNat 32 (j 1).val) (arr m c main_arg2 (ix2 (j 2) (j 3))) (arr m c main_arg3 (ix2 (j 2) (j 3))) := by
  refine Eq.trans ?_ (ref_0 m c (ix4 (0 : Fin 1) (j 1) (j 2) (j 3)))
  unfold resG val_main_v14
  exact concatenate_pair_apply_left (t := S2x2x352x1024) (s₁ := Cert.Reference6Ideal.S1x2x352x1024) (s₂ := Cert.Reference6Ideal.S1x2x352x1024) 0 _ _ _ j rfl (ix4 (0 : Fin 1) (j 1) (j 2) (j 3)) fun b => match b with
    | ⟨0, _⟩ => hj.symm
    | ⟨1, _⟩ => rfl
    | ⟨2, _⟩ => rfl
    | ⟨3, _⟩ => rfl

/-- and one of the second. -/
theorem stack_1 (j : S2x2x352x1024.Idx) (hj : (j 0).val = 1) : resG m c j
    = pick (arr m c main_arg0 (ix1 (0 : Fin 1))) (BitVec.ofNat 32 (j 1).val) (arr m c main_arg4 (ix2 (j 2) (j 3))) (arr m c main_arg5 (ix2 (j 2) (j 3))) := by
  refine Eq.trans ?_ (ref_1 m c (ix4 (0 : Fin 1) (j 1) (j 2) (j 3)))
  unfold resG val_main_v14
  exact concatenate_pair_apply_right (t := S2x2x352x1024) (s₁ := Cert.Reference6Ideal.S1x2x352x1024) (s₂ := Cert.Reference6Ideal.S1x2x352x1024) 0 _ _ _ j rfl rfl (ix4 (0 : Fin 1) (j 1) (j 2) (j 3))
    (fun b hb => match b, hb with
      | ⟨0, _⟩, hb => absurd rfl hb
      | ⟨1, _⟩, _ => rfl
      | ⟨2, _⟩, _ => rfl
      | ⟨3, _⟩, _ => rfl)
    (by rw [hj]; rfl)

theorem ok : Ok m := trivial

/-- The block's index at a grid point. -/
abbrev at7 (t : Fin grid0.N) : Fin 4 → Nat := cc0_transform_7 (grid0.coords t)

theorem facts : ∀ t : Fin grid0.N, at7 t 1 = (grid0.coords t 1).val
    ∧ ((IntOp.cmpi .eq (BitVec.ofNat 32 (grid0.coords t 0).val) 1#32 = 0#1 ∧ at7 t 0 = 0
        ∧ cc0_transform_1 (grid0.coords t) 0 = at7 t 2 ∧ cc0_transform_2 (grid0.coords t) 0 = at7 t 2)
      ∨ (IntOp.cmpi .eq (BitVec.ofNat 32 (grid0.coords t 0).val) 1#32 = 1#1 ∧ at7 t 0 = 1
        ∧ cc0_transform_3 (grid0.coords t) 0 = at7 t 2 ∧ cc0_transform_4 (grid0.coords t) 0 = at7 t 2)) := by decide +kernel

/-- The place in the array of an entry of the block at a grid point. -/
abbrev place (t : Fin (cfgM m (ok m)).N) (y : S1x1x352x1024.Idx) : S2x2x352x1024.Idx := (((cfgM m (ok m)).win 7).blk t).view.emb y

/-- The gradients at an entry of the block. -/
theorem blk_1 (t : Fin (cfgM m (ok m)).N) (y : S1x1x352x1024.Idx) (e0 : cc0_transform_1 (grid0.coords t) 0 = at7 t 2) :
    iblk m (ok m) c 1 t (ix2 (y 2) (y 3)) = arr m c main_arg2 (ix2 (place m t y 2) (place m t y 3)) := by
  refine congrArg (arr m c main_arg2) (funext fun a => Fin.ext ?_)
  match a with
  | ⟨0, _⟩ => show cc0_transform_1 (grid0.coords t) 0 * 352 + 1 * (y 2).val = at7 t 2 * 352 + 1 * (y 2).val; rw [e0]
  | ⟨1, _⟩ => rfl

theorem blk_2 (t : Fin (cfgM m (ok m)).N) (y : S1x1x352x1024.Idx) (e0 : cc0_transform_2 (grid0.coords t) 0 = at7 t 2) :
    iblk m (ok m) c 2 t (ix2 (y 2) (y 3)) = arr m c main_arg3 (ix2 (place m t y 2) (place m t y 3)) := by
  refine congrArg (arr m c main_arg3) (funext fun a => Fin.ext ?_)
  match a with
  | ⟨0, _⟩ => show cc0_transform_2 (grid0.coords t) 0 * 352 + 1 * (y 2).val = at7 t 2 * 352 + 1 * (y 2).val; rw [e0]
  | ⟨1, _⟩ => rfl

theorem blk_3 (t : Fin (cfgM m (ok m)).N) (y : S1x1x352x1024.Idx) (e0 : cc0_transform_3 (grid0.coords t) 0 = at7 t 2) :
    iblk m (ok m) c 3 t (ix2 (y 2) (y 3)) = arr m c main_arg4 (ix2 (place m t y 2) (place m t y 3)) := by
  refine congrArg (arr m c main_arg4) (funext fun a => Fin.ext ?_)
  match a with
  | ⟨0, _⟩ => show cc0_transform_3 (grid0.coords t) 0 * 352 + 1 * (y 2).val = at7 t 2 * 352 + 1 * (y 2).val; rw [e0]
  | ⟨1, _⟩ => rfl

theorem blk_4 (t : Fin (cfgM m (ok m)).N) (y : S1x1x352x1024.Idx) (e0 : cc0_transform_4 (grid0.coords t) 0 = at7 t 2) :
    iblk m (ok m) c 4 t (ix2 (y 2) (y 3)) = arr m c main_arg5 (ix2 (place m t y 2) (place m t y 3)) := by
  refine congrArg (arr m c main_arg5) (funext fun a => Fin.ext ?_)
  match a with
  | ⟨0, _⟩ => show cc0_transform_4 (grid0.coords t) 0 * 352 + 1 * (y 2).val = at7 t 2 * 352 + 1 * (y 2).val; rw [e0]
  | ⟨1, _⟩ => rfl

theorem word : tbl m 0 (ix1 (0 : Fin 1)) = arr m c main_arg0 (ix1 (0 : Fin 1)) := by
  obtain rfl : c = 0 := Subsingleton.elim _ _
  rfl

theorem g_at (t : Fin (cfgM m (ok m)).N) (y : S1x1x352x1024.Idx) :
    gAt (grid0.coords t) (iblk m (ok m) c 1 t) (iblk m (ok m) c 2 t) (iblk m (ok m) c 3 t) (iblk m (ok m) c 4 t) (tbl m 0) y = resG m c (place m t y) := by
  obtain ⟨e1, hl⟩ := facts t
  have hy0 : (y 0).val < 1 := (y 0).isLt
  have hy : (y 1).val < 1 := (y 1).isLt
  have e : (place m t y 1).val = (grid0.coords t 1).val := by
    show at7 t 1 * 1 + 1 * (y 1).val = _
    rw [e1]; omega
  have l : (place m t y 0).val = at7 t 0 := by
    show at7 t 0 * 1 + 1 * (y 0).val = _
    omega
  unfold gAt
  rcases hl with ⟨k, z, e2, e3⟩ | ⟨k, z, e2, e3⟩
  · refine Eq.trans ?_ (stack_0 m c _ (l.trans z)).symm
    rw [k, e, blk_1 m c t y e2, blk_2 m c t y e3, word m c]
    rfl
  · refine Eq.trans ?_ (stack_1 m c _ (l.trans z)).symm
    rw [k, e, blk_3 m c t y e2, blk_4 m c t y e3, word m c]
    rfl

/-- The four blocks written at a grid point are the results' blocks. -/
theorem outs (t : Fin (cfgM m (ok m)).N) (y : S1x1x352x1024.Idx) :
    (outsAt0 m (ok m) c t).1 y = resG m c (place m t y) ∧ (outsAt0 m (ok m) c t).2.1 y = resD m c (place m t y)
    ∧ (outsAt0 m (ok m) c t).2.2.1 y = resM m c (place m t y) ∧ (outsAt0 m (ok m) c t).2.2.2 y = resV m c (place m t y) := by
  unfold outsAt0
  dsimp only
  exact ⟨out_g.trans (g_at m c t y), out_d.trans (congrArg (fun e => change e _ _ _) (g_at m c t y)),
    out_m.trans (congrArg (fun e => mean e _) (g_at m c t y)), out_v.trans (congrArg (fun e => square e _) (g_at m c t y))⟩

/-- Some grid point has any given block. -/
theorem point : ∀ (l h : Fin 2) (k : Fin 1), ∃ t : Fin grid0.N, at7 t 0 = l.val ∧ at7 t 1 = h.val ∧ at7 t 2 = k.val ∧ at7 t 3 = 0 := by decide +kernel

/-- Every place of the array is in some block. -/
theorem tile (i : S2x2x352x1024.Idx) : ∃ t : Fin grid0.N, ∀ a : Fin 4, at7 t a * S1x1x352x1024.size a ≤ (i a).val
    ∧ (i a).val < at7 t a * S1x1x352x1024.size a + S1x1x352x1024.size a := by
  have h2 : (i 2).val < 352 := (i 2).isLt
  obtain ⟨t, e0, e1, e2, e3⟩ := point (i 0) (i 1) ⟨(i 2).val / 352, by omega⟩
  exact ⟨t, within 352 (by decide) (at7 t) i e0 e1 e2 e3⟩

theorem flushed_g (t : Fin (cfgM m (ok m)).N) :
    (dats m (ok m) 0 c).flushed 7 t = (((cfgM m (ok m)).win 9).blk t).view.read (Elt Ideal) (resG m c) := by
  show ((cfgM m (ok m)).win 9).cut (grid0.coords t) ((dats m (ok m) 0 c).after 7 t) = _
  rw [after0_7]
  exact funext fun (y : S1x1x352x1024.Idx) => (outs m c t y).1

theorem final_g : (dats m (ok m) 0 c).arrAt 7 (cfgM m (ok m)).N = resG m c :=
  (dats m (ok m) 0 c).arrAt_eq_of_cover 7 (resG m c) (fun t _ => flushed_g m c t) fun (i : S2x2x352x1024.Idx) => by
    obtain ⟨t, ht⟩ := tile i
    refine ⟨t, flush0_7 _ t, ?_⟩
    show i ∈ ((View.whole main_v0_0).slice (((cfgM m (ok m)).win 9).rect t)).set
    erw [View.set_slice_whole]
    exact (Pipeline.Window.mem_rect_iff ((cfgM m (ok m)).win 9) t i (by rfl)).mpr ht

theorem flushed_d (t : Fin (cfgM m (ok m)).N) :
    (dats m (ok m) 0 c).flushed 8 t = (((cfgM m (ok m)).win 8).blk t).view.read (Elt Ideal) (resD m c) := by
  show ((cfgM m (ok m)).win 8).cut (grid0.coords t) ((dats m (ok m) 0 c).after 8 t) = _
  rw [after0_8]
  exact funext fun (y : S1x1x352x1024.Idx) => (outs m c t y).2.1

theorem final_d : (dats m (ok m) 0 c).arrAt 8 (cfgM m (ok m)).N = resD m c :=
  (dats m (ok m) 0 c).arrAt_eq_of_cover 8 (resD m c) (fun t _ => flushed_d m c t) fun (i : S2x2x352x1024.Idx) => by
    obtain ⟨t, ht⟩ := tile i
    refine ⟨t, flush0_8 _ t, ?_⟩
    show i ∈ ((View.whole main_v0_1).slice (((cfgM m (ok m)).win 8).rect t)).set
    erw [View.set_slice_whole]
    exact (Pipeline.Window.mem_rect_iff ((cfgM m (ok m)).win 8) t i (by rfl)).mpr ht

theorem flushed_m (t : Fin (cfgM m (ok m)).N) :
    (dats m (ok m) 0 c).flushed 9 t = (((cfgM m (ok m)).win 9).blk t).view.read (Elt Ideal) (resM m c) := by
  show ((cfgM m (ok m)).win 9).cut (grid0.coords t) ((dats m (ok m) 0 c).after 9 t) = _
  rw [after0_9]
  exact funext fun (y : S1x1x352x1024.Idx) => (outs m c t y).2.2.1

theorem final_m : (dats m (ok m) 0 c).arrAt 9 (cfgM m (ok m)).N = resM m c :=
  (dats m (ok m) 0 c).arrAt_eq_of_cover 9 (resM m c) (fun t _ => flushed_m m c t) fun (i : S2x2x352x1024.Idx) => by
    obtain ⟨t, ht⟩ := tile i
    refine ⟨t, flush0_9 _ t, ?_⟩
    show i ∈ ((View.whole main_v0_2).slice (((cfgM m (ok m)).win 9).rect t)).set
    erw [View.set_slice_whole]
    exact (Pipeline.Window.mem_rect_iff ((cfgM m (ok m)).win 9) t i (by rfl)).mpr ht

theorem flushed_v (t : Fin (cfgM m (ok m)).N) :
    (dats m (ok m) 0 c).flushed 10 t = (((cfgM m (ok m)).win 10).blk t).view.read (Elt Ideal) (resV m c) := by
  show ((cfgM m (ok m)).win 10).cut (grid0.coords t) ((dats m (ok m) 0 c).after 10 t) = _
  rw [after0_10]
  exact funext fun (y : S1x1x352x1024.Idx) => (outs m c t y).2.2.2

theorem final_v : (dats m (ok m) 0 c).arrAt 10 (cfgM m (ok m)).N = resV m c :=
  (dats m (ok m) 0 c).arrAt_eq_of_cover 10 (resV m c) (fun t _ => flushed_v m c t) fun (i : S2x2x352x1024.Idx) => by
    obtain ⟨t, ht⟩ := tile i
    refine ⟨t, flush0_10 _ t, ?_⟩
    show i ∈ ((View.whole main_v0_3).slice (((cfgM m (ok m)).win 10).rect t)).set
    erw [View.set_slice_whole]
    exact (Pipeline.Window.mem_rect_iff ((cfgM m (ok m)).win 10) t i (by rfl)).mpr ht

/-- The two programs end with the same four arrays. -/
theorem algebraic : Cert.algebraic_Kernel6Ideal_Reference6Ideal := by
  intro m g m' g' _ hagree
  refine ⟨fun c => resG m c, fun c => resD m c, fun c => resM m c, fun c => resV m c,
    (θ_run defs _ _).mono (fun _ h c => ⟨((h.1 c).1 7).trans (final_g m c), ((h.1 c).1 8).trans (final_d m c),
      ((h.1 c).1 9).trans (final_m m c), ((h.1 c).1 10).trans (final_v m c), h.2 c⟩)
    (θ_run_and (run_main m g (ok m)) (unchanged m g (ok m))), ?_⟩
  refine (θ_run _ _ _).mono (fun r h c => ?_) (Cert.Reference6Ideal.Value.run (F := Ideal) m' g')
  obtain ⟨h0, h1, h2, h3, hk⟩ := h c
  obtain ⟨e0, e1, e2, e3, e4, e5, e6, e7⟩ := hagree c
  refine ⟨h0.trans ((val_main_v14_eq (F := Ideal) _ _ _ _ _).trans ?_), h1.trans ((val_main_v38_eq (F := Ideal) _ _).trans ?_), h2.trans ((val_main_v19_eq (F := Ideal) _ _ _ _ _ _).trans ?_), h3.trans ((val_main_v25_eq (F := Ideal) _ _ _ _ _ _).trans ?_), hk⟩ <;> simp only [e0, e1, e2, e3, e4, e5, e6, e7]

end Opt.Matrix
-- ==== Proof.Opt.Pool.lean ====
/-
  The optimiser's step on the pooling and attention output matrices, entry by entry: the call's four results at an entry of a block are the gradient
  chosen between the two halves, the change and the two moments, the reference's are the same at the entry's place, and the blocks cover the array.
-/
module

public import proofs.«01_k».proof.Defs
public import proofs.«01_k».proof.Proof.Opt.Step
public import proofs.«01_k».proof.Proof.Gen.Kernel7Ideal.Frame
public import proofs.«01_k».proof.Proof.Gen.Reference7Ideal.Run
public import proofs.«01_k».proof.Proof.Gen.Reference7Ideal.Read

@[expose] public section

set_option maxRecDepth 16384

noncomputable section

namespace Opt.Pool

open Idealize.ShloMosaic Idealize.ShloMosaic.TcCoe Idealize.SL.Sem
open Cert.Kernel7Ideal Cert.Kernel7Ideal.Gen
open Cert.Reference7Ideal.Read
open Idealize.ShloMosaic.Pipeline (Dat)

section stores
variable {c : Dev nD} {i : grid0.Coords} {a4 a7 a8 a9 a10 a11 a12 : Memref sig .tc .vmem S1x1x128x1024 .f32} {a5 a6 : Memref sig .tc .vmem S128x1024 .f32}
  {h4 : a4.IsWhole} {h5 : a5.IsWhole} {h6 : a6.IsWhole} {h7 : a7.IsWhole} {h8 : a8.IsWhole} {h9 : a9.IsWhole} {h10 : a10.IsWhole}
  {h11 : a11.IsWhole} {h12 : a12.IsWhole} {x0 x3 x4 : Vec Ideal S1x1x128x1024 .f32} {x1 x2 : Vec Ideal S128x1024 .f32}
  {xt : TbBuf0 (F := Ideal) c tbM0_0} {y : S1x1x128x1024.Idx}

/-- The gradient at an entry of the block. -/
abbrev gAt (i : grid0.Coords) (x1 x2 : Vec Ideal S128x1024 .f32) (xt : IVec S1 32) (y : S1x1x128x1024.Idx) : Ideal .f32 :=
  pick (xt (ix1 (0 : Fin 1))) (BitVec.ofNat 32 (i 1).val) (x1 (ix2 (y 2) (y 3))) (x2 (ix2 (y 2) (y 3)))

/-- The table has one entry. -/
theorem read_one : ∀ h, View.read (Elt Ideal) (View.whole main_arg0) xt (Shape.Idx.first (s := S1) h) = xt (ix1 (0 : Fin 1)) := fun _ =>
  congrArg xt (funext fun a => match a with | ⟨0, _⟩ => Subsingleton.elim (α := Fin 1) _ _)

theorem out_g : out0_A_5 c i a4 h4 a5 h5 a6 h6 a7 h7 a8 h8 a9 h9 a10 h10 a11 h11 a12 h12 x0 x1 x2 x3 x4 xt y = gAt i x1 x2 xt y := by
  frame_out [k0_pay7, k0_pay4]
  rw [lift, select_fun, read_one]
  rfl

theorem out_d : out0_A_6 c i a4 h4 a5 h5 a6 h6 a7 h7 a8 h8 a9 h9 a10 h10 a11 h11 a12 h12 x0 x1 x2 x3 x4 xt y = change (gAt i x1 x2 xt y) (x3 y) (x4 y) (x0 y) := by
  frame_out [k0_pay1, k0_pay8, k0_pay5, k0_pay6, k0_pay4]
  rw [lift, select_fun, drop, drop, drop, read_one, ← congrArg x3 (eta y), ← congrArg x4 (eta y), ← congrArg x0 (eta y)]
  rfl

theorem out_m : out0_A_7 c i a4 h4 a5 h5 a6 h6 a7 h7 a8 h8 a9 h9 a10 h10 a11 h11 a12 h12 x0 x1 x2 x3 x4 xt y = mean (gAt i x1 x2 xt y) (x3 y) := by
  frame_out [k0_pay2, k0_pay5, k0_pay4]
  rw [lift, select_fun, drop, read_one, ← congrArg x3 (eta y)]
  rfl

theorem out_v : out0_A_8 c i a4 h4 a5 h5 a6 h6 a7 h7 a8 h8 a9 h9 a10 h10 a11 h11 a12 h12 x0 x1 x2 x3 x4 xt y = square (gAt i x1 x2 xt y) (x4 y) := by
  frame_out [k0_pay3, k0_pay6, k0_pay4]
  rw [lift, select_fun, drop, read_one, ← congrArg x4 (eta y)]
  rfl

end stores

variable (m : (ℓ : Loc nD τ sig) → Buf (Elt Ideal) ℓ) (c : Dev nD)

/-- An array the program was handed. -/
abbrev arr (b : Ref sig .tc) : Buf (Elt Ideal) ((c : Thread nD τ).loc b) := m ((c : Thread nD τ).loc b)

/-- The reference's results, of the arrays the program was handed. -/
abbrev resG : Buf (Elt Ideal) ((c : Thread nD τ).loc main_v0_0) := val_main_v6 (F := Ideal) (arr m c main_arg0) (arr m c main_arg2) (arr m c main_arg3)
abbrev resD : Buf (Elt Ideal) ((c : Thread nD τ).loc main_v0_1) :=
  val_main_v30 (F := Ideal) (arr m c main_arg0) (arr m c main_arg1) (arr m c main_arg2) (arr m c main_arg3) (arr m c main_arg4) (arr m c main_arg5)
abbrev resM : Buf (Elt Ideal) ((c : Thread nD τ).loc main_v0_2) := val_main_v11 (F := Ideal) (arr m c main_arg0) (arr m c main_arg2) (arr m c main_arg3) (arr m c main_arg4)
abbrev resV : Buf (Elt Ideal) ((c : Thread nD τ).loc main_v0_3) := val_main_v17 (F := Ideal) (arr m c main_arg0) (arr m c main_arg2) (arr m c main_arg3) (arr m c main_arg5)

/-- The reference's gradient: the half of the device's own number from the device's own sums, the other from the other device's. -/
theorem ref_g (j : S1x2x128x1024.Idx) : resG m c j
    = pick (arr m c main_arg0 (ix1 (0 : Fin 1))) (BitVec.ofNat 32 (j 1).val) (arr m c main_arg2 (ix2 (j 2) (j 3))) (arr m c main_arg3 (ix2 (j 2) (j 3))) := by
  unfold resG
  rw [val_main_v6_apply, val_main_v5_apply, val_main_call0_v0_apply, val_main_call0_v1_apply, val_main_call0_v2_apply, val_main_v4_apply,
    val_main_v1_apply, val_main_v3_apply, val_main_v0_apply]
  unfold val_main_v2
  rw [shapeCast_apply _ _ _ (ix1 (0 : Fin 1)) (by rfl)]
  exact congrArg₂ (Scalar.select _)
    (congrArg (arr m c main_arg2) (funext fun a => match a with
      | ⟨0, _⟩ => rfl
      | ⟨1, _⟩ => rfl))
    (congrArg (arr m c main_arg3) (funext fun a => match a with
      | ⟨0, _⟩ => rfl
      | ⟨1, _⟩ => rfl))

theorem ok : Ok m := trivial

/-- The block's index at a grid point. -/
abbrev at5 (t : Fin grid0.N) : Fin 4 → Nat := cc0_transform_5 (grid0.coords t)

theorem facts : ∀ t : Fin grid0.N, (cc0_transform_1 (grid0.coords t) 0 = at5 t 2 ∧ cc0_transform_1 (grid0.coords t) 1 = 0)
    ∧ (cc0_transform_2 (grid0.coords t) 0 = at5 t 2 ∧ cc0_transform_2 (grid0.coords t) 1 = 0)
    ∧ at5 t 1 = (grid0.coords t 1).val ∧ at5 t 3 = 0 := by decide +kernel

/-- The place in the array of an entry of the block at a grid point. -/
abbrev place (t : Fin (cfgM m (ok m)).N) (y : S1x1x128x1024.Idx) : S1x2x128x1024.Idx := (((cfgM m (ok m)).win 5).blk t).view.emb y

/-- The two gradients at an entry of the block. -/
theorem blk_own (t : Fin (cfgM m (ok m)).N) (y : S1x1x128x1024.Idx) :
    iblk m (ok m) c 1 t (ix2 (y 2) (y 3)) = arr m c main_arg2 (ix2 (place m t y 2) (place m t y 3)) := by
  obtain ⟨⟨e0, e1⟩, -, -, e3⟩ := facts t
  refine congrArg (arr m c main_arg2) (funext fun a => Fin.ext ?_)
  match a with
  | ⟨0, _⟩ => show cc0_transform_1 (grid0.coords t) 0 * 128 + 1 * (y 2).val = at5 t 2 * 128 + 1 * (y 2).val; rw [e0]
  | ⟨1, _⟩ => show cc0_transform_1 (grid0.coords t) 1 * 1024 + 1 * (y 3).val = at5 t 3 * 1024 + 1 * (y 3).val; rw [e1, e3]

theorem blk_other (t : Fin (cfgM m (ok m)).N) (y : S1x1x128x1024.Idx) :
    iblk m (ok m) c 2 t (ix2 (y 2) (y 3)) = arr m c main_arg3 (ix2 (place m t y 2) (place m t y 3)) := by
  obtain ⟨-, ⟨e0, e1⟩, -, e3⟩ := facts t
  refine congrArg (arr m c main_arg3) (funext fun a => Fin.ext ?_)
  match a with
  | ⟨0, _⟩ => show cc0_transform_2 (grid0.coords t) 0 * 128 + 1 * (y 2).val = at5 t 2 * 128 + 1 * (y 2).val; rw [e0]
  | ⟨1, _⟩ => show cc0_transform_2 (grid0.coords t) 1 * 1024 + 1 * (y 3).val = at5 t 3 * 1024 + 1 * (y 3).val; rw [e1, e3]

theorem word : tbl m 0 (ix1 (0 : Fin 1)) = arr m c main_arg0 (ix1 (0 : Fin 1)) := by
  obtain rfl : c = 0 := Subsingleton.elim _ _
  rfl

theorem g_at (t : Fin (cfgM m (ok m)).N) (y : S1x1x128x1024.Idx) :
    gAt (grid0.coords t) (iblk m (ok m) c 1 t) (iblk m (ok m) c 2 t) (tbl m 0) y = resG m c (place m t y) := by
  have hy : (y 1).val < 1 := (y 1).isLt
  have e : (place m t y 1).val = (grid0.coords t 1).val := by
    show at5 t 1 * 1 + 1 * (y 1).val = _
    rw [(facts t).2.2.1]; omega
  refine Eq.trans ?_ (ref_g m c _).symm
  rw [e]
  unfold gAt
  rw [blk_own, blk_other, word m c]

/-- The four blocks written at a grid point are the results' blocks. -/
theorem outs (t : Fin (cfgM m (ok m)).N) (y : S1x1x128x1024.Idx) :
    (outsAt0 m (ok m) c t).1 y = resG m c (place m t y) ∧ (outsAt0 m (ok m) c t).2.1 y = resD m c (place m t y)
    ∧ (outsAt0 m (ok m) c t).2.2.1 y = resM m c (place m t y) ∧ (outsAt0 m (ok m) c t).2.2.2 y = resV m c (place m t y) := by
  unfold outsAt0
  dsimp only
  exact ⟨out_g.trans (g_at m c t y), out_d.trans (congrArg (fun e => change e _ _ _) (g_at m c t y)),
    out_m.trans (congrArg (fun e => mean e _) (g_at m c t y)), out_v.trans (congrArg (fun e => square e _) (g_at m c t y))⟩

/-- Some grid point has any given block. -/
theorem point : ∀ (h : Fin 2) (k : Fin 1), ∃ t : Fin grid0.N, at5 t 0 = 0 ∧ at5 t 1 = h.val ∧ at5 t 2 = k.val ∧ at5 t 3 = 0 := by decide +kernel

/-- Every place of the array is in some block. -/
theorem tile (i : S1x2x128x1024.Idx) : ∃ t : Fin grid0.N, ∀ a : Fin 4, at5 t a * S1x1x128x1024.size a ≤ (i a).val
    ∧ (i a).val < at5 t a * S1x1x128x1024.size a + S1x1x128x1024.size a := by
  have h0 : (i 0).val < 1 := (i 0).isLt
  have h2 : (i 2).val < 128 := (i 2).isLt
  obtain ⟨t, e0, e1, e2, e3⟩ := point (i 1) ⟨(i 2).val / 128, by omega⟩
  exact ⟨t, within 128 (by decide) (at5 t) i (e0.trans (by omega)) e1 e2 e3⟩

theorem flushed_g (t : Fin (cfgM m (ok m)).N) :
    (dats m (ok m) 0 c).flushed 5 t = (((cfgM m (ok m)).win 5).blk t).view.read (Elt Ideal) (resG m c) := by
  show ((cfgM m (ok m)).win 5).cut (grid0.coords t) ((dats m (ok m) 0 c).after 5 t) = _
  rw [after0_5]
  exact funext fun (y : S1x1x128x1024.Idx) => (outs m c t y).1

theorem final_g : (dats m (ok m) 0 c).arrAt 5 (cfgM m (ok m)).N = resG m c :=
  (dats m (ok m) 0 c).arrAt_eq_of_cover 5 (resG m c) (fun t _ => flushed_g m c t) fun (i : S1x2x128x1024.Idx) => by
    obtain ⟨t, ht⟩ := tile i
    refine ⟨t, flush0_5 _ t, ?_⟩
    show i ∈ ((View.whole main_v0_0).slice (((cfgM m (ok m)).win 5).rect t)).set
    erw [View.set_slice_whole]
    exact (Pipeline.Window.mem_rect_iff ((cfgM m (ok m)).win 5) t i (by rfl)).mpr ht

theorem flushed_d (t : Fin (cfgM m (ok m)).N) :
    (dats m (ok m) 0 c).flushed 6 t = (((cfgM m (ok m)).win 6).blk t).view.read (Elt Ideal) (resD m c) := by
  show ((cfgM m (ok m)).win 6).cut (grid0.coords t) ((dats m (ok m) 0 c).after 6 t) = _
  rw [after0_6]
  exact funext fun (y : S1x1x128x1024.Idx) => (outs m c t y).2.1

theorem final_d : (dats m (ok m) 0 c).arrAt 6 (cfgM m (ok m)).N = resD m c :=
  (dats m (ok m) 0 c).arrAt_eq_of_cover 6 (resD m c) (fun t _ => flushed_d m c t) fun (i : S1x2x128x1024.Idx) => by
    obtain ⟨t, ht⟩ := tile i
    refine ⟨t, flush0_6 _ t, ?_⟩
    show i ∈ ((View.whole main_v0_1).slice (((cfgM m (ok m)).win 6).rect t)).set
    erw [View.set_slice_whole]
    exact (Pipeline.Window.mem_rect_iff ((cfgM m (ok m)).win 6) t i (by rfl)).mpr ht

theorem flushed_m (t : Fin (cfgM m (ok m)).N) :
    (dats m (ok m) 0 c).flushed 7 t = (((cfgM m (ok m)).win 7).blk t).view.read (Elt Ideal) (resM m c) := by
  show ((cfgM m (ok m)).win 7).cut (grid0.coords t) ((dats m (ok m) 0 c).after 7 t) = _
  rw [after0_7]
  exact funext fun (y : S1x1x128x1024.Idx) => (outs m c t y).2.2.1

theorem final_m : (dats m (ok m) 0 c).arrAt 7 (cfgM m (ok m)).N = resM m c :=
  (dats m (ok m) 0 c).arrAt_eq_of_cover 7 (resM m c) (fun t _ => flushed_m m c t) fun (i : S1x2x128x1024.Idx) => by
    obtain ⟨t, ht⟩ := tile i
    refine ⟨t, flush0_7 _ t, ?_⟩
    show i ∈ ((View.whole main_v0_2).slice (((cfgM m (ok m)).win 7).rect t)).set
    erw [View.set_slice_whole]
    exact (Pipeline.Window.mem_rect_iff ((cfgM m (ok m)).win 7) t i (by rfl)).mpr ht

theorem flushed_v (t : Fin (cfgM m (ok m)).N) :
    (dats m (ok m) 0 c).flushed 8 t = (((cfgM m (ok m)).win 8).blk t).view.read (Elt Ideal) (resV m c) := by
  show ((cfgM m (ok m)).win 8).cut (grid0.coords t) ((dats m (ok m) 0 c).after 8 t) = _
  rw [after0_8]
  exact funext fun (y : S1x1x128x1024.Idx) => (outs m c t y).2.2.2

theorem final_v : (dats m (ok m) 0 c).arrAt 8 (cfgM m (ok m)).N = resV m c :=
  (dats m (ok m) 0 c).arrAt_eq_of_cover 8 (resV m c) (fun t _ => flushed_v m c t) fun (i : S1x2x128x1024.Idx) => by
    obtain ⟨t, ht⟩ := tile i
    refine ⟨t, flush0_8 _ t, ?_⟩
    show i ∈ ((View.whole main_v0_3).slice (((cfgM m (ok m)).win 8).rect t)).set
    erw [View.set_slice_whole]
    exact (Pipeline.Window.mem_rect_iff ((cfgM m (ok m)).win 8) t i (by rfl)).mpr ht

/-- The two programs end with the same four arrays. -/
theorem algebraic : Cert.algebraic_Kernel7Ideal_Reference7Ideal := by
  intro m g m' g' _ hagree
  refine ⟨fun c => resG m c, fun c => resD m c, fun c => resM m c, fun c => resV m c,
    (θ_run defs _ _).mono (fun _ h c => ⟨((h.1 c).1 5).trans (final_g m c), ((h.1 c).1 6).trans (final_d m c),
      ((h.1 c).1 7).trans (final_m m c), ((h.1 c).1 8).trans (final_v m c), h.2 c⟩)
    (θ_run_and (run_main m g (ok m)) (unchanged m g (ok m))), ?_⟩
  refine (θ_run _ _ _).mono (fun r h c => ?_) (Cert.Reference7Ideal.Value.run (F := Ideal) m' g')
  obtain ⟨h0, h1, h2, h3, hk⟩ := h c
  obtain ⟨e0, e1, e2, e3, e4, e5⟩ := hagree c
  refine ⟨h0.trans ?_, h1.trans ?_, h2.trans ?_, h3.trans ?_, hk⟩ <;> simp only [e0, e1, e2, e3, e4, e5] <;> rfl

end Opt.Pool
-- ==== Proof.Opt.Qkv.lean ====
/-
  The optimiser's step on the combined projection of q, k and v, entry by entry: the call's four results at an entry of a block are the gradient
  chosen between the two halves, the change and the two moments, the reference's are the same at the entry's place, and the blocks cover the array.
-/
module

public import proofs.«01_k».proof.Defs
public import proofs.«01_k».proof.Proof.Opt.Step
public import proofs.«01_k».proof.Proof.Gen.Kernel8Ideal.Frame
public import proofs.«01_k».proof.Proof.Gen.Reference8Ideal.Run
public import proofs.«01_k».proof.Proof.Gen.Reference8Ideal.Read

@[expose] public section

set_option maxRecDepth 16384

noncomputable section

namespace Opt.Qkv

open Idealize.ShloMosaic Idealize.ShloMosaic.TcCoe Idealize.SL.Sem
open Cert.Kernel8Ideal Cert.Kernel8Ideal.Gen
open Cert.Reference8Ideal.Read
open Idealize.ShloMosaic.Pipeline (Dat)

section stores
variable {c : Dev nD} {i : grid0.Coords} {a4 a7 a8 a9 a10 a11 a12 : Memref sig .tc .vmem S1x1x128x2304 .f32} {a5 a6 : Memref sig .tc .vmem S128x2304 .f32}
  {h4 : a4.IsWhole} {h5 : a5.IsWhole} {h6 : a6.IsWhole} {h7 : a7.IsWhole} {h8 : a8.IsWhole} {h9 : a9.IsWhole} {h10 : a10.IsWhole}
  {h11 : a11.IsWhole} {h12 : a12.IsWhole} {x0 x3 x4 : Vec Ideal S1x1x128x2304 .f32} {x1 x2 : Vec Ideal S128x2304 .f32}
  {xt : TbBuf0 (F := Ideal) c tbM0_0} {y : S1x1x128x2304.Idx}

/-- The gradient at an entry of the block. -/
abbrev gAt (i : grid0.Coords) (x1 x2 : Vec Ideal S128x2304 .f32) (xt : IVec S1 32) (y : S1x1x128x2304.Idx) : Ideal .f32 :=
  pick (xt (ix1 (0 : Fin 1))) (BitVec.ofNat 32 (i 1).val) (x1 (ix2 (y 2) (y 3))) (x2 (ix2 (y 2) (y 3)))

/-- The table has one entry. -/
theorem read_one : ∀ h, View.read (Elt Ideal) (View.whole main_arg0) xt (Shape.Idx.first (s := S1) h) = xt (ix1 (0 : Fin 1)) := fun _ =>
  congrArg xt (funext fun a => match a with | ⟨0, _⟩ => Subsingleton.elim (α := Fin 1) _ _)

theorem out_g : out0_A_5 c i a4 h4 a5 h5 a6 h6 a7 h7 a8 h8 a9 h9 a10 h10 a11 h11 a12 h12 x0 x1 x2 x3 x4 xt y = gAt i x1 x2 xt y := by
  frame_out [k0_pay7, k0_pay4]
  rw [lift, select_fun, read_one]
  rfl

theorem out_d : out0_A_6 c i a4 h4 a5 h5 a6 h6 a7 h7 a8 h8 a9 h9 a10 h10 a11 h11 a12 h12 x0 x1 x2 x3 x4 xt y = change (gAt i x1 x2 xt y) (x3 y) (x4 y) (x0 y) := by
  frame_out [k0_pay1, k0_pay8, k0_pay5, k0_pay6, k0_pay4]
  rw [lift, select_fun, drop, drop, drop, read_one, ← congrArg x3 (eta y), ← congrArg x4 (eta y), ← congrArg x0 (eta y)]
  rfl

theorem out_m : out0_A_7 c i a4 h4 a5 h5 a6 h6 a7 h7 a8 h8 a9 h9 a10 h10 a11 h11 a12 h12 x0 x1 x2 x3 x4 xt y = mean (gAt i x1 x2 xt y) (x3 y) := by
  frame_out [k0_pay2, k0_pay5, k0_pay4]
  rw [lift, select_fun, drop, read_one, ← congrArg x3 (eta y)]
  rfl

theorem out_v : out0_A_8 c i a4 h4 a5 h5 a6 h6 a7 h7 a8 h8 a9 h9 a10 h10 a11 h11 a12 h12 x0 x1 x2 x3 x4 xt y = square (gAt i x1 x2 xt y) (x4 y) := by
  frame_out [k0_pay3, k0_pay6, k0_pay4]
  rw [lift, select_fun, drop, read_one, ← congrArg x4 (eta y)]
  rfl

end stores

variable (m : (ℓ : Loc nD τ sig) → Buf (Elt Ideal) ℓ) (c : Dev nD)

/-- An array the program was handed. -/
abbrev arr (b : Ref sig .tc) : Buf (Elt Ideal) ((c : Thread nD τ).loc b) := m ((c : Thread nD τ).loc b)

/-- The reference's results, of the arrays the program was handed. -/
abbrev resG : Buf (Elt Ideal) ((c : Thread nD τ).loc main_v0_0) := val_main_v6 (F := Ideal) (arr m c main_arg0) (arr m c main_arg2) (arr m c main_arg3)
abbrev resD : Buf (Elt Ideal) ((c : Thread nD τ).loc main_v0_1) :=
  val_main_v30 (F := Ideal) (arr m c main_arg0) (arr m c main_arg1) (arr m c main_arg2) (arr m c main_arg3) (arr m c main_arg4) (arr m c main_arg5)
abbrev resM : Buf (Elt Ideal) ((c : Thread nD τ).loc main_v0_2) := val_main_v11 (F := Ideal) (arr m c main_arg0) (arr m c main_arg2) (arr m c main_arg3) (arr m c main_arg4)
abbrev resV : Buf (Elt Ideal) ((c : Thread nD τ).loc main_v0_3) := val_main_v17 (F := Ideal) (arr m c main_arg0) (arr m c main_arg2) (arr m c main_arg3) (arr m c main_arg5)

/-- The reference's gradient: the half of the device's own number from the device's own sums, the other from the other device's. -/
theorem ref_g (j : S1x2x512x2304.Idx) : resG m c j
    = pick (arr m c main_arg0 (ix1 (0 : Fin 1))) (BitVec.ofNat 32 (j 1).val) (arr m c main_arg2 (ix2 (j 2) (j 3))) (arr m c main_arg3 (ix2 (j 2) (j 3))) := by
  unfold resG
  rw [val_main_v6_apply, val_main_v5_apply, val_main_call0_v0_apply, val_main_call0_v1_apply, val_main_call0_v2_apply, val_main_v4_apply,
    val_main_v1_apply, val_main_v3_apply, val_main_v0_apply]
  unfold val_main_v2
  rw [shapeCast_apply _ _ _ (ix1 (0 : Fin 1)) (by rfl)]
  exact congrArg₂ (Scalar.select _)
    (congrArg (arr m c main_arg2) (funext fun a => match a with
      | ⟨0, _⟩ => rfl
      | ⟨1, _⟩ => rfl))
    (congrArg (arr m c main_arg3) (funext fun a => match a with
      | ⟨0, _⟩ => rfl
      | ⟨1, _⟩ => rfl))

theorem ok : Ok m := trivial

/-- The block's index at a grid point. -/
abbrev at5 (t : Fin grid0.N) : Fin 4 → Nat := cc0_transform_5 (grid0.coords t)

theorem facts : ∀ t : Fin grid0.N, (cc0_transform_1 (grid0.coords t) 0 = at5 t 2 ∧ cc0_transform_1 (grid0.coords t) 1 = 0)
    ∧ (cc0_transform_2 (grid0.coords t) 0 = at5 t 2 ∧ cc0_transform_2 (grid0.coords t) 1 = 0)
    ∧ at5 t 1 = (grid0.coords t 1).val ∧ at5 t 3 = 0 := by decide +kernel

/-- The place in the array of an entry of the block at a grid point. -/
abbrev place (t : Fin (cfgM m (ok m)).N) (y : S1x1x128x2304.Idx) : S1x2x512x2304.Idx := (((cfgM m (ok m)).win 5).blk t).view.emb y

/-- The two gradients at an entry of the block. -/
theorem blk_own (t : Fin (cfgM m (ok m)).N) (y : S1x1x128x2304.Idx) :
    iblk m (ok m) c 1 t (ix2 (y 2) (y 3)) = arr m c main_arg2 (ix2 (place m t y 2) (place m t y 3)) := by
  obtain ⟨⟨e0, e1⟩, -, -, e3⟩ := facts t
  refine congrArg (arr m c main_arg2) (funext fun a => Fin.ext ?_)
  match a with
  | ⟨0, _⟩ => show cc0_transform_1 (grid0.coords t) 0 * 128 + 1 * (y 2).val = at5 t 2 * 128 + 1 * (y 2).val; rw [e0]
  | ⟨1, _⟩ => show cc0_transform_1 (grid0.coords t) 1 * 2304 + 1 * (y 3).val = at5 t 3 * 2304 + 1 * (y 3).val; rw [e1, e3]

theorem blk_other (t : Fin (cfgM m (ok m)).N) (y : S1x1x128x2304.Idx) :
    iblk m (ok m) c 2 t (ix2 (y 2) (y 3)) = arr m c main_arg3 (ix2 (place m t y 2) (place m t y 3)) := by
  obtain ⟨-, ⟨e0, e1⟩, -, e3⟩ := facts t
  refine congrArg (arr m c main_arg3) (funext fun a => Fin.ext ?_)
  match a with
  | ⟨0, _⟩ => show cc0_transform_2 (grid0.coords t) 0 * 128 + 1 * (y 2).val = at5 t 2 * 128 + 1 * (y 2).val; rw [e0]
  | ⟨1, _⟩ => show cc0_transform_2 (grid0.coords t) 1 * 2304 + 1 * (y 3).val = at5 t 3 * 2304 + 1 * (y 3).val; rw [e1, e3]

theorem word : tbl m 0 (ix1 (0 : Fin 1)) = arr m c main_arg0 (ix1 (0 : Fin 1)) := by
  obtain rfl : c = 0 := Subsingleton.elim _ _
  rfl

theorem g_at (t : Fin (cfgM m (ok m)).N) (y : S1x1x128x2304.Idx) :
    gAt (grid0.coords t) (iblk m (ok m) c 1 t) (iblk m (ok m) c 2 t) (tbl m 0) y = resG m c (place m t y) := by
  have hy : (y 1).val < 1 := (y 1).isLt
  have e : (place m t y 1).val = (grid0.coords t 1).val := by
    show at5 t 1 * 1 + 1 * (y 1).val = _
    rw [(facts t).2.2.1]; omega
  refine Eq.trans ?_ (ref_g m c _).symm
  rw [e]
  unfold gAt
  rw [blk_own, blk_other, word m c]

/-- The four blocks written at a grid point are the results' blocks. -/
theorem outs (t : Fin (cfgM m (ok m)).N) (y : S1x1x128x2304.Idx) :
    (outsAt0 m (ok m) c t).1 y = resG m c (place m t y) ∧ (outsAt0 m (ok m) c t).2.1 y = resD m c (place m t y)
    ∧ (outsAt0 m (ok m) c t).2.2.1 y = resM m c (place m t y) ∧ (outsAt0 m (ok m) c t).2.2.2 y = resV m c (place m t y) := by
  unfold outsAt0
  dsimp only
  exact ⟨out_g.trans (g_at m c t y), out_d.trans (congrArg (fun e => change e _ _ _) (g_at m c t y)),
    out_m.trans (congrArg (fun e => mean e _) (g_at m c t y)), out_v.trans (congrArg (fun e => square e _) (g_at m c t y))⟩

/-- Some grid point has any given block. -/
theorem point : ∀ (h : Fin 2) (k : Fin 4), ∃ t : Fin grid0.N, at5 t 0 = 0 ∧ at5 t 1 = h.val ∧ at5 t 2 = k.val ∧ at5 t 3 = 0 := by decide +kernel

/-- Every place of the array is in some block. -/
theorem tile (i : S1x2x512x2304.Idx) : ∃ t : Fin grid0.N, ∀ a : Fin 4, at5 t a * S1x1x128x2304.size a ≤ (i a).val
    ∧ (i a).val < at5 t a * S1x1x128x2304.size a + S1x1x128x2304.size a := by
  have h0 : (i 0).val < 1 := (i 0).isLt
  have h2 : (i 2).val < 512 := (i 2).isLt
  obtain ⟨t, e0, e1, e2, e3⟩ := point (i 1) ⟨(i 2).val / 128, by omega⟩
  exact ⟨t, within 128 (by decide) (at5 t) i (e0.trans (by omega)) e1 e2 e3⟩

theorem flushed_g (t : Fin (cfgM m (ok m)).N) :
    (dats m (ok m) 0 c).flushed 5 t = (((cfgM m (ok m)).win 5).blk t).view.read (Elt Ideal) (resG m c) := by
  show ((cfgM m (ok m)).win 5).cut (grid0.coords t) ((dats m (ok m) 0 c).after 5 t) = _
  rw [after0_5]
  exact funext fun (y : S1x1x128x2304.Idx) => (outs m c t y).1

theorem final_g : (dats m (ok m) 0 c).arrAt 5 (cfgM m (ok m)).N = resG m c :=
  (dats m (ok m) 0 c).arrAt_eq_of_cover 5 (resG m c) (fun t _ => flushed_g m c t) fun (i : S1x2x512x2304.Idx) => by
    obtain ⟨t, ht⟩ := tile i
    refine ⟨t, flush0_5 _ t, ?_⟩
    show i ∈ ((View.whole main_v0_0).slice (((cfgM m (ok m)).win 5).rect t)).set
    erw [View.set_slice_whole]
    exact (Pipeline.Window.mem_rect_iff ((cfgM m (ok m)).win 5) t i (by rfl)).mpr ht

theorem flushed_d (t : Fin (cfgM m (ok m)).N) :
    (dats m (ok m) 0 c).flushed 6 t = (((cfgM m (ok m)).win 6).blk t).view.read (Elt Ideal) (resD m c) := by
  show ((cfgM m (ok m)).win 6).cut (grid0.coords t) ((dats m (ok m) 0 c).after 6 t) = _
  rw [after0_6]
  exact funext fun (y : S1x1x128x2304.Idx) => (outs m c t y).2.1

theorem final_d : (dats m (ok m) 0 c).arrAt 6 (cfgM m (ok m)).N = resD m c :=
  (dats m (ok m) 0 c).arrAt_eq_of_cover 6 (resD m c) (fun t _ => flushed_d m c t) fun (i : S1x2x512x2304.Idx) => by
    obtain ⟨t, ht⟩ := tile i
    refine ⟨t, flush0_6 _ t, ?_⟩
    show i ∈ ((View.whole main_v0_1).slice (((cfgM m (ok m)).win 6).rect t)).set
    erw [View.set_slice_whole]
    exact (Pipeline.Window.mem_rect_iff ((cfgM m (ok m)).win 6) t i (by rfl)).mpr ht

theorem flushed_m (t : Fin (cfgM m (ok m)).N) :
    (dats m (ok m) 0 c).flushed 7 t = (((cfgM m (ok m)).win 7).blk t).view.read (Elt Ideal) (resM m c) := by
  show ((cfgM m (ok m)).win 7).cut (grid0.coords t) ((dats m (ok m) 0 c).after 7 t) = _
  rw [after0_7]
  exact funext fun (y : S1x1x128x2304.Idx) => (outs m c t y).2.2.1

theorem final_m : (dats m (ok m) 0 c).arrAt 7 (cfgM m (ok m)).N = resM m c :=
  (dats m (ok m) 0 c).arrAt_eq_of_cover 7 (resM m c) (fun t _ => flushed_m m c t) fun (i : S1x2x512x2304.Idx) => by
    obtain ⟨t, ht⟩ := tile i
    refine ⟨t, flush0_7 _ t, ?_⟩
    show i ∈ ((View.whole main_v0_2).slice (((cfgM m (ok m)).win 7).rect t)).set
    erw [View.set_slice_whole]
    exact (Pipeline.Window.mem_rect_iff ((cfgM m (ok m)).win 7) t i (by rfl)).mpr ht

theorem flushed_v (t : Fin (cfgM m (ok m)).N) :
    (dats m (ok m) 0 c).flushed 8 t = (((cfgM m (ok m)).win 8).blk t).view.read (Elt Ideal) (resV m c) := by
  show ((cfgM m (ok m)).win 8).cut (grid0.coords t) ((dats m (ok m) 0 c).after 8 t) = _
  rw [after0_8]
  exact funext fun (y : S1x1x128x2304.Idx) => (outs m c t y).2.2.2

theorem final_v : (dats m (ok m) 0 c).arrAt 8 (cfgM m (ok m)).N = resV m c :=
  (dats m (ok m) 0 c).arrAt_eq_of_cover 8 (resV m c) (fun t _ => flushed_v m c t) fun (i : S1x2x512x2304.Idx) => by
    obtain ⟨t, ht⟩ := tile i
    refine ⟨t, flush0_8 _ t, ?_⟩
    show i ∈ ((View.whole main_v0_3).slice (((cfgM m (ok m)).win 8).rect t)).set
    erw [View.set_slice_whole]
    exact (Pipeline.Window.mem_rect_iff ((cfgM m (ok m)).win 8) t i (by rfl)).mpr ht

/-- The two programs end with the same four arrays. -/
theorem algebraic : Cert.algebraic_Kernel8Ideal_Reference8Ideal := by
  intro m g m' g' _ hagree
  refine ⟨fun c => resG m c, fun c => resD m c, fun c => resM m c, fun c => resV m c,
    (θ_run defs _ _).mono (fun _ h c => ⟨((h.1 c).1 5).trans (final_g m c), ((h.1 c).1 6).trans (final_d m c),
      ((h.1 c).1 7).trans (final_m m c), ((h.1 c).1 8).trans (final_v m c), h.2 c⟩)
    (θ_run_and (run_main m g (ok m)) (unchanged m g (ok m))), ?_⟩
  refine (θ_run _ _ _).mono (fun r h c => ?_) (Cert.Reference8Ideal.Value.run (F := Ideal) m' g')
  obtain ⟨h0, h1, h2, h3, hk⟩ := h c
  obtain ⟨e0, e1, e2, e3, e4, e5⟩ := hagree c
  refine ⟨h0.trans ?_, h1.trans ?_, h2.trans ?_, h3.trans ?_, hk⟩ <;> simp only [e0, e1, e2, e3, e4, e5] <;> rfl

end Opt.Qkv
-- ==== Proof.Opt.Group.lean ====
/-
  The optimiser's step on the pooling groups' matrix, entry by entry: the call's four results at an entry of a block are the gradient
  chosen between the two halves, the change and the two moments, the reference's are the same at the entry's place, and the blocks cover the array.
-/
module

public import proofs.«01_k».proof.Defs
public import proofs.«01_k».proof.Proof.Opt.Step
public import proofs.«01_k».proof.Proof.Gen.Kernel9Ideal.Frame
public import proofs.«01_k».proof.Proof.Gen.Reference9Ideal.Run
public import proofs.«01_k».proof.Proof.Gen.Reference9Ideal.Read

@[expose] public section

set_option maxRecDepth 16384

noncomputable section

namespace Opt.Group

open Idealize.ShloMosaic Idealize.ShloMosaic.TcCoe Idealize.SL.Sem
open Cert.Kernel9Ideal Cert.Kernel9Ideal.Gen
open Cert.Reference9Ideal.Read
open Idealize.ShloMosaic.Pipeline (Dat)

section stores
variable {c : Dev nD} {i : grid0.Coords} {a4 a7 a8 a9 a10 a11 a12 : Memref sig .tc .vmem S1x1x128x256 .f32} {a5 a6 : Memref sig .tc .vmem S128x256 .f32}
  {h4 : a4.IsWhole} {h5 : a5.IsWhole} {h6 : a6.IsWhole} {h7 : a7.IsWhole} {h8 : a8.IsWhole} {h9 : a9.IsWhole} {h10 : a10.IsWhole}
  {h11 : a11.IsWhole} {h12 : a12.IsWhole} {x0 x3 x4 : Vec Ideal S1x1x128x256 .f32} {x1 x2 : Vec Ideal S128x256 .f32}
  {xt : TbBuf0 (F := Ideal) c tbM0_0} {y : S1x1x128x256.Idx}

/-- The gradient at an entry of the block. -/
abbrev gAt (i : grid0.Coords) (x1 x2 : Vec Ideal S128x256 .f32) (xt : IVec S1 32) (y : S1x1x128x256.Idx) : Ideal .f32 :=
  pick (xt (ix1 (0 : Fin 1))) (BitVec.ofNat 32 (i 1).val) (x1 (ix2 (y 2) (y 3))) (x2 (ix2 (y 2) (y 3)))

/-- The table has one entry. -/
theorem read_one : ∀ h, View.read (Elt Ideal) (View.whole main_arg0) xt (Shape.Idx.first (s := S1) h) = xt (ix1 (0 : Fin 1)) := fun _ =>
  congrArg xt (funext fun a => match a with | ⟨0, _⟩ => Subsingleton.elim (α := Fin 1) _ _)

theorem out_g : out0_A_5 c i a4 h4 a5 h5 a6 h6 a7 h7 a8 h8 a9 h9 a10 h10 a11 h11 a12 h12 x0 x1 x2 x3 x4 xt y = gAt i x1 x2 xt y := by
  frame_out [k0_pay7, k0_pay4]
  rw [lift, select_fun, read_one]
  rfl

theorem out_d : out0_A_6 c i a4 h4 a5 h5 a6 h6 a7 h7 a8 h8 a9 h9 a10 h10 a11 h11 a12 h12 x0 x1 x2 x3 x4 xt y = change (gAt i x1 x2 xt y) (x3 y) (x4 y) (x0 y) := by
  frame_out [k0_pay1, k0_pay8, k0_pay5, k0_pay6, k0_pay4]
  rw [lift, select_fun, drop, drop, drop, read_one, ← congrArg x3 (eta y), ← congrArg x4 (eta y), ← congrArg x0 (eta y)]
  rfl

theorem out_m : out0_A_7 c i a4 h4 a5 h5 a6 h6 a7 h7 a8 h8 a9 h9 a10 h10 a11 h11 a12 h12 x0 x1 x2 x3 x4 xt y = mean (gAt i x1 x2 xt y) (x3 y) := by
  frame_out [k0_pay2, k0_pay5, k0_pay4]
  rw [lift, select_fun, drop, read_one, ← congrArg x3 (eta y)]
  rfl

theorem out_v : out0_A_8 c i a4 h4 a5 h5 a6 h6 a7 h7 a8 h8 a9 h9 a10 h10 a11 h11 a12 h12 x0 x1 x2 x3 x4 xt y = square (gAt i x1 x2 xt y) (x4 y) := by
  frame_out [k0_pay3, k0_pay6, k0_pay4]
  rw [lift, select_fun, drop, read_one, ← congrArg x4 (eta y)]
  rfl

end stores

variable (m : (ℓ : Loc nD τ sig) → Buf (Elt Ideal) ℓ) (c : Dev nD)

/-- An array the program was handed. -/
abbrev arr (b : Ref sig .tc) : Buf (Elt Ideal) ((c : Thread nD τ).loc b) := m ((c : Thread nD τ).loc b)

/-- The reference's results, of the arrays the program was handed. -/
abbrev resG : Buf (Elt Ideal) ((c : Thread nD τ).loc main_v0_0) := val_main_v6 (F := Ideal) (arr m c main_arg0) (arr m c main_arg2) (arr m c main_arg3)
abbrev resD : Buf (Elt Ideal) ((c : Thread nD τ).loc main_v0_1) :=
  val_main_v30 (F := Ideal) (arr m c main_arg0) (arr m c main_arg1) (arr m c main_arg2) (arr m c main_arg3) (arr m c main_arg4) (arr m c main_arg5)
abbrev resM : Buf (Elt Ideal) ((c : Thread nD τ).loc main_v0_2) := val_main_v11 (F := Ideal) (arr m c main_arg0) (arr m c main_arg2) (arr m c main_arg3) (arr m c main_arg4)
abbrev resV : Buf (Elt Ideal) ((c : Thread nD τ).loc main_v0_3) := val_main_v17 (F := Ideal) (arr m c main_arg0) (arr m c main_arg2) (arr m c main_arg3) (arr m c main_arg5)

/-- The reference's gradient: the half of the device's own number from the device's own sums, the other from the other device's. -/
theorem ref_g (j : S1x2x128x256.Idx) : resG m c j
    = pick (arr m c main_arg0 (ix1 (0 : Fin 1))) (BitVec.ofNat 32 (j 1).val) (arr m c main_arg2 (ix2 (j 2) (j 3))) (arr m c main_arg3 (ix2 (j 2) (j 3))) := by
  unfold resG
  rw [val_main_v6_apply, val_main_v5_apply, val_main_call0_v0_apply, val_main_call0_v1_apply, val_main_call0_v2_apply, val_main_v4_apply,
    val_main_v1_apply, val_main_v3_apply, val_main_v0_apply]
  unfold val_main_v2
  rw [shapeCast_apply _ _ _ (ix1 (0 : Fin 1)) (by rfl)]
  exact congrArg₂ (Scalar.select _)
    (congrArg (arr m c main_arg2) (funext fun a => match a with
      | ⟨0, _⟩ => rfl
      | ⟨1, _⟩ => rfl))
    (congrArg (arr m c main_arg3) (funext fun a => match a with
      | ⟨0, _⟩ => rfl
      | ⟨1, _⟩ => rfl))

theorem ok : Ok m := trivial

/-- The block's index at a grid point. -/
abbrev at5 (t : Fin grid0.N) : Fin 4 → Nat := cc0_transform_5 (grid0.coords t)

theorem facts : ∀ t : Fin grid0.N, (cc0_transform_1 (grid0.coords t) 0 = at5 t 2 ∧ cc0_transform_1 (grid0.coords t) 1 = 0)
    ∧ (cc0_transform_2 (grid0.coords t) 0 = at5 t 2 ∧ cc0_transform_2 (grid0.coords t) 1 = 0)
    ∧ at5 t 1 = (grid0.coords t 1).val ∧ at5 t 3 = 0 := by decide +kernel

/-- The place in the array of an entry of the block at a grid point. -/
abbrev place (t : Fin (cfgM m (ok m)).N) (y : S1x1x128x256.Idx) : S1x2x128x256.Idx := (((cfgM m (ok m)).win 5).blk t).view.emb y

/-- The two gradients at an entry of the block. -/
theorem blk_own (t : Fin (cfgM m (ok m)).N) (y : S1x1x128x256.Idx) :
    iblk m (ok m) c 1 t (ix2 (y 2) (y 3)) = arr m c main_arg2 (ix2 (place m t y 2) (place m t y 3)) := by
  obtain ⟨⟨e0, e1⟩, -, -, e3⟩ := facts t
  refine congrArg (arr m c main_arg2) (funext fun a => Fin.ext ?_)
  match a with
  | ⟨0, _⟩ => show cc0_transform_1 (grid0.coords t) 0 * 128 + 1 * (y 2).val = at5 t 2 * 128 + 1 * (y 2).val; rw [e0]
  | ⟨1, _⟩ => show cc0_transform_1 (grid0.coords t) 1 * 256 + 1 * (y 3).val = at5 t 3 * 256 + 1 * (y 3).val; rw [e1, e3]

theorem blk_other (t : Fin (cfgM m (ok m)).N) (y : S1x1x128x256.Idx) :
    iblk m (ok m) c 2 t (ix2 (y 2) (y 3)) = arr m c main_arg3 (ix2 (place m t y 2) (place m t y 3)) := by
  obtain ⟨-, ⟨e0, e1⟩, -, e3⟩ := facts t
  refine congrArg (arr m c main_arg3) (funext fun a => Fin.ext ?_)
  match a with
  | ⟨0, _⟩ => show cc0_transform_2 (grid0.coords t) 0 * 128 + 1 * (y 2).val = at5 t 2 * 128 + 1 * (y 2).val; rw [e0]
  | ⟨1, _⟩ => show cc0_transform_2 (grid0.coords t) 1 * 256 + 1 * (y 3).val = at5 t 3 * 256 + 1 * (y 3).val; rw [e1, e3]

theorem word : tbl m 0 (ix1 (0 : Fin 1)) = arr m c main_arg0 (ix1 (0 : Fin 1)) := by
  obtain rfl : c = 0 := Subsingleton.elim _ _
  rfl

theorem g_at (t : Fin (cfgM m (ok m)).N) (y : S1x1x128x256.Idx) :
    gAt (grid0.coords t) (iblk m (ok m) c 1 t) (iblk m (ok m) c 2 t) (tbl m 0) y = resG m c (place m t y) := by
  have hy : (y 1).val < 1 := (y 1).isLt
  have e : (place m t y 1).val = (grid0.coords t 1).val := by
    show at5 t 1 * 1 + 1 * (y 1).val = _
    rw [(facts t).2.2.1]; omega
  refine Eq.trans ?_ (ref_g m c _).symm
  rw [e]
  unfold gAt
  rw [blk_own, blk_other, word m c]

/-- The four blocks written at a grid point are the results' blocks. -/
theorem outs (t : Fin (cfgM m (ok m)).N) (y : S1x1x128x256.Idx) :
    (outsAt0 m (ok m) c t).1 y = resG m c (place m t y) ∧ (outsAt0 m (ok m) c t).2.1 y = resD m c (place m t y)
    ∧ (outsAt0 m (ok m) c t).2.2.1 y = resM m c (place m t y) ∧ (outsAt0 m (ok m) c t).2.2.2 y = resV m c (place m t y) := by
  unfold outsAt0
  dsimp only
  exact ⟨out_g.trans (g_at m c t y), out_d.trans (congrArg (fun e => change e _ _ _) (g_at m c t y)),
    out_m.trans (congrArg (fun e => mean e _) (g_at m c t y)), out_v.trans (congrArg (fun e => square e _) (g_at m c t y))⟩

/-- Some grid point has any given block. -/
theorem point : ∀ (h : Fin 2) (k : Fin 1), ∃ t : Fin grid0.N, at5 t 0 = 0 ∧ at5 t 1 = h.val ∧ at5 t 2 = k.val ∧ at5 t 3 = 0 := by decide +kernel

/-- Every place of the array is in some block. -/
theorem tile (i : S1x2x128x256.Idx) : ∃ t : Fin grid0.N, ∀ a : Fin 4, at5 t a * S1x1x128x256.size a ≤ (i a).val
    ∧ (i a).val < at5 t a * S1x1x128x256.size a + S1x1x128x256.size a := by
  have h0 : (i 0).val < 1 := (i 0).isLt
  have h2 : (i 2).val < 128 := (i 2).isLt
  obtain ⟨t, e0, e1, e2, e3⟩ := point (i 1) ⟨(i 2).val / 128, by omega⟩
  exact ⟨t, within 128 (by decide) (at5 t) i (e0.trans (by omega)) e1 e2 e3⟩

theorem flushed_g (t : Fin (cfgM m (ok m)).N) :
    (dats m (ok m) 0 c).flushed 5 t = (((cfgM m (ok m)).win 5).blk t).view.read (Elt Ideal) (resG m c) := by
  show ((cfgM m (ok m)).win 5).cut (grid0.coords t) ((dats m (ok m) 0 c).after 5 t) = _
  rw [after0_5]
  exact funext fun (y : S1x1x128x256.Idx) => (outs m c t y).1

theorem final_g : (dats m (ok m) 0 c).arrAt 5 (cfgM m (ok m)).N = resG m c :=
  (dats m (ok m) 0 c).arrAt_eq_of_cover 5 (resG m c) (fun t _ => flushed_g m c t) fun (i : S1x2x128x256.Idx) => by
    obtain ⟨t, ht⟩ := tile i
    refine ⟨t, flush0_5 _ t, ?_⟩
    show i ∈ ((View.whole main_v0_0).slice (((cfgM m (ok m)).win 5).rect t)).set
    erw [View.set_slice_whole]
    exact (Pipeline.Window.mem_rect_iff ((cfgM m (ok m)).win 5) t i (by rfl)).mpr ht

theorem flushed_d (t : Fin (cfgM m (ok m)).N) :
    (dats m (ok m) 0 c).flushed 6 t = (((cfgM m (ok m)).win 6).blk t).view.read (Elt Ideal) (resD m c) := by
  show ((cfgM m (ok m)).win 6).cut (grid0.coords t) ((dats m (ok m) 0 c).after 6 t) = _
  rw [after0_6]
  exact funext fun (y : S1x1x128x256.Idx) => (outs m c t y).2.1

theorem final_d : (dats m (ok m) 0 c).arrAt 6 (cfgM m (ok m)).N = resD m c :=
  (dats m (ok m) 0 c).arrAt_eq_of_cover 6 (resD m c) (fun t _ => flushed_d m c t) fun (i : S1x2x128x256.Idx) => by
    obtain ⟨t, ht⟩ := tile i
    refine ⟨t, flush0_6 _ t, ?_⟩
    show i ∈ ((View.whole main_v0_1).slice (((cfgM m (ok m)).win 6).rect t)).set
    erw [View.set_slice_whole]
    exact (Pipeline.Window.mem_rect_iff ((cfgM m (ok m)).win 6) t i (by rfl)).mpr ht

theorem flushed_m (t : Fin (cfgM m (ok m)).N) :
    (dats m (ok m) 0 c).flushed 7 t = (((cfgM m (ok m)).win 7).blk t).view.read (Elt Ideal) (resM m c) := by
  show ((cfgM m (ok m)).win 7).cut (grid0.coords t) ((dats m (ok m) 0 c).after 7 t) = _
  rw [after0_7]
  exact funext fun (y : S1x1x128x256.Idx) => (outs m c t y).2.2.1

theorem final_m : (dats m (ok m) 0 c).arrAt 7 (cfgM m (ok m)).N = resM m c :=
  (dats m (ok m) 0 c).arrAt_eq_of_cover 7 (resM m c) (fun t _ => flushed_m m c t) fun (i : S1x2x128x256.Idx) => by
    obtain ⟨t, ht⟩ := tile i
    refine ⟨t, flush0_7 _ t, ?_⟩
    show i ∈ ((View.whole main_v0_2).slice (((cfgM m (ok m)).win 7).rect t)).set
    erw [View.set_slice_whole]
    exact (Pipeline.Window.mem_rect_iff ((cfgM m (ok m)).win 7) t i (by rfl)).mpr ht

theorem flushed_v (t : Fin (cfgM m (ok m)).N) :
    (dats m (ok m) 0 c).flushed 8 t = (((cfgM m (ok m)).win 8).blk t).view.read (Elt Ideal) (resV m c) := by
  show ((cfgM m (ok m)).win 8).cut (grid0.coords t) ((dats m (ok m) 0 c).after 8 t) = _
  rw [after0_8]
  exact funext fun (y : S1x1x128x256.Idx) => (outs m c t y).2.2.2

theorem final_v : (dats m (ok m) 0 c).arrAt 8 (cfgM m (ok m)).N = resV m c :=
  (dats m (ok m) 0 c).arrAt_eq_of_cover 8 (resV m c) (fun t _ => flushed_v m c t) fun (i : S1x2x128x256.Idx) => by
    obtain ⟨t, ht⟩ := tile i
    refine ⟨t, flush0_8 _ t, ?_⟩
    show i ∈ ((View.whole main_v0_3).slice (((cfgM m (ok m)).win 8).rect t)).set
    erw [View.set_slice_whole]
    exact (Pipeline.Window.mem_rect_iff ((cfgM m (ok m)).win 8) t i (by rfl)).mpr ht

/-- The two programs end with the same four arrays. -/
theorem algebraic : Cert.algebraic_Kernel9Ideal_Reference9Ideal := by
  intro m g m' g' _ hagree
  refine ⟨fun c => resG m c, fun c => resD m c, fun c => resM m c, fun c => resV m c,
    (θ_run defs _ _).mono (fun _ h c => ⟨((h.1 c).1 5).trans (final_g m c), ((h.1 c).1 6).trans (final_d m c),
      ((h.1 c).1 7).trans (final_m m c), ((h.1 c).1 8).trans (final_v m c), h.2 c⟩)
    (θ_run_and (run_main m g (ok m)) (unchanged m g (ok m))), ?_⟩
  refine (θ_run _ _ _).mono (fun r h c => ?_) (Cert.Reference9Ideal.Value.run (F := Ideal) m' g')
  obtain ⟨h0, h1, h2, h3, hk⟩ := h c
  obtain ⟨e0, e1, e2, e3, e4, e5⟩ := hagree c
  refine ⟨h0.trans ?_, h1.trans ?_, h2.trans ?_, h3.trans ?_, hk⟩ <;> simp only [e0, e1, e2, e3, e4, e5] <;> rfl

end Opt.Group
-- ==== Proof.Opt.Gain.lean ====
/-
  The optimiser's step on the layer norms' gains and biases, entry by entry: the call's four results at an entry of a block are the gradient
  the change and the two moments, the reference's are the same at the entry's place, and the blocks cover the array.
-/
module

public import proofs.«01_k».proof.Defs
public import proofs.«01_k».proof.Proof.Opt.Step
public import proofs.«01_k».proof.Proof.Gen.Kernel10Ideal.Frame
public import proofs.«01_k».proof.Proof.Gen.Reference10Ideal.Run
public import proofs.«01_k».proof.Proof.Gen.Reference10Ideal.Read

@[expose] public section

set_option maxRecDepth 16384

noncomputable section

namespace Opt.Gain

open Idealize.ShloMosaic Idealize.ShloMosaic.TcCoe Idealize.SL.Sem
open Cert.Kernel10Ideal Cert.Kernel10Ideal.Gen
open Cert.Reference10Ideal.Read
open Idealize.ShloMosaic.Pipeline (Dat)

section stores
variable {c : Dev nD} {i : grid0.Coords} {a4 a7 a8 a9 a10 a11 a12 : Memref sig .tc .vmem S1x1x6x256 .f32} {a5 a6 : Memref sig .tc .vmem S6x256 .f32}
  {h4 : a4.IsWhole} {h5 : a5.IsWhole} {h6 : a6.IsWhole} {h7 : a7.IsWhole} {h8 : a8.IsWhole} {h9 : a9.IsWhole} {h10 : a10.IsWhole}
  {h11 : a11.IsWhole} {h12 : a12.IsWhole} {x0 x3 x4 : Vec Ideal S1x1x6x256 .f32} {x1 x2 : Vec Ideal S6x256 .f32}
  {xt : TbBuf0 (F := Ideal) c tbM0_0} {y : S1x1x6x256.Idx}

/-- The gradient at an entry of the block. -/
abbrev gAt (i : grid0.Coords) (x1 x2 : Vec Ideal S6x256 .f32) (xt : IVec S1 32) (y : S1x1x6x256.Idx) : Ideal .f32 :=
  pick (xt (ix1 (0 : Fin 1))) (BitVec.ofNat 32 (i 1).val) (x1 (ix2 (y 2) (y 3))) (x2 (ix2 (y 2) (y 3)))

/-- The table has one entry. -/
theorem read_one : ∀ h, View.read (Elt Ideal) (View.whole main_arg0) xt (Shape.Idx.first (s := S1) h) = xt (ix1 (0 : Fin 1)) := fun _ =>
  congrArg xt (funext fun a => match a with | ⟨0, _⟩ => Subsingleton.elim (α := Fin 1) _ _)

theorem out_g : out0_A_5 c i a4 h4 a5 h5 a6 h6 a7 h7 a8 h8 a9 h9 a10 h10 a11 h11 a12 h12 x0 x1 x2 x3 x4 xt y = gAt i x1 x2 xt y := by
  frame_out [k0_pay7, k0_pay4]
  rw [lift, select_fun, read_one]
  rfl

theorem out_d : out0_A_6 c i a4 h4 a5 h5 a6 h6 a7 h7 a8 h8 a9 h9 a10 h10 a11 h11 a12 h12 x0 x1 x2 x3 x4 xt y = change (gAt i x1 x2 xt y) (x3 y) (x4 y) (x0 y) := by
  frame_out [k0_pay1, k0_pay8, k0_pay5, k0_pay6, k0_pay4]
  rw [lift, select_fun, drop, drop, drop, read_one, ← congrArg x3 (eta y), ← congrArg x4 (eta y), ← congrArg x0 (eta y)]
  rfl

theorem out_m : out0_A_7 c i a4 h4 a5 h5 a6 h6 a7 h7 a8 h8 a9 h9 a10 h10 a11 h11 a12 h12 x0 x1 x2 x3 x4 xt y = mean (gAt i x1 x2 xt y) (x3 y) := by
  frame_out [k0_pay2, k0_pay5, k0_pay4]
  rw [lift, select_fun, drop, read_one, ← congrArg x3 (eta y)]
  rfl

theorem out_v : out0_A_8 c i a4 h4 a5 h5 a6 h6 a7 h7 a8 h8 a9 h9 a10 h10 a11 h11 a12 h12 x0 x1 x2 x3 x4 xt y = square (gAt i x1 x2 xt y) (x4 y) := by
  frame_out [k0_pay3, k0_pay6, k0_pay4]
  rw [lift, select_fun, drop, read_one, ← congrArg x4 (eta y)]
  rfl

end stores

variable (m : (ℓ : Loc nD τ sig) → Buf (Elt Ideal) ℓ) (c : Dev nD)

/-- An array the program was handed. -/
abbrev arr (b : Ref sig .tc) : Buf (Elt Ideal) ((c : Thread nD τ).loc b) := m ((c : Thread nD τ).loc b)

/-- The reference's results, of the arrays the program was handed. -/
abbrev resG : Buf (Elt Ideal) ((c : Thread nD τ).loc main_v0_0) := val_main_v0 (F := Ideal) (arr m c main_arg2)
abbrev resD : Buf (Elt Ideal) ((c : Thread nD τ).loc main_v0_1) :=
  val_main_v24 (F := Ideal) (arr m c main_arg1) (arr m c main_arg2) (arr m c main_arg3) (arr m c main_arg4)
abbrev resM : Buf (Elt Ideal) ((c : Thread nD τ).loc main_v0_2) := val_main_v5 (F := Ideal) (arr m c main_arg2) (arr m c main_arg3)
abbrev resV : Buf (Elt Ideal) ((c : Thread nD τ).loc main_v0_3) := val_main_v11 (F := Ideal) (arr m c main_arg2) (arr m c main_arg4)

/-- The reference's gradient. -/
theorem ref_g (j : S1x1x6x256.Idx) : resG m c j = arr m c main_arg2 (ix2 (j 2) (j 3)) := by
  unfold resG
  rw [val_main_v0_apply]
  exact congrArg (arr m c main_arg2) (funext fun a => match a with
    | ⟨0, _⟩ => rfl
    | ⟨1, _⟩ => rfl)

theorem ok : Ok m := trivial

/-- The block's index at a grid point. -/
abbrev at5 (t : Fin grid0.N) : Fin 4 → Nat := cc0_transform_5 (grid0.coords t)

theorem facts : ∀ t : Fin grid0.N, (cc0_transform_1 (grid0.coords t) 0 = at5 t 2 ∧ cc0_transform_1 (grid0.coords t) 1 = 0)
    ∧ (cc0_transform_2 (grid0.coords t) 0 = at5 t 2 ∧ cc0_transform_2 (grid0.coords t) 1 = 0)
    ∧ at5 t 1 = (grid0.coords t 1).val ∧ at5 t 3 = 0 := by decide +kernel

/-- The place in the array of an entry of the block at a grid point. -/
abbrev place (t : Fin (cfgM m (ok m)).N) (y : S1x1x6x256.Idx) : S1x1x6x256.Idx := (((cfgM m (ok m)).win 5).blk t).view.emb y

/-- The two gradients at an entry of the block. -/
theorem blk_own (t : Fin (cfgM m (ok m)).N) (y : S1x1x6x256.Idx) :
    iblk m (ok m) c 1 t (ix2 (y 2) (y 3)) = arr m c main_arg2 (ix2 (place m t y 2) (place m t y 3)) := by
  obtain ⟨⟨e0, e1⟩, -, -, e3⟩ := facts t
  refine congrArg (arr m c main_arg2) (funext fun a => Fin.ext ?_)
  match a with
  | ⟨0, _⟩ => show cc0_transform_1 (grid0.coords t) 0 * 6 + 1 * (y 2).val = at5 t 2 * 6 + 1 * (y 2).val; rw [e0]
  | ⟨1, _⟩ => show cc0_transform_1 (grid0.coords t) 1 * 256 + 1 * (y 3).val = at5 t 3 * 256 + 1 * (y 3).val; rw [e1, e3]

theorem blk_other (t : Fin (cfgM m (ok m)).N) (y : S1x1x6x256.Idx) :
    iblk m (ok m) c 2 t (ix2 (y 2) (y 3)) = arr m c main_arg2 (ix2 (place m t y 2) (place m t y 3)) := by
  obtain ⟨-, ⟨e0, e1⟩, -, e3⟩ := facts t
  refine congrArg (arr m c main_arg2) (funext fun a => Fin.ext ?_)
  match a with
  | ⟨0, _⟩ => show cc0_transform_2 (grid0.coords t) 0 * 6 + 1 * (y 2).val = at5 t 2 * 6 + 1 * (y 2).val; rw [e0]
  | ⟨1, _⟩ => show cc0_transform_2 (grid0.coords t) 1 * 256 + 1 * (y 3).val = at5 t 3 * 256 + 1 * (y 3).val; rw [e1, e3]

theorem g_at (t : Fin (cfgM m (ok m)).N) (y : S1x1x6x256.Idx) :
    gAt (grid0.coords t) (iblk m (ok m) c 1 t) (iblk m (ok m) c 2 t) (tbl m 0) y = resG m c (place m t y) := by
  refine Eq.trans ?_ (ref_g m c _).symm
  unfold gAt
  rw [blk_own, blk_other]
  exact pick_self _ _ _

/-- The four blocks written at a grid point are the results' blocks. -/
theorem outs (t : Fin (cfgM m (ok m)).N) (y : S1x1x6x256.Idx) :
    (outsAt0 m (ok m) c t).1 y = resG m c (place m t y) ∧ (outsAt0 m (ok m) c t).2.1 y = resD m c (place m t y)
    ∧ (outsAt0 m (ok m) c t).2.2.1 y = resM m c (place m t y) ∧ (outsAt0 m (ok m) c t).2.2.2 y = resV m c (place m t y) := by
  unfold outsAt0
  dsimp only
  exact ⟨out_g.trans (g_at m c t y), out_d.trans (congrArg (fun e => change e _ _ _) (g_at m c t y)),
    out_m.trans (congrArg (fun e => mean e _) (g_at m c t y)), out_v.trans (congrArg (fun e => square e _) (g_at m c t y))⟩

/-- Some grid point has any given block. -/
theorem point : ∀ (h : Fin 1) (k : Fin 1), ∃ t : Fin grid0.N, at5 t 0 = 0 ∧ at5 t 1 = h.val ∧ at5 t 2 = k.val ∧ at5 t 3 = 0 := by decide +kernel

/-- Every place of the array is in some block. -/
theorem tile (i : S1x1x6x256.Idx) : ∃ t : Fin grid0.N, ∀ a : Fin 4, at5 t a * S1x1x6x256.size a ≤ (i a).val
    ∧ (i a).val < at5 t a * S1x1x6x256.size a + S1x1x6x256.size a := by
  have h0 : (i 0).val < 1 := (i 0).isLt
  have h2 : (i 2).val < 6 := (i 2).isLt
  obtain ⟨t, e0, e1, e2, e3⟩ := point (i 1) ⟨(i 2).val / 6, by omega⟩
  exact ⟨t, within 6 (by decide) (at5 t) i (e0.trans (by omega)) e1 e2 e3⟩

theorem flushed_g (t : Fin (cfgM m (ok m)).N) :
    (dats m (ok m) 0 c).flushed 5 t = (((cfgM m (ok m)).win 5).blk t).view.read (Elt Ideal) (resG m c) := by
  show ((cfgM m (ok m)).win 5).cut (grid0.coords t) ((dats m (ok m) 0 c).after 5 t) = _
  rw [after0_5]
  exact funext fun (y : S1x1x6x256.Idx) => (outs m c t y).1

theorem final_g : (dats m (ok m) 0 c).arrAt 5 (cfgM m (ok m)).N = resG m c :=
  (dats m (ok m) 0 c).arrAt_eq_of_cover 5 (resG m c) (fun t _ => flushed_g m c t) fun (i : S1x1x6x256.Idx) => by
    obtain ⟨t, ht⟩ := tile i
    refine ⟨t, flush0_5 _ t, ?_⟩
    show i ∈ ((View.whole main_v0_0).slice (((cfgM m (ok m)).win 5).rect t)).set
    erw [View.set_slice_whole]
    exact (Pipeline.Window.mem_rect_iff ((cfgM m (ok m)).win 5) t i (by rfl)).mpr ht

theorem flushed_d (t : Fin (cfgM m (ok m)).N) :
    (dats m (ok m) 0 c).flushed 6 t = (((cfgM m (ok m)).win 6).blk t).view.read (Elt Ideal) (resD m c) := by
  show ((cfgM m (ok m)).win 6).cut (grid0.coords t) ((dats m (ok m) 0 c).after 6 t) = _
  rw [after0_6]
  exact funext fun (y : S1x1x6x256.Idx) => (outs m c t y).2.1

theorem final_d : (dats m (ok m) 0 c).arrAt 6 (cfgM m (ok m)).N = resD m c :=
  (dats m (ok m) 0 c).arrAt_eq_of_cover 6 (resD m c) (fun t _ => flushed_d m c t) fun (i : S1x1x6x256.Idx) => by
    obtain ⟨t, ht⟩ := tile i
    refine ⟨t, flush0_6 _ t, ?_⟩
    show i ∈ ((View.whole main_v0_1).slice (((cfgM m (ok m)).win 6).rect t)).set
    erw [View.set_slice_whole]
    exact (Pipeline.Window.mem_rect_iff ((cfgM m (ok m)).win 6) t i (by rfl)).mpr ht

theorem flushed_m (t : Fin (cfgM m (ok m)).N) :
    (dats m (ok m) 0 c).flushed 7 t = (((cfgM m (ok m)).win 7).blk t).view.read (Elt Ideal) (resM m c) := by
  show ((cfgM m (ok m)).win 7).cut (grid0.coords t) ((dats m (ok m) 0 c).after 7 t) = _
  rw [after0_7]
  exact funext fun (y : S1x1x6x256.Idx) => (outs m c t y).2.2.1

theorem final_m : (dats m (ok m) 0 c).arrAt 7 (cfgM m (ok m)).N = resM m c :=
  (dats m (ok m) 0 c).arrAt_eq_of_cover 7 (resM m c) (fun t _ => flushed_m m c t) fun (i : S1x1x6x256.Idx) => by
    obtain ⟨t, ht⟩ := tile i
    refine ⟨t, flush0_7 _ t, ?_⟩
    show i ∈ ((View.whole main_v0_2).slice (((cfgM m (ok m)).win 7).rect t)).set
    erw [View.set_slice_whole]
    exact (Pipeline.Window.mem_rect_iff ((cfgM m (ok m)).win 7) t i (by rfl)).mpr ht

theorem flushed_v (t : Fin (cfgM m (ok m)).N) :
    (dats m (ok m) 0 c).flushed 8 t = (((cfgM m (ok m)).win 8).blk t).view.read (Elt Ideal) (resV m c) := by
  show ((cfgM m (ok m)).win 8).cut (grid0.coords t) ((dats m (ok m) 0 c).after 8 t) = _
  rw [after0_8]
  exact funext fun (y : S1x1x6x256.Idx) => (outs m c t y).2.2.2

theorem final_v : (dats m (ok m) 0 c).arrAt 8 (cfgM m (ok m)).N = resV m c :=
  (dats m (ok m) 0 c).arrAt_eq_of_cover 8 (resV m c) (fun t _ => flushed_v m c t) fun (i : S1x1x6x256.Idx) => by
    obtain ⟨t, ht⟩ := tile i
    refine ⟨t, flush0_8 _ t, ?_⟩
    show i ∈ ((View.whole main_v0_3).slice (((cfgM m (ok m)).win 8).rect t)).set
    erw [View.set_slice_whole]
    exact (Pipeline.Window.mem_rect_iff ((cfgM m (ok m)).win 8) t i (by rfl)).mpr ht

/-- The two programs end with the same four arrays. -/
theorem algebraic : Cert.algebraic_Kernel10Ideal_Reference10Ideal := by
  intro m g m' g' _ hagree
  refine ⟨fun c => resG m c, fun c => resD m c, fun c => resM m c, fun c => resV m c,
    (θ_run defs _ _).mono (fun _ h c => ⟨((h.1 c).1 5).trans (final_g m c), ((h.1 c).1 6).trans (final_d m c),
      ((h.1 c).1 7).trans (final_m m c), ((h.1 c).1 8).trans (final_v m c), h.2 c⟩)
    (θ_run_and (run_main m g (ok m)) (unchanged m g (ok m))), ?_⟩
  refine (θ_run _ _ _).mono (fun r h c => ?_) (Cert.Reference10Ideal.Value.run (F := Ideal) m' g')
  obtain ⟨h0, h1, h2, h3, hk⟩ := h c
  obtain ⟨e0, e1, e2, e3, e4⟩ := hagree c
  refine ⟨h0.trans ?_, h1.trans ?_, h2.trans ?_, h3.trans ?_, hk⟩ <;> simp only [e1, e2, e3, e4] <;> rfl

end Opt.Gain
-- ==== Proof.Opt.Scale.lean ====
/-
  The optimiser's step on the pooling scale, entry by entry: the call's four results at an entry of a block are the gradient
  the change and the two moments, the reference's are the same at the entry's place, and the blocks cover the array.
-/
module

public import proofs.«01_k».proof.Defs
public import proofs.«01_k».proof.Proof.Opt.Step
public import proofs.«01_k».proof.Proof.Gen.Kernel11Ideal.Frame
public import proofs.«01_k».proof.Proof.Gen.Reference11Ideal.Run
public import proofs.«01_k».proof.Proof.Gen.Reference11Ideal.Read

@[expose] public section

set_option maxRecDepth 16384

noncomputable section

namespace Opt.Scale

open Idealize.ShloMosaic Idealize.ShloMosaic.TcCoe Idealize.SL.Sem
open Cert.Kernel11Ideal Cert.Kernel11Ideal.Gen
open Cert.Reference11Ideal.Read
open Idealize.ShloMosaic.Pipeline (Dat)

section stores
variable {c : Dev nD} {i : grid0.Coords} {a4 a7 a8 a9 a10 a11 a12 : Memref sig .tc .vmem S1x1x1x1024 .f32} {a5 a6 : Memref sig .tc .vmem S1x1024 .f32}
  {h4 : a4.IsWhole} {h5 : a5.IsWhole} {h6 : a6.IsWhole} {h7 : a7.IsWhole} {h8 : a8.IsWhole} {h9 : a9.IsWhole} {h10 : a10.IsWhole}
  {h11 : a11.IsWhole} {h12 : a12.IsWhole} {x0 x3 x4 : Vec Ideal S1x1x1x1024 .f32} {x1 x2 : Vec Ideal S1x1024 .f32}
  {xt : TbBuf0 (F := Ideal) c tbM0_0} {y : S1x1x1x1024.Idx}

/-- The gradient at an entry of the block. -/
abbrev gAt (i : grid0.Coords) (x1 x2 : Vec Ideal S1x1024 .f32) (xt : IVec S1 32) (y : S1x1x1x1024.Idx) : Ideal .f32 :=
  pick (xt (ix1 (0 : Fin 1))) (BitVec.ofNat 32 (i 1).val) (x1 (ix2 (y 2) (y 3))) (x2 (ix2 (y 2) (y 3)))

/-- The table has one entry. -/
theorem read_one : ∀ h, View.read (Elt Ideal) (View.whole main_arg0) xt (Shape.Idx.first (s := S1) h) = xt (ix1 (0 : Fin 1)) := fun _ =>
  congrArg xt (funext fun a => match a with | ⟨0, _⟩ => Subsingleton.elim (α := Fin 1) _ _)

theorem out_g : out0_A_5 c i a4 h4 a5 h5 a6 h6 a7 h7 a8 h8 a9 h9 a10 h10 a11 h11 a12 h12 x0 x1 x2 x3 x4 xt y = gAt i x1 x2 xt y := by
  frame_out [k0_pay7, k0_pay4]
  rw [lift, select_fun, read_one]
  rfl

theorem out_d : out0_A_6 c i a4 h4 a5 h5 a6 h6 a7 h7 a8 h8 a9 h9 a10 h10 a11 h11 a12 h12 x0 x1 x2 x3 x4 xt y = change (gAt i x1 x2 xt y) (x3 y) (x4 y) (x0 y) := by
  frame_out [k0_pay1, k0_pay8, k0_pay5, k0_pay6, k0_pay4]
  rw [lift, select_fun, drop, drop, drop, read_one, ← congrArg x3 (eta y), ← congrArg x4 (eta y), ← congrArg x0 (eta y)]
  rfl

theorem out_m : out0_A_7 c i a4 h4 a5 h5 a6 h6 a7 h7 a8 h8 a9 h9 a10 h10 a11 h11 a12 h12 x0 x1 x2 x3 x4 xt y = mean (gAt i x1 x2 xt y) (x3 y) := by
  frame_out [k0_pay2, k0_pay5, k0_pay4]
  rw [lift, select_fun, drop, read_one, ← congrArg x3 (eta y)]
  rfl

theorem out_v : out0_A_8 c i a4 h4 a5 h5 a6 h6 a7 h7 a8 h8 a9 h9 a10 h10 a11 h11 a12 h12 x0 x1 x2 x3 x4 xt y = square (gAt i x1 x2 xt y) (x4 y) := by
  frame_out [k0_pay3, k0_pay6, k0_pay4]
  rw [lift, select_fun, drop, read_one, ← congrArg x4 (eta y)]
  rfl

end stores

variable (m : (ℓ : Loc nD τ sig) → Buf (Elt Ideal) ℓ) (c : Dev nD)

/-- An array the program was handed. -/
abbrev arr (b : Ref sig .tc) : Buf (Elt Ideal) ((c : Thread nD τ).loc b) := m ((c : Thread nD τ).loc b)

/-- The reference's results, of the arrays the program was handed. -/
abbrev resG : Buf (Elt Ideal) ((c : Thread nD τ).loc main_v0_0) := val_main_v0 (F := Ideal) (arr m c main_arg2)
abbrev resD : Buf (Elt Ideal) ((c : Thread nD τ).loc main_v0_1) :=
  val_main_v24 (F := Ideal) (arr m c main_arg1) (arr m c main_arg2) (arr m c main_arg3) (arr m c main_arg4)
abbrev resM : Buf (Elt Ideal) ((c : Thread nD τ).loc main_v0_2) := val_main_v5 (F := Ideal) (arr m c main_arg2) (arr m c main_arg3)
abbrev resV : Buf (Elt Ideal) ((c : Thread nD τ).loc main_v0_3) := val_main_v11 (F := Ideal) (arr m c main_arg2) (arr m c main_arg4)

/-- The reference's gradient. -/
theorem ref_g (j : S1x1x1x1024.Idx) : resG m c j = arr m c main_arg2 (ix2 (j 2) (j 3)) := by
  unfold resG
  rw [val_main_v0_apply]
  exact congrArg (arr m c main_arg2) (funext fun a => match a with
    | ⟨0, _⟩ => Subsingleton.elim (α := Fin 1) _ _
    | ⟨1, _⟩ => rfl)

theorem ok : Ok m := trivial

/-- The block's index at a grid point. -/
abbrev at5 (t : Fin grid0.N) : Fin 4 → Nat := cc0_transform_5 (grid0.coords t)

theorem facts : ∀ t : Fin grid0.N, (cc0_transform_1 (grid0.coords t) 0 = at5 t 2 ∧ cc0_transform_1 (grid0.coords t) 1 = 0)
    ∧ (cc0_transform_2 (grid0.coords t) 0 = at5 t 2 ∧ cc0_transform_2 (grid0.coords t) 1 = 0)
    ∧ at5 t 1 = (grid0.coords t 1).val ∧ at5 t 3 = 0 := by decide +kernel

/-- The place in the array of an entry of the block at a grid point. -/
abbrev place (t : Fin (cfgM m (ok m)).N) (y : S1x1x1x1024.Idx) : S1x1x1x1024.Idx := (((cfgM m (ok m)).win 5).blk t).view.emb y

/-- The two gradients at an entry of the block. -/
theorem blk_own (t : Fin (cfgM m (ok m)).N) (y : S1x1x1x1024.Idx) :
    iblk m (ok m) c 1 t (ix2 (y 2) (y 3)) = arr m c main_arg2 (ix2 (place m t y 2) (place m t y 3)) := by
  obtain ⟨⟨e0, e1⟩, -, -, e3⟩ := facts t
  refine congrArg (arr m c main_arg2) (funext fun a => Fin.ext ?_)
  match a with
  | ⟨0, _⟩ => show cc0_transform_1 (grid0.coords t) 0 * 1 + 1 * (y 2).val = at5 t 2 * 1 + 1 * (y 2).val; rw [e0]
  | ⟨1, _⟩ => show cc0_transform_1 (grid0.coords t) 1 * 1024 + 1 * (y 3).val = at5 t 3 * 1024 + 1 * (y 3).val; rw [e1, e3]

theorem blk_other (t : Fin (cfgM m (ok m)).N) (y : S1x1x1x1024.Idx) :
    iblk m (ok m) c 2 t (ix2 (y 2) (y 3)) = arr m c main_arg2 (ix2 (place m t y 2) (place m t y 3)) := by
  obtain ⟨-, ⟨e0, e1⟩, -, e3⟩ := facts t
  refine congrArg (arr m c main_arg2) (funext fun a => Fin.ext ?_)
  match a with
  | ⟨0, _⟩ => show cc0_transform_2 (grid0.coords t) 0 * 1 + 1 * (y 2).val = at5 t 2 * 1 + 1 * (y 2).val; rw [e0]
  | ⟨1, _⟩ => show cc0_transform_2 (grid0.coords t) 1 * 1024 + 1 * (y 3).val = at5 t 3 * 1024 + 1 * (y 3).val; rw [e1, e3]

theorem g_at (t : Fin (cfgM m (ok m)).N) (y : S1x1x1x1024.Idx) :
    gAt (grid0.coords t) (iblk m (ok m) c 1 t) (iblk m (ok m) c 2 t) (tbl m 0) y = resG m c (place m t y) := by
  refine Eq.trans ?_ (ref_g m c _).symm
  unfold gAt
  rw [blk_own, blk_other]
  exact pick_self _ _ _

/-- The four blocks written at a grid point are the results' blocks. -/
theorem outs (t : Fin (cfgM m (ok m)).N) (y : S1x1x1x1024.Idx) :
    (outsAt0 m (ok m) c t).1 y = resG m c (place m t y) ∧ (outsAt0 m (ok m) c t).2.1 y = resD m c (place m t y)
    ∧ (outsAt0 m (ok m) c t).2.2.1 y = resM m c (place m t y) ∧ (outsAt0 m (ok m) c t).2.2.2 y = resV m c (place m t y) := by
  unfold outsAt0
  dsimp only
  exact ⟨out_g.trans (g_at m c t y), out_d.trans (congrArg (fun e => change e _ _ _) (g_at m c t y)),
    out_m.trans (congrArg (fun e => mean e _) (g_at m c t y)), out_v.trans (congrArg (fun e => square e _) (g_at m c t y))⟩

/-- Some grid point has any given block. -/
theorem point : ∀ (h : Fin 1) (k : Fin 1), ∃ t : Fin grid0.N, at5 t 0 = 0 ∧ at5 t 1 = h.val ∧ at5 t 2 = k.val ∧ at5 t 3 = 0 := by decide +kernel

/-- Every place of the array is in some block. -/
theorem tile (i : S1x1x1x1024.Idx) : ∃ t : Fin grid0.N, ∀ a : Fin 4, at5 t a * S1x1x1x1024.size a ≤ (i a).val
    ∧ (i a).val < at5 t a * S1x1x1x1024.size a + S1x1x1x1024.size a := by
  have h0 : (i 0).val < 1 := (i 0).isLt
  have h2 : (i 2).val < 1 := (i 2).isLt
  obtain ⟨t, e0, e1, e2, e3⟩ := point (i 1) ⟨(i 2).val / 1, by omega⟩
  exact ⟨t, within 1 (by decide) (at5 t) i (e0.trans (by omega)) e1 e2 e3⟩

theorem flushed_g (t : Fin (cfgM m (ok m)).N) :
    (dats m (ok m) 0 c).flushed 5 t = (((cfgM m (ok m)).win 5).blk t).view.read (Elt Ideal) (resG m c) := by
  show ((cfgM m (ok m)).win 5).cut (grid0.coords t) ((dats m (ok m) 0 c).after 5 t) = _
  rw [after0_5]
  exact funext fun (y : S1x1x1x1024.Idx) => (outs m c t y).1

theorem final_g : (dats m (ok m) 0 c).arrAt 5 (cfgM m (ok m)).N = resG m c :=
  (dats m (ok m) 0 c).arrAt_eq_of_cover 5 (resG m c) (fun t _ => flushed_g m c t) fun (i : S1x1x1x1024.Idx) => by
    obtain ⟨t, ht⟩ := tile i
    refine ⟨t, flush0_5 _ t, ?_⟩
    show i ∈ ((View.whole main_v0_0).slice (((cfgM m (ok m)).win 5).rect t)).set
    erw [View.set_slice_whole]
    exact (Pipeline.Window.mem_rect_iff ((cfgM m (ok m)).win 5) t i (by rfl)).mpr ht

theorem flushed_d (t : Fin (cfgM m (ok m)).N) :
    (dats m (ok m) 0 c).flushed 6 t = (((cfgM m (ok m)).win 6).blk t).view.read (Elt Ideal) (resD m c) := by
  show ((cfgM m (ok m)).win 6).cut (grid0.coords t) ((dats m (ok m) 0 c).after 6 t) = _
  rw [after0_6]
  exact funext fun (y : S1x1x1x1024.Idx) => (outs m c t y).2.1

theorem final_d : (dats m (ok m) 0 c).arrAt 6 (cfgM m (ok m)).N = resD m c :=
  (dats m (ok m) 0 c).arrAt_eq_of_cover 6 (resD m c) (fun t _ => flushed_d m c t) fun (i : S1x1x1x1024.Idx) => by
    obtain ⟨t, ht⟩ := tile i
    refine ⟨t, flush0_6 _ t, ?_⟩
    show i ∈ ((View.whole main_v0_1).slice (((cfgM m (ok m)).win 6).rect t)).set
    erw [View.set_slice_whole]
    exact (Pipeline.Window.mem_rect_iff ((cfgM m (ok m)).win 6) t i (by rfl)).mpr ht

theorem flushed_m (t : Fin (cfgM m (ok m)).N) :
    (dats m (ok m) 0 c).flushed 7 t = (((cfgM m (ok m)).win 7).blk t).view.read (Elt Ideal) (resM m c) := by
  show ((cfgM m (ok m)).win 7).cut (grid0.coords t) ((dats m (ok m) 0 c).after 7 t) = _
  rw [after0_7]
  exact funext fun (y : S1x1x1x1024.Idx) => (outs m c t y).2.2.1

theorem final_m : (dats m (ok m) 0 c).arrAt 7 (cfgM m (ok m)).N = resM m c :=
  (dats m (ok m) 0 c).arrAt_eq_of_cover 7 (resM m c) (fun t _ => flushed_m m c t) fun (i : S1x1x1x1024.Idx) => by
    obtain ⟨t, ht⟩ := tile i
    refine ⟨t, flush0_7 _ t, ?_⟩
    show i ∈ ((View.whole main_v0_2).slice (((cfgM m (ok m)).win 7).rect t)).set
    erw [View.set_slice_whole]
    exact (Pipeline.Window.mem_rect_iff ((cfgM m (ok m)).win 7) t i (by rfl)).mpr ht

theorem flushed_v (t : Fin (cfgM m (ok m)).N) :
    (dats m (ok m) 0 c).flushed 8 t = (((cfgM m (ok m)).win 8).blk t).view.read (Elt Ideal) (resV m c) := by
  show ((cfgM m (ok m)).win 8).cut (grid0.coords t) ((dats m (ok m) 0 c).after 8 t) = _
  rw [after0_8]
  exact funext fun (y : S1x1x1x1024.Idx) => (outs m c t y).2.2.2

theorem final_v : (dats m (ok m) 0 c).arrAt 8 (cfgM m (ok m)).N = resV m c :=
  (dats m (ok m) 0 c).arrAt_eq_of_cover 8 (resV m c) (fun t _ => flushed_v m c t) fun (i : S1x1x1x1024.Idx) => by
    obtain ⟨t, ht⟩ := tile i
    refine ⟨t, flush0_8 _ t, ?_⟩
    show i ∈ ((View.whole main_v0_3).slice (((cfgM m (ok m)).win 8).rect t)).set
    erw [View.set_slice_whole]
    exact (Pipeline.Window.mem_rect_iff ((cfgM m (ok m)).win 8) t i (by rfl)).mpr ht

/-- The two programs end with the same four arrays. -/
theorem algebraic : Cert.algebraic_Kernel11Ideal_Reference11Ideal := by
  intro m g m' g' _ hagree
  refine ⟨fun c => resG m c, fun c => resD m c, fun c => resM m c, fun c => resV m c,
    (θ_run defs _ _).mono (fun _ h c => ⟨((h.1 c).1 5).trans (final_g m c), ((h.1 c).1 6).trans (final_d m c),
      ((h.1 c).1 7).trans (final_m m c), ((h.1 c).1 8).trans (final_v m c), h.2 c⟩)
    (θ_run_and (run_main m g (ok m)) (unchanged m g (ok m))), ?_⟩
  refine (θ_run _ _ _).mono (fun r h c => ?_) (Cert.Reference11Ideal.Value.run (F := Ideal) m' g')
  obtain ⟨h0, h1, h2, h3, hk⟩ := h c
  obtain ⟨e0, e1, e2, e3, e4⟩ := hagree c
  refine ⟨h0.trans ?_, h1.trans ?_, h2.trans ?_, h3.trans ?_, hk⟩ <;> simp only [e1, e2, e3, e4] <;> rfl

end Opt.Scale
-- ==== Proof.Loss.Head.lean ====
/-
  The loss head on one device's rows: the gradient of the output, and the device's part of the loss as a sum over all the rows.
-/
module

public import proofs.«01_k».proof.Defs
public import proofs.«01_k».proof.Proof.Ffn.Sums
public import proofs.«01_k».proof.Proof.Gen.Kernel12Ideal.Value
public import proofs.«01_k».proof.Proof.Gen.Reference12Ideal.Read
public import Idealize.ShloMosaic.Lib.Pipeline.ValueKit.Basic

@[expose] public section

set_option maxRecDepth 16384

noncomputable section

namespace Loss.Head

open Idealize.ShloMosaic Idealize.ShloMosaic.TcCoe Idealize.ShloMosaic.ValueIdx Idealize.SL.Sem
open Cert.Kernel12Ideal Cert.Kernel12Ideal.Gen
open Cert.Reference12Ideal.Read
open Ffn (inBlock sum_inBlock coe_mul_sum ofBits_one ofBits_half)

theorem ofBits_two : Ideal.ofBits .f32 0x40000000#32 = ((2 : ℝ) : EReal) := by
  simp [Ideal.ofBits, Ideal.ieee, -EReal.coe_mul]; norm_num
theorem ofBits_width : Ideal.ofBits .f32 0x44800000#32 = ((1024 : ℝ) : EReal) := by
  simp [Ideal.ofBits, Ideal.ieee, -EReal.coe_mul]; norm_num
theorem ofBits_zero : Ideal.ofBits .f32 0x00000000#32 = (0 : EReal) := by
  simp [Ideal.ofBits, Ideal.ieee]

/-- A row's mean square. -/
def meanSquare (e : Fin 1024 → EReal) : EReal := Ideal.div (∑ l, e l * e l) (Ideal.ofBits .f32 0x44800000#32)

theorem rows (v : FVec Ideal S1024x1024 .f32) (h) (hφ) (hacc) (i : Fin 1024) :
    multiReduction .add [1] S1024 v 0x00000000#32 h hφ hacc (ix1 i) = ∑ l : Fin 1024, v (ix2 i l) := by
  refine (Ideal.multiReduction_add_single _ _ _ _ _ _).trans (Finset.sum_congr rfl fun l _ => congrArg v (funext fun a => Fin.ext ?_))
  match a with
  | ⟨0, _⟩ => rfl
  | ⟨1, _⟩ => rfl

theorem column (v : FVec Ideal S1024x1 .f32) (h) (hφ) (hacc) :
    multiReduction .add [0] S1 v 0x00000000#32 h hφ hacc (ix1 (0 : Fin 1)) = ∑ i : Fin 1024, v (ix2 i (0 : Fin 1)) := by
  refine (Ideal.multiReduction_add_single _ _ _ _ _ _).trans (Finset.sum_congr rfl fun l _ => congrArg v (funext fun a => Fin.ext ?_))
  match a with
  | ⟨0, _⟩ => rfl
  | ⟨1, _⟩ => rfl

/-- A block's part of the loss. -/
theorem pay3_apply (v w : Vec Ideal S1024x1024 .f32) :
    k0_pay3 (F := Ideal) v w (ix2 (0 : Fin 1) (0 : Fin 1))
      = ((1 / 2 : ℝ) : EReal) * ∑ i : Fin 1024, meanSquare fun l => v (ix2 i l) - w (ix2 i l) := by
  unfold k0_pay3
  rw [← ofBits_half]
  refine congrArg (Ideal.ofBits .f32 0x3F000000#32 * ·) ?_
  refine (shapeCast_apply _ _ _ (ix1 (0 : Fin 1)) (by rw [Shape.rowMajor_val_one, Shape.rowMajor_val_two]; rfl)).trans ?_
  refine (column _ _ _ _).trans (Finset.sum_congr rfl fun i _ => ?_)
  refine congrArg (fun t => Ideal.div t (Ideal.ofBits .f32 0x44800000#32)) ?_
  refine (shapeCast_apply _ _ _ (ix1 i) (by rw [Shape.rowMajor_val_one, Shape.rowMajor_val_two]; show i.val = i.val * 1 + 0; omega)).trans ?_
  exact rows _ _ _ _ i

theorem hz2 : (![0, 0] : Fin 2 → Nat) = fun _ => 0 := funext fun a => by fin_cases a <;> rfl

variable (m : (ℓ : Loc nD τ sig) → Buf (Elt Ideal) ℓ) (c : Dev nD)

/-- An array the program was handed. -/
abbrev arr (b : Ref sig .tc) : Buf (Elt Ideal) ((c : Thread nD τ).loc b) := m ((c : Thread nD τ).loc b)

set_option maxHeartbeats 4000000 in
theorem start (t : Fin cfg0.N) (h : t.val % 4 = 0) (h1 : ¬ 1 ≤ t.val) :
    outsAt0 m c t.val t.isLt = (k0_pay2 (iblk m c 0 t) (iblk m c 1 t), k0_pay3 (iblk m c 0 t) (iblk m c 1 t)) := by
  rw [outsAt0_A m c t h h1]
  unfold out0_A_2 out0_A_3
  refine congrArg₂ Prod.mk ((View.read_writes_eq_canon _ _ _ (fun _ => cover0_A_2 ..)).trans ?_) ((View.read_writes_eq_canon _ _ _ (fun _ => cover0_A_3 ..)).trans ?_) <;>
  · unfold kernelRun0_A
    dsimp only
    rw [View.canon_unit_zero hz2]
    simp only [View.readAt_eq_ld, (hs0_0 t).read_unread, (hs0_1 t).read_unread, View.ld_unit_zero (S := S1024x1024) hz2]

set_option maxHeartbeats 4000000 in
theorem step (t : Fin cfg0.N) (h : ¬ t.val % 4 = 0) (h1 : 1 ≤ t.val) :
    outsAt0 m c t.val t.isLt = (k0_pay2 (iblk m c 0 t) (iblk m c 1 t),
      k0_pay4 (iblk m c 0 t) (iblk m c 1 t) (outsAt0 m c (t.val - 1) (Nat.lt_of_le_of_lt (Nat.sub_le _ _) t.isLt)).2) := by
  rw [outsAt0_B m c t h h1]
  unfold out0_B_2 out0_B_3
  refine congrArg₂ Prod.mk ((View.read_writes_eq_canon _ _ _ (fun _ => cover0_B_2 ..)).trans ?_) ((View.read_writes_eq_canon _ _ _ (fun _ => cover0_B_3 ..)).trans ?_) <;>
  · unfold kernelRun0_B
    dsimp only
    rw [View.canon_unit_zero hz2]
    simp only [View.readAt_eq_ld, (hs0_0 t).read_unread, (hs0_1 t).read_unread, (hs0_3 t).read_unread, View.ld_unit_zero (S := S1024x1024) hz2, View.ld_unit_zero (S := S1x1) hz2]

/-- Row `i` of row block `k`. -/
abbrev row (k : Fin 4) (i : Fin 1024) : Fin 4096 := inBlock (show 4096 = 4 * 1024 by rfl) k i
/-- The grid point of a row block. -/
abbrev pt (k : Fin 4) : Fin cfg0.N := ⟨k.val, lt_of_lt_of_eq k.isLt N_0.symm⟩

theorem places : ∀ t : Fin cfg0.N, win0_0.index t (0 : Fin 2) = t.val ∧ win0_0.index t (1 : Fin 2) = 0 ∧ win0_1.index t (0 : Fin 2) = t.val ∧ win0_1.index t (1 : Fin 2) = 0
    ∧ win0_2.index t (0 : Fin 2) = t.val ∧ win0_2.index t (1 : Fin 2) = 0 := by decide +kernel

theorem block0 (k : Fin 4) (i l : Fin 1024) : iblk m c 0 (pt k) (ix2 i l) = arr m c main_arg0 (ix2 (row k i) l) := by
  obtain ⟨e0, e1, -⟩ := places (pt k)
  unfold iblk
  rw [View.read_apply]
  refine congrArg (V m c main_arg0) (funext fun z => Fin.ext ?_)
  match z with
  | ⟨0, _⟩ => show win0_0.index (pt k) (0 : Fin 2) * 1024 + 1 * i.val = k.val * 1024 + i.val; rw [e0, one_mul]
  | ⟨1, _⟩ => show win0_0.index (pt k) (1 : Fin 2) * 1024 + 1 * l.val = l.val; omega

theorem block1 (k : Fin 4) (i l : Fin 1024) : iblk m c 1 (pt k) (ix2 i l) = arr m c main_arg1 (ix2 (row k i) l) := by
  obtain ⟨-, -, e0, e1, -⟩ := places (pt k)
  unfold iblk
  rw [View.read_apply]
  refine congrArg (V m c main_arg1) (funext fun z => Fin.ext ?_)
  match z with
  | ⟨0, _⟩ => show win0_1.index (pt k) (0 : Fin 2) * 1024 + 1 * i.val = k.val * 1024 + i.val; rw [e0, one_mul]
  | ⟨1, _⟩ => show win0_1.index (pt k) (1 : Fin 2) * 1024 + 1 * l.val = l.val; omega

/-- The error at an entry. -/
abbrev err (s : Fin 4096) (l : Fin 1024) : EReal :=
  (show EReal from arr m c main_arg0 (ix2 s l)) - (show EReal from arr m c main_arg1 (ix2 s l))

/-- A block's part of the loss. -/
def part (k : Fin 4) : EReal := ((1 / 2 : ℝ) : EReal) * ∑ i : Fin 1024, meanSquare (err m c (row k i))

theorem pay3_part (k : Fin 4) : k0_pay3 (iblk m c 0 (pt k)) (iblk m c 1 (pt k)) (ix2 (0 : Fin 1) (0 : Fin 1)) = part m c k := by
  rw [pay3_apply]
  unfold part
  refine congrArg _ (Finset.sum_congr rfl fun i _ => congrArg meanSquare (funext fun l => ?_))
  rw [block0, block1]

theorem next (k k' : Fin 4) (hk : k.val = k'.val + 1) :
    (outsAt0 m c (pt k).val (pt k).isLt).2 (ix2 (0 : Fin 1) (0 : Fin 1)) = (outsAt0 m c (pt k').val (pt k').isLt).2 (ix2 (0 : Fin 1) (0 : Fin 1)) + part m c k := by
  have hk4 := k.isLt
  rw [step m c (pt k) (by show ¬ k.val % 4 = 0; omega) (by show 1 ≤ k.val; omega), ← pay3_part]
  have e : (⟨(pt k).val - 1, Nat.lt_of_le_of_lt (Nat.sub_le _ _) (pt k).isLt⟩ : Fin cfg0.N) = pt k' := Fin.ext (by show k.val - 1 = k'.val; omega)
  have e3 : outsAt0 m c ((pt k).val - 1) (Nat.lt_of_le_of_lt (Nat.sub_le _ _) (pt k).isLt) = outsAt0 m c (pt k').val (pt k').isLt := by rw [← e]
  rw [e3]
  unfold k0_pay4
  rw [shapeCast_self]
  rfl

/-- The finished part of the loss is half the sum over all rows. -/
theorem total : (outsAt0 m c (pt 3).val (pt 3).isLt).2 (ix2 (0 : Fin 1) (0 : Fin 1))
    = ((1 / 2 : ℝ) : EReal) * ∑ s : Fin 4096, meanSquare (err m c s) := by
  rw [next m c 3 2 rfl, next m c 2 1 rfl, next m c 1 0 rfl, start m c (pt 0) (by rfl) (by decide)]
  dsimp only
  rw [pay3_part, sum_inBlock (show 4096 = 4 * 1024 by rfl), coe_mul_sum _ _ (by norm_num), Fin.sum_univ_four]
  rfl

/-- The reference's gradient of the output. -/
theorem ref_dy (x0 x1 : FVec Ideal S4096x1024 .f32) (i : S4096x1024.Idx) :
    val_main_v14 (F := Ideal) x0 x1 i = Ideal.div (x0 i - x1 i) (Ideal.ofBits .f32 0x44800000#32) := by
  rw [val_main_v14_apply, val_main_v13_apply, val_main_v12_apply, val_main_v10_apply, val_main_v9_apply, val_main_v11_apply, val_main_v3_apply,
    val_main_v2_apply, val_main_v0_apply]
  show Ideal.div (Ideal.ofBits .f32 0x3F000000#32 * Ideal.ofBits .f32 0x3F800000#32) (Ideal.ofBits .f32 0x44800000#32)
    * (Ideal.ofBits .f32 0x40000000#32 * (x0 i - x1 i)) = _
  rw [ofBits_half, ofBits_one, ofBits_two, ofBits_width, mul_one, Ideal.div_coe (by norm_num), Ideal.div_coe (by norm_num), ← mul_assoc, ← EReal.coe_mul,
    ← EReal.coe_mul, mul_comm]
  exact congrArg (fun r : ℝ => (x0 i - x1 i) * (r : EReal)) (by norm_num)

/-- The reference's loss. -/
theorem ref_loss (x0 x1 : FVec Ideal S4096x1024 .f32) (i : S1x1.Idx) : val_main_v15 (F := Ideal) x0 x1 i
    = ((1 / 2 : ℝ) : EReal) * ∑ s : Fin 4096, meanSquare fun l => x0 (ix2 s l) - x1 (ix2 s l) := by
  have e : ∀ j : Cert.Reference12Ideal.S4096.Idx, val_main_v6 (F := Ideal) x0 x1 j = meanSquare fun l => x0 (ix2 (j 0) l) - x1 (ix2 (j 0) l) := by
    intro j
    rw [val_main_v6_apply, val_main_v4_apply, val_main_v5_apply]
    refine congrArg (fun t => Ideal.div t (Ideal.ofBits .f32 0x44800000#32)) ?_
    refine (congrArg (· + _) ofBits_zero).trans ((zero_add _).trans (Finset.sum_congr rfl fun l _ => ?_))
    have el : idx_main_v4 j l = ix2 (j 0) l := funext fun a => match a with
      | ⟨0, _⟩ => rfl
      | ⟨1, _⟩ => rfl
    rw [el]
    rfl
  have h8 : ∀ j, val_main_v8 (F := Ideal) x0 x1 j = ((1 / 2 : ℝ) : EReal) * ∑ s : Fin 4096, meanSquare fun l => x0 (ix2 s l) - x1 (ix2 s l) := by
    intro j
    rw [val_main_v8_apply, val_main_v7_apply, ← ofBits_half]
    refine congrArg (Ideal.ofBits .f32 0x3F000000#32 * ·) ?_
    refine (congrArg (· + _) ofBits_zero).trans ((zero_add _).trans ?_)
    exact Fintype.sum_equiv ⟨fun j : Cert.Reference12Ideal.S4096.Idx => (j 0 : Fin 4096), fun s => ix1 s, fun j => (eq_ix1 j).symm, fun s => rfl⟩ _ _ e
  exact h8 _

/-- The results. -/
abbrev resD : Buf (Elt Ideal) ((c : Thread nD τ).loc main_v0_0) := val_main_v14 (F := Ideal) (arr m c main_arg0) (arr m c main_arg1)
abbrev resL : Buf (Elt Ideal) ((c : Thread nD τ).loc main_v0_1) := val_main_v15 (F := Ideal) (arr m c main_arg0) (arr m c main_arg1)

theorem out_dy (t : Fin cfg0.N) : (outsAt0 m c t.val t.isLt).1 = k0_pay2 (iblk m c 0 t) (iblk m c 1 t) := by
  have ht : t.val < 4 := lt_of_lt_of_eq t.isLt N_0
  by_cases h : t.val % 4 = 0
  · rw [start m c t h (by omega)]
  · rw [step m c t h (by omega)]

theorem final_dy : (dats m 0 c).arrAt 2 cfg0.N = resD m c := by
  refine (dats m 0 c).arrAt_eq_of_cover 2 (resD m c) (fun t _ => ?_) fun (i : S4096x1024.Idx) => ?_
  · rw [Cert.Kernel12Ideal.Value.flushed2, out_dy]
    refine funext fun (y : S1024x1024.Idx) => ?_
    obtain ⟨k, rfl⟩ : ∃ k : Fin 4, t = pt k := ⟨⟨t.val, lt_of_lt_of_eq t.isLt N_0⟩, rfl⟩
    obtain ⟨-, -, -, -, e0, e1⟩ := places (pt k)
    have hp : ((cfg0.win 2).blk (pt k)).view.emb y = ix2 (row k (y 0)) (y 1) := funext fun z => Fin.ext (by
      match z with
      | ⟨0, _⟩ => show win0_2.index (pt k) (0 : Fin 2) * 1024 + 1 * (y 0).val = k.val * 1024 + (y 0).val; rw [e0, one_mul]
      | ⟨1, _⟩ => show win0_2.index (pt k) (1 : Fin 2) * 1024 + 1 * (y 1).val = (y 1).val; omega)
    refine Eq.trans ?_ ((congrArg (resD m c) hp).trans (ref_dy _ _ _)).symm
    have h0 : iblk m c 0 (pt k) y = arr m c main_arg0 (ix2 (row k (y 0)) (y 1)) := (congrArg _ (eq_ix2 y)).trans (block0 m c k (y 0) (y 1))
    have h1 : iblk m c 1 (pt k) y = arr m c main_arg1 (ix2 (row k (y 0)) (y 1)) := (congrArg _ (eq_ix2 y)).trans (block1 m c k (y 0) (y 1))
    exact congrArg₂ (fun a b : EReal => Ideal.div (a - b) (Ideal.ofBits .f32 0x44800000#32)) h0 h1
  · have hi : (i 0).val < 4096 := (i 0).isLt
    have hi1 : (i 1).val < 1024 := (i 1).isLt
    obtain ⟨t, ht⟩ : ∃ t : Fin cfg0.N, t.val = (i 0).val / 1024 := ⟨⟨(i 0).val / 1024, lt_of_lt_of_eq (by omega) N_0.symm⟩, rfl⟩
    refine ⟨t, flush0_2 t, ?_⟩
    obtain ⟨-, -, -, -, e0, e1⟩ := places t
    show i ∈ ((View.whole main_v0_0).slice ((cfg0.win 2).rect t)).set
    erw [View.set_slice_whole]
    refine (Pipeline.Window.mem_rect_iff (cfg0.win 2) t i (by rfl)).mpr fun a => ?_
    match a with
    | ⟨0, _⟩ => show win0_2.index t (0 : Fin 2) * 1024 ≤ (i 0).val ∧ (i 0).val < win0_2.index t (0 : Fin 2) * 1024 + 1024; rw [e0, ht]; omega
    | ⟨1, _⟩ => show win0_2.index t (1 : Fin 2) * 1024 ≤ (i 1).val ∧ (i 1).val < win0_2.index t (1 : Fin 2) * 1024 + 1024; rw [e1]; omega

theorem last_only : ∀ t : Fin cfg0.N, (cfg0.win 3).flush t = true → t = pt 3 := by decide +kernel
theorem last_flush : (cfg0.win 3).flush (pt 3) = true := by decide +kernel

theorem final_loss : (dats m 0 c).arrAt 3 cfg0.N = resL m c := by
  refine (dats m 0 c).arrAt_eq_of_cover 3 (resL m c) (fun t ht => ?_) fun (i : S1x1.Idx) => ⟨pt 3, last_flush, ?_⟩
  · rw [last_only t ht, Cert.Kernel12Ideal.Value.flushed3]
    refine funext fun (y : S1x1.Idx) => ?_
    refine Eq.trans ?_ (ref_loss _ _ _).symm
    have hy : y = ix2 (0 : Fin 1) (0 : Fin 1) := (eq_ix2 y).trans (congrArg₂ ix2 (Subsingleton.elim (α := Fin 1) _ _) (Subsingleton.elim (α := Fin 1) _ _))
    rw [hy]
    exact total m c
  · show i ∈ ((View.whole main_v0_1).slice ((cfg0.win 3).rect (pt 3))).set
    erw [View.set_slice_whole]
    refine (Pipeline.Window.mem_rect_iff (cfg0.win 3) (pt 3) i (by rfl)).mpr fun a => ?_
    have h0 : (i 0).val < 1 := (i 0).isLt
    have h1 : (i 1).val < 1 := (i 1).isLt
    match a with
    | ⟨0, _⟩ => show 0 * 1 ≤ (i 0).val ∧ (i 0).val < 0 * 1 + 1; omega
    | ⟨1, _⟩ => show 0 * 1 ≤ (i 1).val ∧ (i 1).val < 0 * 1 + 1; omega

/-- The two programs end with the same gradient of the output and the same part of the loss. -/
theorem algebraic : Cert.algebraic_Kernel12Ideal_Reference12Ideal := by
  intro m g m' g' _ hagree
  refine ⟨fun c => resD m c, fun c => resL m c, (θ_run defs _ _).mono (fun _ h c => ⟨(h c).1.trans (final_dy m c), (h c).2.1.trans (final_loss m c), (h c).2.2⟩)
    (Cert.Kernel12Ideal.Value.run_blocks (F := Ideal) m g), ?_⟩
  refine (θ_run _ _ _).mono (fun r h c => ?_) (Cert.Reference12Ideal.Value.run (F := Ideal) m' g')
  obtain ⟨h0, h1, hk⟩ := h c
  obtain ⟨e0, e1⟩ := hagree c
  refine ⟨h0.trans ?_, h1.trans ?_, hk⟩ <;> rw [e0, e1] <;> rfl

end Loss.Head
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Attn.Final
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Pre_finite2
public import proofs.«01_k».proof.Proof.Ffn.BwdFinal
public import proofs.«01_k».proof.Proof.Ffn.GradFinal
public import proofs.«01_k».proof.Proof.Ffn.FwdFinal
public import proofs.«01_k».proof.Proof.Proj.MovedFinal
public import proofs.«01_k».proof.Proof.Opt.Matrix
public import proofs.«01_k».proof.Proof.Opt.Pool
public import proofs.«01_k».proof.Proof.Opt.Qkv
public import proofs.«01_k».proof.Proof.Opt.Group
public import proofs.«01_k».proof.Proof.Opt.Gain
public import proofs.«01_k».proof.Proof.Opt.Scale
public import proofs.«01_k».proof.Proof.Loss.Head
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference6Ideal.Run
public import proofs.«01_k».proof.Proof.Gen.Reference6Ideal.Read
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference7Ideal.Run
public import proofs.«01_k».proof.Proof.Gen.Reference7Ideal.Read
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference8Ideal.Run
public import proofs.«01_k».proof.Proof.Gen.Reference8Ideal.Read
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference9Ideal.Run
public import proofs.«01_k».proof.Proof.Gen.Reference9Ideal.Read
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference10Ideal.Run
public import proofs.«01_k».proof.Proof.Gen.Reference10Ideal.Read
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference11Ideal.Run
public import proofs.«01_k».proof.Proof.Gen.Reference11Ideal.Read
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel over the extended reals ends with the gradient of the six arrays. -/
theorem kernel_run (m : (ℓ : Loc Cert.KernelIdeal.nD Cert.KernelIdeal.τ Cert.KernelIdeal.sig) → Buf (Elt Ideal) ℓ) (g : Dev Cert.KernelIdeal.nD → PrngReg)
    (A : Dev Cert.KernelIdeal.nD → Attn.Args) (hA : ∀ c, Attn.Holds m c (A c)) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v122) = (fun i => ((Attn.grad (A c) i : ℝ) : EReal))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run _ _ _).mono (fun _ h c => ⟨(h c).1.trans (Attn.G7_eq m c (A c) (hA c)), (h c).2⟩) (Cert.KernelIdeal.Value.run (F := Ideal) m g)

/-- The reference over the extended reals ends with the gradient of the six arrays. -/
theorem reference_run (m : (ℓ : Loc Cert.ReferenceIdeal.nD Cert.ReferenceIdeal.τ Cert.ReferenceIdeal.sig) → Buf (Elt Ideal) ℓ) (g : Dev Cert.ReferenceIdeal.nD → PrngReg)
    (A : Dev Cert.ReferenceIdeal.nD → Attn.Args)
    (h0 : ∀ c : Dev Cert.ReferenceIdeal.nD, m ((c.tc : Thread Cert.ReferenceIdeal.nD Cert.ReferenceIdeal.τ).loc Cert.ReferenceIdeal.main_arg0) = Attn.x0 (A c))
    (h1 : ∀ c : Dev Cert.ReferenceIdeal.nD, m ((c.tc : Thread Cert.ReferenceIdeal.nD Cert.ReferenceIdeal.τ).loc Cert.ReferenceIdeal.main_arg1) = Attn.x1 (A c))
    (h2 : ∀ c : Dev Cert.ReferenceIdeal.nD, m ((c.tc : Thread Cert.ReferenceIdeal.nD Cert.ReferenceIdeal.τ).loc Cert.ReferenceIdeal.main_arg2) = Attn.x2 (A c))
    (h3 : ∀ c : Dev Cert.ReferenceIdeal.nD, m ((c.tc : Thread Cert.ReferenceIdeal.nD Cert.ReferenceIdeal.τ).loc Cert.ReferenceIdeal.main_arg3) = Attn.x3 (A c))
    (h4 : ∀ c : Dev Cert.ReferenceIdeal.nD, m ((c.tc : Thread Cert.ReferenceIdeal.nD Cert.ReferenceIdeal.τ).loc Cert.ReferenceIdeal.main_arg4) = Attn.x4 (A c))
    (h5 : ∀ c : Dev Cert.ReferenceIdeal.nD, m ((c.tc : Thread Cert.ReferenceIdeal.nD Cert.ReferenceIdeal.τ).loc Cert.ReferenceIdeal.main_arg5) = Attn.x5 (A c)) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v202) = (fun i => ((Attn.grad (A c) i : ℝ) : EReal))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) :=
  (θ_run _ _ _).mono (fun _ h c => ⟨(h c).1.trans ((Cert.ReferenceIdeal.Read.val_main_v202_eq (F := Ideal) (StableHlo.launchContents m c)).trans (by
    have e : Cert.ReferenceIdeal.Read.val_main_v202 (F := Ideal) (Attn.x0 (A c)) (Attn.x1 (A c)) (Attn.x2 (A c)) (Attn.x3 (A c)) (Attn.x4 (A c)) (Attn.x5 (A c))
        = fun i => ((Attn.grad (A c) i : ℝ) : EReal) := funext (Attn.v202_eq (A c))
    rw [← e, ← h0 c, ← h1 c, ← h2 c, ← h3 c, ← h4 c, ← h5 c])),
    (h c).2⟩) (Cert.ReferenceIdeal.Value.run (F := Ideal) m g)

/-- The reference leaves its arguments and has no semaphore. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run _ _ _).mono (fun r h => ⟨fun c => (h c).2, sem_eq_zero_of_no_sems rfl r.2⟩) (Cert.ReferenceIdeal.Value.run (F := Ideal) m g)

/-- Reference2 leaves its arguments and has no semaphore. -/
theorem reference2_frame (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0) :=
  (θ_run _ _ _).mono (fun r h => ⟨fun c => (h c).2.2.2.2, sem_eq_zero_of_no_sems rfl r.2⟩) (Cert.Reference2Ideal.Value.run (F := Ideal) m g)

/-- Reference3 leaves its arguments and has no semaphore. -/
theorem reference3_frame (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0) :=
  (θ_run _ _ _).mono (fun r h => ⟨fun c => (h c).2.2.2, sem_eq_zero_of_no_sems rfl r.2⟩) (Cert.Reference3Ideal.Value.run (F := Ideal) m g)

/-- Reference4 leaves its arguments and has no semaphore. -/
theorem reference4_frame (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0) :=
  (θ_run _ _ _).mono (fun r h => ⟨fun c => (h c).2.2.2.2.2, sem_eq_zero_of_no_sems rfl r.2⟩) (Cert.Reference4Ideal.Value.run (F := Ideal) m g)

/-- Reference5 leaves its arguments and has no semaphore. -/
theorem reference5_frame (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0) :=
  (θ_run _ _ _).mono (fun r h => ⟨fun c => (h c).2, sem_eq_zero_of_no_sems rfl r.2⟩) (Cert.Reference5Ideal.Value.run (F := Ideal) m g)

/-- Reference6 leaves its arguments and has no semaphore. -/
theorem reference6_frame (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0) :=
  (θ_run _ _ _).mono (fun r h => ⟨fun c => (h c).2.2.2.2, sem_eq_zero_of_no_sems rfl r.2⟩) (Cert.Reference6Ideal.Value.run (F := Ideal) m g)

/-- Reference7 leaves its arguments and has no semaphore. -/
theorem reference7_frame (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0) :=
  (θ_run _ _ _).mono (fun r h => ⟨fun c => (h c).2.2.2.2, sem_eq_zero_of_no_sems rfl r.2⟩) (Cert.Reference7Ideal.Value.run (F := Ideal) m g)

/-- Reference8 leaves its arguments and has no semaphore. -/
theorem reference8_frame (m : (ℓ : Loc Cert.Reference8Ideal.nD Cert.Reference8Ideal.τ Cert.Reference8Ideal.sig) → Buf (Elt Ideal) ℓ) (g : Dev Cert.Reference8Ideal.nD → PrngReg) :
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0) :=
  (θ_run _ _ _).mono (fun r h => ⟨fun c => (h c).2.2.2.2, sem_eq_zero_of_no_sems rfl r.2⟩) (Cert.Reference8Ideal.Value.run (F := Ideal) m g)

/-- Reference9 leaves its arguments and has no semaphore. -/
theorem reference9_frame (m : (ℓ : Loc Cert.Reference9Ideal.nD Cert.Reference9Ideal.τ Cert.Reference9Ideal.sig) → Buf (Elt Ideal) ℓ) (g : Dev Cert.Reference9Ideal.nD → PrngReg) :
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0) :=
  (θ_run _ _ _).mono (fun r h => ⟨fun c => (h c).2.2.2.2, sem_eq_zero_of_no_sems rfl r.2⟩) (Cert.Reference9Ideal.Value.run (F := Ideal) m g)

/-- Reference10 leaves its arguments and has no semaphore. -/
theorem reference10_frame (m : (ℓ : Loc Cert.Reference10Ideal.nD Cert.Reference10Ideal.τ Cert.Reference10Ideal.sig) → Buf (Elt Ideal) ℓ) (g : Dev Cert.Reference10Ideal.nD → PrngReg) :
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0) :=
  (θ_run _ _ _).mono (fun r h => ⟨fun c => (h c).2.2.2.2, sem_eq_zero_of_no_sems rfl r.2⟩) (Cert.Reference10Ideal.Value.run (F := Ideal) m g)

/-- Reference11 leaves its arguments and has no semaphore. -/
theorem reference11_frame (m : (ℓ : Loc Cert.Reference11Ideal.nD Cert.Reference11Ideal.τ Cert.Reference11Ideal.sig) → Buf (Elt Ideal) ℓ) (g : Dev Cert.Reference11Ideal.nD → PrngReg) :
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0) :=
  (θ_run _ _ _).mono (fun r h => ⟨fun c => (h c).2.2.2.2, sem_eq_zero_of_no_sems rfl r.2⟩) (Cert.Reference11Ideal.Value.run (F := Ideal) m g)

/-- Reference12 leaves its arguments and has no semaphore. -/
theorem reference12_frame (m : (ℓ : Loc Cert.Reference12Ideal.nD Cert.Reference12Ideal.τ Cert.Reference12Ideal.sig) → Buf (Elt Ideal) ℓ) (g : Dev Cert.Reference12Ideal.nD → PrngReg) :
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0) :=
  (θ_run _ _ _).mono (fun r h => ⟨fun c => (h c).2.2, sem_eq_zero_of_no_sems rfl r.2⟩) (Cert.Reference12Ideal.Value.run (F := Ideal) m g)

/-- The two programs end with one gradient. -/
theorem algebraic : algebraic_KernelIdeal_ReferenceIdeal_pre_finite := by
  intro m g m' g' hpre hagree
  have hA := Attn.holds_of_pre m hpre
  refine ⟨fun c => (fun i => ((Attn.grad (Attn.argsOf m c) i : ℝ) : EReal)), kernel_run m g (Attn.argsOf m) hA, ?_⟩
  exact reference_run m' g' (Attn.argsOf m) (fun c => (hagree c).1.trans (hA c).h0) (fun c => (hagree c).2.1.trans (hA c).h1)
    (fun c => (hagree c).2.2.1.trans (hA c).h2) (fun c => (hagree c).2.2.2.1.trans (hA c).h3) (fun c => (hagree c).2.2.2.2.1.trans (hA c).h4)
    (fun c => (hagree c).2.2.2.2.2.trans (hA c).h5)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Pre_finite.Gen.facts, Cert.Pre_finite2.Gen.facts,
    fun m g _ => Cert.Kernel.Gen.frame m g, fun m g _ => Cert.KernelIdeal.Gen.frame m g, fun m g _ => Cert.KernelIdeal.Gen.frame m g,
    fun m g _ => reference_frame m g, fun m g _ => reference_frame m g,
    fun m g _ => Cert.Kernel2.Gen.frame m g, fun m g _ => Cert.Kernel2Ideal.Gen.frame m g, fun m g _ => Cert.Kernel2Ideal.Gen.frame m g,
    fun m g _ => reference2_frame m g, fun m g _ => reference2_frame m g,
    fun m g _ => Cert.Kernel3.Gen.frame m g, fun m g _ => Cert.Kernel3Ideal.Gen.frame m g, fun m g _ => reference3_frame m g,
    fun m g _ => Cert.Kernel4.Gen.frame m g, fun m g _ => Cert.Kernel4Ideal.Gen.frame m g, fun m g _ => reference4_frame m g,
    fun m g _ => Cert.Kernel5.Gen.frame m g, fun m g _ => Cert.Kernel5Ideal.Gen.frame m g, fun m g _ => reference5_frame m g,
    fun m g _ => Cert.Kernel6.Gen.frame m g trivial, fun m g _ => Cert.Kernel6Ideal.Gen.frame m g trivial, fun m g _ => reference6_frame m g,
    fun m g _ => Cert.Kernel7.Gen.frame m g trivial, fun m g _ => Cert.Kernel7Ideal.Gen.frame m g trivial, fun m g _ => reference7_frame m g,
    fun m g _ => Cert.Kernel8.Gen.frame m g trivial, fun m g _ => Cert.Kernel8Ideal.Gen.frame m g trivial, fun m g _ => reference8_frame m g,
    fun m g _ => Cert.Kernel9.Gen.frame m g trivial, fun m g _ => Cert.Kernel9Ideal.Gen.frame m g trivial, fun m g _ => reference9_frame m g,
    fun m g _ => Cert.Kernel10.Gen.frame m g trivial, fun m g _ => Cert.Kernel10Ideal.Gen.frame m g trivial, fun m g _ => reference10_frame m g,
    fun m g _ => Cert.Kernel11.Gen.frame m g trivial, fun m g _ => Cert.Kernel11Ideal.Gen.frame m g trivial, fun m g _ => reference11_frame m g,
    fun m g _ => Cert.Kernel12.Gen.frame m g, fun m g _ => Cert.Kernel12Ideal.Gen.frame m g, fun m g _ => reference12_frame m g,
    IdealRules.named_const.statement Cert.KernelIdeal.κ "mask" .f32 0xF149F2CA#32 ⊥ rfl, algebraic, trivial, Ffn.Bwd.algebraic, trivial, Ffn.Grad.algebraic, trivial, Ffn.Fwd.algebraic, trivial, Proj.Moved.algebraic, trivial, Opt.Matrix.algebraic, trivial, Opt.Pool.algebraic, trivial, Opt.Qkv.algebraic, trivial, Opt.Group.algebraic, trivial, Opt.Gain.algebraic, trivial, Opt.Scale.algebraic, trivial, Loss.Head.algebraic⟩

end Cert.Proof

end
